-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4)
      ∧ r.2.mem ((c.tc : Thread Cert.Kernel13.nD Cert.Kernel13.τ).loc Cert.Kernel13.main_arg5) = m ((c.tc : Thread Cert.Kernel13.nD Cert.Kernel13.τ).loc Cert.Kernel13.main_arg5)
      ∧ r.2.mem ((c.tc : Thread Cert.Kernel13.nD Cert.Kernel13.τ).loc Cert.Kernel13.main_arg6) = m ((c.tc : Thread Cert.Kernel13.nD Cert.Kernel13.τ).loc Cert.Kernel13.main_arg6)
      ∧ r.2.mem ((c.tc : Thread Cert.Kernel13.nD Cert.Kernel13.τ).loc Cert.Kernel13.main_arg7) = m ((c.tc : Thread Cert.Kernel13.nD Cert.Kernel13.τ).loc Cert.Kernel13.main_arg7))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
      ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6)
      ∧ r.2.mem ((c.tc : Thread Cert.Kernel13Ideal.nD Cert.Kernel13Ideal.τ).loc Cert.Kernel13Ideal.main_arg7) = m ((c.tc : Thread Cert.Kernel13Ideal.nD Cert.Kernel13Ideal.τ).loc Cert.Kernel13Ideal.main_arg7))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5)
      ∧ r.2.mem ((c.tc : Thread Cert.Reference13Ideal.nD Cert.Reference13Ideal.τ).loc Cert.Reference13Ideal.main_arg6) = m ((c.tc : Thread Cert.Reference13Ideal.nD Cert.Reference13Ideal.τ).loc Cert.Reference13Ideal.main_arg6)
      ∧ r.2.mem ((c.tc : Thread Cert.Reference13Ideal.nD Cert.Reference13Ideal.τ).loc Cert.Reference13Ideal.main_arg7) = m ((c.tc : Thread Cert.Reference13Ideal.nD Cert.Reference13Ideal.τ).loc Cert.Reference13Ideal.main_arg7))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v13_0)) (v1 : (c : Dev Cert.KernelIdeal.nD) → Buf (Elt Ideal) ((c.tc : Thread Cert.KernelIdeal.nD Cert.KernelIdeal.τ).loc Cert.KernelIdeal.main_v13_1)) (v2 : (c : Dev Cert.KernelIdeal.nD) → Buf (Elt Ideal) ((c.tc : Thread Cert.KernelIdeal.nD Cert.KernelIdeal.τ).loc Cert.KernelIdeal.main_v13_2)) (v3 : (c : Dev Cert.KernelIdeal.nD) → Buf (Elt Ideal) ((c.tc : Thread Cert.KernelIdeal.nD Cert.KernelIdeal.τ).loc Cert.KernelIdeal.main_v13_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13_0) = v0 c
          ∧ r.2.mem ((c.tc : Thread Cert.KernelIdeal.nD Cert.KernelIdeal.τ).loc Cert.KernelIdeal.main_v13_1) = v1 c
          ∧ r.2.mem ((c.tc : Thread Cert.KernelIdeal.nD Cert.KernelIdeal.τ).loc Cert.KernelIdeal.main_v13_2) = v2 c
          ∧ r.2.mem ((c.tc : Thread Cert.KernelIdeal.nD Cert.KernelIdeal.τ).loc Cert.KernelIdeal.main_v13_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_v83) = v1 c
          ∧ r.2.mem ((c.tc : Thread Cert.ReferenceIdeal.nD Cert.ReferenceIdeal.τ).loc Cert.ReferenceIdeal.main_v84) = v2 c
          ∧ r.2.mem ((c.tc : Thread Cert.ReferenceIdeal.nD Cert.ReferenceIdeal.τ).loc Cert.ReferenceIdeal.main_v81) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v8_0)) (v1 : (c : Dev Cert.Kernel2Ideal.nD) → Buf (Elt Ideal) ((c.tc : Thread Cert.Kernel2Ideal.nD Cert.Kernel2Ideal.τ).loc Cert.Kernel2Ideal.main_v8_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8_0) = v0 c
          ∧ r.2.mem ((c.tc : Thread Cert.Kernel2Ideal.nD Cert.Kernel2Ideal.τ).loc Cert.Kernel2Ideal.main_v8_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v42) = v0 c
          ∧ r.2.mem ((c.tc : Thread Cert.Reference2Ideal.nD Cert.Reference2Ideal.τ).loc Cert.Reference2Ideal.main_v43) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v57_0)) (v1 : (c : Dev Cert.Kernel3Ideal.nD) → Buf (Elt Ideal) ((c.tc : Thread Cert.Kernel3Ideal.nD Cert.Kernel3Ideal.τ).loc Cert.Kernel3Ideal.main_v57_1)) (v2 : (c : Dev Cert.Kernel3Ideal.nD) → Buf (Elt Ideal) ((c.tc : Thread Cert.Kernel3Ideal.nD Cert.Kernel3Ideal.τ).loc Cert.Kernel3Ideal.main_v57_2)) (v3 : (c : Dev Cert.Kernel3Ideal.nD) → Buf (Elt Ideal) ((c.tc : Thread Cert.Kernel3Ideal.nD Cert.Kernel3Ideal.τ).loc Cert.Kernel3Ideal.main_v57_3)) (v4 : (c : Dev Cert.Kernel3Ideal.nD) → Buf (Elt Ideal) ((c.tc : Thread Cert.Kernel3Ideal.nD Cert.Kernel3Ideal.τ).loc Cert.Kernel3Ideal.main_v57_5)) (v5 : (c : Dev Cert.Kernel3Ideal.nD) → Buf (Elt Ideal) ((c.tc : Thread Cert.Kernel3Ideal.nD Cert.Kernel3Ideal.τ).loc Cert.Kernel3Ideal.main_v57_6)) (v6 : (c : Dev Cert.Kernel3Ideal.nD) → Buf (Elt Ideal) ((c.tc : Thread Cert.Kernel3Ideal.nD Cert.Kernel3Ideal.τ).loc Cert.Kernel3Ideal.main_v57_7)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v57_0) = v0 c
          ∧ r.2.mem ((c.tc : Thread Cert.Kernel3Ideal.nD Cert.Kernel3Ideal.τ).loc Cert.Kernel3Ideal.main_v57_1) = v1 c
          ∧ r.2.mem ((c.tc : Thread Cert.Kernel3Ideal.nD Cert.Kernel3Ideal.τ).loc Cert.Kernel3Ideal.main_v57_2) = v2 c
          ∧ r.2.mem ((c.tc : Thread Cert.Kernel3Ideal.nD Cert.Kernel3Ideal.τ).loc Cert.Kernel3Ideal.main_v57_3) = v3 c
          ∧ r.2.mem ((c.tc : Thread Cert.Kernel3Ideal.nD Cert.Kernel3Ideal.τ).loc Cert.Kernel3Ideal.main_v57_5) = v4 c
          ∧ r.2.mem ((c.tc : Thread Cert.Kernel3Ideal.nD Cert.Kernel3Ideal.τ).loc Cert.Kernel3Ideal.main_v57_6) = v5 c
          ∧ r.2.mem ((c.tc : Thread Cert.Kernel3Ideal.nD Cert.Kernel3Ideal.τ).loc Cert.Kernel3Ideal.main_v57_7) = v6 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v19) = v0 c
          ∧ r.2.mem ((c.tc : Thread Cert.Reference3Ideal.nD Cert.Reference3Ideal.τ).loc Cert.Reference3Ideal.main_v20) = v1 c
          ∧ r.2.mem ((c.tc : Thread Cert.Reference3Ideal.nD Cert.Reference3Ideal.τ).loc Cert.Reference3Ideal.main_v22) = v2 c
          ∧ r.2.mem ((c.tc : Thread Cert.Reference3Ideal.nD Cert.Reference3Ideal.τ).loc Cert.Reference3Ideal.main_v24) = v3 c
          ∧ r.2.mem ((c.tc : Thread Cert.Reference3Ideal.nD Cert.Reference3Ideal.τ).loc Cert.Reference3Ideal.main_v26) = v4 c
          ∧ r.2.mem ((c.tc : Thread Cert.Reference3Ideal.nD Cert.Reference3Ideal.τ).loc Cert.Reference3Ideal.main_v28) = v5 c
          ∧ r.2.mem ((c.tc : Thread Cert.Reference3Ideal.nD Cert.Reference3Ideal.τ).loc Cert.Reference3Ideal.main_v16) = v6 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v8_0)) (v1 : (c : Dev Cert.Kernel4Ideal.nD) → Buf (Elt Ideal) ((c.tc : Thread Cert.Kernel4Ideal.nD Cert.Kernel4Ideal.τ).loc Cert.Kernel4Ideal.main_v8_1)) (v2 : (c : Dev Cert.Kernel4Ideal.nD) → Buf (Elt Ideal) ((c.tc : Thread Cert.Kernel4Ideal.nD Cert.Kernel4Ideal.τ).loc Cert.Kernel4Ideal.main_v8_2)) (v3 : (c : Dev Cert.Kernel4Ideal.nD) → Buf (Elt Ideal) ((c.tc : Thread Cert.Kernel4Ideal.nD Cert.Kernel4Ideal.τ).loc Cert.Kernel4Ideal.main_v8_3)) (v4 : (c : Dev Cert.Kernel4Ideal.nD) → Buf (Elt Ideal) ((c.tc : Thread Cert.Kernel4Ideal.nD Cert.Kernel4Ideal.τ).loc Cert.Kernel4Ideal.main_v8_4)) (v5 : (c : Dev Cert.Kernel4Ideal.nD) → Buf (Elt Ideal) ((c.tc : Thread Cert.Kernel4Ideal.nD Cert.Kernel4Ideal.τ).loc Cert.Kernel4Ideal.main_v8_5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v8_0) = v0 c
          ∧ r.2.mem ((c.tc : Thread Cert.Kernel4Ideal.nD Cert.Kernel4Ideal.τ).loc Cert.Kernel4Ideal.main_v8_1) = v1 c
          ∧ r.2.mem ((c.tc : Thread Cert.Kernel4Ideal.nD Cert.Kernel4Ideal.τ).loc Cert.Kernel4Ideal.main_v8_2) = v2 c
          ∧ r.2.mem ((c.tc : Thread Cert.Kernel4Ideal.nD Cert.Kernel4Ideal.τ).loc Cert.Kernel4Ideal.main_v8_3) = v3 c
          ∧ r.2.mem ((c.tc : Thread Cert.Kernel4Ideal.nD Cert.Kernel4Ideal.τ).loc Cert.Kernel4Ideal.main_v8_4) = v4 c
          ∧ r.2.mem ((c.tc : Thread Cert.Kernel4Ideal.nD Cert.Kernel4Ideal.τ).loc Cert.Kernel4Ideal.main_v8_5) = v5 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v87) = v0 c
          ∧ r.2.mem ((c.tc : Thread Cert.Reference4Ideal.nD Cert.Reference4Ideal.τ).loc Cert.Reference4Ideal.main_v89) = v1 c
          ∧ r.2.mem ((c.tc : Thread Cert.Reference4Ideal.nD Cert.Reference4Ideal.τ).loc Cert.Reference4Ideal.main_v90) = v2 c
          ∧ r.2.mem ((c.tc : Thread Cert.Reference4Ideal.nD Cert.Reference4Ideal.τ).loc Cert.Reference4Ideal.main_v91) = v3 c
          ∧ r.2.mem ((c.tc : Thread Cert.Reference4Ideal.nD Cert.Reference4Ideal.τ).loc Cert.Reference4Ideal.main_v93) = v4 c
          ∧ r.2.mem ((c.tc : Thread Cert.Reference4Ideal.nD Cert.Reference4Ideal.τ).loc Cert.Reference4Ideal.main_v95) = v5 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v7) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v7) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v7) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v79) = v0 c
          ∧ r.2.mem ((c.tc : Thread Cert.Reference10Ideal.nD Cert.Reference10Ideal.τ).loc Cert.Reference10Ideal.main_v72) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v3_0)) (v1 : (c : Dev Cert.Kernel11Ideal.nD) → Buf (Elt Ideal) ((c.tc : Thread Cert.Kernel11Ideal.nD Cert.Kernel11Ideal.τ).loc Cert.Kernel11Ideal.main_v3_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v3_0) = v0 c
          ∧ r.2.mem ((c.tc : Thread Cert.Kernel11Ideal.nD Cert.Kernel11Ideal.τ).loc Cert.Kernel11Ideal.main_v3_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v4) = v0 c
          ∧ r.2.mem ((c.tc : Thread Cert.Reference11Ideal.nD Cert.Reference11Ideal.τ).loc Cert.Reference11Ideal.main_v19) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)) (v3 : (c : Dev Cert.Kernel12Ideal.nD) → Buf (Elt Ideal) ((c.tc : Thread Cert.Kernel12Ideal.nD Cert.Kernel12Ideal.τ).loc Cert.Kernel12Ideal.main_v0_3)) (v4 : (c : Dev Cert.Kernel12Ideal.nD) → Buf (Elt Ideal) ((c.tc : Thread Cert.Kernel12Ideal.nD Cert.Kernel12Ideal.τ).loc Cert.Kernel12Ideal.main_v0_4)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_v0_3) = v3 c
          ∧ r.2.mem ((c.tc : Thread Cert.Kernel12Ideal.nD Cert.Kernel12Ideal.τ).loc Cert.Kernel12Ideal.main_v0_4) = v4 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v78) = v0 c
          ∧ r.2.mem ((c.tc : Thread Cert.Reference12Ideal.nD Cert.Reference12Ideal.τ).loc Cert.Reference12Ideal.main_v79) = v1 c
          ∧ r.2.mem ((c.tc : Thread Cert.Reference12Ideal.nD Cert.Reference12Ideal.τ).loc Cert.Reference12Ideal.main_v81) = v2 c
          ∧ r.2.mem ((c.tc : Thread Cert.Reference12Ideal.nD Cert.Reference12Ideal.τ).loc Cert.Reference12Ideal.main_v84) = v3 c
          ∧ r.2.mem ((c.tc : Thread Cert.Reference12Ideal.nD Cert.Reference12Ideal.τ).loc Cert.Reference12Ideal.main_v87) = v4 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)
      ∧ m' ((c.tc : Thread Cert.Reference13Ideal.nD Cert.Reference13Ideal.τ).loc Cert.Reference13Ideal.main_arg5) = m ((c.tc : Thread Cert.Kernel13Ideal.nD Cert.Kernel13Ideal.τ).loc Cert.Kernel13Ideal.main_arg5)
      ∧ m' ((c.tc : Thread Cert.Reference13Ideal.nD Cert.Reference13Ideal.τ).loc Cert.Reference13Ideal.main_arg6) = m ((c.tc : Thread Cert.Kernel13Ideal.nD Cert.Kernel13Ideal.τ).loc Cert.Kernel13Ideal.main_arg6)
      ∧ m' ((c.tc : Thread Cert.Reference13Ideal.nD Cert.Reference13Ideal.τ).loc Cert.Reference13Ideal.main_arg7) = m ((c.tc : Thread Cert.Kernel13Ideal.nD Cert.Kernel13Ideal.τ).loc Cert.Kernel13Ideal.main_arg7)) →
    ∃ (v0 : (c : Dev Cert.Kernel13Ideal.nD) → Buf (Elt Ideal) ((c.tc : Thread Cert.Kernel13Ideal.nD Cert.Kernel13Ideal.τ).loc Cert.Kernel13Ideal.main_v49_0)) (v1 : (c : Dev Cert.Kernel13Ideal.nD) → Buf (Elt Ideal) ((c.tc : Thread Cert.Kernel13Ideal.nD Cert.Kernel13Ideal.τ).loc Cert.Kernel13Ideal.main_v49_1)) (v2 : (c : Dev Cert.Kernel13Ideal.nD) → Buf (Elt Ideal) ((c.tc : Thread Cert.Kernel13Ideal.nD Cert.Kernel13Ideal.τ).loc Cert.Kernel13Ideal.main_v49_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v49_0) = v0 c
          ∧ r.2.mem ((c.tc : Thread Cert.Kernel13Ideal.nD Cert.Kernel13Ideal.τ).loc Cert.Kernel13Ideal.main_v49_1) = v1 c
          ∧ r.2.mem ((c.tc : Thread Cert.Kernel13Ideal.nD Cert.Kernel13Ideal.τ).loc Cert.Kernel13Ideal.main_v49_2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
          ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
          ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6)
          ∧ r.2.mem ((c.tc : Thread Cert.Kernel13Ideal.nD Cert.Kernel13Ideal.τ).loc Cert.Kernel13Ideal.main_arg7) = m ((c.tc : Thread Cert.Kernel13Ideal.nD Cert.Kernel13Ideal.τ).loc Cert.Kernel13Ideal.main_arg7))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v6) = v0 c
          ∧ r.2.mem ((c.tc : Thread Cert.Reference13Ideal.nD Cert.Reference13Ideal.τ).loc Cert.Reference13Ideal.main_v8) = v1 c
          ∧ r.2.mem ((c.tc : Thread Cert.Reference13Ideal.nD Cert.Reference13Ideal.τ).loc Cert.Reference13Ideal.main_v9) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4)
          ∧ r.2.mem ((c.tc : Thread Cert.Reference13Ideal.nD Cert.Reference13Ideal.τ).loc Cert.Reference13Ideal.main_arg5) = m' ((c.tc : Thread Cert.Reference13Ideal.nD Cert.Reference13Ideal.τ).loc Cert.Reference13Ideal.main_arg5)
          ∧ r.2.mem ((c.tc : Thread Cert.Reference13Ideal.nD Cert.Reference13Ideal.τ).loc Cert.Reference13Ideal.main_arg6) = m' ((c.tc : Thread Cert.Reference13Ideal.nD Cert.Reference13Ideal.τ).loc Cert.Reference13Ideal.main_arg6)
          ∧ r.2.mem ((c.tc : Thread Cert.Reference13Ideal.nD Cert.Reference13Ideal.τ).loc Cert.Reference13Ideal.main_arg7) = m' ((c.tc : Thread Cert.Reference13Ideal.nD Cert.Reference13Ideal.τ).loc Cert.Reference13Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hPre_finite : Cert.Pre_finite.Facts) (hPre_finite2 : Cert.Pre_finite2.Facts) (hPre_finite3 : Cert.Pre_finite3.Facts) (hPre_finite4 : Cert.Pre_finite4.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
-- ==== Pre_finite.lean ====
abbrev S2048x1024 : Shape := ⟨2, ![2048, 1024]⟩
abbrev S1024x5632 : Shape := ⟨2, ![1024, 5632]⟩
abbrev S3x5632 : Shape := ⟨2, ![3, 5632]⟩
abbrev S2816x1024 : Shape := ⟨2, ![2816, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1024x5632 : S_.BroadcastsInDim S1024x5632 (![] : Fin 0 → Fin S1024x5632.rank)
  reducesTo_S1024x5632_S_d0_1 : S1024x5632.ReducesTo [0, 1] S_
  bcast_S_S3x5632 : S_.BroadcastsInDim S3x5632 (![] : Fin 0 → Fin S3x5632.rank)
  reducesTo_S3x5632_S_d0_1 : S3x5632.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S2816x1024 .f32) (main_v13 : IVec S_ 1) (main_v16 : IVec S3x5632 1) : IVec S_ 1 :=
  let main_c_5 : IVec S_ 1 := constantI S_ 1 1#1
  let main_v17 : IVec S_ 1 := (fun x v => Host.reduce IntOp.andi x v reducesTo_S3x5632_S_d0_1 h_S_) main_v16 main_c_5
  let main_v18 : IVec S_ 1 := andi main_v13 main_v17
  let main_v19 : FVec F S2816x1024 .f32 := Host.absf main_arg4
  let main_cst_6 : FVec F S_ .f32 := constant S_ .f32 0x7F800000#32
  let main_v20 : FVec F S2816x1024 .f32 := broadcastInDim S2816x1024 ![] bcast_S_S2816x1024 main_cst_6
  let main_v21 : IVec S2816x1024 1 := cmpf .olt main_v19 main_v20
  let main_c_7 : IVec S_ 1 := constantI S_ 1 1#1
  let main_v22 : IVec S_ 1 := (fun x v => Host.reduce IntOp.andi x v reducesTo_S2816x1024_S_d0_1 h_S_) main_v21 main_c_7
  let main_v23 : IVec S_ 1 := andi main_v18 main_v22
  main_v23

def fn {F : FTy → Type} [FloatOps F] (main_arg0 : FVec F S2048x1024 .f32) (main_arg1 : FVec F S2048x1024 .f32) (main_arg2 : FVec F S1024x5632 .f32) (main_arg3 : FVec F S3x5632 .f32) (main_arg4 : FVec F S2816x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  let main_v9 : FVec F S1024x5632 .f32 := Host.absf main_arg2
  let main_cst_2 : FVec F S_ .f32 := constant S_ .f32 0x7F800000#32
  let main_v10 : FVec F S1024x5632 .f32 := broadcastInDim S1024x5632 ![] bcast_S_S1024x5632 main_cst_2
  let main_v11 : IVec S1024x5632 1 := cmpf .olt main_v9 main_v10
  let main_c_3 : IVec S_ 1 := constantI S_ 1 1#1
  let main_v12 : IVec S_ 1 := (fun x v => Host.reduce IntOp.andi x v reducesTo_S1024x5632_S_d0_1 h_S_) main_v11 main_c_3
  let main_v13 : IVec S_ 1 := andi main_v8 main_v12
  let main_v14 : FVec F S3x5632 .f32 := Host.absf main_arg3
  let main_cst_4 : FVec F S_ .f32 := constant S_ .f32 0x7F800000#32
  let main_v15 : FVec F S3x5632 .f32 := broadcastInDim S3x5632 ![] bcast_S_S3x5632 main_cst_4
  let main_v16 : IVec S3x5632 1 := cmpf .olt main_v14 main_v15
  fn_part1 (F := F) main_arg4 main_v13 main_v16
-- ==== Pre_finite2.lean ====
abbrev S2048x5632 : Shape := ⟨2, ![2048, 5632]⟩
abbrev S1024x5632 : Shape := ⟨2, ![1024, 5632]⟩
abbrev S2048x1024 : Shape := ⟨2, ![2048, 1024]⟩
abbrev S1024 : Shape := ⟨1, ![1024]⟩
abbrev S_ : Shape := ⟨0, ![]⟩

class Facts : Prop where
  bcast_S_S2048x5632 : S_.BroadcastsInDim S2048x5632 (![] : Fin 0 → Fin S2048x5632.rank)
  reducesTo_S2048x5632_S_d0_1 : S2048x5632.ReducesTo [0, 1] S_
  h_S_ : 0 < S_.numel
  bcast_S_S1024x5632 : S_.BroadcastsInDim S1024x5632 (![] : Fin 0 → Fin S1024x5632.rank)
  reducesTo_S1024x5632_S_d0_1 : S1024x5632.ReducesTo [0, 1] S_
  bcast_S_S2048x1024 : S_.BroadcastsInDim S2048x1024 (![] : Fin 0 → Fin S2048x1024.rank)
  reducesTo_S2048x1024_S_d0_1 : S2048x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S2048x1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S2048x1024 .f32 := Host.absf main_arg4
  let main_cst_6 : FVec F S_ .f32 := constant S_ .f32 0x7F800000#32
  let main_v20 : FVec F S2048x1024 .f32 := broadcastInDim S2048x1024 ![] bcast_S_S2048x1024 main_cst_6
  let main_v21 : IVec S2048x1024 1 := cmpf .olt main_v19 main_v20
  let main_c_7 : IVec S_ 1 := constantI S_ 1 1#1
  let main_v22 : IVec S_ 1 := (fun x v => Host.reduce IntOp.andi x v reducesTo_S2048x1024_S_d0_1 h_S_) main_v21 main_c_7
  let main_v23 : IVec S_ 1 := andi main_v18 main_v22
  main_v23

def fn {F : FTy → Type} [FloatOps F] (main_arg0 : FVec F S2048x5632 .f32) (main_arg1 : FVec F S1024x5632 .f32) (main_arg2 : FVec F S2048x1024 .f32) (main_arg3 : FVec F S1024 .f32) (main_arg4 : FVec F S2048x1024 .f32) : IVec S_ 1 :=
  let main_v0 : FVec F S2048x5632 .f32 := Host.absf main_arg0
  let main_cst : FVec F S_ .f32 := constant S_ .f32 0x7F800000#32
  let main_v1 : FVec F S2048x5632 .f32 := broadcastInDim S2048x5632 ![] bcast_S_S2048x5632 main_cst
  let main_v2 : IVec S2048x5632 1 := cmpf .olt main_v0 main_v1
  let main_c : IVec S_ 1 := constantI S_ 1 1#1
  let main_v3 : IVec S_ 1 := (fun x v => Host.reduce IntOp.andi x v reducesTo_S2048x5632_S_d0_1 h_S_) main_v2 main_c
  let main_v4 : FVec F S1024x5632 .f32 := Host.absf main_arg1
  let main_cst_0 : FVec F S_ .f32 := constant S_ .f32 0x7F800000#32
  let main_v5 : FVec F S1024x5632 .f32 := broadcastInDim S1024x5632 ![] bcast_S_S1024x5632 main_cst_0
  let main_v6 : IVec S1024x5632 1 := cmpf .olt main_v4 main_v5
  let main_c_1 : IVec S_ 1 := constantI S_ 1 1#1
  let main_v7 : IVec S_ 1 := (fun x v => Host.reduce IntOp.andi x v reducesTo_S1024x5632_S_d0_1 h_S_) main_v6 main_c_1
  let main_v8 : IVec S_ 1 := andi main_v3 main_v7
  let main_v9 : FVec F S2048x1024 .f32 := Host.absf main_arg2
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  let main_c_3 : IVec S_ 1 := constantI S_ 1 1#1
  let main_v12 : IVec S_ 1 := (fun x v => Host.reduce IntOp.andi x v reducesTo_S2048x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_v13 main_v16
-- ==== Pre_finite3.lean ====
abbrev S32x1x4x64x128 : Shape := ⟨5, ![32, 1, 4, 64, 128]⟩
abbrev S32x1x4x64x64 : Shape := ⟨5, ![32, 1, 4, 64, 64]⟩
abbrev S32x1x4 : Shape := ⟨3, ![32, 1, 4]⟩
abbrev S2048x512 : Shape := ⟨2, ![2048, 512]⟩
abbrev S128 : Shape := ⟨1, ![128]⟩
abbrev S2048x1024 : Shape := ⟨2, ![2048, 1024]⟩
abbrev S32x1x4x128x128 : Shape := ⟨5, ![32, 1, 4, 128, 128]⟩
abbrev S_ : Shape := ⟨0, ![]⟩

class Facts : Prop where
  bcast_S_S32x1x4x64x128 : S_.BroadcastsInDim S32x1x4x64x128 (![] : Fin 0 → Fin S32x1x4x64x128.rank)
  reducesTo_S32x1x4x64x128_S_d0_1_2_3_4 : S32x1x4x64x128.ReducesTo [0, 1, 2, 3, 4] S_
  h_S_ : 0 < S_.numel
  bcast_S_S32x1x4x64x64 : S_.BroadcastsInDim S32x1x4x64x64 (![] : Fin 0 → Fin S32x1x4x64x64.rank)
  reducesTo_S32x1x4x64x64_S_d0_1_2_3_4 : S32x1x4x64x64.ReducesTo [0, 1, 2, 3, 4] S_
  bcast_S_S32x1x4 : S_.BroadcastsInDim S32x1x4 (![] : Fin 0 → Fin S32x1x4.rank)
  reducesTo_S32x1x4_S_d0_1_2 : S32x1x4.ReducesTo [0, 1, 2] S_
  bcast_S_S2048x512 : S_.BroadcastsInDim S2048x512 (![] : Fin 0 → Fin S2048x512.rank)
  reducesTo_S2048x512_S_d0_1 : S2048x512.ReducesTo [0, 1] S_
  bcast_S_S128 : S_.BroadcastsInDim S128 (![] : Fin 0 → Fin S128.rank)
  reducesTo_S128_S_d0 : S128.ReducesTo [0] S_
  bcast_S_S2048x1024 : S_.BroadcastsInDim S2048x1024 (![] : Fin 0 → Fin S2048x1024.rank)
  reducesTo_S2048x1024_S_d0_1 : S2048x1024.ReducesTo [0, 1] S_
  bcast_S_S32x1x4x128x128 : S_.BroadcastsInDim S32x1x4x128x128 (![] : Fin 0 → Fin S32x1x4x128x128.rank)
  reducesTo_S32x1x4x128x128_S_d0_1_2_3_4 : S32x1x4x128x128.ReducesTo [0, 1, 2, 3, 4] S_

variable [Facts]

def fn_part2 {F : FTy → Type} [FloatOps F] (main_arg7 : FVec F S128 .f32) (main_arg8 : FVec F S2048x1024 .f32) (main_arg9 : FVec F S32x1x4x128x128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S2048x1024 .f32 := Host.absf main_arg8
  let main_cst_14 : FVec F S_ .f32 := constant S_ .f32 0x7F800000#32
  let main_v40 : FVec F S2048x1024 .f32 := broadcastInDim S2048x1024 ![] bcast_S_S2048x1024 main_cst_14
  let main_v41 : IVec S2048x1024 1 := cmpf .olt main_v39 main_v40
  let main_c_15 : IVec S_ 1 := constantI S_ 1 1#1
  let main_v42 : IVec S_ 1 := (fun x v => Host.reduce IntOp.andi x v reducesTo_S2048x1024_S_d0_1 h_S_) main_v41 main_c_15
  let main_v43 : IVec S_ 1 := andi main_v38 main_v42
  let main_v44 : FVec F S32x1x4x128x128 .f32 := Host.absf main_arg9
  let main_cst_16 : FVec F S_ .f32 := constant S_ .f32 0x7F800000#32
  let main_v45 : FVec F S32x1x4x128x128 .f32 := broadcastInDim S32x1x4x128x128 ![] bcast_S_S32x1x4x128x128 main_cst_16
  let main_v46 : IVec S32x1x4x128x128 1 := cmpf .olt main_v44 main_v45
  let main_c_17 : IVec S_ 1 := constantI S_ 1 1#1
  let main_v47 : IVec S_ 1 := (fun x v => Host.reduce IntOp.andi x v reducesTo_S32x1x4x128x128_S_d0_1_2_3_4 h_S_) main_v46 main_c_17
  let main_v48 : IVec S_ 1 := andi main_v43 main_v47
  main_v48

def fn_part1 {F : FTy → Type} [FloatOps F] (main_arg4 : FVec F S32x1x4x64x128 .f32) (main_arg5 : FVec F S32x1x4 .f32) (main_arg6 : FVec F S2048x512 .f32) (main_arg7 : FVec F S128 .f32) (main_arg8 : FVec F S2048x1024 .f32) (main_arg9 : FVec F S32x1x4x128x128 .f32) (main_v13 : IVec S_ 1) (main_v16 : IVec S32x1x4x64x64 1) : IVec S_ 1 :=
  let main_c_5 : IVec S_ 1 := constantI S_ 1 1#1
  let main_v17 : IVec S_ 1 := (fun x v => Host.reduce IntOp.andi x v reducesTo_S32x1x4x64x64_S_d0_1_2_3_4 h_S_) main_v16 main_c_5
  let main_v18 : IVec S_ 1 := andi main_v13 main_v17
  let main_v19 : FVec F S32x1x4x64x128 .f32 := Host.absf main_arg4
  let main_cst_6 : FVec F S_ .f32 := constant S_ .f32 0x7F800000#32
  let main_v20 : FVec F S32x1x4x64x128 .f32 := broadcastInDim S32x1x4x64x128 ![] bcast_S_S32x1x4x64x128 main_cst_6
  let main_v21 : IVec S32x1x4x64x128 1 := cmpf .olt main_v19 main_v20
  let main_c_7 : IVec S_ 1 := constantI S_ 1 1#1
  let main_v22 : IVec S_ 1 := (fun x v => Host.reduce IntOp.andi x v reducesTo_S32x1x4x64x128_S_d0_1_2_3_4 h_S_) main_v21 main_c_7
  let main_v23 : IVec S_ 1 := andi main_v18 main_v22
  let main_v24 : FVec F S32x1x4 .f32 := Host.absf main_arg5
  let main_cst_8 : FVec F S_ .f32 := constant S_ .f32 0x7F800000#32
  let main_v25 : FVec F S32x1x4 .f32 := broadcastInDim S32x1x4 ![] bcast_S_S32x1x4 main_cst_8
  let main_v26 : IVec S32x1x4 1 := cmpf .olt main_v24 main_v25
  let main_c_9 : IVec S_ 1 := constantI S_ 1 1#1
  let main_v27 : IVec S_ 1 := (fun x v => Host.reduce IntOp.andi x v reducesTo_S32x1x4_S_d0_1_2 h_S_) main_v26 main_c_9
  let main_v28 : IVec S_ 1 := andi main_v23 main_v27
  let main_v29 : FVec F S2048x512 .f32 := Host.absf main_arg6
  let main_cst_10 : FVec F S_ .f32 := constant S_ .f32 0x7F800000#32
  let main_v30 : FVec F S2048x512 .f32 := broadcastInDim S2048x512 ![] bcast_S_S2048x512 main_cst_10
  let main_v31 : IVec S2048x512 1 := cmpf .olt main_v29 main_v30
  let main_c_11 : IVec S_ 1 := constantI S_ 1 1#1
  let main_v32 : IVec S_ 1 := (fun x v => Host.reduce IntOp.andi x v reducesTo_S2048x512_S_d0_1 h_S_) main_v31 main_c_11
  let main_v33 : IVec S_ 1 := andi main_v28 main_v32
  fn_part2 (F := F) main_arg7 main_arg8 main_arg9 main_v33

def fn {F : FTy → Type} [FloatOps F] (main_arg0 : FVec F S32x1x4x64x128 .f32) (main_arg1 : FVec F S32x1x4x64x128 .f32) (main_arg2 : FVec F S32x1x4x64x128 .f32) (main_arg3 : FVec F S32x1x4x64x64 .f32) (main_arg4 : FVec F S32x1x4x64x128 .f32) (main_arg5 : FVec F S32x1x4 .f32) (main_arg6 : FVec F S2048x512 .f32) (main_arg7 : FVec F S128 .f32) (main_arg8 : FVec F S2048x1024 .f32) (main_arg9 : FVec F S32x1x4x128x128 .f32) : IVec S_ 1 :=
  let main_v0 : FVec F S32x1x4x64x128 .f32 := Host.absf main_arg0
  let main_cst : FVec F S_ .f32 := constant S_ .f32 0x7F800000#32
  let main_v1 : FVec F S32x1x4x64x128 .f32 := broadcastInDim S32x1x4x64x128 ![] bcast_S_S32x1x4x64x128 main_cst
  let main_v2 : IVec S32x1x4x64x128 1 := cmpf .olt main_v0 main_v1
  let main_c : IVec S_ 1 := constantI S_ 1 1#1
  let main_v3 : IVec S_ 1 := (fun x v => Host.reduce IntOp.andi x v reducesTo_S32x1x4x64x128_S_d0_1_2_3_4 h_S_) main_v2 main_c
  let main_v4 : FVec F S32x1x4x64x128 .f32 := Host.absf main_arg1
  let main_cst_0 : FVec F S_ .f32 := constant S_ .f32 0x7F800000#32
  let main_v5 : FVec F S32x1x4x64x128 .f32 := broadcastInDim S32x1x4x64x128 ![] bcast_S_S32x1x4x64x128 main_cst_0
  let main_v6 : IVec S32x1x4x64x128 1 := cmpf .olt main_v4 main_v5
  let main_c_1 : IVec S_ 1 := constantI S_ 1 1#1
  let main_v7 : IVec S_ 1 := (fun x v => Host.reduce IntOp.andi x v reducesTo_S32x1x4x64x128_S_d0_1_2_3_4 h_S_) main_v6 main_c_1
  let main_v8 : IVec S_ 1 := andi main_v3 main_v7
  let main_v9 : FVec F S32x1x4x64x128 .f32 := Host.absf main_arg2
  let main_cst_2 : FVec F S_ .f32 := constant S_ .f32 0x7F800000#32
  let main_v10 : FVec F S32x1x4x64x128 .f32 := broadcastInDim S32x1x4x64x128 ![] bcast_S_S32x1x4x64x128 main_cst_2
  let main_v11 : IVec S32x1x4x64x128 1 := cmpf .olt main_v9 main_v10
  let main_c_3 : IVec S_ 1 := constantI S_ 1 1#1
  let main_v12 : IVec S_ 1 := (fun x v => Host.reduce IntOp.andi x v reducesTo_S32x1x4x64x128_S_d0_1_2_3_4 h_S_) main_v11 main_c_3
  let main_v13 : IVec S_ 1 := andi main_v8 main_v12
  let main_v14 : FVec F S32x1x4x64x64 .f32 := Host.absf main_arg3
  let main_cst_4 : FVec F S_ .f32 := constant S_ .f32 0x7F800000#32
  let main_v15 : FVec F S32x1x4x64x64 .f32 := broadcastInDim S32x1x4x64x64 ![] bcast_S_S32x1x4x64x64 main_cst_4
  let main_v16 : IVec S32x1x4x64x64 1 := cmpf .olt main_v14 main_v15
  fn_part1 (F := F) main_arg4 main_arg5 main_arg6 main_arg7 main_arg8 main_arg9 main_v13 main_v16
-- ==== Pre_finite4.lean ====
abbrev S2048x1024 : Shape := ⟨2, ![2048, 1024]⟩
abbrev S1024x5632 : Shape := ⟨2, ![1024, 5632]⟩
abbrev S3x5632 : Shape := ⟨2, ![3, 5632]⟩
abbrev S2816x1024 : Shape := ⟨2, ![2816, 1024]⟩
abbrev S1024 : Shape := ⟨1, ![1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1024x5632 : S_.BroadcastsInDim S1024x5632 (![] : Fin 0 → Fin S1024x5632.rank)
  reducesTo_S1024x5632_S_d0_1 : S1024x5632.ReducesTo [0, 1] S_
  bcast_S_S3x5632 : S_.BroadcastsInDim S3x5632 (![] : Fin 0 → Fin S3x5632.rank)
  reducesTo_S3x5632_S_d0_1 : S3x5632.ReducesTo [0, 1] S_
  bcast_S_S2816x1024 : S_.BroadcastsInDim S2816x1024 (![] : Fin 0 → Fin S2816x1024.rank)
  reducesTo_S2816x1024_S_d0_1 : S2816x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S2816x1024 .f32) (main_arg5 : FVec F S1024 .f32) (main_arg6 : FVec F S2048x1024 .f32) (main_v13 : IVec S_ 1) (main_v16 : IVec S3x5632 1) : IVec S_ 1 :=
  let main_c_5 : IVec S_ 1 := constantI S_ 1 1#1
  let main_v17 : IVec S_ 1 := (fun x v => Host.reduce IntOp.andi x v reducesTo_S3x5632_S_d0_1 h_S_) main_v16 main_c_5
  let main_v18 : IVec S_ 1 := andi main_v13 main_v17
  let main_v19 : FVec F S2816x1024 .f32 := Host.absf main_arg4
  let main_cst_6 : FVec F S_ .f32 := constant S_ .f32 0x7F800000#32
  let main_v20 : FVec F S2816x1024 .f32 := broadcastInDim S2816x1024 ![] bcast_S_S2816x1024 main_cst_6
  let main_v21 : IVec S2816x1024 1 := cmpf .olt main_v19 main_v20
  let main_c_7 : IVec S_ 1 := constantI S_ 1 1#1
  let main_v22 : IVec S_ 1 := (fun x v => Host.reduce IntOp.andi x v reducesTo_S2816x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S2048x1024 .f32 := Host.absf main_arg6
  let main_cst_10 : FVec F S_ .f32 := constant S_ .f32 0x7F800000#32
  let main_v30 : FVec F S2048x1024 .f32 := broadcastInDim S2048x1024 ![] bcast_S_S2048x1024 main_cst_10
  let main_v31 : IVec S2048x1024 1 := cmpf .olt main_v29 main_v30
  let main_c_11 : IVec S_ 1 := constantI S_ 1 1#1
  let main_v32 : IVec S_ 1 := (fun x v => Host.reduce IntOp.andi x v reducesTo_S2048x1024_S_d0_1 h_S_) main_v31 main_c_11
  let main_v33 : IVec S_ 1 := andi main_v28 main_v32
  main_v33

def fn {F : FTy → Type} [FloatOps F] (main_arg0 : FVec F S2048x1024 .f32) (main_arg1 : FVec F S2048x1024 .f32) (main_arg2 : FVec F S1024x5632 .f32) (main_arg3 : FVec F S3x5632 .f32) (main_arg4 : FVec F S2816x1024 .f32) (main_arg5 : FVec F S1024 .f32) (main_arg6 : FVec F S2048x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  let main_v9 : FVec F S1024x5632 .f32 := Host.absf main_arg2
  let main_cst_2 : FVec F S_ .f32 := constant S_ .f32 0x7F800000#32
  let main_v10 : FVec F S1024x5632 .f32 := broadcastInDim S1024x5632 ![] bcast_S_S1024x5632 main_cst_2
  let main_v11 : IVec S1024x5632 1 := cmpf .olt main_v9 main_v10
  let main_c_3 : IVec S_ 1 := constantI S_ 1 1#1
  let main_v12 : IVec S_ 1 := (fun x v => Host.reduce IntOp.andi x v reducesTo_S1024x5632_S_d0_1 h_S_) main_v11 main_c_3
  let main_v13 : IVec S_ 1 := andi main_v8 main_v12
  let main_v14 : FVec F S3x5632 .f32 := Host.absf main_arg3
  let main_cst_4 : FVec F S_ .f32 := constant S_ .f32 0x7F800000#32
  let main_v15 : FVec F S3x5632 .f32 := broadcastInDim S3x5632 ![] bcast_S_S3x5632 main_cst_4
  let main_v16 : IVec S3x5632 1 := cmpf .olt main_v14 main_v15
  fn_part1 (F := F) main_arg4 main_arg5 main_arg6 main_v13 main_v16
-- ==== Kernel.lean ====
abbrev S2048x1024 : Shape := ⟨2, ![2048, 1024]⟩
abbrev S1024x5632 : Shape := ⟨2, ![1024, 5632]⟩
abbrev S3x5632 : Shape := ⟨2, ![3, 5632]⟩
abbrev S2816x1024 : Shape := ⟨2, ![2816, 1024]⟩
abbrev S2048x5632 : Shape := ⟨2, ![2048, 5632]⟩
abbrev S3x8x704 : Shape := ⟨3, ![3, 8, 704]⟩
abbrev S8x3x704 : Shape := ⟨3, ![8, 3, 704]⟩
abbrev S2048x2816 : Shape := ⟨2, ![2048, 2816]⟩
abbrev S2048x4x704 : Shape := ⟨3, ![2048, 4, 704]⟩
abbrev S4x2048x704 : Shape := ⟨3, ![4, 2048, 704]⟩
abbrev S4x2x2048x704 : Shape := ⟨4, ![4, 2, 2048, 704]⟩
abbrev S4x2x704x1024 : Shape := ⟨4, ![4, 2, 704, 1024]⟩
abbrev S4x2x3x704 : Shape := ⟨4, ![4, 2, 3, 704]⟩
abbrev S512x1024 : Shape := ⟨2, ![512, 1024]⟩
abbrev S16x1024 : Shape := ⟨2, ![16, 1024]⟩
abbrev S1x512x704 : Shape := ⟨3, ![1, 512, 704]⟩
abbrev S1x16x704 : Shape := ⟨3, ![1, 16, 704]⟩
abbrev S1x3x704 : Shape := ⟨3, ![1, 3, 704]⟩
abbrev S704x1024 : Shape := ⟨2, ![704, 1024]⟩
abbrev S1x2x512x704 : Shape := ⟨4, ![1, 2, 512, 704]⟩
abbrev S1x2x704x1024 : Shape := ⟨4, ![1, 2, 704, 1024]⟩
abbrev S1x2x3x704 : Shape := ⟨4, ![1, 2, 3, 704]⟩
abbrev S8x704 : Shape := ⟨2, ![8, 704]⟩
abbrev S528x1024 : Shape := ⟨2, ![528, 1024]⟩
abbrev S528x1 : Shape := ⟨2, ![528, 1]⟩
abbrev S528x704 : Shape := ⟨2, ![528, 704]⟩
abbrev S544x1 : Shape := ⟨2, ![544, 1]⟩
abbrev S16x704 : Shape := ⟨2, ![16, 704]⟩
abbrev S512x704 : Shape := ⟨2, ![512, 704]⟩
abbrev S544x704 : Shape := ⟨2, ![544, 704]⟩
abbrev S3x704 : Shape := ⟨2, ![3, 704]⟩
abbrev S1x704 : Shape := ⟨2, ![1, 704]⟩
abbrev S1x1x512x704 : Shape := ⟨4, ![1, 1, 512, 704]⟩
abbrev S704 : Shape := ⟨1, ![704]⟩
abbrev S1x1x704x1024 : Shape := ⟨4, ![1, 1, 704, 1024]⟩
abbrev S1x1x3x704 : Shape := ⟨4, ![1, 1, 3, 704]⟩

abbrev nBuf : Space → Nat
  | .hbm => 22
  | .vmem => 37
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024x5632, .f32⟩
  | .hbm, ⟨3, _⟩ => ⟨S3x5632, .f32⟩
  | .hbm, ⟨4, _⟩ => ⟨S2816x1024, .f32⟩
  | .hbm, ⟨5, _⟩ => ⟨S2048x5632, .f32⟩
  | .hbm, ⟨6, _⟩ => ⟨S2048x5632, .bf16⟩
  | .hbm, ⟨7, _⟩ => ⟨S3x8x704, .f32⟩
  | .hbm, ⟨8, _⟩ => ⟨S8x3x704, .f32⟩
  | .hbm, ⟨9, _⟩ => ⟨S2048x1024, .bf16⟩
  | .hbm, ⟨10, _⟩ => ⟨S2048x1024, .bf16⟩
  | .hbm, ⟨11, _⟩ => ⟨S2048x2816, .bf16⟩
  | .hbm, ⟨12, _⟩ => ⟨S2048x4x704, .bf16⟩
  | .hbm, ⟨13, _⟩ => ⟨S4x2048x704, .bf16⟩
  | .hbm, ⟨14, _⟩ => ⟨S2048x2816, .bf16⟩
  | .hbm, ⟨15, _⟩ => ⟨S2048x4x704, .bf16⟩
  | .hbm, ⟨16, _⟩ => ⟨S4x2048x704, .bf16⟩
  | .hbm, ⟨17, _⟩ => ⟨S2816x1024, .bf16⟩
  | .hbm, ⟨18, _⟩ => ⟨S4x2x2048x704, .bf16⟩
  | .hbm, ⟨19, _⟩ => ⟨S2816x1024, .bf16⟩
  | .hbm, ⟨20, _⟩ => ⟨S4x2x704x1024, .bf16⟩
  | .hbm, ⟨21, _⟩ => ⟨S4x2x3x704, .f32⟩
  | .local _ .vmem, ⟨0, _⟩ => ⟨S512x1024, .bf16⟩
  | .local _ .vmem, ⟨1, _⟩ => ⟨S512x1024, .bf16⟩
  | .local _ .vmem, ⟨2, _⟩ => ⟨S16x1024, .bf16⟩
  | .local _ .vmem, ⟨3, _⟩ => ⟨S16x1024, .bf16⟩
  | .local _ .vmem, ⟨4, _⟩ => ⟨S512x1024, .bf16⟩
  | .local _ .vmem, ⟨5, _⟩ => ⟨S512x1024, .bf16⟩
  | .local _ .vmem, ⟨6, _⟩ => ⟨S1x512x704, .bf16⟩
  | .local _ .vmem, ⟨7, _⟩ => ⟨S1x512x704, .bf16⟩
  | .local _ .vmem, ⟨8, _⟩ => ⟨S1x16x704, .bf16⟩
  | .local _ .vmem, ⟨9, _⟩ => ⟨S1x16x704, .bf16⟩
  | .local _ .vmem, ⟨10, _⟩ => ⟨S1x16x704, .bf16⟩
  | .local _ .vmem, ⟨11, _⟩ => ⟨S1x16x704, .bf16⟩
  | .local _ .vmem, ⟨12, _⟩ => ⟨S1x512x704, .bf16⟩
  | .local _ .vmem, ⟨13, _⟩ => ⟨S1x512x704, .bf16⟩
  | .local _ .vmem, ⟨14, _⟩ => ⟨S1x16x704, .bf16⟩
  | .local _ .vmem, ⟨15, _⟩ => ⟨S1x16x704, .bf16⟩
  | .local _ .vmem, ⟨16, _⟩ => ⟨S1x16x704, .bf16⟩
  | .local _ .vmem, ⟨17, _⟩ => ⟨S1x16x704, .bf16⟩
  | .local _ .vmem, ⟨18, _⟩ => ⟨S1x3x704, .f32⟩
  | .local _ .vmem, ⟨19, _⟩ => ⟨S1x3x704, .f32⟩
  | .local _ .vmem, ⟨20, _⟩ => ⟨S1x3x704, .f32⟩
  | .local _ .vmem, ⟨21, _⟩ => ⟨S1x3x704, .f32⟩
  | .local _ .vmem, ⟨22, _⟩ => ⟨S704x1024, .bf16⟩
  | .local _ .vmem, ⟨23, _⟩ => ⟨S704x1024, .bf16⟩
  | .local _ .vmem, ⟨24, _⟩ => ⟨S1x2x512x704, .bf16⟩
  | .local _ .vmem, ⟨25, _⟩ => ⟨S1x2x512x704, .bf16⟩
  | .local _ .vmem, ⟨26, _⟩ => ⟨S704x1024, .bf16⟩
  | .local _ .vmem, ⟨27, _⟩ => ⟨S704x1024, .bf16⟩
  | .local _ .vmem, ⟨28, _⟩ => ⟨S1x2x704x1024, .bf16⟩
  | .local _ .vmem, ⟨29, _⟩ => ⟨S1x2x704x1024, .bf16⟩
  | .local _ .vmem, ⟨30, _⟩ => ⟨S1x2x3x704, .f32⟩
  | .local _ .vmem, ⟨31, _⟩ => ⟨S1x2x3x704, .f32⟩
  | .local _ .vmem, ⟨32, _⟩ => ⟨S704x1024, .f32⟩
  | .local _ .vmem, ⟨33, _⟩ => ⟨S704x1024, .f32⟩
  | .local _ .vmem, ⟨34, _⟩ => ⟨S704x1024, .f32⟩
  | .local _ .vmem, ⟨35, _⟩ => ⟨S8x704, .f32⟩
  | .local _ .vmem, ⟨36, _⟩ => ⟨S8x704, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13_0 : Ref sig .tc := ⟨.hbm, 18, rfl⟩
abbrev main_v13_1 : Ref sig .tc := ⟨.hbm, 19, rfl⟩
abbrev main_v13_2 : Ref sig .tc := ⟨.hbm, 20, rfl⟩
abbrev main_v13_3 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_scratch0 : Ref sig .tc := ⟨.vmem, 32, rfl⟩
abbrev cc0_scratch1 : Ref sig .tc := ⟨.vmem, 33, rfl⟩
abbrev cc0_scratch2 : Ref sig .tc := ⟨.vmem, 34, rfl⟩
abbrev cc0_scratch3 : Ref sig .tc := ⟨.vmem, 35, rfl⟩
abbrev cc0_scratch4 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32_85 : BitVec 32 := 3#32
  let v214 : BitVec 1 := Scalar.cmpi .eq arg1 c3_i32_85
  let v215 : BitVec 32 := Scalar.extui v214
  let c0_i32_86 : BitVec 32 := 0#32
  let v216 : BitVec 1 := Scalar.cmpi .ne v215 c0_i32_86
  v216

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c127_i32 : BitVec 32 := 127#32
  let v2 : BitVec 32 := Scalar.minsi v1 c127_i32
  let c0_i32 : BitVec 32 := 0#32
  let c0_i32_0 : BitVec 32 := 0#32
  ![arg0.toNat, v2.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c127_i32 : BitVec 32 := 127#32
  let v2 : BitVec 32 := Scalar.minsi v1 c127_i32
  let c0_i32 : BitVec 32 := 0#32
  let c0_i32_0 : BitVec 32 := 0#32
  ![arg0.toNat, v2.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![v0.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  let c0_i32_0 : BitVec 32 := 0#32
  let c0_i32_1 : BitVec 32 := 0#32
  ![v0.toNat, c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x16x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x16x704 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x3x704 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x3x704 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S704x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x2x512x704 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S704x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x2x704x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S1x2x3x704 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]
-- ==== ReferenceIdeal.lean ====
abbrev S2048x1024 : Shape := ⟨2, ![2048, 1024]⟩
abbrev S1024x5632 : Shape := ⟨2, ![1024, 5632]⟩
abbrev S3x5632 : Shape := ⟨2, ![3, 5632]⟩
abbrev S2816x1024 : Shape := ⟨2, ![2816, 1024]⟩
abbrev S1x2048x1024 : Shape := ⟨3, ![1, 2048, 1024]⟩
abbrev S1x2048x5632 : Shape := ⟨3, ![1, 2048, 5632]⟩
abbrev S_ : Shape := ⟨0, ![]⟩
abbrev S1x2x5632 : Shape := ⟨3, ![1, 2, 5632]⟩
abbrev S1x2050x5632 : Shape := ⟨3, ![1, 2050, 5632]⟩
abbrev S1x5632 : Shape := ⟨2, ![1, 5632]⟩
abbrev S5632 : Shape := ⟨1, ![5632]⟩
abbrev S1x1x5632 : Shape := ⟨3, ![1, 1, 5632]⟩
abbrev S1x2048x2816 : Shape := ⟨3, ![1, 2048, 2816]⟩
abbrev S1024x2816 : Shape := ⟨2, ![1024, 2816]⟩
abbrev S5632x1024 : Shape := ⟨2, ![5632, 1024]⟩
abbrev S2048x2x4x704 : Shape := ⟨4, ![2048, 2, 4, 704]⟩
abbrev S4x2x2048x704 : Shape := ⟨4, ![4, 2, 2048, 704]⟩
abbrev S2x4x704x1024 : Shape := ⟨4, ![2, 4, 704, 1024]⟩
abbrev S4x2x704x1024 : Shape := ⟨4, ![4, 2, 704, 1024]⟩
abbrev S3x2x4x704 : Shape := ⟨4, ![3, 2, 4, 704]⟩
abbrev S4x2x3x704 : Shape := ⟨4, ![4, 2, 3, 704]⟩

abbrev nBuf : Space → Nat
  | .hbm => 121
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024x5632, .f32⟩
  | .hbm, ⟨3, _⟩ => ⟨S3x5632, .f32⟩
  | .hbm, ⟨4, _⟩ => ⟨S2816x1024, .f32⟩
  | .hbm, ⟨5, _⟩ => ⟨S1x2048x1024, .f32⟩
  | .hbm, ⟨6, _⟩ => ⟨S1x2048x5632, .f32⟩
  | .hbm, ⟨7, _⟩ => ⟨S_, .f32⟩
  | .hbm, ⟨8, _⟩ => ⟨S1x2x5632, .f32⟩
  | .hbm, ⟨9, _⟩ => ⟨S1x2050x5632, .f32⟩
  | .hbm, ⟨10, _⟩ => ⟨S_, .f32⟩
  | .hbm, ⟨11, _⟩ => ⟨S1x2x5632, .f32⟩
  | .hbm, ⟨12, _⟩ => ⟨S1x2048x5632, .f32⟩
  | .hbm, ⟨13, _⟩ => ⟨S1x5632, .f32⟩
  | .hbm, ⟨14, _⟩ => ⟨S5632, .f32⟩
  | .hbm, ⟨15, _⟩ => ⟨S1x1x5632, .f32⟩
  | .hbm, ⟨16, _⟩ => ⟨S1x2048x5632, .f32⟩
  | .hbm, ⟨17, _⟩ => ⟨S1x2048x5632, .f32⟩
  | .hbm, ⟨18, _⟩ => ⟨S1x2048x5632, .f32⟩
  | .hbm, ⟨19, _⟩ => ⟨S1x5632, .f32⟩
  | .hbm, ⟨20, _⟩ => ⟨S5632, .f32⟩
  | .hbm, ⟨21, _⟩ => ⟨S1x1x5632, .f32⟩
  | .hbm, ⟨22, _⟩ => ⟨S1x2048x5632, .f32⟩
  | .hbm, ⟨23, _⟩ => ⟨S1x2048x5632, .f32⟩
  | .hbm, ⟨24, _⟩ => ⟨S1x2048x5632, .f32⟩
  | .hbm, ⟨25, _⟩ => ⟨S1x2048x5632, .f32⟩
  | .hbm, ⟨26, _⟩ => ⟨S1x5632, .f32⟩
  | .hbm, ⟨27, _⟩ => ⟨S5632, .f32⟩
  | .hbm, ⟨28, _⟩ => ⟨S1x1x5632, .f32⟩
  | .hbm, ⟨29, _⟩ => ⟨S1x2048x5632, .f32⟩
  | .hbm, ⟨30, _⟩ => ⟨S1x2048x5632, .f32⟩
  | .hbm, ⟨31, _⟩ => ⟨S1x2048x5632, .f32⟩
  | .hbm, ⟨32, _⟩ => ⟨S1x2048x2816, .f32⟩
  | .hbm, ⟨33, _⟩ => ⟨S1x2048x2816, .f32⟩
  | .hbm, ⟨34, _⟩ => ⟨S1x2048x2816, .f32⟩
  | .hbm, ⟨35, _⟩ => ⟨S1x2048x2816, .f32⟩
  | .hbm, ⟨36, _⟩ => ⟨S_, .f32⟩
  | .hbm, ⟨37, _⟩ => ⟨S1x2048x2816, .f32⟩
  | .hbm, ⟨38, _⟩ => ⟨S1x2048x2816, .f32⟩
  | .hbm, ⟨39, _⟩ => ⟨S_, .f32⟩
  | .hbm, ⟨40, _⟩ => ⟨S1x2048x2816, .f32⟩
  | .hbm, ⟨41, _⟩ => ⟨S1x2048x2816, .f32⟩
  | .hbm, ⟨42, _⟩ => ⟨S_, .f32⟩
  | .hbm, ⟨43, _⟩ => ⟨S1x2048x2816, .f32⟩
  | .hbm, ⟨44, _⟩ => ⟨S1x2048x2816, .f32⟩
  | .hbm, ⟨45, _⟩ => ⟨S1x2048x2816, .f32⟩
  | .hbm, ⟨46, _⟩ => ⟨S1x2048x2816, .f32⟩
  | .hbm, ⟨47, _⟩ => ⟨S1x2048x2816, .f32⟩
  | .hbm, ⟨48, _⟩ => ⟨S1x2048x1024, .f32⟩
  | .hbm, ⟨49, _⟩ => ⟨S1x2048x1024, .f32⟩
  | .hbm, ⟨50, _⟩ => ⟨S1024x2816, .f32⟩
  | .hbm, ⟨51, _⟩ => ⟨S2816x1024, .f32⟩
  | .hbm, ⟨52, _⟩ => ⟨S1x2048x2816, .f32⟩
  | .hbm, ⟨53, _⟩ => ⟨S1x2048x2816, .f32⟩
  | .hbm, ⟨54, _⟩ => ⟨S1x2048x2816, .f32⟩
  | .hbm, ⟨55, _⟩ => ⟨S1x2048x2816, .f32⟩
  | .hbm, ⟨56, _⟩ => ⟨S1x2048x2816, .f32⟩
  | .hbm, ⟨57, _⟩ => ⟨S1x2048x2816, .f32⟩
  | .hbm, ⟨58, _⟩ => ⟨S1x2048x2816, .f32⟩
  | .hbm, ⟨59, _⟩ => ⟨S_, .f32⟩
  | .hbm, ⟨60, _⟩ => ⟨S1x2048x5632, .f32⟩
  | .hbm, ⟨61, _⟩ => ⟨S_, .f32⟩
  | .hbm, ⟨62, _⟩ => ⟨S1x2048x5632, .f32⟩
  | .hbm, ⟨63, _⟩ => ⟨S1x2048x5632, .f32⟩
  | .hbm, ⟨64, _⟩ => ⟨S1x2048x5632, .f32⟩
  | .hbm, ⟨65, _⟩ => ⟨S_, .f32⟩
  | .hbm, ⟨66, _⟩ => ⟨S1x5632, .f32⟩
  | .hbm, ⟨67, _⟩ => ⟨S1x1x5632, .f32⟩
  | .hbm, ⟨68, _⟩ => ⟨S1x2048x5632, .f32⟩
  | .hbm, ⟨69, _⟩ => ⟨S1x2048x5632, .f32⟩
  | .hbm, ⟨70, _⟩ => ⟨S_, .f32⟩
  | .hbm, ⟨71, _⟩ => ⟨S5632, .f32⟩
  | .hbm, ⟨72, _⟩ => ⟨S1x5632, .f32⟩
  | .hbm, ⟨73, _⟩ => ⟨S_, .f32⟩
  | .hbm, ⟨74, _⟩ => ⟨S3x5632, .f32⟩
  | .hbm, ⟨75, _⟩ => ⟨S_, .f32⟩
  | .hbm, ⟨76, _⟩ => ⟨S1x2050x5632, .f32⟩
  | .hbm, ⟨77, _⟩ => ⟨S1x2048x5632, .f32⟩
  | .hbm, ⟨78, _⟩ => ⟨S_, .f32⟩
  | .hbm, ⟨79, _⟩ => ⟨S1x5632, .f32⟩
  | .hbm, ⟨80, _⟩ => ⟨S1x1x5632, .f32⟩
  | .hbm, ⟨81, _⟩ => ⟨S1x2048x5632, .f32⟩
  | .hbm, ⟨82, _⟩ => ⟨S1x2048x5632, .f32⟩
  | .hbm, ⟨83, _⟩ => ⟨S_, .f32⟩
  | .hbm, ⟨84, _⟩ => ⟨S5632, .f32⟩
  | .hbm, ⟨85, _⟩ => ⟨S1x5632, .f32⟩
  | .hbm, ⟨86, _⟩ => ⟨S_, .f32⟩
  | .hbm, ⟨87, _⟩ => ⟨S3x5632, .f32⟩
  | .hbm, ⟨88, _⟩ => ⟨S3x5632, .f32⟩
  | .hbm, ⟨89, _⟩ => ⟨S_, .f32⟩
  | .hbm, ⟨90, _⟩ => ⟨S1x2050x5632, .f32⟩
  | .hbm, ⟨91, _⟩ => ⟨S1x2050x5632, .f32⟩
  | .hbm, ⟨92, _⟩ => ⟨S1x2048x5632, .f32⟩
  | .hbm, ⟨93, _⟩ => ⟨S_, .f32⟩
  | .hbm, ⟨94, _⟩ => ⟨S1x5632, .f32⟩
  | .hbm, ⟨95, _⟩ => ⟨S1x1x5632, .f32⟩
  | .hbm, ⟨96, _⟩ => ⟨S1x2048x5632, .f32⟩
  | .hbm, ⟨97, _⟩ => ⟨S1x2048x5632, .f32⟩
  | .hbm, ⟨98, _⟩ => ⟨S_, .f32⟩
  | .hbm, ⟨99, _⟩ => ⟨S5632, .f32⟩
  | .hbm, ⟨100, _⟩ => ⟨S1x5632, .f32⟩
  | .hbm, ⟨101, _⟩ => ⟨S_, .f32⟩
  | .hbm, ⟨102, _⟩ => ⟨S3x5632, .f32⟩
  | .hbm, ⟨103, _⟩ => ⟨S3x5632, .f32⟩
  | .hbm, ⟨104, _⟩ => ⟨S_, .f32⟩
  | .hbm, ⟨105, _⟩ => ⟨S1x2050x5632, .f32⟩
  | .hbm, ⟨106, _⟩ => ⟨S1x2050x5632, .f32⟩
  | .hbm, ⟨107, _⟩ => ⟨S1x2x5632, .f32⟩
  | .hbm, ⟨108, _⟩ => ⟨S1x2048x5632, .f32⟩
  | .hbm, ⟨109, _⟩ => ⟨S5632x1024, .f32⟩
  | .hbm, ⟨110, _⟩ => ⟨S1024x5632, .f32⟩
  | .hbm, ⟨111, _⟩ => ⟨S2048x2x4x704, .f32⟩
  | .hbm, ⟨112, _⟩ => ⟨S4x2x2048x704, .f32⟩
  | .hbm, ⟨113, _⟩ => ⟨S5632x1024, .f32⟩
  | .hbm, ⟨114, _⟩ => ⟨S2x4x704x1024, .f32⟩
  | .hbm, ⟨115, _⟩ => ⟨S4x2x704x1024, .f32⟩
  | .hbm, ⟨116, _⟩ => ⟨S3x2x4x704, .f32⟩
  | .hbm, ⟨117, _⟩ => ⟨S4x2x3x704, .f32⟩
  | .hbm, ⟨118, _⟩ => ⟨S4x2x2048x704, .bf16⟩
  | .hbm, ⟨119, _⟩ => ⟨S2816x1024, .bf16⟩
  | .hbm, ⟨120, _⟩ => ⟨S4x2x704x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_v27_2 : Ref sig .tc := ⟨.hbm, 41, rfl⟩
abbrev main_call0_cst_1 : Ref sig .tc := ⟨.hbm, 42, rfl⟩
abbrev main_call0_v6 : Ref sig .tc := ⟨.hbm, 43, rfl⟩
abbrev main_call0_v7 : Ref sig .tc := ⟨.hbm, 44, rfl⟩
abbrev main_v27_1 : Ref sig .tc := ⟨.hbm, 45, rfl⟩
abbrev main_v27_0 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_v36 : Ref sig .tc := ⟨.hbm, 58, rfl⟩
abbrev main_cst_1 : Ref sig .tc := ⟨.hbm, 59, rfl⟩
abbrev main_v37 : Ref sig .tc := ⟨.hbm, 60, rfl⟩
abbrev main_cst_2 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_3 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_cst_4 : Ref sig .tc := ⟨.hbm, 70, rfl⟩
abbrev main_v45 : Ref sig .tc := ⟨.hbm, 71, rfl⟩
abbrev main_v46 : Ref sig .tc := ⟨.hbm, 72, rfl⟩
abbrev main_cst_5 : Ref sig .tc := ⟨.hbm, 73, rfl⟩
abbrev main_v47 : Ref sig .tc := ⟨.hbm, 74, rfl⟩
abbrev main_cst_6 : Ref sig .tc := ⟨.hbm, 75, rfl⟩
abbrev main_v48 : Ref sig .tc := ⟨.hbm, 76, rfl⟩
abbrev main_v49 : Ref sig .tc := ⟨.hbm, 77, rfl⟩
abbrev main_cst_7 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_cst_8 : Ref sig .tc := ⟨.hbm, 83, rfl⟩
abbrev main_v54 : Ref sig .tc := ⟨.hbm, 84, rfl⟩
abbrev main_v55 : Ref sig .tc := ⟨.hbm, 85, rfl⟩
abbrev main_cst_9 : Ref sig .tc := ⟨.hbm, 86, rfl⟩
abbrev main_v56 : Ref sig .tc := ⟨.hbm, 87, rfl⟩
abbrev main_v57 : Ref sig .tc := ⟨.hbm, 88, rfl⟩
abbrev main_cst_10 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_cst_11 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_cst_12 : Ref sig .tc := ⟨.hbm, 98, rfl⟩
abbrev main_v65 : Ref sig .tc := ⟨.hbm, 99, rfl⟩
abbrev main_v66 : Ref sig .tc := ⟨.hbm, 100, rfl⟩
abbrev main_cst_13 : Ref sig .tc := ⟨.hbm, 101, rfl⟩
abbrev main_v67 : Ref sig .tc := ⟨.hbm, 102, rfl⟩
abbrev main_v68 : Ref sig .tc := ⟨.hbm, 103, rfl⟩
abbrev main_cst_14 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩

abbrev nD : Nat := 1
abbrev τ : Topo := Topo.v7x

variable {F : FTy → Type} [FloatOps F]
-- ==== Kernel2.lean ====
abbrev S2048x5632 : Shape := ⟨2, ![2048, 5632]⟩
abbrev S1024x5632 : Shape := ⟨2, ![1024, 5632]⟩
abbrev S2048x1024 : Shape := ⟨2, ![2048, 1024]⟩
abbrev S1024 : Shape := ⟨1, ![1024]⟩
abbrev S2048x2x4x704 : Shape := ⟨4, ![2048, 2, 4, 704]⟩
abbrev S4x2x2048x704 : Shape := ⟨4, ![4, 2, 2048, 704]⟩
abbrev S8x2048x704 : Shape := ⟨3, ![8, 2048, 704]⟩
abbrev S5632x1024 : Shape := ⟨2, ![5632, 1024]⟩
abbrev S8x704x1024 : Shape := ⟨3, ![8, 704, 1024]⟩
abbrev S1x1024 : Shape := ⟨2, ![1, 1024]⟩
abbrev S1x1024x704 : Shape := ⟨3, ![1, 1024, 704]⟩
abbrev S1x704x1024 : Shape := ⟨3, ![1, 704, 1024]⟩
abbrev S1024x1024 : Shape := ⟨2, ![1024, 1024]⟩
abbrev S1024x704 : Shape := ⟨2, ![1024, 704]⟩
abbrev S704x1024 : Shape := ⟨2, ![704, 1024]⟩
abbrev S1024x1 : Shape := ⟨2, ![1024, 1]⟩

abbrev nBuf : Space → Nat
  | .hbm => 15
  | .vmem => 13
  | .smem => 0
  | _ => 0

abbrev bufTy : (tb : Table) → Fin (tcTables nBuf tb) → BufTy
  | .hbm, ⟨0, _⟩ => ⟨S2048x5632, .f32⟩
  | .hbm, ⟨1, _⟩ => ⟨S1024x5632, .f32⟩
  | .hbm, ⟨2, _⟩ => ⟨S2048x1024, .f32⟩
  | .hbm, ⟨3, _⟩ => ⟨S1024, .f32⟩
  | .hbm, ⟨4, _⟩ => ⟨S2048x1024, .f32⟩
  | .hbm, ⟨5, _⟩ => ⟨S2048x2x4x704, .f32⟩
  | .hbm, ⟨6, _⟩ => ⟨S4x2x2048x704, .f32⟩
  | .hbm, ⟨7, _⟩ => ⟨S8x2048x704, .f32⟩
  | .hbm, ⟨8, _⟩ => ⟨S5632x1024, .f32⟩
  | .hbm, ⟨9, _⟩ => ⟨S8x704x1024, .f32⟩
  | .hbm, ⟨10, _⟩ => ⟨S8x2048x704, .bf16⟩
  | .hbm, ⟨11, _⟩ => ⟨S8x704x1024, .bf16⟩
  | .hbm, ⟨12, _⟩ => ⟨S1x1024, .f32⟩
  | .hbm, ⟨13, _⟩ => ⟨S2048x1024, .f32⟩
  | .hbm, ⟨14, _⟩ => ⟨S1x1024, .f32⟩
  | .local _ .vmem, ⟨0, _⟩ => ⟨S1x1024x704, .bf16⟩
  | .local _ .vmem, ⟨1, _⟩ => ⟨S1x1024x704, .bf16⟩
  | .local _ .vmem, ⟨2, _⟩ => ⟨S1x704x1024, .bf16⟩
  | .local _ .vmem, ⟨3, _⟩ => ⟨S1x704x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | .local _ .vmem, ⟨12, _⟩ => ⟨S1024x1024, .f32⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨3, ![2, 1, 8], ![false, false, false]⟩

def k0_cond3 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def k0_cond4 (i : grid0.Coords) : BitVec 1 :=
  let arg0 : BitVec 32 := BitVec.ofNat 32 (i 0).val
  let c0_i32_25 : BitVec 32 := 0#32
  let v46 : BitVec 1 := Scalar.cmpi .eq arg0 c0_i32_25
  let v47 : BitVec 32 := Scalar.extui v46
  let c0_i32_26 : BitVec 32 := 0#32
  let v48 : BitVec 1 := Scalar.cmpi .ne v47 c0_i32_26
  v48

def k0_cond5 (i : grid0.Coords) : BitVec 1 :=
  let arg0 : BitVec 32 := BitVec.ofNat 32 (i 0).val
  let c0_i32_27 : BitVec 32 := 0#32
  let v49 : BitVec 1 := Scalar.cmpi .sgt arg0 c0_i32_27
  let v50 : BitVec 32 := Scalar.extui v49
  let c0_i32_28 : BitVec 32 := 0#32
  let v51 : BitVec 1 := Scalar.cmpi .ne v50 c0_i32_28
  v51

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.andi arg2 c1_i32
  let c4_i32 : BitVec 32 := 4#32
  let v1 : BitVec 32 := Scalar.muli c4_i32 v0
  let c1_i32_0 : BitVec 32 := 1#32
  let v2 : BitVec 32 := Scalar.shrsi arg2 c1_i32_0
  let v3 : BitVec 32 := Scalar.addi v1 v2
  let c0_i32 : BitVec 32 := 0#32
  let c0_i32_1 : BitVec 32 := 0#32
  ![v3.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]
-- ==== Reference2Ideal.lean ====
abbrev S2048x5632 : Shape := ⟨2, ![2048, 5632]⟩
abbrev S1024x5632 : Shape := ⟨2, ![1024, 5632]⟩
abbrev S2048x1024 : Shape := ⟨2, ![2048, 1024]⟩
abbrev S1024 : Shape := ⟨1, ![1024]⟩
abbrev S1x2048x1024 : Shape := ⟨3, ![1, 2048, 1024]⟩
abbrev S_ : Shape := ⟨0, ![]⟩
abbrev S1x2048 : Shape := ⟨2, ![1, 2048]⟩
abbrev S1x2048x1 : Shape := ⟨3, ![1, 2048, 1]⟩
abbrev S1x1x1024 : Shape := ⟨3, ![1, 1, 1024]⟩
abbrev S1x2048x5632 : Shape := ⟨3, ![1, 2048, 5632]⟩
abbrev S1x1024 : Shape := ⟨2, ![1, 1024]⟩
abbrev S2048 : Shape := ⟨1, ![2048]⟩

abbrev nBuf : Space → Nat
  | .hbm => 58
  | .vmem => 0
  | .smem => 0
  | _ => 0

abbrev bufTy : (tb : Table) → Fin (tcTables nBuf tb) → BufTy
  | .hbm, ⟨0, _⟩ => ⟨S2048x5632, .f32⟩
  | .hbm, ⟨1, _⟩ => ⟨S1024x5632, .f32⟩
  | .hbm, ⟨2, _⟩ => ⟨S2048x1024, .f32⟩
  | .hbm, ⟨3, _⟩ => ⟨S1024, .f32⟩
  | .hbm, ⟨4, _⟩ => ⟨S2048x1024, .f32⟩
  | .hbm, ⟨5, _⟩ => ⟨S1x2048x1024, .f32⟩
  | .hbm, ⟨6, _⟩ => ⟨S1x2048x1024, .f32⟩
  | .hbm, ⟨7, _⟩ => ⟨S_, .f32⟩
  | .hbm, ⟨8, _⟩ => ⟨S1x2048, .f32⟩
  | .hbm, ⟨9, _⟩ => ⟨S1x2048x1, .f32⟩
  | .hbm, ⟨10, _⟩ => ⟨S_, .f32⟩
  | .hbm, ⟨11, _⟩ => ⟨S1x2048x1, .f32⟩
  | .hbm, ⟨12, _⟩ => ⟨S1x2048x1, .f32⟩
  | .hbm, ⟨13, _⟩ => ⟨S_, .f32⟩
  | .hbm, ⟨14, _⟩ => ⟨S1x2048x1, .f32⟩
  | .hbm, ⟨15, _⟩ => ⟨S1x2048x1, .f32⟩
  | .hbm, ⟨16, _⟩ => ⟨S1x2048x1, .f32⟩
  | .hbm, ⟨17, _⟩ => ⟨S1x2048x1, .f32⟩
  | .hbm, ⟨18, _⟩ => ⟨S_, .f32⟩
  | .hbm, ⟨19, _⟩ => ⟨S1x2048x1, .f32⟩
  | .hbm, ⟨20, _⟩ => ⟨S1x2048x1, .f32⟩
  | .hbm, ⟨21, _⟩ => ⟨S1x2048x1024, .f32⟩
  | .hbm, ⟨22, _⟩ => ⟨S1x2048x1024, .f32⟩
  | .hbm, ⟨23, _⟩ => ⟨S1x1x1024, .f32⟩
  | .hbm, ⟨24, _⟩ => ⟨S1x2048x1024, .f32⟩
  | .hbm, ⟨25, _⟩ => ⟨S1x2048x1024, .f32⟩
  | .hbm, ⟨26, _⟩ => ⟨S1x2048x5632, .f32⟩
  | .hbm, ⟨27, _⟩ => ⟨S1x2048x5632, .f32⟩
  | .hbm, ⟨28, _⟩ => ⟨S1x2048x1024, .f32⟩
  | .hbm, ⟨29, _⟩ => ⟨S1x2048x1024, .f32⟩
  | .hbm, ⟨30, _⟩ => ⟨S_, .f32⟩
  | .hbm, ⟨31, _⟩ => ⟨S1x1024, .f32⟩
  | .hbm, ⟨32, _⟩ => ⟨S1x1x1024, .f32⟩
  | .hbm, ⟨33, _⟩ => ⟨S1x2048x1024, .f32⟩
  | .hbm, ⟨34, _⟩ => ⟨S1x2048x1024, .f32⟩
  | .hbm, ⟨35, _⟩ => ⟨S_, .f32⟩
  | .hbm, ⟨36, _⟩ => ⟨S1024, .f32⟩
  | .hbm, ⟨37, _⟩ => ⟨S1x2048x1024, .f32⟩
  | .hbm, ⟨38, _⟩ => ⟨S_, .f32⟩
  | .hbm, ⟨39, _⟩ => ⟨S1x2048, .f32⟩
  | .hbm, ⟨40, _⟩ => ⟨S1x2048x1, .f32⟩
  | .hbm, ⟨41, _⟩ => ⟨S1x2048x1024, .f32⟩
  | .hbm, ⟨42, _⟩ => ⟨S1x2048x1024, .f32⟩
  | .hbm, ⟨43, _⟩ => ⟨S1x2048x1, .f32⟩
  | .hbm, ⟨44, _⟩ => ⟨S_, .f32⟩
  | .hbm, ⟨45, _⟩ => ⟨S1x2048x1, .f32⟩
  | .hbm, ⟨46, _⟩ => ⟨S1x2048x1, .f32⟩
  | .hbm, ⟨47, _⟩ => ⟨S_, .f32⟩
  | .hbm, ⟨48, _⟩ => ⟨S2048, .f32⟩
  | .hbm, ⟨49, _⟩ => ⟨S1x2048, .f32⟩
  | .hbm, ⟨50, _⟩ => ⟨S1x2048x1024, .f32⟩
  | .hbm, ⟨51, _⟩ => ⟨S1x2048x1024, .f32⟩
  | .hbm, ⟨52, _⟩ => ⟨S1x2048x1024, .f32⟩
  | .hbm, ⟨53, _⟩ => ⟨S1x2048x1024, .f32⟩
  | .hbm, ⟨54, _⟩ => ⟨S1x2048x1024, .f32⟩
  | .hbm, ⟨55, _⟩ => ⟨S2048x1024, .f32⟩
  | .hbm, ⟨56, _⟩ => ⟨S2048x1024, .f32⟩
  | .hbm, ⟨57, _⟩ => ⟨S1x1024, .f32⟩
  | _, _ => ⟨S2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== Kernel3.lean ====
abbrev S32x1x4x64x128 : Shape := ⟨5, ![32, 1, 4, 64, 128]⟩
abbrev S32x1x4x64x64 : Shape := ⟨5, ![32, 1, 4, 64, 64]⟩
abbrev S32x1x4 : Shape := ⟨3, ![32, 1, 4]⟩
abbrev S2048x512 : Shape := ⟨2, ![2048, 512]⟩
abbrev S128 : Shape := ⟨1, ![128]⟩
abbrev S2048x1024 : Shape := ⟨2, ![2048, 1024]⟩
abbrev S32x1x4x128x128 : Shape := ⟨5, ![32, 1, 4, 128, 128]⟩
abbrev S4 : Shape := ⟨1, ![4]⟩
abbrev S4x1x1x1 : Shape := ⟨4, ![4, 1, 1, 1]⟩
abbrev S1x1x4x1 : Shape := ⟨4, ![1, 1, 4, 1]⟩
abbrev S4x1x4x1 : Shape := ⟨4, ![4, 1, 4, 1]⟩
abbrev S32x4x64x1x64 : Shape := ⟨5, ![32, 4, 64, 1, 64]⟩
abbrev S_ : Shape := ⟨0, ![]⟩
abbrev S32x4x64x4x64 : Shape := ⟨5, ![32, 4, 64, 4, 64]⟩
abbrev S8192x256 : Shape := ⟨2, ![8192, 256]⟩
abbrev S32x4x64x1x128 : Shape := ⟨5, ![32, 4, 64, 1, 128]⟩
abbrev S32x4x64x4x128 : Shape := ⟨5, ![32, 4, 64, 4, 128]⟩
abbrev S8192x512 : Shape := ⟨2, ![8192, 512]⟩
abbrev S32x1x4x1 : Shape := ⟨4, ![32, 1, 4, 1]⟩
abbrev S32x64x4x128 : Shape := ⟨4, ![32, 64, 4, 128]⟩
abbrev S32x1x64x4x128 : Shape := ⟨5, ![32, 1, 64, 4, 128]⟩
abbrev S1x128 : Shape := ⟨2, ![1, 128]⟩
abbrev S16384x128 : Shape := ⟨2, ![16384, 128]⟩
abbrev S32x8x512 : Shape := ⟨3, ![32, 8, 512]⟩
abbrev S512x512 : Shape := ⟨2, ![512, 512]⟩
abbrev S4096x128 : Shape := ⟨2, ![4096, 128]⟩
abbrev S2048x256 : Shape := ⟨2, ![2048, 256]⟩
abbrev S8x8x512 : Shape := ⟨3, ![8, 8, 512]⟩
abbrev S512x128 : Shape := ⟨2, ![512, 128]⟩
abbrev S64x128 : Shape := ⟨2, ![64, 128]⟩
abbrev S256x128 : Shape := ⟨2, ![256, 128]⟩
abbrev S256 : Shape := ⟨1, ![256]⟩
abbrev S256x1 : Shape := ⟨2, ![256, 1]⟩
abbrev S128x128 : Shape := ⟨2, ![128, 128]⟩
abbrev S256x512 : Shape := ⟨2, ![256, 512]⟩
abbrev S256x256 : Shape := ⟨2, ![256, 256]⟩
abbrev S128x1 : Shape := ⟨2, ![128, 1]⟩
abbrev S1 : Shape := ⟨1, ![1]⟩
abbrev S1x1 : Shape := ⟨2, ![1, 1]⟩
abbrev S8x128 : Shape := ⟨2, ![8, 128]⟩
abbrev S1x8x128 : Shape := ⟨3, ![1, 8, 128]⟩

abbrev nBuf : Space → Nat
  | .hbm => 95
  | .vmem => 37
  | .smem => 0
  | _ => 0

abbrev bufTy : (tb : Table) → Fin (tcTables nBuf tb) → BufTy
  | .hbm, ⟨0, _⟩ => ⟨S32x1x4x64x128, .f32⟩
  | .hbm, ⟨1, _⟩ => ⟨S32x1x4x64x128, .f32⟩
  | .hbm, ⟨2, _⟩ => ⟨S32x1x4x64x128, .f32⟩
  | .hbm, ⟨3, _⟩ => ⟨S32x1x4x64x64, .f32⟩
  | .hbm, ⟨4, _⟩ => ⟨S32x1x4x64x128, .f32⟩
  | .hbm, ⟨5, _⟩ => ⟨S32x1x4, .f32⟩
  | .hbm, ⟨6, _⟩ => ⟨S2048x512, .f32⟩
  | .hbm, ⟨7, _⟩ => ⟨S128, .f32⟩
  | .hbm, ⟨8, _⟩ => ⟨S2048x1024, .f32⟩
  | .hbm, ⟨9, _⟩ => ⟨S32x1x4x128x128, .f32⟩
  | .hbm, ⟨10, _⟩ => ⟨S32x1x4x64x128, .f32⟩
  | .hbm, ⟨11, _⟩ => ⟨S32x1x4x64x128, .f32⟩
  | .hbm, ⟨12, _⟩ => ⟨S32x1x4x64x128, .f32⟩
  | .hbm, ⟨13, _⟩ => ⟨S32x1x4x64x128, .f32⟩
  | .hbm, ⟨14, _⟩ => ⟨S32x1x4x64x128, .f32⟩
  | .hbm, ⟨15, _⟩ => ⟨S4, .i32⟩
  | .hbm, ⟨16, _⟩ => ⟨S4x1x1x1, .i32⟩
  | .hbm, ⟨17, _⟩ => ⟨S4, .i32⟩
  | .hbm, ⟨18, _⟩ => ⟨S1x1x4x1, .i32⟩
  | .hbm, ⟨19, _⟩ => ⟨S4x1x4x1, .i32⟩
  | .hbm, ⟨20, _⟩ => ⟨S4x1x4x1, .i32⟩
  | .hbm, ⟨21, _⟩ => ⟨S4x1x4x1, .i1⟩
  | .hbm, ⟨22, _⟩ => ⟨S32x4x64x1x64, .f32⟩
  | .hbm, ⟨23, _⟩ => ⟨S_, .f32⟩
  | .hbm, ⟨24, _⟩ => ⟨S_, .f32⟩
  | .hbm, ⟨25, _⟩ => ⟨S32x4x64x4x64, .i1⟩
  | .hbm, ⟨26, _⟩ => ⟨S32x4x64x4x64, .f32⟩
  | .hbm, ⟨27, _⟩ => ⟨S32x4x64x4x64, .f32⟩
  | .hbm, ⟨28, _⟩ => ⟨S32x4x64x4x64, .f32⟩
  | .hbm, ⟨29, _⟩ => ⟨S8192x256, .f32⟩
  | .hbm, ⟨30, _⟩ => ⟨S4, .i32⟩
  | .hbm, ⟨31, _⟩ => ⟨S4x1x1x1, .i32⟩
  | .hbm, ⟨32, _⟩ => ⟨S4, .i32⟩
  | .hbm, ⟨33, _⟩ => ⟨S1x1x4x1, .i32⟩
  | .hbm, ⟨34, _⟩ => ⟨S4x1x4x1, .i32⟩
  | .hbm, ⟨35, _⟩ => ⟨S4x1x4x1, .i32⟩
  | .hbm, ⟨36, _⟩ => ⟨S4x1x4x1, .i1⟩
  | .hbm, ⟨37, _⟩ => ⟨S32x4x64x1x128, .f32⟩
  | .hbm, ⟨38, _⟩ => ⟨S_, .f32⟩
  | .hbm, ⟨39, _⟩ => ⟨S_, .f32⟩
  | .hbm, ⟨40, _⟩ => ⟨S32x4x64x4x128, .i1⟩
  | .hbm, ⟨41, _⟩ => ⟨S32x4x64x4x128, .f32⟩
  | .hbm, ⟨42, _⟩ => ⟨S32x4x64x4x128, .f32⟩
  | .hbm, ⟨43, _⟩ => ⟨S32x4x64x4x128, .f32⟩
  | .hbm, ⟨44, _⟩ => ⟨S8192x512, .f32⟩
  | .hbm, ⟨45, _⟩ => ⟨S4, .i32⟩
  | .hbm, ⟨46, _⟩ => ⟨S4x1x1x1, .i32⟩
  | .hbm, ⟨47, _⟩ => ⟨S4, .i32⟩
  | .hbm, ⟨48, _⟩ => ⟨S1x1x4x1, .i32⟩
  | .hbm, ⟨49, _⟩ => ⟨S4x1x4x1, .i32⟩
  | .hbm, ⟨50, _⟩ => ⟨S4x1x4x1, .i32⟩
  | .hbm, ⟨51, _⟩ => ⟨S4x1x4x1, .i1⟩
  | .hbm, ⟨52, _⟩ => ⟨S32x4x64x1x128, .f32⟩
  | .hbm, ⟨53, _⟩ => ⟨S_, .f32⟩
  | .hbm, ⟨54, _⟩ => ⟨S_, .f32⟩
  | .hbm, ⟨55, _⟩ => ⟨S32x4x64x4x128, .i1⟩
  | .hbm, ⟨56, _⟩ => ⟨S32x4x64x4x128, .f32⟩
  | .hbm, ⟨57, _⟩ => ⟨S32x4x64x4x128, .f32⟩
  | .hbm, ⟨58, _⟩ => ⟨S32x4x64x4x128, .f32⟩
  | .hbm, ⟨59, _⟩ => ⟨S8192x512, .f32⟩
  | .hbm, ⟨60, _⟩ => ⟨S4, .i32⟩
  | .hbm, ⟨61, _⟩ => ⟨S4x1x1x1, .i32⟩
  | .hbm, ⟨62, _⟩ => ⟨S4, .i32⟩
  | .hbm, ⟨63, _⟩ => ⟨S1x1x4x1, .i32⟩
  | .hbm, ⟨64, _⟩ => ⟨S4x1x4x1, .i32⟩
  | .hbm, ⟨65, _⟩ => ⟨S4x1x4x1, .i32⟩
  | .hbm, ⟨66, _⟩ => ⟨S4x1x4x1, .i1⟩
  | .hbm, ⟨67, _⟩ => ⟨S32x4x64x1x128, .f32⟩
  | .hbm, ⟨68, _⟩ => ⟨S_, .f32⟩
  | .hbm, ⟨69, _⟩ => ⟨S_, .f32⟩
  | .hbm, ⟨70, _⟩ => ⟨S32x4x64x4x128, .i1⟩
  | .hbm, ⟨71, _⟩ => ⟨S32x4x64x4x128, .f32⟩
  | .hbm, ⟨72, _⟩ => ⟨S32x4x64x4x128, .f32⟩
  | .hbm, ⟨73, _⟩ => ⟨S32x4x64x4x128, .f32⟩
  | .hbm, ⟨74, _⟩ => ⟨S8192x512, .f32⟩
  | .hbm, ⟨75, _⟩ => ⟨S32x1x4x1, .f32⟩
  | .hbm, ⟨76, _⟩ => ⟨S32x64x4x128, .f32⟩
  | .hbm, ⟨77, _⟩ => ⟨S2048x512, .f32⟩
  | .hbm, ⟨78, _⟩ => ⟨S32x1x64x4x128, .f32⟩
  | .hbm, ⟨79, _⟩ => ⟨S2048x512, .f32⟩
  | .hbm, ⟨80, _⟩ => ⟨S1x128, .f32⟩
  | .hbm, ⟨81, _⟩ => ⟨S16384x128, .f32⟩
  | .hbm, ⟨82, _⟩ => ⟨S32x1x64x4x128, .f32⟩
  | .hbm, ⟨83, _⟩ => ⟨S2048x512, .f32⟩
  | .hbm, ⟨84, _⟩ => ⟨S8192x512, .bf16⟩
  | .hbm, ⟨85, _⟩ => ⟨S8192x512, .bf16⟩
  | .hbm, ⟨86, _⟩ => ⟨S8192x512, .bf16⟩
  | .hbm, ⟨87, _⟩ => ⟨S2048x512, .bf16⟩
  | .hbm, ⟨88, _⟩ => ⟨S1x128, .f32⟩
  | .hbm, ⟨89, _⟩ => ⟨S2048x512, .f32⟩
  | .hbm, ⟨90, _⟩ => ⟨S2048x512, .f32⟩
  | .hbm, ⟨91, _⟩ => ⟨S8192x256, .f32⟩
  | .hbm, ⟨92, _⟩ => ⟨S2048x512, .f32⟩
  | .hbm, ⟨93, _⟩ => ⟨S2048x512, .f32⟩
  | .hbm, ⟨94, _⟩ => ⟨S32x8x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S1x128, .f32⟩
  | .local _ .vmem, ⟨7, _⟩ => ⟨S4096x128, .f32⟩
  | .local _ .vmem, ⟨8, _⟩ => ⟨S4096x128, .f32⟩
  | .local _ .vmem, ⟨9, _⟩ => ⟨S512x512, .f32⟩
  | .local _ .vmem, ⟨10, _⟩ => ⟨S512x512, .f32⟩
  | .local _ .vmem, ⟨11, _⟩ => ⟨S2048x256, .f32⟩
  | .local _ .vmem, ⟨12, _⟩ => ⟨S2048x256, .f32⟩
  | .local _ .vmem, ⟨13, _⟩ => ⟨S2048x512, .bf16⟩
  | .local _ .vmem, ⟨14, _⟩ => ⟨S2048x512, .bf16⟩
  | .local _ .vmem, ⟨15, _⟩ => ⟨S2048x512, .bf16⟩
  | .local _ .vmem, ⟨16, _⟩ => ⟨S2048x512, .bf16⟩
  | .local _ .vmem, ⟨17, _⟩ => ⟨S2048x512, .bf16⟩
  | .local _ .vmem, ⟨18, _⟩ => ⟨S2048x512, .bf16⟩
  | .local _ .vmem, ⟨19, _⟩ => ⟨S512x512, .f32⟩
  | .local _ .vmem, ⟨20, _⟩ => ⟨S512x512, .f32⟩
  | .local _ .vmem, ⟨21, _⟩ => ⟨S512x512, .bf16⟩
  | .local _ .vmem, ⟨22, _⟩ => ⟨S512x512, .bf16⟩
  | .local _ .vmem, ⟨23, _⟩ => ⟨S1x128, .f32⟩
  | .local _ .vmem, ⟨24, _⟩ => ⟨S512x512, .f32⟩
  | .local _ .vmem, ⟨25, _⟩ => ⟨S512x512, .f32⟩
  | .local _ .vmem, ⟨26, _⟩ => ⟨S512x512, .f32⟩
  | .local _ .vmem, ⟨27, _⟩ => ⟨S512x512, .f32⟩
  | .local _ .vmem, ⟨28, _⟩ => ⟨S2048x256, .f32⟩
  | .local _ .vmem, ⟨29, _⟩ => ⟨S2048x256, .f32⟩
  | .local _ .vmem, ⟨30, _⟩ => ⟨S512x512, .f32⟩
  | .local _ .vmem, ⟨31, _⟩ => ⟨S512x512, .f32⟩
  | .local _ .vmem, ⟨32, _⟩ => ⟨S512x512, .f32⟩
  | .local _ .vmem, ⟨33, _⟩ => ⟨S512x512, .f32⟩
  | .local _ .vmem, ⟨34, _⟩ => ⟨S8x8x512, .f32⟩
  | .local _ .vmem, ⟨35, _⟩ => ⟨S8x8x512, .f32⟩
  | .local _ .vmem, ⟨36, _⟩ => ⟨S512x128, .f32⟩
  | _, _ => ⟨S32x1x4x64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_0 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_call1_v3 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_1 : Ref sig .tc := ⟨.hbm, 53, rfl⟩
abbrev main_call2_v0 : Ref sig .tc := ⟨.hbm, 54, rfl⟩
abbrev main_call2_v1 : Ref sig .tc := ⟨.hbm, 55, rfl⟩
abbrev main_call2_v2 : Ref sig .tc := ⟨.hbm, 56, rfl⟩
abbrev main_call2_v3 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_2 : Ref sig .tc := ⟨.hbm, 68, rfl⟩
abbrev main_call3_v0 : Ref sig .tc := ⟨.hbm, 69, rfl⟩
abbrev main_call3_v1 : Ref sig .tc := ⟨.hbm, 70, rfl⟩
abbrev main_call3_v2 : Ref sig .tc := ⟨.hbm, 71, rfl⟩
abbrev main_call3_v3 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57_0 : Ref sig .tc := ⟨.hbm, 87, rfl⟩
abbrev main_v57_1 : Ref sig .tc := ⟨.hbm, 88, rfl⟩
abbrev main_v57_2 : Ref sig .tc := ⟨.hbm, 89, rfl⟩
abbrev main_v57_3 : Ref sig .tc := ⟨.hbm, 90, rfl⟩
abbrev main_v57_4 : Ref sig .tc := ⟨.hbm, 91, rfl⟩
abbrev main_v57_5 : Ref sig .tc := ⟨.hbm, 92, rfl⟩
abbrev main_v57_6 : Ref sig .tc := ⟨.hbm, 93, rfl⟩
abbrev main_v57_7 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_stg17_1 : Ref sig .tc := ⟨.vmem, 33, rfl⟩
abbrev cc0_stg18_0 : Ref sig .tc := ⟨.vmem, 34, rfl⟩
abbrev cc0_stg18_1 : Ref sig .tc := ⟨.vmem, 35, rfl⟩
abbrev cc0_scratch0 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem16_1 : DmaSem sig := 31
abbrev cc0_sem17_0 : DmaSem sig := 32
abbrev cc0_sem17_1 : DmaSem sig := 33
abbrev cc0_sem18_0 : DmaSem sig := 34
abbrev cc0_sem18_1 : DmaSem sig := 35

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  ![v0.toNat, c0_i32.toNat]

def cc0_transform_15 (i : grid0.Coords) : Fin 2 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  ![v0.toNat, c0_i32.toNat]

def cc0_transform_16 (i : grid0.Coords) : Fin 2 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  ![v0.toNat, c0_i32.toNat]

def cc0_transform_17 (i : grid0.Coords) : Fin 2 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  ![v0.toNat, c0_i32.toNat]

def cc0_transform_18 (i : grid0.Coords) : Fin 3 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  let c0_i32_1 : BitVec 32 := 0#32
  ![v0.toNat, c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2048x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S2048x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S8x8x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== Reference3Ideal.lean ====
abbrev S32x1x4x64x128 : Shape := ⟨5, ![32, 1, 4, 64, 128]⟩
abbrev S32x1x4x64x64 : Shape := ⟨5, ![32, 1, 4, 64, 64]⟩
abbrev S32x1x4 : Shape := ⟨3, ![32, 1, 4]⟩
abbrev S2048x512 : Shape := ⟨2, ![2048, 512]⟩
abbrev S128 : Shape := ⟨1, ![128]⟩
abbrev S2048x1024 : Shape := ⟨2, ![2048, 1024]⟩
abbrev S32x1x4x128x128 : Shape := ⟨5, ![32, 1, 4, 128, 128]⟩
abbrev S_ : Shape := ⟨0, ![]⟩
abbrev S1x4x128x128 : Shape := ⟨4, ![1, 4, 128, 128]⟩
abbrev S32x1x64x4x128 : Shape := ⟨5, ![32, 1, 64, 4, 128]⟩
abbrev S1x1x4x128x128 : Shape := ⟨5, ![1, 1, 4, 128, 128]⟩
abbrev S1x1x4x64x128 : Shape := ⟨5, ![1, 1, 4, 64, 128]⟩
abbrev S1x4x64x128 : Shape := ⟨4, ![1, 4, 64, 128]⟩
abbrev S1x1x4x64x64 : Shape := ⟨5, ![1, 1, 4, 64, 64]⟩
abbrev S1x4x64x64 : Shape := ⟨4, ![1, 4, 64, 64]⟩
abbrev S1x1x4 : Shape := ⟨3, ![1, 1, 4]⟩
abbrev S1x4 : Shape := ⟨2, ![1, 4]⟩
abbrev S1x4x1x1 : Shape := ⟨4, ![1, 4, 1, 1]⟩
abbrev S1x4x64 : Shape := ⟨3, ![1, 4, 64]⟩
abbrev S1x4x64x1 : Shape := ⟨4, ![1, 4, 64, 1]⟩
abbrev S1x1x1x128 : Shape := ⟨4, ![1, 1, 1, 128]⟩
abbrev S1x128 : Shape := ⟨2, ![1, 128]⟩
abbrev S4x64 : Shape := ⟨2, ![4, 64]⟩
abbrev S1x4x128x64 : Shape := ⟨4, ![1, 4, 128, 64]⟩
abbrev S4 : Shape := ⟨1, ![4]⟩
abbrev S32x1x4x1 : Shape := ⟨4, ![32, 1, 4, 1]⟩
abbrev S32x8x4x128 : Shape := ⟨4, ![32, 8, 4, 128]⟩
abbrev S32x8x512 : Shape := ⟨3, ![32, 8, 512]⟩

abbrev nBuf : Space → Nat
  | .hbm => 265
  | .vmem => 0
  | .smem => 0
  | _ => 0

abbrev hbmTy0_0 (i : Nat) : BufTy := match i % 128 with
  | 0 => ⟨S32x1x4x64x128, .f32⟩
  | 1 => ⟨S32x1x4x64x128, .f32⟩
  | 2 => ⟨S32x1x4x64x128, .f32⟩
  | 3 => ⟨S32x1x4x64x64, .f32⟩
  | 4 => ⟨S32x1x4x64x128, .f32⟩
  | 5 => ⟨S32x1x4, .f32⟩
  | 6 => ⟨S2048x512, .f32⟩
  | 7 => ⟨S128, .f32⟩
  | 8 => ⟨S2048x1024, .f32⟩
  | 9 => ⟨S32x1x4x128x128, .f32⟩
  | 10 => ⟨S_, .f32⟩
  | 11 => ⟨S1x4x128x128, .f32⟩
  | 12 => ⟨S_, .f32⟩
  | 13 => ⟨S128, .f32⟩
  | 14 => ⟨S32x1x64x4x128, .f32⟩
  | 15 => ⟨S32x1x4x64x128, .f32⟩
  | 16 => ⟨S2048x512, .f32⟩
  | 17 => ⟨S32x1x64x4x128, .f32⟩
  | 18 => ⟨S32x1x4x64x128, .f32⟩
  | 19 => ⟨S_, .f32⟩
  | 20 => ⟨S32x1x4x64x128, .f32⟩
  | 21 => ⟨S_, .f32⟩
  | 22 => ⟨S32x1x4x64x128, .f32⟩
  | 23 => ⟨S_, .f32⟩
  | 24 => ⟨S32x1x4x64x128, .f32⟩
  | 25 => ⟨S_, .f32⟩
  | 26 => ⟨S32x1x4x64x128, .f32⟩
  | 27 => ⟨S_, .f32⟩
  | 28 => ⟨S32x1x4x64x128, .f32⟩
  | 29 => ⟨S_, .f32⟩
  | 30 => ⟨S32x1x4, .f32⟩
  | 31 => ⟨S_, .i32⟩
  | 32 => ⟨S32x1x4x128x128, .f32⟩
  | 33 => ⟨S32x1x4x64x128, .f32⟩
  | 34 => ⟨S32x1x4x64x128, .f32⟩
  | 35 => ⟨S32x1x4x64x128, .f32⟩
  | 36 => ⟨S32x1x4x64x64, .f32⟩
  | 37 => ⟨S32x1x4x64x128, .f32⟩
  | 38 => ⟨S32x1x4, .f32⟩
  | 39 => ⟨S32x1x4x64x128, .f32⟩
  | 40 => ⟨S32x1x4x64x128, .f32⟩
  | 41 => ⟨S128, .f32⟩
  | 42 => ⟨S_, .i32⟩
  | 43 => ⟨S1x4x128x128, .f32⟩
  | 44 => ⟨S128, .f32⟩
  | 45 => ⟨S32x1x4x64x128, .f32⟩
  | 46 => ⟨S32x1x4x64x128, .f32⟩
  | 47 => ⟨S32x1x4x64x128, .f32⟩
  | 48 => ⟨S32x1x4x64x128, .f32⟩
  | 49 => ⟨S32x1x4x64x128, .f32⟩
  | 50 => ⟨S32x1x4, .f32⟩
  | 51 => ⟨S_, .i32⟩
  | 52 => ⟨S_, .i1⟩
  | 53 => ⟨S_, .i32⟩
  | 54 => ⟨S_, .i32⟩
  | 55 => ⟨S_, .i32⟩
  | 56 => ⟨S_, .i32⟩
  | 57 => ⟨S_, .i32⟩
  | 58 => ⟨S_, .i32⟩
  | 59 => ⟨S_, .i32⟩
  | 60 => ⟨S_, .i32⟩
  | 61 => ⟨S1x1x4x128x128, .f32⟩
  | 62 => ⟨S1x4x128x128, .f32⟩
  | 63 => ⟨S_, .i32⟩
  | 64 => ⟨S_, .i32⟩
  | 65 => ⟨S_, .i32⟩
  | 66 => ⟨S_, .i32⟩
  | 67 => ⟨S1x1x4x64x128, .f32⟩
  | 68 => ⟨S1x4x64x128, .f32⟩
  | 69 => ⟨S_, .i32⟩
  | 70 => ⟨S_, .i32⟩
  | 71 => ⟨S_, .i32⟩
  | 72 => ⟨S_, .i32⟩
  | 73 => ⟨S1x1x4x64x128, .f32⟩
  | 74 => ⟨S1x4x64x128, .f32⟩
  | 75 => ⟨S_, .i32⟩
  | 76 => ⟨S_, .i32⟩
  | 77 => ⟨S_, .i32⟩
  | 78 => ⟨S_, .i32⟩
  | 79 => ⟨S1x1x4x64x128, .f32⟩
  | 80 => ⟨S1x4x64x128, .f32⟩
  | 81 => ⟨S_, .i32⟩
  | 82 => ⟨S_, .i32⟩
  | 83 => ⟨S_, .i32⟩
  | 84 => ⟨S_, .i32⟩
  | 85 => ⟨S1x1x4x64x64, .f32⟩
  | 86 => ⟨S1x4x64x64, .f32⟩
  | 87 => ⟨S_, .i32⟩
  | 88 => ⟨S_, .i32⟩
  | 89 => ⟨S_, .i32⟩
  | 90 => ⟨S_, .i32⟩
  | 91 => ⟨S1x1x4x64x128, .f32⟩
  | 92 => ⟨S1x4x64x128, .f32⟩
  | 93 => ⟨S_, .i32⟩
  | 94 => ⟨S_, .i32⟩
  | 95 => ⟨S1x1x4, .f32⟩
  | 96 => ⟨S1x4, .f32⟩
  | 97 => ⟨S_, .i32⟩
  | 98 => ⟨S_, .i32⟩
  | 99 => ⟨S_, .i32⟩
  | 100 => ⟨S_, .i32⟩
  | 101 => ⟨S1x1x4x64x128, .f32⟩
  | 102 => ⟨S1x4x64x128, .f32⟩
  | 103 => ⟨S_, .i32⟩
  | 104 => ⟨S_, .i32⟩
  | 105 => ⟨S_, .i32⟩
  | 106 => ⟨S_, .i32⟩
  | 107 => ⟨S1x1x4x64x128, .f32⟩
  | 108 => ⟨S1x4x64x128, .f32⟩
  | 109 => ⟨S1x4x64x128, .f32⟩
  | 110 => ⟨S1x4x64x128, .f32⟩
  | 111 => ⟨S1x4x64x128, .f32⟩
  | 112 => ⟨S1x4x64x128, .f32⟩
  | 113 => ⟨S1x4x64x128, .f32⟩
  | 114 => ⟨S1x4, .f32⟩
  | 115 => ⟨S1x4x1x1, .f32⟩
  | 116 => ⟨S1x4x128x128, .f32⟩
  | 117 => ⟨S1x4x128x128, .f32⟩
  | 118 => ⟨S1x4x128x128, .f32⟩
  | 119 => ⟨S1x4x128x128, .f32⟩
  | 120 => ⟨S1x4x64x128, .f32⟩
  | 121 => ⟨S_, .f32⟩
  | 122 => ⟨S1x4x64, .f32⟩
  | 123 => ⟨S1x4x64x1, .f32⟩
  | 124 => ⟨S_, .f32⟩
  | 125 => ⟨S1x4x64x1, .f32⟩
  | 126 => ⟨S1x4x64x1, .f32⟩
  | 127 => ⟨S_, .f32⟩
  | _ => ⟨S32x1x4x64x128, .f32⟩

abbrev hbmTy0_1 (i : Nat) : BufTy := match i % 128 with
  | 0 => ⟨S1x4x64x1, .f32⟩
  | 1 => ⟨S1x4x64x1, .f32⟩
  | 2 => ⟨S1x4x64x1, .f32⟩
  | 3 => ⟨S1x4x64x1, .f32⟩
  | 4 => ⟨S_, .f32⟩
  | 5 => ⟨S1x4x64x1, .f32⟩
  | 6 => ⟨S1x4x64x1, .f32⟩
  | 7 => ⟨S1x4x64x128, .f32⟩
  | 8 => ⟨S1x4x64x128, .f32⟩
  | 9 => ⟨S1x1x1x128, .f32⟩
  | 10 => ⟨S1x4x64x128, .f32⟩
  | 11 => ⟨S1x4x64x128, .f32⟩
  | 12 => ⟨S1x4x64x128, .f32⟩
  | 13 => ⟨S1x4x64x128, .f32⟩
  | 14 => ⟨S_, .f32⟩
  | 15 => ⟨S1x4x64x128, .f32⟩
  | 16 => ⟨S1x4x64x128, .f32⟩
  | 17 => ⟨S_, .f32⟩
  | 18 => ⟨S1x4x64x128, .f32⟩
  | 19 => ⟨S1x4x64x128, .f32⟩
  | 20 => ⟨S_, .f32⟩
  | 21 => ⟨S1x4x64x128, .f32⟩
  | 22 => ⟨S1x4x64x128, .f32⟩
  | 23 => ⟨S1x4x64x128, .f32⟩
  | 24 => ⟨S1x4x64x128, .f32⟩
  | 25 => ⟨S1x4x64x128, .f32⟩
  | 26 => ⟨S1x4x64x128, .f32⟩
  | 27 => ⟨S1x4x64x128, .f32⟩
  | 28 => ⟨S1x4x64x128, .f32⟩
  | 29 => ⟨S1x4x64x128, .f32⟩
  | 30 => ⟨S1x4x64x128, .f32⟩
  | 31 => ⟨S1x4x64x128, .f32⟩
  | 32 => ⟨S1x4x64x128, .f32⟩
  | 33 => ⟨S_, .f32⟩
  | 34 => ⟨S1x128, .f32⟩
  | 35 => ⟨S1x1x1x128, .f32⟩
  | 36 => ⟨S1x4x64x128, .f32⟩
  | 37 => ⟨S1x4x64x128, .f32⟩
  | 38 => ⟨S_, .f32⟩
  | 39 => ⟨S128, .f32⟩
  | 40 => ⟨S1x4x64x128, .f32⟩
  | 41 => ⟨S_, .f32⟩
  | 42 => ⟨S1x4x64, .f32⟩
  | 43 => ⟨S1x4x64x1, .f32⟩
  | 44 => ⟨S1x4x64x128, .f32⟩
  | 45 => ⟨S1x4x64x128, .f32⟩
  | 46 => ⟨S1x4x64x1, .f32⟩
  | 47 => ⟨S_, .f32⟩
  | 48 => ⟨S1x4x64x1, .f32⟩
  | 49 => ⟨S1x4x64x1, .f32⟩
  | 50 => ⟨S_, .f32⟩
  | 51 => ⟨S4x64, .f32⟩
  | 52 => ⟨S1x4x64, .f32⟩
  | 53 => ⟨S1x4x64x128, .f32⟩
  | 54 => ⟨S1x4x64x128, .f32⟩
  | 55 => ⟨S1x4x64x128, .f32⟩
  | 56 => ⟨S1x4x64x128, .f32⟩
  | 57 => ⟨S1x4x64x128, .f32⟩
  | 58 => ⟨S1x4x128x64, .f32⟩
  | 59 => ⟨S1x4x64x128, .f32⟩
  | 60 => ⟨S1x4x128x64, .f32⟩
  | 61 => ⟨S1x4x64x128, .f32⟩
  | 62 => ⟨S1x4x128x128, .f32⟩
  | 63 => ⟨S1x4x128x128, .f32⟩
  | 64 => ⟨S1x4x128x128, .f32⟩
  | 65 => ⟨S_, .f32⟩
  | 66 => ⟨S1x4, .f32⟩
  | 67 => ⟨S1x4x1x1, .f32⟩
  | 68 => ⟨S_, .f32⟩
  | 69 => ⟨S4, .f32⟩
  | 70 => ⟨S1x4, .f32⟩
  | 71 => ⟨S1x4, .f32⟩
  | 72 => ⟨S1x4x128x64, .f32⟩
  | 73 => ⟨S1x4x64x128, .f32⟩
  | 74 => ⟨S1x4x64x128, .f32⟩
  | 75 => ⟨S1x4x64x64, .f32⟩
  | 76 => ⟨S1x4x128x128, .f32⟩
  | 77 => ⟨S1x4x128x128, .f32⟩
  | 78 => ⟨S1x4x128x128, .f32⟩
  | 79 => ⟨S1x4x64x128, .f32⟩
  | 80 => ⟨S1x4x64x128, .f32⟩
  | 81 => ⟨S1x4x128x128, .f32⟩
  | 82 => ⟨S1x4x128x128, .f32⟩
  | 83 => ⟨S1x4x128x128, .f32⟩
  | 84 => ⟨S1x4x64x128, .f32⟩
  | 85 => ⟨S128, .f32⟩
  | 86 => ⟨S1x1x4x64x128, .f32⟩
  | 87 => ⟨S_, .i32⟩
  | 88 => ⟨S_, .i32⟩
  | 89 => ⟨S_, .i32⟩
  | 90 => ⟨S_, .i32⟩
  | 91 => ⟨S32x1x4x64x128, .f32⟩
  | 92 => ⟨S1x1x4x64x128, .f32⟩
  | 93 => ⟨S_, .i32⟩
  | 94 => ⟨S_, .i32⟩
  | 95 => ⟨S_, .i32⟩
  | 96 => ⟨S_, .i32⟩
  | 97 => ⟨S32x1x4x64x128, .f32⟩
  | 98 => ⟨S1x1x4x64x128, .f32⟩
  | 99 => ⟨S_, .i32⟩
  | 100 => ⟨S_, .i32⟩
  | 101 => ⟨S_, .i32⟩
  | 102 => ⟨S_, .i32⟩
  | 103 => ⟨S32x1x4x64x128, .f32⟩
  | 104 => ⟨S1x1x4x64x128, .f32⟩
  | 105 => ⟨S_, .i32⟩
  | 106 => ⟨S_, .i32⟩
  | 107 => ⟨S_, .i32⟩
  | 108 => ⟨S_, .i32⟩
  | 109 => ⟨S32x1x4x64x128, .f32⟩
  | 110 => ⟨S1x1x4x64x128, .f32⟩
  | 111 => ⟨S_, .i32⟩
  | 112 => ⟨S_, .i32⟩
  | 113 => ⟨S_, .i32⟩
  | 114 => ⟨S_, .i32⟩
  | 115 => ⟨S32x1x4x64x128, .f32⟩
  | 116 => ⟨S1x1x4, .f32⟩
  | 117 => ⟨S_, .i32⟩
  | 118 => ⟨S_, .i32⟩
  | 119 => ⟨S32x1x4, .f32⟩
  | 120 => ⟨S_, .i32⟩
  | 121 => ⟨S_, .i32⟩
  | 122 => ⟨S32x1x4x1, .f32⟩
  | 123 => ⟨S32x8x4x128, .f32⟩
  | 124 => ⟨S32x8x512, .f32⟩
  | 125 => ⟨S32x1x64x4x128, .f32⟩
  | 126 => ⟨S2048x512, .f32⟩
  | 127 => ⟨S2048x512, .bf16⟩
  | _ => ⟨S32x1x4x64x128, .f32⟩

abbrev hbmTy0_2 (i : Nat) : BufTy := match i % 128 with
  | 0 => ⟨S1x128, .f32⟩
  | 1 => ⟨S32x1x64x4x128, .f32⟩
  | 2 => ⟨S2048x512, .f32⟩
  | 3 => ⟨S32x1x64x4x128, .f32⟩
  | 4 => ⟨S2048x512, .f32⟩
  | 5 => ⟨S32x1x64x4x128, .f32⟩
  | 6 => ⟨S2048x512, .f32⟩
  | 7 => ⟨S32x1x64x4x128, .f32⟩
  | 8 => ⟨S2048x512, .f32⟩
  | _ => ⟨S32x1x4x64x128, .f32⟩

abbrev hbmTy (i : Nat) : BufTy := match i / 128 with
  | 0 => hbmTy0_0 i
  | 1 => hbmTy0_1 i
  | 2 => hbmTy0_2 i
  | _ => ⟨S32x1x4x64x128, .f32⟩

abbrev bufTy : (tb : Table) → Fin (tcTables nBuf tb) → BufTy
  | .hbm, ⟨i, _⟩ => hbmTy i
  | _, _ => ⟨S32x1x4x64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_cst_2 : Ref sig .tc := ⟨.hbm, 21, rfl⟩
abbrev main_v8 : Ref sig .tc := ⟨.hbm, 22, rfl⟩
abbrev main_cst_3 : Ref sig .tc := ⟨.hbm, 23, rfl⟩
abbrev main_v9 : Ref sig .tc := ⟨.hbm, 24, rfl⟩
abbrev main_cst_4 : Ref sig .tc := ⟨.hbm, 25, rfl⟩
abbrev main_v10 : Ref sig .tc := ⟨.hbm, 26, rfl⟩
abbrev main_cst_5 : Ref sig .tc := ⟨.hbm, 27, rfl⟩
abbrev main_v11 : Ref sig .tc := ⟨.hbm, 28, rfl⟩
abbrev main_cst_6 : Ref sig .tc := ⟨.hbm, 29, rfl⟩
abbrev main_v12 : Ref sig .tc := ⟨.hbm, 30, rfl⟩
abbrev main_c : Ref sig .tc := ⟨.hbm, 31, rfl⟩
abbrev main_v13_0 : Ref sig .tc := ⟨.hbm, 32, rfl⟩
abbrev main_v13_1 : Ref sig .tc := ⟨.hbm, 33, rfl⟩
abbrev main_v13_2 : Ref sig .tc := ⟨.hbm, 34, rfl⟩
abbrev main_v13_3 : Ref sig .tc := ⟨.hbm, 35, rfl⟩
abbrev main_v13_4 : Ref sig .tc := ⟨.hbm, 36, rfl⟩
abbrev main_v13_5 : Ref sig .tc := ⟨.hbm, 37, rfl⟩
abbrev main_v13_6 : Ref sig .tc := ⟨.hbm, 38, rfl⟩
abbrev main_v13_7 : Ref sig .tc := ⟨.hbm, 39, rfl⟩
abbrev main_v13_8 : Ref sig .tc := ⟨.hbm, 40, rfl⟩
abbrev main_v13_9 : Ref sig .tc := ⟨.hbm, 41, rfl⟩
abbrev main_v13_10 : Ref sig .tc := ⟨.hbm, 42, rfl⟩
abbrev main_v13_11 : Ref sig .tc := ⟨.hbm, 43, rfl⟩
abbrev main_v13_12 : Ref sig .tc := ⟨.hbm, 44, rfl⟩
abbrev main_v13_13 : Ref sig .tc := ⟨.hbm, 45, rfl⟩
abbrev main_v13_14 : Ref sig .tc := ⟨.hbm, 46, rfl⟩
abbrev main_v13_15 : Ref sig .tc := ⟨.hbm, 47, rfl⟩
abbrev main_v13_16 : Ref sig .tc := ⟨.hbm, 48, rfl⟩
abbrev main_v13_17 : Ref sig .tc := ⟨.hbm, 49, rfl⟩
abbrev main_v13_18 : Ref sig .tc := ⟨.hbm, 50, rfl⟩
abbrev main_while0c_c_25 : Ref sig .tc := ⟨.hbm, 51, rfl⟩
abbrev main_while0c_v29 : Ref sig .tc := ⟨.hbm, 52, rfl⟩
abbrev main_while0b_c_25 : Ref sig .tc := ⟨.hbm, 53, rfl⟩
abbrev main_while0b_v29 : Ref sig .tc := ⟨.hbm, 54, rfl⟩
abbrev main_while0b_c_26 : Ref sig .tc := ⟨.hbm, 55, rfl⟩
abbrev main_while0b_v30 : Ref sig .tc := ⟨.hbm, 56, rfl⟩
abbrev main_while0b_call0_c : Ref sig .tc := ⟨.hbm, 57, rfl⟩
abbrev main_while0b_call0_c_0 : Ref sig .tc := ⟨.hbm, 58, rfl⟩
abbrev main_while0b_call0_c_1 : Ref sig .tc := ⟨.hbm, 59, rfl⟩
abbrev main_while0b_call0_c_2 : Ref sig .tc := ⟨.hbm, 60, rfl⟩
abbrev main_while0b_call0_v0 : Ref sig .tc := ⟨.hbm, 61, rfl⟩
abbrev main_while0b_v31 : Ref sig .tc := ⟨.hbm, 62, rfl⟩
abbrev main_while0b_call1_c : Ref sig .tc := ⟨.hbm, 63, rfl⟩
abbrev main_while0b_call1_c_0 : Ref sig .tc := ⟨.hbm, 64, rfl⟩
abbrev main_while0b_call1_c_1 : Ref sig .tc := ⟨.hbm, 65, rfl⟩
abbrev main_while0b_call1_c_2 : Ref sig .tc := ⟨.hbm, 66, rfl⟩
abbrev main_while0b_call1_v0 : Ref sig .tc := ⟨.hbm, 67, rfl⟩
abbrev main_while0b_v32 : Ref sig .tc := ⟨.hbm, 68, rfl⟩
abbrev main_while0b_call2_c : Ref sig .tc := ⟨.hbm, 69, rfl⟩
abbrev main_while0b_call2_c_0 : Ref sig .tc := ⟨.hbm, 70, rfl⟩
abbrev main_while0b_call2_c_1 : Ref sig .tc := ⟨.hbm, 71, rfl⟩
abbrev main_while0b_call2_c_2 : Ref sig .tc := ⟨.hbm, 72, rfl⟩
abbrev main_while0b_call2_v0 : Ref sig .tc := ⟨.hbm, 73, rfl⟩
abbrev main_while0b_v33 : Ref sig .tc := ⟨.hbm, 74, rfl⟩
abbrev main_while0b_call3_c : Ref sig .tc := ⟨.hbm, 75, rfl⟩
abbrev main_while0b_call3_c_0 : Ref sig .tc := ⟨.hbm, 76, rfl⟩
abbrev main_while0b_call3_c_1 : Ref sig .tc := ⟨.hbm, 77, rfl⟩
abbrev main_while0b_call3_c_2 : Ref sig .tc := ⟨.hbm, 78, rfl⟩
abbrev main_while0b_call3_v0 : Ref sig .tc := ⟨.hbm, 79, rfl⟩
abbrev main_while0b_v34 : Ref sig .tc := ⟨.hbm, 80, rfl⟩
abbrev main_while0b_call4_c : Ref sig .tc := ⟨.hbm, 81, rfl⟩
abbrev main_while0b_call4_c_0 : Ref sig .tc := ⟨.hbm, 82, rfl⟩
abbrev main_while0b_call4_c_1 : Ref sig .tc := ⟨.hbm, 83, rfl⟩
abbrev main_while0b_call4_c_2 : Ref sig .tc := ⟨.hbm, 84, rfl⟩
abbrev main_while0b_call4_v0 : Ref sig .tc := ⟨.hbm, 85, rfl⟩
abbrev main_while0b_v35 : Ref sig .tc := ⟨.hbm, 86, rfl⟩
abbrev main_while0b_call5_c : Ref sig .tc := ⟨.hbm, 87, rfl⟩
abbrev main_while0b_call5_c_0 : Ref sig .tc := ⟨.hbm, 88, rfl⟩
abbrev main_while0b_call5_c_1 : Ref sig .tc := ⟨.hbm, 89, rfl⟩
abbrev main_while0b_call5_c_2 : Ref sig .tc := ⟨.hbm, 90, rfl⟩
abbrev main_while0b_call5_v0 : Ref sig .tc := ⟨.hbm, 91, rfl⟩
abbrev main_while0b_v36 : Ref sig .tc := ⟨.hbm, 92, rfl⟩
abbrev main_while0b_call6_c : Ref sig .tc := ⟨.hbm, 93, rfl⟩
abbrev main_while0b_call6_c_0 : Ref sig .tc := ⟨.hbm, 94, rfl⟩
abbrev main_while0b_call6_v0 : Ref sig .tc := ⟨.hbm, 95, rfl⟩
abbrev main_while0b_v37 : Ref sig .tc := ⟨.hbm, 96, rfl⟩
abbrev main_while0b_call7_c : Ref sig .tc := ⟨.hbm, 97, rfl⟩
abbrev main_while0b_call7_c_0 : Ref sig .tc := ⟨.hbm, 98, rfl⟩
abbrev main_while0b_call7_c_1 : Ref sig .tc := ⟨.hbm, 99, rfl⟩
abbrev main_while0b_call7_c_2 : Ref sig .tc := ⟨.hbm, 100, rfl⟩
abbrev main_while0b_call7_v0 : Ref sig .tc := ⟨.hbm, 101, rfl⟩
abbrev main_while0b_v38 : Ref sig .tc := ⟨.hbm, 102, rfl⟩
abbrev main_while0b_call8_c : Ref sig .tc := ⟨.hbm, 103, rfl⟩
abbrev main_while0b_call8_c_0 : Ref sig .tc := ⟨.hbm, 104, rfl⟩
abbrev main_while0b_call8_c_1 : Ref sig .tc := ⟨.hbm, 105, rfl⟩
abbrev main_while0b_call8_c_2 : Ref sig .tc := ⟨.hbm, 106, rfl⟩
abbrev main_while0b_call8_v0 : Ref sig .tc := ⟨.hbm, 107, rfl⟩
abbrev main_while0b_v39 : Ref sig .tc := ⟨.hbm, 108, rfl⟩
abbrev main_while0b_v40 : Ref sig .tc := ⟨.hbm, 109, rfl⟩
abbrev main_while0b_v41 : Ref sig .tc := ⟨.hbm, 110, rfl⟩
abbrev main_while0b_v42 : Ref sig .tc := ⟨.hbm, 111, rfl⟩
abbrev main_while0b_v43 : Ref sig .tc := ⟨.hbm, 112, rfl⟩
abbrev main_while0b_v44 : Ref sig .tc := ⟨.hbm, 113, rfl⟩
abbrev main_while0b_v45 : Ref sig .tc := ⟨.hbm, 114, rfl⟩
abbrev main_while0b_v46 : Ref sig .tc := ⟨.hbm, 115, rfl⟩
abbrev main_while0b_v47 : Ref sig .tc := ⟨.hbm, 116, rfl⟩
abbrev main_while0b_v48 : Ref sig .tc := ⟨.hbm, 117, rfl⟩
abbrev main_while0b_v49 : Ref sig .tc := ⟨.hbm, 118, rfl⟩
abbrev main_while0b_v50 : Ref sig .tc := ⟨.hbm, 119, rfl⟩
abbrev main_while0b_v51 : Ref sig .tc := ⟨.hbm, 120, rfl⟩
abbrev main_while0b_cst_27 : Ref sig .tc := ⟨.hbm, 121, rfl⟩
abbrev main_while0b_v52 : Ref sig .tc := ⟨.hbm, 122, rfl⟩
abbrev main_while0b_v53 : Ref sig .tc := ⟨.hbm, 123, rfl⟩
abbrev main_while0b_cst_28 : Ref sig .tc := ⟨.hbm, 124, rfl⟩
abbrev main_while0b_v54 : Ref sig .tc := ⟨.hbm, 125, rfl⟩
abbrev main_while0b_v55 : Ref sig .tc := ⟨.hbm, 126, rfl⟩
abbrev main_while0b_cst_29 : Ref sig .tc := ⟨.hbm, 127, rfl⟩
abbrev main_while0b_v56 : Ref sig .tc := ⟨.hbm, 128, rfl⟩
abbrev main_while0b_v57 : Ref sig .tc := ⟨.hbm, 129, rfl⟩
abbrev main_while0b_v58 : Ref sig .tc := ⟨.hbm, 130, rfl⟩
abbrev main_while0b_v59 : Ref sig .tc := ⟨.hbm, 131, rfl⟩
abbrev main_while0b_cst_30 : Ref sig .tc := ⟨.hbm, 132, rfl⟩
abbrev main_while0b_v60 : Ref sig .tc := ⟨.hbm, 133, rfl⟩
abbrev main_while0b_v61 : Ref sig .tc := ⟨.hbm, 134, rfl⟩
abbrev main_while0b_v62 : Ref sig .tc := ⟨.hbm, 135, rfl⟩
abbrev main_while0b_v63 : Ref sig .tc := ⟨.hbm, 136, rfl⟩
abbrev main_while0b_v64 : Ref sig .tc := ⟨.hbm, 137, rfl⟩
abbrev main_while0b_v65 : Ref sig .tc := ⟨.hbm, 138, rfl⟩
abbrev main_while0b_v66 : Ref sig .tc := ⟨.hbm, 139, rfl⟩
abbrev main_while0b_call9_v0 : Ref sig .tc := ⟨.hbm, 140, rfl⟩
abbrev main_while0b_call9_v1 : Ref sig .tc := ⟨.hbm, 141, rfl⟩
abbrev main_while0b_call9_cst : Ref sig .tc := ⟨.hbm, 142, rfl⟩
abbrev main_while0b_call9_v2 : Ref sig .tc := ⟨.hbm, 143, rfl⟩
abbrev main_while0b_call9_v3 : Ref sig .tc := ⟨.hbm, 144, rfl⟩
abbrev main_while0b_call9_cst_0 : Ref sig .tc := ⟨.hbm, 145, rfl⟩
abbrev main_while0b_call9_v4 : Ref sig .tc := ⟨.hbm, 146, rfl⟩
abbrev main_while0b_v67_2 : Ref sig .tc := ⟨.hbm, 147, rfl⟩
abbrev main_while0b_call9_cst_1 : Ref sig .tc := ⟨.hbm, 148, rfl⟩
abbrev main_while0b_call9_v6 : Ref sig .tc := ⟨.hbm, 149, rfl⟩
abbrev main_while0b_call9_v7 : Ref sig .tc := ⟨.hbm, 150, rfl⟩
abbrev main_while0b_v67_1 : Ref sig .tc := ⟨.hbm, 151, rfl⟩
abbrev main_while0b_v67_0 : Ref sig .tc := ⟨.hbm, 152, rfl⟩
abbrev main_while0b_v68 : Ref sig .tc := ⟨.hbm, 153, rfl⟩
abbrev main_while0b_v69 : Ref sig .tc := ⟨.hbm, 154, rfl⟩
abbrev main_while0b_v70 : Ref sig .tc := ⟨.hbm, 155, rfl⟩
abbrev main_while0b_call10_v0 : Ref sig .tc := ⟨.hbm, 156, rfl⟩
abbrev main_while0b_call10_v1 : Ref sig .tc := ⟨.hbm, 157, rfl⟩
abbrev main_while0b_call10_v2 : Ref sig .tc := ⟨.hbm, 158, rfl⟩
abbrev main_while0b_v71 : Ref sig .tc := ⟨.hbm, 159, rfl⟩
abbrev main_while0b_v72 : Ref sig .tc := ⟨.hbm, 160, rfl⟩
abbrev main_while0b_cst_31 : Ref sig .tc := ⟨.hbm, 161, rfl⟩
abbrev main_while0b_v73 : Ref sig .tc := ⟨.hbm, 162, rfl⟩
abbrev main_while0b_v74 : Ref sig .tc := ⟨.hbm, 163, rfl⟩
abbrev main_while0b_v75 : Ref sig .tc := ⟨.hbm, 164, rfl⟩
abbrev main_while0b_v76 : Ref sig .tc := ⟨.hbm, 165, rfl⟩
abbrev main_while0b_cst_32 : Ref sig .tc := ⟨.hbm, 166, rfl⟩
abbrev main_while0b_v77 : Ref sig .tc := ⟨.hbm, 167, rfl⟩
abbrev main_while0b_v78 : Ref sig .tc := ⟨.hbm, 168, rfl⟩
abbrev main_while0b_cst_33 : Ref sig .tc := ⟨.hbm, 169, rfl⟩
abbrev main_while0b_v79 : Ref sig .tc := ⟨.hbm, 170, rfl⟩
abbrev main_while0b_v80 : Ref sig .tc := ⟨.hbm, 171, rfl⟩
abbrev main_while0b_v81 : Ref sig .tc := ⟨.hbm, 172, rfl⟩
abbrev main_while0b_v82 : Ref sig .tc := ⟨.hbm, 173, rfl⟩
abbrev main_while0b_v83 : Ref sig .tc := ⟨.hbm, 174, rfl⟩
abbrev main_while0b_cst_34 : Ref sig .tc := ⟨.hbm, 175, rfl⟩
abbrev main_while0b_v84 : Ref sig .tc := ⟨.hbm, 176, rfl⟩
abbrev main_while0b_v85 : Ref sig .tc := ⟨.hbm, 177, rfl⟩
abbrev main_while0b_cst_35 : Ref sig .tc := ⟨.hbm, 178, rfl⟩
abbrev main_while0b_v86 : Ref sig .tc := ⟨.hbm, 179, rfl⟩
abbrev main_while0b_v87 : Ref sig .tc := ⟨.hbm, 180, rfl⟩
abbrev main_while0b_v88 : Ref sig .tc := ⟨.hbm, 181, rfl⟩
abbrev main_while0b_v89 : Ref sig .tc := ⟨.hbm, 182, rfl⟩
abbrev main_while0b_v90 : Ref sig .tc := ⟨.hbm, 183, rfl⟩
abbrev main_while0b_v91 : Ref sig .tc := ⟨.hbm, 184, rfl⟩
abbrev main_while0b_v92 : Ref sig .tc := ⟨.hbm, 185, rfl⟩
abbrev main_while0b_v93 : Ref sig .tc := ⟨.hbm, 186, rfl⟩
abbrev main_while0b_v94 : Ref sig .tc := ⟨.hbm, 187, rfl⟩
abbrev main_while0b_v95 : Ref sig .tc := ⟨.hbm, 188, rfl⟩
abbrev main_while0b_v96 : Ref sig .tc := ⟨.hbm, 189, rfl⟩
abbrev main_while0b_v97 : Ref sig .tc := ⟨.hbm, 190, rfl⟩
abbrev main_while0b_v98 : Ref sig .tc := ⟨.hbm, 191, rfl⟩
abbrev main_while0b_v99 : Ref sig .tc := ⟨.hbm, 192, rfl⟩
abbrev main_while0b_cst_36 : Ref sig .tc := ⟨.hbm, 193, rfl⟩
abbrev main_while0b_v100 : Ref sig .tc := ⟨.hbm, 194, rfl⟩
abbrev main_while0b_v101 : Ref sig .tc := ⟨.hbm, 195, rfl⟩
abbrev main_while0b_cst_37 : Ref sig .tc := ⟨.hbm, 196, rfl⟩
abbrev main_while0b_v102 : Ref sig .tc := ⟨.hbm, 197, rfl⟩
abbrev main_while0b_v103 : Ref sig .tc := ⟨.hbm, 198, rfl⟩
abbrev main_while0b_v104 : Ref sig .tc := ⟨.hbm, 199, rfl⟩
abbrev main_while0b_v105 : Ref sig .tc := ⟨.hbm, 200, rfl⟩
abbrev main_while0b_v106 : Ref sig .tc := ⟨.hbm, 201, rfl⟩
abbrev main_while0b_v107 : Ref sig .tc := ⟨.hbm, 202, rfl⟩
abbrev main_while0b_v108 : Ref sig .tc := ⟨.hbm, 203, rfl⟩
abbrev main_while0b_v109 : Ref sig .tc := ⟨.hbm, 204, rfl⟩
abbrev main_while0b_v110 : Ref sig .tc := ⟨.hbm, 205, rfl⟩
abbrev main_while0b_v111 : Ref sig .tc := ⟨.hbm, 206, rfl⟩
abbrev main_while0b_v112 : Ref sig .tc := ⟨.hbm, 207, rfl⟩
abbrev main_while0b_v113 : Ref sig .tc := ⟨.hbm, 208, rfl⟩
abbrev main_while0b_v114 : Ref sig .tc := ⟨.hbm, 209, rfl⟩
abbrev main_while0b_v115 : Ref sig .tc := ⟨.hbm, 210, rfl⟩
abbrev main_while0b_v116 : Ref sig .tc := ⟨.hbm, 211, rfl⟩
abbrev main_while0b_v117 : Ref sig .tc := ⟨.hbm, 212, rfl⟩
abbrev main_while0b_v118 : Ref sig .tc := ⟨.hbm, 213, rfl⟩
abbrev main_while0b_call11_v0 : Ref sig .tc := ⟨.hbm, 214, rfl⟩
abbrev main_while0b_call11_c : Ref sig .tc := ⟨.hbm, 215, rfl⟩
abbrev main_while0b_call11_c_0 : Ref sig .tc := ⟨.hbm, 216, rfl⟩
abbrev main_while0b_call11_c_1 : Ref sig .tc := ⟨.hbm, 217, rfl⟩
abbrev main_while0b_call11_c_2 : Ref sig .tc := ⟨.hbm, 218, rfl⟩
abbrev main_while0b_v119 : Ref sig .tc := ⟨.hbm, 219, rfl⟩
abbrev main_while0b_call12_v0 : Ref sig .tc := ⟨.hbm, 220, rfl⟩
abbrev main_while0b_call12_c : Ref sig .tc := ⟨.hbm, 221, rfl⟩
abbrev main_while0b_call12_c_0 : Ref sig .tc := ⟨.hbm, 222, rfl⟩
abbrev main_while0b_call12_c_1 : Ref sig .tc := ⟨.hbm, 223, rfl⟩
abbrev main_while0b_call12_c_2 : Ref sig .tc := ⟨.hbm, 224, rfl⟩
abbrev main_while0b_v120 : Ref sig .tc := ⟨.hbm, 225, rfl⟩
abbrev main_while0b_call13_v0 : Ref sig .tc := ⟨.hbm, 226, rfl⟩
abbrev main_while0b_call13_c : Ref sig .tc := ⟨.hbm, 227, rfl⟩
abbrev main_while0b_call13_c_0 : Ref sig .tc := ⟨.hbm, 228, rfl⟩
abbrev main_while0b_call13_c_1 : Ref sig .tc := ⟨.hbm, 229, rfl⟩
abbrev main_while0b_call13_c_2 : Ref sig .tc := ⟨.hbm, 230, rfl⟩
abbrev main_while0b_v121 : Ref sig .tc := ⟨.hbm, 231, rfl⟩
abbrev main_while0b_call14_v0 : Ref sig .tc := ⟨.hbm, 232, rfl⟩
abbrev main_while0b_call14_c : Ref sig .tc := ⟨.hbm, 233, rfl⟩
abbrev main_while0b_call14_c_0 : Ref sig .tc := ⟨.hbm, 234, rfl⟩
abbrev main_while0b_call14_c_1 : Ref sig .tc := ⟨.hbm, 235, rfl⟩
abbrev main_while0b_call14_c_2 : Ref sig .tc := ⟨.hbm, 236, rfl⟩
abbrev main_while0b_v122 : Ref sig .tc := ⟨.hbm, 237, rfl⟩
abbrev main_while0b_call15_v0 : Ref sig .tc := ⟨.hbm, 238, rfl⟩
abbrev main_while0b_call15_c : Ref sig .tc := ⟨.hbm, 239, rfl⟩
abbrev main_while0b_call15_c_0 : Ref sig .tc := ⟨.hbm, 240, rfl⟩
abbrev main_while0b_call15_c_1 : Ref sig .tc := ⟨.hbm, 241, rfl⟩
abbrev main_while0b_call15_c_2 : Ref sig .tc := ⟨.hbm, 242, rfl⟩
abbrev main_while0b_v123 : Ref sig .tc := ⟨.hbm, 243, rfl⟩
abbrev main_while0b_call16_v0 : Ref sig .tc := ⟨.hbm, 244, rfl⟩
abbrev main_while0b_call16_c : Ref sig .tc := ⟨.hbm, 245, rfl⟩
abbrev main_while0b_call16_c_0 : Ref sig .tc := ⟨.hbm, 246, rfl⟩
abbrev main_while0b_v124 : Ref sig .tc := ⟨.hbm, 247, rfl⟩
abbrev main_while0b_c_38 : Ref sig .tc := ⟨.hbm, 248, rfl⟩
abbrev main_while0b_v125 : Ref sig .tc := ⟨.hbm, 249, rfl⟩
abbrev main_v14 : Ref sig .tc := ⟨.hbm, 250, rfl⟩
abbrev main_v15 : Ref sig .tc := ⟨.hbm, 251, rfl⟩
abbrev main_v16 : Ref sig .tc := ⟨.hbm, 252, rfl⟩
abbrev main_v17 : Ref sig .tc := ⟨.hbm, 253, rfl⟩
abbrev main_v18 : Ref sig .tc := ⟨.hbm, 254, rfl⟩
abbrev main_v19 : Ref sig .tc := ⟨.hbm, 255, rfl⟩
abbrev main_v20 : Ref sig .tc := ⟨.hbm, 256, rfl⟩
abbrev main_v21 : Ref sig .tc := ⟨.hbm, 257, rfl⟩
abbrev main_v22 : Ref sig .tc := ⟨.hbm, 258, rfl⟩
abbrev main_v23 : Ref sig .tc := ⟨.hbm, 259, rfl⟩
abbrev main_v24 : Ref sig .tc := ⟨.hbm, 260, rfl⟩
abbrev main_v25 : Ref sig .tc := ⟨.hbm, 261, rfl⟩
abbrev main_v26 : Ref sig .tc := ⟨.hbm, 262, rfl⟩
abbrev main_v27 : Ref sig .tc := ⟨.hbm, 263, rfl⟩
abbrev main_v28 : Ref sig .tc := ⟨.hbm, 264, rfl⟩

abbrev nD : Nat := 1
abbrev τ : Topo := Topo.v7x

variable {F : FTy → Type} [FloatOps F]

abbrev main_while0_count : Scf.Loop 32 := ⟨0#32, 32#32, 1#32⟩
-- ==== Kernel4.lean ====
abbrev S2048x1024 : Shape := ⟨2, ![2048, 1024]⟩
abbrev S1024x5632 : Shape := ⟨2, ![1024, 5632]⟩
abbrev S3x5632 : Shape := ⟨2, ![3, 5632]⟩
abbrev S2816x1024 : Shape := ⟨2, ![2816, 1024]⟩
abbrev S1024 : Shape := ⟨1, ![1024]⟩
abbrev S3x8x704 : Shape := ⟨3, ![3, 8, 704]⟩
abbrev S8x3x704 : Shape := ⟨3, ![8, 3, 704]⟩
abbrev S5632x1024 : Shape := ⟨2, ![5632, 1024]⟩
abbrev S8x704x1024 : Shape := ⟨3, ![8, 704, 1024]⟩
abbrev S1x1024 : Shape := ⟨2, ![1, 1024]⟩
abbrev S1x128 : Shape := ⟨2, ![1, 128]⟩
abbrev S4x2048x704 : Shape := ⟨3, ![4, 2048, 704]⟩
abbrev S512x1024 : Shape := ⟨2, ![512, 1024]⟩
abbrev S16x1024 : Shape := ⟨2, ![16, 1024]⟩
abbrev S1x704x1024 : Shape := ⟨3, ![1, 704, 1024]⟩
abbrev S1x3x704 : Shape := ⟨3, ![1, 3, 704]⟩
abbrev S704x1024 : Shape := ⟨2, ![704, 1024]⟩
abbrev S1x512x704 : Shape := ⟨3, ![1, 512, 704]⟩
abbrev S528x1024 : Shape := ⟨2, ![528, 1024]⟩
abbrev S528x1 : Shape := ⟨2, ![528, 1]⟩
abbrev S528x704 : Shape := ⟨2, ![528, 704]⟩
abbrev S512x704 : Shape := ⟨2, ![512, 704]⟩
abbrev S3x704 : Shape := ⟨2, ![3, 704]⟩
abbrev S1x704 : Shape := ⟨2, ![1, 704]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 21
  | .vmem => 30
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024x5632, .f32⟩
  | .hbm, ⟨3, _⟩ => ⟨S3x5632, .f32⟩
  | .hbm, ⟨4, _⟩ => ⟨S2816x1024, .f32⟩
  | .hbm, ⟨5, _⟩ => ⟨S1024, .f32⟩
  | .hbm, ⟨6, _⟩ => ⟨S2048x1024, .f32⟩
  | .hbm, ⟨7, _⟩ => ⟨S3x8x704, .f32⟩
  | .hbm, ⟨8, _⟩ => ⟨S8x3x704, .f32⟩
  | .hbm, ⟨9, _⟩ => ⟨S2048x1024, .bf16⟩
  | .hbm, ⟨10, _⟩ => ⟨S5632x1024, .f32⟩
  | .hbm, ⟨11, _⟩ => ⟨S8x704x1024, .f32⟩
  | .hbm, ⟨12, _⟩ => ⟨S8x704x1024, .bf16⟩
  | .hbm, ⟨13, _⟩ => ⟨S2816x1024, .bf16⟩
  | .hbm, ⟨14, _⟩ => ⟨S1x1024, .f32⟩
  | .hbm, ⟨15, _⟩ => ⟨S2048x1024, .f32⟩
  | .hbm, ⟨16, _⟩ => ⟨S2048x1024, .bf16⟩
  | .hbm, ⟨17, _⟩ => ⟨S1x1024, .f32⟩
  | .hbm, ⟨18, _⟩ => ⟨S1x128, .f32⟩
  | .hbm, ⟨19, _⟩ => ⟨S4x2048x704, .bf16⟩
  | .hbm, ⟨20, _⟩ => ⟨S4x2048x704, .bf16⟩
  | .local _ .vmem, ⟨0, _⟩ => ⟨S512x1024, .bf16⟩
  | .local _ .vmem, ⟨1, _⟩ => ⟨S512x1024, .bf16⟩
  | .local _ .vmem, ⟨2, _⟩ => ⟨S16x1024, .bf16⟩
  | .local _ .vmem, ⟨3, _⟩ => ⟨S16x1024, .bf16⟩
  | .local _ .vmem, ⟨4, _⟩ => ⟨S512x1024, .f32⟩
  | .local _ .vmem, ⟨5, _⟩ => ⟨S512x1024, .f32⟩
  | .local _ .vmem, ⟨6, _⟩ => ⟨S1x704x1024, .bf16⟩
  | .local _ .vmem, ⟨7, _⟩ => ⟨S1x704x1024, .bf16⟩
  | .local _ .vmem, ⟨8, _⟩ => ⟨S1x704x1024, .bf16⟩
  | .local _ .vmem, ⟨9, _⟩ => ⟨S1x704x1024, .bf16⟩
  | .local _ .vmem, ⟨10, _⟩ => ⟨S1x3x704, .f32⟩
  | .local _ .vmem, ⟨11, _⟩ => ⟨S1x3x704, .f32⟩
  | .local _ .vmem, ⟨12, _⟩ => ⟨S1x3x704, .f32⟩
  | .local _ .vmem, ⟨13, _⟩ => ⟨S1x3x704, .f32⟩
  | .local _ .vmem, ⟨14, _⟩ => ⟨S704x1024, .bf16⟩
  | .local _ .vmem, ⟨15, _⟩ => ⟨S704x1024, .bf16⟩
  | .local _ .vmem, ⟨16, _⟩ => ⟨S1x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .bf16⟩
  | .local _ .vmem, ⟨22, _⟩ => ⟨S512x1024, .bf16⟩
  | .local _ .vmem, ⟨23, _⟩ => ⟨S1x1024, .f32⟩
  | .local _ .vmem, ⟨24, _⟩ => ⟨S1x128, .f32⟩
  | .local _ .vmem, ⟨25, _⟩ => ⟨S1x512x704, .bf16⟩
  | .local _ .vmem, ⟨26, _⟩ => ⟨S1x512x704, .bf16⟩
  | .local _ .vmem, ⟨27, _⟩ => ⟨S1x512x704, .bf16⟩
  | .local _ .vmem, ⟨28, _⟩ => ⟨S1x512x704, .bf16⟩
  | .local _ .vmem, ⟨29, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v8_2 : Ref sig .tc := ⟨.hbm, 17, rfl⟩
abbrev main_v8_3 : Ref sig .tc := ⟨.hbm, 18, rfl⟩
abbrev main_v8_4 : Ref sig .tc := ⟨.hbm, 19, rfl⟩
abbrev main_v8_5 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg13_0 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_scratch0 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem13_0 : DmaSem sig := 24
abbrev cc0_sem14_0 : DmaSem sig := 25
abbrev cc0_sem14_1 : DmaSem sig := 26
abbrev cc0_sem15_0 : DmaSem sig := 27
abbrev cc0_sem15_1 : DmaSem sig := 28

abbrev nD : Nat := 1
abbrev τ : Topo := Topo.v7x

variable {F : FTy → Type} [FloatOps F]

abbrev grid0 : Pipeline.Grid := ⟨2, ![4, 4], ![false, false]⟩

def k0_cond3 (i : grid0.Coords) : BitVec 1 :=
  let arg1 : BitVec 32 := BitVec.ofNat 32 (i 1).val
  let c3_i32_36 : BitVec 32 := 3#32
  let v94 : BitVec 1 := Scalar.cmpi .eq arg1 c3_i32_36
  let v95 : BitVec 32 := Scalar.extui v94
  let c0_i32_37 : BitVec 32 := 0#32
  let v96 : BitVec 1 := Scalar.cmpi .ne v95 c0_i32_37
  v96

def k0_cond4 (i : grid0.Coords) : BitVec 1 :=
  let arg0 : BitVec 32 := BitVec.ofNat 32 (i 0).val
  let c0_i32_58 : BitVec 32 := 0#32
  let v146 : BitVec 1 := Scalar.cmpi .eq arg0 c0_i32_58
  let v147 : BitVec 32 := Scalar.extui v146
  let c0_i32_59 : BitVec 32 := 0#32
  let v148 : BitVec 1 := Scalar.cmpi .ne v147 c0_i32_59
  v148

def k0_cond5 (i : grid0.Coords) : BitVec 1 :=
  let arg0 : BitVec 32 := BitVec.ofNat 32 (i 0).val
  let c0_i32_60 : BitVec 32 := 0#32
  let v149 : BitVec 1 := Scalar.cmpi .sgt arg0 c0_i32_60
  let v150 : BitVec 32 := Scalar.extui v149
  let c0_i32_61 : BitVec 32 := 0#32
  let v151 : BitVec 1 := Scalar.cmpi .ne v150 c0_i32_61
  v151

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  ![v0.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  let c0_i32_1 : BitVec 32 := 0#32
  ![v0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  ![v0.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  let c0_i32_1 : BitVec 32 := 0#32
  ![v0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x704x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x704x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x3x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x3x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S704x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x512x704 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x704 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== Reference4Ideal.lean ====
abbrev S2048x1024 : Shape := ⟨2, ![2048, 1024]⟩
abbrev S1024x5632 : Shape := ⟨2, ![1024, 5632]⟩
abbrev S3x5632 : Shape := ⟨2, ![3, 5632]⟩
abbrev S2816x1024 : Shape := ⟨2, ![2816, 1024]⟩
abbrev S1024 : Shape := ⟨1, ![1024]⟩
abbrev S1x2048x1024 : Shape := ⟨3, ![1, 2048, 1024]⟩
abbrev S1x2048x5632 : Shape := ⟨3, ![1, 2048, 5632]⟩
abbrev S_ : Shape := ⟨0, ![]⟩
abbrev S1x2x5632 : Shape := ⟨3, ![1, 2, 5632]⟩
abbrev S1x2050x5632 : Shape := ⟨3, ![1, 2050, 5632]⟩
abbrev S1x5632 : Shape := ⟨2, ![1, 5632]⟩
abbrev S5632 : Shape := ⟨1, ![5632]⟩
abbrev S1x1x5632 : Shape := ⟨3, ![1, 1, 5632]⟩
abbrev S1x2048x2816 : Shape := ⟨3, ![1, 2048, 2816]⟩
abbrev S1x2048 : Shape := ⟨2, ![1, 2048]⟩
abbrev S1x2048x1 : Shape := ⟨3, ![1, 2048, 1]⟩
abbrev S1x1x1024 : Shape := ⟨3, ![1, 1, 1024]⟩
abbrev S1x1024 : Shape := ⟨2, ![1, 1024]⟩
abbrev S2048 : Shape := ⟨1, ![2048]⟩
abbrev S2048x2x4x704 : Shape := ⟨4, ![2048, 2, 4, 704]⟩
abbrev S2x4x2048x704 : Shape := ⟨4, ![2, 4, 2048, 704]⟩
abbrev S1x128 : Shape := ⟨2, ![1, 128]⟩
abbrev S1x4x2048x704 : Shape := ⟨4, ![1, 4, 2048, 704]⟩
abbrev S4x2048x704 : Shape := ⟨3, ![4, 2048, 704]⟩

abbrev nBuf : Space → Nat
  | .hbm => 129
  | .vmem => 0
  | .smem => 0
  | _ => 0

abbrev hbmTy0_0 (i : Nat) : BufTy := match i % 128 with
  | 0 => ⟨S2048x1024, .f32⟩
  | 1 => ⟨S2048x1024, .f32⟩
  | 2 => ⟨S1024x5632, .f32⟩
  | 3 => ⟨S3x5632, .f32⟩
  | 4 => ⟨S2816x1024, .f32⟩
  | 5 => ⟨S1024, .f32⟩
  | 6 => ⟨S2048x1024, .f32⟩
  | 7 => ⟨S1x2048x1024, .f32⟩
  | 8 => ⟨S1x2048x5632, .f32⟩
  | 9 => ⟨S1x2048x1024, .f32⟩
  | 10 => ⟨S_, .f32⟩
  | 11 => ⟨S1x2x5632, .f32⟩
  | 12 => ⟨S1x2050x5632, .f32⟩
  | 13 => ⟨S1x2048x5632, .f32⟩
  | 14 => ⟨S1x5632, .f32⟩
  | 15 => ⟨S5632, .f32⟩
  | 16 => ⟨S1x1x5632, .f32⟩
  | 17 => ⟨S1x2048x5632, .f32⟩
  | 18 => ⟨S1x2048x5632, .f32⟩
  | 19 => ⟨S1x2048x5632, .f32⟩
  | 20 => ⟨S1x5632, .f32⟩
  | 21 => ⟨S5632, .f32⟩
  | 22 => ⟨S1x1x5632, .f32⟩
  | 23 => ⟨S1x2048x5632, .f32⟩
  | 24 => ⟨S1x2048x5632, .f32⟩
  | 25 => ⟨S1x2048x5632, .f32⟩
  | 26 => ⟨S1x2048x5632, .f32⟩
  | 27 => ⟨S1x5632, .f32⟩
  | 28 => ⟨S5632, .f32⟩
  | 29 => ⟨S1x1x5632, .f32⟩
  | 30 => ⟨S1x2048x5632, .f32⟩
  | 31 => ⟨S1x2048x5632, .f32⟩
  | 32 => ⟨S1x2048x5632, .f32⟩
  | 33 => ⟨S1x2048x2816, .f32⟩
  | 34 => ⟨S1x2048x2816, .f32⟩
  | 35 => ⟨S1x2048x2816, .f32⟩
  | 36 => ⟨S1x2048x2816, .f32⟩
  | 37 => ⟨S_, .f32⟩
  | 38 => ⟨S1x2048x2816, .f32⟩
  | 39 => ⟨S1x2048x2816, .f32⟩
  | 40 => ⟨S_, .f32⟩
  | 41 => ⟨S1x2048x2816, .f32⟩
  | 42 => ⟨S1x2048x2816, .f32⟩
  | 43 => ⟨S1x2048x2816, .f32⟩
  | 44 => ⟨S1x2048x2816, .f32⟩
  | 45 => ⟨S1x2048x1024, .f32⟩
  | 46 => ⟨S1x2048x1024, .f32⟩
  | 47 => ⟨S1x2048x1024, .f32⟩
  | 48 => ⟨S1x2048x1024, .f32⟩
  | 49 => ⟨S_, .f32⟩
  | 50 => ⟨S1x2048, .f32⟩
  | 51 => ⟨S1x2048x1, .f32⟩
  | 52 => ⟨S_, .f32⟩
  | 53 => ⟨S1x2048x1, .f32⟩
  | 54 => ⟨S1x2048x1, .f32⟩
  | 55 => ⟨S_, .f32⟩
  | 56 => ⟨S1x2048x1, .f32⟩
  | 57 => ⟨S1x2048x1, .f32⟩
  | 58 => ⟨S1x2048x1, .f32⟩
  | 59 => ⟨S1x2048x1, .f32⟩
  | 60 => ⟨S_, .f32⟩
  | 61 => ⟨S1x2048x1, .f32⟩
  | 62 => ⟨S1x2048x1, .f32⟩
  | 63 => ⟨S1x2048x1024, .f32⟩
  | 64 => ⟨S1x2048x1024, .f32⟩
  | 65 => ⟨S1x1x1024, .f32⟩
  | 66 => ⟨S1x2048x1024, .f32⟩
  | 67 => ⟨S1x2048x1024, .f32⟩
  | 68 => ⟨S1x2048x1024, .f32⟩
  | 69 => ⟨S1x2048x1024, .f32⟩
  | 70 => ⟨S_, .f32⟩
  | 71 => ⟨S1x2048x1024, .f32⟩
  | 72 => ⟨S1x2048x1024, .f32⟩
  | 73 => ⟨S_, .f32⟩
  | 74 => ⟨S1x2048, .f32⟩
  | 75 => ⟨S_, .f32⟩
  | 76 => ⟨S1x2048, .f32⟩
  | 77 => ⟨S1x2048, .f32⟩
  | 78 => ⟨S_, .f32⟩
  | 79 => ⟨S_, .f32⟩
  | 80 => ⟨S_, .f32⟩
  | 81 => ⟨S_, .f32⟩
  | 82 => ⟨S_, .f32⟩
  | 83 => ⟨S_, .f32⟩
  | 84 => ⟨S_, .f32⟩
  | 85 => ⟨S1x2048, .f32⟩
  | 86 => ⟨S_, .f32⟩
  | 87 => ⟨S1x2048, .f32⟩
  | 88 => ⟨S1x2048, .f32⟩
  | 89 => ⟨S1x2048x1024, .f32⟩
  | 90 => ⟨S1x2048x1024, .f32⟩
  | 91 => ⟨S1x2048x1024, .f32⟩
  | 92 => ⟨S_, .f32⟩
  | 93 => ⟨S1x1024, .f32⟩
  | 94 => ⟨S1x1x1024, .f32⟩
  | 95 => ⟨S1x2048x1024, .f32⟩
  | 96 => ⟨S1x2048x1024, .f32⟩
  | 97 => ⟨S_, .f32⟩
  | 98 => ⟨S1024, .f32⟩
  | 99 => ⟨S1x2048x1024, .f32⟩
  | 100 => ⟨S_, .f32⟩
  | 101 => ⟨S1x2048, .f32⟩
  | 102 => ⟨S1x2048x1, .f32⟩
  | 103 => ⟨S1x2048x1024, .f32⟩
  | 104 => ⟨S1x2048x1024, .f32⟩
  | 105 => ⟨S1x2048x1, .f32⟩
  | 106 => ⟨S_, .f32⟩
  | 107 => ⟨S1x2048x1, .f32⟩
  | 108 => ⟨S1x2048x1, .f32⟩
  | 109 => ⟨S_, .f32⟩
  | 110 => ⟨S2048, .f32⟩
  | 111 => ⟨S1x2048, .f32⟩
  | 112 => ⟨S1x2048x1024, .f32⟩
  | 113 => ⟨S1x2048x1024, .f32⟩
  | 114 => ⟨S1x2048x1024, .f32⟩
  | 115 => ⟨S1x2048x1024, .f32⟩
  | 116 => ⟨S1x2048x1024, .f32⟩
  | 117 => ⟨S2048x2x4x704, .f32⟩
  | 118 => ⟨S2x4x2048x704, .f32⟩
  | 119 => ⟨S2x4x2048x704, .bf16⟩
  | 120 => ⟨S2048x1024, .f32⟩
  | 121 => ⟨S2048x1024, .f32⟩
  | 122 => ⟨S2048x1024, .bf16⟩
  | 123 => ⟨S1x1024, .f32⟩
  | 124 => ⟨S1x128, .f32⟩
  | 125 => ⟨S1x4x2048x704, .bf16⟩
  | 126 => ⟨S4x2048x704, .bf16⟩
  | 127 => ⟨S1x4x2048x704, .bf16⟩
  | _ => ⟨S2048x1024, .f32⟩

abbrev hbmTy0_1 (i : Nat) : BufTy := match i % 128 with
  | 0 => ⟨S4x2048x704, .bf16⟩
  | _ => ⟨S2048x1024, .f32⟩

abbrev hbmTy (i : Nat) : BufTy := match i / 128 with
  | 0 => hbmTy0_0 i
  | 1 => hbmTy0_1 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_0 : Ref sig .tc := ⟨.hbm, 49, rfl⟩
abbrev main_v33 : Ref sig .tc := ⟨.hbm, 50, rfl⟩
abbrev main_v34 : Ref sig .tc := ⟨.hbm, 51, rfl⟩
abbrev main_cst_1 : Ref sig .tc := ⟨.hbm, 52, rfl⟩
abbrev main_v35 : Ref sig .tc := ⟨.hbm, 53, rfl⟩
abbrev main_v36 : Ref sig .tc := ⟨.hbm, 54, rfl⟩
abbrev main_cst_2 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_3 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_4 : Ref sig .tc := ⟨.hbm, 70, rfl⟩
abbrev main_v50 : Ref sig .tc := ⟨.hbm, 71, rfl⟩
abbrev main_v51 : Ref sig .tc := ⟨.hbm, 72, rfl⟩
abbrev main_cst_5 : Ref sig .tc := ⟨.hbm, 73, rfl⟩
abbrev main_v52 : Ref sig .tc := ⟨.hbm, 74, rfl⟩
abbrev main_cst_6 : Ref sig .tc := ⟨.hbm, 75, rfl⟩
abbrev main_v53 : Ref sig .tc := ⟨.hbm, 76, rfl⟩
abbrev main_v54 : Ref sig .tc := ⟨.hbm, 77, rfl⟩
abbrev main_cst_7 : Ref sig .tc := ⟨.hbm, 78, rfl⟩
abbrev main_v55 : Ref sig .tc := ⟨.hbm, 79, rfl⟩
abbrev main_cst_8 : Ref sig .tc := ⟨.hbm, 80, rfl⟩
abbrev main_v56 : Ref sig .tc := ⟨.hbm, 81, rfl⟩
abbrev main_cst_9 : Ref sig .tc := ⟨.hbm, 82, rfl⟩
abbrev main_cst_10 : Ref sig .tc := ⟨.hbm, 83, rfl⟩
abbrev main_v57 : Ref sig .tc := ⟨.hbm, 84, rfl⟩
abbrev main_v58 : Ref sig .tc := ⟨.hbm, 85, rfl⟩
abbrev main_cst_11 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_cst_12 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_cst_13 : Ref sig .tc := ⟨.hbm, 97, rfl⟩
abbrev main_v68 : Ref sig .tc := ⟨.hbm, 98, rfl⟩
abbrev main_v69 : Ref sig .tc := ⟨.hbm, 99, rfl⟩
abbrev main_cst_14 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_cst_15 : Ref sig .tc := ⟨.hbm, 106, rfl⟩
abbrev main_v75 : Ref sig .tc := ⟨.hbm, 107, rfl⟩
abbrev main_v76 : Ref sig .tc := ⟨.hbm, 108, rfl⟩
abbrev main_cst_16 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩

abbrev nD : Nat := 1
abbrev τ : Topo := Topo.v7x

variable {F : FTy → Type} [FloatOps F]
-- ==== Kernel5.lean ====
abbrev S2048x1664 : Shape := ⟨2, ![2048, 1664]⟩
abbrev S2048x1024 : Shape := ⟨2, ![2048, 1024]⟩
abbrev S1664x1024 : Shape := ⟨2, ![1664, 1024]⟩
abbrev S512x1664 : Shape := ⟨2, ![512, 1664]⟩
abbrev S512x1024 : Shape := ⟨2, ![512, 1024]⟩

abbrev nBuf : Space → Nat
  | .hbm => 5
  | .vmem => 6
  | .smem => 0
  | _ => 0

abbrev bufTy : (tb : Table) → Fin (tcTables nBuf tb) → BufTy
  | .hbm, ⟨0, _⟩ => ⟨S2048x1664, .f32⟩
  | .hbm, ⟨1, _⟩ => ⟨S2048x1024, .f32⟩
  | .hbm, ⟨2, _⟩ => ⟨S2048x1664, .bf16⟩
  | .hbm, ⟨3, _⟩ => ⟨S2048x1024, .bf16⟩
  | .hbm, ⟨4, _⟩ => ⟨S1664x1024, .bf16⟩
  | .local _ .vmem, ⟨0, _⟩ => ⟨S512x1664, .bf16⟩
  | .local _ .vmem, ⟨1, _⟩ => ⟨S512x1664, .bf16⟩
  | .local _ .vmem, ⟨2, _⟩ => ⟨S512x1024, .bf16⟩
  | .local _ .vmem, ⟨3, _⟩ => ⟨S512x1024, .bf16⟩
  | .local _ .vmem, ⟨4, _⟩ => ⟨S1664x1024, .bf16⟩
  | .local _ .vmem, ⟨5, _⟩ => ⟨S1664x1024, .f32⟩
  | _, _ => ⟨S2048x1664, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1664 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1664x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference5Ideal.lean ====
abbrev S2048x1664 : Shape := ⟨2, ![2048, 1664]⟩
abbrev S2048x1024 : Shape := ⟨2, ![2048, 1024]⟩
abbrev S1x2048x1024 : Shape := ⟨3, ![1, 2048, 1024]⟩
abbrev S_ : Shape := ⟨0, ![]⟩
abbrev S1024x1664 : Shape := ⟨2, ![1024, 1664]⟩
abbrev S1x2048x1664 : Shape := ⟨3, ![1, 2048, 1664]⟩
abbrev S1664x1024 : Shape := ⟨2, ![1664, 1024]⟩

abbrev nBuf : Space → Nat
  | .hbm => 11
  | .vmem => 0
  | .smem => 0
  | _ => 0

abbrev bufTy : (tb : Table) → Fin (tcTables nBuf tb) → BufTy
  | .hbm, ⟨0, _⟩ => ⟨S2048x1664, .f32⟩
  | .hbm, ⟨1, _⟩ => ⟨S2048x1024, .f32⟩
  | .hbm, ⟨2, _⟩ => ⟨S1x2048x1024, .f32⟩
  | .hbm, ⟨3, _⟩ => ⟨S_, .f32⟩
  | .hbm, ⟨4, _⟩ => ⟨S1024x1664, .f32⟩
  | .hbm, ⟨5, _⟩ => ⟨S1x2048x1664, .f32⟩
  | .hbm, ⟨6, _⟩ => ⟨S1x2048x1664, .f32⟩
  | .hbm, ⟨7, _⟩ => ⟨S1664x1024, .f32⟩
  | .hbm, ⟨8, _⟩ => ⟨S1024x1664, .f32⟩
  | .hbm, ⟨9, _⟩ => ⟨S1664x1024, .f32⟩
  | .hbm, ⟨10, _⟩ => ⟨S1664x1024, .bf16⟩
  | _, _ => ⟨S2048x1664, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel6.lean ====
abbrev S2048x1536 : Shape := ⟨2, ![2048, 1536]⟩
abbrev S2048x1024 : Shape := ⟨2, ![2048, 1024]⟩
abbrev S1536x1024 : Shape := ⟨2, ![1536, 1024]⟩
abbrev S512x768 : Shape := ⟨2, ![512, 768]⟩
abbrev S512x1024 : Shape := ⟨2, ![512, 1024]⟩
abbrev S768x1024 : Shape := ⟨2, ![768, 1024]⟩

abbrev nBuf : Space → Nat
  | .hbm => 5
  | .vmem => 7
  | .smem => 0
  | _ => 0

abbrev bufTy : (tb : Table) → Fin (tcTables nBuf tb) → BufTy
  | .hbm, ⟨0, _⟩ => ⟨S2048x1536, .f32⟩
  | .hbm, ⟨1, _⟩ => ⟨S2048x1024, .f32⟩
  | .hbm, ⟨2, _⟩ => ⟨S2048x1536, .bf16⟩
  | .hbm, ⟨3, _⟩ => ⟨S2048x1024, .bf16⟩
  | .hbm, ⟨4, _⟩ => ⟨S1536x1024, .bf16⟩
  | .local _ .vmem, ⟨0, _⟩ => ⟨S512x768, .bf16⟩
  | .local _ .vmem, ⟨1, _⟩ => ⟨S512x768, .bf16⟩
  | .local _ .vmem, ⟨2, _⟩ => ⟨S512x1024, .bf16⟩
  | .local _ .vmem, ⟨3, _⟩ => ⟨S512x1024, .bf16⟩
  | .local _ .vmem, ⟨4, _⟩ => ⟨S768x1024, .bf16⟩
  | .local _ .vmem, ⟨5, _⟩ => ⟨S768x1024, .bf16⟩
  | .local _ .vmem, ⟨6, _⟩ => ⟨S768x1024, .f32⟩
  | _, _ => ⟨S2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S2048x1536 : Shape := ⟨2, ![2048, 1536]⟩
abbrev S2048x1024 : Shape := ⟨2, ![2048, 1024]⟩
abbrev S1x2048x1024 : Shape := ⟨3, ![1, 2048, 1024]⟩
abbrev S_ : Shape := ⟨0, ![]⟩
abbrev S1024x1536 : Shape := ⟨2, ![1024, 1536]⟩
abbrev S1x2048x1536 : Shape := ⟨3, ![1, 2048, 1536]⟩
abbrev S1536x1024 : Shape := ⟨2, ![1536, 1024]⟩

abbrev nBuf : Space → Nat
  | .hbm => 11
  | .vmem => 0
  | .smem => 0
  | _ => 0

abbrev bufTy : (tb : Table) → Fin (tcTables nBuf tb) → BufTy
  | .hbm, ⟨0, _⟩ => ⟨S2048x1536, .f32⟩
  | .hbm, ⟨1, _⟩ => ⟨S2048x1024, .f32⟩
  | .hbm, ⟨2, _⟩ => ⟨S1x2048x1024, .f32⟩
  | .hbm, ⟨3, _⟩ => ⟨S_, .f32⟩
  | .hbm, ⟨4, _⟩ => ⟨S1024x1536, .f32⟩
  | .hbm, ⟨5, _⟩ => ⟨S1x2048x1536, .f32⟩
  | .hbm, ⟨6, _⟩ => ⟨S1x2048x1536, .f32⟩
  | .hbm, ⟨7, _⟩ => ⟨S1536x1024, .f32⟩
  | .hbm, ⟨8, _⟩ => ⟨S1024x1536, .f32⟩
  | .hbm, ⟨9, _⟩ => ⟨S1536x1024, .f32⟩
  | .hbm, ⟨10, _⟩ => ⟨S1536x1024, .bf16⟩
  | _, _ => ⟨S2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel7.lean ====
abbrev S2048x1024 : Shape := ⟨2, ![2048, 1024]⟩
abbrev S1024x1024 : Shape := ⟨2, ![1024, 1024]⟩
abbrev S512x1024 : Shape := ⟨2, ![512, 1024]⟩

abbrev nBuf : Space → Nat
  | .hbm => 4
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .bf16⟩
  | .hbm, ⟨3, _⟩ => ⟨S1024x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference7Ideal.lean ====
abbrev S2048x1024 : Shape := ⟨2, ![2048, 1024]⟩
abbrev S1x2048x1024 : Shape := ⟨3, ![1, 2048, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x2048x1024, .f32⟩
  | .hbm, ⟨3, _⟩ => ⟨S_, .f32⟩
  | .hbm, ⟨4, _⟩ => ⟨S1024x1024, .f32⟩
  | .hbm, ⟨5, _⟩ => ⟨S1x2048x1024, .f32⟩
  | .hbm, ⟨6, _⟩ => ⟨S1x2048x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel8.lean ====
abbrev S2048x1024 : Shape := ⟨2, ![2048, 1024]⟩
abbrev S1024x1024 : Shape := ⟨2, ![1024, 1024]⟩
abbrev S512x1024 : Shape := ⟨2, ![512, 1024]⟩

abbrev nBuf : Space → Nat
  | .hbm => 4
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S1024x1024, .bf16⟩
  | .hbm, ⟨3, _⟩ => ⟨S2048x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond3 (i : grid0.Coords) : BitVec 1 :=
  let arg2 : BitVec 32 := BitVec.ofNat 32 (i 2).val
  let c0_i32_6 : BitVec 32 := 0#32
  let v11 : BitVec 1 := Scalar.cmpi .eq arg2 c0_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S2048x1024 : Shape := ⟨2, ![2048, 1024]⟩
abbrev S1024x1024 : Shape := ⟨2, ![1024, 1024]⟩
abbrev S_ : Shape := ⟨0, ![]⟩
abbrev S1x2048x1024 : Shape := ⟨3, ![1, 2048, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S_, .f32⟩
  | .hbm, ⟨3, _⟩ => ⟨S1x2048x1024, .f32⟩
  | .hbm, ⟨4, _⟩ => ⟨S1x2048x1024, .f32⟩
  | .hbm, ⟨5, _⟩ => ⟨S1x2048x1024, .f32⟩
  | .hbm, ⟨6, _⟩ => ⟨S1x2048x1024, .f32⟩
  | .hbm, ⟨7, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel9.lean ====
abbrev S2048x512 : Shape := ⟨2, ![2048, 512]⟩
abbrev S2048x1024 : Shape := ⟨2, ![2048, 1024]⟩
abbrev S512x1024 : Shape := ⟨2, ![512, 1024]⟩
abbrev S512x512 : Shape := ⟨2, ![512, 512]⟩

abbrev nBuf : Space → Nat
  | .hbm => 5
  | .vmem => 6
  | .smem => 0
  | _ => 0

abbrev bufTy : (tb : Table) → Fin (tcTables nBuf tb) → BufTy
  | .hbm, ⟨0, _⟩ => ⟨S2048x512, .f32⟩
  | .hbm, ⟨1, _⟩ => ⟨S2048x1024, .f32⟩
  | .hbm, ⟨2, _⟩ => ⟨S2048x512, .bf16⟩
  | .hbm, ⟨3, _⟩ => ⟨S2048x1024, .bf16⟩
  | .hbm, ⟨4, _⟩ => ⟨S512x1024, .bf16⟩
  | .local _ .vmem, ⟨0, _⟩ => ⟨S512x512, .bf16⟩
  | .local _ .vmem, ⟨1, _⟩ => ⟨S512x512, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference9Ideal.lean ====
abbrev S2048x512 : Shape := ⟨2, ![2048, 512]⟩
abbrev S2048x1024 : Shape := ⟨2, ![2048, 1024]⟩
abbrev S1x2048x1024 : Shape := ⟨3, ![1, 2048, 1024]⟩
abbrev S_ : Shape := ⟨0, ![]⟩
abbrev S1024x512 : Shape := ⟨2, ![1024, 512]⟩
abbrev S1x2048x512 : Shape := ⟨3, ![1, 2048, 512]⟩
abbrev S512x1024 : Shape := ⟨2, ![512, 1024]⟩

abbrev nBuf : Space → Nat
  | .hbm => 11
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x1024, .f32⟩
  | .hbm, ⟨2, _⟩ => ⟨S1x2048x1024, .f32⟩
  | .hbm, ⟨3, _⟩ => ⟨S_, .f32⟩
  | .hbm, ⟨4, _⟩ => ⟨S1024x512, .f32⟩
  | .hbm, ⟨5, _⟩ => ⟨S1x2048x512, .f32⟩
  | .hbm, ⟨6, _⟩ => ⟨S1x2048x512, .f32⟩
  | .hbm, ⟨7, _⟩ => ⟨S512x1024, .f32⟩
  | .hbm, ⟨8, _⟩ => ⟨S1024x512, .f32⟩
  | .hbm, ⟨9, _⟩ => ⟨S512x1024, .f32⟩
  | .hbm, ⟨10, _⟩ => ⟨S512x1024, .bf16⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel10.lean ====
abbrev S2048x1536 : Shape := ⟨2, ![2048, 1536]⟩
abbrev S2048x128 : Shape := ⟨2, ![2048, 128]⟩
abbrev S2048x1664 : Shape := ⟨2, ![2048, 1664]⟩
abbrev S4x1536 : Shape := ⟨2, ![4, 1536]⟩
abbrev S256x1536 : Shape := ⟨2, ![256, 1536]⟩
abbrev S8x1536 : Shape := ⟨2, ![8, 1536]⟩
abbrev S256x128 : Shape := ⟨2, ![256, 128]⟩
abbrev S256x1664 : Shape := ⟨2, ![256, 1664]⟩
abbrev S264x1536 : Shape := ⟨2, ![264, 1536]⟩
abbrev S1x1536 : Shape := ⟨2, ![1, 1536]⟩
abbrev S1536 : Shape := ⟨1, ![1536]⟩

abbrev nBuf : Space → Nat
  | .hbm => 6
  | .vmem => 14
  | .smem => 0
  | _ => 0

abbrev bufTy : (tb : Table) → Fin (tcTables nBuf tb) → BufTy
  | .hbm, ⟨0, _⟩ => ⟨S2048x1536, .f32⟩
  | .hbm, ⟨1, _⟩ => ⟨S2048x128, .f32⟩
  | .hbm, ⟨2, _⟩ => ⟨S2048x1664, .f32⟩
  | .hbm, ⟨3, _⟩ => ⟨S4x1536, .f32⟩
  | .hbm, ⟨4, _⟩ => ⟨S2048x1664, .bf16⟩
  | .hbm, ⟨5, _⟩ => ⟨S4x1536, .f32⟩
  | .local _ .vmem, ⟨0, _⟩ => ⟨S256x1536, .f32⟩
  | .local _ .vmem, ⟨1, _⟩ => ⟨S256x1536, .f32⟩
  | .local _ .vmem, ⟨2, _⟩ => ⟨S8x1536, .f32⟩
  | .local _ .vmem, ⟨3, _⟩ => ⟨S8x1536, .f32⟩
  | .local _ .vmem, ⟨4, _⟩ => ⟨S256x128, .f32⟩
  | .local _ .vmem, ⟨5, _⟩ => ⟨S256x128, .f32⟩
  | .local _ .vmem, ⟨6, _⟩ => ⟨S256x1536, .f32⟩
  | .local _ .vmem, ⟨7, _⟩ => ⟨S256x1536, .f32⟩
  | .local _ .vmem, ⟨8, _⟩ => ⟨S8x1536, .f32⟩
  | .local _ .vmem, ⟨9, _⟩ => ⟨S8x1536, .f32⟩
  | .local _ .vmem, ⟨10, _⟩ => ⟨S4x1536, .f32⟩
  | .local _ .vmem, ⟨11, _⟩ => ⟨S256x1664, .bf16⟩
  | .local _ .vmem, ⟨12, _⟩ => ⟨S256x1664, .bf16⟩
  | .local _ .vmem, ⟨13, _⟩ => ⟨S4x1536, .f32⟩
  | _, _ => ⟨S2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32_20 : BitVec 32 := 0#32
  let v60 : BitVec 1 := Scalar.cmpi .eq arg0 c0_i32_20
  let v61 : BitVec 32 := Scalar.extui v60
  let c0_i32_21 : BitVec 32 := 0#32
  let v62 : BitVec 1 := Scalar.cmpi .ne v61 c0_i32_21
  v62

def k0_cond2 (i : grid0.Coords) : BitVec 1 :=
  let arg0 : BitVec 32 := BitVec.ofNat 32 (i 0).val
  let c0_i32_22 : BitVec 32 := 0#32
  let v63 : BitVec 1 := Scalar.cmpi .sgt arg0 c0_i32_22
  let v64 : BitVec 32 := Scalar.extui v63
  let c0_i32_23 : BitVec 32 := 0#32
  let v65 : BitVec 1 := Scalar.cmpi .ne v64 c0_i32_23
  v65

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1664 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S4x1536 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference10Ideal.lean ====
abbrev S2048x1536 : Shape := ⟨2, ![2048, 1536]⟩
abbrev S2048x128 : Shape := ⟨2, ![2048, 128]⟩
abbrev S2048x1664 : Shape := ⟨2, ![2048, 1664]⟩
abbrev S4x1536 : Shape := ⟨2, ![4, 1536]⟩
abbrev S1x2048x1536 : Shape := ⟨3, ![1, 2048, 1536]⟩
abbrev S_ : Shape := ⟨0, ![]⟩
abbrev S1x3x1536 : Shape := ⟨3, ![1, 3, 1536]⟩
abbrev S1x2051x1536 : Shape := ⟨3, ![1, 2051, 1536]⟩
abbrev S1x1536 : Shape := ⟨2, ![1, 1536]⟩
abbrev S1536 : Shape := ⟨1, ![1536]⟩
abbrev S1x1x1536 : Shape := ⟨3, ![1, 1, 1536]⟩

abbrev nBuf : Space → Nat
  | .hbm => 102
  | .vmem => 0
  | .smem => 0
  | _ => 0

abbrev bufTy : (tb : Table) → Fin (tcTables nBuf tb) → BufTy
  | .hbm, ⟨0, _⟩ => ⟨S2048x1536, .f32⟩
  | .hbm, ⟨1, _⟩ => ⟨S2048x128, .f32⟩
  | .hbm, ⟨2, _⟩ => ⟨S2048x1664, .f32⟩
  | .hbm, ⟨3, _⟩ => ⟨S4x1536, .f32⟩
  | .hbm, ⟨4, _⟩ => ⟨S2048x1536, .f32⟩
  | .hbm, ⟨5, _⟩ => ⟨S1x2048x1536, .f32⟩
  | .hbm, ⟨6, _⟩ => ⟨S_, .f32⟩
  | .hbm, ⟨7, _⟩ => ⟨S1x3x1536, .f32⟩
  | .hbm, ⟨8, _⟩ => ⟨S1x2051x1536, .f32⟩
  | .hbm, ⟨9, _⟩ => ⟨S_, .f32⟩
  | .hbm, ⟨10, _⟩ => ⟨S1x3x1536, .f32⟩
  | .hbm, ⟨11, _⟩ => ⟨S1x2048x1536, .f32⟩
  | .hbm, ⟨12, _⟩ => ⟨S1x1536, .f32⟩
  | .hbm, ⟨13, _⟩ => ⟨S1536, .f32⟩
  | .hbm, ⟨14, _⟩ => ⟨S1x1x1536, .f32⟩
  | .hbm, ⟨15, _⟩ => ⟨S1x2048x1536, .f32⟩
  | .hbm, ⟨16, _⟩ => ⟨S1x2048x1536, .f32⟩
  | .hbm, ⟨17, _⟩ => ⟨S1x2048x1536, .f32⟩
  | .hbm, ⟨18, _⟩ => ⟨S1x1536, .f32⟩
  | .hbm, ⟨19, _⟩ => ⟨S1536, .f32⟩
  | .hbm, ⟨20, _⟩ => ⟨S1x1x1536, .f32⟩
  | .hbm, ⟨21, _⟩ => ⟨S1x2048x1536, .f32⟩
  | .hbm, ⟨22, _⟩ => ⟨S1x2048x1536, .f32⟩
  | .hbm, ⟨23, _⟩ => ⟨S1x2048x1536, .f32⟩
  | .hbm, ⟨24, _⟩ => ⟨S1x2048x1536, .f32⟩
  | .hbm, ⟨25, _⟩ => ⟨S1x1536, .f32⟩
  | .hbm, ⟨26, _⟩ => ⟨S1536, .f32⟩
  | .hbm, ⟨27, _⟩ => ⟨S1x1x1536, .f32⟩
  | .hbm, ⟨28, _⟩ => ⟨S1x2048x1536, .f32⟩
  | .hbm, ⟨29, _⟩ => ⟨S1x2048x1536, .f32⟩
  | .hbm, ⟨30, _⟩ => ⟨S1x2048x1536, .f32⟩
  | .hbm, ⟨31, _⟩ => ⟨S1x2048x1536, .f32⟩
  | .hbm, ⟨32, _⟩ => ⟨S1x1536, .f32⟩
  | .hbm, ⟨33, _⟩ => ⟨S1536, .f32⟩
  | .hbm, ⟨34, _⟩ => ⟨S1x1x1536, .f32⟩
  | .hbm, ⟨35, _⟩ => ⟨S1x2048x1536, .f32⟩
  | .hbm, ⟨36, _⟩ => ⟨S1x2048x1536, .f32⟩
  | .hbm, ⟨37, _⟩ => ⟨S1x2048x1536, .f32⟩
  | .hbm, ⟨38, _⟩ => ⟨S1x2048x1536, .f32⟩
  | .hbm, ⟨39, _⟩ => ⟨S1x2048x1536, .f32⟩
  | .hbm, ⟨40, _⟩ => ⟨S_, .f32⟩
  | .hbm, ⟨41, _⟩ => ⟨S1x1536, .f32⟩
  | .hbm, ⟨42, _⟩ => ⟨S1x1x1536, .f32⟩
  | .hbm, ⟨43, _⟩ => ⟨S1x2048x1536, .f32⟩
  | .hbm, ⟨44, _⟩ => ⟨S1x2048x1536, .f32⟩
  | .hbm, ⟨45, _⟩ => ⟨S_, .f32⟩
  | .hbm, ⟨46, _⟩ => ⟨S1536, .f32⟩
  | .hbm, ⟨47, _⟩ => ⟨S1x1536, .f32⟩
  | .hbm, ⟨48, _⟩ => ⟨S_, .f32⟩
  | .hbm, ⟨49, _⟩ => ⟨S4x1536, .f32⟩
  | .hbm, ⟨50, _⟩ => ⟨S_, .f32⟩
  | .hbm, ⟨51, _⟩ => ⟨S1x2051x1536, .f32⟩
  | .hbm, ⟨52, _⟩ => ⟨S1x2048x1536, .f32⟩
  | .hbm, ⟨53, _⟩ => ⟨S_, .f32⟩
  | .hbm, ⟨54, _⟩ => ⟨S1x1536, .f32⟩
  | .hbm, ⟨55, _⟩ => ⟨S1x1x1536, .f32⟩
  | .hbm, ⟨56, _⟩ => ⟨S1x2048x1536, .f32⟩
  | .hbm, ⟨57, _⟩ => ⟨S1x2048x1536, .f32⟩
  | .hbm, ⟨58, _⟩ => ⟨S_, .f32⟩
  | .hbm, ⟨59, _⟩ => ⟨S1536, .f32⟩
  | .hbm, ⟨60, _⟩ => ⟨S1x1536, .f32⟩
  | .hbm, ⟨61, _⟩ => ⟨S_, .f32⟩
  | .hbm, ⟨62, _⟩ => ⟨S4x1536, .f32⟩
  | .hbm, ⟨63, _⟩ => ⟨S4x1536, .f32⟩
  | .hbm, ⟨64, _⟩ => ⟨S_, .f32⟩
  | .hbm, ⟨65, _⟩ => ⟨S1x2051x1536, .f32⟩
  | .hbm, ⟨66, _⟩ => ⟨S1x2051x1536, .f32⟩
  | .hbm, ⟨67, _⟩ => ⟨S1x2048x1536, .f32⟩
  | .hbm, ⟨68, _⟩ => ⟨S_, .f32⟩
  | .hbm, ⟨69, _⟩ => ⟨S1x1536, .f32⟩
  | .hbm, ⟨70, _⟩ => ⟨S1x1x1536, .f32⟩
  | .hbm, ⟨71, _⟩ => ⟨S1x2048x1536, .f32⟩
  | .hbm, ⟨72, _⟩ => ⟨S1x2048x1536, .f32⟩
  | .hbm, ⟨73, _⟩ => ⟨S_, .f32⟩
  | .hbm, ⟨74, _⟩ => ⟨S1536, .f32⟩
  | .hbm, ⟨75, _⟩ => ⟨S1x1536, .f32⟩
  | .hbm, ⟨76, _⟩ => ⟨S_, .f32⟩
  | .hbm, ⟨77, _⟩ => ⟨S4x1536, .f32⟩
  | .hbm, ⟨78, _⟩ => ⟨S4x1536, .f32⟩
  | .hbm, ⟨79, _⟩ => ⟨S_, .f32⟩
  | .hbm, ⟨80, _⟩ => ⟨S1x2051x1536, .f32⟩
  | .hbm, ⟨81, _⟩ => ⟨S1x2051x1536, .f32⟩
  | .hbm, ⟨82, _⟩ => ⟨S1x2048x1536, .f32⟩
  | .hbm, ⟨83, _⟩ => ⟨S_, .f32⟩
  | .hbm, ⟨84, _⟩ => ⟨S1x1536, .f32⟩
  | .hbm, ⟨85, _⟩ => ⟨S1x1x1536, .f32⟩
  | .hbm, ⟨86, _⟩ => ⟨S1x2048x1536, .f32⟩
  | .hbm, ⟨87, _⟩ => ⟨S1x2048x1536, .f32⟩
  | .hbm, ⟨88, _⟩ => ⟨S_, .f32⟩
  | .hbm, ⟨89, _⟩ => ⟨S1536, .f32⟩
  | .hbm, ⟨90, _⟩ => ⟨S1x1536, .f32⟩
  | .hbm, ⟨91, _⟩ => ⟨S_, .f32⟩
  | .hbm, ⟨92, _⟩ => ⟨S4x1536, .f32⟩
  | .hbm, ⟨93, _⟩ => ⟨S4x1536, .f32⟩
  | .hbm, ⟨94, _⟩ => ⟨S_, .f32⟩
  | .hbm, ⟨95, _⟩ => ⟨S1x2051x1536, .f32⟩
  | .hbm, ⟨96, _⟩ => ⟨S1x2051x1536, .f32⟩
  | .hbm, ⟨97, _⟩ => ⟨S1x3x1536, .f32⟩
  | .hbm, ⟨98, _⟩ => ⟨S1x2048x1536, .f32⟩
  | .hbm, ⟨99, _⟩ => ⟨S2048x1536, .f32⟩
  | .hbm, ⟨100, _⟩ => ⟨S2048x1664, .f32⟩
  | .hbm, ⟨101, _⟩ => ⟨S2048x1664, .bf16⟩
  | _, _ => ⟨S2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_cst_1 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_cst_2 : Ref sig .tc := ⟨.hbm, 45, rfl⟩
abbrev main_v38 : Ref sig .tc := ⟨.hbm, 46, rfl⟩
abbrev main_v39 : Ref sig .tc := ⟨.hbm, 47, rfl⟩
abbrev main_cst_3 : Ref sig .tc := ⟨.hbm, 48, rfl⟩
abbrev main_v40 : Ref sig .tc := ⟨.hbm, 49, rfl⟩
abbrev main_cst_4 : Ref sig .tc := ⟨.hbm, 50, rfl⟩
abbrev main_v41 : Ref sig .tc := ⟨.hbm, 51, rfl⟩
abbrev main_v42 : Ref sig .tc := ⟨.hbm, 52, rfl⟩
abbrev main_cst_5 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_cst_6 : Ref sig .tc := ⟨.hbm, 58, rfl⟩
abbrev main_v47 : Ref sig .tc := ⟨.hbm, 59, rfl⟩
abbrev main_v48 : Ref sig .tc := ⟨.hbm, 60, rfl⟩
abbrev main_cst_7 : Ref sig .tc := ⟨.hbm, 61, rfl⟩
abbrev main_v49 : Ref sig .tc := ⟨.hbm, 62, rfl⟩
abbrev main_v50 : Ref sig .tc := ⟨.hbm, 63, rfl⟩
abbrev main_cst_8 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_9 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_cst_10 : Ref sig .tc := ⟨.hbm, 73, rfl⟩
abbrev main_v58 : Ref sig .tc := ⟨.hbm, 74, rfl⟩
abbrev main_v59 : Ref sig .tc := ⟨.hbm, 75, rfl⟩
abbrev main_cst_11 : Ref sig .tc := ⟨.hbm, 76, rfl⟩
abbrev main_v60 : Ref sig .tc := ⟨.hbm, 77, rfl⟩
abbrev main_v61 : Ref sig .tc := ⟨.hbm, 78, rfl⟩
abbrev main_cst_12 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_cst_13 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_cst_14 : Ref sig .tc := ⟨.hbm, 88, rfl⟩
abbrev main_v69 : Ref sig .tc := ⟨.hbm, 89, rfl⟩
abbrev main_v70 : Ref sig .tc := ⟨.hbm, 90, rfl⟩
abbrev main_cst_15 : Ref sig .tc := ⟨.hbm, 91, rfl⟩
abbrev main_v71 : Ref sig .tc := ⟨.hbm, 92, rfl⟩
abbrev main_v72 : Ref sig .tc := ⟨.hbm, 93, rfl⟩
abbrev main_cst_16 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩

abbrev nD : Nat := 1
abbrev τ : Topo := Topo.v7x

variable {F : FTy → Type} [FloatOps F]
-- ==== Kernel11.lean ====
abbrev S2048x1024 : Shape := ⟨2, ![2048, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .f32⟩
  | .hbm, ⟨3, _⟩ => ⟨S1024, .f32⟩
  | .hbm, ⟨4, _⟩ => ⟨S2048x1024, .bf16⟩
  | .hbm, ⟨5, _⟩ => ⟨S1024x1024, .bf16⟩
  | .hbm, ⟨6, _⟩ => ⟨S1x1024, .f32⟩
  | .hbm, ⟨7, _⟩ => ⟨S2048x1024, .f32⟩
  | .hbm, ⟨8, _⟩ => ⟨S2048x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference11Ideal.lean ====
abbrev S2048x1024 : Shape := ⟨2, ![2048, 1024]⟩
abbrev S1024x1024 : Shape := ⟨2, ![1024, 1024]⟩
abbrev S1024 : Shape := ⟨1, ![1024]⟩
abbrev S1x2048x1024 : Shape := ⟨3, ![1, 2048, 1024]⟩
abbrev S_ : Shape := ⟨0, ![]⟩
abbrev S1x2048 : Shape := ⟨2, ![1, 2048]⟩
abbrev S1x2048x1 : Shape := ⟨3, ![1, 2048, 1]⟩
abbrev S1x1x1024 : Shape := ⟨3, ![1, 1, 1024]⟩

abbrev nBuf : Space → Nat
  | .hbm => 27
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .f32⟩
  | .hbm, ⟨3, _⟩ => ⟨S1024, .f32⟩
  | .hbm, ⟨4, _⟩ => ⟨S1x2048x1024, .f32⟩
  | .hbm, ⟨5, _⟩ => ⟨S1x2048x1024, .f32⟩
  | .hbm, ⟨6, _⟩ => ⟨S1x2048x1024, .f32⟩
  | .hbm, ⟨7, _⟩ => ⟨S1x2048x1024, .f32⟩
  | .hbm, ⟨8, _⟩ => ⟨S2048x1024, .f32⟩
  | .hbm, ⟨9, _⟩ => ⟨S1x2048x1024, .f32⟩
  | .hbm, ⟨10, _⟩ => ⟨S_, .f32⟩
  | .hbm, ⟨11, _⟩ => ⟨S1x2048, .f32⟩
  | .hbm, ⟨12, _⟩ => ⟨S1x2048x1, .f32⟩
  | .hbm, ⟨13, _⟩ => ⟨S_, .f32⟩
  | .hbm, ⟨14, _⟩ => ⟨S1x2048x1, .f32⟩
  | .hbm, ⟨15, _⟩ => ⟨S1x2048x1, .f32⟩
  | .hbm, ⟨16, _⟩ => ⟨S_, .f32⟩
  | .hbm, ⟨17, _⟩ => ⟨S1x2048x1, .f32⟩
  | .hbm, ⟨18, _⟩ => ⟨S1x2048x1, .f32⟩
  | .hbm, ⟨19, _⟩ => ⟨S1x2048x1, .f32⟩
  | .hbm, ⟨20, _⟩ => ⟨S1x2048x1024, .f32⟩
  | .hbm, ⟨21, _⟩ => ⟨S1x2048x1024, .f32⟩
  | .hbm, ⟨22, _⟩ => ⟨S1x1x1024, .f32⟩
  | .hbm, ⟨23, _⟩ => ⟨S1x2048x1024, .f32⟩
  | .hbm, ⟨24, _⟩ => ⟨S1x2048x1024, .f32⟩
  | .hbm, ⟨25, _⟩ => ⟨S2048x1024, .f32⟩
  | .hbm, ⟨26, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Kernel12.lean ====
abbrev S2048x1664 : Shape := ⟨2, ![2048, 1664]⟩
abbrev S4x1536 : Shape := ⟨2, ![4, 1536]⟩
abbrev S1x4 : Shape := ⟨2, ![1, 4]⟩
abbrev S2048x512 : Shape := ⟨2, ![2048, 512]⟩
abbrev S256x1536 : Shape := ⟨2, ![256, 1536]⟩
abbrev S8x1536 : Shape := ⟨2, ![8, 1536]⟩
abbrev S256x128 : Shape := ⟨2, ![256, 128]⟩
abbrev S256x512 : Shape := ⟨2, ![256, 512]⟩
abbrev S264x1536 : Shape := ⟨2, ![264, 1536]⟩
abbrev S1x1536 : Shape := ⟨2, ![1, 1536]⟩
abbrev S256 : Shape := ⟨1, ![256]⟩
abbrev S256x1 : Shape := ⟨2, ![256, 1]⟩
abbrev S1x1 : Shape := ⟨2, ![1, 1]⟩
abbrev S256x256 : Shape := ⟨2, ![256, 256]⟩

abbrev nBuf : Space → Nat
  | .hbm => 9
  | .vmem => 19
  | .smem => 0
  | _ => 0

abbrev bufTy : (tb : Table) → Fin (tcTables nBuf tb) → BufTy
  | .hbm, ⟨0, _⟩ => ⟨S2048x1664, .f32⟩
  | .hbm, ⟨1, _⟩ => ⟨S4x1536, .f32⟩
  | .hbm, ⟨2, _⟩ => ⟨S1x4, .f32⟩
  | .hbm, ⟨3, _⟩ => ⟨S1x4, .f32⟩
  | .hbm, ⟨4, _⟩ => ⟨S2048x512, .f32⟩
  | .hbm, ⟨5, _⟩ => ⟨S2048x512, .f32⟩
  | .hbm, ⟨6, _⟩ => ⟨S2048x512, .f32⟩
  | .hbm, ⟨7, _⟩ => ⟨S2048x512, .f32⟩
  | .hbm, ⟨8, _⟩ => ⟨S2048x512, .f32⟩
  | .local _ .vmem, ⟨0, _⟩ => ⟨S256x1536, .f32⟩
  | .local _ .vmem, ⟨1, _⟩ => ⟨S256x1536, .f32⟩
  | .local _ .vmem, ⟨2, _⟩ => ⟨S8x1536, .f32⟩
  | .local _ .vmem, ⟨3, _⟩ => ⟨S8x1536, .f32⟩
  | .local _ .vmem, ⟨4, _⟩ => ⟨S256x128, .f32⟩
  | .local _ .vmem, ⟨5, _⟩ => ⟨S256x128, .f32⟩
  | .local _ .vmem, ⟨6, _⟩ => ⟨S4x1536, .f32⟩
  | .local _ .vmem, ⟨7, _⟩ => ⟨S1x4, .f32⟩
  | .local _ .vmem, ⟨8, _⟩ => ⟨S1x4, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .vmem, ⟨18, _⟩ => ⟨S256x512, .f32⟩
  | _, _ => ⟨S2048x1664, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v0_4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference12Ideal.lean ====
abbrev S2048x1664 : Shape := ⟨2, ![2048, 1664]⟩
abbrev S4x1536 : Shape := ⟨2, ![4, 1536]⟩
abbrev S1x4 : Shape := ⟨2, ![1, 4]⟩
abbrev S2048x1536 : Shape := ⟨2, ![2048, 1536]⟩
abbrev S1x2048x1536 : Shape := ⟨3, ![1, 2048, 1536]⟩
abbrev S_ : Shape := ⟨0, ![]⟩
abbrev S1x3x1536 : Shape := ⟨3, ![1, 3, 1536]⟩
abbrev S1x2051x1536 : Shape := ⟨3, ![1, 2051, 1536]⟩
abbrev S1x1536 : Shape := ⟨2, ![1, 1536]⟩
abbrev S1536 : Shape := ⟨1, ![1536]⟩
abbrev S1x1x1536 : Shape := ⟨3, ![1, 1, 1536]⟩
abbrev S1x2048x512 : Shape := ⟨3, ![1, 2048, 512]⟩
abbrev S1x2048x4x128 : Shape := ⟨4, ![1, 2048, 4, 128]⟩
abbrev S1x2048x4 : Shape := ⟨3, ![1, 2048, 4]⟩
abbrev S1x2048x4x1 : Shape := ⟨4, ![1, 2048, 4, 1]⟩
abbrev S2048x4 : Shape := ⟨2, ![2048, 4]⟩
abbrev S4 : Shape := ⟨1, ![4]⟩
abbrev S1x1x4 : Shape := ⟨3, ![1, 1, 4]⟩
abbrev S1x32x64x4 : Shape := ⟨4, ![1, 32, 64, 4]⟩
abbrev S2048x512 : Shape := ⟨2, ![2048, 512]⟩

abbrev nBuf : Space → Nat
  | .hbm => 123
  | .vmem => 0
  | .smem => 0
  | _ => 0

abbrev bufTy : (tb : Table) → Fin (tcTables nBuf tb) → BufTy
  | .hbm, ⟨0, _⟩ => ⟨S2048x1664, .f32⟩
  | .hbm, ⟨1, _⟩ => ⟨S4x1536, .f32⟩
  | .hbm, ⟨2, _⟩ => ⟨S1x4, .f32⟩
  | .hbm, ⟨3, _⟩ => ⟨S1x4, .f32⟩
  | .hbm, ⟨4, _⟩ => ⟨S2048x1536, .f32⟩
  | .hbm, ⟨5, _⟩ => ⟨S1x2048x1536, .f32⟩
  | .hbm, ⟨6, _⟩ => ⟨S_, .f32⟩
  | .hbm, ⟨7, _⟩ => ⟨S1x3x1536, .f32⟩
  | .hbm, ⟨8, _⟩ => ⟨S1x2051x1536, .f32⟩
  | .hbm, ⟨9, _⟩ => ⟨S1x2048x1536, .f32⟩
  | .hbm, ⟨10, _⟩ => ⟨S1x1536, .f32⟩
  | .hbm, ⟨11, _⟩ => ⟨S1536, .f32⟩
  | .hbm, ⟨12, _⟩ => ⟨S1x1x1536, .f32⟩
  | .hbm, ⟨13, _⟩ => ⟨S1x2048x1536, .f32⟩
  | .hbm, ⟨14, _⟩ => ⟨S1x2048x1536, .f32⟩
  | .hbm, ⟨15, _⟩ => ⟨S1x2048x1536, .f32⟩
  | .hbm, ⟨16, _⟩ => ⟨S1x1536, .f32⟩
  | .hbm, ⟨17, _⟩ => ⟨S1536, .f32⟩
  | .hbm, ⟨18, _⟩ => ⟨S1x1x1536, .f32⟩
  | .hbm, ⟨19, _⟩ => ⟨S1x2048x1536, .f32⟩
  | .hbm, ⟨20, _⟩ => ⟨S1x2048x1536, .f32⟩
  | .hbm, ⟨21, _⟩ => ⟨S1x2048x1536, .f32⟩
  | .hbm, ⟨22, _⟩ => ⟨S1x2048x1536, .f32⟩
  | .hbm, ⟨23, _⟩ => ⟨S1x1536, .f32⟩
  | .hbm, ⟨24, _⟩ => ⟨S1536, .f32⟩
  | .hbm, ⟨25, _⟩ => ⟨S1x1x1536, .f32⟩
  | .hbm, ⟨26, _⟩ => ⟨S1x2048x1536, .f32⟩
  | .hbm, ⟨27, _⟩ => ⟨S1x2048x1536, .f32⟩
  | .hbm, ⟨28, _⟩ => ⟨S1x2048x1536, .f32⟩
  | .hbm, ⟨29, _⟩ => ⟨S1x2048x1536, .f32⟩
  | .hbm, ⟨30, _⟩ => ⟨S1x1536, .f32⟩
  | .hbm, ⟨31, _⟩ => ⟨S1536, .f32⟩
  | .hbm, ⟨32, _⟩ => ⟨S1x1x1536, .f32⟩
  | .hbm, ⟨33, _⟩ => ⟨S1x2048x1536, .f32⟩
  | .hbm, ⟨34, _⟩ => ⟨S1x2048x1536, .f32⟩
  | .hbm, ⟨35, _⟩ => ⟨S1x2048x1536, .f32⟩
  | .hbm, ⟨36, _⟩ => ⟨S1x2048x1536, .f32⟩
  | .hbm, ⟨37, _⟩ => ⟨S1x2048x1536, .f32⟩
  | .hbm, ⟨38, _⟩ => ⟨S_, .f32⟩
  | .hbm, ⟨39, _⟩ => ⟨S1x2048x1536, .f32⟩
  | .hbm, ⟨40, _⟩ => ⟨S1x2048x1536, .f32⟩
  | .hbm, ⟨41, _⟩ => ⟨S_, .f32⟩
  | .hbm, ⟨42, _⟩ => ⟨S1x2048x1536, .f32⟩
  | .hbm, ⟨43, _⟩ => ⟨S1x2048x1536, .f32⟩
  | .hbm, ⟨44, _⟩ => ⟨S1x2048x1536, .f32⟩
  | .hbm, ⟨45, _⟩ => ⟨S1x2048x512, .f32⟩
  | .hbm, ⟨46, _⟩ => ⟨S1x2048x4x128, .f32⟩
  | .hbm, ⟨47, _⟩ => ⟨S1x2048x4x128, .f32⟩
  | .hbm, ⟨48, _⟩ => ⟨S_, .f32⟩
  | .hbm, ⟨49, _⟩ => ⟨S1x2048x4, .f32⟩
  | .hbm, ⟨50, _⟩ => ⟨S1x2048x4x1, .f32⟩
  | .hbm, ⟨51, _⟩ => ⟨S_, .f32⟩
  | .hbm, ⟨52, _⟩ => ⟨S1x2048x4x1, .f32⟩
  | .hbm, ⟨53, _⟩ => ⟨S1x2048x4x1, .f32⟩
  | .hbm, ⟨54, _⟩ => ⟨S1x2048x4x1, .f32⟩
  | .hbm, ⟨55, _⟩ => ⟨S1x2048x4x128, .f32⟩
  | .hbm, ⟨56, _⟩ => ⟨S1x2048x4x128, .f32⟩
  | .hbm, ⟨57, _⟩ => ⟨S_, .f32⟩
  | .hbm, ⟨58, _⟩ => ⟨S1x2048x4x128, .f32⟩
  | .hbm, ⟨59, _⟩ => ⟨S1x2048x4x128, .f32⟩
  | .hbm, ⟨60, _⟩ => ⟨S1x2048x512, .f32⟩
  | .hbm, ⟨61, _⟩ => ⟨S1x2048x4x128, .f32⟩
  | .hbm, ⟨62, _⟩ => ⟨S1x2048x4x128, .f32⟩
  | .hbm, ⟨63, _⟩ => ⟨S_, .f32⟩
  | .hbm, ⟨64, _⟩ => ⟨S1x2048x4, .f32⟩
  | .hbm, ⟨65, _⟩ => ⟨S1x2048x4x1, .f32⟩
  | .hbm, ⟨66, _⟩ => ⟨S_, .f32⟩
  | .hbm, ⟨67, _⟩ => ⟨S1x2048x4x1, .f32⟩
  | .hbm, ⟨68, _⟩ => ⟨S1x2048x4x1, .f32⟩
  | .hbm, ⟨69, _⟩ => ⟨S1x2048x4x1, .f32⟩
  | .hbm, ⟨70, _⟩ => ⟨S1x2048x4x128, .f32⟩
  | .hbm, ⟨71, _⟩ => ⟨S1x2048x4x128, .f32⟩
  | .hbm, ⟨72, _⟩ => ⟨S2048x4, .f32⟩
  | .hbm, ⟨73, _⟩ => ⟨S1x2048x4, .f32⟩
  | .hbm, ⟨74, _⟩ => ⟨S2048x4, .f32⟩
  | .hbm, ⟨75, _⟩ => ⟨S1x2048x4, .f32⟩
  | .hbm, ⟨76, _⟩ => ⟨S1x2048x4, .f32⟩
  | .hbm, ⟨77, _⟩ => ⟨S1x2048x4, .f32⟩
  | .hbm, ⟨78, _⟩ => ⟨S_, .f32⟩
  | .hbm, ⟨79, _⟩ => ⟨S1x2048x4, .f32⟩
  | .hbm, ⟨80, _⟩ => ⟨S1x2048x4, .f32⟩
  | .hbm, ⟨81, _⟩ => ⟨S_, .f32⟩
  | .hbm, ⟨82, _⟩ => ⟨S1x2048x4, .f32⟩
  | .hbm, ⟨83, _⟩ => ⟨S1x2048x4, .f32⟩
  | .hbm, ⟨84, _⟩ => ⟨S4, .f32⟩
  | .hbm, ⟨85, _⟩ => ⟨S4, .f32⟩
  | .hbm, ⟨86, _⟩ => ⟨S4, .f32⟩
  | .hbm, ⟨87, _⟩ => ⟨S4, .f32⟩
  | .hbm, ⟨88, _⟩ => ⟨S1x1x4, .f32⟩
  | .hbm, ⟨89, _⟩ => ⟨S1x2048x4, .f32⟩
  | .hbm, ⟨90, _⟩ => ⟨S1x2048x4, .f32⟩
  | .hbm, ⟨91, _⟩ => ⟨S_, .f32⟩
  | .hbm, ⟨92, _⟩ => ⟨S1x2048x4, .f32⟩
  | .hbm, ⟨93, _⟩ => ⟨S1x2048x4, .f32⟩
  | .hbm, ⟨94, _⟩ => ⟨S1x2048x4, .f32⟩
  | .hbm, ⟨95, _⟩ => ⟨S1x2048x4, .f32⟩
  | .hbm, ⟨96, _⟩ => ⟨S1x2048x4, .i1⟩
  | .hbm, ⟨97, _⟩ => ⟨S1x2048x4, .f32⟩
  | .hbm, ⟨98, _⟩ => ⟨S1x2048x4, .f32⟩
  | .hbm, ⟨99, _⟩ => ⟨S1x2048x4, .f32⟩
  | .hbm, ⟨100, _⟩ => ⟨S1x2048x4, .f32⟩
  | .hbm, ⟨101, _⟩ => ⟨S1x2048x4, .f32⟩
  | .hbm, ⟨102, _⟩ => ⟨S1x2048x4, .f32⟩
  | .hbm, ⟨103, _⟩ => ⟨S1x2048x4, .f32⟩
  | .hbm, ⟨104, _⟩ => ⟨S1x2048x4, .f32⟩
  | .hbm, ⟨105, _⟩ => ⟨S1x1x4, .f32⟩
  | .hbm, ⟨106, _⟩ => ⟨S1x2048x4, .f32⟩
  | .hbm, ⟨107, _⟩ => ⟨S1x2048x4, .f32⟩
  | .hbm, ⟨108, _⟩ => ⟨S1x32x64x4, .f32⟩
  | .hbm, ⟨109, _⟩ => ⟨S_, .f32⟩
  | .hbm, ⟨110, _⟩ => ⟨S_, .f32⟩
  | .hbm, ⟨111, _⟩ => ⟨S1x32x64x4, .f32⟩
  | .hbm, ⟨112, _⟩ => ⟨S1x2048x4, .f32⟩
  | .hbm, ⟨113, _⟩ => ⟨S2048x512, .f32⟩
  | .hbm, ⟨114, _⟩ => ⟨S2048x512, .f32⟩
  | .hbm, ⟨115, _⟩ => ⟨S1x2048x512, .f32⟩
  | .hbm, ⟨116, _⟩ => ⟨S2048x512, .f32⟩
  | .hbm, ⟨117, _⟩ => ⟨S1x2048x4x1, .f32⟩
  | .hbm, ⟨118, _⟩ => ⟨S1x2048x4x128, .f32⟩
  | .hbm, ⟨119, _⟩ => ⟨S2048x512, .f32⟩
  | .hbm, ⟨120, _⟩ => ⟨S1x2048x4x1, .f32⟩
  | .hbm, ⟨121, _⟩ => ⟨S1x2048x4x128, .f32⟩
  | .hbm, ⟨122, _⟩ => ⟨S2048x512, .f32⟩
  | _, _ => ⟨S2048x1664, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_0 : Ref sig .tc := ⟨.hbm, 48, rfl⟩
abbrev main_v35 : Ref sig .tc := ⟨.hbm, 49, rfl⟩
abbrev main_v36 : Ref sig .tc := ⟨.hbm, 50, rfl⟩
abbrev main_cst_1 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_2 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_3 : Ref sig .tc := ⟨.hbm, 63, rfl⟩
abbrev main_v47 : Ref sig .tc := ⟨.hbm, 64, rfl⟩
abbrev main_v48 : Ref sig .tc := ⟨.hbm, 65, rfl⟩
abbrev main_cst_4 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_cst_5 : Ref sig .tc := ⟨.hbm, 78, rfl⟩
abbrev main_v60 : Ref sig .tc := ⟨.hbm, 79, rfl⟩
abbrev main_v61 : Ref sig .tc := ⟨.hbm, 80, rfl⟩
abbrev main_cst_6 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_call1_cst : Ref sig .tc := ⟨.hbm, 91, rfl⟩
abbrev main_call1_v0 : Ref sig .tc := ⟨.hbm, 92, rfl⟩
abbrev main_call1_v1 : Ref sig .tc := ⟨.hbm, 93, rfl⟩
abbrev main_call1_v2 : Ref sig .tc := ⟨.hbm, 94, rfl⟩
abbrev main_call1_v3 : Ref sig .tc := ⟨.hbm, 95, rfl⟩
abbrev main_call1_v4 : Ref sig .tc := ⟨.hbm, 96, rfl⟩
abbrev main_call1_v5 : Ref sig .tc := ⟨.hbm, 97, rfl⟩
abbrev main_call1_v6 : Ref sig .tc := ⟨.hbm, 98, rfl⟩
abbrev main_call1_v7 : Ref sig .tc := ⟨.hbm, 99, rfl⟩
abbrev main_call1_v8 : Ref sig .tc := ⟨.hbm, 100, rfl⟩
abbrev main_call1_v9 : Ref sig .tc := ⟨.hbm, 101, rfl⟩
abbrev main_call1_v10 : Ref sig .tc := ⟨.hbm, 102, rfl⟩
abbrev main_call1_v11 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_call2_call0_cst : Ref sig .tc := ⟨.hbm, 109, rfl⟩
abbrev main_call2_call0_v0 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩

abbrev nD : Nat := 1
abbrev τ : Topo := Topo.v7x

variable {F : FTy → Type} [FloatOps F]
-- ==== Kernel13.lean ====
abbrev S32x1x4x64x128 : Shape := ⟨5, ![32, 1, 4, 64, 128]⟩
abbrev S32x1x4x64x64 : Shape := ⟨5, ![32, 1, 4, 64, 64]⟩
abbrev S32x1x4 : Shape := ⟨3, ![32, 1, 4]⟩
abbrev S2048x512 : Shape := ⟨2, ![2048, 512]⟩
abbrev S128 : Shape := ⟨1, ![128]⟩
abbrev S4 : Shape := ⟨1, ![4]⟩
abbrev S4x1x1x1 : Shape := ⟨4, ![4, 1, 1, 1]⟩
abbrev S1x1x4x1 : Shape := ⟨4, ![1, 1, 4, 1]⟩
abbrev S4x1x4x1 : Shape := ⟨4, ![4, 1, 4, 1]⟩
abbrev S32x4x64x1x64 : Shape := ⟨5, ![32, 4, 64, 1, 64]⟩
abbrev S_ : Shape := ⟨0, ![]⟩
abbrev S32x4x64x4x64 : Shape := ⟨5, ![32, 4, 64, 4, 64]⟩
abbrev S8192x256 : Shape := ⟨2, ![8192, 256]⟩
abbrev S32x4x64x1x128 : Shape := ⟨5, ![32, 4, 64, 1, 128]⟩
abbrev S32x4x64x4x128 : Shape := ⟨5, ![32, 4, 64, 4, 128]⟩
abbrev S8192x512 : Shape := ⟨2, ![8192, 512]⟩
abbrev S32x1x4x1 : Shape := ⟨4, ![32, 1, 4, 1]⟩
abbrev S32x64x4x128 : Shape := ⟨4, ![32, 64, 4, 128]⟩
abbrev S32x1x64x4x128 : Shape := ⟨5, ![32, 1, 64, 4, 128]⟩
abbrev S1x128 : Shape := ⟨2, ![1, 128]⟩
abbrev S16384x128 : Shape := ⟨2, ![16384, 128]⟩
abbrev S2048x1024 : Shape := ⟨2, ![2048, 1024]⟩
abbrev S512x512 : Shape := ⟨2, ![512, 512]⟩
abbrev S2048x256 : Shape := ⟨2, ![2048, 256]⟩
abbrev S4096x128 : Shape := ⟨2, ![4096, 128]⟩
abbrev S512x128 : Shape := ⟨2, ![512, 128]⟩
abbrev S64x128 : Shape := ⟨2, ![64, 128]⟩
abbrev S256x128 : Shape := ⟨2, ![256, 128]⟩
abbrev S256x512 : Shape := ⟨2, ![256, 512]⟩
abbrev S256x256 : Shape := ⟨2, ![256, 256]⟩
abbrev S128x128 : Shape := ⟨2, ![128, 128]⟩
abbrev S256 : Shape := ⟨1, ![256]⟩
abbrev S256x1 : Shape := ⟨2, ![256, 1]⟩
abbrev S64x512 : Shape := ⟨2, ![64, 512]⟩

abbrev nBuf : Space → Nat
  | .hbm => 81
  | .vmem => 24
  | .smem => 0
  | _ => 0

abbrev bufTy : (tb : Table) → Fin (tcTables nBuf tb) → BufTy
  | .hbm, ⟨0, _⟩ => ⟨S32x1x4x64x128, .f32⟩
  | .hbm, ⟨1, _⟩ => ⟨S32x1x4x64x128, .f32⟩
  | .hbm, ⟨2, _⟩ => ⟨S32x1x4x64x128, .f32⟩
  | .hbm, ⟨3, _⟩ => ⟨S32x1x4x64x64, .f32⟩
  | .hbm, ⟨4, _⟩ => ⟨S32x1x4x64x128, .f32⟩
  | .hbm, ⟨5, _⟩ => ⟨S32x1x4, .f32⟩
  | .hbm, ⟨6, _⟩ => ⟨S2048x512, .f32⟩
  | .hbm, ⟨7, _⟩ => ⟨S128, .f32⟩
  | .hbm, ⟨8, _⟩ => ⟨S4, .i32⟩
  | .hbm, ⟨9, _⟩ => ⟨S4x1x1x1, .i32⟩
  | .hbm, ⟨10, _⟩ => ⟨S4, .i32⟩
  | .hbm, ⟨11, _⟩ => ⟨S1x1x4x1, .i32⟩
  | .hbm, ⟨12, _⟩ => ⟨S4x1x4x1, .i32⟩
  | .hbm, ⟨13, _⟩ => ⟨S4x1x4x1, .i32⟩
  | .hbm, ⟨14, _⟩ => ⟨S4x1x4x1, .i1⟩
  | .hbm, ⟨15, _⟩ => ⟨S32x4x64x1x64, .f32⟩
  | .hbm, ⟨16, _⟩ => ⟨S_, .f32⟩
  | .hbm, ⟨17, _⟩ => ⟨S_, .f32⟩
  | .hbm, ⟨18, _⟩ => ⟨S32x4x64x4x64, .i1⟩
  | .hbm, ⟨19, _⟩ => ⟨S32x4x64x4x64, .f32⟩
  | .hbm, ⟨20, _⟩ => ⟨S32x4x64x4x64, .f32⟩
  | .hbm, ⟨21, _⟩ => ⟨S32x4x64x4x64, .f32⟩
  | .hbm, ⟨22, _⟩ => ⟨S8192x256, .f32⟩
  | .hbm, ⟨23, _⟩ => ⟨S4, .i32⟩
  | .hbm, ⟨24, _⟩ => ⟨S4x1x1x1, .i32⟩
  | .hbm, ⟨25, _⟩ => ⟨S4, .i32⟩
  | .hbm, ⟨26, _⟩ => ⟨S1x1x4x1, .i32⟩
  | .hbm, ⟨27, _⟩ => ⟨S4x1x4x1, .i32⟩
  | .hbm, ⟨28, _⟩ => ⟨S4x1x4x1, .i32⟩
  | .hbm, ⟨29, _⟩ => ⟨S4x1x4x1, .i1⟩
  | .hbm, ⟨30, _⟩ => ⟨S32x4x64x1x128, .f32⟩
  | .hbm, ⟨31, _⟩ => ⟨S_, .f32⟩
  | .hbm, ⟨32, _⟩ => ⟨S_, .f32⟩
  | .hbm, ⟨33, _⟩ => ⟨S32x4x64x4x128, .i1⟩
  | .hbm, ⟨34, _⟩ => ⟨S32x4x64x4x128, .f32⟩
  | .hbm, ⟨35, _⟩ => ⟨S32x4x64x4x128, .f32⟩
  | .hbm, ⟨36, _⟩ => ⟨S32x4x64x4x128, .f32⟩
  | .hbm, ⟨37, _⟩ => ⟨S8192x512, .f32⟩
  | .hbm, ⟨38, _⟩ => ⟨S4, .i32⟩
  | .hbm, ⟨39, _⟩ => ⟨S4x1x1x1, .i32⟩
  | .hbm, ⟨40, _⟩ => ⟨S4, .i32⟩
  | .hbm, ⟨41, _⟩ => ⟨S1x1x4x1, .i32⟩
  | .hbm, ⟨42, _⟩ => ⟨S4x1x4x1, .i32⟩
  | .hbm, ⟨43, _⟩ => ⟨S4x1x4x1, .i32⟩
  | .hbm, ⟨44, _⟩ => ⟨S4x1x4x1, .i1⟩
  | .hbm, ⟨45, _⟩ => ⟨S32x4x64x1x128, .f32⟩
  | .hbm, ⟨46, _⟩ => ⟨S_, .f32⟩
  | .hbm, ⟨47, _⟩ => ⟨S_, .f32⟩
  | .hbm, ⟨48, _⟩ => ⟨S32x4x64x4x128, .i1⟩
  | .hbm, ⟨49, _⟩ => ⟨S32x4x64x4x128, .f32⟩
  | .hbm, ⟨50, _⟩ => ⟨S32x4x64x4x128, .f32⟩
  | .hbm, ⟨51, _⟩ => ⟨S32x4x64x4x128, .f32⟩
  | .hbm, ⟨52, _⟩ => ⟨S8192x512, .f32⟩
  | .hbm, ⟨53, _⟩ => ⟨S4, .i32⟩
  | .hbm, ⟨54, _⟩ => ⟨S4x1x1x1, .i32⟩
  | .hbm, ⟨55, _⟩ => ⟨S4, .i32⟩
  | .hbm, ⟨56, _⟩ => ⟨S1x1x4x1, .i32⟩
  | .hbm, ⟨57, _⟩ => ⟨S4x1x4x1, .i32⟩
  | .hbm, ⟨58, _⟩ => ⟨S4x1x4x1, .i32⟩
  | .hbm, ⟨59, _⟩ => ⟨S4x1x4x1, .i1⟩
  | .hbm, ⟨60, _⟩ => ⟨S32x4x64x1x128, .f32⟩
  | .hbm, ⟨61, _⟩ => ⟨S_, .f32⟩
  | .hbm, ⟨62, _⟩ => ⟨S_, .f32⟩
  | .hbm, ⟨63, _⟩ => ⟨S32x4x64x4x128, .i1⟩
  | .hbm, ⟨64, _⟩ => ⟨S32x4x64x4x128, .f32⟩
  | .hbm, ⟨65, _⟩ => ⟨S32x4x64x4x128, .f32⟩
  | .hbm, ⟨66, _⟩ => ⟨S32x4x64x4x128, .f32⟩
  | .hbm, ⟨67, _⟩ => ⟨S8192x512, .f32⟩
  | .hbm, ⟨68, _⟩ => ⟨S32x1x4x1, .f32⟩
  | .hbm, ⟨69, _⟩ => ⟨S32x64x4x128, .f32⟩
  | .hbm, ⟨70, _⟩ => ⟨S2048x512, .f32⟩
  | .hbm, ⟨71, _⟩ => ⟨S32x1x64x4x128, .f32⟩
  | .hbm, ⟨72, _⟩ => ⟨S2048x512, .f32⟩
  | .hbm, ⟨73, _⟩ => ⟨S8192x512, .bf16⟩
  | .hbm, ⟨74, _⟩ => ⟨S8192x512, .bf16⟩
  | .hbm, ⟨75, _⟩ => ⟨S8192x512, .bf16⟩
  | .hbm, ⟨76, _⟩ => ⟨S1x128, .f32⟩
  | .hbm, ⟨77, _⟩ => ⟨S2048x512, .f32⟩
  | .hbm, ⟨78, _⟩ => ⟨S2048x512, .f32⟩
  | .hbm, ⟨79, _⟩ => ⟨S16384x128, .f32⟩
  | .hbm, ⟨80, _⟩ => ⟨S2048x1024, .bf16⟩
  | .local _ .vmem, ⟨0, _⟩ => ⟨S512x512, .f32⟩
  | .local _ .vmem, ⟨1, _⟩ => ⟨S512x512, .f32⟩
  | .local _ .vmem, ⟨2, _⟩ => ⟨S2048x256, .f32⟩
  | .local _ .vmem, ⟨3, _⟩ => ⟨S2048x256, .f32⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S1x128, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S4096x128, .f32⟩
  | .local _ .vmem, ⟨20, _⟩ => ⟨S4096x128, .f32⟩
  | .local _ .vmem, ⟨21, _⟩ => ⟨S512x512, .bf16⟩
  | .local _ .vmem, ⟨22, _⟩ => ⟨S512x512, .bf16⟩
  | .local _ .vmem, ⟨23, _⟩ => ⟨S512x128, .f32⟩
  | _, _ => ⟨S32x1x4x64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_0 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_call1_v3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_1 : Ref sig .tc := ⟨.hbm, 46, rfl⟩
abbrev main_call2_v0 : Ref sig .tc := ⟨.hbm, 47, rfl⟩
abbrev main_call2_v1 : Ref sig .tc := ⟨.hbm, 48, rfl⟩
abbrev main_call2_v2 : Ref sig .tc := ⟨.hbm, 49, rfl⟩
abbrev main_call2_v3 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_2 : Ref sig .tc := ⟨.hbm, 61, rfl⟩
abbrev main_call3_v0 : Ref sig .tc := ⟨.hbm, 62, rfl⟩
abbrev main_call3_v1 : Ref sig .tc := ⟨.hbm, 63, rfl⟩
abbrev main_call3_v2 : Ref sig .tc := ⟨.hbm, 64, rfl⟩
abbrev main_call3_v3 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49_0 : Ref sig .tc := ⟨.hbm, 77, rfl⟩
abbrev main_v49_1 : Ref sig .tc := ⟨.hbm, 78, rfl⟩
abbrev main_v49_2 : Ref sig .tc := ⟨.hbm, 79, rfl⟩
abbrev main_v49_3 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_scratch0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4096x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference13Ideal.lean ====
abbrev S32x1x4x64x128 : Shape := ⟨5, ![32, 1, 4, 64, 128]⟩
abbrev S32x1x4x64x64 : Shape := ⟨5, ![32, 1, 4, 64, 64]⟩
abbrev S32x1x4 : Shape := ⟨3, ![32, 1, 4]⟩
abbrev S2048x512 : Shape := ⟨2, ![2048, 512]⟩
abbrev S128 : Shape := ⟨1, ![128]⟩
abbrev S_ : Shape := ⟨0, ![]⟩
abbrev S1x4x128x128 : Shape := ⟨4, ![1, 4, 128, 128]⟩
abbrev S32x1x4x128x128 : Shape := ⟨5, ![32, 1, 4, 128, 128]⟩
abbrev S1x1x4x64x128 : Shape := ⟨5, ![1, 1, 4, 64, 128]⟩
abbrev S1x4x64x128 : Shape := ⟨4, ![1, 4, 64, 128]⟩
abbrev S1x1x4x64x64 : Shape := ⟨5, ![1, 1, 4, 64, 64]⟩
abbrev S1x4x64x64 : Shape := ⟨4, ![1, 4, 64, 64]⟩
abbrev S1x1x4 : Shape := ⟨3, ![1, 1, 4]⟩
abbrev S1x4 : Shape := ⟨2, ![1, 4]⟩
abbrev S1x4x1x1 : Shape := ⟨4, ![1, 4, 1, 1]⟩
abbrev S1x1x4x128x128 : Shape := ⟨5, ![1, 1, 4, 128, 128]⟩
abbrev S32x1x64x4x128 : Shape := ⟨5, ![32, 1, 64, 4, 128]⟩
abbrev S16384x128 : Shape := ⟨2, ![16384, 128]⟩

abbrev nBuf : Space → Nat
  | .hbm => 100
  | .vmem => 0
  | .smem => 0
  | _ => 0

abbrev bufTy : (tb : Table) → Fin (tcTables nBuf tb) → BufTy
  | .hbm, ⟨0, _⟩ => ⟨S32x1x4x64x128, .f32⟩
  | .hbm, ⟨1, _⟩ => ⟨S32x1x4x64x128, .f32⟩
  | .hbm, ⟨2, _⟩ => ⟨S32x1x4x64x128, .f32⟩
  | .hbm, ⟨3, _⟩ => ⟨S32x1x4x64x64, .f32⟩
  | .hbm, ⟨4, _⟩ => ⟨S32x1x4x64x128, .f32⟩
  | .hbm, ⟨5, _⟩ => ⟨S32x1x4, .f32⟩
  | .hbm, ⟨6, _⟩ => ⟨S2048x512, .f32⟩
  | .hbm, ⟨7, _⟩ => ⟨S128, .f32⟩
  | .hbm, ⟨8, _⟩ => ⟨S_, .f32⟩
  | .hbm, ⟨9, _⟩ => ⟨S1x4x128x128, .f32⟩
  | .hbm, ⟨10, _⟩ => ⟨S_, .f32⟩
  | .hbm, ⟨11, _⟩ => ⟨S32x1x4x64x128, .f32⟩
  | .hbm, ⟨12, _⟩ => ⟨S_, .f32⟩
  | .hbm, ⟨13, _⟩ => ⟨S32x1x4x64x128, .f32⟩
  | .hbm, ⟨14, _⟩ => ⟨S_, .f32⟩
  | .hbm, ⟨15, _⟩ => ⟨S32x1x4x128x128, .f32⟩
  | .hbm, ⟨16, _⟩ => ⟨S_, .i32⟩
  | .hbm, ⟨17, _⟩ => ⟨S32x1x4x64x128, .f32⟩
  | .hbm, ⟨18, _⟩ => ⟨S32x1x4x64x128, .f32⟩
  | .hbm, ⟨19, _⟩ => ⟨S32x1x4x64x128, .f32⟩
  | .hbm, ⟨20, _⟩ => ⟨S32x1x4x64x64, .f32⟩
  | .hbm, ⟨21, _⟩ => ⟨S32x1x4x64x128, .f32⟩
  | .hbm, ⟨22, _⟩ => ⟨S32x1x4, .f32⟩
  | .hbm, ⟨23, _⟩ => ⟨S_, .i32⟩
  | .hbm, ⟨24, _⟩ => ⟨S1x4x128x128, .f32⟩
  | .hbm, ⟨25, _⟩ => ⟨S32x1x4x64x128, .f32⟩
  | .hbm, ⟨26, _⟩ => ⟨S32x1x4x64x128, .f32⟩
  | .hbm, ⟨27, _⟩ => ⟨S32x1x4x128x128, .f32⟩
  | .hbm, ⟨28, _⟩ => ⟨S_, .i32⟩
  | .hbm, ⟨29, _⟩ => ⟨S_, .i1⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S1x1x4x64x128, .f32⟩
  | .hbm, ⟨35, _⟩ => ⟨S1x4x64x128, .f32⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S1x1x4x64x128, .f32⟩
  | .hbm, ⟨41, _⟩ => ⟨S1x4x64x128, .f32⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S1x1x4x64x128, .f32⟩
  | .hbm, ⟨47, _⟩ => ⟨S1x4x64x128, .f32⟩
  | .hbm, ⟨48, _⟩ => ⟨S_, .i32⟩
  | .hbm, ⟨49, _⟩ => ⟨S_, .i32⟩
  | .hbm, ⟨50, _⟩ => ⟨S_, .i32⟩
  | .hbm, ⟨51, _⟩ => ⟨S_, .i32⟩
  | .hbm, ⟨52, _⟩ => ⟨S1x1x4x64x64, .f32⟩
  | .hbm, ⟨53, _⟩ => ⟨S1x4x64x64, .f32⟩
  | .hbm, ⟨54, _⟩ => ⟨S_, .i32⟩
  | .hbm, ⟨55, _⟩ => ⟨S_, .i32⟩
  | .hbm, ⟨56, _⟩ => ⟨S_, .i32⟩
  | .hbm, ⟨57, _⟩ => ⟨S_, .i32⟩
  | .hbm, ⟨58, _⟩ => ⟨S1x1x4x64x128, .f32⟩
  | .hbm, ⟨59, _⟩ => ⟨S1x4x64x128, .f32⟩
  | .hbm, ⟨60, _⟩ => ⟨S_, .i32⟩
  | .hbm, ⟨61, _⟩ => ⟨S_, .i32⟩
  | .hbm, ⟨62, _⟩ => ⟨S1x1x4, .f32⟩
  | .hbm, ⟨63, _⟩ => ⟨S1x4, .f32⟩
  | .hbm, ⟨64, _⟩ => ⟨S1x4x64x128, .f32⟩
  | .hbm, ⟨65, _⟩ => ⟨S1x4x64x128, .f32⟩
  | .hbm, ⟨66, _⟩ => ⟨S1x4x64x128, .f32⟩
  | .hbm, ⟨67, _⟩ => ⟨S1x4x64x128, .f32⟩
  | .hbm, ⟨68, _⟩ => ⟨S1x4x64x128, .f32⟩
  | .hbm, ⟨69, _⟩ => ⟨S1x4, .f32⟩
  | .hbm, ⟨70, _⟩ => ⟨S1x4x1x1, .f32⟩
  | .hbm, ⟨71, _⟩ => ⟨S1x4x128x128, .f32⟩
  | .hbm, ⟨72, _⟩ => ⟨S1x4x128x128, .f32⟩
  | .hbm, ⟨73, _⟩ => ⟨S1x4x128x128, .f32⟩
  | .hbm, ⟨74, _⟩ => ⟨S1x4x128x128, .f32⟩
  | .hbm, ⟨75, _⟩ => ⟨S1x1x4x64x128, .f32⟩
  | .hbm, ⟨76, _⟩ => ⟨S_, .i32⟩
  | .hbm, ⟨77, _⟩ => ⟨S_, .i32⟩
  | .hbm, ⟨78, _⟩ => ⟨S_, .i32⟩
  | .hbm, ⟨79, _⟩ => ⟨S_, .i32⟩
  | .hbm, ⟨80, _⟩ => ⟨S32x1x4x64x128, .f32⟩
  | .hbm, ⟨81, _⟩ => ⟨S1x1x4x64x128, .f32⟩
  | .hbm, ⟨82, _⟩ => ⟨S_, .i32⟩
  | .hbm, ⟨83, _⟩ => ⟨S_, .i32⟩
  | .hbm, ⟨84, _⟩ => ⟨S_, .i32⟩
  | .hbm, ⟨85, _⟩ => ⟨S_, .i32⟩
  | .hbm, ⟨86, _⟩ => ⟨S32x1x4x64x128, .f32⟩
  | .hbm, ⟨87, _⟩ => ⟨S1x1x4x128x128, .f32⟩
  | .hbm, ⟨88, _⟩ => ⟨S_, .i32⟩
  | .hbm, ⟨89, _⟩ => ⟨S_, .i32⟩
  | .hbm, ⟨90, _⟩ => ⟨S_, .i32⟩
  | .hbm, ⟨91, _⟩ => ⟨S_, .i32⟩
  | .hbm, ⟨92, _⟩ => ⟨S32x1x4x128x128, .f32⟩
  | .hbm, ⟨93, _⟩ => ⟨S_, .i32⟩
  | .hbm, ⟨94, _⟩ => ⟨S_, .i32⟩
  | .hbm, ⟨95, _⟩ => ⟨S32x1x64x4x128, .f32⟩
  | .hbm, ⟨96, _⟩ => ⟨S2048x512, .f32⟩
  | .hbm, ⟨97, _⟩ => ⟨S32x1x64x4x128, .f32⟩
  | .hbm, ⟨98, _⟩ => ⟨S2048x512, .f32⟩
  | .hbm, ⟨99, _⟩ => ⟨S16384x128, .f32⟩
  | _, _ => ⟨S32x1x4x64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_cst_1 : Ref sig .tc := ⟨.hbm, 12, rfl⟩
abbrev main_v2 : Ref sig .tc := ⟨.hbm, 13, rfl⟩
abbrev main_cst_2 : Ref sig .tc := ⟨.hbm, 14, rfl⟩
abbrev main_v3 : Ref sig .tc := ⟨.hbm, 15, rfl⟩
abbrev main_c : Ref sig .tc := ⟨.hbm, 16, rfl⟩
abbrev main_v4_0 : Ref sig .tc := ⟨.hbm, 17, rfl⟩
abbrev main_v4_1 : Ref sig .tc := ⟨.hbm, 18, rfl⟩
abbrev main_v4_2 : Ref sig .tc := ⟨.hbm, 19, rfl⟩
abbrev main_v4_3 : Ref sig .tc := ⟨.hbm, 20, rfl⟩
abbrev main_v4_4 : Ref sig .tc := ⟨.hbm, 21, rfl⟩
abbrev main_v4_5 : Ref sig .tc := ⟨.hbm, 22, rfl⟩
abbrev main_v4_6 : Ref sig .tc := ⟨.hbm, 23, rfl⟩
abbrev main_v4_7 : Ref sig .tc := ⟨.hbm, 24, rfl⟩
abbrev main_v4_8 : Ref sig .tc := ⟨.hbm, 25, rfl⟩
abbrev main_v4_9 : Ref sig .tc := ⟨.hbm, 26, rfl⟩
abbrev main_v4_10 : Ref sig .tc := ⟨.hbm, 27, rfl⟩
abbrev main_while0c_c_13 : Ref sig .tc := ⟨.hbm, 28, rfl⟩
abbrev main_while0c_v10 : Ref sig .tc := ⟨.hbm, 29, rfl⟩
abbrev main_while0b_call0_c : Ref sig .tc := ⟨.hbm, 30, rfl⟩
abbrev main_while0b_call0_c_0 : Ref sig .tc := ⟨.hbm, 31, rfl⟩
abbrev main_while0b_call0_c_1 : Ref sig .tc := ⟨.hbm, 32, rfl⟩
abbrev main_while0b_call0_c_2 : Ref sig .tc := ⟨.hbm, 33, rfl⟩
abbrev main_while0b_call0_v0 : Ref sig .tc := ⟨.hbm, 34, rfl⟩
abbrev main_while0b_v10 : Ref sig .tc := ⟨.hbm, 35, rfl⟩
abbrev main_while0b_call1_c : Ref sig .tc := ⟨.hbm, 36, rfl⟩
abbrev main_while0b_call1_c_0 : Ref sig .tc := ⟨.hbm, 37, rfl⟩
abbrev main_while0b_call1_c_1 : Ref sig .tc := ⟨.hbm, 38, rfl⟩
abbrev main_while0b_call1_c_2 : Ref sig .tc := ⟨.hbm, 39, rfl⟩
abbrev main_while0b_call1_v0 : Ref sig .tc := ⟨.hbm, 40, rfl⟩
abbrev main_while0b_v11 : Ref sig .tc := ⟨.hbm, 41, rfl⟩
abbrev main_while0b_call2_c : Ref sig .tc := ⟨.hbm, 42, rfl⟩
abbrev main_while0b_call2_c_0 : Ref sig .tc := ⟨.hbm, 43, rfl⟩
abbrev main_while0b_call2_c_1 : Ref sig .tc := ⟨.hbm, 44, rfl⟩
abbrev main_while0b_call2_c_2 : Ref sig .tc := ⟨.hbm, 45, rfl⟩
abbrev main_while0b_call2_v0 : Ref sig .tc := ⟨.hbm, 46, rfl⟩
abbrev main_while0b_v12 : Ref sig .tc := ⟨.hbm, 47, rfl⟩
abbrev main_while0b_call3_c : Ref sig .tc := ⟨.hbm, 48, rfl⟩
abbrev main_while0b_call3_c_0 : Ref sig .tc := ⟨.hbm, 49, rfl⟩
abbrev main_while0b_call3_c_1 : Ref sig .tc := ⟨.hbm, 50, rfl⟩
abbrev main_while0b_call3_c_2 : Ref sig .tc := ⟨.hbm, 51, rfl⟩
abbrev main_while0b_call3_v0 : Ref sig .tc := ⟨.hbm, 52, rfl⟩
abbrev main_while0b_v13 : Ref sig .tc := ⟨.hbm, 53, rfl⟩
abbrev main_while0b_call4_c : Ref sig .tc := ⟨.hbm, 54, rfl⟩
abbrev main_while0b_call4_c_0 : Ref sig .tc := ⟨.hbm, 55, rfl⟩
abbrev main_while0b_call4_c_1 : Ref sig .tc := ⟨.hbm, 56, rfl⟩
abbrev main_while0b_call4_c_2 : Ref sig .tc := ⟨.hbm, 57, rfl⟩
abbrev main_while0b_call4_v0 : Ref sig .tc := ⟨.hbm, 58, rfl⟩
abbrev main_while0b_v14 : Ref sig .tc := ⟨.hbm, 59, rfl⟩
abbrev main_while0b_call5_c : Ref sig .tc := ⟨.hbm, 60, rfl⟩
abbrev main_while0b_call5_c_0 : Ref sig .tc := ⟨.hbm, 61, rfl⟩
abbrev main_while0b_call5_v0 : Ref sig .tc := ⟨.hbm, 62, rfl⟩
abbrev main_while0b_v15 : Ref sig .tc := ⟨.hbm, 63, rfl⟩
abbrev main_while0b_v16 : Ref sig .tc := ⟨.hbm, 64, rfl⟩
abbrev main_while0b_v17 : Ref sig .tc := ⟨.hbm, 65, rfl⟩
abbrev main_while0b_v18 : Ref sig .tc := ⟨.hbm, 66, rfl⟩
abbrev main_while0b_v19 : Ref sig .tc := ⟨.hbm, 67, rfl⟩
abbrev main_while0b_v20 : Ref sig .tc := ⟨.hbm, 68, rfl⟩
abbrev main_while0b_v21 : Ref sig .tc := ⟨.hbm, 69, rfl⟩
abbrev main_while0b_v22 : Ref sig .tc := ⟨.hbm, 70, rfl⟩
abbrev main_while0b_v23 : Ref sig .tc := ⟨.hbm, 71, rfl⟩
abbrev main_while0b_v24 : Ref sig .tc := ⟨.hbm, 72, rfl⟩
abbrev main_while0b_v25 : Ref sig .tc := ⟨.hbm, 73, rfl⟩
abbrev main_while0b_v26 : Ref sig .tc := ⟨.hbm, 74, rfl⟩
abbrev main_while0b_call6_v0 : Ref sig .tc := ⟨.hbm, 75, rfl⟩
abbrev main_while0b_call6_c : Ref sig .tc := ⟨.hbm, 76, rfl⟩
abbrev main_while0b_call6_c_0 : Ref sig .tc := ⟨.hbm, 77, rfl⟩
abbrev main_while0b_call6_c_1 : Ref sig .tc := ⟨.hbm, 78, rfl⟩
abbrev main_while0b_call6_c_2 : Ref sig .tc := ⟨.hbm, 79, rfl⟩
abbrev main_while0b_v27 : Ref sig .tc := ⟨.hbm, 80, rfl⟩
abbrev main_while0b_call7_v0 : Ref sig .tc := ⟨.hbm, 81, rfl⟩
abbrev main_while0b_call7_c : Ref sig .tc := ⟨.hbm, 82, rfl⟩
abbrev main_while0b_call7_c_0 : Ref sig .tc := ⟨.hbm, 83, rfl⟩
abbrev main_while0b_call7_c_1 : Ref sig .tc := ⟨.hbm, 84, rfl⟩
abbrev main_while0b_call7_c_2 : Ref sig .tc := ⟨.hbm, 85, rfl⟩
abbrev main_while0b_v28 : Ref sig .tc := ⟨.hbm, 86, rfl⟩
abbrev main_while0b_call8_v0 : Ref sig .tc := ⟨.hbm, 87, rfl⟩
abbrev main_while0b_call8_c : Ref sig .tc := ⟨.hbm, 88, rfl⟩
abbrev main_while0b_call8_c_0 : Ref sig .tc := ⟨.hbm, 89, rfl⟩
abbrev main_while0b_call8_c_1 : Ref sig .tc := ⟨.hbm, 90, rfl⟩
abbrev main_while0b_call8_c_2 : Ref sig .tc := ⟨.hbm, 91, rfl⟩
abbrev main_while0b_v29 : Ref sig .tc := ⟨.hbm, 92, rfl⟩
abbrev main_while0b_c_13 : Ref sig .tc := ⟨.hbm, 93, rfl⟩
abbrev main_while0b_v30 : Ref sig .tc := ⟨.hbm, 94, rfl⟩
abbrev main_v5 : Ref sig .tc := ⟨.hbm, 95, rfl⟩
abbrev main_v6 : Ref sig .tc := ⟨.hbm, 96, rfl⟩
abbrev main_v7 : Ref sig .tc := ⟨.hbm, 97, rfl⟩
abbrev main_v8 : Ref sig .tc := ⟨.hbm, 98, rfl⟩
abbrev main_v9 : Ref sig .tc := ⟨.hbm, 99, rfl⟩

abbrev nD : Nat := 1
abbrev τ : Topo := Topo.v7x

variable {F : FTy → Type} [FloatOps F]

abbrev main_while0_count : Scf.Loop 32 := ⟨0#32, 32#32, 1#32⟩
-- ==== Proof.Spec.lean ====
module

public import Idealize.ShloMosaic.Lib.Pointwise

@[expose] public section

/-!
# The gradients of the channel mixer, written entry by entry

The channel mixer convolves its input `u` (2048 tokens, 5632 channels) causally along the tokens with three taps, splits
the channels into a gate half and an up half, and multiplies `silu gate * up` by the matrix `w_down`. The functions below
give the gradients of that map at natural-number positions, over tables `u`, `dx` (the incoming gradient), `cw` (the taps)
and `wd` (`w_down`). Both programs are shown to compute them.
-/

noncomputable section

namespace Mixer

open Idealize.ShloMosaic

/-- A table of extended reals with rows and columns numbered from zero. -/
abbrev Tab := ℕ → ℕ → EReal

/-- The table of an array of two axes; zero outside it. -/
def tab {a b : ℕ} (x : (⟨2, ![a, b]⟩ : Shape).Idx → EReal) : Tab := fun r l =>
  if h : r < a ∧ l < b then x (ix2 ⟨r, h.1⟩ ⟨l, h.2⟩) else 0

theorem tab_apply {a b : ℕ} (x : (⟨2, ![a, b]⟩ : Shape).Idx → EReal) (r : Fin a) (l : Fin b) : x (ix2 r l) = tab x r l := by
  rw [tab, dif_pos ⟨r.isLt, l.isLt⟩]

/-- The product of two tables with 1024 inner positions. -/
def product (h w : Tab) (s n : ℕ) : EReal := ∑ k : Fin 1024, h s k * w k n

/-- `u` with sixteen rows of zeros in front. -/
def padded (u : Tab) (q n : ℕ) : EReal := if q < 16 then 0 else u (q - 16) n

/-- The causal convolution with three taps. -/
def conv (u cw : Tab) (s n : ℕ) : EReal :=
  padded u (s + 14) n * cw 0 n + padded u (s + 15) n * cw 1 n + padded u (s + 16) n * cw 2 n

/-- The logistic function. -/
def logis (g : EReal) : EReal := Ideal.div 1 (1 + Ideal.exp (0 - g))

/-- The gradient at the gated activation; zero after the last token. -/
def dAct (dx wd : Tab) (s f : ℕ) : EReal := if s < 2048 then ∑ d : Fin 1024, dx s d * wd f d else 0

/-- The gated activation. -/
def act (u cw : Tab) (s f : ℕ) : EReal := (conv u cw s f * logis (conv u cw s f)) * conv u cw s (2816 + f)

/-- The gradient at the gate half of the convolved channels. -/
def dGate (u dx cw wd : Tab) (s f : ℕ) : EReal :=
  dAct dx wd s f * conv u cw s (2816 + f)
    * (logis (conv u cw s f) * (1 + conv u cw s f * (1 - logis (conv u cw s f))))

/-- The gradient at the up half of the convolved channels. -/
def dUp (u dx cw wd : Tab) (s f : ℕ) : EReal := dAct dx wd s f * (conv u cw s f * logis (conv u cw s f))

/-- The gradient at the convolved channels, both halves. -/
def dConvd (u dx cw wd : Tab) (s n : ℕ) : EReal :=
  if n < 2816 then dGate u dx cw wd s n else dUp u dx cw wd s (n - 2816)

/-- The gradient at the mixer's input. -/
def dIn (u dx cw wd : Tab) (s n : ℕ) : EReal :=
  dConvd u dx cw wd (s + 2) n * cw 0 n + dConvd u dx cw wd (s + 1) n * cw 1 n + dConvd u dx cw wd s n * cw 2 n

theorem dConvd_gate {u dx cw wd : Tab} {s n : ℕ} (h : n < 2816) :
    dConvd u dx cw wd s n = dGate u dx cw wd s n := if_pos h

theorem dConvd_up {u dx cw wd : Tab} {s n : ℕ} : dConvd u dx cw wd s (2816 + n) = dUp u dx cw wd s n := by
  rw [dConvd, if_neg (by omega), Nat.add_sub_cancel_left]

theorem dAct_of_ge {dx wd : Tab} {s f : ℕ} (h : 2048 ≤ s) : dAct dx wd s f = 0 := if_neg (by omega)

theorem dConvd_of_ge {u dx cw wd : Tab} {s n : ℕ} (h : 2048 ≤ s) : dConvd u dx cw wd s n = 0 := by
  rw [dConvd, dGate, dUp, dAct_of_ge h, dAct_of_ge h]
  simp only [zero_mul, ite_self]

end Mixer
-- ==== Proof.Payload.lean ====
module

public import proofs.«01_k».proof.Proof.Gen.KernelIdeal.Skeleton
public import proofs.«01_k».proof.Proof.Spec

@[expose] public section

set_option maxRecDepth 16384

/-!
# What one grid point computes

A grid point takes 512 token rows (block `i`) and 704 channels (block `j`) of each half. `Blocks` says what its blocks hold; the lemmas
after it read each value the point stores at an entry, as the entry of `Mixer`'s tables.
-/

noncomputable section

namespace Cert.KernelIdeal.Payload

open Cert.KernelIdeal Cert.KernelIdeal.Gen Idealize.ShloMosaic Mixer

/-! ## The two masks -/

theorem keep_word : ∀ (i : Fin 4) (r : Fin 544), IntOp.ori (Scalar.cmpi CmpIPredicate.sgt (BitVec.ofNat 32 i.val) 0#32)
    (IntOp.cmpi CmpIPredicate.sge (BitVec.ofNat 32 r.val) 16#32) = BitVec.ofBool (decide (0 < i.val ∨ 16 ≤ r.val)) := by
  decide +kernel

theorem live_word : ∀ (i : Fin 4) (r : Fin 528), IntOp.ori (Scalar.cmpi CmpIPredicate.slt (BitVec.ofNat 32 i.val) 3#32)
    (IntOp.cmpi CmpIPredicate.slt (BitVec.ofNat 32 r.val) 512#32) = BitVec.ofBool (decide (i.val < 3 ∨ r.val < 512)) := by
  decide +kernel

theorem select_ofBool (p : Prop) [Decidable p] (a b : EReal) :
    Scalar.select (BitVec.ofBool (decide p)) a b = if p then a else b := by
  by_cases h : p <;> simp [h, Scalar.select]

/-- What a grid point's twelve input blocks hold, as entries of the tables. -/
structure Blocks (t : grid0.Coords) (u dx h cw wd : Tab) (x0 : Vec Ideal S512x1024 .bf16) (x1 : Vec Ideal S16x1024 .bf16)
    (x2 : Vec Ideal S512x1024 .bf16) (x3 : Vec Ideal S1x512x704 .bf16) (x4 x5 : Vec Ideal S1x16x704 .bf16)
    (x6 : Vec Ideal S1x512x704 .bf16) (x7 x8 : Vec Ideal S1x16x704 .bf16) (x9 x10 : Vec Ideal S1x3x704 .f32)
    (x11 : Vec Ideal S704x1024 .bf16) : Prop where
  h0 : ∀ (r : Fin 512) (d : Fin 1024), x0 (ix2 r d) = dx (512 * (t 1).val + r) d
  h1 : (t 1).val < 3 → ∀ (r : Fin 16) (d : Fin 1024), x1 (ix2 r d) = dx (512 * (t 1).val + 512 + r) d
  h2 : ∀ (r : Fin 512) (d : Fin 1024), x2 (ix2 r d) = h (512 * (t 1).val + r) d
  h3 : ∀ (r : Fin 512) (l : Fin 704), x3 (ix3 0 r l) = u (512 * (t 1).val + r) (704 * (t 0).val + l)
  h4 : 0 < (t 1).val → ∀ (r : Fin 16) (l : Fin 704), x4 (ix3 0 r l) = u (512 * (t 1).val - 16 + r) (704 * (t 0).val + l)
  h5 : (t 1).val < 3 → ∀ (r : Fin 16) (l : Fin 704), x5 (ix3 0 r l) = u (512 * (t 1).val + 512 + r) (704 * (t 0).val + l)
  h6 : ∀ (r : Fin 512) (l : Fin 704), x6 (ix3 0 r l) = u (512 * (t 1).val + r) (2816 + (704 * (t 0).val + l))
  h7 : 0 < (t 1).val → ∀ (r : Fin 16) (l : Fin 704),
    x7 (ix3 0 r l) = u (512 * (t 1).val - 16 + r) (2816 + (704 * (t 0).val + l))
  h8 : (t 1).val < 3 → ∀ (r : Fin 16) (l : Fin 704),
    x8 (ix3 0 r l) = u (512 * (t 1).val + 512 + r) (2816 + (704 * (t 0).val + l))
  h9 : ∀ (k : Fin 3) (l : Fin 704), x9 (ix3 0 k l) = cw k (704 * (t 0).val + l)
  h10 : ∀ (k : Fin 3) (l : Fin 704), x10 (ix3 0 k l) = cw k (2816 + (704 * (t 0).val + l))
  h11 : ∀ (f : Fin 704) (d : Fin 1024), x11 (ix2 f d) = wd (704 * (t 0).val + f) d

/-- Three consecutive row blocks behind the mask are the padded table. -/
theorem ext_core (t : grid0.Coords) (u : Tab) (n : ℕ) (r : Fin 544) (hr : (t 1).val < 3 ∨ r.val < 528)
    (a : r.val < 16 → EReal) (b : ¬ r.val < 16 → r.val - 16 < 512 → EReal) (c : ¬ r.val < 16 → ¬ r.val - 16 < 512 → EReal)
    (ha : 0 < (t 1).val → ∀ h, a h = u (512 * (t 1).val - 16 + r.val) n)
    (hb : ∀ h h', b h h' = u (512 * (t 1).val + (r.val - 16)) n)
    (hc : (t 1).val < 3 → ∀ h h', c h h' = u (512 * (t 1).val + 512 + (r.val - 16 - 512)) n) :
    Scalar.select (IntOp.ori (Scalar.cmpi CmpIPredicate.sgt (BitVec.ofNat 32 (t 1).val) 0#32)
      (IntOp.cmpi CmpIPredicate.sge (BitVec.ofNat 32 r.val) 16#32))
      (if h : r.val < 16 then a h else if h' : r.val - 16 < 512 then b h h' else c h h') 0
      = padded u (512 * (t 1).val + r.val) n := by
  have hw := keep_word (t 1) r
  rw [hw, select_ofBool, padded]
  by_cases h1 : r.val < 16
  · rw [dif_pos h1]
    by_cases h2 : 0 < (t 1).val
    · rw [if_pos (Or.inl h2), if_neg (by omega), ha h2]; congr 1; omega
    · rw [if_neg (by omega), if_pos (by omega)]
  · rw [dif_neg h1, if_pos (Or.inr (by omega)), if_neg (by omega)]
    by_cases h2 : r.val - 16 < 512
    · rw [dif_pos h2, hb]; congr 1; omega
    · rw [dif_neg h2, hc (by omega)]; congr 1; omega

section
variable {t : grid0.Coords} {u dx h cw wd : Tab} {x0 : Vec Ideal S512x1024 .bf16} {x1 : Vec Ideal S16x1024 .bf16}
    {x2 : Vec Ideal S512x1024 .bf16} {x3 : Vec Ideal S1x512x704 .bf16} {x4 x5 : Vec Ideal S1x16x704 .bf16}
    {x6 : Vec Ideal S1x512x704 .bf16} {x7 x8 : Vec Ideal S1x16x704 .bf16} {x9 x10 : Vec Ideal S1x3x704 .f32}
    {x11 : Vec Ideal S704x1024 .bf16}

theorem ug_at (B : Blocks t u dx h cw wd x0 x1 x2 x3 x4 x5 x6 x7 x8 x9 x10 x11) (r : Fin 544) (l : Fin 704)
    (hr : (t 1).val < 3 ∨ r.val < 528) :
    k0_pay17 (F := Ideal) (k0_pay15 t) (k0_pay16 x4 x3 x5) (ix2 r l) = padded u (512 * (t 1).val + r.val) (704 * (t 0).val + l.val) := by
  pointwise [k0_pay17, k0_pay16, k0_pay15]
  refine ext_core t u _ r hr _ _ _ (fun hi h => B.h4 hi _ _) (fun h h' => B.h3 _ _) (fun hi h h' => B.h5 hi _ _)

theorem uu_at (B : Blocks t u dx h cw wd x0 x1 x2 x3 x4 x5 x6 x7 x8 x9 x10 x11) (r : Fin 544) (l : Fin 704)
    (hr : (t 1).val < 3 ∨ r.val < 528) :
    k0_pay18 (F := Ideal) (k0_pay15 t) x7 x6 x8 (ix2 r l) = padded u (512 * (t 1).val + r.val) (2816 + (704 * (t 0).val + l.val)) := by
  pointwise [k0_pay18, k0_pay15]
  refine ext_core t u _ r hr _ _ _ (fun hi h => B.h7 hi _ _) (fun h h' => B.h6 _ _) (fun hi h h' => B.h8 hi _ _)

/-- The gradient at the activation; the rows after the last token are masked to zero. -/
theorem dact_at (B : Blocks t u dx h cw wd x0 x1 x2 x3 x4 x5 x6 x7 x8 x9 x10 x11) (r : Fin 528) (l : Fin 704) :
    k0_pay14 (F := Ideal) t x0 x1 x11 (ix2 r l) = dAct dx wd (512 * (t 1).val + r.val) (704 * (t 0).val + l.val) := by
  have ht : (t 1).val < 4 := (t 1).isLt
  pointwise [k0_pay14, k0_pay13]
  have hw := live_word (t 1) r
  rw [hw, select_ofBool, dAct]
  by_cases hc : (t 1).val < 3 ∨ r.val < 512
  · rw [if_pos hc, if_pos (by omega)]
    refine Finset.sum_congr rfl fun d _ => ?_
    rw [B.h11]
    by_cases h1 : r.val < 512
    · rw [dif_pos h1, B.h0]
    · rw [dif_neg h1, B.h1 (by omega)]; congr 2; show _ + 512 + (r.val - 512) = _; omega
  · rw [if_neg hc, if_neg (by omega)]

theorem conv_core (u cw : Tab) (a b c w0 w1 w2 : EReal) (s n : ℕ) (ha : a = padded u (s + 14) n) (hb : b = padded u (s + 15) n)
    (hc : c = padded u (s + 16) n) (h0 : w0 = cw 0 n) (h1 : w1 = cw 1 n) (h2 : w2 = cw 2 n) :
    a * w0 + b * w1 + c * w2 = conv u cw s n := by rw [ha, hb, hc, h0, h1, h2, conv]

theorem gate_at (B : Blocks t u dx h cw wd x0 x1 x2 x3 x4 x5 x6 x7 x8 x9 x10 x11) (r : Fin 528) (l : Fin 704)
    (hr : (t 1).val < 3 ∨ r.val < 512) :
    k0_pay21 (F := Ideal) (k0_pay15 t) (k0_pay16 x4 x3 x5) x9 (ix2 r l)
      = conv u cw (512 * (t 1).val + r.val) (704 * (t 0).val + l.val) := by
  pointwise [k0_pay21, k0_pay19]
  refine conv_core u cw _ _ _ _ _ _ _ _ ?_ ?_ ?_ (B.h9 0 l) (B.h9 1 l) (B.h9 2 l)
  all_goals (rw [ug_at B _ _ (by dsimp only; omega)]; congr 1; dsimp only; omega)

theorem up_at (B : Blocks t u dx h cw wd x0 x1 x2 x3 x4 x5 x6 x7 x8 x9 x10 x11) (r : Fin 528) (l : Fin 704)
    (hr : (t 1).val < 3 ∨ r.val < 512) :
    k0_pay24 (F := Ideal) (k0_pay18 (k0_pay15 t) x7 x6 x8) (k0_pay20 x10) (k0_pay22 (k0_pay15 t) x7 x6 x8) (k0_pay23 x10) (ix2 r l)
      = conv u cw (512 * (t 1).val + r.val) (2816 + (704 * (t 0).val + l.val)) := by
  pointwise [k0_pay24, k0_pay22, k0_pay23, k0_pay20]
  refine conv_core u cw _ _ _ _ _ _ _ _ ?_ ?_ ?_ (B.h10 0 l) (B.h10 1 l) (B.h10 2 l)
  all_goals (rw [uu_at B _ _ (by dsimp only; omega)]; congr 1; dsimp only; omega)

theorem sig_apply (g : FVec Ideal S528x704 .f32) (r : Fin 528) (l : Fin 704) :
    k0_pay25 (F := Ideal) g (ix2 r l) = logis (g (ix2 r l)) := by
  pointwise [k0_pay25, logis]

theorem dgate_at (B : Blocks t u dx h cw wd x0 x1 x2 x3 x4 x5 x6 x7 x8 x9 x10 x11) (r : Fin 528) (l : Fin 704) :
    k0_pay27 (F := Ideal) (k0_pay14 t x0 x1 x11) (k0_pay18 (k0_pay15 t) x7 x6 x8) (k0_pay20 x10)
      (k0_pay21 (k0_pay15 t) (k0_pay16 x4 x3 x5) x9) (k0_pay22 (k0_pay15 t) x7 x6 x8) (k0_pay23 x10) (ix2 r l)
      = dGate u dx cw wd (512 * (t 1).val + r.val) (704 * (t 0).val + l.val) := by
  have ht : (t 1).val < 4 := (t 1).isLt
  pointwise [k0_pay27]
  rw [dact_at B, sig_apply, dGate]
  by_cases hr : (t 1).val < 3 ∨ r.val < 512
  · rw [gate_at B _ _ hr, up_at B _ _ hr]
  · rw [dAct_of_ge (by omega), zero_mul, zero_mul, zero_mul, zero_mul]

theorem dup_at (B : Blocks t u dx h cw wd x0 x1 x2 x3 x4 x5 x6 x7 x8 x9 x10 x11) (r : Fin 528) (l : Fin 704) :
    k0_pay28 (F := Ideal) (k0_pay14 t x0 x1 x11) (k0_pay21 (k0_pay15 t) (k0_pay16 x4 x3 x5) x9) (ix2 r l)
      = dUp u dx cw wd (512 * (t 1).val + r.val) (704 * (t 0).val + l.val) := by
  have ht : (t 1).val < 4 := (t 1).isLt
  pointwise [k0_pay28, k0_pay26]
  rw [dact_at B, sig_apply, dUp]
  by_cases hr : (t 1).val < 3 ∨ r.val < 512
  · rw [gate_at B _ _ hr]
  · rw [dAct_of_ge (by omega), zero_mul, zero_mul]

/-- The gate half of the gradient at the mixer's input. -/
theorem duGate_at (B : Blocks t u dx h cw wd x0 x1 x2 x3 x4 x5 x6 x7 x8 x9 x10 x11) (r : Fin 512) (l : Fin 704) :
    k0_pay29 (F := Ideal) (k0_pay14 t x0 x1 x11) (k0_pay18 (k0_pay15 t) x7 x6 x8) (k0_pay19 x9) (k0_pay20 x10)
      (k0_pay21 (k0_pay15 t) (k0_pay16 x4 x3 x5) x9) (k0_pay22 (k0_pay15 t) x7 x6 x8) (k0_pay23 x10) (ix2 r l)
      = dIn u dx cw wd (512 * (t 1).val + r.val) (704 * (t 0).val + l.val) := by
  have hj : (t 0).val < 4 := (t 0).isLt
  have hl := l.isLt
  pointwise [k0_pay29, k0_pay19]
  rw [dgate_at B, dgate_at B, dgate_at B, dIn, dConvd_gate (by omega), dConvd_gate (by omega), dConvd_gate (by omega),
    B.h9 0 l, B.h9 1 l, B.h9 2 l]
  congr 4 <;> (dsimp only; omega)

/-- The up half of the gradient at the mixer's input. -/
theorem duUp_at (B : Blocks t u dx h cw wd x0 x1 x2 x3 x4 x5 x6 x7 x8 x9 x10 x11) (r : Fin 512) (l : Fin 704) :
    k0_pay32 (F := Ideal) (k0_pay20 x10) (k0_pay28 (k0_pay14 t x0 x1 x11) (k0_pay21 (k0_pay15 t) (k0_pay16 x4 x3 x5) x9))
      (k0_pay30 (k0_pay14 t x0 x1 x11) (k0_pay21 (k0_pay15 t) (k0_pay16 x4 x3 x5) x9)) (k0_pay31 (k0_pay20 x10)) (ix2 r l)
      = dIn u dx cw wd (512 * (t 1).val + r.val) (2816 + (704 * (t 0).val + l.val)) := by
  pointwise [k0_pay32, k0_pay30, k0_pay31, k0_pay20]
  rw [dup_at B, dup_at B, dup_at B, dIn, dConvd_up, dConvd_up, dConvd_up, B.h10 0 l, B.h10 1 l, B.h10 2 l]
  congr 4 <;> (dsimp only; omega)

/-! ## What a point adds to the accumulators -/

/-- The point's share of the gradient of `w_down`. -/
theorem accDown_at (B : Blocks t u dx h cw wd x0 x1 x2 x3 x4 x5 x6 x7 x8 x9 x10 x11) (old : Vec Ideal S704x1024 .f32)
    (f : Fin 704) (d : Fin 1024) :
    k0_pay38 (F := Ideal) (k0_pay13 x0)
      (k0_pay24 (k0_pay18 (k0_pay15 t) x7 x6 x8) (k0_pay20 x10) (k0_pay22 (k0_pay15 t) x7 x6 x8) (k0_pay23 x10))
      (k0_pay26 (k0_pay21 (k0_pay15 t) (k0_pay16 x4 x3 x5) x9)) old (ix2 f d)
      = old (ix2 f d) + ∑ r : Fin 512, act u cw (512 * (t 1).val + r.val) (704 * (t 0).val + f.val) * dx (512 * (t 1).val + r.val) d := by
  pointwise [k0_pay38, k0_pay13, k0_pay26]
  refine congrArg _ (Finset.sum_congr rfl fun r _ => ?_)
  rw [sig_apply, gate_at B _ _ (by dsimp only; omega), up_at B _ _ (by dsimp only; omega), B.h0, act]

theorem accGate_at (B : Blocks t u dx h cw wd x0 x1 x2 x3 x4 x5 x6 x7 x8 x9 x10 x11) (old : Vec Ideal S704x1024 .f32)
    (f : Fin 704) (d : Fin 1024) :
    k0_pay1 (F := Ideal) (k0_pay29 (k0_pay14 t x0 x1 x11) (k0_pay18 (k0_pay15 t) x7 x6 x8) (k0_pay19 x9) (k0_pay20 x10)
      (k0_pay21 (k0_pay15 t) (k0_pay16 x4 x3 x5) x9) (k0_pay22 (k0_pay15 t) x7 x6 x8) (k0_pay23 x10)) (k0_pay39 x2) old
      (constant S704x1024 .f32 0x00000000#32) (ix2 f d)
      = old (ix2 f d) + ∑ r : Fin 512, dIn u dx cw wd (512 * (t 1).val + r.val) (704 * (t 0).val + f.val) * h (512 * (t 1).val + r.val) d := by
  pointwise [k0_pay1, k0_pay39]
  refine congrArg _ (Finset.sum_congr rfl fun r _ => ?_)
  rw [duGate_at B, B.h2]

theorem accUp_at (B : Blocks t u dx h cw wd x0 x1 x2 x3 x4 x5 x6 x7 x8 x9 x10 x11) (old : Vec Ideal S704x1024 .f32)
    (f : Fin 704) (d : Fin 1024) :
    k0_pay2 (F := Ideal) (k0_pay32 (k0_pay20 x10) (k0_pay28 (k0_pay14 t x0 x1 x11) (k0_pay21 (k0_pay15 t) (k0_pay16 x4 x3 x5) x9))
      (k0_pay30 (k0_pay14 t x0 x1 x11) (k0_pay21 (k0_pay15 t) (k0_pay16 x4 x3 x5) x9)) (k0_pay31 (k0_pay20 x10))) (k0_pay39 x2) old (ix2 f d)
      = old (ix2 f d) + ∑ r : Fin 512, dIn u dx cw wd (512 * (t 1).val + r.val) (2816 + (704 * (t 0).val + f.val)) * h (512 * (t 1).val + r.val) d := by
  pointwise [k0_pay2, k0_pay39]
  refine congrArg _ (Finset.sum_congr rfl fun r _ => ?_)
  rw [duUp_at B, B.h2]

theorem accConvGate_at (B : Blocks t u dx h cw wd x0 x1 x2 x3 x4 x5 x6 x7 x8 x9 x10 x11) (old : Vec Ideal S3x704 .f32)
    (k : Fin 3) (l : Fin 704) :
    k0_pay36 (F := Ideal) (k0_pay35 (k0_pay17 (k0_pay15 t) (k0_pay16 x4 x3 x5))
      (k0_pay27 (k0_pay14 t x0 x1 x11) (k0_pay18 (k0_pay15 t) x7 x6 x8) (k0_pay20 x10)
        (k0_pay21 (k0_pay15 t) (k0_pay16 x4 x3 x5) x9) (k0_pay22 (k0_pay15 t) x7 x6 x8) (k0_pay23 x10)) old) (ix2 k l)
      = old (ix2 k l) + ∑ r : Fin 512, dGate u dx cw wd (512 * (t 1).val + r.val) (704 * (t 0).val + l.val)
          * padded u (512 * (t 1).val + r.val + 14 + k.val) (704 * (t 0).val + l.val) := by
  pointwise [k0_pay36, k0_pay35]
  refine congrArg _ ?_
  fin_vals k with hk <;> simp only [hk, Nat.reduceSub, Nat.reduceLT, ↓reduceDIte, Nat.lt_irrefl]
  all_goals
    refine Finset.sum_congr rfl fun r _ => ?_
    rw [dgate_at B, ug_at B _ _ (by dsimp only; omega)]
    congr 2
    dsimp only; omega

theorem accConvUp_at (B : Blocks t u dx h cw wd x0 x1 x2 x3 x4 x5 x6 x7 x8 x9 x10 x11) (old : Vec Ideal S3x704 .f32)
    (k : Fin 3) (l : Fin 704) :
    k0_pay37 (F := Ideal) (k0_pay18 (k0_pay15 t) x7 x6 x8)
      (k0_pay28 (k0_pay14 t x0 x1 x11) (k0_pay21 (k0_pay15 t) (k0_pay16 x4 x3 x5) x9)) old (ix2 k l)
      = old (ix2 k l) + ∑ r : Fin 512, dUp u dx cw wd (512 * (t 1).val + r.val) (704 * (t 0).val + l.val)
          * padded u (512 * (t 1).val + r.val + 14 + k.val) (2816 + (704 * (t 0).val + l.val)) := by
  pointwise [k0_pay37]
  refine congrArg _ ?_
  fin_vals k with hk <;> simp only [hk, Nat.reduceSub, Nat.reduceLT, ↓reduceDIte, Nat.lt_irrefl]
  all_goals
    refine Finset.sum_congr rfl fun r _ => ?_
    rw [dup_at B, uu_at B _ _ (by dsimp only; omega)]
    congr 2
    dsimp only; omega

end

end Cert.KernelIdeal.Payload
-- ==== Proof.Entry.lean ====
module

public import proofs.«01_k».proof.Proof.Gen.KernelIdeal.Frame
public import proofs.«01_k».proof.Proof.Payload
public import Idealize.ShloMosaic.Lib.Pipeline.ValueKit

@[expose] public section

set_option maxRecDepth 16384

/-!
# The blocks a grid point reads, as entries of the arguments' tables
-/

noncomputable section

namespace Cert.KernelIdeal.Entry

open Cert.KernelIdeal Cert.KernelIdeal.Gen Idealize.ShloMosaic Idealize.ShloMosaic.TcCoe Mixer Payload

variable (m : (ℓ : Loc nD τ sig) → Buf (Elt Ideal) ℓ)

/-- The tables of the five arguments, and of the product `h2 * w_up`. -/
def dxT (c : Dev nD) : Tab := tab (m ((c : Thread nD τ).loc main_arg0))
def hT (c : Dev nD) : Tab := tab (m ((c : Thread nD τ).loc main_arg1))
def wT (c : Dev nD) : Tab := tab (m ((c : Thread nD τ).loc main_arg2))
def cwT (c : Dev nD) : Tab := tab (m ((c : Thread nD τ).loc main_arg3))
def wdT (c : Dev nD) : Tab := tab (m ((c : Thread nD τ).loc main_arg4))

theorem V4 (c : Dev nD) (s : Fin 2048) (d : Fin 1024) : V m c main_v4 (ix2 s d) = dxT m c s d := by
  rw [dxT, ← tab_apply]
  entry_read
  pointwise

theorem V5 (c : Dev nD) (s : Fin 2048) (d : Fin 1024) : V m c main_v5 (ix2 s d) = hT m c s d := by
  rw [hT, ← tab_apply]
  entry_read
  pointwise

theorem V12 (c : Dev nD) (s : Fin 2816) (d : Fin 1024) : V m c main_v12 (ix2 s d) = wdT m c s d := by
  rw [wdT, ← tab_apply]
  entry_read
  pointwise

theorem V3 (c : Dev nD) (j : Fin 8) (k : Fin 3) (l : Fin 704) : V m c main_v3 (ix3 j k l) = cwT m c k (704 * j.val + l.val) := by
  rw [cwT, show tab _ _ _ = _ from (tab_apply (a := 3) (b := 5632) _ k ⟨704 * j.val + l.val, by omega⟩).symm]
  entry_read
  pointwise
  congr 2
  exact Fin.ext (by dsimp only; omega)

theorem V8 (c : Dev nD) (j : Fin 4) (s : Fin 2048) (l : Fin 704) :
    V m c main_v8 (ix3 j s l) = product (hT m c) (wT m c) s (704 * j.val + l.val) := by
  entry_read
  pointwise
  rw [product, Nat.mul_comm 704]
  exact Finset.sum_congr (M := EReal) rfl fun x _ => congrArg₂ (α := EReal) _ (tab_apply _ _ _) (tab_apply _ _ _)

theorem V11 (c : Dev nD) (j : Fin 4) (s : Fin 2048) (l : Fin 704) :
    V m c main_v11 (ix3 j s l) = product (hT m c) (wT m c) s (2816 + (704 * j.val + l.val)) := by
  entry_read
  pointwise
  rw [product, Nat.mul_comm 704]
  exact Finset.sum_congr (M := EReal) rfl fun x _ => congrArg₂ (α := EReal) _ (tab_apply _ _ _) (tab_apply _ _ _)

/-- Where each input window's block lies, in blocks: `i` is the row block and `j` the channel block. -/
theorem place : ∀ t : Fin grid0.N,
    win0_0.index t = ![(grid0.coords t 1).val, 0]
    ∧ win0_1.index t = ![min (((grid0.coords t 1).val + 1) * 32) 127, 0]
    ∧ win0_2.index t = ![(grid0.coords t 1).val, 0]
    ∧ win0_3.index t = ![(grid0.coords t 0).val, (grid0.coords t 1).val, 0]
    ∧ win0_4.index t = ![(grid0.coords t 0).val, (grid0.coords t 1).val * 32 - 1, 0]
    ∧ win0_5.index t = ![(grid0.coords t 0).val, min (((grid0.coords t 1).val + 1) * 32) 127, 0]
    ∧ win0_6.index t = ![(grid0.coords t 0).val, (grid0.coords t 1).val, 0]
    ∧ win0_7.index t = ![(grid0.coords t 0).val, (grid0.coords t 1).val * 32 - 1, 0]
    ∧ win0_8.index t = ![(grid0.coords t 0).val, min (((grid0.coords t 1).val + 1) * 32) 127, 0]
    ∧ win0_9.index t = ![(grid0.coords t 0).val, 0, 0]
    ∧ win0_10.index t = ![(grid0.coords t 0).val + 4, 0, 0]
    ∧ win0_11.index t = ![(grid0.coords t 0).val, 0] := by
  decide +kernel

set_option maxHeartbeats 1600000 in
/-- The blocks of grid point `t` hold entries of the tables. -/
theorem blocks (c : Dev nD) (t : Fin cfg0.N) :
    Blocks (grid0.coords t) (product (hT m c) (wT m c)) (dxT m c) (hT m c) (cwT m c) (wdT m c)
      (iblk m c 0 t) (iblk m c 1 t) (iblk m c 2 t) (iblk m c 3 t) (iblk m c 4 t) (iblk m c 5 t)
      (iblk m c 6 t) (iblk m c 7 t) (iblk m c 8 t) (iblk m c 9 t) (iblk m c 10 t) (iblk m c 11 t) := by
  have hi : (grid0.coords t 1).val < 4 := (grid0.coords t 1).isLt
  have hj : (grid0.coords t 0).val < 4 := (grid0.coords t 0).isLt
  obtain ⟨p0, p1, p2, p3, p4, p5, p6, p7, p8, p9, p10, p11⟩ := place t
  constructor
  · intro r d
    refine .trans ?_ (V4 m c ⟨512 * (grid0.coords t 1).val + r, by omega⟩ d)
    blk_ext [iblk, p0]
  · intro h r d
    refine .trans ?_ (V4 m c ⟨512 * (grid0.coords t 1).val + 512 + r, by omega⟩ d)
    blk_ext [iblk, p1]
  · intro r d
    refine .trans ?_ (V5 m c ⟨512 * (grid0.coords t 1).val + r, by omega⟩ d)
    blk_ext [iblk, p2]
  · intro r l
    refine .trans ?_ (V8 m c ⟨(grid0.coords t 0).val, hj⟩ ⟨512 * (grid0.coords t 1).val + r, by omega⟩ l)
    blk_ext [iblk, p3]
  · intro h r l
    refine .trans ?_ (V8 m c ⟨(grid0.coords t 0).val, hj⟩ ⟨512 * (grid0.coords t 1).val - 16 + r, by omega⟩ l)
    blk_ext [iblk, p4]
  · intro h r l
    refine .trans ?_ (V8 m c ⟨(grid0.coords t 0).val, hj⟩ ⟨512 * (grid0.coords t 1).val + 512 + r, by omega⟩ l)
    blk_ext [iblk, p5]
  · intro r l
    refine .trans ?_ (V11 m c ⟨(grid0.coords t 0).val, hj⟩ ⟨512 * (grid0.coords t 1).val + r, by omega⟩ l)
    blk_ext [iblk, p6]
  · intro h r l
    refine .trans ?_ (V11 m c ⟨(grid0.coords t 0).val, hj⟩ ⟨512 * (grid0.coords t 1).val - 16 + r, by omega⟩ l)
    blk_ext [iblk, p7]
  · intro h r l
    refine .trans ?_ (V11 m c ⟨(grid0.coords t 0).val, hj⟩ ⟨512 * (grid0.coords t 1).val + 512 + r, by omega⟩ l)
    blk_ext [iblk, p8]
  · intro k l
    refine .trans ?_ (V3 m c ⟨(grid0.coords t 0).val, by omega⟩ k l)
    blk_ext [iblk, p9]
  · intro k l
    refine .trans ?_ ((V3 m c ⟨(grid0.coords t 0).val + 4, by omega⟩ k l).trans (congrArg _ (by dsimp only; omega)))
    blk_ext [iblk, p10]
  · intro f d
    refine .trans ?_ (V12 m c ⟨704 * (grid0.coords t 0).val + f, by omega⟩ d)
    blk_ext [iblk, p11]

end Cert.KernelIdeal.Entry
-- ==== Proof.Points.lean ====
module

public import proofs.«01_k».proof.Proof.Entry
public import Idealize.ShloMosaic.Lib.Pipeline.ReadBack

@[expose] public section

set_option maxRecDepth 16384

/-!
# The accumulators and the output blocks, point by point

Grid point `t` works on channel block `t / 4` and row block `t % 4`. The accumulators are cleared at the first row block of each
channel block, so at its last one they hold sums over all 2048 tokens.
-/

noncomputable section

namespace Cert.KernelIdeal.Points

open Cert.KernelIdeal Cert.KernelIdeal.Gen Idealize.ShloMosaic Idealize.ShloMosaic.TcCoe Mixer Payload Entry

variable (m : (ℓ : Loc nD τ sig) → Buf (Elt Ideal) ℓ)

theorem coords_val : ∀ t : Fin cfg0.N, (grid0.coords t 0).val = t.val / 4 ∧ (grid0.coords t 1).val = t.val % 4 := by
  decide +kernel

/-- The table of the mixer's input. -/
abbrev uT (c : Dev nD) : Tab := product (hT m c) (wT m c)

/-! The accumulators are cleared with zeros. -/

theorem zero8 (f : Fin 704) (d : Fin 1024) : k0_pay8 (F := Ideal) (ix2 f d) = 0 := by pointwise [k0_pay8]
theorem zero9 (f : Fin 704) (d : Fin 1024) : k0_pay9 (F := Ideal) (ix2 f d) = 0 := by pointwise [k0_pay9]
theorem zero10 (f : Fin 704) (d : Fin 1024) : k0_pay10 (F := Ideal) (ix2 f d) = 0 := by pointwise [k0_pay10]
theorem zero11 (f : Fin 8) (d : Fin 704) : k0_pay11 (F := Ideal) (ix2 f d) = 0 := by pointwise [k0_pay11]
theorem zero12 (f : Fin 8) (d : Fin 704) : k0_pay12 (F := Ideal) (ix2 f d) = 0 := by pointwise [k0_pay12]

/-- Four blocks of 512 tokens are all the tokens. -/
theorem gather (F : ℕ → ℕ → EReal) (q : ℕ) :
    ∑ k ∈ Finset.range 4, ∑ r : Fin 512, F ((4 * q + k) / 4) (512 * ((4 * q + k) % 4) + r.val) = ∑ s : Fin 2048, F q s.val := by
  have h : ∀ k ∈ Finset.range 4, ∑ r : Fin 512, F ((4 * q + k) / 4) (512 * ((4 * q + k) % 4) + r.val)
      = ∑ r ∈ Finset.range 512, F q (512 * k + r) := by
    intro k hk
    have := Finset.mem_range.mp hk
    rw [show (4 * q + k) / 4 = q by omega, show (4 * q + k) % 4 = k by omega,
      Finset.sum_range (fun r => F q (512 * k + r))]
  rw [Finset.sum_congr rfl h, ← Finset.sum_range (fun s => F q s)]
  simp only [Finset.sum_range_succ _ 3, Finset.sum_range_succ _ 2, Finset.sum_range_succ _ 1, Finset.sum_range_succ _ 0,
    Finset.sum_range_zero, zero_add]
  rw [show (2048 : ℕ) = 512 + 512 + 512 + 512 from rfl, Finset.sum_range_add, Finset.sum_range_add, Finset.sum_range_add]
  simp only [Nat.mul_zero, zero_add, Nat.mul_one, Nat.reduceMul, Nat.reduceAdd]

/-- The first three rows of an array of eight, loaded. -/
theorem rows3 (X : Vec Ideal S8x704 .f32) (k : Fin 3) (l : Fin 704) :
    View.ld X (Rect.unit ![0, 0] ![3, 704] inb_S8x704_S3x704_0_0) (ix2 k l) = X (ix2 (Fin.castLE (by decide) k) l) := by
  pointwise
  rfl

/-- The newest store, into the first three rows, is read there. -/
theorem canon3 (w : Vec Ideal S3x704 .f32) (L : List (View.Piece (Elt Ideal) S8x704 .f32)) (k : Fin 3) (l : Fin 704) :
    View.canon (⟨Rect.unit ![0, 0] ![3, 704] inb_S8x704_S3x704_0_0, w⟩ :: L) (ix2 (Fin.castLE (by decide) k) l) = w (ix2 k l) := by
  have e := View.canon_cons_emb (Val := Elt Ideal) (Rect.unit (s := S8x704) ![0, 0] ![3, 704] inb_S8x704_S3x704_0_0) w L (ix2 k l)
  rw [← e]
  congr 1
  exact (Rect.emb_eq_of_coords _ _ _ fun a => by match a with | ⟨0, _⟩ => simp | ⟨1, _⟩ => simp).symm

set_option maxHeartbeats 4000000 in
theorem accDown (c : Dev nD) (t : Fin cfg0.N) (ht : t.val % 4 = 3) (f : Fin 704) (d : Fin 1024) :
    (outsAt0 m c t.val t.isLt).2.2.2.2.1 (ix2 f d)
      = ∑ s : Fin 2048, act (uT m c) (cwT m c) s (704 * (t.val / 4) + f.val) * dxT m c s d.val := by
  have key := Pipeline.eq_sum_of_reset_step_apply_of_mod (M := EReal)
    (fun n h (p : Fin 704 × Fin 1024) => (outsAt0 m c n h).2.2.2.2.1 (ix2 p.1 p.2)) 4 (fun _ => 0)
    (fun n p => ∑ r : Fin 512, act (uT m c) (cwT m c) (512 * (n % 4) + r.val) (704 * (n / 4) + p.1.val) * dxT m c (512 * (n % 4) + r.val) p.2.val) ?_ ?_ t ht (f, d)
  · refine key.trans ((zero_add _).trans ?_)
    exact gather (fun q s => act (uT m c) (cwT m c) s (704 * q + f.val) * dxT m c s d.val) (t.val / 4)
  · intro t h0 p
    rw [outsAt0_A m c t h0 (by omega)]
    frame_open
    simp (disch := decide) only [↓ View.readCov_skip, ↓ View.readCov_cons_toLoadRect, ↓ View.readCov_fill]
    frame_out
    rw [accDown_at (blocks m c t), zero8, (coords_val t).1, (coords_val t).2]
  · intro t h0 p
    by_cases h1 : t.val % 4 = 3
    · rw [outsAt0_C m c t h0 h1]
      frame_open
      simp (disch := decide) only [↓ View.readCov_skip, ↓ View.readCov_cons_toLoadRect, ↓ View.readCov_fill]
      frame_out
      simp only [read_unread_whole]
      rw [accDown_at (blocks m c t), (coords_val t).1, (coords_val t).2]
    · rw [outsAt0_B m c t h0 h1]
      frame_open
      simp (disch := decide) only [↓ View.readCov_skip, ↓ View.readCov_cons_toLoadRect, ↓ View.readCov_fill]
      frame_out
      simp only [read_unread_whole]
      rw [accDown_at (blocks m c t), (coords_val t).1, (coords_val t).2]

set_option maxHeartbeats 4000000 in
theorem accGate (c : Dev nD) (t : Fin cfg0.N) (ht : t.val % 4 = 3) (f : Fin 704) (d : Fin 1024) :
    (outsAt0 m c t.val t.isLt).2.2.2.2.2.1 (ix2 f d)
      = ∑ s : Fin 2048, dIn (uT m c) (dxT m c) (cwT m c) (wdT m c) s (704 * (t.val / 4) + f.val) * hT m c s d.val := by
  have key := Pipeline.eq_sum_of_reset_step_apply_of_mod (M := EReal)
    (fun n h (p : Fin 704 × Fin 1024) => (outsAt0 m c n h).2.2.2.2.2.1 (ix2 p.1 p.2)) 4 (fun _ => 0)
    (fun n p => ∑ r : Fin 512, dIn (uT m c) (dxT m c) (cwT m c) (wdT m c) (512 * (n % 4) + r.val) (704 * (n / 4) + p.1.val) * hT m c (512 * (n % 4) + r.val) p.2.val) ?_ ?_ t ht (f, d)
  · refine key.trans ((zero_add _).trans ?_)
    exact gather (fun q s => dIn (uT m c) (dxT m c) (cwT m c) (wdT m c) s (704 * q + f.val) * hT m c s d.val) (t.val / 4)
  · intro t h0 p
    rw [outsAt0_A m c t h0 (by omega)]
    frame_open
    simp (disch := decide) only [↓ View.readCov_skip, ↓ View.readCov_cons_toLoadRect, ↓ View.readCov_fill]
    frame_out
    rw [accGate_at (blocks m c t), zero9, (coords_val t).1, (coords_val t).2]
  · intro t h0 p
    by_cases h1 : t.val % 4 = 3
    · rw [outsAt0_C m c t h0 h1]
      frame_open
      simp (disch := decide) only [↓ View.readCov_skip, ↓ View.readCov_cons_toLoadRect, ↓ View.readCov_fill]
      frame_out
      simp only [read_unread_whole]
      rw [accGate_at (blocks m c t), (coords_val t).1, (coords_val t).2]
    · rw [outsAt0_B m c t h0 h1]
      frame_open
      simp (disch := decide) only [↓ View.readCov_skip, ↓ View.readCov_cons_toLoadRect, ↓ View.readCov_fill]
      frame_out
      simp only [read_unread_whole]
      rw [accGate_at (blocks m c t), (coords_val t).1, (coords_val t).2]

set_option maxHeartbeats 4000000 in
theorem accUp (c : Dev nD) (t : Fin cfg0.N) (ht : t.val % 4 = 3) (f : Fin 704) (d : Fin 1024) :
    (outsAt0 m c t.val t.isLt).2.2.2.2.2.2.1 (ix2 f d)
      = ∑ s : Fin 2048, dIn (uT m c) (dxT m c) (cwT m c) (wdT m c) s (2816 + (704 * (t.val / 4) + f.val)) * hT m c s d.val := by
  have key := Pipeline.eq_sum_of_reset_step_apply_of_mod (M := EReal)
    (fun n h (p : Fin 704 × Fin 1024) => (outsAt0 m c n h).2.2.2.2.2.2.1 (ix2 p.1 p.2)) 4 (fun _ => 0)
    (fun n p => ∑ r : Fin 512, dIn (uT m c) (dxT m c) (cwT m c) (wdT m c) (512 * (n % 4) + r.val) (2816 + (704 * (n / 4) + p.1.val)) * hT m c (512 * (n % 4) + r.val) p.2.val) ?_ ?_ t ht (f, d)
  · refine key.trans ((zero_add _).trans ?_)
    exact gather (fun q s => dIn (uT m c) (dxT m c) (cwT m c) (wdT m c) s (2816 + (704 * q + f.val)) * hT m c s d.val) (t.val / 4)
  · intro t h0 p
    rw [outsAt0_A m c t h0 (by omega)]
    frame_open
    simp (disch := decide) only [↓ View.readCov_skip, ↓ View.readCov_cons_toLoadRect, ↓ View.readCov_fill]
    frame_out
    rw [accUp_at (blocks m c t), zero10, (coords_val t).1, (coords_val t).2]
  · intro t h0 p
    by_cases h1 : t.val % 4 = 3
    · rw [outsAt0_C m c t h0 h1]
      frame_open
      simp (disch := decide) only [↓ View.readCov_skip, ↓ View.readCov_cons_toLoadRect, ↓ View.readCov_fill]
      frame_out
      simp only [read_unread_whole]
      rw [accUp_at (blocks m c t), (coords_val t).1, (coords_val t).2]
    · rw [outsAt0_B m c t h0 h1]
      frame_open
      simp (disch := decide) only [↓ View.readCov_skip, ↓ View.readCov_cons_toLoadRect, ↓ View.readCov_fill]
      frame_out
      simp only [read_unread_whole]
      rw [accUp_at (blocks m c t), (coords_val t).1, (coords_val t).2]

set_option maxHeartbeats 4000000 in
theorem accConvGate (c : Dev nD) (t : Fin cfg0.N) (ht : t.val % 4 = 3) (k : Fin 3) (l : Fin 704) :
    (outsAt0 m c t.val t.isLt).2.2.2.2.2.2.2.1 (ix2 (Fin.castLE (by decide) k) l)
      = ∑ s : Fin 2048, dGate (uT m c) (dxT m c) (cwT m c) (wdT m c) s (704 * (t.val / 4) + l.val)
      * padded (uT m c) (s + 14 + k.val) (704 * (t.val / 4) + l.val) := by
  have key := Pipeline.eq_sum_of_reset_step_apply_of_mod (M := EReal)
    (fun n h (p : Fin 3 × Fin 704) => (outsAt0 m c n h).2.2.2.2.2.2.2.1 (ix2 (Fin.castLE (by decide) p.1) p.2)) 4 (fun _ => 0)
    (fun n p => ∑ r : Fin 512, dGate (uT m c) (dxT m c) (cwT m c) (wdT m c) (512 * (n % 4) + r.val) (704 * (n / 4) + p.2.val)
      * padded (uT m c) ((512 * (n % 4) + r.val) + 14 + p.1.val) (704 * (n / 4) + p.2.val)) ?_ ?_ t ht (k, l)
  · refine key.trans ((zero_add _).trans ?_)
    exact gather (fun q s => dGate (uT m c) (dxT m c) (cwT m c) (wdT m c) s (704 * q + l.val)
      * padded (uT m c) (s + 14 + k.val) (704 * q + l.val)) (t.val / 4)
  · intro t h0 p
    rw [outsAt0_A m c t h0 (by omega)]
    frame_open
    simp (disch := decide) only [↓ View.readCov_skip, ↓ View.readCov_cons_toLoadRect, ↓ View.readCov_fill]
    frame_out
    rw [canon3, accConvGate_at (blocks m c t), rows3, zero11, (coords_val t).1, (coords_val t).2]
  · intro t h0 p
    by_cases h1 : t.val % 4 = 3
    · rw [outsAt0_C m c t h0 h1]
      frame_open
      simp (disch := decide) only [↓ View.readCov_skip, ↓ View.readCov_cons_toLoadRect, ↓ View.readCov_fill]
      frame_out
      simp only [read_unread_whole]
      rw [View.read_writes_cons_hit_of_coords (x := ix2 p.1 p.2) (hx := fun a => by match a with | ⟨0, _⟩ => simp | ⟨1, _⟩ => simp),
        accConvGate_at (blocks m c t), rows3, (coords_val t).1, (coords_val t).2]
    · rw [outsAt0_B m c t h0 h1]
      frame_open
      simp (disch := decide) only [↓ View.readCov_skip, ↓ View.readCov_cons_toLoadRect, ↓ View.readCov_fill]
      frame_out
      simp only [read_unread_whole]
      rw [View.read_writes_cons_hit_of_coords (x := ix2 p.1 p.2) (hx := fun a => by match a with | ⟨0, _⟩ => simp | ⟨1, _⟩ => simp),
        accConvGate_at (blocks m c t), rows3, (coords_val t).1, (coords_val t).2]

set_option maxHeartbeats 4000000 in
theorem accConvUp (c : Dev nD) (t : Fin cfg0.N) (ht : t.val % 4 = 3) (k : Fin 3) (l : Fin 704) :
    (outsAt0 m c t.val t.isLt).2.2.2.2.2.2.2.2 (ix2 (Fin.castLE (by decide) k) l)
      = ∑ s : Fin 2048, dUp (uT m c) (dxT m c) (cwT m c) (wdT m c) s (704 * (t.val / 4) + l.val)
      * padded (uT m c) (s + 14 + k.val) (2816 + (704 * (t.val / 4) + l.val)) := by
  have key := Pipeline.eq_sum_of_reset_step_apply_of_mod (M := EReal)
    (fun n h (p : Fin 3 × Fin 704) => (outsAt0 m c n h).2.2.2.2.2.2.2.2 (ix2 (Fin.castLE (by decide) p.1) p.2)) 4 (fun _ => 0)
    (fun n p => ∑ r : Fin 512, dUp (uT m c) (dxT m c) (cwT m c) (wdT m c) (512 * (n % 4) + r.val) (704 * (n / 4) + p.2.val)
      * padded (uT m c) ((512 * (n % 4) + r.val) + 14 + p.1.val) (2816 + (704 * (n / 4) + p.2.val))) ?_ ?_ t ht (k, l)
  · refine key.trans ((zero_add _).trans ?_)
    exact gather (fun q s => dUp (uT m c) (dxT m c) (cwT m c) (wdT m c) s (704 * q + l.val)
      * padded (uT m c) (s + 14 + k.val) (2816 + (704 * q + l.val))) (t.val / 4)
  · intro t h0 p
    rw [outsAt0_A m c t h0 (by omega)]
    frame_open
    simp (disch := decide) only [↓ View.readCov_skip, ↓ View.readCov_cons_toLoadRect, ↓ View.readCov_fill]
    frame_out
    rw [canon3, accConvUp_at (blocks m c t), rows3, zero12, (coords_val t).1, (coords_val t).2]
  · intro t h0 p
    by_cases h1 : t.val % 4 = 3
    · rw [outsAt0_C m c t h0 h1]
      frame_open
      simp (disch := decide) only [↓ View.readCov_skip, ↓ View.readCov_cons_toLoadRect, ↓ View.readCov_fill]
      frame_out
      simp only [read_unread_whole]
      rw [View.read_writes_cons_hit_of_coords (x := ix2 p.1 p.2) (hx := fun a => by match a with | ⟨0, _⟩ => simp | ⟨1, _⟩ => simp),
        accConvUp_at (blocks m c t), rows3, (coords_val t).1, (coords_val t).2]
    · rw [outsAt0_B m c t h0 h1]
      frame_open
      simp (disch := decide) only [↓ View.readCov_skip, ↓ View.readCov_cons_toLoadRect, ↓ View.readCov_fill]
      frame_out
      simp only [read_unread_whole]
      rw [View.read_writes_cons_hit_of_coords (x := ix2 p.1 p.2) (hx := fun a => by match a with | ⟨0, _⟩ => simp | ⟨1, _⟩ => simp),
        accConvUp_at (blocks m c t), rows3, (coords_val t).1, (coords_val t).2]

/-! ## The output blocks -/

/-- Two stores, one for each half, make up a block with two halves. -/
theorem halves {n k : ℕ} {e : EltTy} [∀ e, Nonempty (Elt Ideal e)]
    (i1 : ∀ a, (![0, 1, 0, 0] : Fin 4 → ℕ) a + (![1, 1, n, k] : Fin 4 → ℕ) a ≤ (⟨4, ![1, 2, n, k]⟩ : Shape).size a)
    (i0 : ∀ a, (![0, 0, 0, 0] : Fin 4 → ℕ) a + (![1, 1, n, k] : Fin 4 → ℕ) a ≤ (⟨4, ![1, 2, n, k]⟩ : Shape).size a)
    (w1 w0 : (⟨4, ![1, 1, n, k]⟩ : Shape).Idx → Elt Ideal e) (b : Fin 2) (r : Fin n) (l : Fin k) :
    View.canon (Val := Elt Ideal) (s := ⟨4, ![1, 2, n, k]⟩) (e := e)
      [⟨Rect.unit ![0, 1, 0, 0] ![1, 1, n, k] i1, w1⟩, ⟨Rect.unit ![0, 0, 0, 0] ![1, 1, n, k] i0, w0⟩] (ix4 0 b r l)
      = if b.val = 0 then w0 (ix4 0 0 r l) else w1 (ix4 0 0 r l) := by
  by_cases hb : b.val = 0
  · rw [if_pos hb, View.canon_cons_of_not_mem]
    · have e := View.canon_cons_emb (Val := Elt Ideal) (Rect.unit (s := ⟨4, ![1, 2, n, k]⟩) ![0, 0, 0, 0] ![1, 1, n, k] i0) w0 [] (ix4 0 0 r l)
      rw [← e]
      congr 1
      exact (Rect.emb_eq_of_coords _ _ _ fun a => by
        match a with | ⟨0, _⟩ => simp | ⟨1, _⟩ => simp [hb] | ⟨2, _⟩ => simp | ⟨3, _⟩ => simp).symm
    · rw [Rect.mem_set_unit]
      intro h
      have := (h 1).1
      simp [hb] at this
  · rw [if_neg hb]
    have e := View.canon_cons_emb (Val := Elt Ideal) (Rect.unit (s := ⟨4, ![1, 2, n, k]⟩) ![0, 1, 0, 0] ![1, 1, n, k] i1) w1
      [⟨Rect.unit ![0, 0, 0, 0] ![1, 1, n, k] i0, w0⟩] (ix4 0 0 r l)
    rw [← e]
    congr 1
    exact (Rect.emb_eq_of_coords _ _ _ fun a => by
      match a with | ⟨0, _⟩ => simp | ⟨1, _⟩ => (simp; omega) | ⟨2, _⟩ => simp | ⟨3, _⟩ => simp).symm

/-- A point's block of the gradient at the mixer's input, from its two halves. -/
theorem duHalves {t : grid0.Coords} {u dx h cw wd : Tab} {x0 : Vec Ideal S512x1024 .bf16} {x1 : Vec Ideal S16x1024 .bf16}
    {x2 : Vec Ideal S512x1024 .bf16} {x3 : Vec Ideal S1x512x704 .bf16} {x4 x5 : Vec Ideal S1x16x704 .bf16}
    {x6 : Vec Ideal S1x512x704 .bf16} {x7 x8 : Vec Ideal S1x16x704 .bf16} {x9 x10 : Vec Ideal S1x3x704 .f32}
    {x11 : Vec Ideal S704x1024 .bf16} (B : Blocks t u dx h cw wd x0 x1 x2 x3 x4 x5 x6 x7 x8 x9 x10 x11)
    (b : Fin 2) (r : Fin 512) (l : Fin 704) :
    (if b.val = 0 then
      k0_pay33 (k0_pay29 (k0_pay14 t x0 x1 x11) (k0_pay18 (k0_pay15 t) x7 x6 x8) (k0_pay19 x9) (k0_pay20 x10)
        (k0_pay21 (k0_pay15 t) (k0_pay16 x4 x3 x5) x9) (k0_pay22 (k0_pay15 t) x7 x6 x8) (k0_pay23 x10)) (ix4 0 0 r l)
    else
      k0_pay34 (F := Ideal) (k0_pay20 x10) (k0_pay28 (k0_pay14 t x0 x1 x11) (k0_pay21 (k0_pay15 t) (k0_pay16 x4 x3 x5) x9))
        (k0_pay30 (k0_pay14 t x0 x1 x11) (k0_pay21 (k0_pay15 t) (k0_pay16 x4 x3 x5) x9)) (k0_pay31 (k0_pay20 x10)) (ix4 0 0 r l))
      = dIn u dx cw wd (512 * (t 1).val + r.val) (2816 * b.val + (704 * (t 0).val + l.val)) := by
  by_cases hb : b.val = 0
  · rw [if_pos hb, hb, Nat.mul_zero, Nat.zero_add, ← duGate_at B]
    pointwise [k0_pay33]
  · rw [if_neg hb, show b.val = 1 by omega, Nat.mul_one, ← duUp_at B]
    pointwise [k0_pay34]

set_option maxHeartbeats 4000000 in
theorem out12 (c : Dev nD) (t : Fin cfg0.N) (b : Fin 2) (r : Fin 512) (l : Fin 704) :
    (outsAt0 m c t.val t.isLt).1 (ix4 0 b r l)
      = dIn (uT m c) (dxT m c) (cwT m c) (wdT m c) (512 * (t.val % 4) + r.val) (2816 * b.val + (704 * (t.val / 4) + l.val)) := by
  rw [← (coords_val t).1, ← (coords_val t).2]
  by_cases h0 : t.val % 4 = 0
  · rw [outsAt0_A m c t h0 (by omega)]
    frame_open
    frame_out
    exact (halves _ _ _ _ b r l).trans (duHalves (blocks m c t) b r l)
  · by_cases h1 : t.val % 4 = 3
    · rw [outsAt0_C m c t h0 h1]
      frame_open
      frame_out
      exact (halves _ _ _ _ b r l).trans (duHalves (blocks m c t) b r l)
    · rw [outsAt0_B m c t h0 h1]
      frame_open
      frame_out
      exact (halves _ _ _ _ b r l).trans (duHalves (blocks m c t) b r l)

set_option maxHeartbeats 4000000 in
/-- At a channel block's last row block, the accumulated gradient of `w_down` is written out. -/
theorem out13 (c : Dev nD) (t : Fin cfg0.N) (ht : t.val % 4 = 3) (f : Fin 704) (d : Fin 1024) :
    (outsAt0 m c t.val t.isLt).2.1 (ix2 f d)
      = ∑ s : Fin 2048, act (uT m c) (cwT m c) s (704 * (t.val / 4) + f.val) * dxT m c s d := by
  rw [← accDown m c t ht, outsAt0_C m c t (by omega) ht]
  frame_open
  simp (disch := decide) only [↓ View.readCov_skip, ↓ View.readCov_cons_toLoadRect, ↓ View.readCov_fill]
  frame_out
  pointwise [k0_pay3]

set_option maxHeartbeats 4000000 in
/-- … and the two halves of the gradient of `w_up`, … -/
theorem out14 (c : Dev nD) (t : Fin cfg0.N) (ht : t.val % 4 = 3) (b : Fin 2) (f : Fin 704) (d : Fin 1024) :
    (outsAt0 m c t.val t.isLt).2.2.1 (ix4 0 b f d)
      = ∑ s : Fin 2048, dIn (uT m c) (dxT m c) (cwT m c) (wdT m c) s (2816 * b.val + (704 * (t.val / 4) + f.val)) * hT m c s d := by
  by_cases hb : b.val = 0
  · rw [hb, Nat.mul_zero, Nat.zero_add, ← accGate m c t ht, outsAt0_C m c t (by omega) ht]
    frame_open
    simp (disch := decide) only [↓ View.readCov_skip, ↓ View.readCov_cons_toLoadRect, ↓ View.readCov_fill]
    frame_out
    refine (halves _ _ _ _ b f d).trans ?_
    rw [if_pos hb]
    pointwise [k0_pay4]
  · rw [show b.val = 1 by omega, Nat.mul_one, ← accUp m c t ht, outsAt0_C m c t (by omega) ht]
    frame_open
    simp (disch := decide) only [↓ View.readCov_skip, ↓ View.readCov_cons_toLoadRect, ↓ View.readCov_fill]
    frame_out
    refine (halves _ _ _ _ b f d).trans ?_
    rw [if_neg hb]
    pointwise [k0_pay5]

set_option maxHeartbeats 4000000 in
/-- … and the two halves of the gradient of the taps. -/
theorem out15 (c : Dev nD) (t : Fin cfg0.N) (ht : t.val % 4 = 3) (b : Fin 2) (k : Fin 3) (l : Fin 704) :
    (outsAt0 m c t.val t.isLt).2.2.2.1 (ix4 0 b k l)
      = ∑ s : Fin 2048, dConvd (uT m c) (dxT m c) (cwT m c) (wdT m c) s (2816 * b.val + (704 * (t.val / 4) + l.val))
          * padded (uT m c) (s + 14 + k) (2816 * b.val + (704 * (t.val / 4) + l.val)) := by
  have hN : t.val < 16 := t.isLt
  by_cases hb : b.val = 0
  · rw [hb, Nat.mul_zero, Nat.zero_add]
    simp only [dConvd_gate (show 704 * (t.val / 4) + l.val < 2816 by omega)]
    rw [← accConvGate m c t ht, outsAt0_C m c t (by omega) ht]
    frame_open
    simp (disch := decide) only [↓ View.readCov_skip, ↓ View.readCov_cons_toLoadRect, ↓ View.readCov_fill]
    frame_out
    simp only [read_unread_whole]
    rw [View.read_writes_cons_hit_of_coords (x := ix2 k l) (hx := fun a => by match a with | ⟨0, _⟩ => simp | ⟨1, _⟩ => simp)]
    refine (halves _ _ _ _ b k l).trans ?_
    rw [if_pos hb]
    pointwise [k0_pay6]
  · rw [show b.val = 1 by omega, Nat.mul_one]
    simp only [dConvd_up]
    rw [← accConvUp m c t ht, outsAt0_C m c t (by omega) ht]
    frame_open
    simp (disch := decide) only [↓ View.readCov_skip, ↓ View.readCov_cons_toLoadRect, ↓ View.readCov_fill]
    frame_out
    simp only [read_unread_whole]
    rw [View.read_writes_cons_hit_of_coords (x := ix2 k l) (hx := fun a => by match a with | ⟨0, _⟩ => simp | ⟨1, _⟩ => simp)]
    refine (halves _ _ _ _ b k l).trans ?_
    rw [if_neg hb]
    pointwise [k0_pay7]

end Cert.KernelIdeal.Points
-- ==== Proof.Final.lean ====
module

public import proofs.«01_k».proof.Proof.Points

@[expose] public section

set_option maxRecDepth 16384

/-!
# The arrays the kernel leaves, as functions of the arguments' tables
-/

noncomputable section

namespace Cert.KernelIdeal.Final

open Cert.KernelIdeal Cert.KernelIdeal.Gen Idealize.ShloMosaic Idealize.ShloMosaic.TcCoe Mixer Payload Entry Points

variable (m : (ℓ : Loc nD τ sig) → Buf (Elt Ideal) ℓ)

/-- The gradient at the up-projection's output, in channel slabs. -/
def duOut (u dx cw wd : Tab) : Vec Ideal S4x2x2048x704 .bf16 :=
  fun i => dIn u dx cw wd (i 2).val (2816 * (i 1).val + (704 * (i 0).val + (i 3).val))

/-- The gradient of `w_down`. -/
def downOut (u dx cw : Tab) : Vec Ideal S2816x1024 .bf16 :=
  fun i => ∑ s : Fin 2048, act u cw s (i 0).val * dx s (i 1).val

/-- The gradient of `w_up`, in channel slabs. -/
def upOut (u dx h cw wd : Tab) : Vec Ideal S4x2x704x1024 .bf16 :=
  fun i => ∑ s : Fin 2048, dIn u dx cw wd s (2816 * (i 1).val + (704 * (i 0).val + (i 2).val)) * h s (i 3).val

/-- The gradient of the convolution's taps, in channel slabs. -/
def tapsOut (u dx cw wd : Tab) : Vec Ideal S4x2x3x704 .f32 :=
  fun i => ∑ s : Fin 2048, dConvd u dx cw wd s (2816 * (i 1).val + (704 * (i 0).val + (i 3).val))
    * padded u (s + 14 + (i 2).val) (2816 * (i 1).val + (704 * (i 0).val + (i 3).val))

/-- Where each output window's block lies, in blocks. -/
theorem placeOut : ∀ t : Fin grid0.N,
    win0_12.index t = ![t.val / 4, 0, t.val % 4, 0]
    ∧ win0_13.index t = ![t.val / 4, 0]
    ∧ win0_14.index t = ![t.val / 4, 0, 0, 0]
    ∧ win0_15.index t = ![t.val / 4, 0, 0, 0] := by
  decide +kernel

theorem final12 (c : Dev nD) : (dats m 0 c).arrAt 12 cfg0.N = duOut (uT m c) (dxT m c) (cwT m c) (wdT m c) := by
  refine (dats m 0 c).arrAt_eq_of_covers 12 _ (by decide +kernel) fun t hf y => ?_
  obtain ⟨p, -, -, -⟩ := placeOut t
  blk_simp
  rw [after0_12]
  have hy : y = ix4 (0 : Fin 1) (y 1) (y 2) (y 3) := by blk_ext
  refine (congrArg _ hy).trans ((out12 m c t (y 1) (y 2) (y 3)).trans ?_)
  simp only [duOut]
  blk_simp [p]
  congr 1 <;> omega

theorem final13 (c : Dev nD) : (dats m 0 c).arrAt 13 cfg0.N = downOut (uT m c) (dxT m c) (cwT m c) := by
  refine (dats m 0 c).arrAt_eq_of_covers 13 _ (by decide +kernel) fun t hf y => ?_
  obtain ⟨-, p, -, -⟩ := placeOut t
  blk_simp
  rw [after0_13]
  have hy : y = ix2 (y 0) (y 1) := by blk_ext
  refine (congrArg _ hy).trans ((out13 m c t ((flush0_13 t).mp hf) (y 0) (y 1)).trans ?_)
  simp only [downOut]
  blk_simp [p]
  rw [Nat.mul_comm 704]

theorem final14 (c : Dev nD) : (dats m 0 c).arrAt 14 cfg0.N = upOut (uT m c) (dxT m c) (hT m c) (cwT m c) (wdT m c) := by
  refine (dats m 0 c).arrAt_eq_of_covers 14 _ (by decide +kernel) fun t hf y => ?_
  obtain ⟨-, -, p, -⟩ := placeOut t
  blk_simp
  rw [after0_14]
  have hy : y = ix4 (0 : Fin 1) (y 1) (y 2) (y 3) := by blk_ext
  refine (congrArg _ hy).trans ((out14 m c t ((flush0_14 t).mp hf) (y 1) (y 2) (y 3)).trans ?_)
  simp only [upOut]
  blk_simp [p]

theorem final15 (c : Dev nD) : (dats m 0 c).arrAt 15 cfg0.N = tapsOut (uT m c) (dxT m c) (cwT m c) (wdT m c) := by
  refine (dats m 0 c).arrAt_eq_of_covers 15 _ (by decide +kernel) fun t hf y => ?_
  obtain ⟨-, -, -, p⟩ := placeOut t
  blk_simp
  rw [after0_15]
  have hy : y = ix4 (0 : Fin 1) (y 1) (y 2) (y 3) := by blk_ext
  refine (congrArg _ hy).trans ((out15 m c t ((flush0_15 t).mp hf) (y 1) (y 2) (y 3)).trans ?_)
  simp only [tapsOut]
  blk_simp [p]

end Cert.KernelIdeal.Final
-- ==== Proof.Finite.lean ====
module

public import proofs.«01_k».proof.Proof.Spec
public import proofs.«01_k».proof.Pre_finite
public import Idealize.ShloMosaic.Lib.ReduceAll
public import Idealize.ShloMosaic.Lib.Pointwise
public import Idealize.ShloMosaic.PureOps.Ideal.Laws

@[expose] public section

set_option maxRecDepth 16384

/-!
# Tables of real numbers

The gradient through `silu` distributes a product over a sum, which holds of real numbers and fails at the
infinities: the precondition says that every entry of the arguments is a real number.
-/

noncomputable section

namespace Mixer

open Idealize.ShloMosaic

/-- An extended real that is a real number. -/
def IsReal (x : EReal) : Prop := ∃ r : ℝ, x = r

/-- A table of real numbers. -/
def RealTab (x : Tab) : Prop := ∀ r l, IsReal (x r l)

theorem IsReal.add {x y : EReal} : IsReal x → IsReal y → IsReal (x + y) := by
  rintro ⟨a, rfl⟩ ⟨b, rfl⟩
  exact ⟨a + b, by push_cast; rfl⟩

theorem IsReal.mul {x y : EReal} : IsReal x → IsReal y → IsReal (x * y) := by
  rintro ⟨a, rfl⟩ ⟨b, rfl⟩
  exact ⟨a * b, by push_cast; rfl⟩

theorem isReal_zero : IsReal 0 := ⟨0, by push_cast; rfl⟩

theorem isReal_sum {ι : Type*} (s : Finset ι) (f : ι → EReal) (h : ∀ i, IsReal (f i)) : IsReal (∑ i ∈ s, f i) :=
  Finset.sum_induction f IsReal (fun _ _ => IsReal.add) isReal_zero fun i _ => h i

theorem isReal_logis {g : EReal} : IsReal g → IsReal (logis g) := by
  rintro ⟨a, rfl⟩
  have e : (1 : EReal) + Ideal.exp (0 - (a : EReal)) = ((1 + Real.exp (0 - a) : ℝ) : EReal) := by
    rw [← EReal.coe_zero, ← EReal.coe_sub, Ideal.exp_coe]
    push_cast
    rfl
  rw [logis, e, Ideal.div_coe (by positivity)]
  exact ⟨1 * (1 / (1 + Real.exp (0 - a))), by push_cast; rfl⟩

theorem real_product {h w : Tab} (hh : RealTab h) (hw : RealTab w) : RealTab (product h w) :=
  fun _ _ => isReal_sum _ _ fun _ => (hh _ _).mul (hw _ _)

theorem real_padded {u : Tab} (hu : RealTab u) : RealTab (padded u) := fun q n => by
  rw [padded]
  split
  exacts [isReal_zero, hu _ _]

theorem real_conv {u cw : Tab} (hu : RealTab u) (hc : RealTab cw) : RealTab (conv u cw) := fun s n =>
  (((real_padded hu _ _).mul (hc _ _)).add ((real_padded hu _ _).mul (hc _ _))).add ((real_padded hu _ _).mul (hc _ _))

theorem real_dAct {dx wd : Tab} (hd : RealTab dx) (hw : RealTab wd) : RealTab (dAct dx wd) := fun s f => by
  rw [dAct]
  split
  exacts [isReal_sum _ _ fun _ => (hd _ _).mul (hw _ _), isReal_zero]

/-- The derivative of `g * logis g`, taken by the product rule or in one piece. -/
theorem silu_deriv {a g : EReal} (ha : IsReal a) (hg : IsReal g) :
    a * logis g + g * a * (logis g * (1 - logis g)) = a * (logis g * (1 + g * (1 - logis g))) := by
  obtain ⟨s, hs⟩ := isReal_logis hg
  obtain ⟨a, rfl⟩ := ha
  obtain ⟨g, rfl⟩ := hg
  rw [hs]
  norm_cast
  ring

/-- A table of an array whose entries are real. -/
theorem real_tab {a b : ℕ} {x : (⟨2, ![a, b]⟩ : Shape).Idx → EReal} (h : ∀ i, IsReal (x i)) : RealTab (tab x) := fun r l => by
  unfold tab
  split
  · exact h _
  · exact isReal_zero

theorem isReal_of_abs_lt {x : EReal} (h : max x (-x) < ⊤) : IsReal x := by
  induction x with
  | bot => simp at h
  | top => simp at h
  | coe r => exact ⟨r, rfl⟩

open Cert.Pre_finite in
/-- Every entry of an array that passes the precondition's test is a real number. -/
theorem entries_real {s : Shape} {ax : List (Fin s.rank)} (x : Vec Ideal s .f32)
    (hb : S_.BroadcastsInDim s (![] : Fin 0 → Fin s.rank)) (hr : s.ReducesTo ax S_) (h_ : 0 < S_.numel)
    (h : Host.reduce IntOp.andi (cmpf .olt (Host.absf x) (broadcastInDim s ![] hb (constant (F := Ideal) S_ .f32 0x7F800000#32)))
      (constantI S_ 1 1#1) hr h_ (fun a => a.elim0) = 1#1) (i : s.Idx) : IsReal (x i) := by
  have := Host.reduce_andi_all _ _ _ _ _ h i
  pointwise at this
  have e : Ideal.ofBits FTy.f32 0x7F800000#32 = ⊤ := by
    simp [Ideal.ofBits, Ideal.ieee, -EReal.coe_mul]
  rw [e] at this
  refine isReal_of_abs_lt (by_contra fun hn => ?_)
  change BitVec.ofBool (decide (max (x i) (-(x i)) < ⊤)) = 1#1 at this
  rw [decide_eq_false hn] at this
  exact absurd this (by decide)

end Mixer
-- ==== Proof.Reference.lean ====
module

public import proofs.«01_k».proof.Proof.Gen.ReferenceIdeal.Read
public import proofs.«01_k».proof.Proof.Finite
public import Idealize.ShloMosaic.Lib.Pipeline.ValueKit

@[expose] public section

set_option maxRecDepth 16384

/-!
# The arrays the reference leaves, as functions of the arguments' tables
-/

noncomputable section

namespace Cert.ReferenceIdeal.Values

open Cert.ReferenceIdeal Cert.ReferenceIdeal.Gen Cert.ReferenceIdeal.Read Idealize.ShloMosaic Idealize.ShloMosaic.TcCoe Mixer

variable (x0 x1 : Vec Ideal S2048x1024 .f32) (x2 : Vec Ideal S1024x5632 .f32) (x3 : Vec Ideal S3x5632 .f32)
  (x4 : Vec Ideal S2816x1024 .f32)

/-- A sum over two axes of size one has one term. -/
theorem sum_ones (h : S1x1x5632.ReducesTo [0, 1] S5632) (x : S1x1x5632.Idx → EReal) (n : Fin 5632) :
    Ideal.hostReduceAdd h x 0 (ix1 n) = x (ix3 0 0 n) := by
  have hd : ∀ i, h.drop i = ix1 (i 2) := fun i => by
    funext a
    match a with | ⟨0, _⟩ => rfl
  rw [Ideal.hostReduceAdd, zero_add]
  refine Finset.sum_eq_single (ix3 0 0 n) (fun i hi hn => absurd ?_ hn) fun hn => absurd ?_ hn
  · have e : i 2 = n := congrFun ((hd i).symm.trans (Finset.mem_filter.mp hi).2) 0
    rw [← e]
    blk_ext
  · exact Finset.mem_filter.mpr ⟨Finset.mem_univ _, hd _⟩

theorem u_at (s : Fin 2048) (n : Fin 5632) : val_main_v1 x1 x2 (ix3 0 s n) = (product (tab x1) (tab x2)) s n := by
  unfold val_main_v1 val_main_v0
  pointwise
  exact Finset.sum_congr (M := EReal) rfl fun x _ => congrArg₂ (α := EReal) _ (tab_apply _ _ _) (tab_apply _ _ _)

theorem padded_at (q : Fin 2050) (n : Fin 5632) : val_main_v3 x1 x2 (ix3 0 q n) = padded (product (tab x1) (tab x2)) (q + 14) n := by
  unfold val_main_v3 val_main_v2 val_main_cst
  pointwise
  rw [padded]
  by_cases h : q.val < 2
  · rw [dif_pos h, if_pos (by omega)]
  · refine (dif_neg h).trans ((u_at x1 x2 ⟨q.val - 2, by omega⟩ n).trans ?_)
    rw [if_neg (by omega), show q.val + 14 - 16 = q.val - 2 by omega]

theorem tap0 (s : Fin 2048) (n : Fin 5632) : val_main_v9 x3 (ix3 0 s n) = tab x3 0 n := by
  unfold val_main_v9 val_main_v8 val_main_v7 val_main_v6
  pointwise
  exact tab_apply x3 0 n

theorem tap1 (s : Fin 2048) (n : Fin 5632) : val_main_v15 x3 (ix3 0 s n) = tab x3 1 n := by
  unfold val_main_v15 val_main_v14 val_main_v13 val_main_v12
  pointwise
  exact tab_apply x3 1 n

theorem tap2 (s : Fin 2048) (n : Fin 5632) : val_main_v22 x3 (ix3 0 s n) = tab x3 2 n := by
  unfold val_main_v22 val_main_v21 val_main_v20 val_main_v19
  pointwise
  exact tab_apply x3 2 n

theorem rows0 (s : Fin 2048) (n : Fin 5632) : val_main_v5 x1 x2 (ix3 0 s n) = padded (product (tab x1) (tab x2)) (s + 14) n := by
  unfold val_main_v5
  pointwise
  exact padded_at x1 x2 ⟨s, by omega⟩ n

theorem rows1 (s : Fin 2048) (n : Fin 5632) : val_main_v11 x1 x2 (ix3 0 s n) = padded (product (tab x1) (tab x2)) (s + 15) n := by
  unfold val_main_v11
  pointwise
  exact (padded_at x1 x2 ⟨1 + s, by omega⟩ n).trans (congrArg (padded (product (tab x1) (tab x2)) · n) (by dsimp only; omega))

theorem rows2 (s : Fin 2048) (n : Fin 5632) : val_main_v18 x1 x2 (ix3 0 s n) = padded (product (tab x1) (tab x2)) (s + 16) n := by
  unfold val_main_v18
  pointwise
  exact (padded_at x1 x2 ⟨2 + s, by omega⟩ n).trans (congrArg (padded (product (tab x1) (tab x2)) · n) (by dsimp only; omega))

theorem conv_at (s : Fin 2048) (n : Fin 5632) : val_main_v24 x1 x2 x3 (ix3 0 s n) = conv (product (tab x1) (tab x2)) (tab x3) s n := by
  unfold val_main_v24 val_main_v23 val_main_v17 val_main_v16 val_main_v10
  pointwise
  rw [rows0, rows1, rows2, tap0, tap1, tap2, conv]

theorem gate_at (s : Fin 2048) (f : Fin 2816) : val_main_v25 x1 x2 x3 (ix3 0 s f) = conv (product (tab x1) (tab x2)) (tab x3) s f := by
  unfold val_main_v25
  pointwise
  exact conv_at x1 x2 x3 s ⟨f, by omega⟩

theorem up_at (s : Fin 2048) (f : Fin 2816) : val_main_v26 x1 x2 x3 (ix3 0 s f) = conv (product (tab x1) (tab x2)) (tab x3) s (2816 + f) := by
  unfold val_main_v26
  pointwise
  exact conv_at x1 x2 x3 s ⟨2816 + f, by omega⟩

theorem sig_at (s : Fin 2048) (f : Fin 2816) : val_main_v27_2 x1 x2 x3 (ix3 0 s f) = logis (conv (product (tab x1) (tab x2)) (tab x3) s f) := by
  unfold val_main_v27_2 val_main_call0_v4 val_main_call0_v3 val_main_call0_v2 val_main_call0_v1 val_main_call0_v0
    val_main_call0_cst val_main_call0_cst_0
  pointwise
  rw [gate_at, logis, zero_sub]

theorem silu_at (s : Fin 2048) (f : Fin 2816) :
    val_main_v27_0 x1 x2 x3 (ix3 0 s f) = conv (product (tab x1) (tab x2)) (tab x3) s f * logis (conv (product (tab x1) (tab x2)) (tab x3) s f) := by
  unfold val_main_v27_0
  pointwise
  rw [gate_at, sig_at]

theorem act_at (s : Fin 2048) (f : Fin 2816) : val_main_v28 x1 x2 x3 (ix3 0 s f) = act (product (tab x1) (tab x2)) (tab x3) s f := by
  unfold val_main_v28
  pointwise
  rw [silu_at, up_at, act]

theorem dAct_at (s : Fin 2048) (f : Fin 2816) : val_main_v33 x0 x4 (ix3 0 s f) = dAct (tab x0) (tab x4) s f := by
  rw [dAct, if_pos s.isLt]
  unfold val_main_v33 val_main_v30
  pointwise
  exact Finset.sum_congr (M := EReal) rfl fun x _ => congrArg₂ (α := EReal) _ (tab_apply _ _ _) (tab_apply _ _ _)

theorem dUp_at (s : Fin 2048) (f : Fin 2816) :
    val_main_v34 x0 x1 x2 x3 x4 (ix3 0 s f) = dUp (product (tab x1) (tab x2)) (tab x0) (tab x3) (tab x4) s f := by
  unfold val_main_v34
  pointwise
  rw [silu_at, dAct_at, dUp]
  exact mul_comm _ _

/-- Over real entries the product rule's two terms are the kernel's one. -/
theorem dGate_at (h0 : RealTab (tab x0)) (h1 : RealTab (tab x1)) (h2 : RealTab (tab x2)) (h3 : RealTab (tab x3))
    (h4 : RealTab (tab x4)) (s : Fin 2048) (f : Fin 2816) :
    val_main_v36 x0 x1 x2 x3 x4 (ix3 0 s f) = dGate (product (tab x1) (tab x2)) (tab x0) (tab x3) (tab x4) s f := by
  have hc := real_conv (real_product h1 h2) h3
  unfold val_main_v36 val_main_call1_v1 val_main_call1_v2 val_main_call1_v0 val_main_v27_1 val_main_call0_v7
    val_main_call0_v6 val_main_call0_cst_1 val_main_v35
  pointwise
  rw [gate_at, sig_at, dAct_at, up_at]
  exact silu_deriv ((real_dAct h0 h4 _ _).mul (hc _ _)) (hc _ _)

variable (h0 : RealTab (tab x0)) (h1 : RealTab (tab x1)) (h2 : RealTab (tab x2)) (h3 : RealTab (tab x3))
    (h4 : RealTab (tab x4))
include h0 h1 h2 h3 h4

theorem dConvd_at (s : Fin 2048) (n : Fin 5632) :
    val_main_v39 x0 x1 x2 x3 x4 (ix3 0 s n) = dConvd (product (tab x1) (tab x2)) (tab x0) (tab x3) (tab x4) s n := by
  unfold val_main_v39 val_main_v37 val_main_v38 val_main_cst_1 val_main_cst_2
  pointwise
  rw [dConvd]
  by_cases h : n.val < 2816
  · rw [dif_neg (by omega), dif_pos h, if_pos h, dGate_at x0 x1 x2 x3 x4 h0 h1 h2 h3 h4, zero_add]
  · rw [dif_pos (by omega), dif_neg h, if_neg h, dUp_at, add_zero]

theorem back2 (s : Fin 2048) (n : Fin 5632) :
    val_main_v44 x0 x1 x2 x3 x4 (ix3 0 s n) = dConvd (product (tab x1) (tab x2)) (tab x0) (tab x3) (tab x4) s n * tab x3 2 n := by
  unfold val_main_v44 val_main_v43
  rw [← dConvd_at x0 x1 x2 x3 x4 h0 h1 h2 h3 h4, ← tap2 x3 s]
  unfold val_main_v22
  pointwise

theorem back1 (s : Fin 2048) (n : Fin 5632) :
    val_main_v53 x0 x1 x2 x3 x4 (ix3 0 s n) = dConvd (product (tab x1) (tab x2)) (tab x0) (tab x3) (tab x4) s n * tab x3 1 n := by
  unfold val_main_v53 val_main_v52
  rw [← dConvd_at x0 x1 x2 x3 x4 h0 h1 h2 h3 h4, ← tap1 x3 s]
  unfold val_main_v15
  pointwise

theorem back0 (s : Fin 2048) (n : Fin 5632) :
    val_main_v64 x0 x1 x2 x3 x4 (ix3 0 s n) = dConvd (product (tab x1) (tab x2)) (tab x0) (tab x3) (tab x4) s n * tab x3 0 n := by
  unfold val_main_v64 val_main_v63
  rw [← dConvd_at x0 x1 x2 x3 x4 h0 h1 h2 h3 h4, ← tap0 x3 s]
  unfold val_main_v9
  pointwise

/-- The gradient at the mixer's input. -/
theorem dIn_at (s : Fin 2048) (n : Fin 5632) :
    val_main_v72 x0 x1 x2 x3 x4 (ix3 0 s n) = dIn (product (tab x1) (tab x2)) (tab x0) (tab x3) (tab x4) s n := by
  unfold val_main_v72 val_main_v70 val_main_v69 val_main_v59 val_main_v58 val_main_v48 val_main_cst_6 val_main_cst_10 val_main_cst_14
  pointwise
  rw [dIn, back2 x0 x1 x2 x3 x4 h0 h1 h2 h3 h4, add_comm, add_comm (dConvd _ _ _ _ s.val n * _), add_assoc (dConvd _ _ _ _ (s.val + 2) n * _)]
  refine congrArg₂ (α := EReal) _ ?_ (congrArg₂ (α := EReal) _ ?_ rfl)
  · split
    · refine (back0 x0 x1 x2 x3 x4 h0 h1 h2 h3 h4 ⟨_, _⟩ n).trans ?_
      simp only [Nat.add_comm 2]
    · rw [dConvd_of_ge (by omega), zero_mul]
  · split
    · refine (back1 x0 x1 x2 x3 x4 h0 h1 h2 h3 h4 ⟨_, _⟩ n).trans ?_
      simp only [show 2 + s.val - 1 = s.val + 1 by omega]
    · rw [dConvd_of_ge (by omega), zero_mul]

theorem dTap0 (n : Fin 5632) :
    val_main_v66 x0 x1 x2 x3 x4 (ix2 0 n) = ∑ s : Fin 2048, dConvd (product (tab x1) (tab x2)) (tab x0) (tab x3) (tab x4) s n * padded (product (tab x1) (tab x2)) (s + 14 + 0) n := by
  unfold val_main_v66 val_main_v65 val_main_v62 val_main_v61 val_main_v60 val_main_cst_12 val_main_cst_11
  pointwise
  rw [sum_ones]
  pointwise
  exact Finset.sum_congr (M := EReal) rfl fun s _ => by
    rw [rows0, dConvd_at x0 x1 x2 x3 x4 h0 h1 h2 h3 h4]
    exact mul_comm _ _

theorem dTap1 (n : Fin 5632) :
    val_main_v55 x0 x1 x2 x3 x4 (ix2 0 n) = ∑ s : Fin 2048, dConvd (product (tab x1) (tab x2)) (tab x0) (tab x3) (tab x4) s n * padded (product (tab x1) (tab x2)) (s + 14 + 1) n := by
  unfold val_main_v55 val_main_v54 val_main_v51 val_main_v50 val_main_v49 val_main_cst_8 val_main_cst_7
  pointwise
  rw [sum_ones]
  pointwise
  exact Finset.sum_congr (M := EReal) rfl fun s _ => by
    rw [rows1, dConvd_at x0 x1 x2 x3 x4 h0 h1 h2 h3 h4]
    exact mul_comm _ _

theorem dTap2 (n : Fin 5632) :
    val_main_v46 x0 x1 x2 x3 x4 (ix2 0 n) = ∑ s : Fin 2048, dConvd (product (tab x1) (tab x2)) (tab x0) (tab x3) (tab x4) s n * padded (product (tab x1) (tab x2)) (s + 14 + 2) n := by
  unfold val_main_v46 val_main_v45 val_main_v42 val_main_v41 val_main_v40 val_main_cst_4 val_main_cst_3
  pointwise
  rw [sum_ones]
  pointwise
  exact Finset.sum_congr (M := EReal) rfl fun s _ => by
    rw [rows2, dConvd_at x0 x1 x2 x3 x4 h0 h1 h2 h3 h4]
    exact mul_comm _ _

theorem dTap (k : Fin 3) (n : Fin 5632) :
    val_main_v68 x0 x1 x2 x3 x4 (ix2 k n) = ∑ s : Fin 2048, dConvd (product (tab x1) (tab x2)) (tab x0) (tab x3) (tab x4) s n * padded (product (tab x1) (tab x2)) (s + 14 + k) n := by
  unfold val_main_v68 val_main_v67 val_main_v57 val_main_v47 val_main_v56 val_main_cst_5 val_main_cst_9 val_main_cst_13
  fin_vals k with hk
  · rw [hk, ← dTap0 x0 x1 x2 x3 x4 h0 h1 h2 h3 h4]
    pointwise
    rw [dif_neg (by omega), dif_neg (by omega), dif_pos (by omega), zero_add, zero_add]
    congr 1; blk_ext
  · rw [hk, ← dTap1 x0 x1 x2 x3 x4 h0 h1 h2 h3 h4]
    pointwise
    rw [dif_neg (by omega), dif_pos (by omega), dif_neg (by omega), zero_add, add_zero]
    congr 1; blk_ext
  · rw [hk, ← dTap2 x0 x1 x2 x3 x4 h0 h1 h2 h3 h4]
    pointwise
    rw [dif_pos (by omega), dif_neg (by omega), dif_neg (by omega), add_zero, add_zero]
    congr 1; blk_ext

theorem du_at (j : Fin 4) (b : Fin 2) (s : Fin 2048) (l : Fin 704) :
    val_main_v82 x0 x1 x2 x3 x4 (ix4 j b s l) = dIn (product (tab x1) (tab x2)) (tab x0) (tab x3) (tab x4) s (2816 * b.val + (704 * j.val + l.val)) := by
  unfold val_main_v82 val_main_v76 val_main_v75
  pointwise
  exact (dIn_at x0 x1 x2 x3 x4 h0 h1 h2 h3 h4 s ⟨_, _⟩).trans (congrArg _ (by dsimp only; omega))

theorem dUpW_at (j : Fin 4) (b : Fin 2) (f : Fin 704) (d : Fin 1024) :
    val_main_v84 x0 x1 x2 x3 x4 (ix4 j b f d)
      = ∑ s : Fin 2048, dIn (product (tab x1) (tab x2)) (tab x0) (tab x3) (tab x4) s (2816 * b.val + (704 * j.val + f.val)) * tab x1 s d := by
  unfold val_main_v84 val_main_v79 val_main_v78 val_main_v77 val_main_v74 val_main_v73 val_main_v0
  pointwise
  rw [Fin.sum_univ_one]
  exact Finset.sum_congr (M := EReal) rfl fun s _ => congrArg₂ (α := EReal) _
    ((dIn_at x0 x1 x2 x3 x4 h0 h1 h2 h3 h4 s ⟨_, _⟩).trans (congrArg _ (by dsimp only; omega))) (tab_apply _ _ _)

theorem dTaps_at (j : Fin 4) (b : Fin 2) (k : Fin 3) (l : Fin 704) :
    val_main_v81 x0 x1 x2 x3 x4 (ix4 j b k l)
      = ∑ s : Fin 2048, dConvd (product (tab x1) (tab x2)) (tab x0) (tab x3) (tab x4) s (2816 * b.val + (704 * j.val + l.val))
          * padded (product (tab x1) (tab x2)) (s + 14 + k) (2816 * b.val + (704 * j.val + l.val)) := by
  unfold val_main_v81 val_main_v80
  pointwise
  refine (dTap x0 x1 x2 x3 x4 h0 h1 h2 h3 h4 k ⟨_, _⟩).trans ?_
  have e : b.val * 2816 + j.val * 704 + l.val = 2816 * b.val + (704 * j.val + l.val) := by omega
  simp only [e]

omit h0 h1 h2 h3 h4 in
theorem dDown_at (f : Fin 2816) (d : Fin 1024) :
    val_main_v83 x0 x1 x2 x3 (ix2 f d) = ∑ s : Fin 2048, act (product (tab x1) (tab x2)) (tab x3) s f * tab x0 s d := by
  unfold val_main_v83 val_main_v32 val_main_v31 val_main_v30
  pointwise
  rw [Fin.sum_univ_one]
  exact Finset.sum_congr (M := EReal) rfl fun s _ =>
    (mul_comm _ _).trans (congrArg₂ (α := EReal) _ (act_at x1 x2 x3 s f) (tab_apply _ _ _))

end Cert.ReferenceIdeal.Values
-- ==== Proof.Claims.lean ====
module

public import proofs.«01_k».proof.Defs
public import proofs.«01_k».proof.Proof.Gen.KernelIdeal
public import proofs.«01_k».proof.Proof.Gen.ReferenceIdeal
public import proofs.«01_k».proof.Proof.Gen.Pre_finite
public import proofs.«01_k».proof.Proof.Final
public import proofs.«01_k».proof.Proof.Reference
public import Idealize.ShloMosaic.Lib.Quiescent

@[expose] public section

set_option maxRecDepth 16384

/-!
# The two programs leave the same arrays
-/

noncomputable section

namespace Cert.MixerClaims

open Idealize.ShloMosaic Idealize.SL.Sem Mixer

/-- What the precondition says: every entry of the five arguments is a real number. -/
theorem args_real {m : (ℓ : Loc Cert.KernelIdeal.nD Cert.KernelIdeal.τ Cert.KernelIdeal.sig) → Buf (Elt Ideal) ℓ}
    (h : Cert.Pre_KernelIdeal_finite m) (c : Dev Cert.KernelIdeal.nD) :
    RealTab (KernelIdeal.Entry.dxT m c) ∧ RealTab (KernelIdeal.Entry.hT m c) ∧ RealTab (KernelIdeal.Entry.wT m c)
      ∧ RealTab (KernelIdeal.Entry.cwT m c) ∧ RealTab (KernelIdeal.Entry.wdT m c) := by
  have e := congrFun (h c) (fun a => a.elim0)
  dsimp only [Cert.Pre_finite.fn, Cert.Pre_finite.fn_part1] at e
  obtain ⟨e, e4⟩ := IntOp.andi_eq_one.mp e
  obtain ⟨e, e3⟩ := IntOp.andi_eq_one.mp e
  obtain ⟨e, e2⟩ := IntOp.andi_eq_one.mp e
  obtain ⟨e0, e1⟩ := IntOp.andi_eq_one.mp e
  exact ⟨real_tab (entries_real _ _ _ _ e0), real_tab (entries_real _ _ _ _ e1), real_tab (entries_real _ _ _ _ e2),
    real_tab (entries_real _ _ _ _ e3), real_tab (entries_real _ _ _ _ e4)⟩

section Kernel
open Cert.KernelIdeal Cert.KernelIdeal.Gen Cert.KernelIdeal.Entry Cert.KernelIdeal.Points Cert.KernelIdeal.Final

/-- What the kernel leaves. -/
theorem kernel_run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v13_0) = duOut (uT m c) (dxT m c) (cwT m c) (wdT m c)
      ∧ r.2.mem ((c.tc : Thread nD τ).loc main_v13_1) = downOut (uT m c) (dxT m c) (cwT m c)
      ∧ r.2.mem ((c.tc : Thread nD τ).loc main_v13_2) = upOut (uT m c) (dxT m c) (hT m c) (cwT m c) (wdT m c)
      ∧ r.2.mem ((c.tc : Thread nD τ).loc main_v13_3) = tapsOut (uT m c) (dxT m c) (cwT m c) (wdT m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run _ _ _).mono (fun r h c => ⟨((h c).1 12).trans (final12 m c), ((h c).1 13).trans (final13 m c),
    ((h c).1 14).trans (final14 m c), ((h c).1 15).trans (final15 m c),
    ((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c)⟩)
    (run_main m g)

end Kernel

section Reference
open Cert.ReferenceIdeal Cert.ReferenceIdeal.Gen Cert.ReferenceIdeal.Read Cert.ReferenceIdeal.Value Cert.ReferenceIdeal.Values
open Cert.KernelIdeal.Final

variable (x0 x1 : Vec Ideal S2048x1024 .f32) (x2 : Vec Ideal S1024x5632 .f32) (x3 : Vec Ideal S3x5632 .f32)
  (x4 : Vec Ideal S2816x1024 .f32) (h0 : RealTab (tab x0)) (h1 : RealTab (tab x1)) (h2 : RealTab (tab x2)) (h3 : RealTab (tab x3))
  (h4 : RealTab (tab x4))

include h0 h1 h2 h3 h4 in
theorem reference_du : val_main_v82 x0 x1 x2 x3 x4 = duOut (product (tab x1) (tab x2)) (tab x0) (tab x3) (tab x4) := by
  funext i
  rw [show i = ix4 (i 0) (i 1) (i 2) (i 3) by blk_ext]
  exact du_at x0 x1 x2 x3 x4 h0 h1 h2 h3 h4 (i 0) (i 1) (i 2) (i 3)

theorem reference_down : val_main_v83 x0 x1 x2 x3 = downOut (product (tab x1) (tab x2)) (tab x0) (tab x3) := by
  funext i
  rw [show i = ix2 (i 0) (i 1) by blk_ext]
  exact dDown_at x0 x1 x2 x3 (i 0) (i 1)

include h0 h1 h2 h3 h4 in
theorem reference_up :
    val_main_v84 x0 x1 x2 x3 x4 = upOut (product (tab x1) (tab x2)) (tab x0) (tab x1) (tab x3) (tab x4) := by
  funext i
  rw [show i = ix4 (i 0) (i 1) (i 2) (i 3) by blk_ext]
  exact dUpW_at x0 x1 x2 x3 x4 h0 h1 h2 h3 h4 (i 0) (i 1) (i 2) (i 3)

include h0 h1 h2 h3 h4 in
theorem reference_taps : val_main_v81 x0 x1 x2 x3 x4 = tapsOut (product (tab x1) (tab x2)) (tab x0) (tab x3) (tab x4) := by
  funext i
  rw [show i = ix4 (i 0) (i 1) (i 2) (i 3) by blk_ext]
  exact dTaps_at x0 x1 x2 x3 x4 h0 h1 h2 h3 h4 (i 0) (i 1) (i 2) (i 3)

/-- The reference terminates with its arguments unchanged, and declares no semaphore. -/
theorem reference_frame (m : (ℓ : Loc nD τ sig) → Buf (Elt Ideal) ℓ) (g : Dev nD → PrngReg) :
    θ_run (defs (F := Ideal)) (onTc (τ := τ) (main (F := Ideal))) ⟨m, fun _ => 0, g⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0 :=
  (θ_run _ _ _).mono (fun r h => ⟨fun c => (h c).2.2.2.2, sem_eq_zero_of_no_sems (by decide) r.2⟩) (run m g)

end Reference

/-- From the same arguments, all real, the two programs leave the same four gradients. -/
theorem algebraic : Cert.algebraic_KernelIdeal_ReferenceIdeal_pre_finite := by
  intro m g m' g' hpre hagree
  refine ⟨_, _, _, _, kernel_run m g, (θ_run _ _ _).mono (fun r h c => ?_) (ReferenceIdeal.Value.run m' g')⟩
  obtain ⟨r0, r1, r2, r3, ra⟩ := h c
  obtain ⟨a0, a1, a2, a3, a4⟩ := hagree c
  obtain ⟨h0, h1, h2, h3, h4⟩ := args_real hpre c
  rw [ReferenceIdeal.Read.val_main_v82_eq, a0, a1, a2, a3, a4] at r0
  rw [ReferenceIdeal.Read.val_main_v83_eq, a0, a1, a2, a3] at r1
  rw [ReferenceIdeal.Read.val_main_v84_eq, a0, a1, a2, a3, a4] at r2
  rw [ReferenceIdeal.Read.val_main_v81_eq, a0, a1, a2, a3, a4] at r3
  exact ⟨r0.trans (reference_du _ _ _ _ _ h0 h1 h2 h3 h4), r1.trans (reference_down _ _ _ _),
    r2.trans (reference_up _ _ _ _ _ h0 h1 h2 h3 h4), r3.trans (reference_taps _ _ _ _ _ h0 h1 h2 h3 h4), ra⟩

end Cert.MixerClaims
-- ==== Proof.NormSpec.lean ====
module

public import proofs.«01_k».proof.Proof.Finite

@[expose] public section

/-!
# The gradient of the root-mean-square norm, written entry by entry

The norm scales a row `x s` of 1024 entries by `inv x s`, one over the root of the mean of its squares plus a small number, and by the
weights `w`. `grad` is the gradient at `x`, from the gradient `g` at the norm's output, in the form that the kernel computes;
`grad_eq` says that over real entries it is what the chain rule gives.
-/

noncomputable section

namespace Norm

open Idealize.ShloMosaic Mixer

/-- The list of an array of one axis; zero outside it. -/
def list {a : ℕ} (x : (⟨1, ![a]⟩ : Shape).Idx → EReal) : ℕ → EReal := fun r => if h : r < a then x (ix1 ⟨r, h⟩) else 0

theorem list_apply {a : ℕ} (x : (⟨1, ![a]⟩ : Shape).Idx → EReal) (r : Fin a) : x (ix1 r) = list x r := by
  rw [list, dif_pos r.isLt]

/-- The number of entries in a row, and the small number added to the mean. -/
def width : EReal := Ideal.ofBits FTy.f32 0x44800000#32
def small : EReal := Ideal.ofBits FTy.f32 0x358637BD#32

/-- The mean of a row's squares, plus the small number. -/
def power (x : Tab) (s : ℕ) : EReal := Ideal.div (∑ d : Fin 1024, x s d * x s d) width + small

/-- The factor a row is scaled by. -/
def inv (x : Tab) (s : ℕ) : EReal := Ideal.rsqrt (power x s)

/-- The gradient at the norm's input. -/
def grad (g x : Tab) (w : ℕ → EReal) (s d : ℕ) : EReal :=
  inv x s * (g s d * w d - x s d * inv x s * Ideal.div (∑ e : Fin 1024, g s e * w e * (x s e * inv x s)) width)

/-- The gradient at the norm's weights, over 2048 rows. -/
def gradW (g x : Tab) (d : ℕ) : EReal := ∑ s : Fin 2048, g s d * (x s d * inv x s)

theorem width_eq : width = ((1024 : ℝ) : EReal) := by
  rw [width]
  simp [Ideal.ofBits, Ideal.ieee, -EReal.coe_mul]
  norm_num

theorem small_eq : ∃ e : ℝ, 0 < e ∧ small = e := by
  refine ⟨8796093 * (2 ^ 43)⁻¹, by norm_num, ?_⟩
  rw [small]
  simp [Ideal.ofBits, Ideal.ieee, -EReal.coe_mul]
  try norm_num

theorem half_eq : Ideal.ofBits FTy.f32 0xBF000000#32 = ((-1 / 2 : ℝ) : EReal) := by
  simp [Ideal.ofBits, Ideal.ieee, -EReal.coe_mul, -EReal.coe_neg]
  norm_num

theorem coe_sum {ι : Type*} (s : Finset ι) (f : ι → ℝ) : ∑ i ∈ s, (f i : EReal) = ((∑ i ∈ s, f i : ℝ) : EReal) :=
  (map_sum (⟨⟨Real.toEReal, EReal.coe_zero⟩, EReal.coe_add⟩ : ℝ →+ EReal) f s).symm

/-- Over real entries, the mean of the squares plus the small number is a positive real, and `inv` is one over its root. -/
theorem power_real {x : Tab} (hx : RealTab x) (s : ℕ) :
    ∃ v : ℝ, 0 < v ∧ power x s = v ∧ inv x s = (((Real.sqrt v)⁻¹ : ℝ) : EReal) := by
  choose X hX using hx
  obtain ⟨e, he, hs⟩ := small_eq
  have hv : power x s = (((∑ d : Fin 1024, X s d * X s d) * (1 / 1024) + e : ℝ) : EReal) := by
    rw [power, hs, width_eq, Ideal.div_coe (by norm_num)]
    simp only [hX, ← EReal.coe_mul, coe_sum, ← EReal.coe_add]
  have hp : 0 < (∑ d : Fin 1024, X s d * X s d) * (1 / 1024) + e :=
    add_pos_of_nonneg_of_pos (mul_nonneg (Finset.sum_nonneg fun _ _ => mul_self_nonneg _) (by norm_num)) he
  refine ⟨_, hp, hv, ?_⟩
  rw [inv, hv, Ideal.rsqrt_coe, if_neg (not_lt.mpr hp.le), if_neg hp.ne']

theorem real_inv {x : Tab} (hx : RealTab x) (s : ℕ) : IsReal (inv x s) := by
  obtain ⟨v, -, -, h⟩ := power_real hx s
  exact ⟨_, h⟩

/-- Over real entries, the gradient in the kernel's form is the one the chain rule gives. -/
theorem grad_eq {g x : Tab} {w : ℕ → EReal} (hg : RealTab g) (hx : RealTab x) (hw : ∀ d, IsReal (w d)) (s d : ℕ) :
    grad g x w s d = g s d * w d * inv x s
      + x s d * Ideal.div ((∑ e : Fin 1024, x s e * (g s e * w e)) * (Ideal.ofBits FTy.f32 0xBF000000#32 * Ideal.div (inv x s) (power x s))) width
      + Ideal.div ((∑ e : Fin 1024, x s e * (g s e * w e)) * (Ideal.ofBits FTy.f32 0xBF000000#32 * Ideal.div (inv x s) (power x s))) width * x s d := by
  obtain ⟨v, hv, hp, hi⟩ := power_real hx s
  choose X hX using hx
  choose G hG using hg
  choose W hW using hw
  have hI : (Real.sqrt v)⁻¹ * (Real.sqrt v)⁻¹ = 1 / v := by
    rw [← mul_inv, Real.mul_self_sqrt hv.le, one_div]
  rw [grad, hp, hi, half_eq, width_eq, Ideal.div_coe hv.ne', Ideal.div_coe (by norm_num), Ideal.div_coe (by norm_num)]
  generalize (Real.sqrt v)⁻¹ = I at hI ⊢
  simp only [hX, hG, hW, ← EReal.coe_mul, coe_sum, ← EReal.coe_sub, ← EReal.coe_add]
  have e : ∑ e : Fin 1024, G s e * W e * (X s e * I) = I * ∑ e : Fin 1024, X s e * (G s e * W e) := by
    rw [Finset.mul_sum]
    exact Finset.sum_congr rfl fun _ _ => by ring
  rw [e]
  congr 1
  linear_combination (-(X s d) * I * (∑ e : Fin 1024, X s e * (G s e * W e)) / 1024) * hI

/-- A sum over axes of size one has one term. -/
theorem sum_units {s t : Shape} {ax : List (Fin s.rank)} (h : s.ReducesTo ax t) (x : s.Idx → EReal) (j : t.Idx) (i : s.Idx)
    (hi : h.drop i = j) (hu : ∀ k, h.drop k = j → k = i) : Ideal.hostReduceAdd h x 0 j = x i := by
  rw [Ideal.hostReduceAdd, zero_add]
  exact Finset.sum_eq_single i (fun k hk hn => absurd (hu k (Finset.mem_filter.mp hk).2) hn)
    fun hn => absurd (Finset.mem_filter.mpr ⟨Finset.mem_univ i, hi⟩) hn

/-- A list of an array whose entries are real. -/
theorem real_list {a : ℕ} {x : (⟨1, ![a]⟩ : Shape).Idx → EReal} (h : ∀ i, IsReal (x i)) (d : ℕ) : IsReal (list x d) := by
  unfold list
  split
  · exact h _
  · exact isReal_zero

end Norm
-- ==== Proof.UpGrad.lean ====
module

public import proofs.«01_k».proof.Proof.Gen.Kernel2Ideal.Value
public import proofs.«01_k».proof.Proof.NormSpec
public import Idealize.ShloMosaic.Lib.Pipeline.ValueKit
public import Idealize.ShloMosaic.Lib.Pipeline.ReadBack

@[expose] public section

set_option maxRecDepth 16384

/-!
# What the second call leaves: the gradient through the up-projection and the norm before it

Grid point `t` takes row block `t / 8` and the slab of 704 channels `t % 8`. The slabs' products are added up; at the last slab
the gradient of the norm is taken.
-/

noncomputable section

namespace Cert.Kernel2Ideal.UpGrad

open Cert.Kernel2Ideal Cert.Kernel2Ideal.Gen Idealize.ShloMosaic Idealize.ShloMosaic.TcCoe Mixer Norm

variable (m : (ℓ : Loc nD τ sig) → Buf (Elt Ideal) ℓ)

/-- The tables of the five arguments. -/
def duT (c : Dev nD) : Tab := tab (m ((c : Thread nD τ).loc main_arg0))
def wT (c : Dev nD) : Tab := tab (m ((c : Thread nD τ).loc main_arg1))
def xT (c : Dev nD) : Tab := tab (m ((c : Thread nD τ).loc main_arg2))
def nT (c : Dev nD) : ℕ → EReal := list (m ((c : Thread nD τ).loc main_arg3))
def skipT (c : Dev nD) : Tab := tab (m ((c : Thread nD τ).loc main_arg4))

/-- The first channel of the slab that step `k` takes: even steps take the gate half's slabs, odd steps the up half's. -/
def slab (k : ℕ) : ℕ := 704 * (4 * (k % 2) + k / 2)

/-- The gradient at the norm's output. -/
def dNormed (du w : Tab) (s d : ℕ) : EReal := ∑ n : Fin 5632, du s n * w d n

/-! ## The blocks a grid point reads -/

theorem V5 (c : Dev nD) (k : Fin 8) (s : Fin 2048) (l : Fin 704) : V m c main_v5 (ix3 k s l) = duT m c s (slab k + l) := by
  rw [duT, show tab _ _ _ = _ from (tab_apply (a := 2048) (b := 5632) _ s ⟨slab k + l, by rw [slab]; omega⟩).symm]
  entry_read
  pointwise
  congr 2
  exact Fin.ext (by dsimp only [slab]; omega)

theorem V6 (c : Dev nD) (k : Fin 8) (l : Fin 704) (d : Fin 1024) : V m c main_v6 (ix3 k l d) = wT m c d (704 * k + l) := by
  rw [wT, show tab _ _ _ = _ from (tab_apply (a := 1024) (b := 5632) _ d ⟨704 * k + l, by omega⟩).symm]
  entry_read
  pointwise
  congr 2
  exact Fin.ext (by dsimp only; omega)

theorem V7 (c : Dev nD) (d : Fin 1024) : V m c main_v7 (ix2 0 d) = nT m c d := by
  rw [nT, ← list_apply]
  entry_read
  pointwise

/-- Where each window's block lies, in blocks. -/
theorem place : ∀ t : Fin grid0.N,
    win0_0.index t = ![t.val % 8, t.val / 8, 0]
    ∧ win0_1.index t = ![4 * (t.val % 8 % 2) + t.val % 8 / 2, 0, 0]
    ∧ win0_2.index t = ![t.val / 8, 0]
    ∧ win0_3.index t = ![0, 0]
    ∧ win0_4.index t = ![t.val / 8, 0]
    ∧ win0_5.index t = ![t.val / 8, 0]
    ∧ win0_6.index t = ![0, 0] := by
  decide +kernel

theorem block0 (c : Dev nD) (t : Fin cfg0.N) (r : Fin 1024) (l : Fin 704) :
    iblk m c 0 t (ix3 0 r l) = duT m c (1024 * (t.val / 8) + r) (slab (t.val % 8) + l) := by
  have hN : t.val < 16 := t.isLt
  obtain ⟨p, -⟩ := place t
  refine .trans ?_ (V5 m c ⟨t.val % 8, by omega⟩ ⟨1024 * (t.val / 8) + r, by omega⟩ l)
  blk_ext [iblk, p]

theorem block1 (c : Dev nD) (t : Fin cfg0.N) (l : Fin 704) (d : Fin 1024) :
    iblk m c 1 t (ix3 0 l d) = wT m c d (slab (t.val % 8) + l) := by
  have hN : t.val < 16 := t.isLt
  obtain ⟨-, p, -⟩ := place t
  refine .trans ?_ (V6 m c ⟨4 * (t.val % 8 % 2) + t.val % 8 / 2, by omega⟩ l d)
  blk_ext [iblk, p]

theorem block2 (c : Dev nD) (t : Fin cfg0.N) (r d : Fin 1024) : iblk m c 2 t (ix2 r d) = xT m c (1024 * (t.val / 8) + r) d := by
  have hN : t.val < 16 := t.isLt
  obtain ⟨-, -, p, -⟩ := place t
  refine .trans ?_ (tab_apply (a := 2048) _ ⟨1024 * (t.val / 8) + r, by omega⟩ d)
  rw [← V_main_arg2 m c]
  blk_ext [iblk, p]

theorem block3 (c : Dev nD) (t : Fin cfg0.N) (d : Fin 1024) : iblk m c 3 t (ix2 0 d) = nT m c d := by
  obtain ⟨-, -, -, p, -⟩ := place t
  refine .trans ?_ (V7 m c d)
  blk_ext [iblk, p]

theorem block4 (c : Dev nD) (t : Fin cfg0.N) (r d : Fin 1024) : iblk m c 4 t (ix2 r d) = skipT m c (1024 * (t.val / 8) + r) d := by
  have hN : t.val < 16 := t.isLt
  obtain ⟨-, -, -, -, p, -⟩ := place t
  refine .trans ?_ (tab_apply (a := 2048) _ ⟨1024 * (t.val / 8) + r, by omega⟩ d)
  rw [← V_main_arg4 m c]
  blk_ext [iblk, p]

/-! ## The accumulated product -/

/-- The eight slabs are all the channels. -/
theorem slabs (F : ℕ → EReal) : ∑ k ∈ Finset.range 8, ∑ l : Fin 704, F (slab k + l) = ∑ n : Fin 5632, F n := by
  have h : ∀ k ∈ Finset.range 8, ∑ l : Fin 704, F (slab k + l) = ∑ l ∈ Finset.range 704, F (slab k + l) :=
    fun k _ => (Finset.sum_range (fun l => F (slab k + l))).symm
  rw [Finset.sum_congr rfl h, ← Finset.sum_range (fun n => F n)]
  simp only [Finset.sum_range_succ _ 7, Finset.sum_range_succ _ 6, Finset.sum_range_succ _ 5, Finset.sum_range_succ _ 4,
    Finset.sum_range_succ _ 3, Finset.sum_range_succ _ 2, Finset.sum_range_succ _ 1, Finset.sum_range_succ _ 0,
    Finset.sum_range_zero, zero_add]
  rw [show (5632 : ℕ) = 704 + 704 + 704 + 704 + 704 + 704 + 704 + 704 from rfl]
  simp only [Finset.sum_range_add, slab]
  norm_num
  abel

theorem product_at (c : Dev nD) (t : Fin cfg0.N) (r d : Fin 1024) :
    k0_pay1 (F := Ideal) (iblk m c 0 t) (iblk m c 1 t) (ix2 r d)
      = ∑ l : Fin 704, duT m c (1024 * (t.val / 8) + r) (slab (t.val % 8) + l) * wT m c d (slab (t.val % 8) + l) := by
  pointwise [k0_pay1]
  exact Finset.sum_congr (M := EReal) rfl fun l _ => congrArg₂ (α := EReal) _ (block0 m c t r l) (block1 m c t l d)

set_option maxHeartbeats 4000000 in
/-- At a row block's last step the accumulator holds the gradient at the norm's output. -/
theorem acc (c : Dev nD) (t : Fin cfg0.N) (ht : t.val % 8 = 7) (r d : Fin 1024) :
    (outsAt0 m c t.val t.isLt).2.2 (ix2 r d) = dNormed (duT m c) (wT m c) (1024 * (t.val / 8) + r) d := by
  have key := Pipeline.eq_sum_of_reset_step_apply_of_mod (M := EReal)
    (fun n h (p : Fin 1024 × Fin 1024) => (outsAt0 m c n h).2.2 (ix2 p.1 p.2)) 8 (fun _ => 0)
    (fun n p => ∑ l : Fin 704, duT m c (1024 * (n / 8) + p.1) (slab (n % 8) + l) * wT m c p.2 (slab (n % 8) + l)) ?_ ?_ t ht (r, d)
  · refine key.trans ((zero_add _).trans ?_)
    rw [dNormed, ← slabs (fun n => duT m c (1024 * (t.val / 8) + r) n * wT m c d n)]
    refine Finset.sum_congr rfl fun k hk => ?_
    have := Finset.mem_range.mp hk
    rw [show (8 * (t.val / 8) + k) / 8 = t.val / 8 by omega, show (8 * (t.val / 8) + k) % 8 = k by omega]
  · intro t h0 p
    rw [outsAt0_A m c t h0 (by omega) (by omega)]
    frame_open
    simp (disch := decide) only [↓ View.readCov_skip, ↓ View.readCov_cons_toLoadRect, ↓ View.readCov_fill]
    frame_out
    rw [zero_add]
    pointwise [k0_pay2]
    exact product_at m c t p.1 p.2
  · intro t h0 p
    by_cases h2 : t.val % 8 = 7
    · by_cases h3 : t.val < 8
      · rw [outsAt0_C m c t h0 (by omega) h2 h3 (by omega)]
        frame_open
        simp (disch := decide) only [↓ View.readCov_skip, ↓ View.readCov_cons_toLoadRect, ↓ View.readCov_fill]
        frame_out
        simp only [read_unread_whole]
        pointwise [k0_pay3]
        exact congrArg _ (product_at m c t p.1 p.2)
      · rw [outsAt0_D m c t h0 (by omega) h2 h3 (by omega)]
        frame_open
        simp (disch := decide) only [↓ View.readCov_skip, ↓ View.readCov_cons_toLoadRect, ↓ View.readCov_fill]
        frame_out
        simp only [read_unread_whole]
        pointwise [k0_pay3]
        exact congrArg _ (product_at m c t p.1 p.2)
    · rw [outsAt0_B m c t h0 (by omega) h2]
      frame_open
      simp (disch := decide) only [↓ View.readCov_skip, ↓ View.readCov_cons_toLoadRect, ↓ View.readCov_fill]
      frame_out
      simp only [read_unread_whole]
      pointwise [k0_pay3]
      exact congrArg _ (product_at m c t p.1 p.2)

/-! ## What the last step of a row block leaves -/

set_option maxHeartbeats 4000000 in
theorem last (c : Dev nD) (t : Fin cfg0.N) (ht : t.val % 8 = 7) :
    (outsAt0 m c t.val t.isLt).1
        = k0_pay8 (F := Ideal) (outsAt0 m c t.val t.isLt).2.2 (iblk m c 2 t) (iblk m c 3 t) (iblk m c 4 t) := by
  by_cases h3 : t.val < 8
  · rw [outsAt0_C m c t (by omega) (by omega) ht h3 (by omega)]
    frame_open
    simp (disch := decide) only [↓ View.readCov_skip, ↓ View.readCov_cons_toLoadRect, ↓ View.readCov_fill]
    frame_out
  · rw [outsAt0_D m c t (by omega) (by omega) ht h3 (by omega)]
    frame_open
    simp (disch := decide) only [↓ View.readCov_skip, ↓ View.readCov_cons_toLoadRect, ↓ View.readCov_fill]
    frame_out

set_option maxHeartbeats 4000000 in
/-- The first row block's part of the weights' gradient. -/
theorem first7 (c : Dev nD) (t : Fin cfg0.N) (ht : t.val = 7) :
    (outsAt0 m c t.val t.isLt).2.1 = k0_pay7 (F := Ideal) (outsAt0 m c t.val t.isLt).2.2 (iblk m c 2 t) := by
  rw [outsAt0_C m c t (by omega) (by omega) (by omega) (by omega) (by omega)]
  frame_open
  simp (disch := decide) only [↓ View.readCov_skip, ↓ View.readCov_cons_toLoadRect, ↓ View.readCov_fill]
  frame_out

set_option maxHeartbeats 4000000 in
/-- The second row block's part is added to the first's. -/
theorem last15 (c : Dev nD) (t : Fin cfg0.N) (ht : t.val = 15) :
    (outsAt0 m c t.val t.isLt).2.1
      = k0_pay4 (F := Ideal) (k0_pay7 (F := Ideal) (outsAt0 m c t.val t.isLt).2.2 (iblk m c 2 t))
          (outsAt0 m c (t.val - 1) (Nat.lt_of_le_of_lt (Nat.sub_le _ _) t.isLt)).2.1 := by
  rw [outsAt0_D m c t (by omega) (by omega) (by omega) (by omega) (by omega)]
  frame_open
  simp (disch := decide) only [↓ View.readCov_skip, ↓ View.readCov_cons_toLoadRect, ↓ View.readCov_fill]
  frame_out

/-- The steps between leave the first part where it is. -/
theorem keep (c : Dev nD) (t : Fin cfg0.N) (h0 : t.val ≠ 0) (ht : t.val % 8 ≠ 7) :
    (outsAt0 m c t.val t.isLt).2.1 = (outsAt0 m c (t.val - 1) (Nat.lt_of_le_of_lt (Nat.sub_le _ _) t.isLt)).2.1 := by
  by_cases h : t.val % 8 = 0
  · rw [outsAt0_A m c t h (by omega) (by omega)]
    frame_open
    rfl
  · rw [outsAt0_B m c t h (by omega) (by omega)]
    frame_open
    rfl

/-- The first row block's part, at any step between. -/
theorem between (c : Dev nD) (f : Fin cfg0.N) (hf : f.val = 7) (n : ℕ) (h7 : 7 ≤ n) : ∀ (hn : n < cfg0.N), n ≤ 14 →
    (outsAt0 m c n hn).2.1 = (outsAt0 m c f.val f.isLt).2.1 := by
  induction n, h7 using Nat.le_induction with
  | base =>
    intro hn _
    obtain ⟨f, hf'⟩ := f
    dsimp only at hf ⊢
    subst hf
    rfl
  | succ n h7 ih =>
    intro hn h14
    exact (keep m c ⟨n + 1, hn⟩ (Nat.succ_ne_zero n) (by dsimp only; omega)).trans (ih (Nat.lt_of_succ_lt hn) (by omega))

/-! ## The arrays left -/

/-- The gradient at the residual stream. -/
def dxOut (du w x skip : Tab) (n : ℕ → EReal) : Vec Ideal S2048x1024 .f32 :=
  fun i => skip (i 0).val (i 1).val + grad (dNormed du w) x n (i 0).val (i 1).val

/-- The gradient at the norm's weights. -/
def dNormOut (du w x : Tab) : Vec Ideal S1x1024 .f32 := fun i => gradW (dNormed du w) x (i 1).val

theorem out5 (c : Dev nD) (t : Fin cfg0.N) (ht : t.val % 8 = 7) (r d : Fin 1024) :
    (outsAt0 m c t.val t.isLt).1 (ix2 r d) = skipT m c (1024 * (t.val / 8) + r) d
      + grad (dNormed (duT m c) (wT m c)) (xT m c) (nT m c) (1024 * (t.val / 8) + r) d := by
  rw [last m c t ht]
  generalize ha : (outsAt0 m c t.val t.isLt).2.2 = a
  have h : ∀ r d : Fin 1024, a (ix2 r d) = dNormed (duT m c) (wT m c) (1024 * (t.val / 8) + r) d :=
    fun r d => ha ▸ acc m c t ht r d
  pointwise [k0_pay8, k0_pay6, k0_pay5]
  simp only [h, block2, block3, block4]
  rfl

theorem part (c : Dev nD) (t : Fin cfg0.N) (ht : t.val % 8 = 7) (d : Fin 1024) :
    k0_pay7 (F := Ideal) (outsAt0 m c t.val t.isLt).2.2 (iblk m c 2 t) (ix2 0 d)
      = ∑ r : Fin 1024, dNormed (duT m c) (wT m c) (1024 * (t.val / 8) + r) d
          * (xT m c (1024 * (t.val / 8) + r) d * inv (xT m c) (1024 * (t.val / 8) + r)) := by
  generalize ha : (outsAt0 m c t.val t.isLt).2.2 = a
  have h : ∀ r d : Fin 1024, a (ix2 r d) = dNormed (duT m c) (wT m c) (1024 * (t.val / 8) + r) d :=
    fun r d => ha ▸ acc m c t ht r d
  pointwise [k0_pay7, k0_pay6, k0_pay5]
  simp only [h, block2]
  rfl

theorem out6 (c : Dev nD) (t f : Fin cfg0.N) (ht : t.val = 15) (hf : f.val = 7) (d : Fin 1024) :
    (outsAt0 m c t.val t.isLt).2.1 (ix2 0 d) = gradW (dNormed (duT m c) (wT m c)) (xT m c) d := by
  rw [last15 m c t ht, between m c f hf _ (by omega) _ (by omega), first7 m c f hf]
  have pf := part m c f (by omega) d
  have pt := part m c t (by omega) d
  generalize k0_pay7 (F := Ideal) (outsAt0 m c f.val f.isLt).2.2 (iblk m c 2 f) = a at pf ⊢
  generalize k0_pay7 (F := Ideal) (outsAt0 m c t.val t.isLt).2.2 (iblk m c 2 t) = b at pt ⊢
  pointwise [k0_pay4]
  rw [pf, pt, ht, hf, gradW, Fin.sum_univ_eq_sum_range (fun s => dNormed (duT m c) (wT m c) s d * (xT m c s d * inv (xT m c) s)) 2048,
    show (2048 : ℕ) = 1024 + 1024 from rfl, Finset.sum_range_add, ← Fin.sum_univ_eq_sum_range,
    ← Fin.sum_univ_eq_sum_range (fun s => dNormed (duT m c) (wT m c) (1024 + s) d * (xT m c (1024 + s) d * inv (xT m c) (1024 + s)))]
  simp only [show 7 / 8 = 0 from rfl, show 15 / 8 = 1 from rfl, mul_zero, mul_one, zero_add]

theorem final5 (c : Dev nD) : (dats m 0 c).arrAt 5 cfg0.N = dxOut (duT m c) (wT m c) (xT m c) (skipT m c) (nT m c) := by
  refine (dats m 0 c).arrAt_eq_of_covers 5 _ (by decide +kernel) fun t hf y => ?_
  obtain ⟨-, -, -, -, -, p, -⟩ := place t
  blk_simp
  rw [after0_5]
  have hy : y = ix2 (y 0) (y 1) := by blk_ext
  refine (congrArg _ hy).trans ((out5 m c t ((flush0_5 t).mp hf) (y 0) (y 1)).trans ?_)
  simp only [dxOut]
  blk_simp [p]
  rw [Nat.mul_comm 1024]

theorem final6 (c : Dev nD) : (dats m 0 c).arrAt 6 cfg0.N = dNormOut (duT m c) (wT m c) (xT m c) := by
  refine (dats m 0 c).arrAt_eq_of_covers 6 _ (by decide +kernel) fun t hf y => ?_
  obtain ⟨-, -, -, -, -, -, p⟩ := place t
  have hN : t.val < 16 := t.isLt
  have h15 := (flush0_6 t).mp hf
  blk_simp
  rw [after0_6]
  have hy : y = ix2 (0 : Fin 1) (y 1) := by blk_ext
  refine (congrArg _ hy).trans ((out6 m c t ⟨7, by rw [show cfg0.N = 16 from N_0]; omega⟩ (by omega) rfl (y 1)).trans ?_)
  simp only [dNormOut]
  blk_simp [p]

end Cert.Kernel2Ideal.UpGrad
-- ==== Proof.UpReference.lean ====
module

public import proofs.«01_k».proof.Proof.Gen.Reference2Ideal.Read
public import proofs.«01_k».proof.Proof.NormSpec
public import Idealize.ShloMosaic.Lib.Pipeline.ValueKit

@[expose] public section

set_option maxRecDepth 16384

/-!
# The arrays the second reference leaves, as functions of the arguments' tables
-/

noncomputable section

namespace Cert.Reference2Ideal.Values

open Cert.Reference2Ideal Cert.Reference2Ideal.Gen Cert.Reference2Ideal.Read Idealize.ShloMosaic Idealize.ShloMosaic.TcCoe Mixer Norm

variable (x0 : Vec Ideal S2048x5632 .f32) (x1 : Vec Ideal S1024x5632 .f32) (x2 : Vec Ideal S2048x1024 .f32)
  (x3 : Vec Ideal S1024 .f32) (x4 : Vec Ideal S2048x1024 .f32)

theorem x_at (s : Fin 2048) (d : Fin 1024) : val_main_v0 x2 (ix3 0 s d) = tab x2 s d := by
  unfold val_main_v0
  pointwise
  exact tab_apply _ _ _

theorem power_at (s : Fin 2048) : val_main_v7 x2 (ix3 0 s 0) = power (tab x2) s := by
  unfold val_main_v7 val_main_v6 val_main_v5 val_main_v4 val_main_v3 val_main_v2 val_main_v1 val_main_cst val_main_cst_0
    val_main_cst_1
  pointwise
  simp only [x_at]
  rfl

theorem inv_at (s : Fin 2048) : val_main_v8 x2 (ix3 0 s 0) = inv (tab x2) s := by
  unfold val_main_v8
  pointwise
  rw [power_at]
  rfl

theorem normed_at (s : Fin 2048) (d : Fin 1024) : val_main_v13 x2 (ix3 0 s d) = tab x2 s d * inv (tab x2) s := by
  unfold val_main_v13 val_main_v12
  pointwise
  rw [x_at, inv_at]

theorem dNormed_at (s : Fin 2048) (d : Fin 1024) :
    val_main_v19 x0 x1 (ix3 0 s d) = ∑ n : Fin 5632, tab x0 s n * tab x1 d n := by
  unfold val_main_v19 val_main_v18
  pointwise
  exact Finset.sum_congr (M := EReal) rfl fun x _ => congrArg₂ (α := EReal) _ (tab_apply _ _ _) (tab_apply _ _ _)

theorem weighted_at (s : Fin 2048) (d : Fin 1024) :
    val_main_v24 x0 x1 x3 (ix3 0 s d) = (∑ n : Fin 5632, tab x0 s n * tab x1 d n) * list x3 d := by
  unfold val_main_v24 val_main_v23 val_main_v14
  pointwise
  rw [dNormed_at, ← list_apply]

theorem pull_at (s : Fin 2048) :
    val_main_v34 x0 x1 x2 x3 (ix1 s) = Ideal.div ((∑ e : Fin 1024, tab x2 s e * ((∑ n : Fin 5632, tab x0 s n * tab x1 e n) * list x3 e))
      * (Ideal.ofBits FTy.f32 0xBF000000#32 * Ideal.div (inv (tab x2) s) (power (tab x2) s))) width := by
  unfold val_main_v34 val_main_cst_7
  pointwise
  refine (sum_units _ _ (ix1 s) (ix3 0 s 0) (by funext a; match a with | ⟨0, _⟩ => rfl) fun i h => ?_).trans ?_
  · have e : i 1 = s := congrFun h 0
    rw [← e]
    blk_ext
  · unfold val_main_v33 val_main_v32 val_main_v31 val_main_v28 val_main_v27 val_main_v26 val_main_v11 val_main_v10 val_main_v9
      val_main_cst_5 val_main_cst_6 val_main_cst_2
    pointwise
    simp only [power_at, inv_at, x_at, weighted_at]
    rfl

theorem dNorm_at (d : Fin 1024) :
    val_main_v43 x0 x1 x2 (ix2 0 d) = gradW (fun s d => ∑ n : Fin 5632, tab x0 s n * tab x1 d n) (tab x2) d := by
  unfold val_main_v43 val_main_v25 val_main_cst_4
  pointwise
  refine (sum_units _ _ (ix1 d) (ix3 0 0 d) (by funext a; match a with | ⟨0, _⟩ => rfl) fun i h => ?_).trans ?_
  · have e : i 2 = d := congrFun h 0
    rw [← e]
    blk_ext
  · unfold val_main_v22 val_main_v21 val_main_v20 val_main_cst_3
    pointwise
    simp only [normed_at, dNormed_at]
    exact Finset.sum_congr (M := EReal) rfl fun s _ => mul_comm _ _

theorem dx_at (h0 : RealTab (tab x0)) (h1 : RealTab (tab x1)) (h2 : RealTab (tab x2)) (h3 : ∀ d, IsReal (list x3 d))
    (s : Fin 2048) (d : Fin 1024) : val_main_v42 x0 x1 x2 x3 x4 (ix2 s d)
      = tab x4 s d + grad (fun s d => ∑ n : Fin 5632, tab x0 s n * tab x1 d n) (tab x2) (list x3) s d := by
  rw [grad_eq (fun _ _ => isReal_sum _ _ fun _ => (h0 _ _).mul (h1 _ _)) h2 h3, ← pull_at, ← weighted_at, ← inv_at, ← tab_apply, ← tab_apply]
  unfold val_main_v42 val_main_v41 val_main_v40 val_main_v39 val_main_v38 val_main_v37 val_main_v36 val_main_v35 val_main_v30
    val_main_v29
  pointwise
  rw [x_at]
  simp only [tab_apply]

end Cert.Reference2Ideal.Values
-- ==== Proof.UpClaims.lean ====
module

public import proofs.«01_k».proof.Defs
public import proofs.«01_k».proof.Proof.Gen.Kernel2Ideal
public import proofs.«01_k».proof.Proof.Gen.Reference2Ideal
public import proofs.«01_k».proof.Proof.Gen.Pre_finite2
public import proofs.«01_k».proof.Proof.UpGrad
public import proofs.«01_k».proof.Proof.UpReference
public import Idealize.ShloMosaic.Lib.Quiescent

@[expose] public section

set_option maxRecDepth 16384

/-!
# The second call and its reference leave the same arrays
-/

noncomputable section

namespace Cert.UpClaims

open Idealize.ShloMosaic Idealize.SL.Sem Mixer Norm

/-- What the precondition says, as far as the proof needs it. -/
theorem args_real {m : (ℓ : Loc Cert.Kernel2Ideal.nD Cert.Kernel2Ideal.τ Cert.Kernel2Ideal.sig) → Buf (Elt Ideal) ℓ}
    (h : Cert.Pre_Kernel2Ideal_finite2 m) (c : Dev Cert.Kernel2Ideal.nD) :
    RealTab (Kernel2Ideal.UpGrad.duT m c) ∧ RealTab (Kernel2Ideal.UpGrad.wT m c) ∧ RealTab (Kernel2Ideal.UpGrad.xT m c)
      ∧ ∀ d, IsReal (Kernel2Ideal.UpGrad.nT m c d) := by
  have e := congrFun (h c) (fun a => a.elim0)
  dsimp only [Cert.Pre_finite2.fn, Cert.Pre_finite2.fn_part1] at e
  obtain ⟨e, e4⟩ := IntOp.andi_eq_one.mp e
  obtain ⟨e, e3⟩ := IntOp.andi_eq_one.mp e
  obtain ⟨e, e2⟩ := IntOp.andi_eq_one.mp e
  obtain ⟨e0, e1⟩ := IntOp.andi_eq_one.mp e
  exact ⟨real_tab (entries_real _ _ _ _ e0), real_tab (entries_real _ _ _ _ e1), real_tab (entries_real _ _ _ _ e2),
    real_list (entries_real _ _ _ _ e3)⟩

section Reference
open Cert.Reference2Ideal Cert.Reference2Ideal.Gen Cert.Reference2Ideal.Read Cert.Reference2Ideal.Values
open Cert.Kernel2Ideal.UpGrad

variable (x0 : Vec Ideal S2048x5632 .f32) (x1 : Vec Ideal S1024x5632 .f32) (x2 : Vec Ideal S2048x1024 .f32)
  (x3 : Vec Ideal S1024 .f32) (x4 : Vec Ideal S2048x1024 .f32)

theorem reference_dx (h0 : RealTab (tab x0)) (h1 : RealTab (tab x1)) (h2 : RealTab (tab x2)) (h3 : ∀ d, IsReal (list x3 d)) :
    val_main_v42 x0 x1 x2 x3 x4 = dxOut (tab x0) (tab x1) (tab x2) (tab x4) (list x3) := by
  funext i
  rw [show i = ix2 (i 0) (i 1) by blk_ext]
  exact dx_at x0 x1 x2 x3 x4 h0 h1 h2 h3 (i 0) (i 1)

theorem reference_dNorm : val_main_v43 x0 x1 x2 = dNormOut (tab x0) (tab x1) (tab x2) := by
  funext i
  rw [show i = ix2 (0 : Fin 1) (i 1) by blk_ext]
  exact dNorm_at x0 x1 x2 (i 1)

/-- The reference terminates with its arguments unchanged, and declares no semaphore. -/
theorem reference_frame (m : (ℓ : Loc nD τ sig) → Buf (Elt Ideal) ℓ) (g : Dev nD → PrngReg) :
    θ_run (defs (F := Ideal)) (onTc (τ := τ) (main (F := Ideal))) ⟨m, fun _ => 0, g⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0 :=
  (θ_run _ _ _).mono (fun r h => ⟨fun c => (h c).2.2, sem_eq_zero_of_no_sems (by decide) r.2⟩)
    (Cert.Reference2Ideal.Value.run m g)

end Reference

section Kernel
open Cert.Kernel2Ideal Cert.Kernel2Ideal.Gen Cert.Kernel2Ideal.UpGrad

/-- What the kernel leaves. -/
theorem kernel_run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v8_0) = dxOut (duT m c) (wT m c) (xT m c) (skipT m c) (nT m c)
      ∧ r.2.mem ((c.tc : Thread nD τ).loc main_v8_1) = dNormOut (duT m c) (wT m c) (xT m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run _ _ _).mono (fun r h c => ⟨(h c).1.trans (final5 m c), (h c).2.1.trans (final6 m c), (h c).2.2⟩)
    (Cert.Kernel2Ideal.Value.run_blocks m g)

end Kernel

/-- From the same arguments, all real, the two programs leave the same two gradients. -/
theorem algebraic : Cert.algebraic_Kernel2Ideal_Reference2Ideal_pre_finite2 := by
  intro m g m' g' hpre hagree
  refine ⟨_, _, kernel_run m g, (θ_run _ _ _).mono (fun r h c => ?_) (Reference2Ideal.Value.run m' g')⟩
  obtain ⟨r0, r1, ra⟩ := h c
  obtain ⟨a0, a1, a2, a3, a4⟩ := hagree c
  obtain ⟨h0, h1, h2, h3⟩ := args_real hpre c
  rw [Reference2Ideal.Read.val_main_v42_eq, a0, a1, a2, a3, a4] at r0
  rw [Reference2Ideal.Read.val_main_v43_eq, a0, a1, a2] at r1
  exact ⟨r0.trans (reference_dx _ _ _ _ _ h0 h1 h2 h3), r1.trans (reference_dNorm _ _ _), ra⟩

end Cert.UpClaims
-- ==== Proof.ScanChunk.lean ====
module

public import proofs.«01_k».proof.Proof.Gen.Kernel3Ideal.Value
public import Idealize.ShloMosaic.Lib.Pipeline.ValueKit
public import Idealize.ShloMosaic.Lib.Pipeline.ReadBack

@[expose] public section

set_option maxRecDepth 16384

/-!
# The scan's backward call, chunk by chunk

A grid point takes eight chunks, the last one first. The gradient at the state goes from chunk to chunk through the scratch.
What a chunk computes is said once, from the blocks of the point, the chunk's number and the gradient at the state after it.
-/

noncomputable section

namespace Cert.Kernel3Ideal.Scan

open Cert.Kernel3Ideal Cert.Kernel3Ideal.Gen Idealize.ShloMosaic Idealize.ShloMosaic.TcCoe

/-- The blocks that a grid point reads. -/
structure Blocks where
  d : Vec Ideal S512x512 .f32
  o : Vec Ideal S512x512 .f32
  z : Vec Ideal S512x512 .f32
  w : Vec Ideal S1x128 .f32
  s : Vec Ideal S4096x128 .f32
  u : Vec Ideal S512x512 .f32
  a : Vec Ideal S2048x256 .f32
  wk : Vec Ideal S2048x512 .bf16
  qd : Vec Ideal S2048x512 .bf16
  ke : Vec Ideal S2048x512 .bf16
  g : Vec Ideal S512x512 .f32

/-- The 64 rows from `r` on and the 128 columns from `k` on of a block. -/
def slab (x : Vec Ideal S512x512 .f32) (r k : ℕ) (h : ∀ a : Fin 2, ![r, k] a + S64x128.size a ≤ S512x512.size a) : Vec Ideal S64x128 .f32 :=
  View.ld x (Rect.unit ![r, k] ![64, 128] h)

/-- Four pieces of 64 rows, one below the other. -/
def stack (a b c d : Vec Ideal S64x128 .f32) : Vec Ideal S256x128 .f32 :=
  concatenate S256x128 0 [⟨S64x128, a⟩, ⟨S64x128, b⟩, ⟨S64x128, c⟩, ⟨S64x128, d⟩] concatenates_S64x128_S64x128_S64x128_S64x128_S256x128_d0

/-- The four heads of chunk `q` of a block, one below the other. -/
def heads (x : Vec Ideal S512x512 .f32) (q : Fin 8) : Vec Ideal S256x128 .f32 :=
  stack (slab x (64 * q.val) 0 (by intro a; fin_cases a <;> simp <;> omega)) (slab x (64 * q.val) 128 (by intro a; fin_cases a <;> simp <;> omega))
    (slab x (64 * q.val) 256 (by intro a; fin_cases a <;> simp <;> omega)) (slab x (64 * q.val) 384 (by intro a; fin_cases a <;> simp <;> omega))

def wide (x : Vec Ideal S2048x512 .bf16) (r : ℕ) (h : ∀ a : Fin 2, ![r, 0] a + S256x512.size a ≤ S2048x512.size a) : Vec Ideal S256x512 .bf16 :=
  View.ld x (Rect.unit ![r, 0] ![256, 512] h)

def square (x : Vec Ideal S2048x256 .f32) (r : ℕ) (h : ∀ a : Fin 2, ![r, 0] a + S256x256.size a ≤ S2048x256.size a) : Vec Ideal S256x256 .f32 :=
  View.ld x (Rect.unit ![r, 0] ![256, 256] h)

def tall (x : Vec Ideal S4096x128 .f32) (r : ℕ) (h : ∀ a : Fin 2, ![r, 0] a + S512x128.size a ≤ S4096x128.size a) : Vec Ideal S512x128 .f32 :=
  View.ld x (Rect.unit ![r, 0] ![512, 128] h)

variable (X : Blocks) (q : Fin 8) (D : Vec Ideal S512x128 .f32)

def att : Vec Ideal S256x256 .f32 := square X.a (256 * q.val) (by intro a; fin_cases a <;> simp <;> omega)
def wk : Vec Ideal S256x512 .bf16 := wide X.wk (256 * q.val) (by intro a; fin_cases a <;> simp <;> omega)
def qd : Vec Ideal S256x512 .bf16 := wide X.qd (256 * q.val) (by intro a; fin_cases a <;> simp <;> omega)
def ke : Vec Ideal S256x512 .bf16 := wide X.ke (256 * q.val) (by intro a; fin_cases a <;> simp <;> omega)
def state : Vec Ideal S512x128 .f32 := tall X.s (512 * q.val) (by intro a; fin_cases a <;> simp <;> omega)

def dd : Vec Ideal S256x128 .f32 := heads X.d q
def oo : Vec Ideal S256x128 .f32 := heads X.o q
def zz : Vec Ideal S256x128 .f32 := heads X.z q
def uu : Vec Ideal S256x128 .f32 := heads X.u q
def gg : Vec Ideal S256x128 .f32 := heads X.g q

/-- The gradient at the scan's output. -/
def dO : FVec Ideal S256x128 .f32 :=
  k0_pay22 (k0_pay3 X.w) (k0_pay11 (oo X q)) (k0_pay12 (oo X q)) (k0_pay13 (dd X q) (zz X q))

/-- The gradient at the gate. -/
def dZ : FVec Ideal S256x128 .f32 :=
  k0_pay16 (k0_pay10 (zz X q)) (k0_pay14 (k0_pay3 X.w) (dd X q) (oo X q)) (k0_pay15 (zz X q))

def decay : FVec Ideal S512x128 .f32 := k0_pay24 (gg X q)

def dU : FVec Ideal S256x128 .f32 := k0_pay31 (dO X q) D (att X q) (ke X q)
def dQ : FVec Ideal S256x128 .f32 := k0_pay25 (dO X q) (state X q)
def dK : FVec Ideal S256x128 .f32 := k0_pay32 (uu X q) D
def dW : FVec Ideal S256x128 .f32 := k0_pay49 (state X q) (dU X q D)

/-- The gradient at the state before the chunk. -/
def dS : FVec Ideal S512x128 .f32 :=
  k0_pay44 (dO X q) D (decay X q) (dU X q D) (qd X q) (wk X q)

/-- The gradient at the state after `k` chunks of the point, beginning with the last. -/
def carried (D : Vec Ideal S512x128 .f32) : ℕ → Vec Ideal S512x128 .f32
  | 0 => D
  | k + 1 => dS X ⟨7 - k, by omega⟩ (carried D k)

variable (m : (ℓ : Loc nD τ sig) → Buf (Elt Ideal) ℓ)

def blocks (c : Dev nD) (t : Fin cfg0.N) : Blocks :=
  ⟨iblk m c 0 t, iblk m c 1 t, iblk m c 2 t, iblk m c 3 t, iblk m c 4 t, iblk m c 5 t, iblk m c 6 t, iblk m c 7 t, iblk m c 8 t,
    iblk m c 9 t, iblk m c 10 t⟩

/-! ## Reading what a point writes, a piece at a time -/

theorem stack_eq (a b c d : Vec Ideal S64x128 .f32) (h) :
    @concatenate (Elt Ideal .f32) S256x128 0 [⟨S64x128, a⟩, ⟨S64x128, b⟩, ⟨S64x128, c⟩, ⟨S64x128, d⟩] h = stack a b c d := rfl
theorem stack_eq' (a b c d : FVec Ideal S64x128 .f32) (h) :
    @concatenate (Ideal .f32) S256x128 0 [⟨S64x128, a⟩, ⟨S64x128, b⟩, ⟨S64x128, c⟩, ⟨S64x128, d⟩] h = stack a b c d := rfl
theorem slab_eq (x : Vec Ideal S512x512 .f32) (r k : ℕ) (h) : View.ld x (Rect.unit ![r, k] ![64, 128] h) = slab x r k h := rfl
theorem wide_eq (x : Vec Ideal S2048x512 .bf16) (r : ℕ) (h) : View.ld x (Rect.unit ![r, 0] ![256, 512] h) = wide x r h := rfl
theorem square_eq (x : Vec Ideal S2048x256 .f32) (r : ℕ) (h) : View.ld x (Rect.unit ![r, 0] ![256, 256] h) = square x r h := rfl
theorem tall_eq (x : Vec Ideal S4096x128 .f32) (r : ℕ) (h) : View.ld x (Rect.unit ![r, 0] ![512, 128] h) = tall x r h := rfl

/-- 64 rows of a chunk's array, from row `s` on. -/
def rows {e : EltTy} (P : Vec Ideal S256x128 e) (s : ℕ) (h : S256x128.Slices ![s, 0] S64x128) : Vec Ideal S64x128 e :=
  extractStridedSlice S64x128 ![s, 0] P h

/-- A point's block of rows from its eight chunks' arrays: chunk by chunk down, head by head across. -/
def tiles {e : EltTy} (P : Fin 8 → Vec Ideal S256x128 e) : Vec Ideal S512x512 e := fun y =>
  P ⟨(y 0).val / 64, by have := (y 0).isLt; simp at this; omega⟩
    (ix2 (n0 := 256) (n1 := 128) ⟨64 * ((y 1).val / 128) + (y 0).val % 64, by have := (y 1).isLt; simp at this; omega⟩ ⟨(y 1).val % 128, by omega⟩)

theorem tile {e : EltTy} (P : Fin 8 → Vec Ideal S256x128 e) {r k : ℕ} {hb : ∀ a : Fin 2, ![r, k] a + S64x128.size a ≤ S512x512.size a}
    (hr : r % 64 = 0) (hk : k % 128 = 0) {w : Vec Ideal S64x128 e} (hs : S256x128.Slices ![64 * (k / 128), 0] S64x128)
    (hw : w = rows (P ⟨r / 64, by have := hb 0; simp at this; omega⟩) (64 * (k / 128)) hs) (x : S64x128.Idx) :
    w x = tiles P ((Rect.unit (s := S512x512) ![r, k] ![64, 128] hb).emb x) := by
  have h0 := hb 0
  have h1 := hb 1
  have x0 : (x 0).val < 64 := (x 0).isLt
  have x1 : (x 1).val < 128 := (x 1).isLt
  simp at h0 h1
  have e0 : (((Rect.unit (s := S512x512) ![r, k] ![64, 128] hb).emb x) 0).val = r + (x 0).val := by simp [Rect.emb, Rect.unit]
  have e1 : (((Rect.unit (s := S512x512) ![r, k] ![64, 128] hb).emb x) 1).val = k + (x 1).val := by simp [Rect.emb, Rect.unit]
  subst hw
  unfold tiles rows extractStridedSlice
  have q : (⟨r / 64, by omega⟩ : Fin 8) = ⟨(((Rect.unit (s := S512x512) ![r, k] ![64, 128] hb).emb x) 0).val / 64, by rw [e0]; omega⟩ :=
    Fin.ext (by simp only [e0]; omega)
  rw [q]
  refine congrArg _ (funext fun a => Fin.ext ?_)
  fin_cases a
  · simp [e0, e1]; omega
  · simp [e0, e1]; omega

/-- The gradient at the gate, rounded. -/
def dZr : FVec Ideal S256x128 .bf16 := truncf .bf16 (dZ X q) bitsLt_bf16_f32

/-- The gradient at the logarithm of the decay, head by head. -/
def dG : Fin 4 → Vec Ideal S1x8x128 .f32 :=
  ![k0_pay38 (state X q) D (decay X q), k0_pay39 (state X q) D (decay X q),
    k0_pay42 (k0_pay40 (state X q) D) (k0_pay41 (decay X q)), k0_pay43 (decay X q) (k0_pay37 (state X q) D)]

/-- The norm's weights' gradient after chunk `q`, from the one before it. -/
def dN (w : Vec Ideal S1x128 .f32) : Vec Ideal S1x128 .f32 := k0_pay21 (k0_pay12 (oo X q)) (k0_pay13 (dd X q) (zz X q)) w

/-- The norm's weights' gradient after `k` chunks of the point. -/
def summed (w : Vec Ideal S1x128 .f32) : ℕ → Vec Ideal S1x128 .f32
  | 0 => w
  | k + 1 => dN X ⟨7 - k, by omega⟩ (summed w k)

/-- A point's block of decay gradients from those of its eight chunks and four heads. -/
def bands (P : Fin 8 → Fin 4 → Vec Ideal S1x8x128 .f32) : Vec Ideal S8x8x512 .f32 := fun y =>
  P ⟨(y 0).val, (y 0).isLt⟩ ⟨(y 2).val / 128, by have : (y 2).val < 512 := (y 2).isLt; omega⟩
    (ix3 (n0 := 1) (n1 := 8) (n2 := 128) 0 ⟨(y 1).val, (y 1).isLt⟩ ⟨(y 2).val % 128, by omega⟩)

theorem band (P : Fin 8 → Fin 4 → Vec Ideal S1x8x128 .f32) {r k : ℕ} {hb : ∀ a : Fin 3, ![r, 0, k] a + S1x8x128.size a ≤ S8x8x512.size a}
    (hr : r < 8) (hk : k / 128 < 4) (h0 : k % 128 = 0) {w : Vec Ideal S1x8x128 .f32} (hw : w = P ⟨r, hr⟩ ⟨k / 128, hk⟩) (x : S1x8x128.Idx) :
    w x = bands P ((Rect.unit (s := S8x8x512) ![r, 0, k] ![1, 8, 128] hb).emb x) := by
  have x0 : (x 0).val < 1 := (x 0).isLt
  have x2 : (x 2).val < 128 := (x 2).isLt
  have e0 : (((Rect.unit (s := S8x8x512) ![r, 0, k] ![1, 8, 128] hb).emb x) 0).val = r + (x 0).val := by simp [Rect.emb, Rect.unit]
  have e1 : (((Rect.unit (s := S8x8x512) ![r, 0, k] ![1, 8, 128] hb).emb x) 1).val = (x 1).val := by simp [Rect.emb, Rect.unit]
  have e2 : (((Rect.unit (s := S8x8x512) ![r, 0, k] ![1, 8, 128] hb).emb x) 2).val = k + (x 2).val := by simp [Rect.emb, Rect.unit]
  subst hw
  unfold bands
  have q : (⟨r, hr⟩ : Fin 8) = ⟨(((Rect.unit (s := S8x8x512) ![r, 0, k] ![1, 8, 128] hb).emb x) 0).val, Fin.isLt _⟩ := Fin.ext (by simp only [e0]; omega)
  have q' : (⟨k / 128, hk⟩ : Fin 4) = ⟨(((Rect.unit (s := S8x8x512) ![r, 0, k] ![1, 8, 128] hb).emb x) 2).val / 128, by rw [e2]; omega⟩ :=
    Fin.ext (by simp only [e2]; omega)
  rw [q, q']
  refine congrArg _ (funext fun a => Fin.ext ?_)
  fin_cases a
  · simp
  · simp [e1]
  · simp [e2]; omega

end Cert.Kernel3Ideal.Scan
-- ==== Proof.ScanSpec.lean ====
module

public import proofs.«01_k».proof.Proof.NormSpec

@[expose] public section

/-!
# The gradient of the chunked scan, written entry by entry

A chunk `n` of head `h` takes the state `st` before it (a 128 by 128 array) and leaves the state after it. Its gradients are said from
the gradient `D` at the state after it, in the form that the kernel computes. `back` is that gradient, chunk by chunk from the last.
-/

noncomputable section

namespace Scan

open Idealize.ShloMosaic Mixer

/-- An array of one value per chunk, head, row and column. -/
abbrev Arr (a b : ℕ) := Fin 32 → Fin 4 → Fin a → Fin b → EReal

/-- A gradient at a state, head by head. -/
abbrev Grad := Fin 4 → Fin 128 → Fin 128 → EReal

/-- What the call takes. -/
structure Args where
  uv : Arr 64 128
  wk : Arr 64 128
  qd : Arr 64 128
  att : Arr 64 64
  ke : Arr 64 128
  g : Fin 32 → Fin 4 → EReal
  z : Arr 64 128
  w : Fin 128 → EReal
  d : Arr 64 128
  st : Arr 128 128

/-- The call's arguments as they come: by chunk, head, row and column, or by token with the heads side by side. -/
def ofArrays (uv wk qd : (⟨5, ![32, 1, 4, 64, 128]⟩ : Shape).Idx → EReal) (att : (⟨5, ![32, 1, 4, 64, 64]⟩ : Shape).Idx → EReal)
    (ke : (⟨5, ![32, 1, 4, 64, 128]⟩ : Shape).Idx → EReal) (g : (⟨3, ![32, 1, 4]⟩ : Shape).Idx → EReal)
    (z : (⟨2, ![2048, 512]⟩ : Shape).Idx → EReal) (w : (⟨1, ![128]⟩ : Shape).Idx → EReal)
    (d : (⟨2, ![2048, 1024]⟩ : Shape).Idx → EReal) (st : (⟨5, ![32, 1, 4, 128, 128]⟩ : Shape).Idx → EReal) : Args where
  uv n h i j := uv (ix5 n 0 h i j)
  wk n h i j := wk (ix5 n 0 h i j)
  qd n h i j := qd (ix5 n 0 h i j)
  att n h i j := att (ix5 n 0 h i j)
  ke n h i j := ke (ix5 n 0 h i j)
  g n h := g (ix3 n 0 h)
  z n h i j := z (ix2 ⟨64 * n.val + i.val, by omega⟩ ⟨128 * h.val + j.val, by omega⟩)
  w j := w (ix1 j)
  d n h i j := d (ix2 ⟨64 * n.val + i.val, by omega⟩ ⟨128 * h.val + j.val, by omega⟩)
  st n h i j := st (ix5 n 0 h i j)

variable (X : Args) (n : Fin 32) (h : Fin 4)

/-- The number of entries in a row. -/
def width : EReal := Ideal.ofBits FTy.f32 0x43000000#32

def u (i : Fin 64) (j : Fin 128) : EReal := X.uv n h i j - ∑ k : Fin 128, X.wk n h i k * X.st n h k j

/-- The scan's output. -/
def o (i : Fin 64) (j : Fin 128) : EReal := ∑ k : Fin 128, X.qd n h i k * X.st n h k j + ∑ l : Fin 64, X.att n h i l * u X n h l j

/-- The mean of a row's squares, plus the small number, and the factor that the row is scaled by. -/
def power (i : Fin 64) : EReal := Ideal.div (∑ j : Fin 128, o X n h i j * o X n h i j) width + Norm.small
def inv (i : Fin 64) : EReal := Ideal.rsqrt (power X n h i)

/-- The normed row, and the gradient at it times the weights. -/
def xh (i : Fin 64) (j : Fin 128) : EReal := o X n h i j * inv X n h i
def dy (i : Fin 64) (j : Fin 128) : EReal := X.d n h i j * (X.z n h i j * logis (X.z n h i j))

/-- The gradient at the gate. -/
def dZ (i : Fin 64) (j : Fin 128) : EReal :=
  X.d n h i j * (xh X n h i j * X.w j) * (logis (X.z n h i j) * (1 + X.z n h i j * (1 - logis (X.z n h i j))))

/-- A chunk's part of the gradient at the norm's weights. -/
def dN (j : Fin 128) : EReal := ∑ h : Fin 4, ∑ i : Fin 64, dy X n h i j * xh X n h i j

/-- The gradient at the scan's output. -/
def dO (i : Fin 64) (j : Fin 128) : EReal :=
  inv X n h i * (dy X n h i j * X.w j
    - xh X n h i j * Ideal.div (∑ e : Fin 128, dy X n h i e * X.w e * xh X n h i e) width)

variable (D : Fin 128 → Fin 128 → EReal)

def dU (i : Fin 64) (j : Fin 128) : EReal := ∑ l : Fin 64, X.att n h l i * dO X n h l j + ∑ k : Fin 128, X.ke n h i k * D k j
def dQ (i : Fin 64) (k : Fin 128) : EReal := ∑ j : Fin 128, dO X n h i j * X.st n h k j
def dK (i : Fin 64) (k : Fin 128) : EReal := ∑ j : Fin 128, u X n h i j * D k j
def dW (i : Fin 64) (k : Fin 128) : EReal := 0 - ∑ j : Fin 128, dU X n h D i j * X.st n h k j

/-- The gradient at the logarithm of the decay. -/
def dG : EReal := (∑ k : Fin 128, ∑ j : Fin 128, D k j * X.st n h k j) * Ideal.exp (X.g n h)

/-- The gradient at the state before the chunk. -/
def dS (k j : Fin 128) : EReal :=
  ∑ i : Fin 64, X.qd n h i k * dO X n h i j + Ideal.exp (X.g n h) * D k j - ∑ i : Fin 64, X.wk n h i k * dU X n h D i j

/-- The chunk that step `s` takes. -/
def at_ (s : ℕ) : Fin 32 := ⟨31 - s, by omega⟩

/-- The gradient at the state after `s` steps, the last chunk first. -/
def back : ℕ → Grad
  | 0 => fun _ _ _ => 0
  | s + 1 => fun h => dS X (at_ s) h (back s h)

/-- The gradient at the norm's weights after `s` steps. -/
def summed : ℕ → Fin 128 → EReal
  | 0 => fun _ => 0
  | s + 1 => fun j => summed s j + dN X (at_ s) j

/-- The gradient at the state after chunk `n`. -/
def after (n : Fin 32) : Grad := back X (31 - n.val)

/-! ## Over real entries -/

/-- Every entry is real. -/
structure Real : Prop where
  uv : ∀ n h i j, IsReal (X.uv n h i j)
  wk : ∀ n h i j, IsReal (X.wk n h i j)
  qd : ∀ n h i j, IsReal (X.qd n h i j)
  att : ∀ n h i j, IsReal (X.att n h i j)
  ke : ∀ n h i j, IsReal (X.ke n h i j)
  g : ∀ n h, IsReal (X.g n h)
  z : ∀ n h i j, IsReal (X.z n h i j)
  w : ∀ j, IsReal (X.w j)
  d : ∀ n h i j, IsReal (X.d n h i j)
  st : ∀ n h i j, IsReal (X.st n h i j)

theorem IsReal.neg {x : EReal} : IsReal x → IsReal (-x) := by
  rintro ⟨a, rfl⟩
  exact ⟨-a, by push_cast; rfl⟩

theorem IsReal.sub {x y : EReal} (hx : IsReal x) (hy : IsReal y) : IsReal (x - y) := by
  rw [sub_eq_add_neg]
  exact hx.add (IsReal.neg hy)

theorem isReal_exp {x : EReal} : IsReal x → IsReal (Ideal.exp x) := by
  rintro ⟨a, rfl⟩
  exact ⟨_, Ideal.exp_coe a⟩

theorem width_eq : width = ((128 : ℝ) : EReal) := by
  rw [width]
  simp [Ideal.ofBits, Ideal.ieee, -EReal.coe_mul]
  norm_num

theorem isReal_width {x : EReal} : IsReal x → IsReal (Ideal.div x width) := by
  rintro ⟨a, rfl⟩
  rw [width_eq, Ideal.div_coe (by norm_num)]
  exact ⟨a * (1 / 128), by push_cast; rfl⟩

variable {X} (H : Real X)
include H

theorem real_u (i j) : IsReal (u X n h i j) :=
  IsReal.sub (H.uv _ _ _ _) (isReal_sum _ _ fun _ => (H.wk _ _ _ _).mul (H.st _ _ _ _))

theorem real_o (i j) : IsReal (o X n h i j) :=
  (isReal_sum _ _ fun _ => (H.qd _ _ _ _).mul (H.st _ _ _ _)).add (isReal_sum _ _ fun _ => (H.att _ _ _ _).mul (real_u n h H _ _))

theorem power_real (i) : ∃ v : ℝ, 0 < v ∧ power X n h i = v ∧ inv X n h i = (((Real.sqrt v)⁻¹ : ℝ) : EReal) := by
  choose O hO using real_o n h H
  obtain ⟨e, he, hs⟩ := Norm.small_eq
  have hv : power X n h i = (((∑ j : Fin 128, O i j * O i j) * (1 / 128) + e : ℝ) : EReal) := by
    rw [power, hs, width_eq, Ideal.div_coe (by norm_num)]
    simp only [hO, ← EReal.coe_mul, Norm.coe_sum, ← EReal.coe_add]
  have hp : 0 < (∑ j : Fin 128, O i j * O i j) * (1 / 128) + e :=
    add_pos_of_nonneg_of_pos (mul_nonneg (Finset.sum_nonneg fun _ _ => mul_self_nonneg _) (by norm_num)) he
  refine ⟨_, hp, hv, ?_⟩
  rw [inv, hv, Ideal.rsqrt_coe, if_neg (not_lt.mpr hp.le), if_neg hp.ne']

theorem real_inv (i) : IsReal (inv X n h i) := by
  obtain ⟨v, -, -, e⟩ := power_real n h H i
  exact ⟨_, e⟩

theorem real_xh (i j) : IsReal (xh X n h i j) := (real_o n h H i j).mul (real_inv n h H i)

theorem real_dy (i j) : IsReal (dy X n h i j) := (H.d _ _ _ _).mul ((H.z _ _ _ _).mul (isReal_logis (H.z _ _ _ _)))

theorem real_dO (i j) : IsReal (dO X n h i j) :=
  (real_inv n h H i).mul (IsReal.sub ((real_dy n h H i j).mul (H.w j)) ((real_xh n h H i j).mul
    (isReal_width (isReal_sum _ _ fun e => ((real_dy n h H i e).mul (H.w e)).mul (real_xh n h H i e)))))

variable {D} (hD : ∀ k j, IsReal (D k j))
include hD

theorem real_dU (i j) : IsReal (dU X n h D i j) :=
  (isReal_sum _ _ fun _ => (H.att _ _ _ _).mul (real_dO n h H _ _)).add (isReal_sum _ _ fun _ => (H.ke _ _ _ _).mul (hD _ _))

theorem real_dS (k j) : IsReal (dS X n h D k j) :=
  IsReal.sub ((isReal_sum _ _ fun _ => (H.qd _ _ _ _).mul (real_dO n h H _ _)).add ((isReal_exp (H.g n h)).mul (hD k j)))
    (isReal_sum _ _ fun _ => (H.wk _ _ _ _).mul (real_dU n h H hD _ _))

omit hD in
theorem real_back (s : ℕ) (h k j) : IsReal (back X s h k j) := by
  induction s generalizing h k j with
  | zero => exact isReal_zero
  | succ s ih => exact real_dS (at_ s) h H (ih h) k j

omit hD in
/-- The gradient through the norm, in the form that the chain rule gives. -/
theorem dO_eq (i : Fin 64) (j : Fin 128) :
    dO X n h i j = dy X n h i j * X.w j * inv X n h i
      + o X n h i j * Ideal.div ((∑ e : Fin 128, o X n h i e * (dy X n h i e * X.w e))
          * (Ideal.ofBits FTy.f32 0xBF000000#32 * Ideal.div (inv X n h i) (power X n h i))) width
      + Ideal.div ((∑ e : Fin 128, o X n h i e * (dy X n h i e * X.w e))
          * (Ideal.ofBits FTy.f32 0xBF000000#32 * Ideal.div (inv X n h i) (power X n h i))) width * o X n h i j := by
  obtain ⟨v, hv, hp, hi⟩ := power_real n h H i
  choose O hO using real_o n h H
  choose G hG using real_dy n h H
  choose W hW using H.w
  have hI : (Real.sqrt v)⁻¹ * (Real.sqrt v)⁻¹ = 1 / v := by
    rw [← mul_inv, Real.mul_self_sqrt hv.le, one_div]
  simp only [dO, xh]
  rw [hp, hi, Norm.half_eq, width_eq, Ideal.div_coe hv.ne', Ideal.div_coe (by norm_num), Ideal.div_coe (by norm_num)]
  generalize (Real.sqrt v)⁻¹ = I at hI ⊢
  simp only [hO, hG, hW, ← EReal.coe_mul, Norm.coe_sum, ← EReal.coe_sub, ← EReal.coe_add]
  have e : ∑ e : Fin 128, G i e * W e * (O i e * I) = I * ∑ e : Fin 128, O i e * (G i e * W e) := by
    rw [Finset.mul_sum]
    exact Finset.sum_congr rfl fun _ _ => by ring
  rw [e]
  congr 1
  linear_combination (-(O i j) * I * (∑ e : Fin 128, O i e * (G i e * W e)) / 128) * hI

omit H hD in
/-- A sum of products with negated reals. -/
theorem sum_neg {ι : Type*} [Fintype ι] {a b : ι → EReal} (ha : ∀ i, IsReal (a i)) (hb : ∀ i, IsReal (b i)) :
    ∑ i, -(a i) * b i = -∑ i, b i * a i := by
  choose A hA using ha
  choose B hB using hb
  simp only [hA, hB, ← EReal.coe_neg, ← EReal.coe_mul, Norm.coe_sum]
  rw [← Finset.sum_neg_distrib]
  exact congrArg _ (Finset.sum_congr rfl fun _ _ => by ring)

end Scan
-- ==== Proof.ScanEntry.lean ====
module

public import proofs.«01_k».proof.Proof.ScanChunk
public import proofs.«01_k».proof.Proof.ScanSpec
public import Idealize.ShloMosaic.Lib.Pointwise

@[expose] public section

set_option maxRecDepth 16384

/-!
# The entries of a chunk's arrays

The kernel lays the four heads of a chunk one below the other, and keeps the head's own blocks of `att`, `wk`, `qd` and `ke` on the
diagonal. A product over the 256 rows, or the 512 columns, is so a product over the head's own.
-/

noncomputable section

namespace Cert.Kernel3Ideal.Scan

open Cert.Kernel3Ideal Cert.Kernel3Ideal.Gen Idealize.ShloMosaic Idealize.ShloMosaic.TcCoe

/-- Row `i` of head `h` in a chunk's 256 rows, column `j` of head `h` in 512 columns, and row `i` of chunk `q` in a block's 512 rows. -/
def row (h : Fin 4) (i : Fin 64) : Fin 256 := ⟨64 * h.val + i.val, by omega⟩
def col (h : Fin 4) (j : Fin 128) : Fin 512 := ⟨128 * h.val + j.val, by omega⟩
def tok (q : Fin 8) (i : Fin 64) : Fin 512 := ⟨64 * q.val + i.val, by omega⟩

theorem sum_col (f : Fin 512 → EReal) : ∑ r, f r = ∑ h : Fin 4, ∑ k : Fin 128, f (col h k) := by
  rw [← Fintype.sum_prod_type']
  refine (Equiv.sum_comp (finProdFinEquiv (m := 4) (n := 128)) f).symm.trans (Finset.sum_congr rfl fun p _ => congrArg f (Fin.ext ?_))
  simp [finProdFinEquiv, col]
  omega

theorem sum_row (f : Fin 256 → EReal) : ∑ r, f r = ∑ h : Fin 4, ∑ i : Fin 64, f (row h i) := by
  rw [← Fintype.sum_prod_type']
  refine (Equiv.sum_comp (finProdFinEquiv (m := 4) (n := 64)) f).symm.trans (Finset.sum_congr rfl fun p _ => congrArg f (Fin.ext ?_))
  simp [finProdFinEquiv, row]
  omega

/-- A sum over the heads of which only one is not zero. -/
theorem sum_own (h : Fin 4) (f : Fin 4 → EReal) (hf : ∀ h', h' ≠ h → f h' = 0) : ∑ h', f h' = f h :=
  Finset.sum_eq_single h (fun h' _ hn => hf h' hn) fun hn => absurd (Finset.mem_univ h) hn

theorem heads_apply (x : Vec Ideal S512x512 .f32) (q : Fin 8) (h : Fin 4) (i : Fin 64) (j : Fin 128) :
    heads x q (ix2 (row h i) j) = x (ix2 (tok q i) (col h j)) := by
  have hi := i.isLt
  unfold heads stack slab row tok col
  fin_cases h <;> pointwise
  · rw [dif_neg (by omega), dif_neg (by omega), dif_pos (by omega)]
    congr 2
    exact Fin.ext (by dsimp only; omega)
  · rw [dif_neg (by omega), dif_neg (by omega), dif_neg (by omega)]
    congr 2
    exact Fin.ext (by dsimp only; omega)

/-! ## The mask of a head's own columns -/

theorem mask_row : ∀ r : Fin 256, IntOp.muli (IntOp.andi (BitVec.ofNat 32 r.val) 4294967232#32) 2#32 = BitVec.ofNat 32 (128 * (r.val / 64)) := by
  decide +kernel
theorem mask_col : ∀ r : Fin 512, IntOp.andi (BitVec.ofNat 32 r.val) 4294967168#32 = BitVec.ofNat 32 (128 * (r.val / 128)) := by
  decide +kernel
theorem mask_eq : ∀ h h' : Fin 4, IntOp.cmpi .eq (BitVec.ofNat 32 (128 * h.val)) (BitVec.ofNat 32 (128 * h'.val)) = if h = h' then 1#1 else 0#1 := by
  decide +kernel

theorem masked (h : Fin 4) (i : Fin 64) (c : ℕ) (hc : c < 512) (h' : Fin 4) (hh : c / 128 = h'.val) (x : EReal) :
    Scalar.select (IntOp.cmpi .eq (IntOp.muli (IntOp.andi (BitVec.ofNat 32 (row h i).val) 4294967232#32) 2#32)
      (IntOp.andi (BitVec.ofNat 32 c) 4294967168#32)) x (0 : EReal) = if h = h' then x else 0 := by
  rw [mask_row, mask_col ⟨c, hc⟩, show (row h i).val / 64 = h.val from by simp only [row]; omega, hh, mask_eq]
  split <;> rfl

/-- Of the four heads' columns the mask leaves the own. -/
theorem own_columns (h : Fin 4) (f : Fin 4 → EReal) :
    (if h = 0 then f 0 else 0) + (if h = 1 then f 1 else 0) + (if h = 2 then f 2 else 0) + (if h = 3 then f 3 else 0) = f h := by
  fin_cases h <;> simp

/-! ## A chunk's arrays, over any blocks -/

theorem decay_apply (g : Vec Ideal S256x128 .f32) (h : Fin 4) (k j : Fin 128) :
    k0_pay24 (F := Ideal) g (ix2 (col h k) j) = Ideal.exp (g (ix2 (row h 63) j)) := by
  have hk := k.isLt
  unfold col row
  fin_cases h <;> pointwise [k0_pay24]
  · rw [dif_neg (by omega), dif_neg (by omega), dif_pos (by omega)]
  · rw [dif_neg (by omega), dif_neg (by omega), dif_neg (by omega)]

theorem diag_apply (a : Vec Ideal S256x128 .f32) (b : Vec Ideal S512x128 .f32) (h : Fin 4) (i : Fin 64) (k : Fin 128) :
    k0_pay25 (F := Ideal) a b (ix2 (row h i) k) = ∑ j : Fin 128, a (ix2 (row h i) j) * b (ix2 (col h k) j) := by
  have hk := k.isLt
  pointwise [k0_pay25]
  rw [masked h i k.val (by omega) 0 (by simp <;> omega), masked h i (128 + k.val) (by omega) 1 (by simp <;> omega),
    masked h i (256 + k.val) (by omega) 2 (by simp <;> omega), masked h i (384 + k.val) (by omega) 3 (by simp <;> omega)]
  refine .trans ?_ (own_columns h fun h' => ∑ j : Fin 128, a (ix2 (row h i) j) * b (ix2 (col h' k) j))
  simp [col]

variable {X : _root_.Scan.Args} {n : Fin 32}

theorem dO_apply {w : Vec Ideal S1x128 .f32} {o d z : Vec Ideal S256x128 .f32} {h : Fin 4} (hw : ∀ j, w (ix2 0 j) = X.w j)
    (ho : ∀ i j, o (ix2 (row h i) j) = _root_.Scan.o X n h i j) (hd : ∀ i j, d (ix2 (row h i) j) = X.d n h i j)
    (hz : ∀ i j, z (ix2 (row h i) j) = X.z n h i j) (i : Fin 64) (j : Fin 128) :
    k0_pay22 (F := Ideal) (k0_pay3 w) (k0_pay11 o) (k0_pay12 o) (k0_pay13 d z) (ix2 (row h i) j) = _root_.Scan.dO X n h i j := by
  pointwise [k0_pay22, k0_pay3, k0_pay11, k0_pay12, k0_pay13, k0_pay10]
  simp only [hw, ho, hd, hz]
  rfl

theorem dZ_apply {w : Vec Ideal S1x128 .f32} {o d z : Vec Ideal S256x128 .f32} {h : Fin 4} (hw : ∀ j, w (ix2 0 j) = X.w j)
    (ho : ∀ i j, o (ix2 (row h i) j) = _root_.Scan.o X n h i j) (hd : ∀ i j, d (ix2 (row h i) j) = X.d n h i j)
    (hz : ∀ i j, z (ix2 (row h i) j) = X.z n h i j) (i : Fin 64) (j : Fin 128) :
    k0_pay16 (F := Ideal) (k0_pay10 z) (k0_pay14 (k0_pay3 w) d o) (k0_pay15 z) (ix2 (row h i) j) = _root_.Scan.dZ X n h i j := by
  pointwise [k0_pay16, k0_pay14, k0_pay15, k0_pay3, k0_pay11, k0_pay12, k0_pay10]
  simp only [hw, ho, hd, hz]
  rfl

theorem dN_apply {o d z : Vec Ideal S256x128 .f32} (ho : ∀ h i j, o (ix2 (row h i) j) = _root_.Scan.o X n h i j)
    (hd : ∀ h i j, d (ix2 (row h i) j) = X.d n h i j) (hz : ∀ h i j, z (ix2 (row h i) j) = X.z n h i j) (v : Vec Ideal S1x128 .f32) (j : Fin 128) :
    k0_pay21 (F := Ideal) (k0_pay12 o) (k0_pay13 d z) v (ix2 0 j) = v (ix2 0 j) + _root_.Scan.dN X n j := by
  pointwise [k0_pay21, k0_pay11, k0_pay12, k0_pay13, k0_pay10]
  rw [sum_row]
  simp only [ho, hd, hz]
  rfl

theorem dU_apply {a : Vec Ideal S256x256 .f32} {k : Vec Ideal S256x512 .bf16} {g : Vec Ideal S256x128 .f32} {D : Vec Ideal S512x128 .f32}
    {h : Fin 4} {E : Fin 128 → Fin 128 → EReal}
    (ha : ∀ h' i l, a (ix2 (row h' i) (row h l)) = if h' = h then X.att n h' i l else 0)
    (hk : ∀ i h' e, k (ix2 (row h i) (col h' e)) = if h = h' then X.ke n h i e else 0)
    (hg : ∀ i j, g (ix2 (row h i) j) = _root_.Scan.dO X n h i j) (hD : ∀ e j, D (ix2 (col h e) j) = E e j) (i : Fin 64) (j : Fin 128) :
    k0_pay31 (F := Ideal) g D a k (ix2 (row h i) j) = _root_.Scan.dU X n h E i j := by
  pointwise [k0_pay31]
  rw [sum_row, sum_col, sum_own h _ fun h' hn => ?_, sum_own h _ fun h' hn => ?_]
  · simp only [ha, hk, hg, hD, if_pos]
    rfl
  · exact Finset.sum_eq_zero fun e _ => by rw [hk, if_neg (Ne.symm hn), zero_mul]
  · exact Finset.sum_eq_zero fun l _ => by rw [ha, if_neg hn, zero_mul]

theorem dS_apply {p w : Vec Ideal S256x512 .bf16} {g U : Vec Ideal S256x128 .f32} {G D : Vec Ideal S512x128 .f32}
    {h : Fin 4} {E : Fin 128 → Fin 128 → EReal}
    (hp : ∀ h' i e, p (ix2 (row h' i) (col h e)) = if h' = h then X.qd n h' i e else 0)
    (hw : ∀ h' i e, w (ix2 (row h' i) (col h e)) = if h' = h then X.wk n h' i e else 0)
    (hg : ∀ i j, g (ix2 (row h i) j) = _root_.Scan.dO X n h i j) (hG : ∀ e j, G (ix2 (col h e) j) = Ideal.exp (X.g n h))
    (hU : ∀ i j, U (ix2 (row h i) j) = _root_.Scan.dU X n h E i j) (hD : ∀ e j, D (ix2 (col h e) j) = E e j) (e j : Fin 128) :
    k0_pay44 (F := Ideal) g D G U p w (ix2 (col h e) j) = _root_.Scan.dS X n h E e j := by
  pointwise [k0_pay44]
  rw [sum_row, sum_row, sum_own h _ fun h' hn => ?_, sum_own h _ fun h' hn => ?_]
  · simp only [hp, hw, hg, hG, hU, hD, if_pos]
    rfl
  · exact Finset.sum_eq_zero fun i _ => by rw [hw, if_neg hn, zero_mul]
  · exact Finset.sum_eq_zero fun i _ => by rw [hp, if_neg hn, zero_mul]

theorem dG_apply {s G D : Vec Ideal S512x128 .f32} {E : _root_.Scan.Grad} (hs : ∀ h e j, s (ix2 (col h e) j) = X.st n h e j)
    (hG : ∀ h e j, G (ix2 (col h e) j) = Ideal.exp (X.g n h)) (hD : ∀ h e j, D (ix2 (col h e) j) = E h e j) (h : Fin 4) (b : Fin 8) (j : Fin 128) :
    (![k0_pay38 (F := Ideal) s D G, k0_pay39 s D G, k0_pay42 (k0_pay40 s D) (k0_pay41 G), k0_pay43 G (k0_pay37 s D)] : Fin 4 → Vec Ideal S1x8x128 .f32) h
      (ix3 0 b j) = _root_.Scan.dG X n h (E h) := by
  have hg := hG h 0 j
  have hs := hs h
  have hD := hD h
  unfold _root_.Scan.dG
  simp only [← hs, ← hD, ← hg]
  fin_cases h <;> simp <;> pointwise [k0_pay38, k0_pay39, k0_pay42, k0_pay40, k0_pay41, k0_pay43, k0_pay37, col]

end Cert.Kernel3Ideal.Scan
-- ==== Proof.ScanPoint.lean ====
module

public import proofs.«01_k».proof.Proof.ScanEntry

@[expose] public section

set_option maxRecDepth 16384

/-!
# The entries of a grid point's arrays

Over blocks that hold eight chunks of the arguments, what the kernel computes for each chunk is the gradient of `ScanSpec.lean`.
-/

noncomputable section

namespace Cert.Kernel3Ideal.Scan

open Cert.Kernel3Ideal Cert.Kernel3Ideal.Gen Idealize.ShloMosaic Idealize.ShloMosaic.TcCoe

/-- The chunk in place `q` of the point that begins at step `s`. -/
def chunk (s : ℕ) (q : Fin 8) : Fin 32 := _root_.Scan.at_ (s + (7 - q.val))

/-- Row `r` of chunk `q` in a block of eight times 256 rows, or of eight times 512. -/
def long (q : Fin 8) (r : Fin 256) : Fin 2048 := ⟨256 * q.val + r.val, by omega⟩
def high (q : Fin 8) (r : Fin 512) : Fin 4096 := ⟨512 * q.val + r.val, by omega⟩

/-- The blocks hold the chunks that follow step `s`. -/
structure Holds (X : _root_.Scan.Args) (s : ℕ) (B : Blocks) : Prop where
  d : ∀ q h i j, B.d (ix2 (tok q i) (col h j)) = X.d (chunk s q) h i j
  o : ∀ q h i j, B.o (ix2 (tok q i) (col h j)) = _root_.Scan.o X (chunk s q) h i j
  z : ∀ q h i j, B.z (ix2 (tok q i) (col h j)) = X.z (chunk s q) h i j
  u : ∀ q h i j, B.u (ix2 (tok q i) (col h j)) = _root_.Scan.u X (chunk s q) h i j
  g : ∀ q h i j, B.g (ix2 (tok q i) (col h j)) = X.g (chunk s q) h
  w : ∀ j, B.w (ix2 0 j) = X.w j
  st : ∀ q h e j, B.s (ix2 (high q (col h e)) j) = X.st (chunk s q) h e j
  a : ∀ q h i h' l, B.a (ix2 (long q (row h i)) (row h' l)) = if h = h' then X.att (chunk s q) h i l else 0
  wk : ∀ q h i h' e, B.wk (ix2 (long q (row h i)) (col h' e)) = if h = h' then X.wk (chunk s q) h i e else 0
  qd : ∀ q h i h' e, B.qd (ix2 (long q (row h i)) (col h' e)) = if h = h' then X.qd (chunk s q) h i e else 0
  ke : ∀ q h i h' e, B.ke (ix2 (long q (row h i)) (col h' e)) = if h = h' then X.ke (chunk s q) h i e else 0

theorem wide_apply (x : Vec Ideal S2048x512 .bf16) (q : Fin 8) (r : Fin 256) (k : Fin 512) (hb) :
    wide x (256 * q.val) hb (ix2 r k) = x (ix2 (long q r) k) := by
  unfold wide long
  pointwise

theorem square_apply (x : Vec Ideal S2048x256 .f32) (q : Fin 8) (r k : Fin 256) (hb) :
    square x (256 * q.val) hb (ix2 r k) = x (ix2 (long q r) k) := by
  unfold square long
  pointwise

theorem tall_apply (x : Vec Ideal S4096x128 .f32) (q : Fin 8) (r : Fin 512) (k : Fin 128) (hb) :
    tall x (512 * q.val) hb (ix2 r k) = x (ix2 (high q r) k) := by
  unfold tall high
  pointwise

variable {X : _root_.Scan.Args} {s : ℕ} {B : Blocks} (H : Holds X s B) (q : Fin 8) (h : Fin 4)
include H

theorem at_dO (i : Fin 64) (j : Fin 128) : dO B q (ix2 (row h i) j) = _root_.Scan.dO X (chunk s q) h i j :=
  dO_apply H.w (fun i j => (heads_apply ..).trans (H.o ..)) (fun i j => (heads_apply ..).trans (H.d ..))
    (fun i j => (heads_apply ..).trans (H.z ..)) i j

theorem at_dZ (i : Fin 64) (j : Fin 128) : dZr B q (ix2 (row h i) j) = _root_.Scan.dZ X (chunk s q) h i j :=
  dZ_apply H.w (fun i j => (heads_apply ..).trans (H.o ..)) (fun i j => (heads_apply ..).trans (H.d ..))
    (fun i j => (heads_apply ..).trans (H.z ..)) i j

theorem at_dN (v : Vec Ideal S1x128 .f32) (j : Fin 128) : dN B q v (ix2 0 j) = v (ix2 0 j) + _root_.Scan.dN X (chunk s q) j :=
  dN_apply (fun _ _ _ => (heads_apply ..).trans (H.o ..)) (fun _ _ _ => (heads_apply ..).trans (H.d ..))
    (fun _ _ _ => (heads_apply ..).trans (H.z ..)) v j

theorem at_decay (e j : Fin 128) : decay B q (ix2 (col h e) j) = Ideal.exp (X.g (chunk s q) h) :=
  (decay_apply _ h e j).trans (congrArg _ ((heads_apply ..).trans (H.g ..)))

theorem at_state (e j : Fin 128) : state B q (ix2 (col h e) j) = X.st (chunk s q) h e j := (tall_apply ..).trans (H.st ..)

theorem at_dQ (i : Fin 64) (e : Fin 128) : dQ B q (ix2 (row h i) e) = _root_.Scan.dQ X (chunk s q) h i e := by
  refine (diag_apply _ _ h i e).trans ?_
  simp only [at_dO H, at_state H]
  rfl

variable {D : Vec Ideal S512x128 .f32} {E : _root_.Scan.Grad} (hD : ∀ h e j, D (ix2 (col h e) j) = E h e j)
include hD

theorem at_dU (i : Fin 64) (j : Fin 128) : dU B q D (ix2 (row h i) j) = _root_.Scan.dU X (chunk s q) h (E h) i j :=
  dU_apply (fun h' i l => (square_apply ..).trans ((H.a ..).trans rfl)) (fun _ _ _ => (wide_apply ..).trans (H.ke ..))
    (at_dO H q h) (hD h) i j

theorem at_dK (i : Fin 64) (e : Fin 128) : dK B q D (ix2 (row h i) e) = _root_.Scan.dK X (chunk s q) h (E h) i e := by
  refine (diag_apply _ _ h i e).trans (Finset.sum_congr (M := EReal) rfl fun j _ => congrArg₂ (α := EReal) _ ?_ (hD h e j))
  exact (heads_apply ..).trans (H.u ..)

theorem at_dW (i : Fin 64) (e : Fin 128) : dW B q D (ix2 (row h i) e) = _root_.Scan.dW X (chunk s q) h (E h) i e := by
  rw [show dW B q D = subf (broadcast S256x128 (Scalar.ofBits .f32 0x00000000#32)) (k0_pay25 (dU B q D) (state B q)) from rfl]
  pointwise
  rw [diag_apply]
  simp only [at_dU H q h hD, at_state H]
  rfl

theorem at_dS (e j : Fin 128) : dS B q D (ix2 (col h e) j) = _root_.Scan.dS X (chunk s q) h (E h) e j :=
  dS_apply (fun _ _ _ => (wide_apply ..).trans (H.qd ..)) (fun _ _ _ => (wide_apply ..).trans (H.wk ..))
    (at_dO H q h) (at_decay H q h) (at_dU H q h hD) (hD h) e j

theorem at_dG (b : Fin 8) (j : Fin 128) : dG B q D h (ix3 0 b j) = _root_.Scan.dG X (chunk s q) h (E h) :=
  dG_apply (at_state H q) (at_decay H q) hD h b j

omit hD
/-- From the gradient at the state after the point, the gradient after each of its chunks. -/
theorem at_carried (hD : ∀ h e j, D (ix2 (col h e) j) = _root_.Scan.back X s h e j) (k : ℕ) (hk : k ≤ 8) :
    ∀ h e j, carried B D k (ix2 (col h e) j) = _root_.Scan.back X (s + k) h e j := by
  induction k with
  | zero => exact hD
  | succ k ih =>
    intro h e j
    refine (at_dS H ⟨7 - k, by omega⟩ h (ih (by omega)) e j).trans ?_
    rw [← Nat.add_assoc, _root_.Scan.back, chunk, show 7 - (7 - k) = k by omega]

omit hD in
theorem at_summed {v : Vec Ideal S1x128 .f32} (hv : ∀ j, v (ix2 0 j) = _root_.Scan.summed X s j) (k : ℕ) (hk : k ≤ 8) :
    ∀ j, summed B v k (ix2 0 j) = _root_.Scan.summed X (s + k) j := by
  induction k with
  | zero => exact hv
  | succ k ih =>
    intro j
    refine (at_dN H ⟨7 - k, by omega⟩ _ j).trans ?_
    rw [ih (by omega), ← Nat.add_assoc, _root_.Scan.summed, chunk, show 7 - (7 - k) = k by omega]

end Cert.Kernel3Ideal.Scan
-- ==== Proof.ScanBlocks.lean ====
module

public import proofs.«01_k».proof.Proof.ScanPoint

@[expose] public section

set_option maxRecDepth 16384

/-!
# The blocks that a grid point reads
-/

noncomputable section

namespace Cert.Kernel3Ideal.Scan

open Cert.Kernel3Ideal Cert.Kernel3Ideal.Gen Idealize.ShloMosaic Idealize.ShloMosaic.TcCoe

variable (m : (ℓ : Loc nD τ sig) → Buf (Elt Ideal) ℓ)

/-- The call's arguments. -/
def args (c : Dev nD) : _root_.Scan.Args :=
  _root_.Scan.ofArrays (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9))

variable (c : Dev nD) (n : Fin 32) (h : Fin 4)

theorem V53 (i : Fin 64) (j : Fin 128) :
    V m c main_v53 (ix2 ⟨64 * n.val + i.val, by omega⟩ ⟨128 * h.val + j.val, by omega⟩) = _root_.Scan.u (args m c) n h i j := by
  simp only [V, hostOps0, hostOps0_1, hostOps0_2, hostOps0_3, hostOps0_4, hostOps0_5, hostOps0_6, hostOps0_7, hostOps0_8,
    List.flatten_cons, List.flatten_nil, List.append_nil, List.cons_append, List.nil_append]
  entry_read
  pointwise
  rfl

theorem V49 (i : Fin 64) (j : Fin 128) :
    V m c main_v49 (ix2 ⟨64 * n.val + i.val, by omega⟩ ⟨128 * h.val + j.val, by omega⟩) = _root_.Scan.o (args m c) n h i j := by
  simp only [V, hostOps0, hostOps0_1, hostOps0_2, hostOps0_3, hostOps0_4, hostOps0_5, hostOps0_6, hostOps0_7, hostOps0_8,
    List.flatten_cons, List.flatten_nil, List.append_nil, List.cons_append, List.nil_append]
  entry_read
  pointwise
  rfl

theorem V47 (i : Fin 64) (j : Fin 128) :
    V m c main_v47 (ix2 ⟨64 * n.val + i.val, by omega⟩ ⟨128 * h.val + j.val, by omega⟩) = (args m c).g n h := by
  simp only [V, hostOps0, hostOps0_1, hostOps0_2, hostOps0_3, hostOps0_4, hostOps0_5, hostOps0_6, hostOps0_7, hostOps0_8,
    List.flatten_cons, List.flatten_nil, List.append_nil, List.cons_append, List.nil_append]
  entry_read
  pointwise
  rfl

theorem V50 (j : Fin 128) : V m c main_v50 (ix2 0 j) = (args m c).w j := by
  simp only [V, hostOps0, hostOps0_1, hostOps0_2, hostOps0_3, hostOps0_4, hostOps0_5, hostOps0_6, hostOps0_7, hostOps0_8,
    List.flatten_cons, List.flatten_nil, List.append_nil, List.cons_append, List.nil_append]
  entry_read
  pointwise
  rfl

theorem V51 (e j : Fin 128) : V m c main_v51 (ix2 ⟨512 * n.val + (128 * h.val + e.val), by omega⟩ j) = (args m c).st n h e j := by
  simp only [V, hostOps0, hostOps0_1, hostOps0_2, hostOps0_3, hostOps0_4, hostOps0_5, hostOps0_6, hostOps0_7, hostOps0_8,
    List.flatten_cons, List.flatten_nil, List.append_nil, List.cons_append, List.nil_append]
  entry_read
  pointwise
  rfl

/-- A choice by the heads' numbers. -/
theorem own (h h' : Fin 4) (x : EReal) :
    Scalar.select (IntOp.cmpi CmpIPredicate.eq (BitVec.ofNat 32 h.val) (BitVec.ofNat 32 h'.val)) x 0 = if h = h' then x else 0 := by
  fin_cases h <;> fin_cases h' <;> rfl

theorem V14 (i : Fin 64) (h' : Fin 4) (l : Fin 64) :
    V m c main_v14 (ix2 ⟨256 * n.val + (64 * h.val + i.val), by omega⟩ ⟨64 * h'.val + l.val, by omega⟩)
      = if h = h' then (args m c).att n h i l else 0 := by
  simp only [V, hostOps0, hostOps0_1, hostOps0_2, hostOps0_3, hostOps0_4, hostOps0_5, hostOps0_6, hostOps0_7, hostOps0_8,
    List.flatten_cons, List.flatten_nil, List.append_nil, List.cons_append, List.nil_append]
  entry_read
  simp only [StableHlo.TRef.ofBuf, StableHlo.TRef.toBuf, StableHlo.TRef.of, cast_eq]
  pointwise
  exact own ..

section
variable (i : Fin 64) (h' : Fin 4) (e : Fin 128)

theorem lead : (256 * n.val + (64 * h.val + i.val)) / 256 = n.val := by omega
theorem digit : (256 * n.val + (64 * h.val + i.val)) / 64 % 4 = h.val := by omega
theorem last : (256 * n.val + (64 * h.val + i.val)) % 64 = i.val := by omega
theorem across : (128 * h'.val + e.val) / 128 = h'.val := by omega
theorem along : (128 * h'.val + e.val) % 128 = e.val := by omega

end

theorem V54 (i : Fin 64) (h' : Fin 4) (e : Fin 128) :
    V m c main_v54 (ix2 ⟨256 * n.val + (64 * h.val + i.val), by omega⟩ ⟨128 * h'.val + e.val, by omega⟩)
      = if h = h' then (args m c).wk n h i e else 0 := by
  simp only [V, hostOps0, hostOps0_1, hostOps0_2, hostOps0_3, hostOps0_4, hostOps0_5, hostOps0_6, hostOps0_7, hostOps0_8,
    List.flatten_cons, List.flatten_nil, List.append_nil, List.cons_append, List.nil_append]
  entry_read
  simp only [StableHlo.TRef.ofBuf, StableHlo.TRef.toBuf, StableHlo.TRef.of, cast_eq]
  pointwise
  refine Eq.trans ?_ (own ..)
  simp only [lead, digit, last, across, along]
  rfl

theorem V55 (i : Fin 64) (h' : Fin 4) (e : Fin 128) :
    V m c main_v55 (ix2 ⟨256 * n.val + (64 * h.val + i.val), by omega⟩ ⟨128 * h'.val + e.val, by omega⟩)
      = if h = h' then (args m c).qd n h i e else 0 := by
  simp only [V, hostOps0, hostOps0_1, hostOps0_2, hostOps0_3, hostOps0_4, hostOps0_5, hostOps0_6, hostOps0_7, hostOps0_8,
    List.flatten_cons, List.flatten_nil, List.append_nil, List.cons_append, List.nil_append]
  entry_read
  simp only [StableHlo.TRef.ofBuf, StableHlo.TRef.toBuf, StableHlo.TRef.of, cast_eq]
  pointwise
  refine Eq.trans ?_ (own ..)
  simp only [lead, digit, last, across, along]
  rfl

theorem V56 (i : Fin 64) (h' : Fin 4) (e : Fin 128) :
    V m c main_v56 (ix2 ⟨256 * n.val + (64 * h.val + i.val), by omega⟩ ⟨128 * h'.val + e.val, by omega⟩)
      = if h = h' then (args m c).ke n h i e else 0 := by
  simp only [V, hostOps0, hostOps0_1, hostOps0_2, hostOps0_3, hostOps0_4, hostOps0_5, hostOps0_6, hostOps0_7, hostOps0_8,
    List.flatten_cons, List.flatten_nil, List.append_nil, List.cons_append, List.nil_append]
  entry_read
  simp only [StableHlo.TRef.ofBuf, StableHlo.TRef.toBuf, StableHlo.TRef.of, cast_eq]
  pointwise
  refine Eq.trans ?_ (own ..)
  simp only [lead, digit, last, across, along]
  rfl

/-- Where each window's block lies, in blocks. -/
theorem place : ∀ t : Fin grid0.N,
    win0_0.index t = ![3 - t.val, 0] ∧ win0_1.index t = ![3 - t.val, 0] ∧ win0_2.index t = ![3 - t.val, 0] ∧ win0_3.index t = ![0, 0]
    ∧ win0_4.index t = ![3 - t.val, 0] ∧ win0_5.index t = ![3 - t.val, 0] ∧ win0_6.index t = ![3 - t.val, 0]
    ∧ win0_7.index t = ![3 - t.val, 0] ∧ win0_8.index t = ![3 - t.val, 0] ∧ win0_9.index t = ![3 - t.val, 0]
    ∧ win0_10.index t = ![3 - t.val, 0] ∧ win0_11.index t = ![3 - t.val, 0] ∧ win0_12.index t = ![0, 0]
    ∧ win0_13.index t = ![3 - t.val, 0] ∧ win0_14.index t = ![3 - t.val, 0] ∧ win0_16.index t = ![3 - t.val, 0]
    ∧ win0_17.index t = ![3 - t.val, 0] ∧ win0_18.index t = ![3 - t.val, 0, 0] := by
  decide +kernel

set_option maxHeartbeats 4000000 in
/-- Point `t` reads the eight chunks that follow step `8 * t`, the last one first. -/
theorem holds (t : Fin cfg0.N) : Holds (args m c) (8 * t.val) (blocks m c t) := by
  have hN : t.val < 4 := t.isLt
  obtain ⟨p0, p1, p2, p3, p4, p5, p6, p7, p8, p9, p10, -⟩ := place t
  constructor
  · intro q h i j
    show iblk m c 0 t (ix2 (tok q i) (col h j)) = _
    refine .trans ?_ (congrFun (V_main_arg8 m c) (ix2 ⟨64 * (chunk (8 * t.val) q).val + i.val, by omega⟩ ⟨128 * h.val + j.val, by omega⟩))
    blk_ext [iblk, p0, tok, col, chunk, _root_.Scan.at_]
  · intro q h i j
    show iblk m c 1 t (ix2 (tok q i) (col h j)) = _
    refine .trans ?_ (V49 m c (chunk (8 * t.val) q) h i j)
    blk_ext [iblk, p1, tok, col, chunk, _root_.Scan.at_]
  · intro q h i j
    show iblk m c 2 t (ix2 (tok q i) (col h j)) = _
    refine .trans ?_ (congrFun (V_main_arg6 m c) (ix2 ⟨64 * (chunk (8 * t.val) q).val + i.val, by omega⟩ ⟨128 * h.val + j.val, by omega⟩))
    blk_ext [iblk, p2, tok, col, chunk, _root_.Scan.at_]
  · intro q h i j
    show iblk m c 5 t (ix2 (tok q i) (col h j)) = _
    refine .trans ?_ (V53 m c (chunk (8 * t.val) q) h i j)
    blk_ext [iblk, p5, tok, col, chunk, _root_.Scan.at_]
  · intro q h i j
    show iblk m c 10 t (ix2 (tok q i) (col h j)) = _
    refine .trans ?_ (V47 m c (chunk (8 * t.val) q) h i j)
    blk_ext [iblk, p10, tok, col, chunk, _root_.Scan.at_]
  · intro j
    show iblk m c 3 t (ix2 0 j) = _
    refine .trans ?_ (V50 m c j)
    blk_ext [iblk, p3]
  · intro q h e j
    show iblk m c 4 t (ix2 (high q (col h e)) j) = _
    refine .trans ?_ (V51 m c (chunk (8 * t.val) q) h e j)
    blk_ext [iblk, p4, high, col, chunk, _root_.Scan.at_]
  · intro q h i h' l
    show iblk m c 6 t (ix2 (long q (row h i)) (row h' l)) = _
    refine .trans ?_ (V14 m c (chunk (8 * t.val) q) h i h' l)
    blk_ext [iblk, p6, long, row, chunk, _root_.Scan.at_]
  · intro q h i h' e
    show iblk m c 7 t (ix2 (long q (row h i)) (col h' e)) = _
    refine .trans ?_ (V54 m c (chunk (8 * t.val) q) h i h' e)
    blk_ext [iblk, p7, long, row, col, chunk, _root_.Scan.at_]
  · intro q h i h' e
    show iblk m c 8 t (ix2 (long q (row h i)) (col h' e)) = _
    refine .trans ?_ (V55 m c (chunk (8 * t.val) q) h i h' e)
    blk_ext [iblk, p8, long, row, col, chunk, _root_.Scan.at_]
  · intro q h i h' e
    show iblk m c 9 t (ix2 (long q (row h i)) (col h' e)) = _
    refine .trans ?_ (V56 m c (chunk (8 * t.val) q) h i h' e)
    blk_ext [iblk, p9, long, row, col, chunk, _root_.Scan.at_]

end Cert.Kernel3Ideal.Scan
-- ==== Proof.ScanCarry.lean ====
module

public import proofs.«01_k».proof.Proof.ScanChunk

@[expose] public section

set_option maxRecDepth 16384

/-!
# The gradient at the state and the one at the norm's weights, from point to point
-/

noncomputable section

namespace Cert.Kernel3Ideal.Scan

open Cert.Kernel3Ideal Cert.Kernel3Ideal.Gen Idealize.ShloMosaic Idealize.ShloMosaic.TcCoe

variable (m : (ℓ : Loc nD τ sig) → Buf (Elt Ideal) ℓ)

attribute [local irreducible] slab wide square tall stack

set_option maxHeartbeats 20000000 in
theorem later_scratch (c : Dev nD) (t : Fin cfg0.N) (h0 : ¬ t.val % 4 = 0) (y : S512x128.Idx) :
    (outsAt0 m c t.val t.isLt).2.2.2.2.2.2.2.2 y = carried (blocks m c t) (outsAt0 m c (t.val - 1) (by omega)).2.2.2.2.2.2.2.2 8 y := by
  rw [outsAt0_B m c t h0]
  frame_open
  simp (disch := decide) only [↓ View.readCov_skip, ↓ View.readCov_cons_toLoadRect, ↓ View.readCov_fill]
  frame_out
  simp only [stack_eq, stack_eq', Memref.IsWhole.read_unread, read_unread_whole, shapeCast_self, slab_eq, wide_eq, square_eq, tall_eq,
    k0_pay4, k0_pay5, k0_pay6, k0_pay7, k0_pay8, k0_pay9, k0_pay54, k0_pay55, k0_pay56, k0_pay57, k0_pay58, k0_pay59, k0_pay60, k0_pay61, k0_pay105, k0_pay106, k0_pay107, k0_pay108, k0_pay109, k0_pay110, k0_pay119, k0_pay158, k0_pay159, k0_pay160, k0_pay161, k0_pay162, k0_pay163, k0_pay164, k0_pay165, k0_pay166, k0_pay214, k0_pay215, k0_pay216, k0_pay217, k0_pay218, k0_pay219, k0_pay220, k0_pay221, k0_pay222, k0_pay274, k0_pay275, k0_pay276, k0_pay277, k0_pay278, k0_pay279, k0_pay329, k0_pay330, k0_pay331, k0_pay332, k0_pay333, k0_pay377, k0_pay378, k0_pay379, k0_pay380, k0_pay381, k0_pay382, k0_pay383]
  generalize (outsAt0 m c (t.val - 1) (by omega)).2.2.2.2.2.2.2.2 = D
  unfold blocks
  generalize iblk m c 0 t = x0, iblk m c 1 t = x1, iblk m c 2 t = x2, iblk m c 3 t = x3, iblk m c 4 t = x4, iblk m c 5 t = x5,
    iblk m c 6 t = x6, iblk m c 7 t = x7, iblk m c 8 t = x8, iblk m c 9 t = x9, iblk m c 10 t = x10
  refine congrFun (g := carried ⟨x0, x1, x2, x3, x4, x5, x6, x7, x8, x9, x10⟩ D 8) ?_ y
  rfl

set_option maxHeartbeats 20000000 in
theorem later_norm (c : Dev nD) (t : Fin cfg0.N) (h0 : ¬ t.val % 4 = 0) (y : S1x128.Idx) :
    (outsAt0 m c t.val t.isLt).2.1 y = summed (blocks m c t) (outsAt0 m c (t.val - 1) (by omega)).2.1 8 y := by
  rw [outsAt0_B m c t h0]
  frame_open
  simp (disch := decide) only [↓ View.readCov_skip, ↓ View.readCov_cons_toLoadRect, ↓ View.readCov_fill]
  frame_out
  simp only [stack_eq, stack_eq', Memref.IsWhole.read_unread, read_unread_whole, shapeCast_self, slab_eq, wide_eq, square_eq, tall_eq,
    k0_pay4, k0_pay5, k0_pay6, k0_pay7, k0_pay8, k0_pay9, k0_pay54, k0_pay55, k0_pay56, k0_pay57, k0_pay58, k0_pay59, k0_pay60, k0_pay61, k0_pay105, k0_pay106, k0_pay107, k0_pay108, k0_pay109, k0_pay110, k0_pay119, k0_pay158, k0_pay159, k0_pay160, k0_pay161, k0_pay162, k0_pay163, k0_pay164, k0_pay165, k0_pay166, k0_pay214, k0_pay215, k0_pay216, k0_pay217, k0_pay218, k0_pay219, k0_pay220, k0_pay221, k0_pay222, k0_pay274, k0_pay275, k0_pay276, k0_pay277, k0_pay278, k0_pay279, k0_pay329, k0_pay330, k0_pay331, k0_pay332, k0_pay333, k0_pay377, k0_pay378, k0_pay379, k0_pay380, k0_pay381, k0_pay382, k0_pay383]
  generalize (outsAt0 m c (t.val - 1) (by omega)).2.1 = w
  unfold blocks
  generalize iblk m c 0 t = x0, iblk m c 1 t = x1, iblk m c 2 t = x2, iblk m c 3 t = x3, iblk m c 4 t = x4, iblk m c 5 t = x5,
    iblk m c 6 t = x6, iblk m c 7 t = x7, iblk m c 8 t = x8, iblk m c 9 t = x9, iblk m c 10 t = x10
  refine congrFun (g := summed ⟨x0, x1, x2, x3, x4, x5, x6, x7, x8, x9, x10⟩ w 8) ?_ y
  rfl

end Cert.Kernel3Ideal.Scan
-- ==== Proof.ScanCarryA.lean ====
module

public import proofs.«01_k».proof.Proof.ScanChunk

@[expose] public section

set_option maxRecDepth 16384

/-!
# The gradient at the state and the one at the norm's weights, from point to point
-/

noncomputable section

namespace Cert.Kernel3Ideal.Scan

open Cert.Kernel3Ideal Cert.Kernel3Ideal.Gen Idealize.ShloMosaic Idealize.ShloMosaic.TcCoe

variable (m : (ℓ : Loc nD τ sig) → Buf (Elt Ideal) ℓ)

attribute [local irreducible] slab wide square tall stack

set_option maxHeartbeats 20000000 in
theorem first_scratch (c : Dev nD) (t : Fin cfg0.N) (h0 : t.val % 4 = 0) (y : S512x128.Idx) :
    (outsAt0 m c t.val t.isLt).2.2.2.2.2.2.2.2 y = carried (blocks m c t) (k0_pay1 (F := Ideal)) 8 y := by
  rw [outsAt0_A m c t h0]
  frame_open
  simp (disch := decide) only [↓ View.readCov_skip, ↓ View.readCov_cons_toLoadRect, ↓ View.readCov_fill]
  frame_out
  simp only [stack_eq, stack_eq', Memref.IsWhole.read_unread, read_unread_whole, shapeCast_self, slab_eq, wide_eq, square_eq, tall_eq,
    k0_pay4, k0_pay5, k0_pay6, k0_pay7, k0_pay8, k0_pay9, k0_pay54, k0_pay55, k0_pay56, k0_pay57, k0_pay58, k0_pay59, k0_pay60, k0_pay61, k0_pay105, k0_pay106, k0_pay107, k0_pay108, k0_pay109, k0_pay110, k0_pay119, k0_pay158, k0_pay159, k0_pay160, k0_pay161, k0_pay162, k0_pay163, k0_pay164, k0_pay165, k0_pay166, k0_pay214, k0_pay215, k0_pay216, k0_pay217, k0_pay218, k0_pay219, k0_pay220, k0_pay221, k0_pay222, k0_pay274, k0_pay275, k0_pay276, k0_pay277, k0_pay278, k0_pay279, k0_pay329, k0_pay330, k0_pay331, k0_pay332, k0_pay333, k0_pay377, k0_pay378, k0_pay379, k0_pay380, k0_pay381, k0_pay382, k0_pay383]
  unfold blocks
  generalize iblk m c 0 t = x0, iblk m c 1 t = x1, iblk m c 2 t = x2, iblk m c 3 t = x3, iblk m c 4 t = x4, iblk m c 5 t = x5,
    iblk m c 6 t = x6, iblk m c 7 t = x7, iblk m c 8 t = x8, iblk m c 9 t = x9, iblk m c 10 t = x10
  generalize k0_pay1 (F := Ideal) = D
  refine congrFun (g := carried ⟨x0, x1, x2, x3, x4, x5, x6, x7, x8, x9, x10⟩ D 8) ?_ y
  rfl

set_option maxHeartbeats 20000000 in
theorem first_norm (c : Dev nD) (t : Fin cfg0.N) (h0 : t.val % 4 = 0) (y : S1x128.Idx) :
    (outsAt0 m c t.val t.isLt).2.1 y = summed (blocks m c t) (k0_pay2 (F := Ideal)) 8 y := by
  rw [outsAt0_A m c t h0]
  frame_open
  simp (disch := decide) only [↓ View.readCov_skip, ↓ View.readCov_cons_toLoadRect, ↓ View.readCov_fill]
  frame_out
  simp only [stack_eq, stack_eq', Memref.IsWhole.read_unread, read_unread_whole, shapeCast_self, slab_eq, wide_eq, square_eq, tall_eq,
    k0_pay4, k0_pay5, k0_pay6, k0_pay7, k0_pay8, k0_pay9, k0_pay54, k0_pay55, k0_pay56, k0_pay57, k0_pay58, k0_pay59, k0_pay60, k0_pay61, k0_pay105, k0_pay106, k0_pay107, k0_pay108, k0_pay109, k0_pay110, k0_pay119, k0_pay158, k0_pay159, k0_pay160, k0_pay161, k0_pay162, k0_pay163, k0_pay164, k0_pay165, k0_pay166, k0_pay214, k0_pay215, k0_pay216, k0_pay217, k0_pay218, k0_pay219, k0_pay220, k0_pay221, k0_pay222, k0_pay274, k0_pay275, k0_pay276, k0_pay277, k0_pay278, k0_pay279, k0_pay329, k0_pay330, k0_pay331, k0_pay332, k0_pay333, k0_pay377, k0_pay378, k0_pay379, k0_pay380, k0_pay381, k0_pay382, k0_pay383]
  unfold blocks
  generalize iblk m c 0 t = x0, iblk m c 1 t = x1, iblk m c 2 t = x2, iblk m c 3 t = x3, iblk m c 4 t = x4, iblk m c 5 t = x5,
    iblk m c 6 t = x6, iblk m c 7 t = x7, iblk m c 8 t = x8, iblk m c 9 t = x9, iblk m c 10 t = x10
  generalize k0_pay2 (F := Ideal) = w
  refine congrFun (g := summed ⟨x0, x1, x2, x3, x4, x5, x6, x7, x8, x9, x10⟩ w 8) ?_ y
  rfl

end Cert.Kernel3Ideal.Scan
-- ==== Proof.ScanPointA.lean ====
module

public import proofs.«01_k».proof.Proof.ScanChunk

@[expose] public section

set_option maxRecDepth 16384

/-!
# What the first grid point leaves in its blocks
-/

noncomputable section

namespace Cert.Kernel3Ideal.Scan

open Cert.Kernel3Ideal Cert.Kernel3Ideal.Gen Idealize.ShloMosaic Idealize.ShloMosaic.TcCoe

variable (m : (ℓ : Loc nD τ sig) → Buf (Elt Ideal) ℓ)

attribute [local irreducible] slab wide square tall stack

set_option maxHeartbeats 20000000 in
theorem first_z (c : Dev nD) (t : Fin cfg0.N) (h0 : t.val % 4 = 0) (y) :
    (outsAt0 m c t.val t.isLt).1 y = tiles (fun q => dZr (blocks m c t) q) y := by
  rw [outsAt0_A m c t h0]
  dsimp only
  unfold out0_A_11
  refine View.read_writes_apply_of_pieces (Val := Elt Ideal) _ _ _ _ ?_ y (by exact cover0_A_11 (F := Ideal) (y := y) ..)
  frame_open
  simp (disch := decide) only [↓ View.readCov_skip, ↓ View.readCov_cons_toLoadRect, ↓ View.readCov_fill]
  simp (disch := decide) only [View.ld_unit_lit', View.readCov_unit_lit', View.readCov_cons_unit_lit', View.readAt_eq_ld, Memref.IsWhole.read_unread, read_unread_whole]
  simp only [stack_eq, stack_eq', Memref.IsWhole.read_unread, read_unread_whole, shapeCast_self, slab_eq, wide_eq, square_eq, tall_eq,
    k0_pay4, k0_pay5, k0_pay6, k0_pay7, k0_pay8, k0_pay9, k0_pay54, k0_pay55, k0_pay56, k0_pay57, k0_pay58, k0_pay59, k0_pay60, k0_pay61, k0_pay105, k0_pay106, k0_pay107, k0_pay108, k0_pay109, k0_pay110, k0_pay119, k0_pay158, k0_pay159, k0_pay160, k0_pay161, k0_pay162, k0_pay163, k0_pay164, k0_pay165, k0_pay166, k0_pay214, k0_pay215, k0_pay216, k0_pay217, k0_pay218, k0_pay219, k0_pay220, k0_pay221, k0_pay222, k0_pay274, k0_pay275, k0_pay276, k0_pay277, k0_pay278, k0_pay279, k0_pay329, k0_pay330, k0_pay331, k0_pay332, k0_pay333, k0_pay377, k0_pay378, k0_pay379, k0_pay380, k0_pay381, k0_pay382, k0_pay383,
    k0_pay23, k0_pay73, k0_pay123, k0_pay178, k0_pay232, k0_pay236, k0_pay293, k0_pay347, k0_pay397]
  unfold blocks
  generalize iblk m c 0 t = x0, iblk m c 1 t = x1, iblk m c 2 t = x2, iblk m c 3 t = x3, iblk m c 4 t = x4, iblk m c 5 t = x5,
    iblk m c 6 t = x6, iblk m c 7 t = x7, iblk m c 8 t = x8, iblk m c 9 t = x9, iblk m c 10 t = x10
  repeat refine List.forall_mem_cons.mpr ⟨tile _ (hb := by decide) (by decide) (by decide) (by decide) rfl, ?_⟩
  exact fun p hp => absurd hp List.not_mem_nil

set_option maxHeartbeats 20000000 in
theorem first_u (c : Dev nD) (t : Fin cfg0.N) (h0 : t.val % 4 = 0) (y) :
    (outsAt0 m c t.val t.isLt).2.2.1 y = tiles (fun q => dU (blocks m c t) q (carried (blocks m c t) (k0_pay1 (F := Ideal)) (7 - q.val))) y := by
  rw [outsAt0_A m c t h0]
  dsimp only
  unfold out0_A_13
  refine View.read_writes_apply_of_pieces (Val := Elt Ideal) _ _ _ _ ?_ y (by exact cover0_A_13 (F := Ideal) (y := y) ..)
  frame_open
  simp (disch := decide) only [↓ View.readCov_skip, ↓ View.readCov_cons_toLoadRect, ↓ View.readCov_fill]
  simp (disch := decide) only [View.ld_unit_lit', View.readCov_unit_lit', View.readCov_cons_unit_lit', View.readAt_eq_ld, Memref.IsWhole.read_unread, read_unread_whole]
  simp only [stack_eq, stack_eq', Memref.IsWhole.read_unread, read_unread_whole, shapeCast_self, slab_eq, wide_eq, square_eq, tall_eq,
    k0_pay4, k0_pay5, k0_pay6, k0_pay7, k0_pay8, k0_pay9, k0_pay54, k0_pay55, k0_pay56, k0_pay57, k0_pay58, k0_pay59, k0_pay60, k0_pay61, k0_pay105, k0_pay106, k0_pay107, k0_pay108, k0_pay109, k0_pay110, k0_pay119, k0_pay158, k0_pay159, k0_pay160, k0_pay161, k0_pay162, k0_pay163, k0_pay164, k0_pay165, k0_pay166, k0_pay214, k0_pay215, k0_pay216, k0_pay217, k0_pay218, k0_pay219, k0_pay220, k0_pay221, k0_pay222, k0_pay274, k0_pay275, k0_pay276, k0_pay277, k0_pay278, k0_pay279, k0_pay329, k0_pay330, k0_pay331, k0_pay332, k0_pay333, k0_pay377, k0_pay378, k0_pay379, k0_pay380, k0_pay381, k0_pay382, k0_pay383,
    k0_pay23, k0_pay73, k0_pay123, k0_pay178, k0_pay232, k0_pay236, k0_pay293, k0_pay347, k0_pay397]
  unfold blocks
  generalize iblk m c 0 t = x0, iblk m c 1 t = x1, iblk m c 2 t = x2, iblk m c 3 t = x3, iblk m c 4 t = x4, iblk m c 5 t = x5,
    iblk m c 6 t = x6, iblk m c 7 t = x7, iblk m c 8 t = x8, iblk m c 9 t = x9, iblk m c 10 t = x10
  generalize k0_pay1 (F := Ideal) = D
  repeat refine List.forall_mem_cons.mpr ⟨tile _ (hb := by decide) (by decide) (by decide) (by decide) rfl, ?_⟩
  exact fun p hp => absurd hp List.not_mem_nil

set_option maxHeartbeats 20000000 in
theorem first_w (c : Dev nD) (t : Fin cfg0.N) (h0 : t.val % 4 = 0) (y) :
    (outsAt0 m c t.val t.isLt).2.2.2.1 y = tiles (fun q => dW (blocks m c t) q (carried (blocks m c t) (k0_pay1 (F := Ideal)) (7 - q.val))) y := by
  rw [outsAt0_A m c t h0]
  dsimp only
  unfold out0_A_14
  refine View.read_writes_apply_of_pieces (Val := Elt Ideal) _ _ _ _ ?_ y (by exact cover0_A_14 (F := Ideal) (y := y) ..)
  frame_open
  simp (disch := decide) only [↓ View.readCov_skip, ↓ View.readCov_cons_toLoadRect, ↓ View.readCov_fill]
  simp (disch := decide) only [View.ld_unit_lit', View.readCov_unit_lit', View.readCov_cons_unit_lit', View.readAt_eq_ld, Memref.IsWhole.read_unread, read_unread_whole]
  simp only [stack_eq, stack_eq', Memref.IsWhole.read_unread, read_unread_whole, shapeCast_self, slab_eq, wide_eq, square_eq, tall_eq,
    k0_pay4, k0_pay5, k0_pay6, k0_pay7, k0_pay8, k0_pay9, k0_pay54, k0_pay55, k0_pay56, k0_pay57, k0_pay58, k0_pay59, k0_pay60, k0_pay61, k0_pay105, k0_pay106, k0_pay107, k0_pay108, k0_pay109, k0_pay110, k0_pay119, k0_pay158, k0_pay159, k0_pay160, k0_pay161, k0_pay162, k0_pay163, k0_pay164, k0_pay165, k0_pay166, k0_pay214, k0_pay215, k0_pay216, k0_pay217, k0_pay218, k0_pay219, k0_pay220, k0_pay221, k0_pay222, k0_pay274, k0_pay275, k0_pay276, k0_pay277, k0_pay278, k0_pay279, k0_pay329, k0_pay330, k0_pay331, k0_pay332, k0_pay333, k0_pay377, k0_pay378, k0_pay379, k0_pay380, k0_pay381, k0_pay382, k0_pay383,
    k0_pay23, k0_pay73, k0_pay123, k0_pay178, k0_pay232, k0_pay236, k0_pay293, k0_pay347, k0_pay397]
  unfold blocks
  generalize iblk m c 0 t = x0, iblk m c 1 t = x1, iblk m c 2 t = x2, iblk m c 3 t = x3, iblk m c 4 t = x4, iblk m c 5 t = x5,
    iblk m c 6 t = x6, iblk m c 7 t = x7, iblk m c 8 t = x8, iblk m c 9 t = x9, iblk m c 10 t = x10
  generalize k0_pay1 (F := Ideal) = D
  repeat refine List.forall_mem_cons.mpr ⟨tile _ (hb := by decide) (by decide) (by decide) (by decide) rfl, ?_⟩
  exact fun p hp => absurd hp List.not_mem_nil

set_option maxHeartbeats 20000000 in
theorem first_q (c : Dev nD) (t : Fin cfg0.N) (h0 : t.val % 4 = 0) (y) :
    (outsAt0 m c t.val t.isLt).2.2.2.2.2.1 y = tiles (fun q => dQ (blocks m c t) q) y := by
  rw [outsAt0_A m c t h0]
  dsimp only
  unfold out0_A_16
  refine View.read_writes_apply_of_pieces (Val := Elt Ideal) _ _ _ _ ?_ y (by exact cover0_A_16 (F := Ideal) (y := y) ..)
  frame_open
  simp (disch := decide) only [↓ View.readCov_skip, ↓ View.readCov_cons_toLoadRect, ↓ View.readCov_fill]
  simp (disch := decide) only [View.ld_unit_lit', View.readCov_unit_lit', View.readCov_cons_unit_lit', View.readAt_eq_ld, Memref.IsWhole.read_unread, read_unread_whole]
  simp only [stack_eq, stack_eq', Memref.IsWhole.read_unread, read_unread_whole, shapeCast_self, slab_eq, wide_eq, square_eq, tall_eq,
    k0_pay4, k0_pay5, k0_pay6, k0_pay7, k0_pay8, k0_pay9, k0_pay54, k0_pay55, k0_pay56, k0_pay57, k0_pay58, k0_pay59, k0_pay60, k0_pay61, k0_pay105, k0_pay106, k0_pay107, k0_pay108, k0_pay109, k0_pay110, k0_pay119, k0_pay158, k0_pay159, k0_pay160, k0_pay161, k0_pay162, k0_pay163, k0_pay164, k0_pay165, k0_pay166, k0_pay214, k0_pay215, k0_pay216, k0_pay217, k0_pay218, k0_pay219, k0_pay220, k0_pay221, k0_pay222, k0_pay274, k0_pay275, k0_pay276, k0_pay277, k0_pay278, k0_pay279, k0_pay329, k0_pay330, k0_pay331, k0_pay332, k0_pay333, k0_pay377, k0_pay378, k0_pay379, k0_pay380, k0_pay381, k0_pay382, k0_pay383,
    k0_pay23, k0_pay73, k0_pay123, k0_pay178, k0_pay232, k0_pay236, k0_pay293, k0_pay347, k0_pay397, k0_pay180, k0_pay238, k0_pay295, k0_pay296, k0_pay349, k0_pay350, k0_pay351, k0_pay352]
  unfold blocks
  generalize iblk m c 0 t = x0, iblk m c 1 t = x1, iblk m c 2 t = x2, iblk m c 3 t = x3, iblk m c 4 t = x4, iblk m c 5 t = x5,
    iblk m c 6 t = x6, iblk m c 7 t = x7, iblk m c 8 t = x8, iblk m c 9 t = x9, iblk m c 10 t = x10
  repeat refine List.forall_mem_cons.mpr ⟨tile _ (hb := by decide) (by decide) (by decide) (by decide) rfl, ?_⟩
  exact fun p hp => absurd hp List.not_mem_nil

set_option maxHeartbeats 20000000 in
theorem first_k (c : Dev nD) (t : Fin cfg0.N) (h0 : t.val % 4 = 0) (y) :
    (outsAt0 m c t.val t.isLt).2.2.2.2.2.2.1 y = tiles (fun q => dK (blocks m c t) q (carried (blocks m c t) (k0_pay1 (F := Ideal)) (7 - q.val))) y := by
  rw [outsAt0_A m c t h0]
  dsimp only
  unfold out0_A_17
  refine View.read_writes_apply_of_pieces (Val := Elt Ideal) _ _ _ _ ?_ y (by exact cover0_A_17 (F := Ideal) (y := y) ..)
  frame_open
  simp (disch := decide) only [↓ View.readCov_skip, ↓ View.readCov_cons_toLoadRect, ↓ View.readCov_fill]
  simp (disch := decide) only [View.ld_unit_lit', View.readCov_unit_lit', View.readCov_cons_unit_lit', View.readAt_eq_ld, Memref.IsWhole.read_unread, read_unread_whole]
  simp only [stack_eq, stack_eq', Memref.IsWhole.read_unread, read_unread_whole, shapeCast_self, slab_eq, wide_eq, square_eq, tall_eq,
    k0_pay4, k0_pay5, k0_pay6, k0_pay7, k0_pay8, k0_pay9, k0_pay54, k0_pay55, k0_pay56, k0_pay57, k0_pay58, k0_pay59, k0_pay60, k0_pay61, k0_pay105, k0_pay106, k0_pay107, k0_pay108, k0_pay109, k0_pay110, k0_pay119, k0_pay158, k0_pay159, k0_pay160, k0_pay161, k0_pay162, k0_pay163, k0_pay164, k0_pay165, k0_pay166, k0_pay214, k0_pay215, k0_pay216, k0_pay217, k0_pay218, k0_pay219, k0_pay220, k0_pay221, k0_pay222, k0_pay274, k0_pay275, k0_pay276, k0_pay277, k0_pay278, k0_pay279, k0_pay329, k0_pay330, k0_pay331, k0_pay332, k0_pay333, k0_pay377, k0_pay378, k0_pay379, k0_pay380, k0_pay381, k0_pay382, k0_pay383,
    k0_pay23, k0_pay73, k0_pay123, k0_pay178, k0_pay232, k0_pay236, k0_pay293, k0_pay347, k0_pay397]
  unfold blocks
  generalize iblk m c 0 t = x0, iblk m c 1 t = x1, iblk m c 2 t = x2, iblk m c 3 t = x3, iblk m c 4 t = x4, iblk m c 5 t = x5,
    iblk m c 6 t = x6, iblk m c 7 t = x7, iblk m c 8 t = x8, iblk m c 9 t = x9, iblk m c 10 t = x10
  generalize k0_pay1 (F := Ideal) = D
  repeat refine List.forall_mem_cons.mpr ⟨tile _ (hb := by decide) (by decide) (by decide) (by decide) rfl, ?_⟩
  exact fun p hp => absurd hp List.not_mem_nil

set_option maxHeartbeats 20000000 in
theorem first_g (c : Dev nD) (t : Fin cfg0.N) (h0 : t.val % 4 = 0) (y) :
    (outsAt0 m c t.val t.isLt).2.2.2.2.2.2.2.1 y = bands (fun q => dG (blocks m c t) q (carried (blocks m c t) (k0_pay1 (F := Ideal)) (7 - q.val))) y := by
  rw [outsAt0_A m c t h0]
  dsimp only
  unfold out0_A_18
  refine View.read_writes_apply_of_pieces (Val := Elt Ideal) _ _ _ _ ?_ y (by exact cover0_A_18 (F := Ideal) (y := y) ..)
  frame_open
  simp (disch := decide) only [↓ View.readCov_skip, ↓ View.readCov_cons_toLoadRect, ↓ View.readCov_fill]
  simp (disch := decide) only [View.ld_unit_lit', View.readCov_unit_lit', View.readCov_cons_unit_lit', View.readAt_eq_ld, Memref.IsWhole.read_unread, read_unread_whole]
  simp only [stack_eq, stack_eq', Memref.IsWhole.read_unread, read_unread_whole, shapeCast_self, slab_eq, wide_eq, square_eq, tall_eq,
    k0_pay4, k0_pay5, k0_pay6, k0_pay7, k0_pay8, k0_pay9, k0_pay54, k0_pay55, k0_pay56, k0_pay57, k0_pay58, k0_pay59, k0_pay60, k0_pay61, k0_pay105, k0_pay106, k0_pay107, k0_pay108, k0_pay109, k0_pay110, k0_pay119, k0_pay158, k0_pay159, k0_pay160, k0_pay161, k0_pay162, k0_pay163, k0_pay164, k0_pay165, k0_pay166, k0_pay214, k0_pay215, k0_pay216, k0_pay217, k0_pay218, k0_pay219, k0_pay220, k0_pay221, k0_pay222, k0_pay274, k0_pay275, k0_pay276, k0_pay277, k0_pay278, k0_pay279, k0_pay329, k0_pay330, k0_pay331, k0_pay332, k0_pay333, k0_pay377, k0_pay378, k0_pay379, k0_pay380, k0_pay381, k0_pay382, k0_pay383,
    k0_pay23, k0_pay73, k0_pay123, k0_pay178, k0_pay232, k0_pay236, k0_pay293, k0_pay347, k0_pay397]
  unfold blocks
  generalize iblk m c 0 t = x0, iblk m c 1 t = x1, iblk m c 2 t = x2, iblk m c 3 t = x3, iblk m c 4 t = x4, iblk m c 5 t = x5,
    iblk m c 6 t = x6, iblk m c 7 t = x7, iblk m c 8 t = x8, iblk m c 9 t = x9, iblk m c 10 t = x10
  generalize k0_pay1 (F := Ideal) = D
  repeat refine List.forall_mem_cons.mpr ⟨band _ (hb := by decide) (by decide) (by decide) (by decide) rfl, ?_⟩
  exact fun p hp => absurd hp List.not_mem_nil

end Cert.Kernel3Ideal.Scan
-- ==== Proof.ScanPointB.lean ====
module

public import proofs.«01_k».proof.Proof.ScanChunk

@[expose] public section

set_option maxRecDepth 16384

/-!
# What a grid point after the first leaves in its blocks
-/

noncomputable section

namespace Cert.Kernel3Ideal.Scan

open Cert.Kernel3Ideal Cert.Kernel3Ideal.Gen Idealize.ShloMosaic Idealize.ShloMosaic.TcCoe

variable (m : (ℓ : Loc nD τ sig) → Buf (Elt Ideal) ℓ)

attribute [local irreducible] slab wide square tall stack

set_option maxHeartbeats 20000000 in
theorem later_z (c : Dev nD) (t : Fin cfg0.N) (h0 : ¬ t.val % 4 = 0) (D : Vec Ideal S512x128 .f32)
    (hD : (outsAt0 m c (t.val - 1) (by omega)).2.2.2.2.2.2.2.2 = D) (y) :
    (outsAt0 m c t.val t.isLt).1 y = tiles (fun q => dZr (blocks m c t) q) y := by
  rw [outsAt0_B m c t h0]
  dsimp only
  rw [hD]
  unfold out0_B_11
  refine View.read_writes_apply_of_pieces (Val := Elt Ideal) _ _ _ _ ?_ y (by exact cover0_B_11 (F := Ideal) (y := y) ..)
  frame_open
  simp (disch := decide) only [↓ View.readCov_skip, ↓ View.readCov_cons_toLoadRect, ↓ View.readCov_fill]
  simp (disch := decide) only [View.ld_unit_lit', View.readCov_unit_lit', View.readCov_cons_unit_lit', View.readAt_eq_ld, Memref.IsWhole.read_unread, read_unread_whole]
  simp only [stack_eq, stack_eq', Memref.IsWhole.read_unread, read_unread_whole, shapeCast_self, slab_eq, wide_eq, square_eq, tall_eq,
    k0_pay4, k0_pay5, k0_pay6, k0_pay7, k0_pay8, k0_pay9, k0_pay54, k0_pay55, k0_pay56, k0_pay57, k0_pay58, k0_pay59, k0_pay60, k0_pay61, k0_pay105, k0_pay106, k0_pay107, k0_pay108, k0_pay109, k0_pay110, k0_pay119, k0_pay158, k0_pay159, k0_pay160, k0_pay161, k0_pay162, k0_pay163, k0_pay164, k0_pay165, k0_pay166, k0_pay214, k0_pay215, k0_pay216, k0_pay217, k0_pay218, k0_pay219, k0_pay220, k0_pay221, k0_pay222, k0_pay274, k0_pay275, k0_pay276, k0_pay277, k0_pay278, k0_pay279, k0_pay329, k0_pay330, k0_pay331, k0_pay332, k0_pay333, k0_pay377, k0_pay378, k0_pay379, k0_pay380, k0_pay381, k0_pay382, k0_pay383,
    k0_pay23, k0_pay73, k0_pay123, k0_pay178, k0_pay232, k0_pay236, k0_pay293, k0_pay347, k0_pay397]
  unfold blocks
  generalize iblk m c 0 t = x0, iblk m c 1 t = x1, iblk m c 2 t = x2, iblk m c 3 t = x3, iblk m c 4 t = x4, iblk m c 5 t = x5,
    iblk m c 6 t = x6, iblk m c 7 t = x7, iblk m c 8 t = x8, iblk m c 9 t = x9, iblk m c 10 t = x10
  repeat refine List.forall_mem_cons.mpr ⟨tile _ (hb := by decide) (by decide) (by decide) (by decide) rfl, ?_⟩
  exact fun p hp => absurd hp List.not_mem_nil

set_option maxHeartbeats 20000000 in
theorem later_u (c : Dev nD) (t : Fin cfg0.N) (h0 : ¬ t.val % 4 = 0) (D : Vec Ideal S512x128 .f32)
    (hD : (outsAt0 m c (t.val - 1) (by omega)).2.2.2.2.2.2.2.2 = D) (y) :
    (outsAt0 m c t.val t.isLt).2.2.1 y = tiles (fun q => dU (blocks m c t) q (carried (blocks m c t) D (7 - q.val))) y := by
  rw [outsAt0_B m c t h0]
  dsimp only
  rw [hD]
  unfold out0_B_13
  refine View.read_writes_apply_of_pieces (Val := Elt Ideal) _ _ _ _ ?_ y (by exact cover0_B_13 (F := Ideal) (y := y) ..)
  frame_open
  simp (disch := decide) only [↓ View.readCov_skip, ↓ View.readCov_cons_toLoadRect, ↓ View.readCov_fill]
  simp (disch := decide) only [View.ld_unit_lit', View.readCov_unit_lit', View.readCov_cons_unit_lit', View.readAt_eq_ld, Memref.IsWhole.read_unread, read_unread_whole]
  simp only [stack_eq, stack_eq', Memref.IsWhole.read_unread, read_unread_whole, shapeCast_self, slab_eq, wide_eq, square_eq, tall_eq,
    k0_pay4, k0_pay5, k0_pay6, k0_pay7, k0_pay8, k0_pay9, k0_pay54, k0_pay55, k0_pay56, k0_pay57, k0_pay58, k0_pay59, k0_pay60, k0_pay61, k0_pay105, k0_pay106, k0_pay107, k0_pay108, k0_pay109, k0_pay110, k0_pay119, k0_pay158, k0_pay159, k0_pay160, k0_pay161, k0_pay162, k0_pay163, k0_pay164, k0_pay165, k0_pay166, k0_pay214, k0_pay215, k0_pay216, k0_pay217, k0_pay218, k0_pay219, k0_pay220, k0_pay221, k0_pay222, k0_pay274, k0_pay275, k0_pay276, k0_pay277, k0_pay278, k0_pay279, k0_pay329, k0_pay330, k0_pay331, k0_pay332, k0_pay333, k0_pay377, k0_pay378, k0_pay379, k0_pay380, k0_pay381, k0_pay382, k0_pay383,
    k0_pay23, k0_pay73, k0_pay123, k0_pay178, k0_pay232, k0_pay236, k0_pay293, k0_pay347, k0_pay397]
  unfold blocks
  generalize iblk m c 0 t = x0, iblk m c 1 t = x1, iblk m c 2 t = x2, iblk m c 3 t = x3, iblk m c 4 t = x4, iblk m c 5 t = x5,
    iblk m c 6 t = x6, iblk m c 7 t = x7, iblk m c 8 t = x8, iblk m c 9 t = x9, iblk m c 10 t = x10
  repeat refine List.forall_mem_cons.mpr ⟨tile _ (hb := by decide) (by decide) (by decide) (by decide) rfl, ?_⟩
  exact fun p hp => absurd hp List.not_mem_nil

set_option maxHeartbeats 20000000 in
theorem later_w (c : Dev nD) (t : Fin cfg0.N) (h0 : ¬ t.val % 4 = 0) (D : Vec Ideal S512x128 .f32)
    (hD : (outsAt0 m c (t.val - 1) (by omega)).2.2.2.2.2.2.2.2 = D) (y) :
    (outsAt0 m c t.val t.isLt).2.2.2.1 y = tiles (fun q => dW (blocks m c t) q (carried (blocks m c t) D (7 - q.val))) y := by
  rw [outsAt0_B m c t h0]
  dsimp only
  rw [hD]
  unfold out0_B_14
  refine View.read_writes_apply_of_pieces (Val := Elt Ideal) _ _ _ _ ?_ y (by exact cover0_B_14 (F := Ideal) (y := y) ..)
  frame_open
  simp (disch := decide) only [↓ View.readCov_skip, ↓ View.readCov_cons_toLoadRect, ↓ View.readCov_fill]
  simp (disch := decide) only [View.ld_unit_lit', View.readCov_unit_lit', View.readCov_cons_unit_lit', View.readAt_eq_ld, Memref.IsWhole.read_unread, read_unread_whole]
  simp only [stack_eq, stack_eq', Memref.IsWhole.read_unread, read_unread_whole, shapeCast_self, slab_eq, wide_eq, square_eq, tall_eq,
    k0_pay4, k0_pay5, k0_pay6, k0_pay7, k0_pay8, k0_pay9, k0_pay54, k0_pay55, k0_pay56, k0_pay57, k0_pay58, k0_pay59, k0_pay60, k0_pay61, k0_pay105, k0_pay106, k0_pay107, k0_pay108, k0_pay109, k0_pay110, k0_pay119, k0_pay158, k0_pay159, k0_pay160, k0_pay161, k0_pay162, k0_pay163, k0_pay164, k0_pay165, k0_pay166, k0_pay214, k0_pay215, k0_pay216, k0_pay217, k0_pay218, k0_pay219, k0_pay220, k0_pay221, k0_pay222, k0_pay274, k0_pay275, k0_pay276, k0_pay277, k0_pay278, k0_pay279, k0_pay329, k0_pay330, k0_pay331, k0_pay332, k0_pay333, k0_pay377, k0_pay378, k0_pay379, k0_pay380, k0_pay381, k0_pay382, k0_pay383,
    k0_pay23, k0_pay73, k0_pay123, k0_pay178, k0_pay232, k0_pay236, k0_pay293, k0_pay347, k0_pay397]
  unfold blocks
  generalize iblk m c 0 t = x0, iblk m c 1 t = x1, iblk m c 2 t = x2, iblk m c 3 t = x3, iblk m c 4 t = x4, iblk m c 5 t = x5,
    iblk m c 6 t = x6, iblk m c 7 t = x7, iblk m c 8 t = x8, iblk m c 9 t = x9, iblk m c 10 t = x10
  repeat refine List.forall_mem_cons.mpr ⟨tile _ (hb := by decide) (by decide) (by decide) (by decide) rfl, ?_⟩
  exact fun p hp => absurd hp List.not_mem_nil

set_option maxHeartbeats 20000000 in
theorem later_q (c : Dev nD) (t : Fin cfg0.N) (h0 : ¬ t.val % 4 = 0) (D : Vec Ideal S512x128 .f32)
    (hD : (outsAt0 m c (t.val - 1) (by omega)).2.2.2.2.2.2.2.2 = D) (y) :
    (outsAt0 m c t.val t.isLt).2.2.2.2.2.1 y = tiles (fun q => dQ (blocks m c t) q) y := by
  rw [outsAt0_B m c t h0]
  dsimp only
  rw [hD]
  unfold out0_B_16
  refine View.read_writes_apply_of_pieces (Val := Elt Ideal) _ _ _ _ ?_ y (by exact cover0_B_16 (F := Ideal) (y := y) ..)
  frame_open
  simp (disch := decide) only [↓ View.readCov_skip, ↓ View.readCov_cons_toLoadRect, ↓ View.readCov_fill]
  simp (disch := decide) only [View.ld_unit_lit', View.readCov_unit_lit', View.readCov_cons_unit_lit', View.readAt_eq_ld, Memref.IsWhole.read_unread, read_unread_whole]
  simp only [stack_eq, stack_eq', Memref.IsWhole.read_unread, read_unread_whole, shapeCast_self, slab_eq, wide_eq, square_eq, tall_eq,
    k0_pay4, k0_pay5, k0_pay6, k0_pay7, k0_pay8, k0_pay9, k0_pay54, k0_pay55, k0_pay56, k0_pay57, k0_pay58, k0_pay59, k0_pay60, k0_pay61, k0_pay105, k0_pay106, k0_pay107, k0_pay108, k0_pay109, k0_pay110, k0_pay119, k0_pay158, k0_pay159, k0_pay160, k0_pay161, k0_pay162, k0_pay163, k0_pay164, k0_pay165, k0_pay166, k0_pay214, k0_pay215, k0_pay216, k0_pay217, k0_pay218, k0_pay219, k0_pay220, k0_pay221, k0_pay222, k0_pay274, k0_pay275, k0_pay276, k0_pay277, k0_pay278, k0_pay279, k0_pay329, k0_pay330, k0_pay331, k0_pay332, k0_pay333, k0_pay377, k0_pay378, k0_pay379, k0_pay380, k0_pay381, k0_pay382, k0_pay383,
    k0_pay23, k0_pay73, k0_pay123, k0_pay178, k0_pay232, k0_pay236, k0_pay293, k0_pay347, k0_pay397, k0_pay180, k0_pay238, k0_pay295, k0_pay296, k0_pay349, k0_pay350, k0_pay351, k0_pay352]
  unfold blocks
  generalize iblk m c 0 t = x0, iblk m c 1 t = x1, iblk m c 2 t = x2, iblk m c 3 t = x3, iblk m c 4 t = x4, iblk m c 5 t = x5,
    iblk m c 6 t = x6, iblk m c 7 t = x7, iblk m c 8 t = x8, iblk m c 9 t = x9, iblk m c 10 t = x10
  repeat refine List.forall_mem_cons.mpr ⟨tile _ (hb := by decide) (by decide) (by decide) (by decide) rfl, ?_⟩
  exact fun p hp => absurd hp List.not_mem_nil

set_option maxHeartbeats 20000000 in
theorem later_k (c : Dev nD) (t : Fin cfg0.N) (h0 : ¬ t.val % 4 = 0) (D : Vec Ideal S512x128 .f32)
    (hD : (outsAt0 m c (t.val - 1) (by omega)).2.2.2.2.2.2.2.2 = D) (y) :
    (outsAt0 m c t.val t.isLt).2.2.2.2.2.2.1 y = tiles (fun q => dK (blocks m c t) q (carried (blocks m c t) D (7 - q.val))) y := by
  rw [outsAt0_B m c t h0]
  dsimp only
  rw [hD]
  unfold out0_B_17
  refine View.read_writes_apply_of_pieces (Val := Elt Ideal) _ _ _ _ ?_ y (by exact cover0_B_17 (F := Ideal) (y := y) ..)
  frame_open
  simp (disch := decide) only [↓ View.readCov_skip, ↓ View.readCov_cons_toLoadRect, ↓ View.readCov_fill]
  simp (disch := decide) only [View.ld_unit_lit', View.readCov_unit_lit', View.readCov_cons_unit_lit', View.readAt_eq_ld, Memref.IsWhole.read_unread, read_unread_whole]
  simp only [stack_eq, stack_eq', Memref.IsWhole.read_unread, read_unread_whole, shapeCast_self, slab_eq, wide_eq, square_eq, tall_eq,
    k0_pay4, k0_pay5, k0_pay6, k0_pay7, k0_pay8, k0_pay9, k0_pay54, k0_pay55, k0_pay56, k0_pay57, k0_pay58, k0_pay59, k0_pay60, k0_pay61, k0_pay105, k0_pay106, k0_pay107, k0_pay108, k0_pay109, k0_pay110, k0_pay119, k0_pay158, k0_pay159, k0_pay160, k0_pay161, k0_pay162, k0_pay163, k0_pay164, k0_pay165, k0_pay166, k0_pay214, k0_pay215, k0_pay216, k0_pay217, k0_pay218, k0_pay219, k0_pay220, k0_pay221, k0_pay222, k0_pay274, k0_pay275, k0_pay276, k0_pay277, k0_pay278, k0_pay279, k0_pay329, k0_pay330, k0_pay331, k0_pay332, k0_pay333, k0_pay377, k0_pay378, k0_pay379, k0_pay380, k0_pay381, k0_pay382, k0_pay383,
    k0_pay23, k0_pay73, k0_pay123, k0_pay178, k0_pay232, k0_pay236, k0_pay293, k0_pay347, k0_pay397]
  unfold blocks
  generalize iblk m c 0 t = x0, iblk m c 1 t = x1, iblk m c 2 t = x2, iblk m c 3 t = x3, iblk m c 4 t = x4, iblk m c 5 t = x5,
    iblk m c 6 t = x6, iblk m c 7 t = x7, iblk m c 8 t = x8, iblk m c 9 t = x9, iblk m c 10 t = x10
  repeat refine List.forall_mem_cons.mpr ⟨tile _ (hb := by decide) (by decide) (by decide) (by decide) rfl, ?_⟩
  exact fun p hp => absurd hp List.not_mem_nil

set_option maxHeartbeats 20000000 in
theorem later_g (c : Dev nD) (t : Fin cfg0.N) (h0 : ¬ t.val % 4 = 0) (D : Vec Ideal S512x128 .f32)
    (hD : (outsAt0 m c (t.val - 1) (by omega)).2.2.2.2.2.2.2.2 = D) (y) :
    (outsAt0 m c t.val t.isLt).2.2.2.2.2.2.2.1 y = bands (fun q => dG (blocks m c t) q (carried (blocks m c t) D (7 - q.val))) y := by
  rw [outsAt0_B m c t h0]
  dsimp only
  rw [hD]
  unfold out0_B_18
  refine View.read_writes_apply_of_pieces (Val := Elt Ideal) _ _ _ _ ?_ y (by exact cover0_B_18 (F := Ideal) (y := y) ..)
  frame_open
  simp (disch := decide) only [↓ View.readCov_skip, ↓ View.readCov_cons_toLoadRect, ↓ View.readCov_fill]
  simp (disch := decide) only [View.ld_unit_lit', View.readCov_unit_lit', View.readCov_cons_unit_lit', View.readAt_eq_ld, Memref.IsWhole.read_unread, read_unread_whole]
  simp only [stack_eq, stack_eq', Memref.IsWhole.read_unread, read_unread_whole, shapeCast_self, slab_eq, wide_eq, square_eq, tall_eq,
    k0_pay4, k0_pay5, k0_pay6, k0_pay7, k0_pay8, k0_pay9, k0_pay54, k0_pay55, k0_pay56, k0_pay57, k0_pay58, k0_pay59, k0_pay60, k0_pay61, k0_pay105, k0_pay106, k0_pay107, k0_pay108, k0_pay109, k0_pay110, k0_pay119, k0_pay158, k0_pay159, k0_pay160, k0_pay161, k0_pay162, k0_pay163, k0_pay164, k0_pay165, k0_pay166, k0_pay214, k0_pay215, k0_pay216, k0_pay217, k0_pay218, k0_pay219, k0_pay220, k0_pay221, k0_pay222, k0_pay274, k0_pay275, k0_pay276, k0_pay277, k0_pay278, k0_pay279, k0_pay329, k0_pay330, k0_pay331, k0_pay332, k0_pay333, k0_pay377, k0_pay378, k0_pay379, k0_pay380, k0_pay381, k0_pay382, k0_pay383,
    k0_pay23, k0_pay73, k0_pay123, k0_pay178, k0_pay232, k0_pay236, k0_pay293, k0_pay347, k0_pay397]
  unfold blocks
  generalize iblk m c 0 t = x0, iblk m c 1 t = x1, iblk m c 2 t = x2, iblk m c 3 t = x3, iblk m c 4 t = x4, iblk m c 5 t = x5,
    iblk m c 6 t = x6, iblk m c 7 t = x7, iblk m c 8 t = x8, iblk m c 9 t = x9, iblk m c 10 t = x10
  repeat refine List.forall_mem_cons.mpr ⟨band _ (hb := by decide) (by decide) (by decide) (by decide) rfl, ?_⟩
  exact fun p hp => absurd hp List.not_mem_nil

end Cert.Kernel3Ideal.Scan
-- ==== Proof.ScanResults.lean ====
module

public import proofs.«01_k».proof.Proof.ScanSpec

@[expose] public section

/-!
# The arrays that the scan's backward call leaves
-/

noncomputable section

namespace Scan

open Idealize.ShloMosaic

/-- An array by token, with the heads side by side. -/
def tokens (P : Arr 64 128) : (⟨2, ![2048, 512]⟩ : Shape).Idx → EReal := fun y =>
  P ⟨(y 0).val / 64, by have : (y 0).val < 2048 := (y 0).isLt; omega⟩ ⟨(y 1).val / 128, by have : (y 1).val < 512 := (y 1).isLt; omega⟩
    ⟨(y 0).val % 64, by omega⟩ ⟨(y 1).val % 128, by omega⟩

/-- One value per chunk and head, over eight rows and the head's 128 columns. -/
def decays (P : Fin 32 → Fin 4 → EReal) : (⟨3, ![32, 8, 512]⟩ : Shape).Idx → EReal := fun y =>
  P (y 0) ⟨(y 2).val / 128, by have : (y 2).val < 512 := (y 2).isLt; omega⟩

variable (X : Args)

def outZ := tokens (dZ X)
def outN : (⟨2, ![1, 128]⟩ : Shape).Idx → EReal := fun y => summed X 32 (y 1)
def outU := tokens fun n h => dU X n h (after X n h)
def outW := tokens fun n h => dW X n h (after X n h)
def outQ := tokens (dQ X)
def outK := tokens fun n h => dK X n h (after X n h)
def outG := decays fun n h => dG X n h (after X n h)

end Scan
-- ==== Proof.ScanFinal.lean ====
module

public import proofs.«01_k».proof.Proof.ScanBlocks
public import proofs.«01_k».proof.Proof.ScanCarry
public import proofs.«01_k».proof.Proof.ScanCarryA
public import proofs.«01_k».proof.Proof.ScanPointA
public import proofs.«01_k».proof.Proof.ScanPointB
public import proofs.«01_k».proof.Proof.ScanResults

@[expose] public section

set_option maxRecDepth 16384

/-!
# What the scan's backward call leaves
-/

noncomputable section

namespace Cert.Kernel3Ideal.Scan

open Cert.Kernel3Ideal Cert.Kernel3Ideal.Gen Idealize.ShloMosaic Idealize.ShloMosaic.TcCoe

variable (m : (ℓ : Loc nD τ sig) → Buf (Elt Ideal) ℓ) (c : Dev nD)

/-! ## From point to point -/

/-- The gradient at the state that a point starts from, and the one at the norm's weights. -/
def start (t : Fin cfg0.N) : Vec Ideal S512x128 .f32 :=
  if t.val % 4 = 0 then k0_pay1 (F := Ideal) else (outsAt0 m c (t.val - 1) (by omega)).2.2.2.2.2.2.2.2

def norm (t : Fin cfg0.N) : Vec Ideal S1x128 .f32 :=
  if t.val % 4 = 0 then k0_pay2 (F := Ideal) else (outsAt0 m c (t.val - 1) (by omega)).2.1

theorem start_first {t : Fin cfg0.N} (h0 : t.val % 4 = 0) : start m c t = k0_pay1 (F := Ideal) := if_pos h0
theorem start_later {t : Fin cfg0.N} (h0 : ¬ t.val % 4 = 0) : (outsAt0 m c (t.val - 1) (by omega)).2.2.2.2.2.2.2.2 = start m c t :=
  (if_neg h0).symm
theorem norm_first {t : Fin cfg0.N} (h0 : t.val % 4 = 0) : norm m c t = k0_pay2 (F := Ideal) := if_pos h0
theorem norm_later {t : Fin cfg0.N} (h0 : ¬ t.val % 4 = 0) : (outsAt0 m c (t.val - 1) (by omega)).2.1 = norm m c t := (if_neg h0).symm

section
variable (t : Fin cfg0.N)

theorem point_scratch (y) : (outsAt0 m c t.val t.isLt).2.2.2.2.2.2.2.2 y = carried (blocks m c t) (start m c t) 8 y := by
  by_cases h0 : t.val % 4 = 0
  · rw [first_scratch m c t h0, start_first m c h0]
  · rw [later_scratch m c t h0, start_later m c h0]

theorem point_norm (y) : (outsAt0 m c t.val t.isLt).2.1 y = summed (blocks m c t) (norm m c t) 8 y := by
  by_cases h0 : t.val % 4 = 0
  · rw [first_norm m c t h0, norm_first m c h0]
  · rw [later_norm m c t h0, norm_later m c h0]

theorem point_z (y) : (outsAt0 m c t.val t.isLt).1 y = tiles (fun q => dZr (blocks m c t) q) y := by
  by_cases h0 : t.val % 4 = 0
  · exact first_z m c t h0 y
  · exact later_z m c t h0 _ (start_later m c h0) y

theorem point_u (y) : (outsAt0 m c t.val t.isLt).2.2.1 y
    = tiles (fun q => dU (blocks m c t) q (carried (blocks m c t) (start m c t) (7 - q.val))) y := by
  by_cases h0 : t.val % 4 = 0
  · rw [first_u m c t h0, start_first m c h0]
  · exact later_u m c t h0 _ (start_later m c h0) y

theorem point_w (y) : (outsAt0 m c t.val t.isLt).2.2.2.1 y
    = tiles (fun q => dW (blocks m c t) q (carried (blocks m c t) (start m c t) (7 - q.val))) y := by
  by_cases h0 : t.val % 4 = 0
  · rw [first_w m c t h0, start_first m c h0]
  · exact later_w m c t h0 _ (start_later m c h0) y

theorem point_q (y) : (outsAt0 m c t.val t.isLt).2.2.2.2.2.1 y = tiles (fun q => dQ (blocks m c t) q) y := by
  by_cases h0 : t.val % 4 = 0
  · exact first_q m c t h0 y
  · exact later_q m c t h0 _ (start_later m c h0) y

theorem point_k (y) : (outsAt0 m c t.val t.isLt).2.2.2.2.2.2.1 y
    = tiles (fun q => dK (blocks m c t) q (carried (blocks m c t) (start m c t) (7 - q.val))) y := by
  by_cases h0 : t.val % 4 = 0
  · rw [first_k m c t h0, start_first m c h0]
  · exact later_k m c t h0 _ (start_later m c h0) y

theorem point_g (y) : (outsAt0 m c t.val t.isLt).2.2.2.2.2.2.2.1 y
    = bands (fun q => dG (blocks m c t) q (carried (blocks m c t) (start m c t) (7 - q.val))) y := by
  by_cases h0 : t.val % 4 = 0
  · rw [first_g m c t h0, start_first m c h0]
  · exact later_g m c t h0 _ (start_later m c h0) y

end

theorem points (t : Fin cfg0.N) : t.val < 4 := t.isLt

theorem started (k : ℕ) : ∀ (hk : k < cfg0.N) (h : Fin 4) (e j : Fin 128),
    start m c ⟨k, hk⟩ (ix2 (col h e) j) = _root_.Scan.back (args m c) (8 * k) h e j := by
  induction k with
  | zero =>
    intro hk h e j
    rw [start_first m c rfl]
    unfold k0_pay1
    pointwise
    rfl
  | succ k ih =>
    intro hk h e j
    have h4 := points ⟨k + 1, hk⟩
    rw [← start_later m c (by show ¬ (k + 1) % 4 = 0; simp at h4; omega)]
    refine (point_scratch m c ⟨k, by omega⟩ _).trans ?_
    exact at_carried (holds m c ⟨k, by omega⟩) (ih (by omega)) 8 le_rfl h e j

theorem normed (k : ℕ) : ∀ (hk : k < cfg0.N) (j : Fin 128), norm m c ⟨k, hk⟩ (ix2 0 j) = _root_.Scan.summed (args m c) (8 * k) j := by
  induction k with
  | zero =>
    intro hk j
    rw [norm_first m c rfl]
    unfold k0_pay2
    pointwise
    rfl
  | succ k ih =>
    intro hk j
    have h4 := points ⟨k + 1, hk⟩
    rw [← norm_later m c (by show ¬ (k + 1) % 4 = 0; simp at h4; omega)]
    refine (point_norm m c ⟨k, by omega⟩ _).trans ?_
    exact at_summed (holds m c ⟨k, by omega⟩) (ih (by omega)) 8 le_rfl j

/-! ## From a point's blocks to the whole arrays -/

section
variable (t : Fin cfg0.N)

theorem carried_at (q : Fin 8) (h : Fin 4) (e j : Fin 128) : carried (blocks m c t) (start m c t) (7 - q.val) (ix2 (col h e) j)
    = _root_.Scan.after (args m c) (chunk (8 * t.val) q) h e j := by
  have h4 := points t
  refine (at_carried (holds m c t) (started m c t.val t.isLt) (7 - q.val) (by omega) h e j).trans ?_
  have e : 31 - (31 - (8 * t.val + (7 - q.val))) = 8 * t.val + (7 - q.val) := by omega
  show _ = _root_.Scan.back (args m c) (31 - (31 - (8 * t.val + (7 - q.val)))) h _ j
  rw [e]

theorem tiles_at {P : Fin 8 → Vec Ideal S256x128 .f32} {G : _root_.Scan.Arr 64 128}
    (hP : ∀ q h i j, P q (ix2 (row h i) j) = G (chunk (8 * t.val) q) h i j) (y : S512x512.Idx) :
    tiles P y = _root_.Scan.tokens G (ix2 (n1 := 512) ⟨512 * (3 - t.val) + (y 0).val, by have := (y 0).isLt; simp at this; omega⟩ (y 1)) := by
  have h4 := points t
  have h0 : (y 0).val < 512 := (y 0).isLt
  have h1 : (y 1).val < 512 := (y 1).isLt
  refine (hP ⟨(y 0).val / 64, by omega⟩ ⟨(y 1).val / 128, by omega⟩ ⟨(y 0).val % 64, by omega⟩ ⟨(y 1).val % 128, by omega⟩).trans ?_
  unfold _root_.Scan.tokens
  refine congr (congr (congr (congrArg G (Fin.ext ?_)) rfl) (Fin.ext ?_)) rfl
  · show 31 - (8 * t.val + (7 - (y 0).val / 64)) = (512 * (3 - t.val) + (y 0).val) / 64
    omega
  · show (y 0).val % 64 = (512 * (3 - t.val) + (y 0).val) % 64
    omega

end

/-- A flushed block of eight chunks is the part of the array that its point stands at. -/
theorem bands_at (t : Fin cfg0.N) {P : Fin 8 → Fin 4 → Vec Ideal S1x8x128 .f32} {G : Fin 32 → Fin 4 → EReal}
    (hP : ∀ q h b j, P q h (ix3 0 b j) = G (chunk (8 * t.val) q) h) (y : S8x8x512.Idx) :
    bands P y = _root_.Scan.decays G
      (ix3 (n0 := 32) (n1 := 8) (n2 := 512) ⟨8 * (3 - t.val) + (y 0).val, by have : (y 0).val < 8 := (y 0).isLt; omega⟩ (y 1) (y 2)) := by
  have h4 := points t
  have h0 : (y 0).val < 8 := (y 0).isLt
  refine (hP ..).trans ?_
  unfold _root_.Scan.decays
  refine congr (congrArg G (Fin.ext ?_)) rfl
  show 31 - (8 * t.val + (7 - (y 0).val)) = 8 * (3 - t.val) + (y 0).val
  omega

theorem final_z : (dats m 0 c).arrAt 11 cfg0.N = _root_.Scan.outZ (args m c) := by
  refine (dats m 0 c).arrAt_eq_of_covers 11 _ (by decide +kernel) fun t hf y => ?_
  obtain ⟨-, -, -, -, -, -, -, -, -, -, -, p, -⟩ := place t
  blk_simp
  rw [after0_11]
  refine (point_z m c t y).trans ((tiles_at t (fun q h => at_dZ (holds m c t) q h) y).trans (congrArg _ ?_))
  blk_ext [p]

theorem final_u : (dats m 0 c).arrAt 13 cfg0.N = _root_.Scan.outU (args m c) := by
  refine (dats m 0 c).arrAt_eq_of_covers 13 _ (by decide +kernel) fun t hf y => ?_
  obtain ⟨-, -, -, -, -, -, -, -, -, -, -, -, -, p, -⟩ := place t
  blk_simp
  rw [after0_13]
  refine (point_u m c t y).trans ((tiles_at t (fun q h => at_dU (holds m c t) q h (carried_at m c t q)) y).trans (congrArg _ ?_))
  blk_ext [p]

theorem final_w : (dats m 0 c).arrAt 14 cfg0.N = _root_.Scan.outW (args m c) := by
  refine (dats m 0 c).arrAt_eq_of_covers 14 _ (by decide +kernel) fun t hf y => ?_
  obtain ⟨-, -, -, -, -, -, -, -, -, -, -, -, -, -, p, -⟩ := place t
  blk_simp
  rw [after0_14]
  refine (point_w m c t y).trans ((tiles_at t (fun q h => at_dW (holds m c t) q h (carried_at m c t q)) y).trans (congrArg _ ?_))
  blk_ext [p]

theorem final_q : (dats m 0 c).arrAt 16 cfg0.N = _root_.Scan.outQ (args m c) := by
  refine (dats m 0 c).arrAt_eq_of_covers 16 _ (by decide +kernel) fun t hf y => ?_
  obtain ⟨-, -, -, -, -, -, -, -, -, -, -, -, -, -, -, p, -⟩ := place t
  blk_simp
  rw [after0_16]
  refine (point_q m c t y).trans ((tiles_at t (fun q h => at_dQ (holds m c t) q h) y).trans (congrArg _ ?_))
  blk_ext [p]

theorem final_k : (dats m 0 c).arrAt 17 cfg0.N = _root_.Scan.outK (args m c) := by
  refine (dats m 0 c).arrAt_eq_of_covers 17 _ (by decide +kernel) fun t hf y => ?_
  obtain ⟨-, -, -, -, -, -, -, -, -, -, -, -, -, -, -, -, p, -⟩ := place t
  blk_simp
  rw [after0_17]
  refine (point_k m c t y).trans ((tiles_at t (fun q h => at_dK (holds m c t) q h (carried_at m c t q)) y).trans (congrArg _ ?_))
  blk_ext [p]

theorem final_g : (dats m 0 c).arrAt 18 cfg0.N = _root_.Scan.outG (args m c) := by
  refine (dats m 0 c).arrAt_eq_of_covers 18 _ (by decide +kernel) fun t hf y => ?_
  obtain ⟨-, -, -, -, -, -, -, -, -, -, -, -, -, -, -, -, -, p⟩ := place t
  blk_simp
  rw [after0_18]
  refine (point_g m c t y).trans ((bands_at t (fun q h => at_dG (holds m c t) q h (carried_at m c t q)) y).trans (congrArg _ ?_))
  blk_ext [p]

theorem final_n : (dats m 0 c).arrAt 12 cfg0.N = _root_.Scan.outN (args m c) := by
  refine (dats m 0 c).arrAt_eq_of_covers 12 _ (by decide +kernel) fun t hf y => ?_
  obtain ⟨-, -, -, -, -, -, -, -, -, -, -, -, p, -⟩ := place t
  have h4 := points t
  have h3 := (flush0_12 t).mp hf
  have e : 8 * t.val + 8 = 32 := by omega
  have at_end (j : Fin 128) : (outsAt0 m c t.val t.isLt).2.1 (ix2 0 j) = _root_.Scan.summed (args m c) 32 j := by
    refine (point_norm m c t _).trans ((at_summed (holds m c t) (normed m c t.val t.isLt) 8 le_rfl j).trans ?_)
    rw [e]
  blk_simp
  rw [after0_12]
  have hy : y = ix2 (0 : Fin 1) (y 1) := by blk_ext
  refine (congrArg _ hy).trans ((at_end (y 1)).trans ?_)
  have at_y : (win0_12.blk t).view.emb y = ix2 (0 : Fin 1) (y 1) := by blk_ext [p]
  exact congrArg (fun i : S1x128.Idx => _root_.Scan.summed (args m c) 32 (i 1)) (hy.trans at_y.symm)

end Cert.Kernel3Ideal.Scan
-- ==== Proof.ScanReference.lean ====
module

public import proofs.«01_k».proof.Proof.Gen.Reference3Ideal.Run
public import proofs.«01_k».proof.Proof.ScanSpec
public import proofs.«01_k».proof.Proof.Finite
public import Idealize.ShloMosaic.Lib.Pointwise
public import Idealize.ShloMosaic.Lib.Pipeline.ValueKit

@[expose] public section

set_option maxRecDepth 16384

/-!
# One step of the reference's loop

Step `s` takes chunk `31 - s` of the arguments, moves the carried gradients on, and puts the chunk's gradients into their place.
-/

noncomputable section

namespace Cert.Reference3Ideal.Scan

open Cert.Reference3Ideal Cert.Reference3Ideal.Value Idealize.ShloMosaic Idealize.ShloMosaic.TcCoe _root_.Scan Mixer Norm

/-! ## A chunk read from an array, and put into it -/

section

variable {a b : ℕ} {start : Fin 5 → Int} {n : Fin 32} (h0 : start 0 = n.val) (h1 : start 1 = 0) (h2 : start 2 = 0)
  (h3 : start 3 = 0) (h4 : start 4 = 0)
include h0 h1 h2 h3 h4

theorem starts (hs) : ∀ k, Host.clampedStart ⟨5, ![32, 1, 4, a, b]⟩ ⟨5, ![1, 1, 4, a, b]⟩ hs start k = if k = 0 then n.val else 0 := by
  intro k
  have hn := n.isLt
  fin_cases k
  · exact Host.clampedStart_of_le _ _ _ _ h0 (by simp <;> omega)
  · exact Host.clampedStart_of_le _ _ _ 0 h1 (by simp)
  · exact Host.clampedStart_of_le _ _ _ 0 h2 (by simp)
  · exact Host.clampedStart_of_le _ _ _ 0 h3 (by simp)
  · exact Host.clampedStart_of_le _ _ _ 0 h4 (by simp)

theorem read5 (x : (⟨5, ![32, 1, 4, a, b]⟩ : Shape).Idx → EReal) (hf) (h : Fin 4) (i : Fin a) (j : Fin b) :
    Host.dynamicSlice ⟨5, ![1, 1, 4, a, b]⟩ x start hf (ix5 0 0 h i j) = x (ix5 n 0 h i j) := by
  rw [Host.dynamicSlice_apply]
  refine congrArg x (funext fun k => Fin.ext ?_)
  fin_cases k <;> simp [Shape.Idx.norm, starts h0 h1 h2 h3 h4, ix5]

theorem write5 (x : (⟨5, ![32, 1, 4, a, b]⟩ : Shape).Idx → EReal) (y : (⟨5, ![1, 1, 4, a, b]⟩ : Shape).Idx → EReal) (hf)
    (p : Fin 32) (h : Fin 4) (i : Fin a) (j : Fin b) :
    Host.dynamicUpdateSlice x y start hf (ix5 p 0 h i j) = if p = n then y (ix5 0 0 h i j) else x (ix5 p 0 h i j) := by
  rw [Host.dynamicUpdateSlice_apply]
  by_cases hp : p = n
  · subst hp
    rw [dif_pos (by intro k; rw [starts h0 h1 h2 h3 h4]; fin_cases k <;> simp [ix5]), if_pos rfl]
    refine congrArg y (funext fun k => Fin.ext ?_)
    fin_cases k <;> simp [Shape.Idx.norm, starts h0 h1 h2 h3 h4, ix5]
  · rw [dif_neg (fun hk => hp (Fin.ext ?_)), if_neg hp]
    obtain ⟨u1, u2⟩ := hk 0
    rw [starts h0 h1 h2 h3 h4, if_pos rfl] at u1 u2
    change n.val ≤ p.val at u1
    change p.val < n.val + 1 at u2
    omega

end

section

variable {start : Fin 3 → Int} {n : Fin 32} (h0 : start 0 = n.val) (h1 : start 1 = 0) (h2 : start 2 = 0)
include h0 h1 h2

theorem starts3 (hs) : ∀ k, Host.clampedStart ⟨3, ![32, 1, 4]⟩ ⟨3, ![1, 1, 4]⟩ hs start k = if k = 0 then n.val else 0 := by
  intro k
  have hn := n.isLt
  fin_cases k
  · exact Host.clampedStart_of_le _ _ _ _ h0 (by simp <;> omega)
  · exact Host.clampedStart_of_le _ _ _ 0 h1 (by simp)
  · exact Host.clampedStart_of_le _ _ _ 0 h2 (by simp)

theorem read3 (x : (⟨3, ![32, 1, 4]⟩ : Shape).Idx → EReal) (hf) (h : Fin 4) :
    Host.dynamicSlice ⟨3, ![1, 1, 4]⟩ x start hf (ix3 0 0 h) = x (ix3 n 0 h) := by
  rw [Host.dynamicSlice_apply]
  refine congrArg x (funext fun k => Fin.ext ?_)
  fin_cases k <;> simp [Shape.Idx.norm, starts3 h0 h1 h2, ix3]

theorem write3 (x : (⟨3, ![32, 1, 4]⟩ : Shape).Idx → EReal) (y : (⟨3, ![1, 1, 4]⟩ : Shape).Idx → EReal) (hf) (p : Fin 32) (h : Fin 4) :
    Host.dynamicUpdateSlice x y start hf (ix3 p 0 h) = if p = n then y (ix3 0 0 h) else x (ix3 p 0 h) := by
  rw [Host.dynamicUpdateSlice_apply]
  by_cases hp : p = n
  · subst hp
    rw [dif_pos (by intro k; rw [starts3 h0 h1 h2]; fin_cases k <;> simp [ix3]), if_pos rfl]
    refine congrArg y (funext fun k => Fin.ext ?_)
    fin_cases k <;> simp [Shape.Idx.norm, starts3 h0 h1 h2, ix3]
  · rw [dif_neg (fun hk => hp (Fin.ext ?_)), if_neg hp]
    obtain ⟨u1, u2⟩ := hk 0
    rw [starts3 h0 h1 h2, if_pos rfl] at u1 u2
    change n.val ≤ p.val at u1
    change p.val < n.val + 1 at u2
    omega

end

/-- A sum over the heads and the rows of a chunk. -/
theorem sum_tokens (hr : S1x4x64x128.ReducesTo [1, 2] S1x128) (x : S1x4x64x128.Idx → EReal) (j : Fin 128) :
    Ideal.hostReduceAdd hr x 0 (ix2 0 j) = ∑ h : Fin 4, ∑ i : Fin 64, x (ix4 0 h i j) := by
  rw [Ideal.hostReduceAdd, zero_add, ← Fintype.sum_prod_type']
  refine Finset.sum_bij' (fun k _ => (k 1, k 2)) (fun p _ => ix4 0 p.1 p.2 j) (fun _ _ => Finset.mem_univ _) (fun p _ => ?_) (fun k hk => ?_)
    (fun _ _ => rfl) fun k hk => ?_
  · refine Finset.mem_filter.mpr ⟨Finset.mem_univ _, ?_⟩
    funext a
    match a with
    | ⟨0, _⟩ => rfl
    | ⟨1, _⟩ => rfl
  all_goals
    have e : k 3 = j := congrFun (Finset.mem_filter.mp hk).2 1
    rw [← e]
  · blk_ext
  · refine congrArg x ?_
    blk_ext

/-! ## What the loop carries -/

/-- The carried buffers after `s` steps. -/
structure Holds (X : Args) (s : ℕ) (V : Valuation τ sig (Elt Ideal)) : Prop where
  st : ∀ n h i j, V (Proc.devRef .tc main_v13_0) (ix5 n 0 h i j) = X.st n h i j
  uv : ∀ n h i j, V (Proc.devRef .tc main_v13_1) (ix5 n 0 h i j) = X.uv n h i j
  wk : ∀ n h i j, V (Proc.devRef .tc main_v13_2) (ix5 n 0 h i j) = X.wk n h i j
  qd : ∀ n h i j, V (Proc.devRef .tc main_v13_3) (ix5 n 0 h i j) = X.qd n h i j
  att : ∀ n h i j, V (Proc.devRef .tc main_v13_4) (ix5 n 0 h i j) = X.att n h i j
  ke : ∀ n h i j, V (Proc.devRef .tc main_v13_5) (ix5 n 0 h i j) = X.ke n h i j
  g : ∀ n h, V (Proc.devRef .tc main_v13_6) (ix3 n 0 h) = X.g n h
  z : ∀ n h i j, V (Proc.devRef .tc main_v13_7) (ix5 n 0 h i j) = X.z n h i j
  d : ∀ n h i j, V (Proc.devRef .tc main_v13_8) (ix5 n 0 h i j) = X.d n h i j
  w : ∀ j, V (Proc.devRef .tc main_v13_9) (ix1 j) = X.w j
  count : V (Proc.devRef .tc main_v13_10) = fun _ => BitVec.ofNat 32 s
  back : ∀ h i j, V (Proc.devRef .tc main_v13_11) (ix4 0 h i j) = back X s h i j
  summed : ∀ j, V (Proc.devRef .tc main_v13_12) (ix1 j) = summed X s j
  dz : ∀ n : Fin 32, 31 - n.val < s → ∀ h i j, V (Proc.devRef .tc main_v13_13) (ix5 n 0 h i j) = dZ X n h i j
  du : ∀ n : Fin 32, 31 - n.val < s → ∀ h i j, V (Proc.devRef .tc main_v13_14) (ix5 n 0 h i j) = dU X n h (after X n h) i j
  dw : ∀ n : Fin 32, 31 - n.val < s → ∀ h i j, V (Proc.devRef .tc main_v13_15) (ix5 n 0 h i j) = dW X n h (after X n h) i j
  dq : ∀ n : Fin 32, 31 - n.val < s → ∀ h i j, V (Proc.devRef .tc main_v13_16) (ix5 n 0 h i j) = dQ X n h i j
  dk : ∀ n : Fin 32, 31 - n.val < s → ∀ h i j, V (Proc.devRef .tc main_v13_17) (ix5 n 0 h i j) = dK X n h (after X n h) i j
  dg : ∀ n : Fin 32, 31 - n.val < s → ∀ h, V (Proc.devRef .tc main_v13_18) (ix3 n 0 h) = dG X n h (after X n h)

/-- Where a chunk is read and put. -/
def place5 (V : Valuation τ sig (Elt Ideal)) : Fin 5 → Int := fun k =>
  ((![res_main_while0b_v30 V, constantI S_ 32 0#32, constantI S_ 32 0#32, constantI S_ 32 0#32, constantI S_ 32 0#32] :
    Fin 5 → (⟨S_, .i32⟩ : BufTy).Contents (Elt Ideal)) k (Shape.Idx.first Gen.h_S_)).toInt

def place3 (V : Valuation τ sig (Elt Ideal)) : Fin 3 → Int := fun k =>
  ((![res_main_while0b_v30 V, constantI S_ 32 0#32, constantI S_ 32 0#32] :
    Fin 3 → (⟨S_, .i32⟩ : BufTy).Contents (Elt Ideal)) k (Shape.Idx.first Gen.h_S_)).toInt

/-- A block of one chunk without the chunk's axis. -/
theorem bare_state (x : FVec Ideal S1x1x4x128x128 .f32) (hc) (h : Fin 4) (i j : Fin 128) :
    shapeCast S1x4x128x128 x hc (ix4 0 h i j) = x (ix5 0 0 h i j) := by
  pointwise

theorem bare_rows (x : FVec Ideal S1x1x4x64x128 .f32) (hc) (h : Fin 4) (i : Fin 64) (j : Fin 128) :
    shapeCast S1x4x64x128 x hc (ix4 0 h i j) = x (ix5 0 0 h i j) := by
  pointwise

theorem bare_square (x : FVec Ideal S1x1x4x64x64 .f32) (hc) (h : Fin 4) (i j : Fin 64) :
    shapeCast S1x4x64x64 x hc (ix4 0 h i j) = x (ix5 0 0 h i j) := by
  pointwise

theorem bare_heads (x : FVec Ideal S1x1x4 .f32) (hc) (h : Fin 4) : shapeCast S1x4 x hc (ix2 0 h) = x (ix3 0 0 h) := by
  pointwise

variable {X : Args} {s : ℕ} {V : Valuation τ sig (Elt Ideal)} (H : Holds X s V) (hs : s < 32) (h : Fin 4)
include H hs

theorem number : (res_main_while0b_v30 V (Shape.Idx.first Gen.h_S_)).toInt = (at_ s).val := by
  unfold res_main_while0b_v30
  rw [H.count]
  interval_cases s <;> rfl

theorem take {a b : ℕ} (x : (⟨5, ![32, 1, 4, a, b]⟩ : Shape).Idx → EReal) (hf) (i : Fin a) (j : Fin b) :
    Host.dynamicSlice ⟨5, ![1, 1, 4, a, b]⟩ x (place5 V) hf (ix5 0 0 h i j) = x (ix5 (at_ s) 0 h i j) :=
  read5 (number H hs) rfl rfl rfl rfl x hf h i j

theorem put {a b : ℕ} (x : (⟨5, ![32, 1, 4, a, b]⟩ : Shape).Idx → EReal) (y : (⟨5, ![1, 1, 4, a, b]⟩ : Shape).Idx → EReal) (hf)
    (p : Fin 32) (i : Fin a) (j : Fin b) :
    Host.dynamicUpdateSlice x y (place5 V) hf (ix5 p 0 h i j) = if p = at_ s then y (ix5 0 0 h i j) else x (ix5 p 0 h i j) :=
  write5 (number H hs) rfl rfl rfl rfl x y hf p h i j

theorem chunk_st (i j : Fin 128) : res_main_while0b_v31 V (ix4 0 h i j) = X.st (at_ s) h i j :=
  (bare_state _ _ h i j).trans ((take H hs h (V (Proc.devRef .tc main_v13_0)) _ i j).trans (H.st ..))

theorem chunk_wk (i : Fin 64) (j : Fin 128) : res_main_while0b_v33 V (ix4 0 h i j) = X.wk (at_ s) h i j :=
  (bare_rows _ _ h i j).trans ((take H hs h (V (Proc.devRef .tc main_v13_2)) _ i j).trans (H.wk ..))

theorem chunk_qd (i : Fin 64) (j : Fin 128) : res_main_while0b_v34 V (ix4 0 h i j) = X.qd (at_ s) h i j :=
  (bare_rows _ _ h i j).trans ((take H hs h (V (Proc.devRef .tc main_v13_3)) _ i j).trans (H.qd ..))

theorem chunk_att (i j : Fin 64) : res_main_while0b_v35 V (ix4 0 h i j) = X.att (at_ s) h i j :=
  (bare_square _ _ h i j).trans ((take H hs h (V (Proc.devRef .tc main_v13_4)) _ i j).trans (H.att ..))

theorem chunk_ke (i : Fin 64) (j : Fin 128) : res_main_while0b_v36 V (ix4 0 h i j) = X.ke (at_ s) h i j :=
  (bare_rows _ _ h i j).trans ((take H hs h (V (Proc.devRef .tc main_v13_5)) _ i j).trans (H.ke ..))

theorem chunk_z (i : Fin 64) (j : Fin 128) : res_main_while0b_v38 V (ix4 0 h i j) = X.z (at_ s) h i j :=
  (bare_rows _ _ h i j).trans ((take H hs h (V (Proc.devRef .tc main_v13_7)) _ i j).trans (H.z ..))

theorem chunk_d (i : Fin 64) (j : Fin 128) : res_main_while0b_v39 V (ix4 0 h i j) = X.d (at_ s) h i j :=
  (bare_rows _ _ h i j).trans ((take H hs h (V (Proc.devRef .tc main_v13_8)) _ i j).trans (H.d ..))

theorem chunk_g : res_main_while0b_v45 V (ix2 0 h) = Ideal.exp (X.g (at_ s) h) :=
  congrArg Ideal.exp ((bare_heads _ _ h).trans ((read3 (start := place3 V) (number H hs) rfl rfl (V (Proc.devRef .tc main_v13_6)) _ h).trans (H.g ..)))

/-! ## The forward pass of the chunk -/

theorem at_u (i : Fin 64) (j : Fin 128) : res_main_while0b_v41 V (ix4 0 h i j) = u X (at_ s) h i j := by
  refine congrArg₂ (fun x y : EReal => x - y) (y' := ∑ k : Fin 128, X.wk (at_ s) h i k * X.st (at_ s) h k j)
    ((bare_rows _ _ h i j).trans ((take H hs h (V (Proc.devRef .tc main_v13_1)) _ i j).trans (H.uv ..))) ?_
  pointwise
  simp only [chunk_wk H hs, chunk_st H hs]

theorem at_o (i : Fin 64) (j : Fin 128) : res_main_while0b_v44 V (ix4 0 h i j) = o X (at_ s) h i j := by
  unfold res_main_while0b_v44
  pointwise
  simp only [chunk_qd H hs, chunk_st H hs, chunk_att H hs, at_u H hs]
  rfl

theorem at_power (i : Fin 64) : res_main_while0b_v57 V (ix4 0 h i 0) = power X (at_ s) h i := by
  unfold res_main_while0b_v57
  pointwise
  simp only [at_o H hs]
  rfl

theorem at_inv (i : Fin 64) : res_main_while0b_v58 V (ix4 0 h i 0) = inv X (at_ s) h i :=
  congrArg Ideal.rsqrt (at_power H hs h i)

theorem at_xh (i : Fin 64) (j : Fin 128) : res_main_while0b_v63 V (ix4 0 h i j) = xh X (at_ s) h i j := by
  unfold res_main_while0b_v63
  pointwise
  rw [at_o H hs, at_inv H hs]
  rfl

theorem at_w (j : Fin 128) : res_main_while0b_v64 V (ix4 0 0 0 j) = X.w j := by
  unfold res_main_while0b_v64
  pointwise
  exact H.w j

theorem at_scaled (i : Fin 64) (j : Fin 128) : res_main_while0b_v66 V (ix4 0 h i j) = xh X (at_ s) h i j * X.w j := by
  unfold res_main_while0b_v66
  pointwise
  rw [at_xh H hs, at_w H hs]

theorem at_logis (i : Fin 64) (j : Fin 128) : res_main_while0b_v67_2 V (ix4 0 h i j) = logis (X.z (at_ s) h i j) := by
  unfold res_main_while0b_v67_2
  pointwise
  rw [chunk_z H hs]
  simp [logis, Ideal.ofBits, Ideal.ieee]

/-! ## The chunk's gradients -/

theorem at_gate (i : Fin 64) (j : Fin 128) :
    res_main_while0b_v69 V (ix4 0 h i j) = X.d (at_ s) h i j * (xh X (at_ s) h i j * X.w j) := by
  unfold res_main_while0b_v69
  pointwise
  rw [at_scaled H hs, chunk_d H hs, mul_comm]

theorem at_dy (i : Fin 64) (j : Fin 128) : res_main_while0b_v70 V (ix4 0 h i j) = dy X (at_ s) h i j := by
  unfold res_main_while0b_v70 res_main_while0b_v67_0
  pointwise
  rw [chunk_d H hs, chunk_z H hs, at_logis H hs]
  rfl

theorem at_normed (i : Fin 64) (j : Fin 128) : res_main_while0b_v76 V (ix4 0 h i j) = dy X (at_ s) h i j * X.w j := by
  unfold res_main_while0b_v76
  pointwise
  rw [at_dy H hs, at_w H hs]

theorem at_mean (i : Fin 64) (j : Fin 128) : res_main_while0b_v88 V (ix4 0 h i j)
    = Ideal.div ((∑ e : Fin 128, o X (at_ s) h i e * (dy X (at_ s) h i e * X.w e))
          * (Ideal.ofBits FTy.f32 0xBF000000#32 * Ideal.div (inv X (at_ s) h i) (power X (at_ s) h i))) _root_.Scan.width := by
  unfold res_main_while0b_v88
  pointwise
  refine (sum_units _ _ (ix2 h i) (ix4 0 h i 0) (by funext a; match a with | ⟨0, _⟩ => rfl | ⟨1, _⟩ => rfl) fun k e => ?_).trans ?_
  · have e1 : k 1 = h := congrFun e 0
    have e2 : k 2 = i := congrFun e 1
    rw [← e1, ← e2]
    blk_ext
  · pointwise
    simp only [at_o H hs, at_normed H hs, at_inv H hs, at_power H hs]
    rfl

variable (R : Real X)
include R

theorem at_dO (i : Fin 64) (j : Fin 128) : res_main_while0b_v92 V (ix4 0 h i j) = dO X (at_ s) h i j := by
  unfold res_main_while0b_v92
  pointwise
  rw [at_normed H hs, at_inv H hs, at_o H hs, at_mean H hs]
  exact (dO_eq (at_ s) h R i j).symm

theorem at_dU (i : Fin 64) (j : Fin 128) : res_main_while0b_v107 V (ix4 0 h i j) = dU X (at_ s) h (back X s h) i j := by
  unfold res_main_while0b_v107
  pointwise
  simp only [at_dO H hs _ R, chunk_att H hs, chunk_ke H hs, H.back]
  rw [add_comm]
  exact congrArg₂ (α := EReal) _ (Finset.sum_congr rfl fun _ _ => mul_comm ..) (Finset.sum_congr rfl fun _ _ => mul_comm ..)

theorem at_neg (i : Fin 64) (j : Fin 128) : res_main_while0b_v113 V (ix4 0 h i j) = -dU X (at_ s) h (back X s h) i j :=
  congrArg (fun x : EReal => -x) (at_dU H hs h R i j)

/-! ## The step -/

theorem real_at (i : Fin 64) (j : Fin 128) : IsReal (dU X (at_ s) h (back X s h) i j) :=
  real_dU (at_ s) h R (fun k j => real_back R s h k j) i j

theorem next_back (i j : Fin 128) : step_main_v13_11 V (ix4 0 h i j) = back X (s + 1) h i j := by
  unfold step_main_v13_11
  dsimp only [id]
  unfold res_main_while0b_v46
  pointwise
  simp only [at_dO H hs _ R, chunk_g H hs, chunk_qd H hs, chunk_wk H hs, at_neg H hs _ R, H.back]
  rw [sum_neg (fun _ => real_at H hs h R _ _) (fun _ => R.wk _ _ _ _)]
  show _ = dS X (at_ s) h (back X s h) i j
  unfold dS
  rw [sub_eq_add_neg, add_comm (Ideal.exp _ * _)]
  exact congrArg (fun x : EReal => x + _ + _) (Finset.sum_congr rfl fun _ _ => mul_comm ..)

omit R in
theorem next_summed (j : Fin 128) : step_main_v13_12 V (ix1 j) = summed X (s + 1) j := by
  unfold step_main_v13_12
  dsimp only [id]
  pointwise
  rw [H.summed]
  refine congrArg (summed X s j + ·) ((sum_units _ _ (ix1 j) (ix4 0 0 0 j) (by funext a; match a with | ⟨0, _⟩ => rfl) fun k e => ?_).trans ?_)
  · have e1 : k 3 = j := congrFun e 0
    rw [← e1]
    blk_ext
  · pointwise
    rw [sum_tokens]
    simp only [mulf_apply, at_xh H hs, at_dy H hs]
    exact Finset.sum_congr rfl fun _ _ => Finset.sum_congr rfl fun _ _ => mul_comm ..

theorem chunk_dz (i : Fin 64) (j : Fin 128) (p : Fin 32) : step_main_v13_13 V (ix5 p 0 h i j)
    = if p = at_ s then dZ X (at_ s) h i j else V (Proc.devRef .tc main_v13_13) (ix5 p 0 h i j) := by
  refine (put H hs h _ _ Gen.updateFits_S32x1x4x64x128_S1x1x4x64x128 p i j).trans (if_congr Iff.rfl ?_ rfl)
  pointwise
  simp only [at_gate H hs, at_logis H hs, chunk_z H hs]
  exact silu_deriv ((R.d _ _ _ _).mul ((real_xh (at_ s) h R i j).mul (R.w j))) (R.z _ _ _ _)

theorem chunk_du (i : Fin 64) (j : Fin 128) (p : Fin 32) : step_main_v13_14 V (ix5 p 0 h i j)
    = if p = at_ s then dU X (at_ s) h (back X s h) i j else V (Proc.devRef .tc main_v13_14) (ix5 p 0 h i j) := by
  refine (put H hs h _ _ Gen.updateFits_S32x1x4x64x128_S1x1x4x64x128 p i j).trans (if_congr Iff.rfl ?_ rfl)
  pointwise
  rw [at_dU H hs h R]

theorem chunk_dw (i : Fin 64) (j : Fin 128) (p : Fin 32) : step_main_v13_15 V (ix5 p 0 h i j)
    = if p = at_ s then dW X (at_ s) h (back X s h) i j else V (Proc.devRef .tc main_v13_15) (ix5 p 0 h i j) := by
  refine (put H hs h _ _ Gen.updateFits_S32x1x4x64x128_S1x1x4x64x128 p i j).trans (if_congr Iff.rfl ?_ rfl)
  pointwise
  simp only [at_neg H hs _ R, chunk_st H hs]
  rw [sum_neg (fun _ => real_at H hs h R _ _) (fun _ => R.st _ _ _ _), dW, zero_sub]
  exact congrArg Neg.neg (Finset.sum_congr rfl fun _ _ => mul_comm ..)

theorem chunk_dq (i : Fin 64) (j : Fin 128) (p : Fin 32) : step_main_v13_16 V (ix5 p 0 h i j)
    = if p = at_ s then dQ X (at_ s) h i j else V (Proc.devRef .tc main_v13_16) (ix5 p 0 h i j) := by
  refine (put H hs h _ _ Gen.updateFits_S32x1x4x64x128_S1x1x4x64x128 p i j).trans (if_congr Iff.rfl ?_ rfl)
  pointwise
  simp only [at_dO H hs _ R, chunk_st H hs]
  rfl

omit R in
theorem chunk_dk (i : Fin 64) (j : Fin 128) (p : Fin 32) : step_main_v13_17 V (ix5 p 0 h i j)
    = if p = at_ s then dK X (at_ s) h (back X s h) i j else V (Proc.devRef .tc main_v13_17) (ix5 p 0 h i j) := by
  refine (put H hs h _ _ Gen.updateFits_S32x1x4x64x128_S1x1x4x64x128 p i j).trans (if_congr Iff.rfl ?_ rfl)
  pointwise
  simp only [at_u H hs, H.back]
  exact Finset.sum_congr rfl fun _ _ => mul_comm ..

omit R in
theorem chunk_dg (p : Fin 32) : step_main_v13_18 V (ix3 p 0 h)
    = if p = at_ s then dG X (at_ s) h (back X s h) else V (Proc.devRef .tc main_v13_18) (ix3 p 0 h) := by
  refine (write3 (start := place3 V) (number H hs) rfl rfl _ _ Gen.updateFits_S32x1x4_S1x1x4 p h).trans (if_congr Iff.rfl ?_ rfl)
  pointwise
  rw [chunk_g H hs]
  refine congrArg (fun x : EReal => x * _) ((sum_units _ _ (ix1 h) (ix4 0 h 0 0) (by funext a; match a with | ⟨0, _⟩ => rfl) fun k e => ?_).trans ?_)
  · have e1 : k 1 = h := congrFun e 0
    rw [← e1]
    blk_ext
  · pointwise
    simp only [H.back, chunk_st H hs]

end Cert.Reference3Ideal.Scan
-- ==== Proof.ScanLoop.lean ====
module

public import proofs.«01_k».proof.Proof.ScanReference
public import proofs.«01_k».proof.Proof.ScanResults

@[expose] public section

set_option maxRecDepth 16384

/-!
# The reference's loop and its results

The loop carries what `Holds` says from step to step. After 32 steps every chunk's gradients are in their place.
-/

noncomputable section

namespace Cert.Reference3Ideal.Scan

open Cert.Reference3Ideal Cert.Reference3Ideal.Value Idealize.ShloMosaic Idealize.ShloMosaic.TcCoe Idealize.ShloMosaic.StableHlo _root_.Scan
  Mixer Norm

/-! ## From step to step -/

theorem after_at (X : Args) {s : ℕ} (hs : s < 32) : after X (at_ s) = back X s := by
  have e : 31 - (31 - s) = s := by omega
  show back X (31 - (31 - s)) = _
  rw [e]

/-- A result over the chunks taken so far, after one more of them. -/
theorem placed {s : ℕ} (hs : s < 32) (P : Fin 32 → EReal) (n : Fin 32) (hn : 31 - n.val < s + 1) {x y v : EReal}
    (hv : v = if n = at_ s then x else y) (new : x = P (at_ s)) (old : 31 - n.val < s → y = P n) : v = P n := by
  rw [hv]
  split
  · next e => rw [new, e]
  · next e =>
    refine old ?_
    have : n.val ≠ 31 - s := fun h => e (Fin.ext h)
    omega

section
variable {X : Args} {s : ℕ} {V : Valuation τ sig (Elt Ideal)}

theorem succ (H : Holds X s V) (hs : s < 32) (R : Real X) : Holds X (s + 1) (STEP V) where
  st n h i j := (congrFun (STEP_main_v13_0 V) _).trans (H.st n h i j)
  uv n h i j := (congrFun (STEP_main_v13_1 V) _).trans (H.uv n h i j)
  wk n h i j := (congrFun (STEP_main_v13_2 V) _).trans (H.wk n h i j)
  qd n h i j := (congrFun (STEP_main_v13_3 V) _).trans (H.qd n h i j)
  att n h i j := (congrFun (STEP_main_v13_4 V) _).trans (H.att n h i j)
  ke n h i j := (congrFun (STEP_main_v13_5 V) _).trans (H.ke n h i j)
  g n h := (congrFun (STEP_main_v13_6 V) _).trans (H.g n h)
  z n h i j := (congrFun (STEP_main_v13_7 V) _).trans (H.z n h i j)
  d n h i j := (congrFun (STEP_main_v13_8 V) _).trans (H.d n h i j)
  w j := (congrFun (STEP_main_v13_9 V) _).trans (H.w j)
  count := by
    rw [STEP_main_v13_10, step_main_v13_10, H.count]
    funext
    interval_cases s <;> rfl
  back h i j := (congrFun (STEP_main_v13_11 V) _).trans (next_back H hs h R i j)
  summed j := (congrFun (STEP_main_v13_12 V) _).trans (next_summed H hs j)
  dz n hn h i j := placed hs (fun n => dZ X n h i j) n hn
    ((congrFun (STEP_main_v13_13 V) _).trans (chunk_dz H hs h R i j n)) rfl fun e => H.dz n e h i j
  du n hn h i j := placed hs (fun n => dU X n h (after X n h) i j) n hn
    ((congrFun (STEP_main_v13_14 V) _).trans (chunk_du H hs h R i j n)) (by rw [after_at X hs]) fun e => H.du n e h i j
  dw n hn h i j := placed hs (fun n => dW X n h (after X n h) i j) n hn
    ((congrFun (STEP_main_v13_15 V) _).trans (chunk_dw H hs h R i j n)) (by rw [after_at X hs]) fun e => H.dw n e h i j
  dq n hn h i j := placed hs (fun n => dQ X n h i j) n hn
    ((congrFun (STEP_main_v13_16 V) _).trans (chunk_dq H hs h R i j n)) rfl fun e => H.dq n e h i j
  dk n hn h i j := placed hs (fun n => dK X n h (after X n h) i j) n hn
    ((congrFun (STEP_main_v13_17 V) _).trans (chunk_dk H hs h i j n)) (by rw [after_at X hs]) fun e => H.dk n e h i j
  dg n hn h := placed hs (fun n => dG X n h (after X n h)) n hn
    ((congrFun (STEP_main_v13_18 V) _).trans (chunk_dg H hs h n)) (by rw [after_at X hs]) fun e => H.dg n e h

end

/-! ## Before the loop -/

variable (m : (ℓ : Loc nD τ sig) → Buf (Elt Ideal) ℓ) (c : Dev nD)

/-- The reference's arguments. -/
def args : Args :=
  ofArrays (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9))

theorem entry : Holds (args m c) 0 (entryContents preI m c) := by
  constructor
  all_goals intros
  case dz hn _ _ _ => exact absurd hn (Nat.not_lt_zero _)
  case du hn _ _ _ => exact absurd hn (Nat.not_lt_zero _)
  case dw hn _ _ _ => exact absurd hn (Nat.not_lt_zero _)
  case dq hn _ _ _ => exact absurd hn (Nat.not_lt_zero _)
  case dk hn _ _ _ => exact absurd hn (Nat.not_lt_zero _)
  case dg hn _ => exact absurd hn (Nat.not_lt_zero _)
  case count => exact ctr_entry m c
  all_goals
    simp only [entryContents, StableHlo.afterL_cons, StableHlo.afterL_nil]
    after_reads_simp
    dsimp only [id]
    pointwise
    try rfl
  case z n h i j => exact congrArg (m ((c.tc : Thread nD τ).loc main_arg6)) (by blk_ext)
  case d n h i j => exact congrArg (m ((c.tc : Thread nD τ).loc main_arg8)) (by blk_ext)

theorem all (R : Real (args m c)) : ∀ s ≤ 32, Holds (args m c) s (STEP^[s] (entryContents preI m c))
  | 0, _ => entry m c
  | s + 1, hs => by
    rw [Function.iterate_succ_apply']
    exact succ (all R s (by omega)) (by omega) R

/-! ## After the loop -/

section
variable {X : Args} {V : Valuation τ sig (Elt Ideal)} (H : Holds X 32 V)

theorem by_token (x : FVec Ideal S32x1x4x64x128 .f32) (ht hc) (P : Arr 64 128) (e : ∀ n h i j, x (ix5 n 0 h i j) = P n h i j) :
    shapeCast S2048x512 (transpose S32x1x64x4x128 [0, 1, 3, 2, 4] x ht) hc = tokens P := by
  funext y
  rw [show y = ix2 (y 0) (y 1) by blk_ext]
  pointwise
  exact e ..

include H

theorem out_z : out_main_v19 V = outZ X := by_token _ _ _ _ fun n => H.dz n (by omega)
theorem out_u : out_main_v22 V = outU X := by_token _ _ _ (fun n h => dU X n h (after X n h)) fun n => H.du n (by omega)
theorem out_w : out_main_v24 V = outW X := by_token _ _ _ (fun n h => dW X n h (after X n h)) fun n => H.dw n (by omega)
theorem out_q : out_main_v26 V = outQ X := by_token _ _ _ _ fun n => H.dq n (by omega)
theorem out_k : out_main_v28 V = outK X := by_token _ _ _ (fun n h => dK X n h (after X n h)) fun n => H.dk n (by omega)

theorem out_n : out_main_v20 V = outN X := by
  funext y
  rw [show y = ix2 (0 : Fin 1) (y 1) by blk_ext]
  unfold out_main_v20
  pointwise
  exact H.summed (y 1)

theorem out_g : out_main_v16 V = outG X := by
  funext y
  rw [show y = ix3 (y 0) (y 1) (y 2) by blk_ext]
  unfold out_main_v16
  pointwise
  exact H.dg (y 0) (by omega) _

end

end Cert.Reference3Ideal.Scan
-- ==== Proof.ScanClaims.lean ====
module

public import proofs.«01_k».proof.Defs
public import proofs.«01_k».proof.Proof.Gen.Kernel3Ideal
public import proofs.«01_k».proof.Proof.Gen.Reference3Ideal
public import proofs.«01_k».proof.Proof.Gen.Reference3Ideal.Run
public import proofs.«01_k».proof.Proof.Gen.Pre_finite3
public import proofs.«01_k».proof.Proof.Finite
public import proofs.«01_k».proof.Proof.ScanFinal
public import proofs.«01_k».proof.Proof.ScanLoop
public import Idealize.ShloMosaic.Lib.Quiescent

@[expose] public section

set_option maxRecDepth 16384

/-!
# The scan's backward call and its reference leave the same arrays
-/

noncomputable section

namespace Cert.ScanClaims

open Idealize.ShloMosaic Idealize.SL.Sem Mixer

/-- What the precondition says, as far as the proof needs it. -/
theorem args_real {m : (ℓ : Loc Cert.Kernel3Ideal.nD Cert.Kernel3Ideal.τ Cert.Kernel3Ideal.sig) → Buf (Elt Ideal) ℓ}
    (h : Cert.Pre_Kernel3Ideal_finite3 m) (c : Dev Cert.Kernel3Ideal.nD) : _root_.Scan.Real (Kernel3Ideal.Scan.args m c) := by
  have e := congrFun (h c) (fun a => a.elim0)
  dsimp only [Cert.Pre_finite3.fn, Cert.Pre_finite3.fn_part1, Cert.Pre_finite3.fn_part2] at e
  obtain ⟨e, e9⟩ := IntOp.andi_eq_one.mp e
  obtain ⟨e, e8⟩ := IntOp.andi_eq_one.mp e
  obtain ⟨e, e7⟩ := IntOp.andi_eq_one.mp e
  obtain ⟨e, e6⟩ := IntOp.andi_eq_one.mp e
  obtain ⟨e, e5⟩ := IntOp.andi_eq_one.mp e
  obtain ⟨e, e4⟩ := IntOp.andi_eq_one.mp e
  obtain ⟨e, e3⟩ := IntOp.andi_eq_one.mp e
  obtain ⟨e, e2⟩ := IntOp.andi_eq_one.mp e
  obtain ⟨e0, e1⟩ := IntOp.andi_eq_one.mp e
  exact ⟨fun _ _ _ _ => entries_real _ _ _ _ e0 _, fun _ _ _ _ => entries_real _ _ _ _ e1 _, fun _ _ _ _ => entries_real _ _ _ _ e2 _,
    fun _ _ _ _ => entries_real _ _ _ _ e3 _, fun _ _ _ _ => entries_real _ _ _ _ e4 _, fun _ _ => entries_real _ _ _ _ e5 _,
    fun _ _ _ _ => entries_real _ _ _ _ e6 _, fun _ => entries_real _ _ _ _ e7 _, fun _ _ _ _ => entries_real _ _ _ _ e8 _,
    fun _ _ _ _ => entries_real _ _ _ _ e9 _⟩

section Reference
open Cert.Reference3Ideal Cert.Reference3Ideal.Gen

/-- The reference terminates with its arguments unchanged, and declares no semaphore. -/
theorem reference_frame (m : (ℓ : Loc nD τ sig) → Buf (Elt Ideal) ℓ) (g : Dev nD → PrngReg) :
    θ_run (defs (F := Ideal)) (onTc (τ := τ) (main (F := Ideal))) ⟨m, fun _ => 0, g⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0 :=
  (θ_run _ _ _).mono (fun r h => ⟨fun c => (h c).2.2.2.2.2.2.2, sem_eq_zero_of_no_sems (by decide) r.2⟩)
    (Cert.Reference3Ideal.Value.run m g)

end Reference

section Kernel
open Cert.Kernel3Ideal Cert.Kernel3Ideal.Gen Cert.Kernel3Ideal.Scan

/-- What the kernel leaves. -/
theorem kernel_run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v57_0) = _root_.Scan.outZ (args m c)
      ∧ r.2.mem ((c.tc : Thread nD τ).loc main_v57_1) = _root_.Scan.outN (args m c)
      ∧ r.2.mem ((c.tc : Thread nD τ).loc main_v57_2) = _root_.Scan.outU (args m c)
      ∧ r.2.mem ((c.tc : Thread nD τ).loc main_v57_3) = _root_.Scan.outW (args m c)
      ∧ r.2.mem ((c.tc : Thread nD τ).loc main_v57_5) = _root_.Scan.outQ (args m c)
      ∧ r.2.mem ((c.tc : Thread nD τ).loc main_v57_6) = _root_.Scan.outK (args m c)
      ∧ r.2.mem ((c.tc : Thread nD τ).loc main_v57_7) = _root_.Scan.outG (args m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run _ _ _).mono (fun r h c => by
      obtain ⟨z, n, u, w, -, q, k, e, kept⟩ := h c
      exact ⟨z.trans (final_z m c), n.trans (final_n m c), u.trans (final_u m c), w.trans (final_w m c), q.trans (final_q m c),
        k.trans (final_k m c), e.trans (final_g m c), kept⟩)
    (Cert.Kernel3Ideal.Value.run_blocks m g)

end Kernel

/-- From the same arguments, all real, the two programs leave the same seven gradients. -/
theorem algebraic : Cert.algebraic_Kernel3Ideal_Reference3Ideal_pre_finite3 := by
  intro m g m' g' hpre hagree
  refine ⟨_, _, _, _, _, _, _, kernel_run m g, (θ_run _ _ _).mono (fun r h c => ?_) (Reference3Ideal.Value.run m' g')⟩
  obtain ⟨z, n, u, w, q, k, e, kept⟩ := h c
  have same : Reference3Ideal.Scan.args m' c = Kernel3Ideal.Scan.args m c := by
    obtain ⟨a0, a1, a2, a3, a4, a5, a6, a7, a8, a9⟩ := hagree c
    unfold Reference3Ideal.Scan.args Kernel3Ideal.Scan.args
    rw [a0, a1, a2, a3, a4, a5, a6, a7, a8, a9]
  have H := Reference3Ideal.Scan.all m' c (same ▸ args_real hpre c) 32 le_rfl
  rw [same] at H
  exact ⟨z.trans (Reference3Ideal.Scan.out_z H), n.trans (Reference3Ideal.Scan.out_n H), u.trans (Reference3Ideal.Scan.out_u H),
    w.trans (Reference3Ideal.Scan.out_w H), q.trans (Reference3Ideal.Scan.out_q H), k.trans (Reference3Ideal.Scan.out_k H),
    e.trans (Reference3Ideal.Scan.out_g H), kept⟩

end Cert.ScanClaims
-- ==== Proof.FwdRun.lean ====
module

public import proofs.«01_k».proof.Proof.Gen.Kernel4Ideal.Frame
public import Idealize.ShloMosaic.Lib.Pipeline.ValueKit

@[expose] public section

/-!
# The forward call's run, its results named

The run of the frame leaves each result as the array its window's blocks fill, and the arguments as they were.
-/

noncomputable section

namespace Cert.Kernel4Ideal.Forward

open Cert.Kernel4Ideal Cert.Kernel4Ideal.Gen Idealize.ShloMosaic Idealize.ShloMosaic.TcCoe Idealize.SL.Sem

variable (m : (ℓ : Loc nD τ sig) → Buf (Elt Ideal) ℓ)

section
variable (r : PUnit × MemSt nD τ sig (Elt Ideal)) (h : Pipeline.FramePost cfgs (dats m) 0 (V m) r) (c : Dev nD)
include h

/-- An argument that no window takes is as it was. -/
theorem kept0 : r.2.mem ((c : Thread nD τ).loc main_arg0) = m ((c : Thread nD τ).loc main_arg0) :=
  ((h c).2 main_arg0 (Pipeline.mem_restRefs_of main_arg0 (by decide) (by decide))).trans (V_main_arg0 m c)

/-- So is one that an input window takes. -/
theorem kept1 : r.2.mem ((c : Thread nD τ).loc main_arg1) = m ((c : Thread nD τ).loc main_arg1) :=
  ((h c).1 2).trans (((dats m 0 c).arrAt_in 2 rfl _).trans ((A_eq m c 2).trans (V_main_arg1 m c)))

theorem kept2 : r.2.mem ((c : Thread nD τ).loc main_arg2) = m ((c : Thread nD τ).loc main_arg2) :=
  ((h c).2 main_arg2 (Pipeline.mem_restRefs_of main_arg2 (by decide) (by decide))).trans (V_main_arg2 m c)

theorem kept3 : r.2.mem ((c : Thread nD τ).loc main_arg3) = m ((c : Thread nD τ).loc main_arg3) :=
  ((h c).2 main_arg3 (Pipeline.mem_restRefs_of main_arg3 (by decide) (by decide))).trans (V_main_arg3 m c)

theorem kept4 : r.2.mem ((c : Thread nD τ).loc main_arg4) = m ((c : Thread nD τ).loc main_arg4) :=
  ((h c).2 main_arg4 (Pipeline.mem_restRefs_of main_arg4 (by decide) (by decide))).trans (V_main_arg4 m c)

theorem kept5 : r.2.mem ((c : Thread nD τ).loc main_arg5) = m ((c : Thread nD τ).loc main_arg5) :=
  ((h c).2 main_arg5 (Pipeline.mem_restRefs_of main_arg5 (by decide) (by decide))).trans (V_main_arg5 m c)

theorem kept6 : r.2.mem ((c : Thread nD τ).loc main_arg6) = m ((c : Thread nD τ).loc main_arg6) :=
  ((h c).1 9).trans (((dats m 0 c).arrAt_in 9 rfl _).trans ((A_eq m c 9).trans (V_main_arg6 m c)))

end

/-- What the run leaves. -/
theorem run_arrays (ρ : Dev nD → PrngReg) : θ_run (defs (F := Ideal)) (onTc (τ := τ) (main (F := Ideal))) ⟨m, fun _ => 0, ρ⟩ fun r => ∀ c : Dev nD,
      r.2.mem ((c : Thread nD τ).loc main_v8_0) = (dats m 0 c).arrAt 10 cfg0.N
      ∧ r.2.mem ((c : Thread nD τ).loc main_v8_1) = (dats m 0 c).arrAt 11 cfg0.N
      ∧ r.2.mem ((c : Thread nD τ).loc main_v8_2) = (dats m 0 c).arrAt 12 cfg0.N
      ∧ r.2.mem ((c : Thread nD τ).loc main_v8_3) = (dats m 0 c).arrAt 13 cfg0.N
      ∧ r.2.mem ((c : Thread nD τ).loc main_v8_4) = (dats m 0 c).arrAt 14 cfg0.N
      ∧ r.2.mem ((c : Thread nD τ).loc main_v8_5) = (dats m 0 c).arrAt 15 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1 10, (h c).1 11, (h c).1 12, (h c).1 13, (h c).1 14, (h c).1 15,
      kept0 m r h c, kept1 m r h c, kept2 m r h c, kept3 m r h c, kept4 m r h c, kept5 m r h c, kept6 m r h c⟩)
    (run_main m ρ)

end Cert.Kernel4Ideal.Forward
-- ==== Proof.FwdSpec.lean ====
module

public import proofs.«01_k».proof.Proof.NormSpec

@[expose] public section

/-!
# The channel mixer's output, the loss and its gradient, written entry by entry

The residual stream `x` gets the mixer's output added, is scaled by the norm and compared with the target `t`. The loss is half the sum
over the tokens of the mean over the features of the squared differences.
-/

noncomputable section

namespace Forward

open Idealize.ShloMosaic Mixer Norm

/-- What the channels from `704 k` on add to the residual stream. -/
def slab (u cw wd : Tab) (s d k : ℕ) : EReal := ∑ l : Fin 704, act u cw s (704 * k + l) * wd (704 * k + l) d

/-- The residual stream after the mixer. -/
def stream (u cw wd x : Tab) : Tab := fun s d => x s d + ∑ f : Fin 2816, act u cw s f * wd f d

/-- The difference between the normed stream and the target. -/
def miss (x : Tab) (w : ℕ → EReal) (t : Tab) : Tab := fun s d => x s d * inv x s * w d - t s d

/-- One over the number of features, and half of it. -/
def share : EReal := Ideal.ofBits FTy.f32 0x3A800000#32
def halfShare : EReal := Ideal.ofBits FTy.f32 0x3A000000#32

/-- The loss's gradient at the norm's output. -/
def dMiss (x : Tab) (w : ℕ → EReal) (t : Tab) : Tab := fun s d => miss x w t s d * share

/-- A token's squared differences, summed. -/
def energy (x : Tab) (w : ℕ → EReal) (t : Tab) (s : ℕ) : EReal := ∑ d : Fin 1024, miss x w t s d * miss x w t s d

/-- The loss. -/
def loss (x : Tab) (w : ℕ → EReal) (t : Tab) : EReal := (∑ s : Fin 2048, energy x w t s) * halfShare

theorem share_eq : share = ((1 / 1024 : ℝ) : EReal) := by
  rw [share]
  simp [Ideal.ofBits, Ideal.ieee, -EReal.coe_mul]
  norm_num

theorem halfShare_eq : halfShare = ((1 / 2048 : ℝ) : EReal) := by
  rw [halfShare]
  simp [Ideal.ofBits, Ideal.ieee, -EReal.coe_mul]
  norm_num

theorem one_eq : Ideal.ofBits FTy.f32 0x3F800000#32 = ((1 : ℝ) : EReal) := by
  simp [Ideal.ofBits, Ideal.ieee, -EReal.coe_mul]
  norm_num

theorem two_eq : Ideal.ofBits FTy.f32 0x40000000#32 = ((2 : ℝ) : EReal) := by
  simp [Ideal.ofBits, Ideal.ieee, -EReal.coe_mul]
  norm_num

theorem oneHalf_eq : Ideal.ofBits FTy.f32 0x3F000000#32 = ((1 / 2 : ℝ) : EReal) := by
  simp [Ideal.ofBits, Ideal.ieee, -EReal.coe_mul]
  norm_num

/-- The four slabs are all the channels. -/
theorem slabs (u cw wd : Tab) (s d : ℕ) :
    ∑ k ∈ Finset.range 4, slab u cw wd s d k = ∑ f : Fin 2816, act u cw s f * wd f d := by
  have h : ∀ k ∈ Finset.range 4, slab u cw wd s d k = ∑ l ∈ Finset.range 704, act u cw s (704 * k + l) * wd (704 * k + l) d :=
    fun k _ => (Finset.sum_range (fun l => act u cw s (704 * k + l) * wd (704 * k + l) d)).symm
  rw [Finset.sum_congr rfl h, ← Finset.sum_range (fun f => act u cw s f * wd f d), show (2816 : ℕ) = 704 + 704 + 704 + 704 from rfl]
  simp only [Finset.sum_range_add, Finset.sum_range_succ _ 3, Finset.sum_range_succ _ 2, Finset.sum_range_succ _ 1,
    Finset.sum_range_succ _ 0, Finset.sum_range_zero, zero_add]
  norm_num

/-- The four blocks of 512 rows are all the rows. -/
theorem rows (f : ℕ → EReal) : ∑ i ∈ Finset.range 4, ∑ r : Fin 512, f (512 * i + r) = ∑ s : Fin 2048, f s := by
  have h : ∀ i ∈ Finset.range 4, ∑ r : Fin 512, f (512 * i + r) = ∑ r ∈ Finset.range 512, f (512 * i + r) :=
    fun i _ => (Finset.sum_range (fun r => f (512 * i + r))).symm
  rw [Finset.sum_congr rfl h, ← Finset.sum_range (fun s => f s), show (2048 : ℕ) = 512 + 512 + 512 + 512 from rfl]
  simp only [Finset.sum_range_add, Finset.sum_range_succ _ 3, Finset.sum_range_succ _ 2, Finset.sum_range_succ _ 1,
    Finset.sum_range_succ _ 0, Finset.sum_range_zero, zero_add]
  norm_num

/-! ## Over real entries -/

theorem IsReal.sub {x y : EReal} : IsReal x → IsReal y → IsReal (x - y) := by
  rintro ⟨a, rfl⟩ ⟨b, rfl⟩
  exact ⟨a - b, by push_cast; rfl⟩

theorem real_act {u cw : Tab} (hu : RealTab u) (hc : RealTab cw) : RealTab (act u cw) := fun s f =>
  ((real_conv hu hc s f).mul (isReal_logis (real_conv hu hc s f))).mul (real_conv hu hc s (2816 + f))

theorem real_stream {u cw wd x : Tab} (hu : RealTab u) (hc : RealTab cw) (hd : RealTab wd) (hx : RealTab x) :
    RealTab (stream u cw wd x) := fun s d =>
  (hx s d).add (isReal_sum _ _ fun _ => (real_act hu hc _ _).mul (hd _ _))

section
variable {x t : Tab} {w : ℕ → EReal} (hx : RealTab x) (hw : ∀ d, IsReal (w d)) (ht : RealTab t)
include hx hw ht

theorem real_miss : RealTab (miss x w t) := fun s d =>
  IsReal.sub (((hx s d).mul (real_inv hx s)).mul (hw d)) (ht s d)

theorem real_dMiss : RealTab (dMiss x w t) := fun s d => (real_miss hx hw ht s d).mul ⟨_, share_eq⟩

theorem real_energy (s : ℕ) : IsReal (energy x w t s) :=
  isReal_sum _ _ fun _ => (real_miss hx hw ht _ _).mul (real_miss hx hw ht _ _)

/-- The loss, block of rows by block of rows. -/
theorem loss_rows : ∑ i ∈ Finset.range 4, (∑ r : Fin 512, energy x w t (512 * i + r)) * halfShare = loss x w t := by
  choose E hE using real_energy hx hw ht
  rw [loss, ← rows (energy x w t), halfShare_eq]
  simp only [hE, coe_sum, ← EReal.coe_mul]
  rw [Finset.sum_mul]

/-- The loss, as half the sum of the means. -/
theorem loss_means : Ideal.ofBits FTy.f32 0x3F000000#32 * ∑ s : Fin 2048, Ideal.div (energy x w t s) width = loss x w t := by
  choose E hE using real_energy hx hw ht
  rw [loss, halfShare_eq, oneHalf_eq, width_eq]
  simp only [Ideal.div_coe (show (1024 : ℝ) ≠ 0 by norm_num), hE, coe_sum, ← EReal.coe_mul]
  rw [← Finset.sum_mul]
  congr 1
  ring

/-- The gradient at the norm's output, as the chain rule gives it. -/
theorem dMiss_chain (s d : ℕ) : Ideal.div (Ideal.ofBits FTy.f32 0x3F000000#32 * Ideal.ofBits FTy.f32 0x3F800000#32) width
    * (Ideal.ofBits FTy.f32 0x40000000#32 * miss x w t s d) = dMiss x w t s d := by
  obtain ⟨e, he⟩ := real_miss hx hw ht s d
  rw [dMiss, he, share_eq, oneHalf_eq, one_eq, two_eq, width_eq, Ideal.div_coe (by norm_num)]
  simp only [← EReal.coe_mul]
  congr 1
  ring

end

end Forward
-- ==== Proof.FwdPayload.lean ====
module

public import proofs.«01_k».proof.Proof.Gen.Kernel4Ideal.Skeleton
public import proofs.«01_k».proof.Proof.FwdSpec

@[expose] public section

set_option maxRecDepth 16384

/-!
# What one grid point of the forward call computes

A grid point takes 512 token rows (block `i`), the 16 rows before them, and 704 channels (block `j`) of each half. `Blocks` says what
its blocks hold.
-/

noncomputable section

namespace Cert.Kernel4Ideal.Payload

open Cert.Kernel4Ideal Cert.Kernel4Ideal.Gen Idealize.ShloMosaic Mixer Norm Forward

/-- What the blocks of a grid point that its products read hold, as entries of the tables. -/
structure Blocks (t : grid0.Coords) (h w cw wd : Tab) (x0 : Vec Ideal S512x1024 .bf16) (x1 : Vec Ideal S16x1024 .bf16)
    (x3 x4 : Vec Ideal S1x704x1024 .bf16) (x5 x6 : Vec Ideal S1x3x704 .f32) (x7 : Vec Ideal S704x1024 .bf16) : Prop where
  h0 : ∀ (r : Fin 512) (d : Fin 1024), x0 (ix2 r d) = h (512 * (t 0).val + r) d
  h1 : 0 < (t 0).val → ∀ (r : Fin 16) (d : Fin 1024), x1 (ix2 r d) = h (512 * (t 0).val - 16 + r) d
  h3 : ∀ (l : Fin 704) (d : Fin 1024), x3 (ix3 0 l d) = w d (704 * (t 1).val + l)
  h4 : ∀ (l : Fin 704) (d : Fin 1024), x4 (ix3 0 l d) = w d (2816 + (704 * (t 1).val + l))
  h5 : ∀ (k : Fin 3) (l : Fin 704), x5 (ix3 0 k l) = cw k (704 * (t 1).val + l)
  h6 : ∀ (k : Fin 3) (l : Fin 704), x6 (ix3 0 k l) = cw k (2816 + (704 * (t 1).val + l))
  h7 : ∀ (f : Fin 704) (d : Fin 1024), x7 (ix2 f d) = wd (704 * (t 1).val + f) d

theorem keep_word : ∀ (i : Fin 4) (r : Fin 528), IntOp.ori (Scalar.cmpi CmpIPredicate.sgt (BitVec.ofNat 32 i.val) 0#32)
    (IntOp.cmpi CmpIPredicate.sge (BitVec.ofNat 32 r.val) 16#32) = BitVec.ofBool (decide (0 < i.val ∨ 16 ≤ r.val)) := by
  decide +kernel

/-- Rows behind the mask are rows of the padded table. -/
theorem masked (i : Fin 4) (u : Tab) (n q : ℕ) (r : Fin 528) (z : EReal) (hq : 512 * i.val + r.val = q)
    (hz : 0 < i.val ∨ 16 ≤ r.val → z = u (512 * i.val + r.val - 16) n) :
    Scalar.select (IntOp.ori (Scalar.cmpi CmpIPredicate.sgt (BitVec.ofNat 32 i.val) 0#32)
      (IntOp.cmpi CmpIPredicate.sge (BitVec.ofNat 32 r.val) 16#32)) z 0 = padded u q n := by
  rw [keep_word i r, padded, ← hq]
  by_cases h : 0 < i.val ∨ 16 ≤ r.val
  · rw [decide_eq_true h, if_neg (by omega), hz h]
    simp [Scalar.select]
  · rw [decide_eq_false h, if_pos (by omega)]
    simp [Scalar.select]

/-- The same with a weight inside the mask. -/
theorem masked_mul (i : Fin 4) (u : Tab) (n q : ℕ) (r : Fin 528) (z w : EReal) (hq : 512 * i.val + r.val = q)
    (hz : 0 < i.val ∨ 16 ≤ r.val → z = u (512 * i.val + r.val - 16) n) :
    Scalar.select (IntOp.ori (Scalar.cmpi CmpIPredicate.sgt (BitVec.ofNat 32 i.val) 0#32)
      (IntOp.cmpi CmpIPredicate.sge (BitVec.ofNat 32 r.val) 16#32)) (z * w) 0 = padded u q n * w := by
  rw [keep_word i r, padded, ← hq]
  by_cases h : 0 < i.val ∨ 16 ≤ r.val
  · rw [decide_eq_true h, if_neg (by omega), hz h]
    simp [Scalar.select]
  · rw [decide_eq_false h, if_pos (by omega)]
    simp [Scalar.select]

theorem conv_core (u cw : Tab) (a b c w0 w1 w2 : EReal) (s n : ℕ) (ha : a = padded u (s + 14) n) (hb : b = padded u (s + 15) n)
    (hc : c = padded u (s + 16) n) (h0 : w0 = cw 0 n) (h1 : w1 = cw 1 n) (h2 : w2 = cw 2 n) :
    a * w0 + b * w1 + c * w2 = conv u cw s n := by rw [ha, hb, hc, h0, h1, h2, conv]

section
variable {t : grid0.Coords} {h w cw wd : Tab} {x0 : Vec Ideal S512x1024 .bf16} {x1 : Vec Ideal S16x1024 .bf16}
    {x3 x4 : Vec Ideal S1x704x1024 .bf16} {x5 x6 : Vec Ideal S1x3x704 .f32} {x7 : Vec Ideal S704x1024 .bf16}
    (B : Blocks t h w cw wd x0 x1 x3 x4 x5 x6 x7)
include B

theorem hidden_at (r : Fin 528) (d : Fin 1024) (hr : 0 < (t 0).val ∨ 16 ≤ r.val) :
    k0_pay17 (F := Ideal) x1 x0 (ix2 r d) = h (512 * (t 0).val + r.val - 16) d := by
  pointwise [k0_pay17]
  by_cases h1 : r.val < 16
  · rw [dif_pos h1, B.h1 (by omega)]
    congr 1
    dsimp only
    omega
  · rw [dif_neg h1, B.h0]
    congr 1
    dsimp only
    omega

theorem gate_raw (r : Fin 528) (l : Fin 704) (hr : 0 < (t 0).val ∨ 16 ≤ r.val) :
    k0_pay19 (F := Ideal) x1 x0 x3 (ix2 r l) = product h w (512 * (t 0).val + r.val - 16) (704 * (t 1).val + l.val) := by
  pointwise [k0_pay19]
  exact Finset.sum_congr (M := EReal) rfl fun d _ => congrArg₂ (α := EReal) _ (hidden_at B r d hr) (B.h3 l d)

theorem up_raw (r : Fin 528) (l : Fin 704) (hr : 0 < (t 0).val ∨ 16 ≤ r.val) :
    k0_pay25 (F := Ideal) (k0_pay17 x1 x0) x4 (ix2 r l)
      = product h w (512 * (t 0).val + r.val - 16) (2816 + (704 * (t 1).val + l.val)) := by
  pointwise [k0_pay25]
  exact Finset.sum_congr (M := EReal) rfl fun d _ => congrArg₂ (α := EReal) _ (hidden_at B r d hr) (B.h4 l d)

theorem gate_padded (r : Fin 528) (l : Fin 704) :
    k0_pay22 (F := Ideal) t x1 x0 x3 (ix2 r l) = padded (product h w) (512 * (t 0).val + r.val) (704 * (t 1).val + l.val) := by
  pointwise [k0_pay22, k0_pay18]
  exact masked (t 0) _ _ _ r _ rfl fun hr => gate_raw B r l hr

theorem up_at (r : Fin 512) (l : Fin 704) :
    k0_pay27 (F := Ideal) (k0_pay17 x1 x0) (k0_pay18 t) x4 x6 (ix2 r l)
      = conv (product h w) cw (512 * (t 0).val + r.val) (2816 + (704 * (t 1).val + l.val)) := by
  have key : ∀ (q : Fin 528) (v : EReal), Scalar.select (IntOp.ori (Scalar.cmpi CmpIPredicate.sgt (BitVec.ofNat 32 (t 0).val) 0#32)
      (IntOp.cmpi CmpIPredicate.sge (BitVec.ofNat 32 q.val) 16#32)) (k0_pay25 (F := Ideal) (k0_pay17 x1 x0) x4 (ix2 q l) * v) 0
        = padded (product h w) (512 * (t 0).val + q.val) (2816 + (704 * (t 1).val + l.val)) * v :=
    fun q v => masked_mul (t 0) _ _ _ q _ v rfl fun hr => up_raw B q l hr
  pointwise [k0_pay27, k0_pay18]
  refine (congrArg₂ (α := EReal) _ (congrArg₂ (α := EReal) _ (key ⟨_, _⟩ _) (key ⟨_, _⟩ _)) (key ⟨_, _⟩ _)).trans ?_
  refine conv_core _ _ _ _ _ _ _ _ _ _ ?_ ?_ ?_ (B.h6 0 l) (B.h6 1 l) (B.h6 2 l)
  all_goals exact congrArg (padded _ · _) (by dsimp only; omega)

theorem taps_at (r : Fin 512) (l : Fin 704) :
    k0_pay23 (F := Ideal) t x1 x0 x3 x5 (ix2 r l) + k0_pay24 (F := Ideal) t x1 x0 x3 (ix2 r l) * k0_pay21 (F := Ideal) x5 (ix2 2 l)
      = conv (product h w) cw (512 * (t 0).val + r.val) (704 * (t 1).val + l.val) := by
  pointwise [k0_pay23, k0_pay24, k0_pay21]
  refine conv_core _ _ _ _ _ _ _ _ _ _ ?_ ?_ ?_ (B.h5 0 l) (B.h5 1 l) (B.h5 2 l)
  all_goals
    refine (gate_padded B _ _).trans (congrArg (padded _ · _) ?_)
    dsimp only
    omega

theorem silu_at (r : Fin 512) (l : Fin 704) :
    k0_pay28 (F := Ideal) (k0_pay21 x5) (k0_pay23 t x1 x0 x3 x5) (k0_pay24 t x1 x0 x3) (ix2 r l)
      = conv (product h w) cw (512 * (t 0).val + r.val) (704 * (t 1).val + l.val)
        * logis (conv (product h w) cw (512 * (t 0).val + r.val) (704 * (t 1).val + l.val)) := by
  rw [← taps_at B]
  pointwise [k0_pay28, logis]

/-- What a point adds to the residual stream. -/
theorem part_at (r : Fin 512) (d : Fin 1024) :
    k0_pay1 (F := Ideal) (k0_pay27 (k0_pay17 x1 x0) (k0_pay18 t) x4 x6) (k0_pay28 (k0_pay21 x5) (k0_pay23 t x1 x0 x3 x5) (k0_pay24 t x1 x0 x3))
        x7 (ix2 r d)
      = slab (product h w) cw wd (512 * (t 0).val + r.val) d (t 1).val := by
  pointwise [k0_pay1]
  refine Finset.sum_congr (M := EReal) rfl fun l _ => congrArg₂ (α := EReal) _ ?_ (B.h7 l d)
  rw [silu_at B, up_at B, act]

/-- The products that a point leaves for the backward pass. -/
theorem ug_at (r : Fin 512) (l : Fin 704) :
    k0_pay20 (F := Ideal) x1 x0 x3 (ix3 0 r l) = product h w (512 * (t 0).val + r.val) (704 * (t 1).val + l.val) := by
  pointwise [k0_pay20]
  refine (gate_raw B _ _ (by dsimp only; omega)).trans (congrArg (product _ _ · _) ?_)
  dsimp only
  omega

theorem uu_at (r : Fin 512) (l : Fin 704) :
    k0_pay26 (F := Ideal) (k0_pay17 x1 x0) x4 (ix3 0 r l)
      = product h w (512 * (t 0).val + r.val) (2816 + (704 * (t 1).val + l.val)) := by
  pointwise [k0_pay26]
  refine (up_raw B _ _ (by dsimp only; omega)).trans (congrArg (product _ _ · _) ?_)
  dsimp only
  omega

end

/-! ## What the last point of a row block computes, over the finished stream -/

section
variable {p v : Vec Ideal S512x1024 .f32} {y : Tab} {n : ℕ → EReal} {g : Tab} {x8 : Vec Ideal S1x1024 .f32} {x9 : Vec Ideal S512x1024 .f32} (b : ℕ)

variable (hs : ∀ (r : Fin 512) (d : Fin 1024), v (ix2 r d) + p (ix2 r d) = y (b + r) d)
    (h8 : ∀ d : Fin 1024, x8 (ix2 0 d) = n d) (h9 : ∀ (r : Fin 512) (d : Fin 1024), x9 (ix2 r d) = g (b + r) d)

include hs in
theorem inv_at (r : Fin 512) : k0_pay11 (F := Ideal) p v (ix2 r 0) = inv y (b + r) := by
  pointwise [k0_pay11, k0_pay9]
  simp only [hs]
  rfl

include hs h8 h9 in
theorem miss_at (r : Fin 512) (d : Fin 1024) : k0_pay12 (F := Ideal) p v x8 x9 (ix2 r d) = miss y n g (b + r) d := by
  pointwise [k0_pay12, k0_pay9, k0_pay10]
  rw [hs, h8, h9, inv_at b hs, miss]

include hs in
theorem hat_at (r : Fin 512) (d : Fin 1024) : k0_pay15 (F := Ideal) p v (ix2 r d) = y (b + r) d * inv y (b + r) := by
  pointwise [k0_pay15, k0_pay9]
  rw [hs, inv_at b hs]

include hs h8 h9 in
theorem dMiss_at (r : Fin 512) (d : Fin 1024) : k0_pay14 (F := Ideal) p v x8 x9 (ix2 r d) = dMiss y n g (b + r) d := by
  pointwise [k0_pay14]
  rw [miss_at b hs h8 h9]
  rfl

include hs h8 h9 in
theorem grad_at (r : Fin 512) (d : Fin 1024) :
    k0_pay16 (F := Ideal) p v x8 x9 (ix2 r d) = grad (dMiss y n g) y n (b + r) d := by
  pointwise [k0_pay16, k0_pay10]
  simp only [hat_at b hs, dMiss_at b hs h8 h9, inv_at b hs, h8]
  rfl

include hs h8 h9 in
theorem gradW_at (d : Fin 1024) :
    k0_pay5 (F := Ideal) (k0_pay14 p v x8 x9) (k0_pay15 p v) (ix2 0 d)
      = ∑ r : Fin 512, dMiss y n g (b + r) d * (y (b + r) d * inv y (b + r)) := by
  pointwise [k0_pay5]
  simp only [hat_at b hs, dMiss_at b hs h8 h9]

include hs h8 h9 in
theorem loss_at (l : Fin 128) :
    k0_pay6 (F := Ideal) (k0_pay13 p v x8 x9) (ix2 0 l) = (∑ r : Fin 512, energy y n g (b + r)) * halfShare := by
  pointwise [k0_pay6, k0_pay13]
  simp only [miss_at b hs h8 h9]
  rfl

end

end Cert.Kernel4Ideal.Payload
-- ==== Proof.FwdEntry.lean ====
module

public import proofs.«01_k».proof.Proof.Gen.Kernel4Ideal.Frame
public import proofs.«01_k».proof.Proof.FwdPayload
public import Idealize.ShloMosaic.Lib.Pipeline.ValueKit

@[expose] public section

set_option maxRecDepth 16384

/-!
# The blocks a grid point of the forward call reads

Grid point `t` takes row block `t / 4` and the slab of 704 channels `t % 4` of each half.
-/

noncomputable section

namespace Cert.Kernel4Ideal.Forward

open Cert.Kernel4Ideal Cert.Kernel4Ideal.Gen Idealize.ShloMosaic Idealize.ShloMosaic.TcCoe Mixer Norm

variable (m : (ℓ : Loc nD τ sig) → Buf (Elt Ideal) ℓ)

/-- The tables of the seven arguments. -/
def hT (c : Dev nD) : Tab := tab (m ((c : Thread nD τ).loc main_arg0))
def xT (c : Dev nD) : Tab := tab (m ((c : Thread nD τ).loc main_arg1))
def wT (c : Dev nD) : Tab := tab (m ((c : Thread nD τ).loc main_arg2))
def cwT (c : Dev nD) : Tab := tab (m ((c : Thread nD τ).loc main_arg3))
def wdT (c : Dev nD) : Tab := tab (m ((c : Thread nD τ).loc main_arg4))
def nT (c : Dev nD) : ℕ → EReal := list (m ((c : Thread nD τ).loc main_arg5))
def goalT (c : Dev nD) : Tab := tab (m ((c : Thread nD τ).loc main_arg6))

/-! ## The arrays the blocks are cut from -/

theorem V1 (c : Dev nD) (k : Fin 8) (q : Fin 3) (l : Fin 704) : V m c main_v1 (ix3 k q l) = cwT m c q (704 * k + l) := by
  rw [cwT, show tab _ _ _ = _ from (tab_apply (a := 3) (b := 5632) _ q ⟨704 * k + l, by omega⟩).symm]
  entry_read
  pointwise
  congr 2
  exact Fin.ext (by dsimp only; omega)

theorem V2 (c : Dev nD) (s : Fin 2048) (d : Fin 1024) : V m c main_v2 (ix2 s d) = hT m c s d := by
  rw [hT, ← tab_apply]
  entry_read
  pointwise

theorem V5 (c : Dev nD) (k : Fin 8) (l : Fin 704) (d : Fin 1024) : V m c main_v5 (ix3 k l d) = wT m c d (704 * k + l) := by
  rw [wT, show tab _ _ _ = _ from (tab_apply (a := 1024) (b := 5632) _ d ⟨704 * k + l, by omega⟩).symm]
  entry_read
  pointwise
  congr 2
  exact Fin.ext (by dsimp only; omega)

theorem V6 (c : Dev nD) (f : Fin 2816) (d : Fin 1024) : V m c main_v6 (ix2 f d) = wdT m c f d := by
  rw [wdT, ← tab_apply]
  entry_read
  pointwise

theorem V7 (c : Dev nD) (d : Fin 1024) : V m c main_v7 (ix2 0 d) = nT m c d := by
  rw [nT, ← list_apply]
  entry_read
  pointwise

/-- Where each window's block lies, in blocks. -/
theorem place : ∀ t : Fin grid0.N,
    win0_0.index t = ![t.val / 4, 0]
    ∧ win0_1.index t = ![t.val / 4 * 32 - 1, 0]
    ∧ win0_2.index t = ![t.val / 4, 0]
    ∧ win0_3.index t = ![t.val % 4, 0, 0]
    ∧ win0_4.index t = ![t.val % 4 + 4, 0, 0]
    ∧ win0_5.index t = ![t.val % 4, 0, 0]
    ∧ win0_6.index t = ![t.val % 4 + 4, 0, 0]
    ∧ win0_7.index t = ![t.val % 4, 0]
    ∧ win0_8.index t = ![0, 0]
    ∧ win0_9.index t = ![t.val / 4, 0] := by
  decide +kernel

theorem place_out : ∀ t : Fin grid0.N,
    win0_10.index t = ![t.val / 4, 0]
    ∧ win0_11.index t = ![t.val / 4, 0]
    ∧ win0_12.index t = ![0, 0]
    ∧ win0_13.index t = ![0, 0]
    ∧ win0_14.index t = ![t.val % 4, t.val / 4, 0]
    ∧ win0_15.index t = ![t.val % 4, t.val / 4, 0] := by
  decide +kernel

theorem coords_at : ∀ t : Fin grid0.N, ((grid0.coords t) 0).val = t.val / 4 ∧ ((grid0.coords t) 1).val = t.val % 4 := by
  decide +kernel

theorem block2 (c : Dev nD) (t : Fin cfg0.N) (r : Fin 512) (d : Fin 1024) : iblk m c 2 t (ix2 r d) = xT m c (512 * (t.val / 4) + r) d := by
  have hN : t.val < 16 := t.isLt
  obtain ⟨-, -, p, -⟩ := place t
  refine .trans ?_ (tab_apply (a := 2048) _ ⟨512 * (t.val / 4) + r, by omega⟩ d)
  rw [← V_main_arg1 m c]
  blk_ext [iblk, p]

theorem block8 (c : Dev nD) (t : Fin cfg0.N) (d : Fin 1024) : iblk m c 8 t (ix2 0 d) = nT m c d := by
  obtain ⟨-, -, -, -, -, -, -, -, p, -⟩ := place t
  refine .trans ?_ (V7 m c d)
  blk_ext [iblk, p]

theorem block9 (c : Dev nD) (t : Fin cfg0.N) (r : Fin 512) (d : Fin 1024) : iblk m c 9 t (ix2 r d) = goalT m c (512 * (t.val / 4) + r) d := by
  have hN : t.val < 16 := t.isLt
  obtain ⟨-, -, -, -, -, -, -, -, -, p⟩ := place t
  refine .trans ?_ (tab_apply (a := 2048) _ ⟨512 * (t.val / 4) + r, by omega⟩ d)
  rw [← V_main_arg6 m c]
  blk_ext [iblk, p]

/-- The blocks the products read. -/
theorem blocks (c : Dev nD) (t : Fin cfg0.N) :
    Payload.Blocks (grid0.coords t) (hT m c) (wT m c) (cwT m c) (wdT m c) (iblk m c 0 t) (iblk m c 1 t) (iblk m c 3 t) (iblk m c 4 t)
      (iblk m c 5 t) (iblk m c 6 t) (iblk m c 7 t) := by
  have hN : t.val < 16 := t.isLt
  obtain ⟨p0, p1, -, p3, p4, p5, p6, p7, -⟩ := place t
  obtain ⟨i0, i1⟩ := coords_at t
  constructor
  · intro r d
    rw [i0]
    refine .trans ?_ (V2 m c ⟨512 * (t.val / 4) + r, by omega⟩ d)
    blk_ext [iblk, p0]
  · intro h0 r d
    rw [i0] at h0 ⊢
    refine .trans ?_ (V2 m c ⟨512 * (t.val / 4) - 16 + r, by omega⟩ d)
    blk_ext [iblk, p1]
  · intro l d
    rw [i1]
    refine .trans ?_ (V5 m c ⟨t.val % 4, by omega⟩ l d)
    blk_ext [iblk, p3]
  · intro l d
    rw [i1]
    refine .trans ?_ ((V5 m c ⟨t.val % 4 + 4, by omega⟩ l d).trans (congrArg (wT m c d) (by dsimp only; omega)))
    blk_ext [iblk, p4]
  · intro k l
    rw [i1]
    refine .trans ?_ (V1 m c ⟨t.val % 4, by omega⟩ k l)
    blk_ext [iblk, p5]
  · intro k l
    rw [i1]
    refine .trans ?_ ((V1 m c ⟨t.val % 4 + 4, by omega⟩ k l).trans (congrArg (cwT m c k) (by dsimp only; omega)))
    blk_ext [iblk, p6]
  · intro f d
    rw [i1]
    refine .trans ?_ (V6 m c ⟨704 * (t.val % 4) + f, by omega⟩ d)
    blk_ext [iblk, p7]

/-- What the point before leaves. -/
abbrev prev (c : Dev nD) (t : Fin cfg0.N) := outsAt0 m c (t.val - 1) (Nat.lt_of_le_of_lt (Nat.sub_le _ _) t.isLt)

/-- What a point adds to the residual stream. -/
def part (c : Dev nD) (t : Fin cfg0.N) : FVec Ideal S512x1024 .f32 :=
  k0_pay1 (F := Ideal) (k0_pay27 (k0_pay17 (iblk m c 1 t) (iblk m c 0 t)) (k0_pay18 (grid0.coords t)) (iblk m c 4 t) (iblk m c 6 t))
    (k0_pay28 (k0_pay21 (iblk m c 5 t)) (k0_pay23 (grid0.coords t) (iblk m c 1 t) (iblk m c 0 t) (iblk m c 3 t) (iblk m c 5 t))
      (k0_pay24 (grid0.coords t) (iblk m c 1 t) (iblk m c 0 t) (iblk m c 3 t))) (iblk m c 7 t)

theorem part_at (c : Dev nD) (t : Fin cfg0.N) (r : Fin 512) (d : Fin 1024) :
    part m c t (ix2 r d)
      = _root_.Forward.slab (product (hT m c) (wT m c)) (cwT m c) (wdT m c) (512 * (t.val / 4) + r) d (t.val % 4) := by
  obtain ⟨i0, i1⟩ := coords_at t
  rw [part, Payload.part_at (blocks m c t), i0, i1]

end Cert.Kernel4Ideal.Forward
-- ==== Proof.FwdSteps.lean ====
module

public import proofs.«01_k».proof.Proof.FwdEntry
public import Idealize.ShloMosaic.Lib.Pipeline.ReadBack

@[expose] public section

set_option maxRecDepth 16384

/-!
# What the steps of the forward call leave, before and at every step
-/

noncomputable section

namespace Cert.Kernel4Ideal.Forward

open Cert.Kernel4Ideal Cert.Kernel4Ideal.Gen Idealize.ShloMosaic Idealize.ShloMosaic.TcCoe Mixer Norm

variable (m : (ℓ : Loc nD τ sig) → Buf (Elt Ideal) ℓ)

set_option maxHeartbeats 4000000 in
/-- At a row block's first step the accumulator takes the residual stream and the first slab. -/
theorem scratch_first (c : Dev nD) (t : Fin cfg0.N) (ht : t.val % 4 = 0) (r : Fin 512) (d : Fin 1024) :
    (outsAt0 m c t.val t.isLt).2.2.2.2.2.2 (ix2 r d) = xT m c (512 * (t.val / 4) + r) d
      + _root_.Forward.slab (product (hT m c) (wT m c)) (cwT m c) (wdT m c) (512 * (t.val / 4) + r) d (t.val % 4) := by
  rw [outsAt0_A m c t (by omega) (by omega) (by omega)]
  frame_open
  simp (disch := decide) only [↓ View.readCov_skip, ↓ View.readCov_cons_toLoadRect, ↓ View.readCov_fill]
  frame_out
  pointwise [k0_pay2]
  exact congrArg₂ (α := EReal) _ (block2 m c t r d) (part_at m c t r d)

set_option maxHeartbeats 4000000 in
/-- At the next two it takes their slabs. -/
theorem scratch_next (c : Dev nD) (t : Fin cfg0.N) (h0 : t.val % 4 ≠ 0) (h1 : t.val % 4 ≠ 3) (r : Fin 512) (d : Fin 1024) :
    (outsAt0 m c t.val t.isLt).2.2.2.2.2.2 (ix2 r d) = (prev m c t).2.2.2.2.2.2 (ix2 r d)
      + _root_.Forward.slab (product (hT m c) (wT m c)) (cwT m c) (wdT m c) (512 * (t.val / 4) + r) d (t.val % 4) := by
  rw [outsAt0_B m c t (by omega) (by omega) (by omega)]
  frame_open
  simp (disch := decide) only [↓ View.readCov_skip, ↓ View.readCov_cons_toLoadRect, ↓ View.readCov_fill]
  frame_out
  simp only [read_unread_whole]
  pointwise [k0_pay3]
  exact congrArg _ (part_at m c t r d)

set_option maxHeartbeats 4000000 in
/-- Every step leaves its rows of its slab of the up-projection's two halves. -/
theorem slab_gate (c : Dev nD) (t : Fin cfg0.N) : (outsAt0 m c t.val t.isLt).2.2.2.2.1
    = k0_pay20 (F := Ideal) (iblk m c 1 t) (iblk m c 0 t) (iblk m c 3 t) := by
  by_cases h0 : t.val % 4 = 0
  · rw [outsAt0_A m c t (by omega) (by omega) (by omega)]
    frame_open
    simp (disch := decide) only [↓ View.readCov_skip, ↓ View.readCov_cons_toLoadRect, ↓ View.readCov_fill]
    frame_out
  by_cases h1 : t.val % 4 ≤ 2
  · rw [outsAt0_B m c t (by omega) (by omega) (by omega)]
    frame_open
    simp (disch := decide) only [↓ View.readCov_skip, ↓ View.readCov_cons_toLoadRect, ↓ View.readCov_fill]
    frame_out
  by_cases h3 : t.val < 4
  · rw [outsAt0_C m c t (by omega) (by omega) (by omega) (by omega) (by omega)]
    frame_open
    simp (disch := decide) only [↓ View.readCov_skip, ↓ View.readCov_cons_toLoadRect, ↓ View.readCov_fill]
    frame_out
  · rw [outsAt0_D m c t (by omega) (by omega) (by omega) (by omega) (by omega)]
    frame_open
    simp (disch := decide) only [↓ View.readCov_skip, ↓ View.readCov_cons_toLoadRect, ↓ View.readCov_fill]
    frame_out

set_option maxHeartbeats 4000000 in
theorem slab_up (c : Dev nD) (t : Fin cfg0.N) : (outsAt0 m c t.val t.isLt).2.2.2.2.2.1
    = k0_pay26 (F := Ideal) (k0_pay17 (iblk m c 1 t) (iblk m c 0 t)) (iblk m c 4 t) := by
  by_cases h0 : t.val % 4 = 0
  · rw [outsAt0_A m c t (by omega) (by omega) (by omega)]
    frame_open
    simp (disch := decide) only [↓ View.readCov_skip, ↓ View.readCov_cons_toLoadRect, ↓ View.readCov_fill]
    frame_out
  by_cases h1 : t.val % 4 ≤ 2
  · rw [outsAt0_B m c t (by omega) (by omega) (by omega)]
    frame_open
    simp (disch := decide) only [↓ View.readCov_skip, ↓ View.readCov_cons_toLoadRect, ↓ View.readCov_fill]
    frame_out
  by_cases h3 : t.val < 4
  · rw [outsAt0_C m c t (by omega) (by omega) (by omega) (by omega) (by omega)]
    frame_open
    simp (disch := decide) only [↓ View.readCov_skip, ↓ View.readCov_cons_toLoadRect, ↓ View.readCov_fill]
    frame_out
  · rw [outsAt0_D m c t (by omega) (by omega) (by omega) (by omega) (by omega)]
    frame_open
    simp (disch := decide) only [↓ View.readCov_skip, ↓ View.readCov_cons_toLoadRect, ↓ View.readCov_fill]
    frame_out

/-- The steps before a row block's last leave the two sums where they are. -/
theorem keep (c : Dev nD) (t : Fin cfg0.N) (h0 : t.val ≠ 0) (ht : t.val % 4 ≠ 3) :
    (outsAt0 m c t.val t.isLt).2.2.1 = (prev m c t).2.2.1
      ∧ (outsAt0 m c t.val t.isLt).2.2.2.1 = (prev m c t).2.2.2.1 := by
  by_cases h : t.val % 4 = 0
  · rw [outsAt0_A m c t h (by omega) (by omega)]
    constructor
    · frame_open
      rfl
    · frame_open
      rfl
  · rw [outsAt0_B m c t h (by omega) (by omega)]
    constructor
    · frame_open
      rfl
    · frame_open
      rfl

end Cert.Kernel4Ideal.Forward
-- ==== Proof.FwdLast.lean ====
module

public import proofs.«01_k».proof.Proof.FwdEntry
public import Idealize.ShloMosaic.Lib.Pipeline.ReadBack

@[expose] public section

set_option maxRecDepth 16384

/-!
# What the last step of a row block leaves
-/

noncomputable section

namespace Cert.Kernel4Ideal.Forward

open Cert.Kernel4Ideal Cert.Kernel4Ideal.Gen Idealize.ShloMosaic Idealize.ShloMosaic.TcCoe Mixer Norm

variable (m : (ℓ : Loc nD τ sig) → Buf (Elt Ideal) ℓ)

set_option maxHeartbeats 4000000 in
/-- The gradient at the residual stream, as a row block's last step leaves it. -/
theorem last_dx (c : Dev nD) (t : Fin cfg0.N) (ht : t.val % 4 = 3) : (outsAt0 m c t.val t.isLt).1
    = k0_pay16 (F := Ideal) (part m c t) (prev m c t).2.2.2.2.2.2 (iblk m c 8 t) (iblk m c 9 t) := by
  unfold part
  by_cases h3 : t.val < 4
  · rw [outsAt0_C m c t (by omega) (by omega) (by omega) (by omega) (by omega)]
    frame_open
    simp (disch := decide) only [↓ View.readCov_skip, ↓ View.readCov_cons_toLoadRect, ↓ View.readCov_fill]
    frame_out
    simp only [read_unread_whole]
  · rw [outsAt0_D m c t (by omega) (by omega) (by omega) (by omega) (by omega)]
    frame_open
    simp (disch := decide) only [↓ View.readCov_skip, ↓ View.readCov_cons_toLoadRect, ↓ View.readCov_fill]
    frame_out
    simp only [read_unread_whole]

set_option maxHeartbeats 4000000 in
theorem last_dxb (c : Dev nD) (t : Fin cfg0.N) (ht : t.val % 4 = 3) : (outsAt0 m c t.val t.isLt).2.1
    = k0_pay4 (F := Ideal) (k0_pay16 (F := Ideal) (part m c t) (prev m c t).2.2.2.2.2.2 (iblk m c 8 t) (iblk m c 9 t)) := by
  unfold part
  by_cases h3 : t.val < 4
  · rw [outsAt0_C m c t (by omega) (by omega) (by omega) (by omega) (by omega)]
    frame_open
    simp (disch := decide) only [↓ View.readCov_skip, ↓ View.readCov_cons_toLoadRect, ↓ View.readCov_fill]
    frame_out
    simp only [read_unread_whole]
  · rw [outsAt0_D m c t (by omega) (by omega) (by omega) (by omega) (by omega)]
    frame_open
    simp (disch := decide) only [↓ View.readCov_skip, ↓ View.readCov_cons_toLoadRect, ↓ View.readCov_fill]
    frame_out
    simp only [read_unread_whole]

set_option maxHeartbeats 4000000 in
/-- The first row block starts the sums over the rows. -/
theorem first_dNorm (c : Dev nD) (t : Fin cfg0.N) (ht : t.val = 3) : (outsAt0 m c t.val t.isLt).2.2.1
    = k0_pay5 (F := Ideal) (k0_pay14 (F := Ideal) (part m c t) (prev m c t).2.2.2.2.2.2 (iblk m c 8 t) (iblk m c 9 t))
        (k0_pay15 (F := Ideal) (part m c t) (prev m c t).2.2.2.2.2.2) := by
  unfold part
  rw [outsAt0_C m c t (by omega) (by omega) (by omega) (by omega) (by omega)]
  frame_open
  simp (disch := decide) only [↓ View.readCov_skip, ↓ View.readCov_cons_toLoadRect, ↓ View.readCov_fill]
  frame_out
  simp only [read_unread_whole]

set_option maxHeartbeats 4000000 in
theorem first_loss (c : Dev nD) (t : Fin cfg0.N) (ht : t.val = 3) : (outsAt0 m c t.val t.isLt).2.2.2.1
    = k0_pay6 (F := Ideal) (k0_pay13 (F := Ideal) (part m c t) (prev m c t).2.2.2.2.2.2 (iblk m c 8 t) (iblk m c 9 t)) := by
  unfold part
  rw [outsAt0_C m c t (by omega) (by omega) (by omega) (by omega) (by omega)]
  frame_open
  simp (disch := decide) only [↓ View.readCov_skip, ↓ View.readCov_cons_toLoadRect, ↓ View.readCov_fill]
  frame_out
  simp only [read_unread_whole]

set_option maxHeartbeats 4000000 in
/-- The others add to them. -/
theorem next_dNorm (c : Dev nD) (t : Fin cfg0.N) (ht : t.val % 4 = 3) (h4 : 4 ≤ t.val) : (outsAt0 m c t.val t.isLt).2.2.1
    = k0_pay7 (F := Ideal) (k0_pay14 (F := Ideal) (part m c t) (prev m c t).2.2.2.2.2.2 (iblk m c 8 t) (iblk m c 9 t))
        (k0_pay15 (F := Ideal) (part m c t) (prev m c t).2.2.2.2.2.2)
        (prev m c t).2.2.1 := by
  unfold part
  rw [outsAt0_D m c t (by omega) (by omega) (by omega) (by omega) (by omega)]
  frame_open
  simp (disch := decide) only [↓ View.readCov_skip, ↓ View.readCov_cons_toLoadRect, ↓ View.readCov_fill]
  frame_out
  simp only [read_unread_whole]

set_option maxHeartbeats 4000000 in
theorem next_loss (c : Dev nD) (t : Fin cfg0.N) (ht : t.val % 4 = 3) (h4 : 4 ≤ t.val) : (outsAt0 m c t.val t.isLt).2.2.2.1
    = k0_pay8 (F := Ideal) (k0_pay13 (F := Ideal) (part m c t) (prev m c t).2.2.2.2.2.2 (iblk m c 8 t) (iblk m c 9 t))
        (prev m c t).2.2.2.1 := by
  unfold part
  rw [outsAt0_D m c t (by omega) (by omega) (by omega) (by omega) (by omega)]
  frame_open
  simp (disch := decide) only [↓ View.readCov_skip, ↓ View.readCov_cons_toLoadRect, ↓ View.readCov_fill]
  frame_out
  simp only [read_unread_whole]

end Cert.Kernel4Ideal.Forward
-- ==== Proof.FwdFinal.lean ====
module

public import proofs.«01_k».proof.Proof.FwdSteps
public import proofs.«01_k».proof.Proof.FwdLast

@[expose] public section

set_option maxRecDepth 16384

/-!
# The arrays the forward call leaves
-/

noncomputable section

namespace Cert.Kernel4Ideal.Forward

open Cert.Kernel4Ideal Cert.Kernel4Ideal.Gen Idealize.ShloMosaic Idealize.ShloMosaic.TcCoe Mixer Norm _root_.Forward

variable (m : (ℓ : Loc nD τ sig) → Buf (Elt Ideal) ℓ)

/-! ## The residual stream -/

/-- The up-projection's product, and the residual stream after the mixer. -/
abbrev uT (c : Dev nD) : Tab := product (hT m c) (wT m c)
abbrev yT (c : Dev nD) : Tab := stream (uT m c) (cwT m c) (wdT m c) (xT m c)

/-- The accumulator holds the stream and the slabs so far. -/
theorem scratch (c : Dev nD) (n : ℕ) : ∀ (hn : n < cfg0.N), n % 4 ≠ 3 → ∀ (r : Fin 512) (d : Fin 1024),
    (outsAt0 m c n hn).2.2.2.2.2.2 (ix2 r d) = xT m c (512 * (n / 4) + r) d
      + ∑ k ∈ Finset.range (n % 4 + 1), slab (uT m c) (cwT m c) (wdT m c) (512 * (n / 4) + r) d k := by
  induction n with
  | zero =>
    intro hn _ r d
    refine (scratch_first m c ⟨0, hn⟩ rfl r d).trans ?_
    rw [Nat.zero_mod, zero_add, Finset.sum_range_one]
  | succ n ih =>
    intro hn h3 r d
    by_cases h0 : (n + 1) % 4 = 0
    · refine (scratch_first m c ⟨n + 1, hn⟩ h0 r d).trans ?_
      dsimp only
      rw [h0, zero_add, Finset.sum_range_one]
    · refine (scratch_next m c ⟨n + 1, hn⟩ h0 h3 r d).trans ?_
      dsimp only
      refine (congrArg (· + _) (ih (Nat.lt_of_succ_lt hn) (by omega) r d)).trans ?_
      rw [show (n + 1) / 4 = n / 4 by omega, show (n + 1) % 4 = n % 4 + 1 by omega, Finset.sum_range_succ _ (n % 4 + 1), add_assoc]

/-- At a row block's last step it and the last slab are the stream after the mixer. -/
theorem finished (c : Dev nD) (t : Fin cfg0.N) (ht : t.val % 4 = 3) (r : Fin 512) (d : Fin 1024) :
    (prev m c t).2.2.2.2.2.2 (ix2 r d) + part m c t (ix2 r d) = yT m c (512 * (t.val / 4) + r) d := by
  rw [scratch m c (t.val - 1) _ (by omega) r d, part_at, ht, show (t.val - 1) / 4 = t.val / 4 by omega,
    show (t.val - 1) % 4 + 1 = 3 by omega, add_assoc, ← Finset.sum_range_succ, slabs]
  rfl

/-! ## The sums over the row blocks -/

/-- A value that a row block's last step adds to, and that the other steps keep. -/
theorem sums (S : (n : ℕ) → n < cfg0.N → EReal) (B : ℕ → EReal) (first : ∀ t : Fin cfg0.N, t.val = 3 → S t.val t.isLt = B 0)
    (next : ∀ t : Fin cfg0.N, t.val % 4 = 3 → 4 ≤ t.val →
      S t.val t.isLt = S (t.val - 1) (Nat.lt_of_le_of_lt (Nat.sub_le _ _) t.isLt) + B (t.val / 4))
    (keep : ∀ t : Fin cfg0.N, t.val ≠ 0 → t.val % 4 ≠ 3 →
      S t.val t.isLt = S (t.val - 1) (Nat.lt_of_le_of_lt (Nat.sub_le _ _) t.isLt))
    (n : ℕ) (h3 : 3 ≤ n) : ∀ hn, S n hn = ∑ k ∈ Finset.range ((n + 1) / 4), B k := by
  induction n, h3 using Nat.le_induction with
  | base =>
    intro hn
    exact (first ⟨3, hn⟩ rfl).trans (Finset.sum_range_one _).symm
  | succ n h3 ih =>
    intro hn
    by_cases h : (n + 1) % 4 = 3
    · refine (next ⟨n + 1, hn⟩ h (by dsimp only; omega)).trans ((congrArg (· + _) (ih (Nat.lt_of_succ_lt hn))).trans ?_)
      dsimp only
      rw [show (n + 1 + 1) / 4 = (n + 1) / 4 + 1 by omega, Finset.sum_range_succ]
    · refine (keep ⟨n + 1, hn⟩ (Nat.succ_ne_zero n) h).trans ((ih (Nat.lt_of_succ_lt hn)).trans ?_)
      rw [show (n + 1 + 1) / 4 = (n + 1) / 4 by omega]

theorem dNorm_at (c : Dev nD) (t : Fin cfg0.N) (ht : t.val = 15) (d : Fin 1024) :
    (outsAt0 m c t.val t.isLt).2.2.1 (ix2 0 d) = gradW (dMiss (yT m c) (nT m c) (goalT m c)) (yT m c) d := by
  have block : ∀ t : Fin cfg0.N, t.val % 4 = 3 → k0_pay5 (F := Ideal)
      (k0_pay14 (F := Ideal) (part m c t) (prev m c t).2.2.2.2.2.2 (iblk m c 8 t) (iblk m c 9 t))
      (k0_pay15 (F := Ideal) (part m c t) (prev m c t).2.2.2.2.2.2) (ix2 0 d)
        = ∑ r : Fin 512, dMiss (yT m c) (nT m c) (goalT m c) (512 * (t.val / 4) + r) d
            * (yT m c (512 * (t.val / 4) + r) d * inv (yT m c) (512 * (t.val / 4) + r)) := fun t ht =>
    Payload.gradW_at (512 * (t.val / 4)) (finished m c t ht) (block8 m c t) (block9 m c t) d
  refine (sums (fun n hn => (outsAt0 m c n hn).2.2.1 (ix2 0 d)) (fun k => ∑ r : Fin 512, dMiss (yT m c) (nT m c) (goalT m c) (512 * k + r) d
    * (yT m c (512 * k + r) d * inv (yT m c) (512 * k + r))) ?_ ?_ ?_ t.val (by omega) t.isLt).trans ?_
  · intro t h3
    rw [first_dNorm m c t h3, block t (by omega), h3]
  · intro t h3 h4
    rw [next_dNorm m c t h3 h4, ← block t h3]
    generalize k0_pay14 (F := Ideal) _ _ _ _ = a
    generalize k0_pay15 (F := Ideal) _ _ = b
    pointwise [k0_pay7]
  · intro t h0 h3
    exact congrFun (keep m c t h0 h3).1 _
  · rw [ht, gradW]
    exact rows fun s => dMiss (yT m c) (nT m c) (goalT m c) s d * (yT m c s d * inv (yT m c) s)

theorem loss_at (c : Dev nD) (hy : RealTab (yT m c)) (hn : ∀ d, IsReal (nT m c d)) (hg : RealTab (goalT m c))
    (t : Fin cfg0.N) (ht : t.val = 15) (l : Fin 128) :
    (outsAt0 m c t.val t.isLt).2.2.2.1 (ix2 0 l) = loss (yT m c) (nT m c) (goalT m c) := by
  have block : ∀ t : Fin cfg0.N, t.val % 4 = 3 → k0_pay6 (F := Ideal)
      (k0_pay13 (F := Ideal) (part m c t) (prev m c t).2.2.2.2.2.2 (iblk m c 8 t) (iblk m c 9 t)) (ix2 0 l)
        = (∑ r : Fin 512, energy (yT m c) (nT m c) (goalT m c) (512 * (t.val / 4) + r)) * halfShare := fun t ht =>
    Payload.loss_at (512 * (t.val / 4)) (finished m c t ht) (block8 m c t) (block9 m c t) l
  refine (sums (fun n hn => (outsAt0 m c n hn).2.2.2.1 (ix2 0 l)) (fun k => (∑ r : Fin 512, energy (yT m c) (nT m c) (goalT m c) (512 * k + r))
    * halfShare) ?_ ?_ ?_ t.val (by omega) t.isLt).trans ?_
  · intro t h3
    rw [first_loss m c t h3, block t (by omega), h3]
  · intro t h3 h4
    rw [next_loss m c t h3 h4, ← block t h3]
    generalize k0_pay13 (F := Ideal) _ _ _ _ = a
    pointwise [k0_pay8]
  · intro t h0 h3
    exact congrFun (keep m c t h0 h3).2 _
  · rw [ht]
    exact loss_rows hy hn hg

/-! ## The arrays -/

/-- The gradient at the residual stream. -/
def dxOut (y g : Tab) (n : ℕ → EReal) (e : FTy) : FVec Ideal S2048x1024 e := fun i => grad (dMiss y n g) y n (i 0).val (i 1).val

/-- The gradient at the last norm's weights. -/
def dNormOut (y g : Tab) (n : ℕ → EReal) : Vec Ideal S1x1024 .f32 := fun i => gradW (dMiss y n g) y (i 1).val

/-- The loss, along a row. -/
def lossOut (y g : Tab) (n : ℕ → EReal) : Vec Ideal S1x128 .f32 := fun _ => loss y n g

/-- The two halves of the up-projection's product, slab by slab. -/
def gateOut (u : Tab) : Vec Ideal S4x2048x704 .bf16 := fun i => u (i 1).val (704 * (i 0).val + (i 2).val)
def upOut (u : Tab) : Vec Ideal S4x2048x704 .bf16 := fun i => u (i 1).val (2816 + (704 * (i 0).val + (i 2).val))

theorem dx_at (c : Dev nD) (t : Fin cfg0.N) (ht : t.val % 4 = 3) (r : Fin 512) (d : Fin 1024) :
    k0_pay16 (F := Ideal) (part m c t) (prev m c t).2.2.2.2.2.2 (iblk m c 8 t) (iblk m c 9 t) (ix2 r d)
      = grad (dMiss (yT m c) (nT m c) (goalT m c)) (yT m c) (nT m c) (512 * (t.val / 4) + r) d :=
  Payload.grad_at (512 * (t.val / 4)) (finished m c t ht) (block8 m c t) (block9 m c t) r d

theorem out10 (c : Dev nD) (t : Fin cfg0.N) (ht : t.val % 4 = 3) (r : Fin 512) (d : Fin 1024) :
    (outsAt0 m c t.val t.isLt).1 (ix2 r d)
      = grad (dMiss (yT m c) (nT m c) (goalT m c)) (yT m c) (nT m c) (512 * (t.val / 4) + r) d := by
  rw [last_dx m c t ht, dx_at m c t ht]

theorem out11 (c : Dev nD) (t : Fin cfg0.N) (ht : t.val % 4 = 3) (r : Fin 512) (d : Fin 1024) :
    (outsAt0 m c t.val t.isLt).2.1 (ix2 r d)
      = grad (dMiss (yT m c) (nT m c) (goalT m c)) (yT m c) (nT m c) (512 * (t.val / 4) + r) d := by
  rw [last_dxb m c t ht, ← dx_at m c t ht]
  generalize k0_pay16 (F := Ideal) _ _ _ _ = a
  pointwise [k0_pay4]

theorem final10 (c : Dev nD) : (dats m 0 c).arrAt 10 cfg0.N = dxOut (yT m c) (goalT m c) (nT m c) .f32 := by
  refine (dats m 0 c).arrAt_eq_of_covers 10 _ (by decide +kernel) fun t hf y => ?_
  obtain ⟨p, -⟩ := place_out t
  blk_simp
  rw [after0_10]
  have hy : y = ix2 (y 0) (y 1) := by blk_ext
  refine (congrArg _ hy).trans ((out10 m c t ((flush0_10 t).mp hf) (y 0) (y 1)).trans ?_)
  simp only [dxOut]
  blk_simp [p]
  rw [Nat.mul_comm 512]

theorem final11 (c : Dev nD) : (dats m 0 c).arrAt 11 cfg0.N = dxOut (yT m c) (goalT m c) (nT m c) .bf16 := by
  refine (dats m 0 c).arrAt_eq_of_covers 11 _ (by decide +kernel) fun t hf y => ?_
  obtain ⟨-, p, -⟩ := place_out t
  blk_simp
  rw [after0_11]
  have hy : y = ix2 (y 0) (y 1) := by blk_ext
  refine (congrArg _ hy).trans ((out11 m c t ((flush0_11 t).mp hf) (y 0) (y 1)).trans ?_)
  simp only [dxOut]
  blk_simp [p]
  rw [Nat.mul_comm 512]

theorem final12 (c : Dev nD) : (dats m 0 c).arrAt 12 cfg0.N = dNormOut (yT m c) (goalT m c) (nT m c) := by
  refine (dats m 0 c).arrAt_eq_of_covers 12 _ (by decide +kernel) fun t hf y => ?_
  obtain ⟨-, -, p, -⟩ := place_out t
  have hN : t.val < 16 := t.isLt
  have h15 := (flush0_12 t).mp hf
  blk_simp
  rw [after0_12]
  have hy : y = ix2 (0 : Fin 1) (y 1) := by blk_ext
  refine (congrArg _ hy).trans ((dNorm_at m c t (by omega) (y 1)).trans ?_)
  simp only [dNormOut]
  blk_simp [p]

theorem final13 (c : Dev nD) (hy : RealTab (yT m c)) (hn : ∀ d, IsReal (nT m c d)) (hg : RealTab (goalT m c)) :
    (dats m 0 c).arrAt 13 cfg0.N = lossOut (yT m c) (goalT m c) (nT m c) := by
  refine (dats m 0 c).arrAt_eq_of_covers 13 _ (by decide +kernel) fun t hf y => ?_
  have hN : t.val < 16 := t.isLt
  have h15 := (flush0_13 t).mp hf
  blk_simp
  rw [after0_13]
  have hy' : y = ix2 (0 : Fin 1) (y 1) := by blk_ext
  exact (congrArg _ hy').trans (loss_at m c hy hn hg t (by omega) (y 1))

theorem final14 (c : Dev nD) : (dats m 0 c).arrAt 14 cfg0.N = gateOut (uT m c) := by
  refine (dats m 0 c).arrAt_eq_of_covers 14 _ (by decide +kernel) fun t hf y => ?_
  obtain ⟨-, -, -, -, p, -⟩ := place_out t
  obtain ⟨i0, i1⟩ := coords_at t
  blk_simp
  rw [after0_14, slab_gate]
  have hy : y = ix3 (0 : Fin 1) (y 1) (y 2) := by blk_ext
  refine (congrArg _ hy).trans ((Payload.ug_at (blocks m c t) (y 1) (y 2)).trans ?_)
  rw [i0, i1]
  simp only [gateOut]
  blk_simp [p]
  rw [Nat.mul_comm 512]

theorem final15 (c : Dev nD) : (dats m 0 c).arrAt 15 cfg0.N = upOut (uT m c) := by
  refine (dats m 0 c).arrAt_eq_of_covers 15 _ (by decide +kernel) fun t hf y => ?_
  obtain ⟨-, -, -, -, -, p⟩ := place_out t
  obtain ⟨i0, i1⟩ := coords_at t
  blk_simp
  rw [after0_15, slab_up]
  have hy : y = ix3 (0 : Fin 1) (y 1) (y 2) := by blk_ext
  refine (congrArg _ hy).trans ((Payload.uu_at (blocks m c t) (y 1) (y 2)).trans ?_)
  rw [i0, i1]
  simp only [upOut]
  blk_simp [p]
  rw [Nat.mul_comm 512]

end Cert.Kernel4Ideal.Forward
-- ==== Proof.FwdReference.lean ====
module

public import proofs.«01_k».proof.Proof.Gen.Reference4Ideal.Read
public import proofs.«01_k».proof.Proof.FwdSpec
public import Idealize.ShloMosaic.Lib.Pipeline.ValueKit

@[expose] public section

set_option maxRecDepth 16384

/-!
# The arrays the forward call's reference leaves, as functions of the arguments' tables
-/

noncomputable section

namespace Cert.Reference4Ideal.Values

open Cert.Reference4Ideal Cert.Reference4Ideal.Gen Cert.Reference4Ideal.Read Idealize.ShloMosaic Idealize.ShloMosaic.TcCoe Mixer Norm Forward

variable (x0 x1 : Vec Ideal S2048x1024 .f32) (x2 : Vec Ideal S1024x5632 .f32) (x3 : Vec Ideal S3x5632 .f32)
  (x4 : Vec Ideal S2816x1024 .f32) (x5 : Vec Ideal S1024 .f32) (x6 : Vec Ideal S2048x1024 .f32)

/-! ## The mixer -/

theorem u_at (s : Fin 2048) (n : Fin 5632) : val_main_v1 x0 x2 (ix3 0 s n) = product (tab x0) (tab x2) s n := by
  unfold val_main_v1 val_main_v0
  pointwise
  exact Finset.sum_congr (M := EReal) rfl fun x _ => congrArg₂ (α := EReal) _ (tab_apply _ _ _) (tab_apply _ _ _)

theorem padded_at (q : Fin 2050) (n : Fin 5632) : val_main_v4 x0 x2 (ix3 0 q n) = padded (product (tab x0) (tab x2)) (q + 14) n := by
  unfold val_main_v4 val_main_v3 val_main_cst
  pointwise
  rw [padded]
  by_cases h : q.val < 2
  · rw [dif_pos h, if_pos (by omega)]
  · refine (dif_neg h).trans ((u_at x0 x2 ⟨q.val - 2, by omega⟩ n).trans ?_)
    rw [if_neg (by omega), show q.val + 14 - 16 = q.val - 2 by omega]

theorem tap0 (s : Fin 2048) (n : Fin 5632) : val_main_v9 x3 (ix3 0 s n) = tab x3 0 n := by
  unfold val_main_v9 val_main_v8 val_main_v7 val_main_v6
  pointwise
  exact tab_apply x3 0 n

theorem tap1 (s : Fin 2048) (n : Fin 5632) : val_main_v15 x3 (ix3 0 s n) = tab x3 1 n := by
  unfold val_main_v15 val_main_v14 val_main_v13 val_main_v12
  pointwise
  exact tab_apply x3 1 n

theorem tap2 (s : Fin 2048) (n : Fin 5632) : val_main_v22 x3 (ix3 0 s n) = tab x3 2 n := by
  unfold val_main_v22 val_main_v21 val_main_v20 val_main_v19
  pointwise
  exact tab_apply x3 2 n

theorem rows0 (s : Fin 2048) (n : Fin 5632) : val_main_v5 x0 x2 (ix3 0 s n) = padded (product (tab x0) (tab x2)) (s + 14) n := by
  unfold val_main_v5
  pointwise
  exact padded_at x0 x2 ⟨s, by omega⟩ n

theorem rows1 (s : Fin 2048) (n : Fin 5632) : val_main_v11 x0 x2 (ix3 0 s n) = padded (product (tab x0) (tab x2)) (s + 15) n := by
  unfold val_main_v11
  pointwise
  exact (padded_at x0 x2 ⟨1 + s, by omega⟩ n).trans (congrArg (padded (product (tab x0) (tab x2)) · n) (by dsimp only; omega))

theorem rows2 (s : Fin 2048) (n : Fin 5632) : val_main_v18 x0 x2 (ix3 0 s n) = padded (product (tab x0) (tab x2)) (s + 16) n := by
  unfold val_main_v18
  pointwise
  exact (padded_at x0 x2 ⟨2 + s, by omega⟩ n).trans (congrArg (padded (product (tab x0) (tab x2)) · n) (by dsimp only; omega))

theorem conv_at (s : Fin 2048) (n : Fin 5632) : val_main_v24 x0 x2 x3 (ix3 0 s n) = conv (product (tab x0) (tab x2)) (tab x3) s n := by
  unfold val_main_v24 val_main_v23 val_main_v17 val_main_v16 val_main_v10
  pointwise
  rw [rows0, rows1, rows2, tap0, tap1, tap2, conv]

theorem gate_at (s : Fin 2048) (f : Fin 2816) : val_main_v25 x0 x2 x3 (ix3 0 s f) = conv (product (tab x0) (tab x2)) (tab x3) s f := by
  unfold val_main_v25
  pointwise
  exact conv_at x0 x2 x3 s ⟨f, by omega⟩

theorem up_at (s : Fin 2048) (f : Fin 2816) :
    val_main_v26 x0 x2 x3 (ix3 0 s f) = conv (product (tab x0) (tab x2)) (tab x3) s (2816 + f) := by
  unfold val_main_v26
  pointwise
  exact conv_at x0 x2 x3 s ⟨2816 + f, by omega⟩

theorem sig_at (s : Fin 2048) (f : Fin 2816) :
    val_main_call0_v5 x0 x2 x3 (ix3 0 s f) = logis (conv (product (tab x0) (tab x2)) (tab x3) s f) := by
  unfold val_main_call0_v5 val_main_call0_v4 val_main_call0_v3 val_main_call0_v2 val_main_call0_v1 val_main_call0_v0
    val_main_call0_cst val_main_call0_cst_0
  pointwise
  rw [gate_at, logis, zero_sub]

theorem act_at (s : Fin 2048) (f : Fin 2816) : val_main_v28 x0 x2 x3 (ix3 0 s f) = act (product (tab x0) (tab x2)) (tab x3) s f := by
  unfold val_main_v28 val_main_v27
  pointwise
  rw [gate_at, sig_at, up_at, act]

/-- The residual stream after the mixer. -/
abbrev out : Tab := stream (product (tab x0) (tab x2)) (tab x3) (tab x4) (tab x1)

theorem stream_at (s : Fin 2048) (d : Fin 1024) : val_main_v30 x0 x1 x2 x3 x4 (ix3 0 s d) = out x0 x1 x2 x3 x4 s d := by
  unfold val_main_v30 val_main_v29 val_main_v2
  pointwise
  exact congrArg₂ (α := EReal) _ (tab_apply _ _ _) (Finset.sum_congr (M := EReal) rfl fun f _ => congrArg₂ (α := EReal) _ (act_at x0 x2 x3 s f) (tab_apply _ _ _))

/-! ## The norm and the loss -/

theorem power_at (s : Fin 2048) : val_main_v38 x0 x1 x2 x3 x4 (ix3 0 s 0) = power (out x0 x1 x2 x3 x4) s := by
  unfold val_main_v38 val_main_v37 val_main_v36 val_main_v35 val_main_v34 val_main_v33 val_main_v32 val_main_cst_0 val_main_cst_1
    val_main_cst_2
  pointwise
  simp only [stream_at]
  rfl

theorem inv_at (s : Fin 2048) : val_main_v39 x0 x1 x2 x3 x4 (ix3 0 s 0) = inv (out x0 x1 x2 x3 x4) s := by
  unfold val_main_v39
  pointwise
  rw [power_at]
  rfl

theorem normed_at (s : Fin 2048) (d : Fin 1024) :
    val_main_v44 x0 x1 x2 x3 x4 (ix3 0 s d) = out x0 x1 x2 x3 x4 s d * inv (out x0 x1 x2 x3 x4) s := by
  unfold val_main_v44 val_main_v43
  pointwise
  rw [stream_at, inv_at]

theorem miss_at (s : Fin 2048) (d : Fin 1024) :
    val_main_v48 x0 x1 x2 x3 x4 x5 x6 (ix3 0 s d) = miss (out x0 x1 x2 x3 x4) (list x5) (tab x6) s d := by
  unfold val_main_v48 val_main_v47 val_main_v46 val_main_v45 val_main_v31
  pointwise
  rw [normed_at, miss, ← list_apply, ← tab_apply]

theorem energy_at (s : Fin 2048) :
    val_main_v52 x0 x1 x2 x3 x4 x5 x6 (ix2 0 s) = energy (out x0 x1 x2 x3 x4) (list x5) (tab x6) s := by
  unfold val_main_v52 val_main_v49 val_main_cst_5
  pointwise
  simp only [miss_at]
  rfl

theorem stream_real (h0 : RealTab (tab x0)) (h1 : RealTab (tab x1)) (h2 : RealTab (tab x2)) (h3 : RealTab (tab x3))
    (h4 : RealTab (tab x4)) : RealTab (out x0 x1 x2 x3 x4) :=
  real_stream (real_product h0 h2) h3 h4 h1

section
variable (hx : RealTab (out x0 x1 x2 x3 x4)) (h5 : ∀ d, IsReal (list x5 d)) (h6 : RealTab (tab x6))
include hx h5 h6

theorem loss_at (l : Fin 128) :
    val_main_v91 x0 x1 x2 x3 x4 x5 x6 (ix2 0 l) = loss (out x0 x1 x2 x3 x4) (list x5) (tab x6) := by
  rw [← loss_means hx h5 h6]
  unfold val_main_v91 val_main_v56 val_main_v55 val_main_cst_7 val_main_cst_8
  pointwise
  refine congrArg _ ((Fin.sum_univ_one _).trans ?_)
  unfold val_main_v54 val_main_v53 val_main_cst_6
  pointwise
  simp only [energy_at]
  rfl

theorem dMiss_at (s : Fin 2048) (d : Fin 1024) :
    val_main_v62 x0 x1 x2 x3 x4 x5 x6 (ix3 0 s d) = dMiss (out x0 x1 x2 x3 x4) (list x5) (tab x6) s d := by
  rw [← dMiss_chain hx h5 h6]
  unfold val_main_v62 val_main_v61 val_main_v60 val_main_v59 val_main_v58 val_main_v57 val_main_v51 val_main_v50 val_main_cst_4
    val_main_cst_9 val_main_cst_10 val_main_cst_11
  pointwise
  rw [miss_at]
  rfl

theorem dNorm_at (d : Fin 1024) :
    val_main_v90 x0 x1 x2 x3 x4 x5 x6 (ix2 0 d)
      = gradW (dMiss (out x0 x1 x2 x3 x4) (list x5) (tab x6)) (out x0 x1 x2 x3 x4) d := by
  unfold val_main_v90 val_main_v68 val_main_cst_13
  pointwise
  refine (sum_units _ _ (ix1 d) (ix3 0 0 d) (by funext a; match a with | ⟨0, _⟩ => rfl) fun i h => ?_).trans ?_
  · have e : i 2 = d := congrFun h 0
    rw [← e]
    blk_ext
  · unfold val_main_v65 val_main_v64 val_main_v63 val_main_cst_12
    pointwise
    simp only [normed_at, dMiss_at x0 x1 x2 x3 x4 x5 x6 hx h5 h6]
    exact Finset.sum_congr (M := EReal) rfl fun s _ => mul_comm _ _

theorem weighted_at (s : Fin 2048) (d : Fin 1024) : val_main_v67 x0 x1 x2 x3 x4 x5 x6 (ix3 0 s d)
      = dMiss (out x0 x1 x2 x3 x4) (list x5) (tab x6) s d * list x5 d := by
  unfold val_main_v67 val_main_v66 val_main_v45
  pointwise
  rw [dMiss_at x0 x1 x2 x3 x4 x5 x6 hx h5 h6, ← list_apply]

theorem pull_at (s : Fin 2048) :
    val_main_v77 x0 x1 x2 x3 x4 x5 x6 (ix1 s)
      = Ideal.div ((∑ e : Fin 1024, out x0 x1 x2 x3 x4 s e * (dMiss (out x0 x1 x2 x3 x4) (list x5) (tab x6) s e * list x5 e))
        * (Ideal.ofBits FTy.f32 0xBF000000#32 * Ideal.div (inv (out x0 x1 x2 x3 x4) s) (power (out x0 x1 x2 x3 x4) s))) width := by
  unfold val_main_v77 val_main_cst_16
  pointwise
  refine (sum_units _ _ (ix1 s) (ix3 0 s 0) (by funext a; match a with | ⟨0, _⟩ => rfl) fun i h => ?_).trans ?_
  · have e : i 1 = s := congrFun h 0
    rw [← e]
    blk_ext
  · unfold val_main_v76 val_main_v75 val_main_v74 val_main_v71 val_main_v70 val_main_v69 val_main_v42 val_main_v41 val_main_v40
      val_main_cst_14 val_main_cst_15 val_main_cst_3
    pointwise
    simp only [power_at, inv_at, stream_at, weighted_at x0 x1 x2 x3 x4 x5 x6 hx h5 h6]
    rfl

theorem dx_at (s : Fin 2048) (d : Fin 1024) : val_main_v83 x0 x1 x2 x3 x4 x5 x6 (ix3 0 s d)
      = grad (dMiss (out x0 x1 x2 x3 x4) (list x5) (tab x6)) (out x0 x1 x2 x3 x4) (list x5) s d := by
  rw [grad_eq (real_dMiss hx h5 h6) hx h5, ← pull_at x0 x1 x2 x3 x4 x5 x6 hx h5 h6, ← weighted_at x0 x1 x2 x3 x4 x5 x6 hx h5 h6,
    ← inv_at]
  unfold val_main_v83 val_main_v82 val_main_v81 val_main_v80 val_main_v79 val_main_v78 val_main_v73 val_main_v72
  pointwise
  rw [stream_at]

end

/-! ## The results -/

theorem ug_at (k : Fin 4) (s : Fin 2048) (l : Fin 704) : val_main_v93 x0 x2 (ix3 k s l) = product (tab x0) (tab x2) s (704 * k + l) := by
  unfold val_main_v93 val_main_v92 val_main_v86 val_main_v85 val_main_v84
  pointwise
  refine .trans ?_ (u_at x0 x2 s ⟨704 * k + l, by omega⟩)
  congr 1
  blk_ext

theorem uu_at (k : Fin 4) (s : Fin 2048) (l : Fin 704) :
    val_main_v95 x0 x2 (ix3 k s l) = product (tab x0) (tab x2) s (2816 + (704 * k + l)) := by
  unfold val_main_v95 val_main_v94 val_main_v86 val_main_v85 val_main_v84
  pointwise
  refine .trans ?_ (u_at x0 x2 s ⟨2816 + (704 * k + l), by omega⟩)
  congr 1
  blk_ext

end Cert.Reference4Ideal.Values
-- ==== Proof.FwdClaims.lean ====
module

public import proofs.«01_k».proof.Defs
public import proofs.«01_k».proof.Proof.Gen.Kernel4Ideal
public import proofs.«01_k».proof.Proof.Gen.Reference4Ideal
public import proofs.«01_k».proof.Proof.Gen.Pre_finite4
public import proofs.«01_k».proof.Proof.FwdRun
public import proofs.«01_k».proof.Proof.FwdFinal
public import proofs.«01_k».proof.Proof.FwdReference
public import Idealize.ShloMosaic.Lib.Quiescent

@[expose] public section

set_option maxRecDepth 16384

/-!
# The forward call and its reference leave the same arrays
-/

noncomputable section

namespace Cert.FwdClaims

open Idealize.ShloMosaic Idealize.SL.Sem Mixer Norm

/-- What the precondition says, as far as the proof needs it. -/
theorem args_real {m : (ℓ : Loc Cert.Kernel4Ideal.nD Cert.Kernel4Ideal.τ Cert.Kernel4Ideal.sig) → Buf (Elt Ideal) ℓ}
    (h : Cert.Pre_Kernel4Ideal_finite4 m) (c : Dev Cert.Kernel4Ideal.nD) :
    RealTab (Kernel4Ideal.Forward.yT m c) ∧ (∀ d, IsReal (Kernel4Ideal.Forward.nT m c d)) ∧ RealTab (Kernel4Ideal.Forward.goalT m c) := by
  have e := congrFun (h c) (fun a => a.elim0)
  dsimp only [Cert.Pre_finite4.fn, Cert.Pre_finite4.fn_part1] at e
  obtain ⟨e, e6⟩ := IntOp.andi_eq_one.mp e
  obtain ⟨e, e5⟩ := IntOp.andi_eq_one.mp e
  obtain ⟨e, e4⟩ := IntOp.andi_eq_one.mp e
  obtain ⟨e, e3⟩ := IntOp.andi_eq_one.mp e
  obtain ⟨e, e2⟩ := IntOp.andi_eq_one.mp e
  obtain ⟨e0, e1⟩ := IntOp.andi_eq_one.mp e
  exact ⟨Forward.real_stream (real_product (real_tab (entries_real _ _ _ _ e0)) (real_tab (entries_real _ _ _ _ e2)))
    (real_tab (entries_real _ _ _ _ e3)) (real_tab (entries_real _ _ _ _ e4)) (real_tab (entries_real _ _ _ _ e1)),
    real_list (entries_real _ _ _ _ e5), real_tab (entries_real _ _ _ _ e6)⟩

section Reference
open Cert.Reference4Ideal Cert.Reference4Ideal.Gen Cert.Reference4Ideal.Read Cert.Reference4Ideal.Values
open Cert.Kernel4Ideal.Forward (dxOut dNormOut lossOut gateOut upOut)

variable (x0 x1 : Vec Ideal S2048x1024 .f32) (x2 : Vec Ideal S1024x5632 .f32) (x3 : Vec Ideal S3x5632 .f32)
  (x4 : Vec Ideal S2816x1024 .f32) (x5 : Vec Ideal S1024 .f32) (x6 : Vec Ideal S2048x1024 .f32)

section
variable (hx : RealTab (out x0 x1 x2 x3 x4)) (h5 : ∀ d, IsReal (list x5 d)) (h6 : RealTab (tab x6))
include hx h5 h6

theorem reference_dx : val_main_v87 x0 x1 x2 x3 x4 x5 x6 = dxOut (out x0 x1 x2 x3 x4) (tab x6) (list x5) .f32 := by
  funext i
  rw [show i = ix2 (i 0) (i 1) by blk_ext]
  unfold val_main_v87
  pointwise
  exact dx_at x0 x1 x2 x3 x4 x5 x6 hx h5 h6 (i 0) (i 1)

theorem reference_dxb : val_main_v89 x0 x1 x2 x3 x4 x5 x6 = dxOut (out x0 x1 x2 x3 x4) (tab x6) (list x5) .bf16 := by
  funext i
  rw [show i = ix2 (i 0) (i 1) by blk_ext]
  unfold val_main_v89 val_main_v88
  pointwise
  exact dx_at x0 x1 x2 x3 x4 x5 x6 hx h5 h6 (i 0) (i 1)

theorem reference_dNorm : val_main_v90 x0 x1 x2 x3 x4 x5 x6 = dNormOut (out x0 x1 x2 x3 x4) (tab x6) (list x5) := by
  funext i
  rw [show i = ix2 (0 : Fin 1) (i 1) by blk_ext]
  exact dNorm_at x0 x1 x2 x3 x4 x5 x6 hx h5 h6 (i 1)

theorem reference_loss : val_main_v91 x0 x1 x2 x3 x4 x5 x6 = lossOut (out x0 x1 x2 x3 x4) (tab x6) (list x5) := by
  funext i
  rw [show i = ix2 (0 : Fin 1) (i 1) by blk_ext]
  exact loss_at x0 x1 x2 x3 x4 x5 x6 hx h5 h6 (i 1)

end

theorem reference_gate : val_main_v93 x0 x2 = gateOut (product (tab x0) (tab x2)) := by
  funext i
  rw [show i = ix3 (i 0) (i 1) (i 2) by blk_ext]
  exact ug_at x0 x2 (i 0) (i 1) (i 2)

theorem reference_up : val_main_v95 x0 x2 = upOut (product (tab x0) (tab x2)) := by
  funext i
  rw [show i = ix3 (i 0) (i 1) (i 2) by blk_ext]
  exact uu_at x0 x2 (i 0) (i 1) (i 2)

/-- The reference terminates with its arguments unchanged, and declares no semaphore. -/
theorem reference_frame (m : (ℓ : Loc nD τ sig) → Buf (Elt Ideal) ℓ) (g : Dev nD → PrngReg) :
    θ_run (defs (F := Ideal)) (onTc (τ := τ) (main (F := Ideal))) ⟨m, fun _ => 0, g⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0 :=
  (θ_run _ _ _).mono (fun r h => ⟨fun c => (h c).2.2.2.2.2.2, sem_eq_zero_of_no_sems (by decide) r.2⟩)
    (Cert.Reference4Ideal.Value.run m g)

end Reference

section Kernel
open Cert.Kernel4Ideal Cert.Kernel4Ideal.Gen Cert.Kernel4Ideal.Forward

/-- What the kernel leaves. -/
theorem kernel_run (m : (ℓ : Loc nD τ sig) → Buf (Elt Ideal) ℓ) (g : Dev nD → PrngReg)
    (hr : ∀ c : Dev nD, RealTab (yT m c) ∧ (∀ d, IsReal (nT m c d)) ∧ RealTab (goalT m c)) :
    θ_run (defs (F := Ideal)) (onTc (τ := τ) (main (F := Ideal))) ⟨m, fun _ => 0, g⟩ fun r => ∀ c : Dev nD,
      r.2.mem ((c.tc : Thread nD τ).loc main_v8_0) = dxOut (yT m c) (goalT m c) (nT m c) .f32
      ∧ r.2.mem ((c.tc : Thread nD τ).loc main_v8_1) = dxOut (yT m c) (goalT m c) (nT m c) .bf16
      ∧ r.2.mem ((c.tc : Thread nD τ).loc main_v8_2) = dNormOut (yT m c) (goalT m c) (nT m c)
      ∧ r.2.mem ((c.tc : Thread nD τ).loc main_v8_3) = lossOut (yT m c) (goalT m c) (nT m c)
      ∧ r.2.mem ((c.tc : Thread nD τ).loc main_v8_4) = gateOut (uT m c)
      ∧ r.2.mem ((c.tc : Thread nD τ).loc main_v8_5) = upOut (uT m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run _ _ _).mono (fun r h c => by
    obtain ⟨h0, h1, h2, h3, h4, h5, ha⟩ := h c
    obtain ⟨hy, hn, hg⟩ := hr c
    exact ⟨h0.trans (final10 m c), h1.trans (final11 m c), h2.trans (final12 m c), h3.trans (final13 m c hy hn hg),
      h4.trans (final14 m c), h5.trans (final15 m c), ha⟩) (run_arrays m g)

end Kernel

/-- From the same arguments, all real, the two programs leave the same six arrays. -/
theorem algebraic : Cert.algebraic_Kernel4Ideal_Reference4Ideal_pre_finite4 := by
  intro m g m' g' hpre hagree
  refine ⟨_, _, _, _, _, _, kernel_run m g (args_real hpre), (θ_run _ _ _).mono (fun r h c => ?_) (Reference4Ideal.Value.run m' g')⟩
  obtain ⟨r0, r1, r2, r3, r4, r5, ra⟩ := h c
  obtain ⟨a0, a1, a2, a3, a4, a5, a6⟩ := hagree c
  obtain ⟨hy, hn, hg⟩ := args_real hpre c
  replace r0 := r0.trans (Reference4Ideal.Read.val_main_v87_eq (StableHlo.launchContents m' c))
  change _ = Reference4Ideal.Read.val_main_v87 (m' (c.tc.loc Reference4Ideal.main_arg0)) (m' (c.tc.loc Reference4Ideal.main_arg1)) (m' (c.tc.loc Reference4Ideal.main_arg2))
    (m' (c.tc.loc Reference4Ideal.main_arg3)) (m' (c.tc.loc Reference4Ideal.main_arg4)) (m' (c.tc.loc Reference4Ideal.main_arg5))
    (m' (c.tc.loc Reference4Ideal.main_arg6)) at r0
  rw [a0, a1, a2, a3, a4, a5, a6] at r0
  replace r1 := r1.trans (Reference4Ideal.Read.val_main_v89_eq (StableHlo.launchContents m' c))
  change _ = Reference4Ideal.Read.val_main_v89 (m' (c.tc.loc Reference4Ideal.main_arg0)) (m' (c.tc.loc Reference4Ideal.main_arg1)) (m' (c.tc.loc Reference4Ideal.main_arg2))
    (m' (c.tc.loc Reference4Ideal.main_arg3)) (m' (c.tc.loc Reference4Ideal.main_arg4)) (m' (c.tc.loc Reference4Ideal.main_arg5))
    (m' (c.tc.loc Reference4Ideal.main_arg6)) at r1
  rw [a0, a1, a2, a3, a4, a5, a6] at r1
  replace r2 := r2.trans (Reference4Ideal.Read.val_main_v90_eq (StableHlo.launchContents m' c))
  change _ = Reference4Ideal.Read.val_main_v90 (m' (c.tc.loc Reference4Ideal.main_arg0)) (m' (c.tc.loc Reference4Ideal.main_arg1)) (m' (c.tc.loc Reference4Ideal.main_arg2))
    (m' (c.tc.loc Reference4Ideal.main_arg3)) (m' (c.tc.loc Reference4Ideal.main_arg4)) (m' (c.tc.loc Reference4Ideal.main_arg5))
    (m' (c.tc.loc Reference4Ideal.main_arg6)) at r2
  rw [a0, a1, a2, a3, a4, a5, a6] at r2
  replace r3 := r3.trans (Reference4Ideal.Read.val_main_v91_eq (StableHlo.launchContents m' c))
  change _ = Reference4Ideal.Read.val_main_v91 (m' (c.tc.loc Reference4Ideal.main_arg0)) (m' (c.tc.loc Reference4Ideal.main_arg1)) (m' (c.tc.loc Reference4Ideal.main_arg2))
    (m' (c.tc.loc Reference4Ideal.main_arg3)) (m' (c.tc.loc Reference4Ideal.main_arg4)) (m' (c.tc.loc Reference4Ideal.main_arg5))
    (m' (c.tc.loc Reference4Ideal.main_arg6)) at r3
  rw [a0, a1, a2, a3, a4, a5, a6] at r3
  replace r4 := r4.trans (Reference4Ideal.Read.val_main_v93_eq (StableHlo.launchContents m' c))
  change _ = Reference4Ideal.Read.val_main_v93 (m' (c.tc.loc Reference4Ideal.main_arg0)) (m' (c.tc.loc Reference4Ideal.main_arg2)) at r4
  rw [a0, a2] at r4
  replace r5 := r5.trans (Reference4Ideal.Read.val_main_v95_eq (StableHlo.launchContents m' c))
  change _ = Reference4Ideal.Read.val_main_v95 (m' (c.tc.loc Reference4Ideal.main_arg0)) (m' (c.tc.loc Reference4Ideal.main_arg2)) at r5
  rw [a0, a2] at r5
  exact ⟨r0.trans (reference_dx _ _ _ _ _ _ _ hy hn hg), r1.trans (reference_dxb _ _ _ _ _ _ _ hy hn hg),
    r2.trans (reference_dNorm _ _ _ _ _ _ _ hy hn hg), r3.trans (reference_loss _ _ _ _ _ _ _ hy hn hg),
    r4.trans (reference_gate _ _), r5.trans (reference_up _ _), ra⟩

end Cert.FwdClaims
-- ==== Proof.WeightSpec.lean ====
module

public import proofs.«01_k».proof.Proof.Spec
public import Idealize.ShloMosaic.Lib.Pipeline.ValueKit

@[expose] public section

/-!
# The gradient at a projection's weights

A product of two tables over their 2048 rows. The calls add it up over four blocks of 512 rows.
-/

noncomputable section

namespace Weight

open Idealize.ShloMosaic Mixer

/-- The product of the transposed first table and the second. -/
def gradAt (a b : Tab) (p q : ℕ) : EReal := ∑ s : Fin 2048, a s p * b s q

/-- An array of it. -/
def gradOut {P Q : ℕ} (a b : Tab) : (⟨2, ![P, Q]⟩ : Shape).Idx → EReal := fun i => gradAt a b (i 0).val (i 1).val

/-- One block of rows' part of it. -/
def part (a b : Tab) (k p q : ℕ) : EReal := ∑ s : Fin 512, a (512 * k + s) p * b (512 * k + s) q

/-- The four blocks of rows are all the rows. -/
theorem parts (a b : Tab) (p q : ℕ) : ∑ k ∈ Finset.range 4, part a b k p q = gradAt a b p q := by
  have h : ∀ k ∈ Finset.range 4, part a b k p q = ∑ s ∈ Finset.range 512, a (512 * k + s) p * b (512 * k + s) q :=
    fun k _ => (Finset.sum_range (fun s => a (512 * k + s) p * b (512 * k + s) q)).symm
  rw [Finset.sum_congr rfl h, gradAt, ← Finset.sum_range (fun s => a s p * b s q), show (2048 : ℕ) = 512 + 512 + 512 + 512 from rfl]
  simp only [Finset.sum_range_add, Finset.sum_range_succ _ 3, Finset.sum_range_succ _ 2, Finset.sum_range_succ _ 1,
    Finset.sum_range_succ _ 0, Finset.sum_range_zero, zero_add]
  norm_num

/-- A quantity that takes the first part at every fourth step and adds the next part at the others holds the whole product at the
steps before a fourth one. Step `n` takes the columns from `P * (n / 4)` on. -/
theorem whole {N P Q : ℕ} (a b : Tab) (f : (n : ℕ) → n < N → Fin P × Fin Q → EReal)
    (h0 : ∀ t : Fin N, t.val % 4 = 0 → ∀ i, f t.val t.isLt i = part a b (t.val % 4) (P * (t.val / 4) + i.1) i.2)
    (hs : ∀ t : Fin N, ¬t.val % 4 = 0 → ∀ i, f t.val t.isLt i
      = f (t.val - 1) (Nat.lt_of_le_of_lt (Nat.sub_le _ _) t.isLt) i + part a b (t.val % 4) (P * (t.val / 4) + i.1) i.2)
    (t : Fin N) (ht : t.val % 4 = 3) (p : Fin P) (q : Fin Q) : f t.val t.isLt (p, q) = gradAt a b (P * (t.val / 4) + p) q := by
  have key := Pipeline.eq_sum_of_reset_step_apply_of_mod (M := EReal) f 4 (fun _ => 0)
    (fun n i => part a b (n % 4) (P * (n / 4) + i.1) i.2) (fun t h i => (h0 t h i).trans (zero_add _).symm) hs t ht (p, q)
  refine key.trans ((zero_add _).trans ?_)
  rw [← parts]
  refine Finset.sum_congr rfl fun k hk => ?_
  have := Finset.mem_range.mp hk
  rw [show (4 * (t.val / 4) + k) / 4 = t.val / 4 by omega, show (4 * (t.val / 4) + k) % 4 = k by omega]

end Weight
-- ==== Proof.WeightA.lean ====
module

public import proofs.«01_k».proof.Defs
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Read
public import proofs.«01_k».proof.Proof.WeightSpec
public import Idealize.ShloMosaic.Lib.Pipeline.ReadBack
public import Idealize.ShloMosaic.Lib.Quiescent

@[expose] public section

set_option maxRecDepth 16384

/-!
# The gradient at the first columns of the input projection (`proj_a_dw`)

Grid point `t` takes the rows from `512 * t` on.
-/

noncomputable section

open Idealize.ShloMosaic Idealize.ShloMosaic.TcCoe Idealize.SL.Sem Mixer Weight

namespace Cert.Kernel5Ideal.Weights

open Cert.Kernel5Ideal Cert.Kernel5Ideal.Gen

variable (m : (ℓ : Loc nD τ sig) → Buf (Elt Ideal) ℓ)

/-- The tables of the two arguments. -/
def aT (c : Dev nD) : Tab := tab (m ((c : Thread nD τ).loc main_arg0))
def bT (c : Dev nD) : Tab := tab (m ((c : Thread nD τ).loc main_arg1))

theorem V0 (c : Dev nD) (s : Fin 2048) (p : Fin 1664) : V m c main_v0 (ix2 s p) = aT m c s p := by
  rw [aT, ← tab_apply]
  entry_read
  pointwise

theorem V1 (c : Dev nD) (s : Fin 2048) (q : Fin 1024) : V m c main_v1 (ix2 s q) = bT m c s q := by
  rw [bT, ← tab_apply]
  entry_read
  pointwise

/-- Where each window's block lies, in blocks. -/
theorem place : ∀ t : Fin grid0.N,
    win0_0.index t = ![t.val % 4, t.val / 4] ∧ win0_1.index t = ![t.val % 4, 0] ∧ win0_2.index t = ![t.val / 4, 0] := by
  decide +kernel

theorem block0 (c : Dev nD) (t : Fin cfg0.N) (s : Fin 512) (p : Fin 1664) :
    iblk m c 0 t (ix2 s p) = aT m c (512 * (t.val % 4) + s) (1664 * (t.val / 4) + p) := by
  have hN : t.val < 4 := t.isLt
  obtain ⟨e, -⟩ := place t
  refine .trans ?_ (V0 m c ⟨512 * (t.val % 4) + s, by omega⟩ ⟨1664 * (t.val / 4) + p, by omega⟩)
  blk_ext [iblk, e]

theorem block1 (c : Dev nD) (t : Fin cfg0.N) (s : Fin 512) (q : Fin 1024) :
    iblk m c 1 t (ix2 s q) = bT m c (512 * (t.val % 4) + s) q := by
  have hN : t.val < 4 := t.isLt
  obtain ⟨-, e, -⟩ := place t
  refine .trans ?_ (V1 m c ⟨512 * (t.val % 4) + s, by omega⟩ q)
  blk_ext [iblk, e]

theorem part_at (c : Dev nD) (t : Fin cfg0.N) (p : Fin 1664) (q : Fin 1024) : k0_pay1 (F := Ideal) (iblk m c 0 t) (iblk m c 1 t) (ix2 p q)
    = part (aT m c) (bT m c) (t.val % 4) (1664 * (t.val / 4) + p) q := by
  pointwise [k0_pay1]
  exact Finset.sum_congr (M := EReal) rfl fun s _ => congrArg₂ (α := EReal) _ (block0 m c t s p) (block1 m c t s q)

set_option maxHeartbeats 4000000 in
/-- At a block's last step the accumulator holds the product. -/
theorem acc (c : Dev nD) (t : Fin cfg0.N) (ht : t.val % 4 = 3) (p : Fin 1664) (q : Fin 1024) :
    (outsAt0 m c t.val t.isLt).2 (ix2 p q) = gradAt (aT m c) (bT m c) (1664 * (t.val / 4) + p) q := by
  refine whole (aT m c) (bT m c) (fun n h (i : Fin 1664 × Fin 1024) => (outsAt0 m c n h).2 (ix2 i.1 i.2)) ?_ ?_ t ht p q
  · intro t h0 i
    have hN : t.val < 4 := t.isLt
    rw [outsAt0_A m c t h0 (by omega) (by omega)]
    frame_open
    simp (disch := decide) only [↓ View.readCov_skip, ↓ View.readCov_cons_toLoadRect, ↓ View.readCov_fill]
    frame_out
    pointwise [k0_pay2]
    exact part_at m c t i.1 i.2
  · intro t h0 i
    have hN : t.val < 4 := t.isLt
    by_cases h2 : t.val % 4 = 3
    · rw [outsAt0_C m c t h0 (by omega) h2]
      frame_open
      simp (disch := decide) only [↓ View.readCov_skip, ↓ View.readCov_cons_toLoadRect, ↓ View.readCov_fill]
      frame_out
      simp only [read_unread_whole]
      pointwise [k0_pay3]
      exact congrArg _ (part_at m c t i.1 i.2)
    · rw [outsAt0_B m c t h0 (by omega) h2]
      frame_open
      simp (disch := decide) only [↓ View.readCov_skip, ↓ View.readCov_cons_toLoadRect, ↓ View.readCov_fill]
      frame_out
      simp only [read_unread_whole]
      pointwise [k0_pay3]
      exact congrArg _ (part_at m c t i.1 i.2)

set_option maxHeartbeats 4000000 in
/-- The last step leaves the accumulator. -/
theorem last (c : Dev nD) (t : Fin cfg0.N) (ht : t.val % 4 = 3) :
    (outsAt0 m c t.val t.isLt).1 = k0_pay4 (F := Ideal) (outsAt0 m c t.val t.isLt).2 := by
  have hN : t.val < 4 := t.isLt
  rw [outsAt0_C m c t (by omega) (by omega) ht]
  frame_open
  simp (disch := decide) only [↓ View.readCov_skip, ↓ View.readCov_cons_toLoadRect, ↓ View.readCov_fill]
  frame_out

theorem out2 (c : Dev nD) (t : Fin cfg0.N) (ht : t.val % 4 = 3) (p : Fin 1664) (q : Fin 1024) :
    (outsAt0 m c t.val t.isLt).1 (ix2 p q) = gradAt (aT m c) (bT m c) (1664 * (t.val / 4) + p) q := by
  rw [last m c t ht]
  generalize ha : (outsAt0 m c t.val t.isLt).2 = a
  pointwise [k0_pay4]
  exact ha ▸ acc m c t ht p q

theorem final2 (c : Dev nD) : (dats m 0 c).arrAt 2 cfg0.N = gradOut (aT m c) (bT m c) := by
  refine (dats m 0 c).arrAt_eq_of_covers 2 _ (by decide +kernel) fun t hf y => ?_
  obtain ⟨-, -, e⟩ := place t
  blk_simp
  rw [after0_2]
  have hy : y = ix2 (y 0) (y 1) := by blk_ext
  refine (congrArg _ hy).trans ((out2 m c t ((flush0_2 t).mp hf) (y 0) (y 1)).trans ?_)
  simp only [gradOut]
  blk_simp [e]
  rw [Nat.mul_comm 1664]

/-- What the kernel leaves. -/
theorem kernel_run (g : Dev nD → PrngReg) :
    θ_run (defs (F := Ideal)) (onTc (τ := τ) (main (F := Ideal))) ⟨m, fun _ => 0, g⟩ fun r => ∀ c : Dev nD,
      r.2.mem ((c.tc : Thread nD τ).loc main_v2) = gradOut (aT m c) (bT m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run _ _ _).mono (fun r h c => ⟨(h c).1.trans (final2 m c), (h c).2⟩) (Cert.Kernel5Ideal.Value.run_blocks m g)

end Cert.Kernel5Ideal.Weights

namespace Cert.Reference5Ideal.Weights

open Cert.Reference5Ideal Cert.Reference5Ideal.Gen Cert.Reference5Ideal.Read

theorem value (x0 : Vec Ideal S2048x1664 .f32) (x1 : Vec Ideal S2048x1024 .f32) :
    val_main_v7 x0 x1 = gradOut (tab x0) (tab x1) := by
  funext i
  rw [show i = ix2 (i 0) (i 1) by blk_ext]
  unfold val_main_v7 val_main_v6 val_main_v5 val_main_v4 val_main_v3 val_main_v0
  pointwise
  rw [Fin.sum_univ_one]
  exact Finset.sum_congr (M := EReal) rfl fun s _ => congrArg₂ (α := EReal) _ (tab_apply _ _ _) (tab_apply _ _ _)

/-- The reference terminates with its arguments unchanged, and declares no semaphore. -/
theorem frame (m : (ℓ : Loc nD τ sig) → Buf (Elt Ideal) ℓ) (g : Dev nD → PrngReg) :
    θ_run (defs (F := Ideal)) (onTc (τ := τ) (main (F := Ideal))) ⟨m, fun _ => 0, g⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0 :=
  (θ_run _ _ _).mono (fun r h => ⟨fun c => (h c).2, sem_eq_zero_of_no_sems (by decide) r.2⟩)
    (Cert.Reference5Ideal.Value.run m g)

/-- From the same arguments the two programs leave the same gradient. -/
theorem algebraic : Cert.algebraic_Kernel5Ideal_Reference5Ideal := by
  intro m g m' g' _ hagree
  refine ⟨_, Kernel5Ideal.Weights.kernel_run m g, (θ_run _ _ _).mono (fun r h c => ?_) (Reference5Ideal.Value.run m' g')⟩
  obtain ⟨r0, ra⟩ := h c
  obtain ⟨a0, a1⟩ := hagree c
  refine ⟨r0.trans ((val_main_v7_eq (m' (c.tc.loc main_arg0)) (m' (c.tc.loc main_arg1))).trans ?_), ra⟩
  rw [a0, a1]
  exact value _ _

end Cert.Reference5Ideal.Weights
-- ==== Proof.WeightB.lean ====
module

public import proofs.«01_k».proof.Defs
public import proofs.«01_k».proof.Proof.Gen.Kernel6Ideal
public import proofs.«01_k».proof.Proof.Gen.Kernel6Ideal.Value
public import proofs.«01_k».proof.Proof.Gen.Reference6Ideal
public import proofs.«01_k».proof.Proof.Gen.Reference6Ideal.Read
public import proofs.«01_k».proof.Proof.WeightSpec
public import Idealize.ShloMosaic.Lib.Pipeline.ReadBack
public import Idealize.ShloMosaic.Lib.Quiescent

@[expose] public section

set_option maxRecDepth 16384

/-!
# The gradient at the middle columns of the input projection (`proj_b_dw`)

Grid point `t` takes the columns from `768 * (t / 4)` on and the rows from `512 * (t % 4)` on.
-/

noncomputable section

open Idealize.ShloMosaic Idealize.ShloMosaic.TcCoe Idealize.SL.Sem Mixer Weight

namespace Cert.Kernel6Ideal.Weights

open Cert.Kernel6Ideal Cert.Kernel6Ideal.Gen

variable (m : (ℓ : Loc nD τ sig) → Buf (Elt Ideal) ℓ)

/-- The tables of the two arguments. -/
def aT (c : Dev nD) : Tab := tab (m ((c : Thread nD τ).loc main_arg0))
def bT (c : Dev nD) : Tab := tab (m ((c : Thread nD τ).loc main_arg1))

theorem V0 (c : Dev nD) (s : Fin 2048) (p : Fin 1536) : V m c main_v0 (ix2 s p) = aT m c s p := by
  rw [aT, ← tab_apply]
  entry_read
  pointwise

theorem V1 (c : Dev nD) (s : Fin 2048) (q : Fin 1024) : V m c main_v1 (ix2 s q) = bT m c s q := by
  rw [bT, ← tab_apply]
  entry_read
  pointwise

/-- Where each window's block lies, in blocks. -/
theorem place : ∀ t : Fin grid0.N,
    win0_0.index t = ![t.val % 4, t.val / 4] ∧ win0_1.index t = ![t.val % 4, 0] ∧ win0_2.index t = ![t.val / 4, 0] := by
  decide +kernel

theorem block0 (c : Dev nD) (t : Fin cfg0.N) (s : Fin 512) (p : Fin 768) :
    iblk m c 0 t (ix2 s p) = aT m c (512 * (t.val % 4) + s) (768 * (t.val / 4) + p) := by
  have hN : t.val < 8 := t.isLt
  obtain ⟨e, -⟩ := place t
  refine .trans ?_ (V0 m c ⟨512 * (t.val % 4) + s, by omega⟩ ⟨768 * (t.val / 4) + p, by omega⟩)
  blk_ext [iblk, e]

theorem block1 (c : Dev nD) (t : Fin cfg0.N) (s : Fin 512) (q : Fin 1024) :
    iblk m c 1 t (ix2 s q) = bT m c (512 * (t.val % 4) + s) q := by
  have hN : t.val < 8 := t.isLt
  obtain ⟨-, e, -⟩ := place t
  refine .trans ?_ (V1 m c ⟨512 * (t.val % 4) + s, by omega⟩ q)
  blk_ext [iblk, e]

theorem part_at (c : Dev nD) (t : Fin cfg0.N) (p : Fin 768) (q : Fin 1024) : k0_pay1 (F := Ideal) (iblk m c 0 t) (iblk m c 1 t) (ix2 p q)
    = part (aT m c) (bT m c) (t.val % 4) (768 * (t.val / 4) + p) q := by
  pointwise [k0_pay1]
  exact Finset.sum_congr (M := EReal) rfl fun s _ => congrArg₂ (α := EReal) _ (block0 m c t s p) (block1 m c t s q)

set_option maxHeartbeats 4000000 in
/-- At a block's last step the accumulator holds the product. -/
theorem acc (c : Dev nD) (t : Fin cfg0.N) (ht : t.val % 4 = 3) (p : Fin 768) (q : Fin 1024) :
    (outsAt0 m c t.val t.isLt).2 (ix2 p q) = gradAt (aT m c) (bT m c) (768 * (t.val / 4) + p) q := by
  refine whole (aT m c) (bT m c) (fun n h (i : Fin 768 × Fin 1024) => (outsAt0 m c n h).2 (ix2 i.1 i.2)) ?_ ?_ t ht p q
  · intro t h0 i
    have hN : t.val < 8 := t.isLt
    rw [outsAt0_A m c t h0 (by omega) (by omega)]
    frame_open
    simp (disch := decide) only [↓ View.readCov_skip, ↓ View.readCov_cons_toLoadRect, ↓ View.readCov_fill]
    frame_out
    pointwise [k0_pay2]
    exact part_at m c t i.1 i.2
  · intro t h0 i
    have hN : t.val < 8 := t.isLt
    by_cases h2 : t.val % 4 = 3
    · rw [outsAt0_C m c t h0 (by omega) h2]
      frame_open
      simp (disch := decide) only [↓ View.readCov_skip, ↓ View.readCov_cons_toLoadRect, ↓ View.readCov_fill]
      frame_out
      simp only [read_unread_whole]
      pointwise [k0_pay3]
      exact congrArg _ (part_at m c t i.1 i.2)
    · rw [outsAt0_B m c t h0 (by omega) h2]
      frame_open
      simp (disch := decide) only [↓ View.readCov_skip, ↓ View.readCov_cons_toLoadRect, ↓ View.readCov_fill]
      frame_out
      simp only [read_unread_whole]
      pointwise [k0_pay3]
      exact congrArg _ (part_at m c t i.1 i.2)

set_option maxHeartbeats 4000000 in
/-- The last step leaves the accumulator. -/
theorem last (c : Dev nD) (t : Fin cfg0.N) (ht : t.val % 4 = 3) :
    (outsAt0 m c t.val t.isLt).1 = k0_pay4 (F := Ideal) (outsAt0 m c t.val t.isLt).2 := by
  have hN : t.val < 8 := t.isLt
  rw [outsAt0_C m c t (by omega) (by omega) ht]
  frame_open
  simp (disch := decide) only [↓ View.readCov_skip, ↓ View.readCov_cons_toLoadRect, ↓ View.readCov_fill]
  frame_out

theorem out2 (c : Dev nD) (t : Fin cfg0.N) (ht : t.val % 4 = 3) (p : Fin 768) (q : Fin 1024) :
    (outsAt0 m c t.val t.isLt).1 (ix2 p q) = gradAt (aT m c) (bT m c) (768 * (t.val / 4) + p) q := by
  rw [last m c t ht]
  generalize ha : (outsAt0 m c t.val t.isLt).2 = a
  pointwise [k0_pay4]
  exact ha ▸ acc m c t ht p q

theorem final2 (c : Dev nD) : (dats m 0 c).arrAt 2 cfg0.N = gradOut (aT m c) (bT m c) := by
  refine (dats m 0 c).arrAt_eq_of_covers 2 _ (by decide +kernel) fun t hf y => ?_
  obtain ⟨-, -, e⟩ := place t
  blk_simp
  rw [after0_2]
  have hy : y = ix2 (y 0) (y 1) := by blk_ext
  refine (congrArg _ hy).trans ((out2 m c t ((flush0_2 t).mp hf) (y 0) (y 1)).trans ?_)
  simp only [gradOut]
  blk_simp [e]
  rw [Nat.mul_comm 768]

/-- What the kernel leaves. -/
theorem kernel_run (g : Dev nD → PrngReg) :
    θ_run (defs (F := Ideal)) (onTc (τ := τ) (main (F := Ideal))) ⟨m, fun _ => 0, g⟩ fun r => ∀ c : Dev nD,
      r.2.mem ((c.tc : Thread nD τ).loc main_v2) = gradOut (aT m c) (bT m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run _ _ _).mono (fun r h c => ⟨(h c).1.trans (final2 m c), (h c).2⟩) (Cert.Kernel6Ideal.Value.run_blocks m g)

end Cert.Kernel6Ideal.Weights

namespace Cert.Reference6Ideal.Weights

open Cert.Reference6Ideal Cert.Reference6Ideal.Gen Cert.Reference6Ideal.Read

theorem value (x0 : Vec Ideal S2048x1536 .f32) (x1 : Vec Ideal S2048x1024 .f32) :
    val_main_v7 x0 x1 = gradOut (tab x0) (tab x1) := by
  funext i
  rw [show i = ix2 (i 0) (i 1) by blk_ext]
  unfold val_main_v7 val_main_v6 val_main_v5 val_main_v4 val_main_v3 val_main_v0
  pointwise
  rw [Fin.sum_univ_one]
  exact Finset.sum_congr (M := EReal) rfl fun s _ => congrArg₂ (α := EReal) _ (tab_apply _ _ _) (tab_apply _ _ _)

/-- The reference terminates with its arguments unchanged, and declares no semaphore. -/
theorem frame (m : (ℓ : Loc nD τ sig) → Buf (Elt Ideal) ℓ) (g : Dev nD → PrngReg) :
    θ_run (defs (F := Ideal)) (onTc (τ := τ) (main (F := Ideal))) ⟨m, fun _ => 0, g⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0 :=
  (θ_run _ _ _).mono (fun r h => ⟨fun c => (h c).2, sem_eq_zero_of_no_sems (by decide) r.2⟩)
    (Cert.Reference6Ideal.Value.run m g)

/-- From the same arguments the two programs leave the same gradient. -/
theorem algebraic : Cert.algebraic_Kernel6Ideal_Reference6Ideal := by
  intro m g m' g' _ hagree
  refine ⟨_, Kernel6Ideal.Weights.kernel_run m g, (θ_run _ _ _).mono (fun r h c => ?_) (Reference6Ideal.Value.run m' g')⟩
  obtain ⟨r0, ra⟩ := h c
  obtain ⟨a0, a1⟩ := hagree c
  refine ⟨r0.trans ((val_main_v7_eq (m' (c.tc.loc main_arg0)) (m' (c.tc.loc main_arg1))).trans ?_), ra⟩
  rw [a0, a1]
  exact value _ _

end Cert.Reference6Ideal.Weights
-- ==== Proof.WeightO.lean ====
module

public import proofs.«01_k».proof.Defs
public import proofs.«01_k».proof.Proof.Gen.Kernel7Ideal
public import proofs.«01_k».proof.Proof.Gen.Kernel7Ideal.Value
public import proofs.«01_k».proof.Proof.Gen.Reference7Ideal
public import proofs.«01_k».proof.Proof.Gen.Reference7Ideal.Read
public import proofs.«01_k».proof.Proof.WeightSpec
public import Idealize.ShloMosaic.Lib.Pipeline.ReadBack
public import Idealize.ShloMosaic.Lib.Quiescent

@[expose] public section

set_option maxRecDepth 16384

/-!
# The gradient at the output projection (`out_proj_dw`)

Grid point `t` takes the rows from `512 * t` on.
-/

noncomputable section

open Idealize.ShloMosaic Idealize.ShloMosaic.TcCoe Idealize.SL.Sem Mixer Weight

namespace Cert.Kernel7Ideal.Weights

open Cert.Kernel7Ideal Cert.Kernel7Ideal.Gen

variable (m : (ℓ : Loc nD τ sig) → Buf (Elt Ideal) ℓ)

/-- The tables of the two arguments. -/
def aT (c : Dev nD) : Tab := tab (m ((c : Thread nD τ).loc main_arg0))
def bT (c : Dev nD) : Tab := tab (m ((c : Thread nD τ).loc main_arg1))

theorem V0 (c : Dev nD) (s : Fin 2048) (p : Fin 1024) : V m c main_v0 (ix2 s p) = aT m c s p := by
  rw [aT, ← tab_apply]
  entry_read
  pointwise

theorem V1 (c : Dev nD) (s : Fin 2048) (q : Fin 1024) : V m c main_arg1 (ix2 s q) = bT m c s q := by
  rw [bT, ← tab_apply]
  entry_read
  pointwise

/-- Where each window's block lies, in blocks. -/
theorem place : ∀ t : Fin grid0.N,
    win0_0.index t = ![t.val % 4, t.val / 4] ∧ win0_1.index t = ![t.val % 4, 0] ∧ win0_2.index t = ![t.val / 4, 0] := by
  decide +kernel

theorem block0 (c : Dev nD) (t : Fin cfg0.N) (s : Fin 512) (p : Fin 1024) :
    iblk m c 0 t (ix2 s p) = aT m c (512 * (t.val % 4) + s) (1024 * (t.val / 4) + p) := by
  have hN : t.val < 4 := t.isLt
  obtain ⟨e, -⟩ := place t
  refine .trans ?_ (V0 m c ⟨512 * (t.val % 4) + s, by omega⟩ ⟨1024 * (t.val / 4) + p, by omega⟩)
  blk_ext [iblk, e]

theorem block1 (c : Dev nD) (t : Fin cfg0.N) (s : Fin 512) (q : Fin 1024) :
    iblk m c 1 t (ix2 s q) = bT m c (512 * (t.val % 4) + s) q := by
  have hN : t.val < 4 := t.isLt
  obtain ⟨-, e, -⟩ := place t
  refine .trans ?_ (V1 m c ⟨512 * (t.val % 4) + s, by omega⟩ q)
  blk_ext [iblk, e]

theorem part_at (c : Dev nD) (t : Fin cfg0.N) (p : Fin 1024) (q : Fin 1024) : k0_pay1 (F := Ideal) (iblk m c 0 t) (iblk m c 1 t) (ix2 p q)
    = part (aT m c) (bT m c) (t.val % 4) (1024 * (t.val / 4) + p) q := by
  pointwise [k0_pay1]
  exact Finset.sum_congr (M := EReal) rfl fun s _ => congrArg₂ (α := EReal) _ (block0 m c t s p) (block1 m c t s q)

set_option maxHeartbeats 4000000 in
/-- At a block's last step the accumulator holds the product. -/
theorem acc (c : Dev nD) (t : Fin cfg0.N) (ht : t.val % 4 = 3) (p : Fin 1024) (q : Fin 1024) :
    (outsAt0 m c t.val t.isLt).2 (ix2 p q) = gradAt (aT m c) (bT m c) (1024 * (t.val / 4) + p) q := by
  refine whole (aT m c) (bT m c) (fun n h (i : Fin 1024 × Fin 1024) => (outsAt0 m c n h).2 (ix2 i.1 i.2)) ?_ ?_ t ht p q
  · intro t h0 i
    have hN : t.val < 4 := t.isLt
    rw [outsAt0_A m c t h0 (by omega) (by omega)]
    frame_open
    simp (disch := decide) only [↓ View.readCov_skip, ↓ View.readCov_cons_toLoadRect, ↓ View.readCov_fill]
    frame_out
    pointwise [k0_pay2]
    exact part_at m c t i.1 i.2
  · intro t h0 i
    have hN : t.val < 4 := t.isLt
    by_cases h2 : t.val % 4 = 3
    · rw [outsAt0_C m c t h0 (by omega) h2]
      frame_open
      simp (disch := decide) only [↓ View.readCov_skip, ↓ View.readCov_cons_toLoadRect, ↓ View.readCov_fill]
      frame_out
      simp only [read_unread_whole]
      pointwise [k0_pay3]
      exact congrArg _ (part_at m c t i.1 i.2)
    · rw [outsAt0_B m c t h0 (by omega) h2]
      frame_open
      simp (disch := decide) only [↓ View.readCov_skip, ↓ View.readCov_cons_toLoadRect, ↓ View.readCov_fill]
      frame_out
      simp only [read_unread_whole]
      pointwise [k0_pay3]
      exact congrArg _ (part_at m c t i.1 i.2)

set_option maxHeartbeats 4000000 in
/-- The last step leaves the accumulator. -/
theorem last (c : Dev nD) (t : Fin cfg0.N) (ht : t.val % 4 = 3) :
    (outsAt0 m c t.val t.isLt).1 = k0_pay4 (F := Ideal) (outsAt0 m c t.val t.isLt).2 := by
  have hN : t.val < 4 := t.isLt
  rw [outsAt0_C m c t (by omega) (by omega) ht]
  frame_open
  simp (disch := decide) only [↓ View.readCov_skip, ↓ View.readCov_cons_toLoadRect, ↓ View.readCov_fill]
  frame_out

theorem out2 (c : Dev nD) (t : Fin cfg0.N) (ht : t.val % 4 = 3) (p : Fin 1024) (q : Fin 1024) :
    (outsAt0 m c t.val t.isLt).1 (ix2 p q) = gradAt (aT m c) (bT m c) (1024 * (t.val / 4) + p) q := by
  rw [last m c t ht]
  generalize ha : (outsAt0 m c t.val t.isLt).2 = a
  pointwise [k0_pay4]
  exact ha ▸ acc m c t ht p q

theorem final2 (c : Dev nD) : (dats m 0 c).arrAt 2 cfg0.N = gradOut (aT m c) (bT m c) := by
  refine (dats m 0 c).arrAt_eq_of_covers 2 _ (by decide +kernel) fun t hf y => ?_
  obtain ⟨-, -, e⟩ := place t
  blk_simp
  rw [after0_2]
  have hy : y = ix2 (y 0) (y 1) := by blk_ext
  refine (congrArg _ hy).trans ((out2 m c t ((flush0_2 t).mp hf) (y 0) (y 1)).trans ?_)
  simp only [gradOut]
  blk_simp [e]
  rw [Nat.mul_comm 1024]

/-- What the kernel leaves. -/
theorem kernel_run (g : Dev nD → PrngReg) :
    θ_run (defs (F := Ideal)) (onTc (τ := τ) (main (F := Ideal))) ⟨m, fun _ => 0, g⟩ fun r => ∀ c : Dev nD,
      r.2.mem ((c.tc : Thread nD τ).loc main_v1) = gradOut (aT m c) (bT m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run _ _ _).mono (fun r h c => ⟨(h c).1.trans (final2 m c), (h c).2⟩) (Cert.Kernel7Ideal.Value.run_blocks m g)

end Cert.Kernel7Ideal.Weights

namespace Cert.Reference7Ideal.Weights

open Cert.Reference7Ideal Cert.Reference7Ideal.Gen Cert.Reference7Ideal.Read

theorem value (x0 : Vec Ideal S2048x1024 .f32) (x1 : Vec Ideal S2048x1024 .f32) :
    val_main_v6 x0 x1 = gradOut (tab x0) (tab x1) := by
  funext i
  rw [show i = ix2 (i 0) (i 1) by blk_ext]
  unfold val_main_v6 val_main_v5 val_main_v4 val_main_v3 val_main_v0
  pointwise
  rw [Fin.sum_univ_one]
  exact Finset.sum_congr (M := EReal) rfl fun s _ => (mul_comm (G := EReal) _ _).trans (congrArg₂ (α := EReal) _ (tab_apply _ _ _) (tab_apply _ _ _))

/-- The reference terminates with its arguments unchanged, and declares no semaphore. -/
theorem frame (m : (ℓ : Loc nD τ sig) → Buf (Elt Ideal) ℓ) (g : Dev nD → PrngReg) :
    θ_run (defs (F := Ideal)) (onTc (τ := τ) (main (F := Ideal))) ⟨m, fun _ => 0, g⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0 :=
  (θ_run _ _ _).mono (fun r h => ⟨fun c => (h c).2, sem_eq_zero_of_no_sems (by decide) r.2⟩)
    (Cert.Reference7Ideal.Value.run m g)

/-- From the same arguments the two programs leave the same gradient. -/
theorem algebraic : Cert.algebraic_Kernel7Ideal_Reference7Ideal := by
  intro m g m' g' _ hagree
  refine ⟨_, Kernel7Ideal.Weights.kernel_run m g, (θ_run _ _ _).mono (fun r h c => ?_) (Reference7Ideal.Value.run m' g')⟩
  obtain ⟨r0, ra⟩ := h c
  obtain ⟨a0, a1⟩ := hagree c
  refine ⟨r0.trans ((val_main_v6_eq (m' (c.tc.loc main_arg0)) (m' (c.tc.loc main_arg1))).trans ?_), ra⟩
  rw [a0, a1]
  exact value _ _

end Cert.Reference7Ideal.Weights
-- ==== Proof.MixerGrad.lean ====
module

public import proofs.«01_k».proof.Defs
public import proofs.«01_k».proof.Proof.Gen.Kernel8Ideal
public import proofs.«01_k».proof.Proof.Gen.Kernel8Ideal.Value
public import proofs.«01_k».proof.Proof.Gen.Reference8Ideal
public import proofs.«01_k».proof.Proof.Gen.Reference8Ideal.Read
public import proofs.«01_k».proof.Proof.Spec
public import Idealize.ShloMosaic.Lib.Pipeline.ValueKit
public import Idealize.ShloMosaic.Lib.Pipeline.ReadBack
public import Idealize.ShloMosaic.Lib.Quiescent

@[expose] public section

set_option maxRecDepth 16384

/-!
# The gradient at the mixers' output, through the output projection (`out_proj_dx`)

Grid point `t` computes the rows from `512 * t` on.
-/

noncomputable section

open Idealize.ShloMosaic Idealize.ShloMosaic.TcCoe Idealize.SL.Sem Mixer

namespace MixerGrad

/-- The product of the first table and the transposed second. -/
def gradAt (a w : Tab) (r p : ℕ) : EReal := ∑ k : Fin 1024, a r k * w p k

/-- The array of it. -/
def gradOut (a w : Tab) : (⟨2, ![2048, 1024]⟩ : Shape).Idx → EReal := fun i => gradAt a w (i 0).val (i 1).val

end MixerGrad

open MixerGrad

namespace Cert.Kernel8Ideal.MixerGrad

open Cert.Kernel8Ideal Cert.Kernel8Ideal.Gen

variable (m : (ℓ : Loc nD τ sig) → Buf (Elt Ideal) ℓ)

/-- The tables of the two arguments. -/
def aT (c : Dev nD) : Tab := tab (m ((c : Thread nD τ).loc main_arg0))
def bT (c : Dev nD) : Tab := tab (m ((c : Thread nD τ).loc main_arg1))

theorem V0 (c : Dev nD) (r : Fin 2048) (k : Fin 1024) : V m c main_arg0 (ix2 r k) = aT m c r k := by
  rw [aT, ← tab_apply]
  entry_read
  pointwise

theorem V1 (c : Dev nD) (p : Fin 1024) (k : Fin 1024) : V m c main_v0 (ix2 p k) = bT m c p k := by
  rw [bT, ← tab_apply]
  entry_read
  pointwise

/-- Where each window's block lies, in blocks. -/
theorem place : ∀ t : Fin grid0.N,
    win0_0.index t = ![t.val, 0] ∧ win0_1.index t = ![0, 0] ∧ win0_2.index t = ![t.val, 0] := by
  decide +kernel

theorem block0 (c : Dev nD) (t : Fin cfg0.N) (r : Fin 512) (k : Fin 1024) :
    iblk m c 0 t (ix2 r k) = aT m c (512 * t.val + r) k := by
  have hN : t.val < 4 := t.isLt
  obtain ⟨e, -⟩ := place t
  refine .trans ?_ (V0 m c ⟨512 * t.val + r, by omega⟩ k)
  blk_ext [iblk, e]

theorem block1 (c : Dev nD) (t : Fin cfg0.N) (p : Fin 1024) (k : Fin 1024) : iblk m c 1 t (ix2 p k) = bT m c p k := by
  obtain ⟨-, e, -⟩ := place t
  refine .trans ?_ (V1 m c p k)
  blk_ext [iblk, e]

set_option maxHeartbeats 4000000 in
/-- What a grid point leaves. -/
theorem out2 (c : Dev nD) (t : Fin cfg0.N) (r : Fin 512) (p : Fin 1024) :
    outsAt0 m c t (ix2 r p) = gradAt (aT m c) (bT m c) (512 * t.val + r) p := by
  unfold outsAt0
  frame_open
  simp (disch := decide) only [↓ View.readCov_skip, ↓ View.readCov_cons_toLoadRect, ↓ View.readCov_fill]
  frame_out
  pointwise [k0_pay2, k0_pay1]
  exact Finset.sum_congr (M := EReal) rfl fun k _ => congrArg₂ (α := EReal) _ (block0 m c t r k) (block1 m c t p k)

theorem final2 (c : Dev nD) : (dats m 0 c).arrAt 2 cfg0.N = gradOut (aT m c) (bT m c) := by
  refine (dats m 0 c).arrAt_eq_of_covers 2 _ (by decide +kernel) fun t hf y => ?_
  obtain ⟨-, -, e⟩ := place t
  blk_simp
  rw [after0_2]
  have hy : y = ix2 (y 0) (y 1) := by blk_ext
  refine (congrArg _ hy).trans ((out2 m c t (y 0) (y 1)).trans ?_)
  simp only [gradOut]
  blk_simp [e]
  rw [Nat.mul_comm 512]

/-- What the kernel leaves. -/
theorem kernel_run (g : Dev nD → PrngReg) :
    θ_run (defs (F := Ideal)) (onTc (τ := τ) (main (F := Ideal))) ⟨m, fun _ => 0, g⟩ fun r => ∀ c : Dev nD,
      r.2.mem ((c.tc : Thread nD τ).loc main_v1) = gradOut (aT m c) (bT m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run _ _ _).mono (fun r h c => ⟨(h c).1.trans (final2 m c), (h c).2⟩) (Cert.Kernel8Ideal.Value.run_blocks m g)

end Cert.Kernel8Ideal.MixerGrad

namespace Cert.Reference8Ideal.MixerGrad

open Cert.Reference8Ideal Cert.Reference8Ideal.Gen Cert.Reference8Ideal.Read

theorem value_at (x0 : Vec Ideal S2048x1024 .f32) (x1 : Vec Ideal S1024x1024 .f32) (r : Fin 2048) (p : Fin 1024) :
    val_main_v4 x0 x1 (ix2 r p) = gradAt (tab x0) (tab x1) r p := by
  unfold val_main_v4 val_main_v3 val_main_v2
  pointwise
  exact Finset.sum_congr (M := EReal) rfl fun k _ => congrArg₂ (α := EReal) _ (tab_apply _ _ _) (tab_apply _ _ _)

theorem value (x0 : Vec Ideal S2048x1024 .f32) (x1 : Vec Ideal S1024x1024 .f32) : val_main_v4 x0 x1 = gradOut (tab x0) (tab x1) := by
  funext i
  have hi : i = ix2 (i 0) (i 1) := by blk_ext
  exact (congrArg _ hi).trans (value_at x0 x1 (i 0) (i 1))

/-- The reference terminates with its arguments unchanged, and declares no semaphore. -/
theorem frame (m : (ℓ : Loc nD τ sig) → Buf (Elt Ideal) ℓ) (g : Dev nD → PrngReg) :
    θ_run (defs (F := Ideal)) (onTc (τ := τ) (main (F := Ideal))) ⟨m, fun _ => 0, g⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0 :=
  (θ_run _ _ _).mono (fun r h => ⟨fun c => (h c).2, sem_eq_zero_of_no_sems (by decide) r.2⟩)
    (Cert.Reference8Ideal.Value.run m g)

/-- From the same arguments the two programs leave the same gradient. -/
theorem algebraic : Cert.algebraic_Kernel8Ideal_Reference8Ideal := by
  intro m g m' g' _ hagree
  refine ⟨_, Kernel8Ideal.MixerGrad.kernel_run m g, (θ_run _ _ _).mono (fun r h c => ?_) (Reference8Ideal.Value.run m' g')⟩
  obtain ⟨r0, ra⟩ := h c
  obtain ⟨a0, a1⟩ := hagree c
  refine ⟨r0.trans ((val_main_v4_eq (m' (c.tc.loc main_arg0)) (m' (c.tc.loc main_arg1))).trans ?_), ra⟩
  rw [a0, a1]
  exact value _ _

end Cert.Reference8Ideal.MixerGrad
-- ==== Proof.WeightZ.lean ====
module

public import proofs.«01_k».proof.Defs
public import proofs.«01_k».proof.Proof.Gen.Kernel9Ideal
public import proofs.«01_k».proof.Proof.Gen.Kernel9Ideal.Value
public import proofs.«01_k».proof.Proof.Gen.Reference9Ideal
public import proofs.«01_k».proof.Proof.Gen.Reference9Ideal.Read
public import proofs.«01_k».proof.Proof.WeightSpec
public import Idealize.ShloMosaic.Lib.Pipeline.ReadBack
public import Idealize.ShloMosaic.Lib.Quiescent

@[expose] public section

set_option maxRecDepth 16384

/-!
# The gradient at the last columns of the input projection (`proj_z_dw`)

Grid point `t` takes the rows from `512 * t` on.
-/

noncomputable section

open Idealize.ShloMosaic Idealize.ShloMosaic.TcCoe Idealize.SL.Sem Mixer Weight

namespace Cert.Kernel9Ideal.Weights

open Cert.Kernel9Ideal Cert.Kernel9Ideal.Gen

variable (m : (ℓ : Loc nD τ sig) → Buf (Elt Ideal) ℓ)

/-- The tables of the two arguments. -/
def aT (c : Dev nD) : Tab := tab (m ((c : Thread nD τ).loc main_arg0))
def bT (c : Dev nD) : Tab := tab (m ((c : Thread nD τ).loc main_arg1))

theorem V0 (c : Dev nD) (s : Fin 2048) (p : Fin 512) : V m c main_v0 (ix2 s p) = aT m c s p := by
  rw [aT, ← tab_apply]
  entry_read
  pointwise

theorem V1 (c : Dev nD) (s : Fin 2048) (q : Fin 1024) : V m c main_v1 (ix2 s q) = bT m c s q := by
  rw [bT, ← tab_apply]
  entry_read
  pointwise

/-- Where each window's block lies, in blocks. -/
theorem place : ∀ t : Fin grid0.N,
    win0_0.index t = ![t.val % 4, t.val / 4] ∧ win0_1.index t = ![t.val % 4, 0] ∧ win0_2.index t = ![t.val / 4, 0] := by
  decide +kernel

theorem block0 (c : Dev nD) (t : Fin cfg0.N) (s : Fin 512) (p : Fin 512) :
    iblk m c 0 t (ix2 s p) = aT m c (512 * (t.val % 4) + s) (512 * (t.val / 4) + p) := by
  have hN : t.val < 4 := t.isLt
  obtain ⟨e, -⟩ := place t
  refine .trans ?_ (V0 m c ⟨512 * (t.val % 4) + s, by omega⟩ ⟨512 * (t.val / 4) + p, by omega⟩)
  blk_ext [iblk, e]

theorem block1 (c : Dev nD) (t : Fin cfg0.N) (s : Fin 512) (q : Fin 1024) :
    iblk m c 1 t (ix2 s q) = bT m c (512 * (t.val % 4) + s) q := by
  have hN : t.val < 4 := t.isLt
  obtain ⟨-, e, -⟩ := place t
  refine .trans ?_ (V1 m c ⟨512 * (t.val % 4) + s, by omega⟩ q)
  blk_ext [iblk, e]

theorem part_at (c : Dev nD) (t : Fin cfg0.N) (p : Fin 512) (q : Fin 1024) : k0_pay1 (F := Ideal) (iblk m c 0 t) (iblk m c 1 t) (ix2 p q)
    = part (aT m c) (bT m c) (t.val % 4) (512 * (t.val / 4) + p) q := by
  pointwise [k0_pay1]
  exact Finset.sum_congr (M := EReal) rfl fun s _ => congrArg₂ (α := EReal) _ (block0 m c t s p) (block1 m c t s q)

set_option maxHeartbeats 4000000 in
/-- At a block's last step the accumulator holds the product. -/
theorem acc (c : Dev nD) (t : Fin cfg0.N) (ht : t.val % 4 = 3) (p : Fin 512) (q : Fin 1024) :
    (outsAt0 m c t.val t.isLt).2 (ix2 p q) = gradAt (aT m c) (bT m c) (512 * (t.val / 4) + p) q := by
  refine whole (aT m c) (bT m c) (fun n h (i : Fin 512 × Fin 1024) => (outsAt0 m c n h).2 (ix2 i.1 i.2)) ?_ ?_ t ht p q
  · intro t h0 i
    have hN : t.val < 4 := t.isLt
    rw [outsAt0_A m c t h0 (by omega) (by omega)]
    frame_open
    simp (disch := decide) only [↓ View.readCov_skip, ↓ View.readCov_cons_toLoadRect, ↓ View.readCov_fill]
    frame_out
    pointwise [k0_pay2]
    exact part_at m c t i.1 i.2
  · intro t h0 i
    have hN : t.val < 4 := t.isLt
    by_cases h2 : t.val % 4 = 3
    · rw [outsAt0_C m c t h0 (by omega) h2]
      frame_open
      simp (disch := decide) only [↓ View.readCov_skip, ↓ View.readCov_cons_toLoadRect, ↓ View.readCov_fill]
      frame_out
      simp only [read_unread_whole]
      pointwise [k0_pay3]
      exact congrArg _ (part_at m c t i.1 i.2)
    · rw [outsAt0_B m c t h0 (by omega) h2]
      frame_open
      simp (disch := decide) only [↓ View.readCov_skip, ↓ View.readCov_cons_toLoadRect, ↓ View.readCov_fill]
      frame_out
      simp only [read_unread_whole]
      pointwise [k0_pay3]
      exact congrArg _ (part_at m c t i.1 i.2)

set_option maxHeartbeats 4000000 in
/-- The last step leaves the accumulator. -/
theorem last (c : Dev nD) (t : Fin cfg0.N) (ht : t.val % 4 = 3) :
    (outsAt0 m c t.val t.isLt).1 = k0_pay4 (F := Ideal) (outsAt0 m c t.val t.isLt).2 := by
  have hN : t.val < 4 := t.isLt
  rw [outsAt0_C m c t (by omega) (by omega) ht]
  frame_open
  simp (disch := decide) only [↓ View.readCov_skip, ↓ View.readCov_cons_toLoadRect, ↓ View.readCov_fill]
  frame_out

theorem out2 (c : Dev nD) (t : Fin cfg0.N) (ht : t.val % 4 = 3) (p : Fin 512) (q : Fin 1024) :
    (outsAt0 m c t.val t.isLt).1 (ix2 p q) = gradAt (aT m c) (bT m c) (512 * (t.val / 4) + p) q := by
  rw [last m c t ht]
  generalize ha : (outsAt0 m c t.val t.isLt).2 = a
  pointwise [k0_pay4]
  exact ha ▸ acc m c t ht p q

theorem final2 (c : Dev nD) : (dats m 0 c).arrAt 2 cfg0.N = gradOut (aT m c) (bT m c) := by
  refine (dats m 0 c).arrAt_eq_of_covers 2 _ (by decide +kernel) fun t hf y => ?_
  obtain ⟨-, -, e⟩ := place t
  blk_simp
  rw [after0_2]
  have hy : y = ix2 (y 0) (y 1) := by blk_ext
  refine (congrArg _ hy).trans ((out2 m c t ((flush0_2 t).mp hf) (y 0) (y 1)).trans ?_)
  simp only [gradOut]
  blk_simp [e]
  rw [Nat.mul_comm 512]

/-- What the kernel leaves. -/
theorem kernel_run (g : Dev nD → PrngReg) :
    θ_run (defs (F := Ideal)) (onTc (τ := τ) (main (F := Ideal))) ⟨m, fun _ => 0, g⟩ fun r => ∀ c : Dev nD,
      r.2.mem ((c.tc : Thread nD τ).loc main_v2) = gradOut (aT m c) (bT m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run _ _ _).mono (fun r h c => ⟨(h c).1.trans (final2 m c), (h c).2⟩) (Cert.Kernel9Ideal.Value.run_blocks m g)

end Cert.Kernel9Ideal.Weights

namespace Cert.Reference9Ideal.Weights

open Cert.Reference9Ideal Cert.Reference9Ideal.Gen Cert.Reference9Ideal.Read

theorem value (x0 : Vec Ideal S2048x512 .f32) (x1 : Vec Ideal S2048x1024 .f32) :
    val_main_v7 x0 x1 = gradOut (tab x0) (tab x1) := by
  funext i
  rw [show i = ix2 (i 0) (i 1) by blk_ext]
  unfold val_main_v7 val_main_v6 val_main_v5 val_main_v4 val_main_v3 val_main_v0
  pointwise
  rw [Fin.sum_univ_one]
  exact Finset.sum_congr (M := EReal) rfl fun s _ => congrArg₂ (α := EReal) _ (tab_apply _ _ _) (tab_apply _ _ _)

/-- The reference terminates with its arguments unchanged, and declares no semaphore. -/
theorem frame (m : (ℓ : Loc nD τ sig) → Buf (Elt Ideal) ℓ) (g : Dev nD → PrngReg) :
    θ_run (defs (F := Ideal)) (onTc (τ := τ) (main (F := Ideal))) ⟨m, fun _ => 0, g⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0 :=
  (θ_run _ _ _).mono (fun r h => ⟨fun c => (h c).2, sem_eq_zero_of_no_sems (by decide) r.2⟩)
    (Cert.Reference9Ideal.Value.run m g)

/-- From the same arguments the two programs leave the same gradient. -/
theorem algebraic : Cert.algebraic_Kernel9Ideal_Reference9Ideal := by
  intro m g m' g' _ hagree
  refine ⟨_, Kernel9Ideal.Weights.kernel_run m g, (θ_run _ _ _).mono (fun r h c => ?_) (Reference9Ideal.Value.run m' g')⟩
  obtain ⟨r0, ra⟩ := h c
  obtain ⟨a0, a1⟩ := hagree c
  refine ⟨r0.trans ((val_main_v7_eq (m' (c.tc.loc main_arg0)) (m' (c.tc.loc main_arg1))).trans ?_), ra⟩
  rw [a0, a1]
  exact value _ _

end Cert.Reference9Ideal.Weights
-- ==== Proof.ConvSpec.lean ====
module

public import proofs.«01_k».proof.Proof.Spec
public import Idealize.ShloMosaic.Lib.Pipeline.ValueKit

@[expose] public section

/-!
# The gradient of the causal convolution with four taps

`d` is the gradient after the convolution, `u` its input and `w` its taps. A table is zero outside its array, so the rows after the last
token need no case of their own. The call adds the taps' gradient up over eight blocks of 256 rows.
-/

noncomputable section

namespace Conv

open Idealize.ShloMosaic Mixer

/-- The gradient at the convolution's input. -/
def dX (d w : Tab) (s n : ℕ) : EReal := d (s + 3) n * w 0 n + d (s + 2) n * w 1 n + d (s + 1) n * w 2 n + d s n * w 3 n

/-- The gradient of tap `k`. -/
def dTap (d u : Tab) (k n : ℕ) : EReal := ∑ s : Fin 2048, d s n * padded u (s + 13 + k) n

/-- One block of rows' part of it. -/
def part (d u : Tab) (j k n : ℕ) : EReal := ∑ r : Fin 256, d (256 * j + r) n * padded u (256 * j + r + 13 + k) n

/-- The gradient at the input's columns, with the columns the convolution leaves alone beside it. -/
def joinAt (d e w : Tab) (s n : ℕ) : EReal := if n < 1536 then dX d w s n else e s (n - 1536)

/-- The two arrays. -/
def joinOut (d e w : Tab) : (⟨2, ![2048, 1664]⟩ : Shape).Idx → EReal := fun i => joinAt d e w (i 0).val (i 1).val
def tapsOut (d u : Tab) : (⟨2, ![4, 1536]⟩ : Shape).Idx → EReal := fun i => dTap d u (i 0).val (i 1).val

/-- A table is zero below its array. -/
theorem tab_of_ge {a b : ℕ} (x : (⟨2, ![a, b]⟩ : Shape).Idx → EReal) {r n : ℕ} (h : a ≤ r) : tab x r n = 0 :=
  dif_neg fun h' => absurd h'.1 (by omega)

/-- The eight blocks of rows are all the rows. -/
theorem parts (d u : Tab) (k n : ℕ) : ∑ j ∈ Finset.range 8, part d u j k n = dTap d u k n := by
  have h : ∀ j ∈ Finset.range 8, part d u j k n
      = ∑ s ∈ Finset.range 256, d (256 * j + s) n * padded u (256 * j + s + 13 + k) n :=
    fun j _ => (Finset.sum_range (fun s => d (256 * j + s) n * padded u (256 * j + s + 13 + k) n)).symm
  rw [Finset.sum_congr rfl h, dTap, ← Finset.sum_range (fun s => d s n * padded u (s + 13 + k) n),
    show (2048 : ℕ) = 256 + 256 + 256 + 256 + 256 + 256 + 256 + 256 from rfl]
  simp only [Finset.sum_range_add, Finset.sum_range_succ _ 7, Finset.sum_range_succ _ 6, Finset.sum_range_succ _ 5,
    Finset.sum_range_succ _ 4, Finset.sum_range_succ _ 3, Finset.sum_range_succ _ 2, Finset.sum_range_succ _ 1,
    Finset.sum_range_succ _ 0, Finset.sum_range_zero, zero_add]
  norm_num

end Conv
-- ==== Proof.ConvGrad.lean ====
module

public import proofs.«01_k».proof.Proof.Gen.Kernel10Ideal
public import proofs.«01_k».proof.Proof.Gen.Kernel10Ideal.Value
public import proofs.«01_k».proof.Proof.ConvSpec
public import Idealize.ShloMosaic.Lib.Pipeline.ValueKit
public import Idealize.ShloMosaic.Lib.Pipeline.ReadBack

@[expose] public section

set_option maxRecDepth 16384

/-!
# The gradient of the mixers' causal convolution (`gdn_conv_bwd`)

Grid point `t` takes the rows from `256 * t` on, the eight rows after them of the gradient and the eight before them of the input.
-/

noncomputable section

open Idealize.ShloMosaic Idealize.ShloMosaic.TcCoe Idealize.SL.Sem Mixer Conv

namespace Cert.Kernel10Ideal.ConvGrad

open Cert.Kernel10Ideal Cert.Kernel10Ideal.Gen

variable (m : (ℓ : Loc nD τ sig) → Buf (Elt Ideal) ℓ)

/-- The tables of the arguments. -/
def dT (c : Dev nD) : Tab := tab (m ((c : Thread nD τ).loc main_arg0))
def eT (c : Dev nD) : Tab := tab (m ((c : Thread nD τ).loc main_arg1))
def uT (c : Dev nD) : Tab := tab (m ((c : Thread nD τ).loc main_arg2))
def wT (c : Dev nD) : Tab := tab (m ((c : Thread nD τ).loc main_arg3))

theorem V0 (c : Dev nD) (s : Fin 2048) (n : Fin 1536) : V m c main_arg0 (ix2 s n) = dT m c s n := by
  rw [dT, ← tab_apply]

theorem V1 (c : Dev nD) (s : Fin 2048) (n : Fin 128) : V m c main_arg1 (ix2 s n) = eT m c s n := by
  rw [eT, ← tab_apply]

theorem V2 (c : Dev nD) (s : Fin 2048) (n : Fin 1664) : V m c main_arg2 (ix2 s n) = uT m c s n := by
  rw [uT, ← tab_apply]

theorem V3 (c : Dev nD) (k : Fin 4) (n : Fin 1536) : V m c main_arg3 (ix2 k n) = wT m c k n := by
  rw [wT, ← tab_apply]

/-- Where each window's block lies, in blocks. -/
theorem place : ∀ t : Fin grid0.N, win0_0.index t = ![t.val, 0] ∧ win0_1.index t = ![min ((t.val + 1) * 32) 255, 0]
    ∧ win0_2.index t = ![t.val, 0] ∧ win0_3.index t = ![t.val, 0] ∧ win0_4.index t = ![t.val * 32 - 1, 0]
    ∧ win0_5.index t = ![0, 0] ∧ win0_6.index t = ![t.val, 0] ∧ win0_7.index t = ![0, 0] := by
  decide +kernel

theorem coord : ∀ t : Fin grid0.N, (grid0.coords t 0).val = t.val := by decide +kernel

theorem block0 (c : Dev nD) (t : Fin cfg0.N) (r : Fin 256) (n : Fin 1536) : iblk m c 0 t (ix2 r n) = dT m c (256 * t.val + r) n := by
  have hN : t.val < 8 := t.isLt
  obtain ⟨e, -⟩ := place t
  refine .trans ?_ (V0 m c ⟨256 * t.val + r, by omega⟩ n)
  blk_ext [iblk, e]

theorem block1 (c : Dev nD) (t : Fin cfg0.N) (ht : t.val < 7) (r : Fin 8) (n : Fin 1536) :
    iblk m c 1 t (ix2 r n) = dT m c (256 * t.val + 256 + r) n := by
  obtain ⟨-, e, -⟩ := place t
  refine .trans ?_ (V0 m c ⟨256 * t.val + 256 + r, by omega⟩ n)
  blk_ext [iblk, e]

theorem block2 (c : Dev nD) (t : Fin cfg0.N) (r : Fin 256) (n : Fin 128) : iblk m c 2 t (ix2 r n) = eT m c (256 * t.val + r) n := by
  have hN : t.val < 8 := t.isLt
  obtain ⟨-, -, e, -⟩ := place t
  refine .trans ?_ (V1 m c ⟨256 * t.val + r, by omega⟩ n)
  blk_ext [iblk, e]

theorem block3 (c : Dev nD) (t : Fin cfg0.N) (r : Fin 256) (n : Fin 1536) : X0_3 m c t (ix2 r n) = uT m c (256 * t.val + r) n := by
  have hN : t.val < 8 := t.isLt
  obtain ⟨-, -, -, e, -⟩ := place t
  refine .trans ?_ (V2 m c ⟨256 * t.val + r, by omega⟩ ⟨n, by omega⟩)
  unfold X0_3 Pipeline.Window.fill
  rw [dif_pos (moved0_3 t _)]
  blk_ext [iblk, e]

theorem block4 (c : Dev nD) (t : Fin cfg0.N) (ht : 0 < t.val) (r : Fin 8) (n : Fin 1536) :
    X0_4 m c t (ix2 r n) = uT m c (256 * t.val - 8 + r) n := by
  have hN : t.val < 8 := t.isLt
  obtain ⟨-, -, -, -, e, -⟩ := place t
  refine .trans ?_ (V2 m c ⟨256 * t.val - 8 + r, by omega⟩ ⟨n, by omega⟩)
  unfold X0_4 Pipeline.Window.fill
  rw [dif_pos (moved0_4 t _)]
  blk_ext [iblk, e]

theorem block5 (c : Dev nD) (t : Fin cfg0.N) (k : Fin 4) (n : Fin 1536) : iblk m c 5 t (ix2 k n) = wT m c k n := by
  obtain ⟨-, -, -, -, -, e, -⟩ := place t
  refine .trans ?_ (V3 m c k n)
  blk_ext [iblk, e]

/-! ## The two joins of rows -/

theorem before_word : ∀ i : Fin 8, Scalar.cmpi CmpIPredicate.sgt (BitVec.ofNat 32 i.val) 0#32 = BitVec.ofBool (decide (0 < i.val)) := by
  decide +kernel

theorem after_word : ∀ i : Fin 8, Scalar.cmpi CmpIPredicate.slt (BitVec.ofNat 32 i.val) 7#32 = BitVec.ofBool (decide (i.val < 7)) := by
  decide +kernel

theorem select_ofBool {α : Type} (p : Prop) [Decidable p] (a b : α) :
    Scalar.select (BitVec.ofBool (decide p)) a b = if p then a else b := by
  by_cases h : p <;> simp [h, Scalar.select]

/-- The eight rows before a block; there are none before the first. -/
theorem before_at (c : Dev nD) (t : Fin cfg0.N) (r : Fin 8) (n : Fin 1536) :
    (if 0 < t.val then X0_4 m c t else fun _ => (0 : EReal)) (ix2 r n) = padded (uT m c) (256 * t.val + r + 8) n := by
  rw [padded]
  by_cases h0 : 0 < t.val
  · rw [if_pos h0, if_neg (by omega), block4 m c t h0]
    exact congrArg (uT m c · n) (by omega)
  · rw [if_neg h0, if_pos (by omega)]

/-- The input's rows behind eight rows before them are the padded table. -/
theorem join_at (c : Dev nD) (t : Fin cfg0.N) (q : Fin 264) (n : Fin 1536) :
    k0_pay6 (F := Ideal) (grid0.coords t) (X0_4 m c t) (X0_3 m c t) (ix2 q n) = padded (uT m c) (256 * t.val + q + 8) n := by
  have hN : t.val < 8 := t.isLt
  have hw := (before_word (grid0.coords t 0)).trans (by rw [coord t])
  unfold k0_pay6
  dsimp only
  rw [hw, select_ofBool]
  pointwise
  by_cases h : q.val < 8
  · exact (dif_pos h).trans (before_at m c t ⟨q, h⟩ n)
  · refine (dif_neg h).trans ((block3 m c t ⟨q.val - 8, by omega⟩ n).trans ?_)
    rw [padded, if_neg (by omega)]
    exact congrArg (uT m c · n) (by dsimp only; omega)

/-- The gradient's rows and the eight after them; there are none after the last block. -/
theorem dc_at (c : Dev nD) (t : Fin cfg0.N) (q : ℕ) (n : Fin 1536) (hq : q < 264) :
    (if h : q < 256 then iblk m c 0 t (ix2 ⟨q, h⟩ n)
      else (if t.val < 7 then iblk m c 1 t else fun _ => (0 : EReal)) (ix2 ⟨q - 256, by omega⟩ n)) = dT m c (256 * t.val + q) n := by
  have hN : t.val < 8 := t.isLt
  by_cases h : q < 256
  · rw [dif_pos h, block0]
  · rw [dif_neg h]
    by_cases h7 : t.val < 7
    · rw [if_pos h7, block1 m c t h7]
      congr 1; dsimp only; omega
    · rw [if_neg h7]
      exact (tab_of_ge _ (by omega)).symm

theorem dx_at (c : Dev nD) (t : Fin cfg0.N) (r : Fin 256) (n : Fin 1536) :
    k0_pay5 (F := Ideal) (grid0.coords t) (iblk m c 1 t) (iblk m c 0 t) (iblk m c 5 t) (ix2 r n)
      = dX (dT m c) (wT m c) (256 * t.val + r) n := by
  have hw := (after_word (grid0.coords t 0)).trans (by rw [coord t])
  unfold k0_pay5
  dsimp only
  rw [hw, select_ofBool]
  pointwise
  rw [dX]
  refine congrArg₂ (α := EReal) _ (congrArg₂ (α := EReal) _ (congrArg₂ (α := EReal) _ (congrArg₂ (α := EReal) _ ?_ (block5 m c t 0 n))
    (congrArg₂ (α := EReal) _ ?_ (block5 m c t 1 n))) (congrArg₂ (α := EReal) _ ?_ (block5 m c t 2 n)))
    (congrArg₂ (α := EReal) _ (block0 m c t r n) (block5 m c t 3 n))
  all_goals exact (dc_at m c t _ n (by omega)).trans (congrArg (dT m c · n) (by omega))

/-- What a grid point adds to the taps' gradient. -/
theorem taps_at (c : Dev nD) (t : Fin cfg0.N) (k : Fin 4) (n : Fin 1536) :
    k0_pay1 (F := Ideal) (iblk m c 0 t) (k0_pay6 (grid0.coords t) (X0_4 m c t) (X0_3 m c t))
      (k0_pay7 (grid0.coords t) (X0_4 m c t) (iblk m c 0 t) (X0_3 m c t)) (ix2 k n)
      = part (dT m c) (uT m c) t.val k n := by
  unfold k0_pay1 k0_pay7
  fin_vals k with hk
  · rw [hk]
    pointwise
    rw [dif_pos (by omega), part]
    refine Finset.sum_congr (M := EReal) rfl fun r _ => congrArg₂ (α := EReal) _ (block0 m c t r n) ((join_at m c t ⟨_, _⟩ n).trans ?_)
    exact congrArg (padded (uT m c) · n) (by dsimp only; omega)
  · rw [hk]
    pointwise
    rw [dif_neg (by omega), dif_pos (by omega), part]
    refine Finset.sum_congr (M := EReal) rfl fun r _ => congrArg₂ (α := EReal) _ (block0 m c t r n) ((join_at m c t ⟨_, _⟩ n).trans ?_)
    exact congrArg (padded (uT m c) · n) (by dsimp only; omega)
  · rw [hk]
    pointwise
    rw [dif_neg (by omega), dif_neg (by omega), dif_pos (by omega), part]
    refine Finset.sum_congr (M := EReal) rfl fun r _ => congrArg₂ (α := EReal) _ (block0 m c t r n) ((join_at m c t ⟨_, _⟩ n).trans ?_)
    exact congrArg (padded (uT m c) · n) (by dsimp only; omega)
  · rw [hk]
    pointwise
    rw [dif_neg (by omega), dif_neg (by omega), dif_neg (by omega), part]
    refine Finset.sum_congr (M := EReal) rfl fun r _ => congrArg₂ (α := EReal) _ (block0 m c t r n) ((join_at m c t ⟨_, _⟩ n).trans ?_)
    exact congrArg (padded (uT m c) · n) (by dsimp only; omega)

/-! ## The two output blocks -/

/-- An array stored as its first 1536 columns and then the other 128. -/
theorem stored_join (a : Vec Ideal S256x1536 .bf16) (b : Vec Ideal S256x128 .bf16) (L : List (View.Piece (Elt Ideal) S256x1664 .bf16))
    (r : Fin 256) (n : Fin 1664) :
    View.canon (⟨Rect.unit ![0, 1536] ![256, 128] inb_S256x1664_S256x128_0_1536, b⟩
      :: ⟨Rect.unit ![0, 0] ![256, 1536] inb_S256x1664_S256x1536_0_0, a⟩ :: L) (ix2 r n)
      = if h : n.val < 1536 then a (ix2 r ⟨n, h⟩) else b (ix2 r ⟨n - 1536, by omega⟩) := by
  by_cases h : n.val < 1536
  · have hx : ix2 r n = (Rect.unit (s := S256x1664) ![0, 0] ![256, 1536] inb_S256x1664_S256x1536_0_0).emb (ix2 r ⟨n, h⟩) :=
      (Rect.emb_eq_of_coords _ _ _ fun a => by match a with | ⟨0, _⟩ => simp | ⟨1, _⟩ => simp).symm
    have hm : ix2 r n ∉ (Rect.unit (s := S256x1664) ![0, 1536] ![256, 128] inb_S256x1664_S256x128_0_1536).set := by
      rw [Rect.mem_set_unit]
      exact fun hm => absurd (show 1536 ≤ n.val from (hm 1).1) (by omega)
    refine (View.canon_cons_of_not_mem (Val := Elt Ideal)
      ⟨Rect.unit (s := S256x1664) ![0, 1536] ![256, 128] inb_S256x1664_S256x128_0_1536, b⟩ _ hm).trans ?_
    rw [dif_pos h, hx]
    exact View.canon_cons_emb (Val := Elt Ideal) (Rect.unit (s := S256x1664) ![0, 0] ![256, 1536] inb_S256x1664_S256x1536_0_0) a L _
  · have hx : ix2 r n = (Rect.unit (s := S256x1664) ![0, 1536] ![256, 128] inb_S256x1664_S256x128_0_1536).emb
        (ix2 r ⟨n - 1536, by omega⟩) :=
      (Rect.emb_eq_of_coords _ _ _ fun a => by match a with | ⟨0, _⟩ => simp | ⟨1, _⟩ => (simp; omega)).symm
    rw [dif_neg h, hx]
    exact View.canon_cons_emb (Val := Elt Ideal) (Rect.unit (s := S256x1664) ![0, 1536] ![256, 128] inb_S256x1664_S256x128_0_1536) b _ _

set_option maxHeartbeats 4000000 in
theorem out6 (c : Dev nD) (t : Fin cfg0.N) (r : Fin 256) (n : Fin 1664) :
    (outsAt0 m c t.val t.isLt).1 (ix2 r n) = joinAt (dT m c) (eT m c) (wT m c) (256 * t.val + r) n := by
  have hj : (if h : n.val < 1536
      then k0_pay2 (F := Ideal) (k0_pay5 (grid0.coords t) (iblk m c 1 t) (iblk m c 0 t) (iblk m c 5 t)) (ix2 r ⟨n, h⟩)
      else k0_pay3 (F := Ideal) (iblk m c 2 t) (ix2 r ⟨n - 1536, by omega⟩)) = joinAt (dT m c) (eT m c) (wT m c) (256 * t.val + r) n := by
    rw [joinAt]
    by_cases h : n.val < 1536
    · rw [dif_pos h, if_pos h]
      exact dx_at m c t r ⟨n, h⟩
    · rw [dif_neg h, if_neg h]
      exact block2 m c t r ⟨n - 1536, by omega⟩
  refine .trans ?_ hj
  by_cases h0 : t.val % 8 = 0
  · rw [outsAt0_A m c t h0 (by have : t.val < 8 := t.isLt; omega)]
    frame_open
    frame_out
    exact stored_join _ _ _ r n
  · rw [outsAt0_B m c t h0 (by omega)]
    frame_open
    frame_out
    exact stored_join _ _ _ r n

set_option maxHeartbeats 4000000 in
theorem out7 (c : Dev nD) (t : Fin cfg0.N) (ht : t.val % 8 = 7) (k : Fin 4) (n : Fin 1536) :
    (outsAt0 m c t.val t.isLt).2 (ix2 k n) = dTap (dT m c) (uT m c) k n := by
  have hN : t.val < 8 := t.isLt
  have key := Pipeline.eq_sum_of_reset_step_apply_of_mod (M := EReal)
    (fun q h (p : Fin 4 × Fin 1536) => (outsAt0 m c q h).2 (ix2 p.1 p.2)) 8 (fun _ => 0)
    (fun q p => part (dT m c) (uT m c) q p.1 p.2) ?_ ?_ t ht (k, n)
  · refine key.trans ((zero_add _).trans ?_)
    rw [← parts]
    refine Finset.sum_congr rfl fun j hj => ?_
    rw [show 8 * (t.val / 8) + j = j by omega]
  · intro t h0 p
    rw [outsAt0_A m c t h0 (by have : t.val < 8 := t.isLt; omega)]
    frame_open
    frame_out
    exact (taps_at m c t p.1 p.2).trans (zero_add _).symm
  · intro t h0 p
    rw [outsAt0_B m c t h0 (by omega)]
    frame_open
    frame_out
    pointwise [k0_pay4]
    exact congrArg _ (taps_at m c t p.1 p.2)

theorem final6 (c : Dev nD) : (dats m 0 c).arrAt 6 cfg0.N = joinOut (dT m c) (eT m c) (wT m c) := by
  refine (dats m 0 c).arrAt_eq_of_covers 6 _ (by decide +kernel) fun t hf y => ?_
  obtain ⟨-, -, -, -, -, -, e, -⟩ := place t
  blk_simp
  rw [after0_6]
  have hy : y = ix2 (y 0) (y 1) := by blk_ext
  refine (congrArg _ hy).trans ((out6 m c t (y 0) (y 1)).trans ?_)
  simp only [joinOut]
  blk_simp [e]
  rw [Nat.mul_comm 256]

theorem final7 (c : Dev nD) : (dats m 0 c).arrAt 7 cfg0.N = tapsOut (dT m c) (uT m c) := by
  refine (dats m 0 c).arrAt_eq_of_covers 7 _ (by decide +kernel) fun t hf y => ?_
  obtain ⟨-, -, -, -, -, -, -, e⟩ := place t
  blk_simp
  rw [after0_7]
  have hy : y = ix2 (y 0) (y 1) := by blk_ext
  refine (congrArg _ hy).trans ((out7 m c t ((flush0_7 t).mp hf) (y 0) (y 1)).trans ?_)
  simp only [tapsOut]
  blk_simp [e]

/-- What the kernel leaves. -/
theorem kernel_run (g : Dev nD → PrngReg) :
    θ_run (defs (F := Ideal)) (onTc (τ := τ) (main (F := Ideal))) ⟨m, fun _ => 0, g⟩ fun r => ∀ c : Dev nD,
      r.2.mem ((c.tc : Thread nD τ).loc main_v0_0) = joinOut (dT m c) (eT m c) (wT m c)
      ∧ r.2.mem ((c.tc : Thread nD τ).loc main_v0_1) = tapsOut (dT m c) (uT m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run _ _ _).mono (fun r h c => ⟨(h c).1.trans (final6 m c), (h c).2.1.trans (final7 m c), (h c).2.2⟩)
    (Cert.Kernel10Ideal.Value.run_blocks m g)

end Cert.Kernel10Ideal.ConvGrad
-- ==== Proof.ConvReference.lean ====
module

public import proofs.«01_k».proof.Proof.Gen.Reference10Ideal
public import proofs.«01_k».proof.Proof.Gen.Reference10Ideal.Read
public import proofs.«01_k».proof.Proof.ConvSpec
public import Idealize.ShloMosaic.Lib.Pipeline.ValueKit
public import Idealize.ShloMosaic.Lib.Quiescent

@[expose] public section

set_option maxRecDepth 16384

/-!
# The values of the reference for the convolution's gradient
-/

noncomputable section

open Idealize.ShloMosaic Idealize.ShloMosaic.TcCoe Idealize.SL.Sem Mixer Conv

namespace Cert.Reference10Ideal.ConvGrad

open Cert.Reference10Ideal Cert.Reference10Ideal.Gen Cert.Reference10Ideal.Read

variable (x0 : Vec Ideal S2048x1536 .f32) (x1 : Vec Ideal S2048x128 .f32) (x2 : Vec Ideal S2048x1664 .f32) (x3 : Vec Ideal S4x1536 .f32)

/-- A sum over two axes of one position. -/
theorem sum_ones (h : S1x1x1536.ReducesTo [0, 1] S1536) (x : S1x1x1536.Idx → EReal) (n : Fin 1536) :
    Ideal.hostReduceAdd h x 0 (ix1 n) = x (ix3 0 0 n) := by
  have hd : ∀ i, h.drop i = ix1 (i 2) := fun i => by
    funext a
    match a with | ⟨0, _⟩ => rfl
  rw [Ideal.hostReduceAdd, zero_add]
  refine Finset.sum_eq_single (ix3 0 0 n) (fun i hi hn => absurd ?_ hn) fun hn => absurd ?_ hn
  · have e : i 2 = n := congrFun ((hd i).symm.trans (Finset.mem_filter.mp hi).2) 0
    rw [← e]
    blk_ext
  · exact Finset.mem_filter.mpr ⟨Finset.mem_univ _, hd _⟩

theorem padded_at (q : Fin 2051) (n : Fin 1536) : val_main_v3 x2 (ix3 0 q n) = padded (tab x2) (q + 13) n := by
  unfold val_main_v3 val_main_v2 val_main_v1 val_main_v0 val_main_cst
  pointwise
  rw [padded]
  by_cases h : q.val < 3
  · rw [dif_pos h, if_pos (by omega)]
  · refine (dif_neg h).trans ((tab_apply x2 ⟨q.val - 3, by omega⟩ ⟨n, by omega⟩).trans ?_)
    rw [if_neg (by omega), show q.val + 13 - 16 = q.val - 3 by omega]

theorem dc_at (s : Fin 2048) (n : Fin 1536) : val_main_v32 x0 (ix3 0 s n) = tab x0 s n := by
  unfold val_main_v32
  pointwise
  exact tab_apply x0 s n

/-! The gradient times each tap. -/

theorem back0 (s : Fin 2048) (n : Fin 1536) : val_main_v68 x0 x3 (ix3 0 s n) = tab x0 s n * tab x3 0 n := by
  unfold val_main_v68 val_main_v67 val_main_v8 val_main_v7 val_main_v6
  pointwise
  rw [dc_at]
  exact congrArg _ (tab_apply x3 0 n)

theorem back1 (s : Fin 2048) (n : Fin 1536) : val_main_v57 x0 x3 (ix3 0 s n) = tab x0 s n * tab x3 1 n := by
  unfold val_main_v57 val_main_v56 val_main_v14 val_main_v13 val_main_v12
  pointwise
  rw [dc_at]
  exact congrArg _ (tab_apply x3 1 n)

theorem back2 (s : Fin 2048) (n : Fin 1536) : val_main_v46 x0 x3 (ix3 0 s n) = tab x0 s n * tab x3 2 n := by
  unfold val_main_v46 val_main_v45 val_main_v21 val_main_v20 val_main_v19
  pointwise
  rw [dc_at]
  exact congrArg _ (tab_apply x3 2 n)

theorem back3 (s : Fin 2048) (n : Fin 1536) : val_main_v37 x0 x3 (ix3 0 s n) = tab x0 s n * tab x3 3 n := by
  unfold val_main_v37 val_main_v36 val_main_v28 val_main_v27 val_main_v26
  pointwise
  rw [dc_at]
  exact congrArg _ (tab_apply x3 3 n)

/-- The gradient at the convolution's input. -/
theorem dX_at (s : Fin 2048) (n : Fin 1536) : val_main_v77 x0 x3 (ix2 s n) = dX (tab x0) (tab x3) s n := by
  unfold val_main_v77 val_main_v76 val_main_v74 val_main_v73 val_main_v63 val_main_v62 val_main_v52 val_main_v51 val_main_v41
    val_main_cst_4 val_main_cst_8 val_main_cst_12 val_main_cst_16
  pointwise
  have turn : ∀ {p q r s p' q' r' s' : EReal}, p = p' → q = q' → r = r' → s = s' → p + q + r + s = s' + r' + q' + p' := by
    rintro p q r s _ _ _ _ rfl rfl rfl rfl
    rw [add_comm (p + q + r) s, add_comm (p + q) r, add_comm p q, ← add_assoc, ← add_assoc]
  refine turn (back3 x0 x3 s n) ?_ ?_ ?_
  · split
    · exact (back2 x0 x3 ⟨_, _⟩ n).trans (congrArg (tab x0 · n * tab x3 2 n) (by dsimp only; omega))
    · rw [tab_of_ge x0 (by omega), zero_mul]
  · split
    · exact (back1 x0 x3 ⟨_, _⟩ n).trans (congrArg (tab x0 · n * tab x3 1 n) (by dsimp only; omega))
    · rw [tab_of_ge x0 (by omega), zero_mul]
  · split
    · exact (back0 x0 x3 ⟨_, _⟩ n).trans (congrArg (tab x0 · n * tab x3 0 n) (by dsimp only; omega))
    · rw [tab_of_ge x0 (by omega), zero_mul]

/-! The taps' gradients. -/

theorem dTap0 (n : Fin 1536) : val_main_v70 x0 x2 (ix2 0 n) = dTap (tab x0) (tab x2) 0 n := by
  unfold val_main_v70 val_main_v69 val_main_v66 val_main_v65 val_main_v64 val_main_v5 val_main_cst_14 val_main_cst_13
  pointwise
  rw [sum_ones]
  pointwise
  exact Finset.sum_congr (M := EReal) rfl fun s _ => (mul_comm _ _).trans (congrArg₂ (α := EReal) _ (dc_at x0 s n)
    ((padded_at x2 ⟨s, by omega⟩ n).trans (congrArg (padded (tab x2) · n) (by dsimp only))))

theorem dTap1 (n : Fin 1536) : val_main_v59 x0 x2 (ix2 0 n) = dTap (tab x0) (tab x2) 1 n := by
  unfold val_main_v59 val_main_v58 val_main_v55 val_main_v54 val_main_v53 val_main_v11 val_main_cst_10 val_main_cst_9
  pointwise
  rw [sum_ones]
  pointwise
  exact Finset.sum_congr (M := EReal) rfl fun s _ => (mul_comm _ _).trans (congrArg₂ (α := EReal) _ (dc_at x0 s n)
    ((padded_at x2 ⟨1 + s, by omega⟩ n).trans (congrArg (padded (tab x2) · n) (by dsimp only; omega))))

theorem dTap2 (n : Fin 1536) : val_main_v48 x0 x2 (ix2 0 n) = dTap (tab x0) (tab x2) 2 n := by
  unfold val_main_v48 val_main_v47 val_main_v44 val_main_v43 val_main_v42 val_main_v18 val_main_cst_6 val_main_cst_5
  pointwise
  rw [sum_ones]
  pointwise
  exact Finset.sum_congr (M := EReal) rfl fun s _ => (mul_comm _ _).trans (congrArg₂ (α := EReal) _ (dc_at x0 s n)
    ((padded_at x2 ⟨2 + s, by omega⟩ n).trans (congrArg (padded (tab x2) · n) (by dsimp only; omega))))

theorem dTap3 (n : Fin 1536) : val_main_v39 x0 x2 (ix2 0 n) = dTap (tab x0) (tab x2) 3 n := by
  unfold val_main_v39 val_main_v38 val_main_v35 val_main_v34 val_main_v33 val_main_v25 val_main_cst_2 val_main_cst_1
  pointwise
  rw [sum_ones]
  pointwise
  exact Finset.sum_congr (M := EReal) rfl fun s _ => (mul_comm _ _).trans (congrArg₂ (α := EReal) _ (dc_at x0 s n)
    ((padded_at x2 ⟨3 + s, by omega⟩ n).trans (congrArg (padded (tab x2) · n) (by dsimp only; omega))))

theorem dTaps_at (k : Fin 4) (n : Fin 1536) : val_main_v72 x0 x2 (ix2 k n) = dTap (tab x0) (tab x2) k n := by
  unfold val_main_v72 val_main_v71 val_main_v61 val_main_v60 val_main_v50 val_main_v49 val_main_v40 val_main_cst_3 val_main_cst_7
    val_main_cst_11 val_main_cst_15
  fin_vals k with hk
  · rw [hk, ← dTap0]
    pointwise
    rw [dif_neg (by omega), dif_neg (by omega), dif_neg (by omega), dif_pos (by omega), zero_add, zero_add, zero_add]
    congr 1; blk_ext
  · rw [hk, ← dTap1]
    pointwise
    rw [dif_neg (by omega), dif_neg (by omega), dif_pos (by omega), dif_neg (by omega), zero_add, zero_add, add_zero]
    congr 1; blk_ext
  · rw [hk, ← dTap2]
    pointwise
    rw [dif_neg (by omega), dif_pos (by omega), dif_neg (by omega), dif_neg (by omega), zero_add, add_zero, add_zero]
    congr 1; blk_ext
  · rw [hk, ← dTap3]
    pointwise
    rw [dif_pos (by omega), dif_neg (by omega), dif_neg (by omega), dif_neg (by omega), add_zero, add_zero, add_zero]
    congr 1; blk_ext

theorem value72 : val_main_v72 x0 x2 = tapsOut (tab x0) (tab x2) := by
  funext i
  have hi : i = ix2 (i 0) (i 1) := by blk_ext
  exact (congrArg _ hi).trans (dTaps_at x0 x2 (i 0) (i 1))

theorem join_at (s : Fin 2048) (n : Fin 1664) : val_main_v79 x0 x1 x3 (ix2 s n) = joinAt (tab x0) (tab x1) (tab x3) s n := by
  unfold val_main_v79 val_main_v78
  pointwise
  rw [joinAt]
  by_cases h : n.val < 1536
  · rw [dif_pos h, if_pos h]
    exact dX_at x0 x3 s ⟨n, h⟩
  · rw [dif_neg h, if_neg h]
    exact tab_apply x1 s ⟨n - 1536, by omega⟩

theorem value79 : val_main_v79 x0 x1 x3 = joinOut (tab x0) (tab x1) (tab x3) := by
  funext i
  have hi : i = ix2 (i 0) (i 1) := by blk_ext
  exact (congrArg _ hi).trans (join_at x0 x1 x3 (i 0) (i 1))

/-- The reference terminates with its arguments unchanged, and declares no semaphore. -/
theorem frame (m : (ℓ : Loc nD τ sig) → Buf (Elt Ideal) ℓ) (g : Dev nD → PrngReg) :
    θ_run (defs (F := Ideal)) (onTc (τ := τ) (main (F := Ideal))) ⟨m, fun _ => 0, g⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0 :=
  (θ_run _ _ _).mono (fun r h => ⟨fun c => (h c).2.2, sem_eq_zero_of_no_sems (by decide) r.2⟩)
    (Cert.Reference10Ideal.Value.run m g)

end Cert.Reference10Ideal.ConvGrad
-- ==== Proof.ConvClaims.lean ====
module

public import proofs.«01_k».proof.Defs
public import proofs.«01_k».proof.Proof.ConvGrad
public import proofs.«01_k».proof.Proof.ConvReference

@[expose] public section

set_option maxRecDepth 16384

/-!
# The claim about the convolution's gradient
-/

noncomputable section

open Idealize.ShloMosaic Idealize.ShloMosaic.TcCoe Idealize.SL.Sem Mixer Conv

namespace Cert.Reference10Ideal.ConvGrad

open Cert.Reference10Ideal Cert.Reference10Ideal.Gen Cert.Reference10Ideal.Read

/-- From the same arguments the two programs leave the same two arrays. -/
theorem algebraic : Cert.algebraic_Kernel10Ideal_Reference10Ideal := by
  intro m g m' g' _ hagree
  refine ⟨_, _, Kernel10Ideal.ConvGrad.kernel_run m g, (θ_run _ _ _).mono (fun r h c => ?_) (Reference10Ideal.Value.run m' g')⟩
  obtain ⟨r0, r1, ra⟩ := h c
  obtain ⟨a0, a1, a2, a3⟩ := hagree c
  refine ⟨r0.trans ((val_main_v79_eq (m' (c.tc.loc main_arg0)) (m' (c.tc.loc main_arg1)) (m' (c.tc.loc main_arg3))).trans ?_),
    r1.trans ((val_main_v72_eq (m' (c.tc.loc main_arg0)) (m' (c.tc.loc main_arg2))).trans ?_), ra⟩
  · rw [a0, a1, a3]
    exact value79 _ _ _
  · rw [a0, a2]
    exact value72 _ _

end Cert.Reference10Ideal.ConvGrad
-- ==== Proof.OutNorm.lean ====
module

public import proofs.«01_k».proof.Defs
public import proofs.«01_k».proof.Proof.Gen.Kernel11Ideal
public import proofs.«01_k».proof.Proof.Gen.Kernel11Ideal.Value
public import proofs.«01_k».proof.Proof.Gen.Reference11Ideal
public import proofs.«01_k».proof.Proof.Gen.Reference11Ideal.Read
public import proofs.«01_k».proof.Proof.NormSpec
public import Idealize.ShloMosaic.Lib.Pipeline.ValueKit
public import Idealize.ShloMosaic.Lib.Pipeline.ReadBack
public import Idealize.ShloMosaic.Lib.Quiescent

@[expose] public section

set_option maxRecDepth 16384

/-!
# The output projection, the residual path and the norm after it (`out_proj`)

Grid point `t` computes the rows from `512 * t` on.
-/

noncomputable section

open Idealize.ShloMosaic Idealize.ShloMosaic.TcCoe Idealize.SL.Sem Mixer Norm

namespace OutNorm

/-- The residual stream after the projection. -/
def stream (o w x : Tab) : Tab := fun s d => x s d + product o w s d

/-- The arrays of it and of its norm. -/
def streamOut (o w x : Tab) : (⟨2, ![2048, 1024]⟩ : Shape).Idx → EReal := fun i => stream o w x (i 0).val (i 1).val
def normOut (o w x : Tab) (n : ℕ → EReal) : (⟨2, ![2048, 1024]⟩ : Shape).Idx → EReal := fun i =>
  stream o w x (i 0).val (i 1).val * inv (stream o w x) (i 0).val * n (i 1).val

end OutNorm

open OutNorm

namespace Cert.Kernel11Ideal.OutProj

open Cert.Kernel11Ideal Cert.Kernel11Ideal.Gen

variable (m : (ℓ : Loc nD τ sig) → Buf (Elt Ideal) ℓ)

/-- The tables of the arguments. -/
def oT (c : Dev nD) : Tab := tab (m ((c : Thread nD τ).loc main_arg0))
def wT (c : Dev nD) : Tab := tab (m ((c : Thread nD τ).loc main_arg1))
def xT (c : Dev nD) : Tab := tab (m ((c : Thread nD τ).loc main_arg2))
def nT (c : Dev nD) : ℕ → EReal := list (m ((c : Thread nD τ).loc main_arg3))

theorem V0 (c : Dev nD) (s : Fin 2048) (k : Fin 1024) : V m c main_v0 (ix2 s k) = oT m c s k := by
  rw [oT, ← tab_apply]
  entry_read
  pointwise

theorem V1 (c : Dev nD) (k : Fin 1024) (d : Fin 1024) : V m c main_v1 (ix2 k d) = wT m c k d := by
  rw [wT, ← tab_apply]
  entry_read
  pointwise

theorem V2 (c : Dev nD) (s : Fin 2048) (d : Fin 1024) : V m c main_arg2 (ix2 s d) = xT m c s d := by
  rw [xT, ← tab_apply]
  entry_read
  pointwise

theorem V3 (c : Dev nD) (d : Fin 1024) : V m c main_v2 (ix2 0 d) = nT m c d := by
  rw [nT, ← list_apply]
  entry_read
  pointwise

/-- Where each window's block lies, in blocks. -/
theorem place : ∀ t : Fin grid0.N, win0_0.index t = ![t.val, 0] ∧ win0_1.index t = ![0, 0] ∧ win0_2.index t = ![t.val, 0]
    ∧ win0_3.index t = ![0, 0] ∧ win0_4.index t = ![t.val, 0] ∧ win0_5.index t = ![t.val, 0] := by
  decide +kernel

theorem block0 (c : Dev nD) (t : Fin cfg0.N) (r : Fin 512) (k : Fin 1024) :
    iblk m c 0 t (ix2 r k) = oT m c (512 * t.val + r) k := by
  have hN : t.val < 4 := t.isLt
  obtain ⟨e, -⟩ := place t
  refine .trans ?_ (V0 m c ⟨512 * t.val + r, by omega⟩ k)
  blk_ext [iblk, e]

theorem block1 (c : Dev nD) (t : Fin cfg0.N) (k : Fin 1024) (d : Fin 1024) : iblk m c 1 t (ix2 k d) = wT m c k d := by
  obtain ⟨-, e, -⟩ := place t
  refine .trans ?_ (V1 m c k d)
  blk_ext [iblk, e]

theorem block2 (c : Dev nD) (t : Fin cfg0.N) (r : Fin 512) (d : Fin 1024) :
    iblk m c 2 t (ix2 r d) = xT m c (512 * t.val + r) d := by
  have hN : t.val < 4 := t.isLt
  obtain ⟨-, -, e, -⟩ := place t
  refine .trans ?_ (V2 m c ⟨512 * t.val + r, by omega⟩ d)
  blk_ext [iblk, e]

theorem block3 (c : Dev nD) (t : Fin cfg0.N) (d : Fin 1024) : iblk m c 3 t (ix2 0 d) = nT m c d := by
  obtain ⟨-, -, -, e, -⟩ := place t
  refine .trans ?_ (V3 m c d)
  blk_ext [iblk, e]

theorem pay1_at (c : Dev nD) (t : Fin cfg0.N) (r : Fin 512) (d : Fin 1024) :
    k0_pay1 (F := Ideal) (iblk m c 2 t) (iblk m c 0 t) (iblk m c 1 t) (ix2 r d)
      = stream (oT m c) (wT m c) (xT m c) (512 * t.val + r) d := by
  pointwise [k0_pay1]
  exact congrArg₂ (α := EReal) _ (block2 m c t r d)
    (Finset.sum_congr (M := EReal) rfl fun k _ => congrArg₂ (α := EReal) _ (block0 m c t r k) (block1 m c t k d))

theorem pay2_at (c : Dev nD) (t : Fin cfg0.N) (r : Fin 512) (d : Fin 1024) :
    k0_pay2 (F := Ideal) (iblk m c 2 t) (iblk m c 0 t) (iblk m c 1 t) (iblk m c 3 t) (ix2 r d)
      = stream (oT m c) (wT m c) (xT m c) (512 * t.val + r) d * inv (stream (oT m c) (wT m c) (xT m c)) (512 * t.val + r) * nT m c d := by
  pointwise [k0_pay2]
  simp only [pay1_at, block3]
  rfl

theorem out4 (c : Dev nD) (t : Fin cfg0.N) (r : Fin 512) (d : Fin 1024) :
    out0_4 (iblk m c 0 t) (iblk m c 1 t) (iblk m c 2 t) (iblk m c 3 t) (ix2 r d)
      = stream (oT m c) (wT m c) (xT m c) (512 * t.val + r) d := by
  refine .trans ?_ (pay1_at m c t r d)
  frame_open
  frame_out

theorem out5 (c : Dev nD) (t : Fin cfg0.N) (r : Fin 512) (d : Fin 1024) :
    out0_5 (iblk m c 0 t) (iblk m c 1 t) (iblk m c 2 t) (iblk m c 3 t) (ix2 r d)
      = stream (oT m c) (wT m c) (xT m c) (512 * t.val + r) d * inv (stream (oT m c) (wT m c) (xT m c)) (512 * t.val + r) * nT m c d := by
  refine .trans ?_ (pay2_at m c t r d)
  frame_open
  frame_out

theorem final4 (c : Dev nD) : (dats m 0 c).arrAt 4 cfg0.N = streamOut (oT m c) (wT m c) (xT m c) := by
  refine (dats m 0 c).arrAt_eq_of_covers 4 _ (by decide +kernel) fun t hf y => ?_
  obtain ⟨-, -, -, -, e, -⟩ := place t
  blk_simp
  rw [after0_4]
  have hy : y = ix2 (y 0) (y 1) := by blk_ext
  refine (congrArg _ hy).trans ((out4 m c t (y 0) (y 1)).trans ?_)
  simp only [streamOut]
  blk_simp [e]
  rw [Nat.mul_comm 512]

theorem final5 (c : Dev nD) : (dats m 0 c).arrAt 5 cfg0.N = normOut (oT m c) (wT m c) (xT m c) (nT m c) := by
  refine (dats m 0 c).arrAt_eq_of_covers 5 _ (by decide +kernel) fun t hf y => ?_
  obtain ⟨-, -, -, -, -, e⟩ := place t
  blk_simp
  rw [after0_5]
  have hy : y = ix2 (y 0) (y 1) := by blk_ext
  refine (congrArg _ hy).trans ((out5 m c t (y 0) (y 1)).trans ?_)
  simp only [normOut]
  blk_simp [e]
  rw [Nat.mul_comm 512]

/-- What the kernel leaves. -/
theorem kernel_run (g : Dev nD → PrngReg) :
    θ_run (defs (F := Ideal)) (onTc (τ := τ) (main (F := Ideal))) ⟨m, fun _ => 0, g⟩ fun r => ∀ c : Dev nD,
      r.2.mem ((c.tc : Thread nD τ).loc main_v3_0) = streamOut (oT m c) (wT m c) (xT m c)
      ∧ r.2.mem ((c.tc : Thread nD τ).loc main_v3_1) = normOut (oT m c) (wT m c) (xT m c) (nT m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run _ _ _).mono (fun r h c => ⟨(h c).1.trans (final4 m c), (h c).2.1.trans (final5 m c), (h c).2.2⟩)
    (Cert.Kernel11Ideal.Value.run_blocks m g)

end Cert.Kernel11Ideal.OutProj

namespace Cert.Reference11Ideal.OutProj

open Cert.Reference11Ideal Cert.Reference11Ideal.Gen Cert.Reference11Ideal.Read

variable (x0 : Vec Ideal S2048x1024 .f32) (x1 : Vec Ideal S1024x1024 .f32) (x2 : Vec Ideal S2048x1024 .f32) (x3 : Vec Ideal S1024 .f32)

theorem stream_at (s : Fin 2048) (d : Fin 1024) :
    val_main_v3 x0 x1 x2 (ix3 0 s d) = stream (tab x0) (tab x1) (tab x2) s d := by
  unfold val_main_v3 val_main_v2 val_main_v1 val_main_v0
  pointwise
  exact congrArg₂ (α := EReal) _ (tab_apply _ _ _)
    (Finset.sum_congr (M := EReal) rfl fun k _ => congrArg₂ (α := EReal) _ (tab_apply _ _ _) (tab_apply _ _ _))

theorem power_at (s : Fin 2048) : val_main_v11 x0 x1 x2 (ix3 0 s 0) = power (stream (tab x0) (tab x1) (tab x2)) s := by
  unfold val_main_v11 val_main_v10 val_main_v9 val_main_v8 val_main_v7 val_main_v6 val_main_v5 val_main_cst val_main_cst_0
    val_main_cst_1
  pointwise
  simp only [stream_at]
  rfl

theorem norm_at (s : Fin 2048) (d : Fin 1024) : val_main_v17 x0 x1 x2 x3 (ix3 0 s d)
    = stream (tab x0) (tab x1) (tab x2) s d * inv (stream (tab x0) (tab x1) (tab x2)) s * list x3 d := by
  unfold val_main_v17 val_main_v16 val_main_v15 val_main_v14 val_main_v13 val_main_v12
  pointwise
  rw [stream_at, power_at, ← list_apply]
  rfl

theorem value4 : val_main_v4 x0 x1 x2 = streamOut (tab x0) (tab x1) (tab x2) := by
  funext i
  have hi : i = ix2 (i 0) (i 1) := by blk_ext
  refine (congrArg _ hi).trans (.trans ?_ (stream_at x0 x1 x2 (i 0) (i 1)))
  unfold val_main_v4
  pointwise

theorem value19 : val_main_v19 x0 x1 x2 x3 = normOut (tab x0) (tab x1) (tab x2) (list x3) := by
  funext i
  have hi : i = ix2 (i 0) (i 1) := by blk_ext
  refine (congrArg _ hi).trans (.trans ?_ (norm_at x0 x1 x2 x3 (i 0) (i 1)))
  unfold val_main_v19 val_main_v18
  pointwise

/-- The reference terminates with its arguments unchanged, and declares no semaphore. -/
theorem frame (m : (ℓ : Loc nD τ sig) → Buf (Elt Ideal) ℓ) (g : Dev nD → PrngReg) :
    θ_run (defs (F := Ideal)) (onTc (τ := τ) (main (F := Ideal))) ⟨m, fun _ => 0, g⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0 :=
  (θ_run _ _ _).mono (fun r h => ⟨fun c => (h c).2.2, sem_eq_zero_of_no_sems (by decide) r.2⟩)
    (Cert.Reference11Ideal.Value.run m g)

/-- From the same arguments the two programs leave the same two arrays. -/
theorem algebraic : Cert.algebraic_Kernel11Ideal_Reference11Ideal := by
  intro m g m' g' _ hagree
  refine ⟨_, _, Kernel11Ideal.OutProj.kernel_run m g, (θ_run _ _ _).mono (fun r h c => ?_) (Reference11Ideal.Value.run m' g')⟩
  obtain ⟨r0, r1, ra⟩ := h c
  obtain ⟨a0, a1, a2, a3⟩ := hagree c
  refine ⟨r0.trans ((val_main_v4_eq (m' (c.tc.loc main_arg0)) (m' (c.tc.loc main_arg1)) (m' (c.tc.loc main_arg2))).trans ?_),
    r1.trans ((val_main_v19_eq (m' (c.tc.loc main_arg0)) (m' (c.tc.loc main_arg1)) (m' (c.tc.loc main_arg2))
      (m' (c.tc.loc main_arg3))).trans ?_), ra⟩
  · rw [a0, a1, a2]
    exact value4 _ _ _
  · rw [a0, a1, a2, a3]
    exact value19 _ _ _ _

end Cert.Reference11Ideal.OutProj
-- ==== Proof.PrepSpec.lean ====
module

public import proofs.«01_k».proof.Proof.ConvSpec
public import proofs.«01_k».proof.Proof.NormSpec
public import Idealize.ShloMosaic.Lib.Pipeline.ValueKit

@[expose] public section

/-!
# Queries, keys, values, decays and update rates of the gated delta rule

`u` is the projected input and `w` the convolution's four taps. The queries' and the keys' four heads of 128 columns are each scaled
to unit length, the queries also by the scale of the scores; `u`'s columns from 1536 on hold one update rate for each head, and those
from 1540 on what each head's decay is computed from, which is added up within each chunk of 64 rows.
-/

noncomputable section

namespace Prep

open Idealize.ShloMosaic Mixer Norm

/-- The causal convolution with four taps. -/
def taps (u w : Tab) (s n : ℕ) : EReal :=
  padded u (s + 13) n * w 0 n + padded u (s + 14) n * w 1 n + padded u (s + 15) n * w 2 n + padded u (s + 16) n * w 3 n

/-- Its `silu`. -/
def convSilu (u w : Tab) : Tab := fun s n => taps u w s n * logis (taps u w s n)

/-- The factor that brings the 128 columns from `b` on to unit length. -/
def unit (a : Tab) (s b : ℕ) : EReal := Ideal.rsqrt (∑ k : Fin 128, a s (b + k) * a s (b + k) + small)

/-- The scale of the scores. -/
def scale : EReal := Ideal.ofBits FTy.f32 0x3DB504F3#32

/-- Query, key and update rate at one column. -/
def query (a : Tab) (s n : ℕ) : EReal := a s n * (unit a s (n / 128 * 128) * scale)
def key (a : Tab) (s n : ℕ) : EReal := a s (512 + n) * unit a s (512 + n / 128 * 128)
def rate (u : Tab) (s n : ℕ) : EReal := logis (u s (1536 + n / 128))

/-- `log (1 + exp x)`. -/
def soft (x : EReal) : EReal := max x 0 + Ideal.log1p (Ideal.exp (0 - max x (-x)))

/-- The logarithm of a row's decay, from the row's entry and the head's two parameters, and its sum over the chunk up to a row. -/
def logDecay (a d x : EReal) : EReal := (0 - Ideal.exp a) * soft (x + d)
def decay (u al dt : Tab) (s h : ℕ) : EReal := logDecay (al 0 h) (dt 0 h) (u s (1540 + h))
def decayed (u al dt : Tab) (s h : ℕ) : EReal := ∑ j : Fin 64, if j.val ≤ s % 64 then decay u al dt (s / 64 * 64 + j) h else 0

/-- The five arrays. -/
def queryOut (u w : Tab) : (⟨2, ![2048, 512]⟩ : Shape).Idx → EReal := fun i => query (convSilu u w) (i 0).val (i 1).val
def keyOut (u w : Tab) : (⟨2, ![2048, 512]⟩ : Shape).Idx → EReal := fun i => key (convSilu u w) (i 0).val (i 1).val
def valueOut (u w : Tab) : (⟨2, ![2048, 512]⟩ : Shape).Idx → EReal := fun i => convSilu u w (i 0).val (1024 + (i 1).val)
def decayOut (u al dt : Tab) : (⟨2, ![2048, 512]⟩ : Shape).Idx → EReal := fun i => decayed u al dt (i 0).val ((i 1).val / 128)
def rateOut (u : Tab) : (⟨2, ![2048, 512]⟩ : Shape).Idx → EReal := fun i => rate u (i 0).val (i 1).val

/-! ## The logarithm of a decay is not above zero -/

theorem exp_nonneg (x : EReal) : 0 ≤ Ideal.exp x := by
  induction x with
  | bot => exact le_refl _
  | top => exact le_top
  | coe r => exact EReal.coe_nonneg.mpr (Real.exp_pos r).le

theorem log1p_nonneg (y : EReal) (h : 0 ≤ y) : 0 ≤ Ideal.log1p y := by
  induction y with
  | bot => exact absurd h (by simp)
  | top => exact le_top
  | coe r =>
    have hr : 0 ≤ r := EReal.coe_nonneg.mp h
    have e : Ideal.log1p (r : EReal) = if 1 + r ≤ 0 then ⊥ else (Real.log (1 + r) : EReal) := rfl
    rw [e, if_neg (by linarith)]
    exact EReal.coe_nonneg.mpr (Real.log_nonneg (by linarith))

theorem logDecay_ne_top (a d x : EReal) : logDecay a d x ≠ ⊤ := by
  have hs : 0 ≤ soft (x + d) := add_nonneg (le_max_right _ _) (log1p_nonneg _ (exp_nonneg _))
  rw [logDecay, zero_sub, EReal.neg_mul]
  have h0 : 0 ≤ Ideal.exp a * soft (x + d) := mul_nonneg (exp_nonneg a) hs
  have h : -(Ideal.exp a * soft (x + d)) ≤ 0 := by simpa using EReal.neg_le_neg_iff.mpr h0
  exact ne_top_of_le_ne_top (by simp) h

/-- What a term's two remainders add to it: nothing, for they are zero or the term is `⊥`. -/
theorem add_rest (g : EReal) (h : g ≠ ⊤) : g + ((g - g) + ((g - g) - (g - g))) = g := by
  induction g with
  | bot => simp
  | top => exact absurd rfl h
  | coe r => norm_cast; simp

/-- A sum over the rows of four chunks that lie in a row's chunk and not below it. -/
theorem sum_chunk (f : ℕ → EReal) (t : ℕ) (r : Fin 256) :
    (∑ x : Fin 256, if r.val / 64 = x.val / 64 ∧ x.val ≤ r.val then f (256 * t + x) else 0)
      = ∑ j : Fin 64, if j.val ≤ (256 * t + r.val) % 64 then f ((256 * t + r.val) / 64 * 64 + j) else 0 := by
  rw [← Finset.sum_filter, ← Finset.sum_filter]
  refine Finset.sum_nbij' (fun x => ⟨x.val % 64, by omega⟩) (fun j => ⟨r.val / 64 * 64 + j.val, by omega⟩) ?_ ?_ ?_ ?_ ?_
  · intro x hx
    simp only [Finset.mem_filter, Finset.mem_univ, true_and] at hx ⊢
    omega
  · intro j hj
    simp only [Finset.mem_filter, Finset.mem_univ, true_and] at hj ⊢
    omega
  · intro x hx
    simp only [Finset.mem_filter, Finset.mem_univ, true_and] at hx
    exact Fin.ext (by dsimp only; omega)
  · intro j hj
    exact Fin.ext (by dsimp only; omega)
  · intro x hx
    simp only [Finset.mem_filter, Finset.mem_univ, true_and] at hx
    exact congrArg f (by dsimp only; omega)

end Prep
-- ==== Proof.Prep.lean ====
module

public import proofs.«01_k».proof.Proof.Gen.Kernel12Ideal
public import proofs.«01_k».proof.Proof.Gen.Kernel12Ideal.Value
public import proofs.«01_k».proof.Proof.ConvGrad
public import proofs.«01_k».proof.Proof.PrepSpec
public import Idealize.ShloMosaic.Lib.Pipeline.ValueKit
public import Idealize.ShloMosaic.Lib.Pipeline.ReadBack

@[expose] public section

set_option maxRecDepth 16384

/-!
# The gated delta rule's queries, keys, values and update rates (`gdn_prep_fwd`)

Grid point `t` computes the rows from `256 * t` on, and takes the eight rows before them for the convolution.
-/

noncomputable section

open Idealize.ShloMosaic Idealize.ShloMosaic.TcCoe Idealize.SL.Sem Mixer Norm Prep
open Cert.Kernel10Ideal.ConvGrad (before_word select_ofBool)

namespace Cert.Kernel12Ideal.Prep

open Cert.Kernel12Ideal Cert.Kernel12Ideal.Gen

variable (m : (ℓ : Loc nD τ sig) → Buf (Elt Ideal) ℓ)

/-- The tables of the arguments. -/
def uT (c : Dev nD) : Tab := tab (m ((c : Thread nD τ).loc main_arg0))
def wT (c : Dev nD) : Tab := tab (m ((c : Thread nD τ).loc main_arg1))

def aT (c : Dev nD) : Tab := tab (m ((c : Thread nD τ).loc main_arg2))
def dT (c : Dev nD) : Tab := tab (m ((c : Thread nD τ).loc main_arg3))

theorem V0 (c : Dev nD) (s : Fin 2048) (n : Fin 1664) : V m c main_arg0 (ix2 s n) = uT m c s n := by
  rw [uT, ← tab_apply]

theorem V1 (c : Dev nD) (k : Fin 4) (n : Fin 1536) : V m c main_arg1 (ix2 k n) = wT m c k n := by
  rw [wT, ← tab_apply]

theorem V2 (c : Dev nD) (h : Fin 4) : V m c main_arg2 (ix2 0 h) = aT m c 0 h := by
  exact tab_apply _ 0 h

theorem V3 (c : Dev nD) (h : Fin 4) : V m c main_arg3 (ix2 0 h) = dT m c 0 h := by
  exact tab_apply _ 0 h

/-- Where each window's block lies, in blocks. -/
theorem place : ∀ t : Fin grid0.N, win0_0.index t = ![t.val, 0] ∧ win0_1.index t = ![t.val * 32 - 1, 0] ∧ win0_2.index t = ![t.val, 12]
    ∧ win0_3.index t = ![0, 0] ∧ win0_6.index t = ![t.val, 0] ∧ win0_7.index t = ![t.val, 0] ∧ win0_8.index t = ![t.val, 0]
    ∧ win0_10.index t = ![t.val, 0] := by
  decide +kernel

theorem coord : ∀ t : Fin grid0.N, (grid0.coords t 0).val = t.val := by decide +kernel

theorem block0 (c : Dev nD) (t : Fin cfg0.N) (r : Fin 256) (n : Fin 1536) : X0_0 m c t (ix2 r n) = uT m c (256 * t.val + r) n := by
  have hN : t.val < 8 := t.isLt
  obtain ⟨e, -⟩ := place t
  refine .trans ?_ (V0 m c ⟨256 * t.val + r, by omega⟩ ⟨n, by omega⟩)
  unfold X0_0 Pipeline.Window.fill
  rw [dif_pos (moved0_0 t _)]
  blk_ext [iblk, e]

theorem block1 (c : Dev nD) (t : Fin cfg0.N) (ht : 0 < t.val) (r : Fin 8) (n : Fin 1536) :
    X0_1 m c t (ix2 r n) = uT m c (256 * t.val - 8 + r) n := by
  have hN : t.val < 8 := t.isLt
  obtain ⟨-, e, -⟩ := place t
  refine .trans ?_ (V0 m c ⟨256 * t.val - 8 + r, by omega⟩ ⟨n, by omega⟩)
  unfold X0_1 Pipeline.Window.fill
  rw [dif_pos (moved0_1 t _)]
  blk_ext [iblk, e]

theorem block2 (c : Dev nD) (t : Fin cfg0.N) (r : Fin 256) (n : Fin 128) : iblk m c 2 t (ix2 r n) = uT m c (256 * t.val + r) (1536 + n) := by
  have hN : t.val < 8 := t.isLt
  obtain ⟨-, -, e, -⟩ := place t
  refine .trans ?_ (V0 m c ⟨256 * t.val + r, by omega⟩ ⟨1536 + n, by omega⟩)
  blk_ext [iblk, e]

theorem block3 (c : Dev nD) (t : Fin cfg0.N) (k : Fin 4) (n : Fin 1536) : iblk m c 3 t (ix2 k n) = wT m c k n := by
  obtain ⟨-, -, -, e, -⟩ := place t
  refine .trans ?_ (V1 m c k n)
  blk_ext [iblk, e]

/-- The eight rows before a block; there are none before the first. -/
theorem before_at (c : Dev nD) (t : Fin cfg0.N) (r : Fin 8) (n : Fin 1536) :
    (if 0 < t.val then X0_1 m c t else fun _ => (0 : EReal)) (ix2 r n) = padded (uT m c) (256 * t.val + r + 8) n := by
  rw [padded]
  by_cases h0 : 0 < t.val
  · rw [if_pos h0, if_neg (by omega), block1 m c t h0]
    exact congrArg (uT m c · n) (by omega)
  · rw [if_neg h0, if_pos (by omega)]

/-- A row of the join of those with the block's own rows. -/
theorem join_at (c : Dev nD) (t : Fin cfg0.N) (q : ℕ) (n : Fin 1536) (hq : q < 264) :
    (if h : q < 8 then (if 0 < t.val then X0_1 m c t else fun _ => (0 : EReal)) (ix2 ⟨q, h⟩ n)
      else X0_0 m c t (ix2 ⟨q - 8, by omega⟩ n)) = padded (uT m c) (256 * t.val + q + 8) n := by
  by_cases h : q < 8
  · rw [dif_pos h, before_at]
  · refine (dif_neg h).trans ((block0 m c t ⟨q - 8, by omega⟩ n).trans ?_)
    rw [padded, if_neg (by omega)]
    exact congrArg (uT m c · n) (by dsimp only; omega)

/-- The convolution's `silu` on a block. -/
theorem act_at (c : Dev nD) (t : Fin cfg0.N) (r : Fin 256) (n : Fin 1536) :
    k0_pay5 (F := Ideal) (grid0.coords t) (X0_1 m c t) (X0_0 m c t) (iblk m c 3 t) (ix2 r n)
      = convSilu (uT m c) (wT m c) (256 * t.val + r) n := by
  have hw := (before_word (grid0.coords t 0)).trans (by rw [coord t])
  unfold k0_pay5
  dsimp only
  rw [hw, select_ofBool]
  pointwise
  have key : ∀ {p q : EReal}, p = q → p * Ideal.div 1 (1 + Ideal.exp (0 - p)) = q * logis q := by
    rintro p _ rfl
    rfl
  refine key ?_
  refine congrArg₂ (α := EReal) _ (congrArg₂ (α := EReal) _ (congrArg₂ (α := EReal) _ (congrArg₂ (α := EReal) _ ?_ (block3 m c t 0 n))
    (congrArg₂ (α := EReal) _ ?_ (block3 m c t 1 n))) (congrArg₂ (α := EReal) _ ?_ (block3 m c t 2 n)))
    (congrArg₂ (α := EReal) _ ?_ (block3 m c t 3 n))
  on_goal 4 =>
    rw [block0, padded, if_neg (by omega)]
    exact congrArg (uT m c · n) (by omega)
  all_goals exact (join_at m c t _ n (by omega)).trans (congrArg (padded (uT m c) · n) (by omega))

/-! ## One head's columns -/

section
variable (x : Vec Ideal S256x1536 .f32) (a : Tab) (t : ℕ) (hx : ∀ (r : Fin 256) (n : Fin 1536), x (ix2 r n) = a (256 * t + r) n)
include hx

theorem slice_at (b : ℕ) (hb : S256x1536.Slices ![0, b] S256x128) (hl : b + 128 ≤ 1536) (r : Fin 256) (d : Fin 128) :
    extractStridedSlice S256x128 ![0, b] x hb (ix2 r d) = a (256 * t + r) (b + d) := by
  refine .trans ?_ (hx r ⟨b + d, by omega⟩)
  pointwise

theorem query_at (b : ℕ) (hb : S256x1536.Slices ![0, b] S256x128) (hl : b + 128 ≤ 512) (hd : b % 128 = 0) (r : Fin 256) (d : Fin 128) :
    k0_pay9 (F := Ideal) (extractStridedSlice S256x128 ![0, b] x hb) (ix2 r d) = query a (256 * t + r) (b + d) := by
  have hs := slice_at x a t hx b hb (by omega) r
  generalize extractStridedSlice S256x128 ![0, b] x hb = y at hs ⊢
  pointwise [k0_pay9]
  simp only [hs]
  rw [query, show (b + d.val) / 128 * 128 = b by omega]
  rfl

theorem key_at (b : ℕ) (hb : S256x1536.Slices ![0, 512 + b] S256x128) (hl : b + 128 ≤ 512) (hd : b % 128 = 0) (r : Fin 256) (d : Fin 128) :
    k0_pay10 (F := Ideal) (extractStridedSlice S256x128 ![0, 512 + b] x hb) (ix2 r d) = key a (256 * t + r) (b + d) := by
  have hs := slice_at x a t hx (512 + b) hb (by omega) r
  generalize extractStridedSlice S256x128 ![0, 512 + b] x hb = y at hs ⊢
  pointwise [k0_pay10]
  simp only [hs]
  rw [key, show (b + d.val) / 128 * 128 = b by omega, ← add_assoc]
  rfl

end

theorem rate_at (x : Vec Ideal S256x128 .f32) (u : Tab) (t : ℕ) (hx : ∀ (r : Fin 256) (n : Fin 128), x (ix2 r n) = u (256 * t + r) (1536 + n))
    (r : Fin 256) (d : Fin 128) :
    k0_pay11 (F := Ideal) x (ix2 r d) = rate u (256 * t + r) (0 + d) ∧ k0_pay19 (k0_pay18 (F := Ideal) x) (ix2 r d) = rate u (256 * t + r) (128 + d)
      ∧ k0_pay25 (F := Ideal) x (ix2 r d) = rate u (256 * t + r) (256 + d) ∧ k0_pay31 (F := Ideal) x (ix2 r d) = rate u (256 * t + r) (384 + d) := by
  have e : ∀ {k n : ℕ}, n / 128 = k → ∀ {p : EReal}, p = u (256 * t + r) (1536 + k) →
      Ideal.div 1 (1 + Ideal.exp (0 - p)) = rate u (256 * t + r) n := by
    rintro k n rfl p rfl
    rfl
  refine ⟨?_, ?_, ?_, ?_⟩
  · pointwise [k0_pay11]
    exact e (k := 0) (by omega) (hx r 0)
  · pointwise [k0_pay19, k0_pay18]
    exact e (k := 1) (by omega) (hx r 1)
  · pointwise [k0_pay25]
    exact e (k := 2) (by omega) (hx r 2)
  · pointwise [k0_pay31]
    exact e (k := 3) (by omega) (hx r 3)

/-! ## The output blocks -/

/-- One store of 128 columns from `b` on, over what was stored before. -/
theorem stored (G : ℕ → EReal) (b : ℕ) (hb : ∀ a, (![0, b] : Fin 2 → Nat) a + (![256, 128] : Fin 2 → Nat) a ≤ S256x512.size a) (y : Vec Ideal S256x128 .f32)
    (L : List (View.Piece (Elt Ideal) S256x512 .f32)) (r : Fin 256) (n : Fin 512) (hy : ∀ d : Fin 128, y (ix2 r d) = G (b + d))
    (hn : n.val < b + 128) (hL : n.val < b → View.canon L (ix2 r n) = G n) :
    View.canon (⟨Rect.unit ![0, b] ![256, 128] hb, y⟩ :: L) (ix2 r n) = G n := by
  by_cases h : n.val < b
  · have hm : ix2 r n ∉ (Rect.unit (s := S256x512) ![0, b] ![256, 128] hb).set := by
      rw [Rect.mem_set_unit]
      exact fun hm => absurd (show b ≤ n.val from (hm 1).1) (by omega)
    exact (View.canon_cons_of_not_mem (Val := Elt Ideal) ⟨Rect.unit (s := S256x512) ![0, b] ![256, 128] hb, y⟩ _ hm).trans (hL h)
  · have hx : ix2 r n = (Rect.unit (s := S256x512) ![0, b] ![256, 128] hb).emb (ix2 r ⟨n - b, by omega⟩) :=
      (Rect.emb_eq_of_coords _ _ _ fun a => by match a with | ⟨0, _⟩ => simp | ⟨1, _⟩ => (simp; omega)).symm
    rw [hx]
    refine (View.canon_cons_emb (Val := Elt Ideal) (Rect.unit (s := S256x512) ![0, b] ![256, 128] hb) y L _).trans ((hy _).trans ?_)
    exact congrArg G (by dsimp only; omega)

theorem out6 (c : Dev nD) (t : Fin cfg0.N) (r : Fin 256) (n : Fin 512) :
    (outsAt0 m c t).1 (ix2 r n) = query (convSilu (uT m c) (wT m c)) (256 * t.val + r) n := by
  have h := query_at _ _ t.val (act_at m c t)
  unfold outsAt0
  dsimp only
  frame_open
  frame_out
  exact stored _ 384 _ _ _ r n (fun d => h 384 slices_S256x1536_o0_384_S256x128 (by omega) (by omega) r d) (by omega) fun _ =>
    stored _ 256 _ _ _ r n (fun d => h 256 slices_S256x1536_o0_256_S256x128 (by omega) (by omega) r d) (by omega) fun _ =>
    stored _ 128 _ _ _ r n (fun d => h 128 slices_S256x1536_o0_128_S256x128 (by omega) (by omega) r d) (by omega) fun _ =>
    stored _ 0 _ _ _ r n (fun d => h 0 slices_S256x1536_o0_0_S256x128 (by omega) (by omega) r d) (by omega) fun _ => by omega

theorem out7 (c : Dev nD) (t : Fin cfg0.N) (r : Fin 256) (n : Fin 512) :
    (outsAt0 m c t).2.1 (ix2 r n) = key (convSilu (uT m c) (wT m c)) (256 * t.val + r) n := by
  have h := key_at _ _ t.val (act_at m c t)
  frame_open
  frame_out
  exact stored _ 384 _ _ _ r n (fun d => h 384 slices_S256x1536_o0_896_S256x128 (by omega) (by omega) r d) (by omega) fun _ =>
    stored _ 256 _ _ _ r n (fun d => h 256 slices_S256x1536_o0_768_S256x128 (by omega) (by omega) r d) (by omega) fun _ =>
    stored _ 128 _ _ _ r n (fun d => h 128 slices_S256x1536_o0_640_S256x128 (by omega) (by omega) r d) (by omega) fun _ =>
    stored _ 0 _ _ _ r n (fun d => h 0 slices_S256x1536_o0_512_S256x128 (by omega) (by omega) r d) (by omega) fun _ => by omega

theorem out8 (c : Dev nD) (t : Fin cfg0.N) (r : Fin 256) (n : Fin 512) :
    (outsAt0 m c t).2.2.1 (ix2 r n) = convSilu (uT m c) (wT m c) (256 * t.val + r) (1024 + n) := by
  refine .trans ?_ (act_at m c t r ⟨1024 + n, by omega⟩)
  frame_open
  frame_out
  pointwise [k0_pay34]

theorem out10 (c : Dev nD) (t : Fin cfg0.N) (r : Fin 256) (n : Fin 512) :
    (outsAt0 m c t).2.2.2.2 (ix2 r n) = rate (uT m c) (256 * t.val + r) n := by
  have h := rate_at _ _ t.val (block2 m c t) r
  frame_open
  frame_out
  exact stored _ 384 _ _ _ r n (fun d => (h d).2.2.2) (by omega) fun _ =>
    stored _ 256 _ _ _ r n (fun d => (h d).2.2.1) (by omega) fun _ =>
    stored _ 128 _ _ _ r n (fun d => (h d).2.1) (by omega) fun _ =>
    stored _ 0 _ _ _ r n (fun d => (h d).1) (by omega) fun _ => by omega

theorem final6 (c : Dev nD) : (dats m 0 c).arrAt 6 cfg0.N = queryOut (uT m c) (wT m c) := by
  refine (dats m 0 c).arrAt_eq_of_covers 6 _ (by decide +kernel) fun t hf y => ?_
  obtain ⟨-, -, -, -, e, -⟩ := place t
  blk_simp
  rw [after0_6]
  have hy : y = ix2 (y 0) (y 1) := by blk_ext
  refine (congrArg _ hy).trans ((out6 m c t (y 0) (y 1)).trans ?_)
  simp only [queryOut]
  blk_simp [e]
  rw [Nat.mul_comm 256]

theorem final7 (c : Dev nD) : (dats m 0 c).arrAt 7 cfg0.N = keyOut (uT m c) (wT m c) := by
  refine (dats m 0 c).arrAt_eq_of_covers 7 _ (by decide +kernel) fun t hf y => ?_
  obtain ⟨-, -, -, -, -, e, -⟩ := place t
  blk_simp
  rw [after0_7]
  have hy : y = ix2 (y 0) (y 1) := by blk_ext
  refine (congrArg _ hy).trans ((out7 m c t (y 0) (y 1)).trans ?_)
  simp only [keyOut]
  blk_simp [e]
  rw [Nat.mul_comm 256]

theorem final8 (c : Dev nD) : (dats m 0 c).arrAt 8 cfg0.N = valueOut (uT m c) (wT m c) := by
  refine (dats m 0 c).arrAt_eq_of_covers 8 _ (by decide +kernel) fun t hf y => ?_
  obtain ⟨-, -, -, -, -, -, e, -⟩ := place t
  blk_simp
  rw [after0_8]
  have hy : y = ix2 (y 0) (y 1) := by blk_ext
  refine (congrArg _ hy).trans ((out8 m c t (y 0) (y 1)).trans ?_)
  simp only [valueOut]
  blk_simp [e]
  rw [Nat.mul_comm 256]

theorem final10 (c : Dev nD) : (dats m 0 c).arrAt 10 cfg0.N = rateOut (uT m c) := by
  refine (dats m 0 c).arrAt_eq_of_covers 10 _ (by decide +kernel) fun t hf y => ?_
  obtain ⟨-, -, -, -, -, -, -, e⟩ := place t
  blk_simp
  rw [after0_10]
  have hy : y = ix2 (y 0) (y 1) := by blk_ext
  refine (congrArg _ hy).trans ((out10 m c t (y 0) (y 1)).trans ?_)
  simp only [rateOut]
  blk_simp [e]
  rw [Nat.mul_comm 256]

end Cert.Kernel12Ideal.Prep
-- ==== Proof.PrepDecay.lean ====
module

public import proofs.«01_k».proof.Proof.Prep

@[expose] public section

set_option maxRecDepth 16384

/-!
# The decays of the gated delta rule, added up within each chunk (`gdn_prep_fwd`)

A block holds four chunks of 64 rows. The four heads' decays stand in the first four of 128 columns, and a matrix of zeros and ones adds
them up: once as they are, and once more for each of the two remainders that their rounding leaves.
-/

noncomputable section

open Idealize.ShloMosaic Idealize.ShloMosaic.TcCoe Idealize.SL.Sem Mixer Norm Prep
open Cert.Kernel10Ideal.ConvGrad (select_ofBool)

namespace Cert.Kernel12Ideal.Prep

open Cert.Kernel12Ideal Cert.Kernel12Ideal.Gen

variable (m : (ℓ : Loc nD τ sig) → Buf (Elt Ideal) ℓ)

/-! ## The words of the matrix -/

theorem quot_word : ∀ r : Fin 256, IntOp.divsi .vector (BitVec.ofNat 32 r.val) 64#32 = BitVec.ofNat 32 (r.val / 64) := by
  decide +kernel

theorem eq_word (a b : ℕ) (ha : a < 256) (hb : b < 256) :
    IntOp.cmpi .eq (BitVec.ofNat 32 a) (BitVec.ofNat 32 b) = BitVec.ofBool (decide (a = b)) := by
  have e : (BitVec.ofNat 32 a = BitVec.ofNat 32 b) ↔ a = b := by
    rw [← BitVec.toNat_inj, BitVec.toNat_ofNat, BitVec.toNat_ofNat]
    omega
  by_cases h : a = b
  · subst h
    simp [IntOp.cmpi]
  · rw [decide_eq_false h]
    exact congrArg BitVec.ofBool (beq_eq_false_iff_ne.mpr (mt e.mp h))

theorem le_word (a b : ℕ) (ha : a < 256) (hb : b < 256) :
    IntOp.cmpi .sle (BitVec.ofNat 32 a) (BitVec.ofNat 32 b) = BitVec.ofBool (decide (a ≤ b)) := by
  have e : ∀ n < 256, (BitVec.ofNat 32 n).toInt = n := fun n hn => by
    rw [BitVec.toInt_eq_toNat_of_lt (by rw [BitVec.toNat_ofNat]; omega), BitVec.toNat_ofNat]
    omega
  simp [IntOp.cmpi, BitVec.sle, e a ha, e b hb]

theorem tri_word (r c : Fin 256) : IntOp.andi (IntOp.cmpi .eq (IntOp.divsi .vector (BitVec.ofNat 32 r.val) 64#32)
    (IntOp.divsi .vector (BitVec.ofNat 32 c.val) 64#32)) (IntOp.cmpi .sle (BitVec.ofNat 32 c.val) (BitVec.ofNat 32 r.val))
      = BitVec.ofBool (decide (r.val / 64 = c.val / 64 ∧ c.val ≤ r.val)) := by
  rw [quot_word, quot_word, eq_word _ _ (by omega) (by omega), le_word _ _ (by omega) (by omega)]
  by_cases h : r.val / 64 = c.val / 64 <;> by_cases h' : c.val ≤ r.val <;> simp [h, h', IntOp.andi]

/-- The three products, at one entry. -/
theorem total_at (f : ℕ → EReal) (hf : ∀ s, f s ≠ ⊤) (t : ℕ) (r : Fin 256) (w : Fin 256 → BitVec 1) (g : Fin 256 → EReal)
    (hw : ∀ x, w x = BitVec.ofBool (decide (r.val / 64 = x.val / 64 ∧ x.val ≤ r.val))) (hg : ∀ x : Fin 256, g x = f (256 * t + x)) :
    (∑ x, Scalar.select (w x) (g x) (0 : EReal)) + ((∑ x, Scalar.select (w x) (g x - g x) (0 : EReal))
        + ∑ x, Scalar.select (w x) (g x - g x - (g x - g x)) (0 : EReal))
      = ∑ j : Fin 64, if j.val ≤ (256 * t + r.val) % 64 then f ((256 * t + r.val) / 64 * 64 + j) else 0 := by
  rw [← sum_chunk f t r, ← Finset.sum_add_distrib, ← Finset.sum_add_distrib]
  refine Finset.sum_congr rfl fun x _ => ?_
  rw [hw, select_ofBool, select_ofBool, select_ofBool, hg]
  split
  · exact add_rest _ (hf _)
  · simp

/-! ## The decays -/

theorem block4 (c : Dev nD) (t : Fin cfg0.N) (h : Fin 4) : iblk m c 4 t (ix2 0 h) = aT m c 0 h := by
  have e : ∀ t : Fin grid0.N, win0_4.index t = ![0, 0] := by decide +kernel
  refine .trans ?_ (V2 m c h)
  blk_ext [iblk, e]

theorem block5 (c : Dev nD) (t : Fin cfg0.N) (h : Fin 4) : iblk m c 5 t (ix2 0 h) = dT m c 0 h := by
  have e : ∀ t : Fin grid0.N, win0_5.index t = ![0, 0] := by decide +kernel
  refine .trans ?_ (V3 m c h)
  blk_ext [iblk, e]

/-- One head's decay in a row of a block. -/
theorem decay_at (c : Dev nD) (t : Fin cfg0.N) (r : Fin 256) (h : Fin 4) :
    logDecay (iblk m c 4 t (ix2 0 h)) (iblk m c 5 t (ix2 0 h)) (iblk m c 2 t (ix2 r ⟨4 + h, by omega⟩))
      = decay (uT m c) (aT m c) (dT m c) (256 * t.val + r) h := by
  rw [block4, block5, block2, decay, show 1540 + h.val = 1536 + (4 + h.val) by omega]

section
variable (c : Dev nD) (t : Fin cfg0.N)

/-- The columns of the first three heads, as the last head's are set. -/
def three : FVec Ideal S256x128 .f32 :=
  k0_pay28
    (k0_pay20 (iblk m c 2 t) (iota Kind.tc S256x128 32 [1] iota_S256x128_d1_w32)
      (k0_pay15 (iota Kind.tc S256x128 32 [1] iota_S256x128_d1_w32) k0_pay6
        (k0_pay12 (View.ld (iblk m c 4 t) (Rect.unit ![0, 0] ![1, 1] inb_S1x4_S1x1_0_0)))
        (k0_pay13 (iblk m c 2 t))
        (k0_pay14 (View.ld (iblk m c 5 t) (Rect.unit ![0, 0] ![1, 1] inb_S1x4_S1x1_0_0))))
      (View.ld (iblk m c 4 t) (Rect.unit ![0, 1] ![1, 1] inb_S1x4_S1x1_0_1))
      (View.ld (iblk m c 5 t) (Rect.unit ![0, 1] ![1, 1] inb_S1x4_S1x1_0_1)))
    (k0_pay26 (iota Kind.tc S256x128 32 [1] iota_S256x128_d1_w32))
    (k0_pay27 (iblk m c 2 t) (View.ld (iblk m c 4 t) (Rect.unit ![0, 2] ![1, 1] inb_S1x4_S1x1_0_2))
      (View.ld (iblk m c 5 t) (Rect.unit ![0, 2] ![1, 1] inb_S1x4_S1x1_0_2)))

theorem three_at (r : Fin 256) (h : Fin 3) : three m c t (ix2 r ⟨h, by omega⟩) = decay (uT m c) (aT m c) (dT m c) (256 * t.val + r) h := by
  pointwise [three, k0_pay28, k0_pay20, k0_pay15, k0_pay12, k0_pay13, k0_pay14, k0_pay26, k0_pay27]
  rw [eq_word _ 2 (by omega) (by omega), eq_word _ 1 (by omega) (by omega), eq_word _ 0 (by omega) (by omega), select_ofBool, select_ofBool,
    select_ofBool]
  match h with
  | 0 => exact (if_neg (by decide)).trans ((if_neg (by decide)).trans ((if_pos rfl).trans (decay_at m c t r 0)))
  | 1 => exact (if_neg (by decide)).trans ((if_pos rfl).trans (decay_at m c t r 1))
  | 2 => exact (if_pos rfl).trans (decay_at m c t r 2)

/-- The sums in one of the four columns. -/
theorem sums_at (r : Fin 256) (h : Fin 4) :
    k0_pay35 (F := Ideal) (iota Kind.tc S256x128 32 [1] iota_S256x128_d1_w32) (three m c t)
      (k0_pay32 (View.ld (iblk m c 4 t) (Rect.unit ![0, 3] ![1, 1] inb_S1x4_S1x1_0_3)))
      (k0_pay33 (iblk m c 2 t)) (View.ld (iblk m c 5 t) (Rect.unit ![0, 3] ![1, 1] inb_S1x4_S1x1_0_3)) (ix2 r ⟨h, by omega⟩)
      = decayed (uT m c) (aT m c) (dT m c) (256 * t.val + r) h := by
  have ht := three_at m c t
  generalize three m c t = y at ht ⊢
  pointwise [k0_pay35, k0_pay32, k0_pay33]
  refine total_at (decay (uT m c) (aT m c) (dT m c) · h) (fun s => logDecay_ne_top _ _ _) t.val r _ _ (tri_word r) fun x => ?_
  rw [eq_word _ 3 (by omega) (by omega), select_ofBool]
  by_cases h3 : h.val < 3
  · exact (if_neg (by omega)).trans (ht x ⟨h, h3⟩)
  · obtain rfl : h = 3 := Fin.ext (by simp; omega)
    exact (if_pos rfl).trans (decay_at m c t x 3)

end

/-! ## The output block -/

theorem out9 (c : Dev nD) (t : Fin cfg0.N) (r : Fin 256) (n : Fin 512) :
    (outsAt0 m c t).2.2.2.1 (ix2 r n) = decayed (uT m c) (aT m c) (dT m c) (256 * t.val + r) (n / 128) := by
  have h := sums_at m c t r
  have e : ∀ {b k : ℕ}, b = 128 * k → ∀ {p : EReal} (d : Fin 128), p = decayed (uT m c) (aT m c) (dT m c) (256 * t.val + r) k →
      p = (fun n => decayed (uT m c) (aT m c) (dT m c) (256 * t.val + r) (n / 128)) (b + d) := by
    rintro _ k rfl p d rfl
    exact congrArg _ (by omega)
  frame_open
  frame_out
  have st := stored fun n => decayed (uT m c) (aT m c) (dT m c) (256 * t.val + r) (n / 128)
  refine st 384 _ _ _ r n (fun d => e (k := 3) rfl d (.trans ?_ (h 3))) (by omega) fun _ =>
    st 256 _ _ _ r n (fun d => e (k := 2) rfl d (.trans ?_ (h 2))) (by omega) fun _ =>
    st 128 _ _ _ r n (fun d => e (k := 1) rfl d (.trans ?_ (h 1))) (by omega) fun _ =>
    st 0 _ _ _ r n (fun d => e (k := 0) rfl d (.trans ?_ (h 0))) (by omega) fun _ => by omega
  · pointwise [k0_pay4]
    rfl
  · pointwise [k0_pay3]
    rfl
  · pointwise [k0_pay2]
    rfl
  · pointwise [k0_pay1, k0_pay36]
    rfl

theorem final9 (c : Dev nD) : (dats m 0 c).arrAt 9 cfg0.N = decayOut (uT m c) (aT m c) (dT m c) := by
  refine (dats m 0 c).arrAt_eq_of_covers 9 _ (by decide +kernel) fun t hf y => ?_
  have e : ∀ t : Fin grid0.N, win0_9.index t = ![t.val, 0] := by decide +kernel
  blk_simp
  rw [after0_9]
  have hy : y = ix2 (y 0) (y 1) := by blk_ext
  refine (congrArg _ hy).trans ((out9 m c t (y 0) (y 1)).trans ?_)
  simp only [decayOut]
  blk_simp [e]
  rw [Nat.mul_comm 256]

/-- What the kernel leaves. -/
theorem kernel_run (g : Dev nD → PrngReg) :
    θ_run (defs (F := Ideal)) (onTc (τ := τ) (main (F := Ideal))) ⟨m, fun _ => 0, g⟩ fun r => ∀ c : Dev nD,
      r.2.mem ((c.tc : Thread nD τ).loc main_v0_0) = queryOut (uT m c) (wT m c)
      ∧ r.2.mem ((c.tc : Thread nD τ).loc main_v0_1) = keyOut (uT m c) (wT m c)
      ∧ r.2.mem ((c.tc : Thread nD τ).loc main_v0_2) = valueOut (uT m c) (wT m c)
      ∧ r.2.mem ((c.tc : Thread nD τ).loc main_v0_3) = decayOut (uT m c) (aT m c) (dT m c)
      ∧ r.2.mem ((c.tc : Thread nD τ).loc main_v0_4) = rateOut (uT m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run _ _ _).mono (fun r h c => ⟨(h c).1.trans (final6 m c), (h c).2.1.trans (final7 m c), (h c).2.2.1.trans (final8 m c),
    (h c).2.2.2.1.trans (final9 m c), (h c).2.2.2.2.1.trans (final10 m c), (h c).2.2.2.2.2⟩) (Cert.Kernel12Ideal.Value.run_blocks m g)

end Cert.Kernel12Ideal.Prep
-- ==== Proof.PrepClaims.lean ====
module

public import proofs.«01_k».proof.Defs
public import proofs.«01_k».proof.Proof.Gen.Reference12Ideal
public import proofs.«01_k».proof.Proof.Gen.Reference12Ideal.Read
public import proofs.«01_k».proof.Proof.PrepDecay
public import Idealize.ShloMosaic.Lib.Quiescent

@[expose] public section

set_option maxRecDepth 16384

/-!
# The preparation of the gated delta rule and its reference leave the same arrays
-/

noncomputable section

open Idealize.ShloMosaic Idealize.ShloMosaic.TcCoe Idealize.SL.Sem Mixer Norm Prep

namespace Cert.Reference12Ideal.Prep

open Cert.Reference12Ideal Cert.Reference12Ideal.Gen Cert.Reference12Ideal.Read

variable (x0 : Vec Ideal S2048x1664 .f32) (x1 : Vec Ideal S4x1536 .f32)

theorem padded_at (q : Fin 2051) (n : Fin 1536) : val_main_v3 x0 (ix3 0 q n) = padded (tab x0) (q + 13) n := by
  unfold val_main_v3 val_main_v2 val_main_v1 val_main_v0 val_main_cst
  pointwise
  rw [padded]
  by_cases h : q.val < 3
  · rw [dif_pos h, if_pos (by omega)]
  · refine (dif_neg h).trans ((tab_apply x0 ⟨q.val - 3, by omega⟩ ⟨n, by omega⟩).trans ?_)
    rw [if_neg (by omega), show q.val + 13 - 16 = q.val - 3 by omega]

theorem taps_at (s : Fin 2048) (n : Fin 1536) : val_main_v30 x0 x1 (ix3 0 s n) = taps (tab x0) (tab x1) s n := by
  unfold val_main_v30 val_main_v29 val_main_v28 val_main_v27 val_main_v26 val_main_v25 val_main_v24 val_main_v23 val_main_v22 val_main_v21
    val_main_v20 val_main_v19 val_main_v18 val_main_v17 val_main_v16 val_main_v15 val_main_v14 val_main_v13 val_main_v12 val_main_v11
    val_main_v10 val_main_v9 val_main_v8 val_main_v7 val_main_v6 val_main_v5 val_main_v4
  pointwise
  have at_ : ∀ (k : ℕ) (h : k + s.val < 2051), val_main_v3 x0 (ix3 0 ⟨k + s.val, h⟩ n) = padded (tab x0) (s + (13 + k)) n := fun k h =>
    (padded_at x0 ⟨k + s.val, h⟩ n).trans (congrArg (padded (tab x0) · n) (by dsimp only; omega))
  refine congrArg₂ (α := EReal) _ (congrArg₂ (α := EReal) _ (congrArg₂ (α := EReal) _
    (congrArg₂ (α := EReal) _ (padded_at x0 ⟨s, by omega⟩ n) (tab_apply x1 0 n))
    (congrArg₂ (α := EReal) _ (at_ 1 (by omega)) (tab_apply x1 1 n))) (congrArg₂ (α := EReal) _ (at_ 2 (by omega)) (tab_apply x1 2 n)))
    (congrArg₂ (α := EReal) _ (at_ 3 (by omega)) (tab_apply x1 3 n))

theorem act_at (s : Fin 2048) (n : Fin 1536) : val_main_v31 x0 x1 (ix3 0 s n) = convSilu (tab x0) (tab x1) s n := by
  unfold val_main_v31 val_main_call0_v5 val_main_call0_v4 val_main_call0_v3 val_main_call0_v2 val_main_call0_v1 val_main_call0_v0
    val_main_call0_cst val_main_call0_cst_0
  pointwise
  rw [taps_at, ← zero_sub]
  rfl

/-- The queries' heads and the keys' heads, before they are scaled. -/
theorem heads33 (s : Fin 2048) (h : Fin 4) (d : Fin 128) :
    val_main_v33 x0 x1 (ix4 0 s h d) = convSilu (tab x0) (tab x1) s (h * 128 + d) := by
  refine .trans ?_ (act_at x0 x1 s ⟨h * 128 + d, by omega⟩)
  unfold val_main_v33 val_main_v32
  pointwise

theorem heads45 (s : Fin 2048) (h : Fin 4) (d : Fin 128) :
    val_main_v45 x0 x1 (ix4 0 s h d) = convSilu (tab x0) (tab x1) s (512 + h * 128 + d) := by
  refine .trans ?_ ((act_at x0 x1 s ⟨512 + (h * 128 + d), by omega⟩).trans (congrArg _ (add_assoc ..).symm))
  unfold val_main_v45 val_main_v44
  pointwise

theorem query_at (s : Fin 2048) (n : Fin 512) : val_main_v78 x0 x1 (ix2 s n) = query (convSilu (tab x0) (tab x1)) s n := by
  unfold val_main_v78 val_main_v43 val_main_v42 val_main_v41 val_main_v40 val_main_v39 val_main_v38 val_main_v37 val_main_v36 val_main_v35
    val_main_v34 val_main_cst_0 val_main_cst_1 val_main_cst_2
  pointwise
  simp only [heads33]
  rw [mul_assoc, show n.val / 128 * 128 + n.val % 128 = n by omega]
  rfl

theorem key_at (s : Fin 2048) (n : Fin 512) : val_main_v79 x0 x1 (ix2 s n) = key (convSilu (tab x0) (tab x1)) s n := by
  unfold val_main_v79 val_main_v53 val_main_v52 val_main_v51 val_main_v50 val_main_v49 val_main_v48 val_main_v47 val_main_v46
    val_main_cst_3 val_main_cst_4
  pointwise
  simp only [heads45]
  rw [show 512 + n.val / 128 * 128 + n.val % 128 = 512 + n by omega]
  rfl

theorem value_at (s : Fin 2048) (n : Fin 512) : val_main_v81 x0 x1 (ix2 s n) = convSilu (tab x0) (tab x1) s (1024 + n) := by
  refine .trans ?_ (act_at x0 x1 s ⟨1024 + n, by omega⟩)
  unfold val_main_v81 val_main_v80
  pointwise

theorem rate_at (s : Fin 2048) (n : Fin 512) : val_main_v87 x0 (ix2 s n) = rate (tab x0) s n := by
  unfold val_main_v87 val_main_v86 val_main_v85 val_main_v63 val_main_v62 val_main_v61 val_main_v60 val_main_v59 val_main_v58 val_main_v55
    val_main_v54 val_main_cst_5 val_main_cst_6
  pointwise
  rw [rate, ← zero_sub, ← tab_apply x0 s ⟨1536 + n / 128, by omega⟩]
  rfl

/-! ## The decays -/

variable (x2 x3 : Vec Ideal S1x4 .f32)

/-- The window of 64 rows, row by row. -/
def windowRows : Fin 64 ≃ (⟨4, ![1, 1, 64, 1]⟩ : Shape).Idx where
  toFun w := ix4 0 0 w 0
  invFun p := p 2
  left_inv _ := rfl
  right_inv p := funext fun a => by
    match a with
    | ⟨0, _⟩ => exact Subsingleton.elim (α := Fin 1) _ _
    | ⟨1, _⟩ => exact Subsingleton.elim (α := Fin 1) _ _
    | ⟨2, _⟩ => rfl
    | ⟨3, _⟩ => exact Subsingleton.elim (α := Fin 1) _ _

/-- Which of them meets a row of the operand. -/
def turn (i : Fin 64) : Fin 64 ≃ Fin 64 where
  toFun j := ⟨(j.val + 127 - i.val) % 64, by omega⟩
  invFun w := ⟨(w.val + i.val + 1) % 64, by omega⟩
  left_inv j := Fin.ext (by dsimp only; omega)
  right_inv w := Fin.ext (by dsimp only; omega)

theorem foldl_add {ι : Type} (l : List ι) (f : ι → EReal) (v : EReal) : l.foldl (fun r n => r + f n) v = v + (l.map f).sum := by
  induction l generalizing v with
  | nil => simp
  | cons a l ih => rw [List.foldl_cons, ih, List.map_cons, List.sum_cons, add_assoc]

/-- A chunk's running sum. -/
theorem cumsum_at (x : S1x32x64x4.Idx → EReal) (v : S_.Idx → EReal) (hv : ∀ i, v i = 0)
    (h : S1x32x64x4.ReduceWindows ![1, 1, 64, 1] ![1, 1, 1, 1] ![0, 0, 63, 0] ![0, 0, 0, 0] S1x32x64x4) (hu : 0 < S_.numel)
    (k : Fin 32) (i : Fin 64) (d : Fin 4) :
    Host.reduceWindowAdd (F := Ideal) (φ := .f32) ![1, 1, 64, 1] ![1, 1, 1, 1] ![0, 0, 63, 0] ![0, 0, 0, 0] x v h hu (ix4 0 k i d)
      = ∑ j : Fin 64, if j.val ≤ i.val then x (ix4 0 k j d) else 0 := by
  refine (foldl_add _ _ _).trans ?_
  rw [hv, zero_add, ← Fin.sum_univ_def]
  refine (Fintype.sum_equiv ((turn i).trans (windowRows.trans (Shape.rowMajor (⟨4, ![1, 1, 64, 1]⟩ : Shape)))) _ _ fun j => ?_).symm
  simp only [Equiv.trans_apply, Equiv.symm_apply_apply]
  have hw : (windowRows (turn i j) 2).val = (j.val + 127 - i.val) % 64 := rfl
  have h0 : ∀ w, (windowRows w 0).val = 0 ∧ (windowRows w 1).val = 0 ∧ (windowRows w 3).val = 0 := fun w => ⟨rfl, rfl, rfl⟩
  obtain ⟨w0, w1, w3⟩ := h0 (turn i j)
  by_cases hj : j.val ≤ i.val
  · rw [if_pos hj, dif_pos]
    · refine congrArg x (funext fun a => Fin.ext ?_)
      match a with
      | ⟨0, _⟩ => rfl
      | ⟨1, _⟩ =>
        show k.val = k.val * 1 + (windowRows (turn i j) 1).val - 0
        omega
      | ⟨2, _⟩ =>
        show j.val = i.val * 1 + (windowRows (turn i j) 2).val - 63
        omega
      | ⟨3, _⟩ =>
        show d.val = d.val * 1 + (windowRows (turn i j) 3).val - 0
        omega
    · intro a
      match a with
      | ⟨0, _⟩ => exact ⟨Nat.zero_le _, Nat.one_pos⟩
      | ⟨1, _⟩ =>
        show 0 ≤ k.val * 1 + (windowRows (turn i j) 1).val ∧ k.val * 1 + (windowRows (turn i j) 1).val - 0 < 32
        omega
      | ⟨2, _⟩ =>
        show 63 ≤ i.val * 1 + (windowRows (turn i j) 2).val ∧ i.val * 1 + (windowRows (turn i j) 2).val - 63 < 64
        omega
      | ⟨3, _⟩ =>
        show 0 ≤ d.val * 1 + (windowRows (turn i j) 3).val ∧ d.val * 1 + (windowRows (turn i j) 3).val - 0 < 4
        omega
  · rw [if_neg hj, dif_neg]
    intro hin
    have h2 : 63 ≤ i.val * 1 + (windowRows (turn i j) 2).val := (hin 2).1
    omega

theorem decay_at (s : Fin 2048) (h : Fin 4) : val_main_v74 x0 x2 x3 (ix3 0 s h) = decay (tab x0) (tab x2) (tab x3) s h := by
  unfold val_main_v74 val_main_v73 val_main_v72 val_main_v71 val_main_v66 val_main_v65 val_main_v64 val_main_call1_v11 val_main_call1_v10 val_main_call1_v9 val_main_call1_v8 val_main_call1_v7
    val_main_call1_v6 val_main_call1_v5 val_main_call1_v4 val_main_call1_v3 val_main_call1_v2 val_main_call1_v1 val_main_call1_v0
    val_main_call1_cst val_main_v70 val_main_v69 val_main_v68 val_main_v67 val_main_v57 val_main_v56
  pointwise
  have e : ∀ {a d x a' d' x' : EReal}, a = a' → d = d' → x = x' →
      (-Ideal.exp a * if x + d ≠ x + d then x + d else max (x + d) 0 + Ideal.log1p (Ideal.exp (-max (x + d) (-(x + d))))) = logDecay a' d' x' := by
    rintro a d x _ _ _ rfl rfl rfl
    rw [if_neg (by simp), logDecay, soft, zero_sub, zero_sub]
  exact e (tab_apply x2 0 h) (tab_apply x3 0 h) (tab_apply x0 s ⟨1540 + h, by omega⟩)

theorem decayed_at (s : Fin 2048) (n : Fin 512) :
    val_main_v84 x0 x2 x3 (ix2 s n) = decayed (tab x0) (tab x2) (tab x3) s (n / 128) := by
  unfold val_main_v84 val_main_v83 val_main_v82 val_main_v77
  pointwise
  unfold val_main_v76
  refine (cumsum_at _ _ (fun i => ?_) _ _ ⟨s / 64, by omega⟩ ⟨s % 64, by omega⟩ ⟨n / 128, by omega⟩).trans (Finset.sum_congr rfl fun j _ => ?_)
  · unfold val_main_call2_call0_v0 val_main_call2_call0_cst
    pointwise
  · refine if_congr Iff.rfl (.trans ?_ (decay_at x0 x2 x3 ⟨s / 64 * 64 + j, by omega⟩ ⟨n / 128, by omega⟩)) rfl
    unfold val_main_v75
    pointwise

/-- The reference terminates with its arguments unchanged, and declares no semaphore. -/
theorem frame (m : (ℓ : Loc nD τ sig) → Buf (Elt Ideal) ℓ) (g : Dev nD → PrngReg) :
    θ_run (defs (F := Ideal)) (onTc (τ := τ) (main (F := Ideal))) ⟨m, fun _ => 0, g⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0 :=
  (θ_run _ _ _).mono (fun r h => ⟨fun c => (h c).2.2.2.2.2, sem_eq_zero_of_no_sems (by decide) r.2⟩)
    (Cert.Reference12Ideal.Value.run m g)

/-- From the same arguments the two programs leave the same five arrays. -/
theorem algebraic : Cert.algebraic_Kernel12Ideal_Reference12Ideal := by
  intro m g m' g' _ hagree
  refine ⟨_, _, _, _, _, Kernel12Ideal.Prep.kernel_run m g, (θ_run _ _ _).mono (fun r h c => ?_) (Reference12Ideal.Value.run m' g')⟩
  obtain ⟨r0, r1, r2, r3, r4, ra⟩ := h c
  obtain ⟨a0, a1, a2, a3⟩ := hagree c
  have ix : ∀ i : S2048x512.Idx, i = ix2 (i 0) (i 1) := fun i => by blk_ext
  refine ⟨r0.trans ((val_main_v78_eq m' c).trans ?_), r1.trans ((val_main_v79_eq m' c).trans ?_),
    r2.trans ((val_main_v81_eq m' c).trans ?_), r3.trans ((val_main_v84_eq _ _ _).trans ?_),
    r4.trans ((val_main_v87_eq (m' (c.tc.loc main_arg0))).trans ?_), ra⟩
  · rw [a0, a1]
    exact funext fun i => (congrArg _ (ix i)).trans (query_at _ _ (i 0) (i 1))
  · rw [a0, a1]
    exact funext fun i => (congrArg _ (ix i)).trans (key_at _ _ (i 0) (i 1))
  · rw [a0, a1]
    exact funext fun i => (congrArg _ (ix i)).trans (value_at _ _ (i 0) (i 1))
  · rw [a0, a2, a3]
    exact funext fun i => (congrArg _ (ix i)).trans (decayed_at _ _ _ (i 0) (i 1))
  · rw [a0]
    exact funext fun i => (congrArg _ (ix i)).trans (rate_at _ (i 0) (i 1))

end Cert.Reference12Ideal.Prep
-- ==== Proof.StateSpec.lean ====
module

public import proofs.«01_k».proof.Proof.ScanResults

@[expose] public section

/-!
# The chunked scan, written entry by entry

Chunk `n` of head `h` takes the state `S` before it (a 128 by 128 array) and leaves its output, its update and the state after it.
`state` is that state, chunk by chunk from the first.
-/

noncomputable section

namespace Forward

open Idealize.ShloMosaic

/-- What the call takes, as far as its output, its updates and its states depend on it. -/
structure Args where
  uv : Scan.Arr 64 128
  wk : Scan.Arr 64 128
  qd : Scan.Arr 64 128
  att : Scan.Arr 64 64
  ke : Scan.Arr 64 128
  g : Fin 32 → Fin 4 → EReal

/-- The call's arguments as they come, by chunk, head, row and column. -/
def ofArrays (uv wk qd : (⟨5, ![32, 1, 4, 64, 128]⟩ : Shape).Idx → EReal) (att : (⟨5, ![32, 1, 4, 64, 64]⟩ : Shape).Idx → EReal)
    (ke : (⟨5, ![32, 1, 4, 64, 128]⟩ : Shape).Idx → EReal) (g : (⟨3, ![32, 1, 4]⟩ : Shape).Idx → EReal) : Args where
  uv n h i j := uv (ix5 n 0 h i j)
  wk n h i j := wk (ix5 n 0 h i j)
  qd n h i j := qd (ix5 n 0 h i j)
  att n h i j := att (ix5 n 0 h i j)
  ke n h i j := ke (ix5 n 0 h i j)
  g n h := g (ix3 n 0 h)

variable (X : Args) (n : Fin 32) (h : Fin 4) (S : Fin 128 → Fin 128 → EReal)

/-- The update. -/
def u (i : Fin 64) (j : Fin 128) : EReal := X.uv n h i j - ∑ k : Fin 128, X.wk n h i k * S k j

/-- The output. -/
def o (i : Fin 64) (j : Fin 128) : EReal := ∑ k : Fin 128, X.qd n h i k * S k j + ∑ l : Fin 64, X.att n h i l * u X n h S l j

/-- The state after the chunk. -/
def next (k j : Fin 128) : EReal := Ideal.exp (X.g n h) * S k j + ∑ i : Fin 64, X.ke n h i k * u X n h S i j

/-- The chunk that step `s` takes. -/
def at_ (s : ℕ) : Fin 32 := ⟨s % 32, Nat.mod_lt _ (by decide)⟩

/-- The state after `s` steps. -/
def state : ℕ → Scan.Grad
  | 0 => fun _ _ _ => 0
  | s + 1 => fun h => next X (at_ s) h (state s h)

/-! ## The arrays that the call leaves -/

def outO := Scan.tokens fun n h => o X n h (state X n h)
def outU := Scan.tokens fun n h => u X n h (state X n h)

/-- The states before the chunks, one below the other. -/
def outS : (⟨2, ![16384, 128]⟩ : Shape).Idx → EReal := fun y =>
  state X ((y 0).val / 512) ⟨(y 0).val / 128 % 4, by omega⟩ ⟨(y 0).val % 128, by omega⟩ (y 1)

end Forward
-- ==== Proof.StateChunk.lean ====
module

public import proofs.«01_k».proof.Proof.Gen.Kernel13Ideal.Value
public import proofs.«01_k».proof.Proof.ScanPoint
public import proofs.«01_k».proof.Proof.StateSpec

@[expose] public section

set_option maxRecDepth 16384

/-!
# The scan's forward call, chunk by chunk

A grid point takes eight chunks, the first one first. The state goes from chunk to chunk through the scratch. What a chunk computes is
said once, from the blocks of the point, the chunk's number and the state before it.
-/

noncomputable section

namespace Cert.Kernel13Ideal.Forward

open Cert.Kernel13Ideal Cert.Kernel13Ideal.Gen Idealize.ShloMosaic Idealize.ShloMosaic.TcCoe
open Cert.Kernel3Ideal.Scan (slab wide square tiles rows row col tok sum_row sum_col sum_own)

/-- The blocks that a grid point reads, as far as its output, its updates and its states depend on them. -/
structure Blocks where
  uv : Vec Ideal S512x512 .f32
  a : Vec Ideal S2048x256 .f32
  wk : Vec Ideal S2048x512 .bf16
  qd : Vec Ideal S2048x512 .bf16
  ke : Vec Ideal S2048x512 .bf16
  g : Vec Ideal S512x512 .f32

/-- The four heads of chunk `q` of a block, one below the other. -/
def heads (x : Vec Ideal S512x512 .f32) (q : Fin 8) : Vec Ideal S256x128 .f32 :=
  k0_pay3 (slab x (64 * q.val) 0 (by intro a; fin_cases a <;> simp <;> omega)) (slab x (64 * q.val) 128 (by intro a; fin_cases a <;> simp <;> omega))
    (slab x (64 * q.val) 256 (by intro a; fin_cases a <;> simp <;> omega)) (slab x (64 * q.val) 384 (by intro a; fin_cases a <;> simp <;> omega))

variable (B : Blocks) (q : Fin 8) (S : Vec Ideal S512x128 .f32)

def att : Vec Ideal S256x256 .f32 := square B.a (256 * q.val) (by intro a; fin_cases a <;> simp <;> omega)
def wk : Vec Ideal S256x512 .bf16 := wide B.wk (256 * q.val) (by intro a; fin_cases a <;> simp <;> omega)
def qd : Vec Ideal S256x512 .bf16 := wide B.qd (256 * q.val) (by intro a; fin_cases a <;> simp <;> omega)
def ke : Vec Ideal S256x512 .bf16 := wide B.ke (256 * q.val) (by intro a; fin_cases a <;> simp <;> omega)

/-- The update, the output and the state after the chunk. -/
def u : FVec Ideal S256x128 .f32 := k0_pay6 S (heads B.uv q) (wk B q)
def o : FVec Ideal S256x128 .f32 := k0_pay7 S (heads B.uv q) (wk B q) (qd B q) (att B q)
def next : FVec Ideal S512x128 .f32 := k0_pay8 S (heads B.uv q) (heads B.g q) (wk B q) (ke B q)

/-- The state after `k` chunks of the point. -/
def carried (S : Vec Ideal S512x128 .f32) : ℕ → Vec Ideal S512x128 .f32
  | 0 => S
  | k + 1 => next B ⟨k % 8, Nat.mod_lt _ (by decide)⟩ (carried S k)

def blocks (m : (ℓ : Loc nD τ sig) → Buf (Elt Ideal) ℓ) (c : Dev nD) (t : Fin cfg0.N) : Blocks :=
  ⟨iblk m c 0 t, iblk m c 1 t, iblk m c 2 t, iblk m c 3 t, iblk m c 4 t, iblk m c 5 t⟩

/-! ## Eight states, one below the other -/

def stacked (P : Fin 8 → Vec Ideal S512x128 .f32) : Vec Ideal S4096x128 .f32 := fun y =>
  P ⟨(y 0).val / 512, by have : (y 0).val < 4096 := (y 0).isLt; omega⟩ (ix2 (n0 := 512) (n1 := 128) ⟨(y 0).val % 512, by omega⟩ (y 1))

theorem piece (P : Fin 8 → Vec Ideal S512x128 .f32) {r : ℕ} {hb : ∀ a : Fin 2, ![r, 0] a + S512x128.size a ≤ S4096x128.size a}
    (hr : r % 512 = 0) {w : Vec Ideal S512x128 .f32} (hq : r / 512 < 8) (hw : w = P ⟨r / 512, hq⟩) (x : S512x128.Idx) :
    w x = stacked P ((Rect.unit (s := S4096x128) ![r, 0] ![512, 128] hb).emb x) := by
  have x0 : (x 0).val < 512 := (x 0).isLt
  have e0 : (((Rect.unit (s := S4096x128) ![r, 0] ![512, 128] hb).emb x) 0).val = r + (x 0).val := by simp [Rect.emb, Rect.unit]
  have e1 : (((Rect.unit (s := S4096x128) ![r, 0] ![512, 128] hb).emb x) 1).val = (x 1).val := by simp [Rect.emb, Rect.unit]
  subst hw
  unfold stacked
  have q : (⟨r / 512, hq⟩ : Fin 8) = ⟨(((Rect.unit (s := S4096x128) ![r, 0] ![512, 128] hb).emb x) 0).val / 512, by rw [e0]; omega⟩ :=
    Fin.ext (by simp only [e0]; omega)
  rw [q]
  refine congrArg _ (funext fun a => Fin.ext ?_)
  fin_cases a
  · simp [e0]; omega
  · simp [e1]

/-! ## The entries of a chunk's arrays -/

theorem heads_apply (x : Vec Ideal S512x512 .f32) (q : Fin 8) (h : Fin 4) (i : Fin 64) (j : Fin 128) :
    heads x q (ix2 (row h i) j) = x (ix2 (tok q i) (col h j)) := by
  refine .trans ?_ (Kernel3Ideal.Scan.heads_apply x q h i j)
  unfold heads k0_pay3
  simp only [shapeCast_self]
  rfl

/-- The blocks hold the eight chunks from chunk `s` on. -/
structure Holds (X : _root_.Forward.Args) (s : ℕ) (B : Blocks) : Prop where
  uv : ∀ q h i j, B.uv (ix2 (tok q i) (col h j)) = X.uv (_root_.Forward.at_ (s + q.val)) h i j
  g : ∀ q h i j, B.g (ix2 (tok q i) (col h j)) = X.g (_root_.Forward.at_ (s + q.val)) h
  a : ∀ q h i h' l, B.a (ix2 (Kernel3Ideal.Scan.long q (row h i)) (row h' l)) = if h = h' then X.att (_root_.Forward.at_ (s + q.val)) h i l else 0
  wk : ∀ q h i h' e, B.wk (ix2 (Kernel3Ideal.Scan.long q (row h i)) (col h' e)) = if h = h' then X.wk (_root_.Forward.at_ (s + q.val)) h i e else 0
  qd : ∀ q h i h' e, B.qd (ix2 (Kernel3Ideal.Scan.long q (row h i)) (col h' e)) = if h = h' then X.qd (_root_.Forward.at_ (s + q.val)) h i e else 0
  ke : ∀ q h i h' e, B.ke (ix2 (Kernel3Ideal.Scan.long q (row h i)) (col h' e)) = if h = h' then X.ke (_root_.Forward.at_ (s + q.val)) h i e else 0

variable {X : _root_.Forward.Args} {s : ℕ} {B} (H : Holds X s B) (h : Fin 4) {E : _root_.Scan.Grad} {S}
  (hS : ∀ h e j, S (ix2 (col h e) j) = E h e j)
include H hS

theorem at_u (i : Fin 64) (j : Fin 128) : u B q S (ix2 (row h i) j) = _root_.Forward.u X (_root_.Forward.at_ (s + q.val)) h (E h) i j := by
  have hw (h' : Fin 4) (e : Fin 128) : wk B q (ix2 (row h i) (col h' e)) = _ := (Kernel3Ideal.Scan.wide_apply ..).trans (H.wk ..)
  unfold u
  pointwise [k0_pay6]
  rw [sum_col, sum_own h _ fun h' hn => ?_, heads_apply, H.uv]
  · simp only [hw, hS, if_pos]
    rfl
  · exact Finset.sum_eq_zero fun e _ => by rw [hw, if_neg (Ne.symm hn), zero_mul]

theorem at_o (i : Fin 64) (j : Fin 128) : o B q S (ix2 (row h i) j) = _root_.Forward.o X (_root_.Forward.at_ (s + q.val)) h (E h) i j := by
  have hq (h' : Fin 4) (e : Fin 128) : qd B q (ix2 (row h i) (col h' e)) = _ := (Kernel3Ideal.Scan.wide_apply ..).trans (H.qd ..)
  have ha (h' : Fin 4) (l : Fin 64) : att B q (ix2 (row h i) (row h' l)) = _ := (Kernel3Ideal.Scan.square_apply ..).trans (H.a ..)
  have hu := at_u (q := q) H h hS
  unfold u at hu
  unfold o k0_pay7
  generalize k0_pay6 S (heads B.uv q) (wk B q) = U at hu
  pointwise
  rw [sum_col, sum_row, sum_own h _ fun h' hn => ?_, sum_own h _ fun h' hn => ?_]
  · simp only [hq, ha, hu, hS, if_pos]
    rfl
  · exact Finset.sum_eq_zero fun e _ => by rw [ha, if_neg (Ne.symm hn), zero_mul]
  · exact Finset.sum_eq_zero fun e _ => by rw [hq, if_neg (Ne.symm hn), zero_mul]

theorem at_next (e j : Fin 128) : next B q S (ix2 (col h e) j) = _root_.Forward.next X (_root_.Forward.at_ (s + q.val)) h (E h) e j := by
  have hk (h' : Fin 4) (i : Fin 64) : ke B q (ix2 (row h' i) (col h e)) = _ := (Kernel3Ideal.Scan.wide_apply ..).trans (H.ke ..)
  have hg : Kernel3Ideal.Gen.k0_pay24 (F := Ideal) (heads B.g q) (ix2 (col h e) j) = Ideal.exp (X.g (_root_.Forward.at_ (s + q.val)) h) :=
    (Kernel3Ideal.Scan.decay_apply _ h e j).trans (congrArg _ ((heads_apply ..).trans (H.g ..)))
  have hu := at_u (q := q) H h hS
  have split : next B q S = addf (mulf (Kernel3Ideal.Gen.k0_pay24 (F := Ideal) (heads B.g q)) S)
      (matmul (φ₁ := .bf16) (φ₂ := .bf16) dot_S256x512_S256x128_S512x128_0_0_1_1_n_n none (ke B q) (truncf .bf16 (u B q S) bitsLt_bf16_f32) (constant S512x128 .f32 0x00000000#32)) := by
    unfold next k0_pay8
    simp only [shapeCast_self]
    rfl
  rw [split]
  generalize Kernel3Ideal.Gen.k0_pay24 (F := Ideal) (heads B.g q) = G at hg
  generalize u B q S = U at hu
  pointwise
  rw [sum_row, sum_own h _ fun h' hn => ?_]
  · simp only [hk, hu, hg, hS, if_pos]
    rfl
  · exact Finset.sum_eq_zero fun i _ => by rw [hk, if_neg hn, zero_mul]

omit hS in
/-- From the state before the point, the state after each of its chunks. -/
theorem at_carried (hS : ∀ h e j, S (ix2 (col h e) j) = _root_.Forward.state X s h e j) (k : ℕ) (hk : k ≤ 8) :
    ∀ h e j, carried B S k (ix2 (col h e) j) = _root_.Forward.state X (s + k) h e j := by
  induction k with
  | zero => exact hS
  | succ k ih =>
    intro h e j
    refine (at_next _ H h (ih (by omega)) e j).trans ?_
    show _root_.Forward.next X (_root_.Forward.at_ (s + k % 8)) h _ e j = _root_.Forward.next X (_root_.Forward.at_ (s + k)) h _ e j
    rw [Nat.mod_eq_of_lt (by omega : k < 8)]
    rfl

end Cert.Kernel13Ideal.Forward
-- ==== Proof.StateBlocks.lean ====
module

public import proofs.«01_k».proof.Proof.ScanBlocks
public import proofs.«01_k».proof.Proof.StateChunk

@[expose] public section

set_option maxRecDepth 16384

/-!
# The blocks that a grid point of the scan's forward call reads
-/

noncomputable section

namespace Cert.Kernel13Ideal.Forward

open Cert.Kernel13Ideal Cert.Kernel13Ideal.Gen Idealize.ShloMosaic Idealize.ShloMosaic.TcCoe
open Cert.Kernel3Ideal.Scan (row col tok long own lead digit last across along)
open _root_.Forward (at_)

variable (m : (ℓ : Loc nD τ sig) → Buf (Elt Ideal) ℓ)

/-- The call's arguments. -/
def args (c : Dev nD) : _root_.Forward.Args :=
  _root_.Forward.ofArrays (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

variable (c : Dev nD) (n : Fin 32) (h : Fin 4)

theorem V44 (i : Fin 64) (j : Fin 128) :
    V m c main_v44 (ix2 ⟨64 * n.val + i.val, by omega⟩ ⟨128 * h.val + j.val, by omega⟩) = (args m c).uv n h i j := by
  simp only [V, hostOps0, hostOps0_1, hostOps0_2, hostOps0_3, hostOps0_4, hostOps0_5, hostOps0_6, hostOps0_7, hostOps0_8,
    List.flatten_cons, List.flatten_nil, List.append_nil, List.cons_append, List.nil_append]
  entry_read
  pointwise
  rfl

theorem V42 (i : Fin 64) (j : Fin 128) :
    V m c main_v42 (ix2 ⟨64 * n.val + i.val, by omega⟩ ⟨128 * h.val + j.val, by omega⟩) = (args m c).g n h := by
  simp only [V, hostOps0, hostOps0_1, hostOps0_2, hostOps0_3, hostOps0_4, hostOps0_5, hostOps0_6, hostOps0_7, hostOps0_8,
    List.flatten_cons, List.flatten_nil, List.append_nil, List.cons_append, List.nil_append]
  entry_read
  pointwise
  rfl

theorem V9 (i : Fin 64) (h' : Fin 4) (l : Fin 64) :
    V m c main_v9 (ix2 ⟨256 * n.val + (64 * h.val + i.val), by omega⟩ ⟨64 * h'.val + l.val, by omega⟩)
      = if h = h' then (args m c).att n h i l else 0 := by
  simp only [V, hostOps0, hostOps0_1, hostOps0_2, hostOps0_3, hostOps0_4, hostOps0_5, hostOps0_6, hostOps0_7, hostOps0_8,
    List.flatten_cons, List.flatten_nil, List.append_nil, List.cons_append, List.nil_append]
  entry_read
  simp only [StableHlo.TRef.ofBuf, StableHlo.TRef.toBuf, StableHlo.TRef.of, cast_eq]
  pointwise
  exact own ..

theorem V45 (i : Fin 64) (h' : Fin 4) (e : Fin 128) :
    V m c main_v45 (ix2 ⟨256 * n.val + (64 * h.val + i.val), by omega⟩ ⟨128 * h'.val + e.val, by omega⟩)
      = if h = h' then (args m c).wk n h i e else 0 := by
  simp only [V, hostOps0, hostOps0_1, hostOps0_2, hostOps0_3, hostOps0_4, hostOps0_5, hostOps0_6, hostOps0_7, hostOps0_8,
    List.flatten_cons, List.flatten_nil, List.append_nil, List.cons_append, List.nil_append]
  entry_read
  simp only [StableHlo.TRef.ofBuf, StableHlo.TRef.toBuf, StableHlo.TRef.of, cast_eq]
  pointwise
  refine Eq.trans ?_ (own ..)
  simp only [lead, digit, last, across, along]
  rfl

theorem V46 (i : Fin 64) (h' : Fin 4) (e : Fin 128) :
    V m c main_v46 (ix2 ⟨256 * n.val + (64 * h.val + i.val), by omega⟩ ⟨128 * h'.val + e.val, by omega⟩)
      = if h = h' then (args m c).qd n h i e else 0 := by
  simp only [V, hostOps0, hostOps0_1, hostOps0_2, hostOps0_3, hostOps0_4, hostOps0_5, hostOps0_6, hostOps0_7, hostOps0_8,
    List.flatten_cons, List.flatten_nil, List.append_nil, List.cons_append, List.nil_append]
  entry_read
  simp only [StableHlo.TRef.ofBuf, StableHlo.TRef.toBuf, StableHlo.TRef.of, cast_eq]
  pointwise
  refine Eq.trans ?_ (own ..)
  simp only [lead, digit, last, across, along]
  rfl

theorem V47 (i : Fin 64) (h' : Fin 4) (e : Fin 128) :
    V m c main_v47 (ix2 ⟨256 * n.val + (64 * h.val + i.val), by omega⟩ ⟨128 * h'.val + e.val, by omega⟩)
      = if h = h' then (args m c).ke n h i e else 0 := by
  simp only [V, hostOps0, hostOps0_1, hostOps0_2, hostOps0_3, hostOps0_4, hostOps0_5, hostOps0_6, hostOps0_7, hostOps0_8,
    List.flatten_cons, List.flatten_nil, List.append_nil, List.cons_append, List.nil_append]
  entry_read
  simp only [StableHlo.TRef.ofBuf, StableHlo.TRef.toBuf, StableHlo.TRef.of, cast_eq]
  pointwise
  refine Eq.trans ?_ (own ..)
  simp only [lead, digit, last, across, along]
  rfl

/-- Where each window's block lies, in blocks. -/
theorem place : ∀ t : Fin grid0.N,
    win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_8.index t = ![t.val, 0] ∧ win0_9.index t = ![t.val, 0]
    ∧ win0_10.index t = ![t.val, 0] := by
  decide +kernel

set_option maxHeartbeats 4000000 in
/-- Point `t` reads the eight chunks from chunk `8 * t` on. -/
theorem holds (t : Fin cfg0.N) : Holds (args m c) (8 * t.val) (blocks m c t) := by
  have hN : t.val < 4 := t.isLt
  obtain ⟨p0, p1, p2, p3, p4, p5, -⟩ := place t
  constructor
  · intro q h i j
    show iblk m c 0 t (ix2 (tok q i) (col h j)) = _
    refine .trans ?_ (V44 m c (at_ (8 * t.val + q.val)) h i j)
    blk_ext [iblk, p0, tok, col, at_]
  · intro q h i j
    show iblk m c 5 t (ix2 (tok q i) (col h j)) = _
    refine .trans ?_ (V42 m c (at_ (8 * t.val + q.val)) h i j)
    blk_ext [iblk, p5, tok, col, at_]
  · intro q h i h' l
    show iblk m c 1 t (ix2 (long q (row h i)) (row h' l)) = _
    refine .trans ?_ (V9 m c (at_ (8 * t.val + q.val)) h i h' l)
    blk_ext [iblk, p1, long, row, at_]
  · intro q h i h' e
    show iblk m c 2 t (ix2 (long q (row h i)) (col h' e)) = _
    refine .trans ?_ (V45 m c (at_ (8 * t.val + q.val)) h i h' e)
    blk_ext [iblk, p2, long, row, col, at_]
  · intro q h i h' e
    show iblk m c 3 t (ix2 (long q (row h i)) (col h' e)) = _
    refine .trans ?_ (V46 m c (at_ (8 * t.val + q.val)) h i h' e)
    blk_ext [iblk, p3, long, row, col, at_]
  · intro q h i h' e
    show iblk m c 4 t (ix2 (long q (row h i)) (col h' e)) = _
    refine .trans ?_ (V47 m c (at_ (8 * t.val + q.val)) h i h' e)
    blk_ext [iblk, p4, long, row, col, at_]

end Cert.Kernel13Ideal.Forward
-- ==== Proof.StatePointA.lean ====
module

public import proofs.«01_k».proof.Proof.StateChunk

@[expose] public section

set_option maxRecDepth 16384

/-!
# What a grid point that starts from the empty state leaves in its blocks and in the scratch
-/

noncomputable section

namespace Cert.Kernel13Ideal.Forward

open Cert.Kernel13Ideal Cert.Kernel13Ideal.Gen Idealize.ShloMosaic Idealize.ShloMosaic.TcCoe
open Cert.Kernel3Ideal.Scan (slab wide square tiles tile slab_eq wide_eq square_eq)

variable (m : (ℓ : Loc nD τ sig) → Buf (Elt Ideal) ℓ)

attribute [local irreducible] slab wide square

section
variable (c : Dev nD) (t : Fin cfg0.N) (h0 : t.val % 4 = 0)
include h0

set_option maxHeartbeats 20000000 in
theorem first_o (y) : (outsAt0 m c t.val t.isLt).1 y = tiles (fun q => o (blocks m c t) q (carried (blocks m c t) (k0_pay2 (F := Ideal)) q.val)) y := by
  rw [outsAt0_A m c t h0]
  dsimp only
  unfold out0_A_8
  refine View.read_writes_apply_of_pieces (Val := Elt Ideal) _ _ _ _ ?_ y (by exact cover0_A_8 (F := Ideal) (y := y) ..)
  frame_open
  simp (disch := decide) only [↓ View.readCov_skip, ↓ View.readCov_cons_toLoadRect, ↓ View.readCov_fill]
  simp (disch := decide) only [View.ld_unit_lit', View.readCov_unit_lit', View.readCov_cons_unit_lit', View.readAt_eq_ld, Memref.IsWhole.read_unread, read_unread_whole]
  simp only [Memref.IsWhole.read_unread, read_unread_whole, slab_eq, wide_eq, square_eq]
  unfold blocks
  generalize iblk m c 0 t = x0, iblk m c 1 t = x1, iblk m c 2 t = x2, iblk m c 3 t = x3, iblk m c 4 t = x4, iblk m c 5 t = x5
  generalize k0_pay2 (F := Ideal) = D
  repeat refine List.forall_mem_cons.mpr ⟨tile _ (hb := by decide) (by decide) (by decide) (by decide) rfl, ?_⟩
  exact fun p hp => absurd hp List.not_mem_nil

set_option maxHeartbeats 20000000 in
theorem first_u (y) : (outsAt0 m c t.val t.isLt).2.1 y = tiles (fun q => u (blocks m c t) q (carried (blocks m c t) (k0_pay2 (F := Ideal)) q.val)) y := by
  rw [outsAt0_A m c t h0]
  dsimp only
  unfold out0_A_9
  refine View.read_writes_apply_of_pieces (Val := Elt Ideal) _ _ _ _ ?_ y (by exact cover0_A_9 (F := Ideal) (y := y) ..)
  frame_open
  simp (disch := decide) only [↓ View.readCov_skip, ↓ View.readCov_cons_toLoadRect, ↓ View.readCov_fill]
  simp (disch := decide) only [View.ld_unit_lit', View.readCov_unit_lit', View.readCov_cons_unit_lit', View.readAt_eq_ld, Memref.IsWhole.read_unread, read_unread_whole]
  simp only [Memref.IsWhole.read_unread, read_unread_whole, slab_eq, wide_eq, square_eq]
  unfold blocks
  generalize iblk m c 0 t = x0, iblk m c 1 t = x1, iblk m c 2 t = x2, iblk m c 3 t = x3, iblk m c 4 t = x4, iblk m c 5 t = x5
  generalize k0_pay2 (F := Ideal) = D
  repeat refine List.forall_mem_cons.mpr ⟨tile _ (hb := by decide) (by decide) (by decide) (by decide) rfl, ?_⟩
  exact fun p hp => absurd hp List.not_mem_nil

set_option maxHeartbeats 20000000 in
theorem first_s (y) : (outsAt0 m c t.val t.isLt).2.2.1 y = stacked (fun q => carried (blocks m c t) (k0_pay2 (F := Ideal)) q.val) y := by
  rw [outsAt0_A m c t h0]
  dsimp only
  unfold out0_A_10
  refine View.read_writes_apply_of_pieces (Val := Elt Ideal) _ _ _ _ ?_ y (by exact cover0_A_10 (F := Ideal) (y := y) ..)
  frame_open
  simp (disch := decide) only [↓ View.readCov_skip, ↓ View.readCov_cons_toLoadRect, ↓ View.readCov_fill]
  simp (disch := decide) only [View.ld_unit_lit', View.readCov_unit_lit', View.readCov_cons_unit_lit', View.readAt_eq_ld, Memref.IsWhole.read_unread, read_unread_whole]
  simp only [Memref.IsWhole.read_unread, read_unread_whole, slab_eq, wide_eq, square_eq]
  unfold blocks
  generalize iblk m c 0 t = x0, iblk m c 1 t = x1, iblk m c 2 t = x2, iblk m c 3 t = x3, iblk m c 4 t = x4, iblk m c 5 t = x5
  generalize k0_pay2 (F := Ideal) = D
  repeat refine List.forall_mem_cons.mpr ⟨piece _ (hb := by decide) (by decide) (by decide) rfl, ?_⟩
  exact fun p hp => absurd hp List.not_mem_nil

set_option maxHeartbeats 20000000 in
theorem first_scratch (y : S512x128.Idx) : (outsAt0 m c t.val t.isLt).2.2.2.2 y = carried (blocks m c t) (k0_pay2 (F := Ideal)) 8 y := by
  rw [outsAt0_A m c t h0]
  dsimp only
  frame_open
  simp (disch := decide) only [↓ View.readCov_skip, ↓ View.readCov_cons_toLoadRect, ↓ View.readCov_fill]
  frame_out
  simp only [Memref.IsWhole.read_unread, read_unread_whole, slab_eq, wide_eq, square_eq]
  unfold blocks
  generalize iblk m c 0 t = x0, iblk m c 1 t = x1, iblk m c 2 t = x2, iblk m c 3 t = x3, iblk m c 4 t = x4, iblk m c 5 t = x5
  generalize k0_pay2 (F := Ideal) = D
  refine congrFun (g := carried ⟨x0, x1, x2, x3, x4, x5⟩ D 8) ?_ y
  rfl

end

end Cert.Kernel13Ideal.Forward
-- ==== Proof.StatePointB.lean ====
module

public import proofs.«01_k».proof.Proof.StateChunk

@[expose] public section

set_option maxRecDepth 16384

/-!
# What a grid point after the first leaves in its blocks and in the scratch
-/

noncomputable section

namespace Cert.Kernel13Ideal.Forward

open Cert.Kernel13Ideal Cert.Kernel13Ideal.Gen Idealize.ShloMosaic Idealize.ShloMosaic.TcCoe
open Cert.Kernel3Ideal.Scan (slab wide square tiles tile slab_eq wide_eq square_eq)

variable (m : (ℓ : Loc nD τ sig) → Buf (Elt Ideal) ℓ)

attribute [local irreducible] slab wide square

set_option maxHeartbeats 20000000 in
theorem later_o (c : Dev nD) (t : Fin cfg0.N) (h0 : ¬ t.val % 4 = 0) (D : Vec Ideal S512x128 .f32)
    (hD : (outsAt0 m c (t.val - 1) (by omega)).2.2.2.2 = D) (y) :
    (outsAt0 m c t.val t.isLt).1 y = tiles (fun q => o (blocks m c t) q (carried (blocks m c t) D q.val)) y := by
  rw [outsAt0_B m c t h0]
  dsimp only
  rw [hD]
  unfold out0_B_8
  refine View.read_writes_apply_of_pieces (Val := Elt Ideal) _ _ _ _ ?_ y (by exact cover0_B_8 (F := Ideal) (y := y) ..)
  frame_open
  simp (disch := decide) only [↓ View.readCov_skip, ↓ View.readCov_cons_toLoadRect, ↓ View.readCov_fill]
  simp (disch := decide) only [View.ld_unit_lit', View.readCov_unit_lit', View.readCov_cons_unit_lit', View.readAt_eq_ld, Memref.IsWhole.read_unread, read_unread_whole]
  simp only [Memref.IsWhole.read_unread, read_unread_whole, slab_eq, wide_eq, square_eq]
  unfold blocks
  generalize iblk m c 0 t = x0, iblk m c 1 t = x1, iblk m c 2 t = x2, iblk m c 3 t = x3, iblk m c 4 t = x4, iblk m c 5 t = x5
  repeat refine List.forall_mem_cons.mpr ⟨tile _ (hb := by decide) (by decide) (by decide) (by decide) rfl, ?_⟩
  exact fun p hp => absurd hp List.not_mem_nil

set_option maxHeartbeats 20000000 in
theorem later_u (c : Dev nD) (t : Fin cfg0.N) (h0 : ¬ t.val % 4 = 0) (D : Vec Ideal S512x128 .f32)
    (hD : (outsAt0 m c (t.val - 1) (by omega)).2.2.2.2 = D) (y) :
    (outsAt0 m c t.val t.isLt).2.1 y = tiles (fun q => u (blocks m c t) q (carried (blocks m c t) D q.val)) y := by
  rw [outsAt0_B m c t h0]
  dsimp only
  rw [hD]
  unfold out0_B_9
  refine View.read_writes_apply_of_pieces (Val := Elt Ideal) _ _ _ _ ?_ y (by exact cover0_B_9 (F := Ideal) (y := y) ..)
  frame_open
  simp (disch := decide) only [↓ View.readCov_skip, ↓ View.readCov_cons_toLoadRect, ↓ View.readCov_fill]
  simp (disch := decide) only [View.ld_unit_lit', View.readCov_unit_lit', View.readCov_cons_unit_lit', View.readAt_eq_ld, Memref.IsWhole.read_unread, read_unread_whole]
  simp only [Memref.IsWhole.read_unread, read_unread_whole, slab_eq, wide_eq, square_eq]
  unfold blocks
  generalize iblk m c 0 t = x0, iblk m c 1 t = x1, iblk m c 2 t = x2, iblk m c 3 t = x3, iblk m c 4 t = x4, iblk m c 5 t = x5
  repeat refine List.forall_mem_cons.mpr ⟨tile _ (hb := by decide) (by decide) (by decide) (by decide) rfl, ?_⟩
  exact fun p hp => absurd hp List.not_mem_nil

set_option maxHeartbeats 20000000 in
theorem later_s (c : Dev nD) (t : Fin cfg0.N) (h0 : ¬ t.val % 4 = 0) (D : Vec Ideal S512x128 .f32)
    (hD : (outsAt0 m c (t.val - 1) (by omega)).2.2.2.2 = D) (y) :
    (outsAt0 m c t.val t.isLt).2.2.1 y = stacked (fun q => carried (blocks m c t) D q.val) y := by
  rw [outsAt0_B m c t h0]
  dsimp only
  rw [hD]
  unfold out0_B_10
  refine View.read_writes_apply_of_pieces (Val := Elt Ideal) _ _ _ _ ?_ y (by exact cover0_B_10 (F := Ideal) (y := y) ..)
  frame_open
  simp (disch := decide) only [↓ View.readCov_skip, ↓ View.readCov_cons_toLoadRect, ↓ View.readCov_fill]
  simp (disch := decide) only [View.ld_unit_lit', View.readCov_unit_lit', View.readCov_cons_unit_lit', View.readAt_eq_ld, Memref.IsWhole.read_unread, read_unread_whole]
  simp only [Memref.IsWhole.read_unread, read_unread_whole, slab_eq, wide_eq, square_eq]
  unfold blocks
  generalize iblk m c 0 t = x0, iblk m c 1 t = x1, iblk m c 2 t = x2, iblk m c 3 t = x3, iblk m c 4 t = x4, iblk m c 5 t = x5
  repeat refine List.forall_mem_cons.mpr ⟨piece _ (hb := by decide) (by decide) (by decide) rfl, ?_⟩
  exact fun p hp => absurd hp List.not_mem_nil

set_option maxHeartbeats 20000000 in
theorem later_scratch (c : Dev nD) (t : Fin cfg0.N) (h0 : ¬ t.val % 4 = 0) (D : Vec Ideal S512x128 .f32)
    (hD : (outsAt0 m c (t.val - 1) (by omega)).2.2.2.2 = D) (y : S512x128.Idx) :
    (outsAt0 m c t.val t.isLt).2.2.2.2 y = carried (blocks m c t) D 8 y := by
  rw [outsAt0_B m c t h0]
  dsimp only
  rw [hD]
  frame_open
  simp (disch := decide) only [↓ View.readCov_skip, ↓ View.readCov_cons_toLoadRect, ↓ View.readCov_fill]
  frame_out
  simp only [Memref.IsWhole.read_unread, read_unread_whole, slab_eq, wide_eq, square_eq]
  unfold blocks
  generalize iblk m c 0 t = x0, iblk m c 1 t = x1, iblk m c 2 t = x2, iblk m c 3 t = x3, iblk m c 4 t = x4, iblk m c 5 t = x5
  refine congrFun (g := carried ⟨x0, x1, x2, x3, x4, x5⟩ D 8) ?_ y
  rfl

end Cert.Kernel13Ideal.Forward
-- ==== Proof.StateFinal.lean ====
module

public import proofs.«01_k».proof.Proof.StateBlocks
public import proofs.«01_k».proof.Proof.StatePointA
public import proofs.«01_k».proof.Proof.StatePointB

@[expose] public section

set_option maxRecDepth 16384

/-!
# What the scan's forward call leaves
-/

noncomputable section

namespace Cert.Kernel13Ideal.Forward

open Cert.Kernel13Ideal Cert.Kernel13Ideal.Gen Idealize.ShloMosaic Idealize.ShloMosaic.TcCoe
open Cert.Kernel3Ideal.Scan (tiles row col)
open _root_.Forward (at_ state outO outU outS)

variable (m : (ℓ : Loc nD τ sig) → Buf (Elt Ideal) ℓ) (c : Dev nD)

/-! ## From point to point -/

/-- The state that a point starts from. -/
def start (t : Fin cfg0.N) : Vec Ideal S512x128 .f32 :=
  if t.val % 4 = 0 then k0_pay2 (F := Ideal) else (outsAt0 m c (t.val - 1) (by omega)).2.2.2.2

theorem start_first {t : Fin cfg0.N} (h0 : t.val % 4 = 0) : start m c t = k0_pay2 (F := Ideal) := if_pos h0
theorem start_later {t : Fin cfg0.N} (h0 : ¬ t.val % 4 = 0) : (outsAt0 m c (t.val - 1) (by omega)).2.2.2.2 = start m c t := (if_neg h0).symm

section
variable (t : Fin cfg0.N)

theorem point_o (y) : (outsAt0 m c t.val t.isLt).1 y = tiles (fun q => o (blocks m c t) q (carried (blocks m c t) (start m c t) q.val)) y := by
  by_cases h0 : t.val % 4 = 0
  · rw [first_o m c t h0, start_first m c h0]
  · exact later_o m c t h0 _ (start_later m c h0) y

theorem point_u (y) : (outsAt0 m c t.val t.isLt).2.1 y = tiles (fun q => u (blocks m c t) q (carried (blocks m c t) (start m c t) q.val)) y := by
  by_cases h0 : t.val % 4 = 0
  · rw [first_u m c t h0, start_first m c h0]
  · exact later_u m c t h0 _ (start_later m c h0) y

theorem point_s (y) : (outsAt0 m c t.val t.isLt).2.2.1 y = stacked (fun q => carried (blocks m c t) (start m c t) q.val) y := by
  by_cases h0 : t.val % 4 = 0
  · rw [first_s m c t h0, start_first m c h0]
  · exact later_s m c t h0 _ (start_later m c h0) y

theorem point_scratch (y) : (outsAt0 m c t.val t.isLt).2.2.2.2 y = carried (blocks m c t) (start m c t) 8 y := by
  by_cases h0 : t.val % 4 = 0
  · rw [first_scratch m c t h0, start_first m c h0]
  · exact later_scratch m c t h0 _ (start_later m c h0) y

end

theorem points (t : Fin cfg0.N) : t.val < 4 := t.isLt

theorem started (k : ℕ) : ∀ (hk : k < cfg0.N) (h : Fin 4) (e j : Fin 128),
    start m c ⟨k, hk⟩ (ix2 (col h e) j) = state (args m c) (8 * k) h e j := by
  induction k with
  | zero =>
    intro hk h e j
    rw [start_first m c rfl]
    unfold k0_pay2
    pointwise
    rfl
  | succ k ih =>
    intro hk h e j
    have h4 := points ⟨k + 1, hk⟩
    rw [← start_later m c (by show ¬ (k + 1) % 4 = 0; simp at h4; omega)]
    refine (point_scratch m c ⟨k, by omega⟩ _).trans ?_
    exact at_carried (holds m c ⟨k, by omega⟩) (ih (by omega)) 8 le_rfl h e j

/-! ## From a point's blocks to the whole arrays -/

section
variable (t : Fin cfg0.N)

/-- The state before each of the point's chunks. -/
theorem before (q : Fin 8) (h : Fin 4) (e j : Fin 128) :
    carried (blocks m c t) (start m c t) q.val (ix2 (col h e) j) = state (args m c) (8 * t.val + q.val) h e j :=
  at_carried (holds m c t) (started m c t.val t.isLt) q.val (by omega) h e j

theorem before_at (q : Fin 8) (h : Fin 4) (e j : Fin 128) :
    carried (blocks m c t) (start m c t) q.val (ix2 (col h e) j) = state (args m c) (at_ (8 * t.val + q.val)) h e j := by
  have h4 := points t
  refine (before m c t q h e j).trans ?_
  show _ = state (args m c) ((8 * t.val + q.val) % 32) h e j
  rw [Nat.mod_eq_of_lt (by omega)]

theorem tiles_at {P : Fin 8 → Vec Ideal S256x128 .f32} {G : _root_.Scan.Arr 64 128}
    (hP : ∀ q h i j, P q (ix2 (row h i) j) = G (at_ (8 * t.val + q.val)) h i j) (y : S512x512.Idx) :
    tiles P y = _root_.Scan.tokens G
      (ix2 (n1 := 512) ⟨512 * t.val + (y 0).val, by have := points t; have : (y 0).val < 512 := (y 0).isLt; omega⟩ (y 1)) := by
  have h4 := points t
  have h0 : (y 0).val < 512 := (y 0).isLt
  have h1 : (y 1).val < 512 := (y 1).isLt
  refine (hP ⟨(y 0).val / 64, by omega⟩ ⟨(y 1).val / 128, by omega⟩ ⟨(y 0).val % 64, by omega⟩ ⟨(y 1).val % 128, by omega⟩).trans ?_
  unfold _root_.Scan.tokens
  refine congr (congr (congr (congrArg G (Fin.ext ?_)) rfl) (Fin.ext ?_)) rfl
  · show (8 * t.val + (y 0).val / 64) % 32 = (512 * t.val + (y 0).val) / 64
    omega
  · show (y 0).val % 64 = (512 * t.val + (y 0).val) % 64
    omega

theorem stacked_at {P : Fin 8 → Vec Ideal S512x128 .f32} {X : _root_.Forward.Args}
    (hP : ∀ q h e j, P q (ix2 (col h e) j) = state X (8 * t.val + q.val) h e j) (y : S4096x128.Idx) :
    stacked P y = outS X (ix2 (n1 := 128) ⟨4096 * t.val + (y 0).val, by have := points t; have : (y 0).val < 4096 := (y 0).isLt; omega⟩ (y 1)) := by
  have h4 := points t
  have h0 : (y 0).val < 4096 := (y 0).isLt
  have e : (⟨(y 0).val % 512, by omega⟩ : Fin 512) = col ⟨(y 0).val / 128 % 4, by omega⟩ ⟨(y 0).val % 128, by omega⟩ :=
    Fin.ext (by show (y 0).val % 512 = 128 * ((y 0).val / 128 % 4) + (y 0).val % 128; omega)
  unfold stacked
  rw [e]
  refine (hP ..).trans ?_
  unfold outS
  refine congr (congr (congr (congrArg (state X) ?_) (Fin.ext ?_)) (Fin.ext ?_)) rfl
  · show 8 * t.val + (y 0).val / 512 = (4096 * t.val + (y 0).val) / 512
    omega
  · show (y 0).val / 128 % 4 = (4096 * t.val + (y 0).val) / 128 % 4
    omega
  · show (y 0).val % 128 = (4096 * t.val + (y 0).val) % 128
    omega

end

theorem final_o : (dats m 0 c).arrAt 8 cfg0.N = outO (args m c) := by
  refine (dats m 0 c).arrAt_eq_of_covers 8 _ (by decide +kernel) fun t hf y => ?_
  obtain ⟨-, -, -, -, -, -, p, -⟩ := place t
  blk_simp
  rw [after0_8]
  refine (point_o m c t y).trans ((tiles_at t (fun q h => at_o q (holds m c t) h (before_at m c t q)) y).trans (congrArg _ ?_))
  blk_ext [p]

theorem final_u : (dats m 0 c).arrAt 9 cfg0.N = outU (args m c) := by
  refine (dats m 0 c).arrAt_eq_of_covers 9 _ (by decide +kernel) fun t hf y => ?_
  obtain ⟨-, -, -, -, -, -, -, p, -⟩ := place t
  blk_simp
  rw [after0_9]
  refine (point_u m c t y).trans ((tiles_at t (fun q h => at_u q (holds m c t) h (before_at m c t q)) y).trans (congrArg _ ?_))
  blk_ext [p]

theorem final_s : (dats m 0 c).arrAt 10 cfg0.N = outS (args m c) := by
  refine (dats m 0 c).arrAt_eq_of_covers 10 _ (by decide +kernel) fun t hf y => ?_
  obtain ⟨-, -, -, -, -, -, -, -, p⟩ := place t
  blk_simp
  rw [after0_10]
  refine (point_s m c t y).trans ((stacked_at t (before m c t) y).trans (congrArg _ ?_))
  blk_ext [p]

end Cert.Kernel13Ideal.Forward
-- ==== Proof.StateReference.lean ====
module

public import proofs.«01_k».proof.Proof.Gen.Reference13Ideal.Run
public import proofs.«01_k».proof.Proof.ScanLoop
public import proofs.«01_k».proof.Proof.StateSpec

@[expose] public section

set_option maxRecDepth 16384

/-!
# The reference's loop over the chunks

Step `s` takes chunk `s` of the arguments, puts the chunk's output, its update and the state before it into their places, and moves the
state on.
-/

noncomputable section

namespace Cert.Reference13Ideal.Forward

open Cert.Reference13Ideal Cert.Reference13Ideal.Gen Cert.Reference13Ideal.Value Idealize.ShloMosaic Idealize.ShloMosaic.TcCoe
open Cert.Reference3Ideal.Scan (read5 write5 read3 bare_rows bare_square bare_heads bare_state by_token)
open Idealize.ShloMosaic.StableHlo _root_.Forward

/-- The carried buffers after `s` steps. -/
structure Holds (X : Args) (s : ℕ) (V : Valuation τ sig (Elt Ideal)) : Prop where
  uv : ∀ n h i j, V (Proc.devRef .tc main_v4_0) (ix5 n 0 h i j) = X.uv n h i j
  wk : ∀ n h i j, V (Proc.devRef .tc main_v4_1) (ix5 n 0 h i j) = X.wk n h i j
  qd : ∀ n h i j, V (Proc.devRef .tc main_v4_2) (ix5 n 0 h i j) = X.qd n h i j
  att : ∀ n h i j, V (Proc.devRef .tc main_v4_3) (ix5 n 0 h i j) = X.att n h i j
  ke : ∀ n h i j, V (Proc.devRef .tc main_v4_4) (ix5 n 0 h i j) = X.ke n h i j
  g : ∀ n h, V (Proc.devRef .tc main_v4_5) (ix3 n 0 h) = X.g n h
  count : V (Proc.devRef .tc main_v4_6) = fun _ => BitVec.ofNat 32 s
  st : ∀ h i j, V (Proc.devRef .tc main_v4_7) (ix4 0 h i j) = state X s h i j
  o : ∀ n : Fin 32, n.val < s → ∀ h i j, V (Proc.devRef .tc main_v4_8) (ix5 n 0 h i j) = o X n h (state X n h) i j
  u : ∀ n : Fin 32, n.val < s → ∀ h i j, V (Proc.devRef .tc main_v4_9) (ix5 n 0 h i j) = u X n h (state X n h) i j
  before : ∀ n : Fin 32, n.val < s → ∀ h i j, V (Proc.devRef .tc main_v4_10) (ix5 n 0 h i j) = state X n h i j

/-- Where a chunk is read and put. -/
def place5 (V : Valuation τ sig (Elt Ideal)) : Fin 5 → Int := fun k =>
  ((![V (Proc.devRef .tc main_v4_6), constantI S_ 32 0#32, constantI S_ 32 0#32, constantI S_ 32 0#32, constantI S_ 32 0#32] :
    Fin 5 → (⟨S_, .i32⟩ : BufTy).Contents (Elt Ideal)) k (Shape.Idx.first h_S_)).toInt

def place3 (V : Valuation τ sig (Elt Ideal)) : Fin 3 → Int := fun k =>
  ((![V (Proc.devRef .tc main_v4_6), constantI S_ 32 0#32, constantI S_ 32 0#32] :
    Fin 3 → (⟨S_, .i32⟩ : BufTy).Contents (Elt Ideal)) k (Shape.Idx.first h_S_)).toInt

/-- The step's chunk of an array. -/
def rows (V : Valuation τ sig (Elt Ideal)) (x : FVec Ideal S32x1x4x64x128 .f32) : FVec Ideal S1x4x64x128 .f32 :=
  shapeCast S1x4x64x128 (Host.dynamicSlice S1x1x4x64x128 x (place5 V) sliceFits_S32x1x4x64x128_S1x1x4x64x128) shapeCasts_S1x1x4x64x128_S1x4x64x128

def square (V : Valuation τ sig (Elt Ideal)) (x : FVec Ideal S32x1x4x64x64 .f32) : FVec Ideal S1x4x64x64 .f32 :=
  shapeCast S1x4x64x64 (Host.dynamicSlice S1x1x4x64x64 x (place5 V) sliceFits_S32x1x4x64x64_S1x1x4x64x64) shapeCasts_S1x1x4x64x64_S1x4x64x64

def decay (V : Valuation τ sig (Elt Ideal)) : FVec Ideal S1x4 .f32 :=
  Host.exp (shapeCast S1x4 (Host.dynamicSlice S1x1x4 (V (Proc.devRef .tc main_v4_5)) (place3 V) sliceFits_S32x1x4_S1x1x4) shapeCasts_S1x1x4_S1x4)

/-- The step's output. -/
def out (V : Valuation τ sig (Elt Ideal)) : FVec Ideal S1x4x64x128 .f32 :=
  addf (Host.dotGeneral (φ₁ := .f32) (φ₂ := .f32) dot_S1x4x64x128_S1x4x128x128_S1x4x64x128_3_2_2_3_01_01 none (rows V (V (Proc.devRef .tc main_v4_2))) (V (Proc.devRef .tc main_v4_7)))
    (Host.dotGeneral (φ₁ := .f32) (φ₂ := .f32) dot_S1x4x64x64_S1x4x64x128_S1x4x64x128_3_2_2_3_01_01 none (square V (V (Proc.devRef .tc main_v4_3))) (res_main_while0b_v17 V))

section
variable {X : Args} {s : ℕ} {V : Valuation τ sig (Elt Ideal)} (H : Holds X s V) (hs : s < 32) (h : Fin 4)
include H hs

theorem number : (V (Proc.devRef .tc main_v4_6) (Shape.Idx.first h_S_)).toInt = (at_ s).val := by
  rw [H.count]
  interval_cases s <;> rfl

theorem rows_at (x : FVec Ideal S32x1x4x64x128 .f32) (i : Fin 64) (j : Fin 128) : rows V x (ix4 0 h i j) = x (ix5 (at_ s) 0 h i j) :=
  (bare_rows _ _ h i j).trans (read5 (start := place5 V) (number H hs) rfl rfl rfl rfl x _ h i j)

theorem square_at (x : FVec Ideal S32x1x4x64x64 .f32) (i j : Fin 64) : square V x (ix4 0 h i j) = x (ix5 (at_ s) 0 h i j) :=
  (bare_square _ _ h i j).trans (read5 (start := place5 V) (number H hs) rfl rfl rfl rfl x _ h i j)

theorem decay_at : decay V (ix2 0 h) = Ideal.exp (X.g (at_ s) h) :=
  congrArg Ideal.exp ((bare_heads _ _ h).trans ((read3 (start := place3 V) (number H hs) rfl rfl (V (Proc.devRef .tc main_v4_5)) _ h).trans (H.g ..)))

theorem put {a b : ℕ} (x : (⟨5, ![32, 1, 4, a, b]⟩ : Shape).Idx → EReal) (y : (⟨5, ![1, 1, 4, a, b]⟩ : Shape).Idx → EReal) (hf)
    (p : Fin 32) (i : Fin a) (j : Fin b) :
    Host.dynamicUpdateSlice x y (place5 V) hf (ix5 p 0 h i j) = if p = at_ s then y (ix5 0 0 h i j) else x (ix5 p 0 h i j) :=
  write5 (start := place5 V) (number H hs) rfl rfl rfl rfl x y hf p h i j

theorem at_u (i : Fin 64) (j : Fin 128) : res_main_while0b_v17 V (ix4 0 h i j) = u X (at_ s) h (state X s h) i j := by
  have split : res_main_while0b_v17 V = subf (rows V (V (Proc.devRef .tc main_v4_0)))
      (Host.dotGeneral (φ₁ := .f32) (φ₂ := .f32) dot_S1x4x64x128_S1x4x128x128_S1x4x64x128_3_2_2_3_01_01 none (rows V (V (Proc.devRef .tc main_v4_1))) (V (Proc.devRef .tc main_v4_7))) := rfl
  rw [split]
  pointwise
  simp only [rows_at H hs, H.uv, H.wk, H.st]
  rfl

theorem at_o (i : Fin 64) (j : Fin 128) : out V (ix4 0 h i j) = o X (at_ s) h (state X s h) i j := by
  unfold out
  pointwise
  simp only [rows_at H hs, square_at H hs, at_u H hs, H.qd, H.att, H.st]
  rfl

theorem next_st (i j : Fin 128) : step_main_v4_7 V (ix4 0 h i j) = state X (s + 1) h i j := by
  have split : step_main_v4_7 V = addf (mulf (broadcastInDim S1x4x128x128 ![0, 1, 2, 3] bcast_S1x4x1x1_S1x4x128x128_0_1_2_3
        (broadcastInDim S1x4x1x1 ![0, 1] bcast_S1x4_S1x4x1x1_0_1 (decay V))) (V (Proc.devRef .tc main_v4_7)))
      (Host.dotGeneral (φ₁ := .f32) (φ₂ := .f32) dot_S1x4x64x128_S1x4x64x128_S1x4x128x128_2_2_3_3_01_01 none (rows V (V (Proc.devRef .tc main_v4_4))) (res_main_while0b_v17 V)) := rfl
  rw [split]
  pointwise
  simp only [decay_at H hs, rows_at H hs, at_u H hs, H.ke, H.st]
  rfl

theorem chunk_o (i : Fin 64) (j : Fin 128) (p : Fin 32) : step_main_v4_8 V (ix5 p 0 h i j)
    = if p = at_ s then o X (at_ s) h (state X s h) i j else V (Proc.devRef .tc main_v4_8) (ix5 p 0 h i j) := by
  have split : step_main_v4_8 V = Host.dynamicUpdateSlice (V (Proc.devRef .tc main_v4_8)) (broadcastInDim S1x1x4x64x128 ![1, 2, 3, 4] bcast_S1x4x64x128_S1x1x4x64x128_1_2_3_4 (out V))
      (place5 V) updateFits_S32x1x4x64x128_S1x1x4x64x128 := rfl
  rw [split]
  refine (put H hs h _ _ updateFits_S32x1x4x64x128_S1x1x4x64x128 p i j).trans (if_congr Iff.rfl ?_ rfl)
  pointwise
  exact at_o H hs h i j

theorem chunk_u (i : Fin 64) (j : Fin 128) (p : Fin 32) : step_main_v4_9 V (ix5 p 0 h i j)
    = if p = at_ s then u X (at_ s) h (state X s h) i j else V (Proc.devRef .tc main_v4_9) (ix5 p 0 h i j) := by
  refine (put H hs h _ _ updateFits_S32x1x4x64x128_S1x1x4x64x128 p i j).trans (if_congr Iff.rfl ?_ rfl)
  pointwise
  exact at_u H hs h i j

theorem chunk_before (i j : Fin 128) (p : Fin 32) : step_main_v4_10 V (ix5 p 0 h i j)
    = if p = at_ s then state X s h i j else V (Proc.devRef .tc main_v4_10) (ix5 p 0 h i j) := by
  refine (put H hs h _ _ updateFits_S32x1x4x128x128_S1x1x4x128x128 p i j).trans (if_congr Iff.rfl ?_ rfl)
  pointwise
  exact H.st h i j

end

/-! ## From step to step -/

theorem state_at (X : Args) {s : ℕ} (hs : s < 32) : state X (at_ s).val = state X s := by
  show state X (s % 32) = _
  rw [Nat.mod_eq_of_lt hs]

/-- A result over the chunks taken so far, after one more of them. -/
theorem placed {s : ℕ} (hs : s < 32) (P : Fin 32 → EReal) (n : Fin 32) (hn : n.val < s + 1) {x y v : EReal}
    (hv : v = if n = at_ s then x else y) (new : x = P (at_ s)) (old : n.val < s → y = P n) : v = P n := by
  rw [hv]
  split
  · next e => rw [new, e]
  · next e =>
    refine old ?_
    have : n.val ≠ s := fun h => e (Fin.ext (by show n.val = s % 32; omega))
    omega

theorem succ {X : Args} {s : ℕ} {V : Valuation τ sig (Elt Ideal)} (H : Holds X s V) (hs : s < 32) : Holds X (s + 1) (STEP V) where
  uv n h i j := (congrFun (STEP_main_v4_0 V) _).trans (H.uv n h i j)
  wk n h i j := (congrFun (STEP_main_v4_1 V) _).trans (H.wk n h i j)
  qd n h i j := (congrFun (STEP_main_v4_2 V) _).trans (H.qd n h i j)
  att n h i j := (congrFun (STEP_main_v4_3 V) _).trans (H.att n h i j)
  ke n h i j := (congrFun (STEP_main_v4_4 V) _).trans (H.ke n h i j)
  g n h := (congrFun (STEP_main_v4_5 V) _).trans (H.g n h)
  count := by
    rw [STEP_main_v4_6, step_main_v4_6, H.count]
    funext
    interval_cases s <;> rfl
  st h i j := (congrFun (STEP_main_v4_7 V) _).trans (next_st H hs h i j)
  o n hn h i j := placed hs (fun n => o X n h (state X n h) i j) n hn
    ((congrFun (STEP_main_v4_8 V) _).trans (chunk_o H hs h i j n)) (by rw [state_at X hs]) fun e => H.o n e h i j
  u n hn h i j := placed hs (fun n => u X n h (state X n h) i j) n hn
    ((congrFun (STEP_main_v4_9 V) _).trans (chunk_u H hs h i j n)) (by rw [state_at X hs]) fun e => H.u n e h i j
  before n hn h i j := placed hs (fun n => state X n h i j) n hn
    ((congrFun (STEP_main_v4_10 V) _).trans (chunk_before H hs h i j n)) (by rw [state_at X hs]) fun e => H.before n e h i j

/-! ## Before the loop -/

variable (m : (ℓ : Loc nD τ sig) → Buf (Elt Ideal) ℓ) (c : Dev nD)

/-- The reference's arguments. -/
def args : Args :=
  ofArrays (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))

theorem entry : Holds (args m c) 0 (entryContents preI m c) := by
  constructor
  all_goals intros
  case o hn _ _ _ => exact absurd hn (Nat.not_lt_zero _)
  case u hn _ _ _ => exact absurd hn (Nat.not_lt_zero _)
  case before hn _ _ _ => exact absurd hn (Nat.not_lt_zero _)
  case count => exact ctr_entry m c
  all_goals
    simp only [entryContents, StableHlo.afterL_cons, StableHlo.afterL_nil]
    after_reads_simp
    dsimp only [id]
    pointwise
    try rfl

theorem all : ∀ s ≤ 32, Holds (args m c) s (STEP^[s] (entryContents preI m c))
  | 0, _ => entry m c
  | s + 1, hs => by
    rw [Function.iterate_succ_apply']
    exact succ (all s (by omega)) (by omega)

/-! ## After the loop -/

section
variable {X : Args} {V : Valuation τ sig (Elt Ideal)} (H : Holds X 32 V)
include H

theorem out_o : out_main_v6 V = outO X := by_token _ _ _ (fun n h => o X n h (state X n h)) fun n => H.o n n.isLt
theorem out_u : out_main_v8 V = outU X := by_token _ _ _ (fun n h => u X n h (state X n h)) fun n => H.u n n.isLt

theorem out_s : out_main_v9 V = outS X := by
  funext y
  rw [show y = ix2 (y 0) (y 1) by blk_ext]
  unfold out_main_v9
  pointwise
  exact H.before _ (Fin.isLt _) _ _ _

end

end Cert.Reference13Ideal.Forward
-- ==== Proof.StateClaims.lean ====
module

public import proofs.«01_k».proof.Defs
public import proofs.«01_k».proof.Proof.Gen.Kernel13Ideal
public import proofs.«01_k».proof.Proof.Gen.Reference13Ideal
public import proofs.«01_k».proof.Proof.StateFinal
public import proofs.«01_k».proof.Proof.StateReference
public import Idealize.ShloMosaic.Lib.Quiescent

@[expose] public section

set_option maxRecDepth 16384

/-!
# The scan's forward call and its reference leave the same arrays
-/

noncomputable section

namespace Cert.StateClaims

open Idealize.ShloMosaic Idealize.SL.Sem

section Reference
open Cert.Reference13Ideal Cert.Reference13Ideal.Gen

/-- The reference terminates with its arguments unchanged, and declares no semaphore. -/
theorem reference_frame (m : (ℓ : Loc nD τ sig) → Buf (Elt Ideal) ℓ) (g : Dev nD → PrngReg) :
    θ_run (defs (F := Ideal)) (onTc (τ := τ) (main (F := Ideal))) ⟨m, fun _ => 0, g⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0 :=
  (θ_run _ _ _).mono (fun r h => ⟨fun c => (h c).2.2.2, sem_eq_zero_of_no_sems (by decide) r.2⟩) (Cert.Reference13Ideal.Value.run m g)

end Reference

section Kernel
open Cert.Kernel13Ideal Cert.Kernel13Ideal.Gen Cert.Kernel13Ideal.Forward

/-- What the kernel leaves. -/
theorem kernel_run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v49_0) = _root_.Forward.outO (args m c)
      ∧ r.2.mem ((c.tc : Thread nD τ).loc main_v49_1) = _root_.Forward.outU (args m c)
      ∧ r.2.mem ((c.tc : Thread nD τ).loc main_v49_2) = _root_.Forward.outS (args m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run _ _ _).mono (fun r h c => by
      obtain ⟨o, u, s, -, kept⟩ := h c
      exact ⟨o.trans (final_o m c), u.trans (final_u m c), s.trans (final_s m c), kept⟩)
    (Cert.Kernel13Ideal.Value.run_blocks m g)

end Kernel

/-- From the same arguments the two programs leave the same output, the same updates and the same states. -/
theorem algebraic : Cert.algebraic_Kernel13Ideal_Reference13Ideal := by
  intro m g m' g' _ hagree
  refine ⟨_, _, _, kernel_run m g, (θ_run _ _ _).mono (fun r h c => ?_) (Reference13Ideal.Value.run m' g')⟩
  obtain ⟨o, u, s, kept⟩ := h c
  have same : Reference13Ideal.Forward.args m' c = Kernel13Ideal.Forward.args m c := by
    obtain ⟨a0, a1, a2, a3, a4, a5, -⟩ := hagree c
    unfold Reference13Ideal.Forward.args Kernel13Ideal.Forward.args
    rw [a0, a1, a2, a3, a4, a5]
  have H := Reference13Ideal.Forward.all m' c 32 le_rfl
  rw [same] at H
  exact ⟨o.trans (Reference13Ideal.Forward.out_o H), u.trans (Reference13Ideal.Forward.out_u H), s.trans (Reference13Ideal.Forward.out_s H), kept⟩

end Cert.StateClaims
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Pre_finite2
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Pre_finite3
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Pre_finite4
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Claims
public import proofs.«01_k».proof.Proof.UpClaims
public import proofs.«01_k».proof.Proof.ScanClaims
public import proofs.«01_k».proof.Proof.FwdClaims
public import proofs.«01_k».proof.Proof.WeightA
public import proofs.«01_k».proof.Proof.WeightB
public import proofs.«01_k».proof.Proof.WeightO
public import proofs.«01_k».proof.Proof.MixerGrad
public import proofs.«01_k».proof.Proof.WeightZ
public import proofs.«01_k».proof.Proof.ConvClaims
public import proofs.«01_k».proof.Proof.OutNorm
public import proofs.«01_k».proof.Proof.PrepClaims
public import proofs.«01_k».proof.Proof.StateClaims
public import Idealize.ShloMosaic.Adequacy
public import Idealize.ShloMosaic.Init

@[expose] public section

noncomputable section

namespace Cert.Proof

open Idealize.ShloMosaic Idealize.SL.Sem Cert.Kernel

/-- The kernels' and the references' frames, and the equality of the gradients over the extended reals. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Pre_finite.Gen.facts, Cert.Pre_finite2.Gen.facts,
  Cert.Pre_finite3.Gen.facts, Cert.Pre_finite4.Gen.facts,
  fun m ρ _ => Cert.Kernel.Gen.frame m ρ, fun m ρ _ => Cert.KernelIdeal.Gen.frame m ρ, fun m ρ _ => Cert.KernelIdeal.Gen.frame m ρ,
  fun m ρ _ => MixerClaims.reference_frame m ρ, fun m ρ _ => MixerClaims.reference_frame m ρ,
  fun m ρ _ => Cert.Kernel2.Gen.frame m ρ, fun m ρ _ => Cert.Kernel2Ideal.Gen.frame m ρ, fun m ρ _ => Cert.Kernel2Ideal.Gen.frame m ρ,
  fun m ρ _ => UpClaims.reference_frame m ρ, fun m ρ _ => UpClaims.reference_frame m ρ,
  fun m ρ _ => Cert.Kernel3.Gen.frame m ρ, fun m ρ _ => Cert.Kernel3Ideal.Gen.frame m ρ, fun m ρ _ => Cert.Kernel3Ideal.Gen.frame m ρ,
  fun m ρ _ => ScanClaims.reference_frame m ρ, fun m ρ _ => ScanClaims.reference_frame m ρ,
  fun m ρ _ => Cert.Kernel4.Gen.frame m ρ, fun m ρ _ => Cert.Kernel4Ideal.Gen.frame m ρ, fun m ρ _ => Cert.Kernel4Ideal.Gen.frame m ρ,
  fun m ρ _ => FwdClaims.reference_frame m ρ, fun m ρ _ => FwdClaims.reference_frame m ρ,
  fun m ρ _ => Cert.Kernel5.Gen.frame m ρ, fun m ρ _ => Cert.Kernel5Ideal.Gen.frame m ρ, fun m ρ _ => Cert.Reference5Ideal.Weights.frame m ρ,
  fun m ρ _ => Cert.Kernel6.Gen.frame m ρ, fun m ρ _ => Cert.Kernel6Ideal.Gen.frame m ρ, fun m ρ _ => Cert.Reference6Ideal.Weights.frame m ρ,
  fun m ρ _ => Cert.Kernel7.Gen.frame m ρ, fun m ρ _ => Cert.Kernel7Ideal.Gen.frame m ρ, fun m ρ _ => Cert.Reference7Ideal.Weights.frame m ρ,
  fun m ρ _ => Cert.Kernel8.Gen.frame m ρ, fun m ρ _ => Cert.Kernel8Ideal.Gen.frame m ρ, fun m ρ _ => Cert.Reference8Ideal.MixerGrad.frame m ρ,
  fun m ρ _ => Cert.Kernel9.Gen.frame m ρ, fun m ρ _ => Cert.Kernel9Ideal.Gen.frame m ρ, fun m ρ _ => Cert.Reference9Ideal.Weights.frame m ρ,
  fun m ρ _ => Cert.Kernel10.Gen.frame m ρ, fun m ρ _ => Cert.Kernel10Ideal.Gen.frame m ρ, fun m ρ _ => Cert.Reference10Ideal.ConvGrad.frame m ρ,
  fun m ρ _ => Cert.Kernel11.Gen.frame m ρ, fun m ρ _ => Cert.Kernel11Ideal.Gen.frame m ρ, fun m ρ _ => Cert.Reference11Ideal.OutProj.frame m ρ,
  fun m ρ _ => Cert.Kernel12.Gen.frame m ρ, fun m ρ _ => Cert.Kernel12Ideal.Gen.frame m ρ, fun m ρ _ => Cert.Reference12Ideal.Prep.frame m ρ,
  fun m ρ _ => Cert.Kernel13.Gen.frame m ρ, fun m ρ _ => Cert.Kernel13Ideal.Gen.frame m ρ, fun m ρ _ => StateClaims.reference_frame m ρ,
  trivial, MixerClaims.algebraic, trivial, UpClaims.algebraic, trivial, ScanClaims.algebraic, trivial, FwdClaims.algebraic,
  trivial, Cert.Reference5Ideal.Weights.algebraic, trivial, Cert.Reference6Ideal.Weights.algebraic, trivial, Cert.Reference7Ideal.Weights.algebraic, trivial, Cert.Reference8Ideal.MixerGrad.algebraic, trivial, Cert.Reference9Ideal.Weights.algebraic,
  trivial, Cert.Reference10Ideal.ConvGrad.algebraic, trivial, Cert.Reference11Ideal.OutProj.algebraic, trivial, Cert.Reference12Ideal.Prep.algebraic,
  trivial, StateClaims.algebraic⟩

end Cert.Proof

end
